-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Search [hPre_finite_points : Cert.Pre_finite_points.Facts] (m : (ℓ : Loc Cert.Search.nD Cert.Search.τ Cert.Search.sig) → Buf (Elt Bits) ℓ) : Prop :=
  ∀ c : Dev Cert.Search.nD,
    (Cert.Pre_finite_points.fn (F := Bits) (m ((c.tc : Thread Cert.Search.nD Cert.Search.τ).loc Cert.Search.main_arg0)) (m ((c.tc : Thread Cert.Search.nD Cert.Search.τ).loc Cert.Search.main_arg1))) = (fun _ => 1#1)

def Pre_SearchIdeal [hPre_finite_points : Cert.Pre_finite_points.Facts] (m : (ℓ : Loc Cert.SearchIdeal.nD Cert.SearchIdeal.τ Cert.SearchIdeal.sig) → Buf (Elt Ideal) ℓ) : Prop :=
  ∀ c : Dev Cert.SearchIdeal.nD,
    (Cert.Pre_finite_points.fn (F := Ideal) (m ((c.tc : Thread Cert.SearchIdeal.nD Cert.SearchIdeal.τ).loc Cert.SearchIdeal.main_arg0)) (m ((c.tc : Thread Cert.SearchIdeal.nD Cert.SearchIdeal.τ).loc Cert.SearchIdeal.main_arg1))) = (fun _ => 1#1)

def Pre_SearchRefIdeal [hPre_finite_points : Cert.Pre_finite_points.Facts] (m : (ℓ : Loc Cert.SearchRefIdeal.nD Cert.SearchRefIdeal.τ Cert.SearchRefIdeal.sig) → Buf (Elt Ideal) ℓ) : Prop :=
  ∀ c : Dev Cert.SearchRefIdeal.nD,
    (Cert.Pre_finite_points.fn (F := Ideal) (m ((c.tc : Thread Cert.SearchRefIdeal.nD Cert.SearchRefIdeal.τ).loc Cert.SearchRefIdeal.main_arg0)) (m ((c.tc : Thread Cert.SearchRefIdeal.nD Cert.SearchRefIdeal.τ).loc Cert.SearchRefIdeal.main_arg1))) = (fun _ => 1#1)

def Pre_Layers [hPre_finite : Cert.Pre_finite.Facts] (m : (ℓ : Loc Cert.Layers.nD Cert.Layers.τ Cert.Layers.sig) → Buf (Elt Bits) ℓ) : Prop :=
  ∀ c : Dev Cert.Layers.nD,
    (Cert.Pre_finite.fn (F := Bits) (m ((c.tc : Thread Cert.Layers.nD Cert.Layers.τ).loc Cert.Layers.main_arg0)) (m ((c.tc : Thread Cert.Layers.nD Cert.Layers.τ).loc Cert.Layers.main_arg1)) (m ((c.tc : Thread Cert.Layers.nD Cert.Layers.τ).loc Cert.Layers.main_arg2)) (m ((c.tc : Thread Cert.Layers.nD Cert.Layers.τ).loc Cert.Layers.main_arg3)) (m ((c.tc : Thread Cert.Layers.nD Cert.Layers.τ).loc Cert.Layers.main_arg4)) (m ((c.tc : Thread Cert.Layers.nD Cert.Layers.τ).loc Cert.Layers.main_arg5)) (m ((c.tc : Thread Cert.Layers.nD Cert.Layers.τ).loc Cert.Layers.main_arg6)) (m ((c.tc : Thread Cert.Layers.nD Cert.Layers.τ).loc Cert.Layers.main_arg7)) (m ((c.tc : Thread Cert.Layers.nD Cert.Layers.τ).loc Cert.Layers.main_arg8)) (m ((c.tc : Thread Cert.Layers.nD Cert.Layers.τ).loc Cert.Layers.main_arg9)) (m ((c.tc : Thread Cert.Layers.nD Cert.Layers.τ).loc Cert.Layers.main_arg10)) (m ((c.tc : Thread Cert.Layers.nD Cert.Layers.τ).loc Cert.Layers.main_arg11)) (m ((c.tc : Thread Cert.Layers.nD Cert.Layers.τ).loc Cert.Layers.main_arg12)) (m ((c.tc : Thread Cert.Layers.nD Cert.Layers.τ).loc Cert.Layers.main_arg13))) = (fun _ => 1#1)

def Pre_LayersIdeal [hPre_finite : Cert.Pre_finite.Facts] (m : (ℓ : Loc Cert.LayersIdeal.nD Cert.LayersIdeal.τ Cert.LayersIdeal.sig) → Buf (Elt Ideal) ℓ) : Prop :=
  ∀ c : Dev Cert.LayersIdeal.nD,
    (Cert.Pre_finite.fn (F := Ideal) (m ((c.tc : Thread Cert.LayersIdeal.nD Cert.LayersIdeal.τ).loc Cert.LayersIdeal.main_arg0)) (m ((c.tc : Thread Cert.LayersIdeal.nD Cert.LayersIdeal.τ).loc Cert.LayersIdeal.main_arg1)) (m ((c.tc : Thread Cert.LayersIdeal.nD Cert.LayersIdeal.τ).loc Cert.LayersIdeal.main_arg2)) (m ((c.tc : Thread Cert.LayersIdeal.nD Cert.LayersIdeal.τ).loc Cert.LayersIdeal.main_arg3)) (m ((c.tc : Thread Cert.LayersIdeal.nD Cert.LayersIdeal.τ).loc Cert.LayersIdeal.main_arg4)) (m ((c.tc : Thread Cert.LayersIdeal.nD Cert.LayersIdeal.τ).loc Cert.LayersIdeal.main_arg5)) (m ((c.tc : Thread Cert.LayersIdeal.nD Cert.LayersIdeal.τ).loc Cert.LayersIdeal.main_arg6)) (m ((c.tc : Thread Cert.LayersIdeal.nD Cert.LayersIdeal.τ).loc Cert.LayersIdeal.main_arg7)) (m ((c.tc : Thread Cert.LayersIdeal.nD Cert.LayersIdeal.τ).loc Cert.LayersIdeal.main_arg8)) (m ((c.tc : Thread Cert.LayersIdeal.nD Cert.LayersIdeal.τ).loc Cert.LayersIdeal.main_arg9)) (m ((c.tc : Thread Cert.LayersIdeal.nD Cert.LayersIdeal.τ).loc Cert.LayersIdeal.main_arg10)) (m ((c.tc : Thread Cert.LayersIdeal.nD Cert.LayersIdeal.τ).loc Cert.LayersIdeal.main_arg11)) (m ((c.tc : Thread Cert.LayersIdeal.nD Cert.LayersIdeal.τ).loc Cert.LayersIdeal.main_arg12)) (m ((c.tc : Thread Cert.LayersIdeal.nD Cert.LayersIdeal.τ).loc Cert.LayersIdeal.main_arg13))) = (fun _ => 1#1)

def Pre_LayersRefIdeal [hPre_finite : Cert.Pre_finite.Facts] (m : (ℓ : Loc Cert.LayersRefIdeal.nD Cert.LayersRefIdeal.τ Cert.LayersRefIdeal.sig) → Buf (Elt Ideal) ℓ) : Prop :=
  ∀ c : Dev Cert.LayersRefIdeal.nD,
    (Cert.Pre_finite.fn (F := Ideal) (m ((c.tc : Thread Cert.LayersRefIdeal.nD Cert.LayersRefIdeal.τ).loc Cert.LayersRefIdeal.main_arg0)) (m ((c.tc : Thread Cert.LayersRefIdeal.nD Cert.LayersRefIdeal.τ).loc Cert.LayersRefIdeal.main_arg1)) (m ((c.tc : Thread Cert.LayersRefIdeal.nD Cert.LayersRefIdeal.τ).loc Cert.LayersRefIdeal.main_arg2)) (m ((c.tc : Thread Cert.LayersRefIdeal.nD Cert.LayersRefIdeal.τ).loc Cert.LayersRefIdeal.main_arg3)) (m ((c.tc : Thread Cert.LayersRefIdeal.nD Cert.LayersRefIdeal.τ).loc Cert.LayersRefIdeal.main_arg4)) (m ((c.tc : Thread Cert.LayersRefIdeal.nD Cert.LayersRefIdeal.τ).loc Cert.LayersRefIdeal.main_arg5)) (m ((c.tc : Thread Cert.LayersRefIdeal.nD Cert.LayersRefIdeal.τ).loc Cert.LayersRefIdeal.main_arg6)) (m ((c.tc : Thread Cert.LayersRefIdeal.nD Cert.LayersRefIdeal.τ).loc Cert.LayersRefIdeal.main_arg7)) (m ((c.tc : Thread Cert.LayersRefIdeal.nD Cert.LayersRefIdeal.τ).loc Cert.LayersRefIdeal.main_arg8)) (m ((c.tc : Thread Cert.LayersRefIdeal.nD Cert.LayersRefIdeal.τ).loc Cert.LayersRefIdeal.main_arg9)) (m ((c.tc : Thread Cert.LayersRefIdeal.nD Cert.LayersRefIdeal.τ).loc Cert.LayersRefIdeal.main_arg10)) (m ((c.tc : Thread Cert.LayersRefIdeal.nD Cert.LayersRefIdeal.τ).loc Cert.LayersRefIdeal.main_arg11)) (m ((c.tc : Thread Cert.LayersRefIdeal.nD Cert.LayersRefIdeal.τ).loc Cert.LayersRefIdeal.main_arg12)) (m ((c.tc : Thread Cert.LayersRefIdeal.nD Cert.LayersRefIdeal.τ).loc Cert.LayersRefIdeal.main_arg13))) = (fun _ => 1#1)

def Pre_Group [hPre_finite_group : Cert.Pre_finite_group.Facts] (m : (ℓ : Loc Cert.Group.nD Cert.Group.τ Cert.Group.sig) → Buf (Elt Bits) ℓ) : Prop :=
  ∀ c : Dev Cert.Group.nD,
    (Cert.Pre_finite_group.fn (F := Bits) (m ((c.tc : Thread Cert.Group.nD Cert.Group.τ).loc Cert.Group.main_arg0)) (m ((c.tc : Thread Cert.Group.nD Cert.Group.τ).loc Cert.Group.main_arg1)) (m ((c.tc : Thread Cert.Group.nD Cert.Group.τ).loc Cert.Group.main_arg2)) (m ((c.tc : Thread Cert.Group.nD Cert.Group.τ).loc Cert.Group.main_arg3)) (m ((c.tc : Thread Cert.Group.nD Cert.Group.τ).loc Cert.Group.main_arg4)) (m ((c.tc : Thread Cert.Group.nD Cert.Group.τ).loc Cert.Group.main_arg5)) (m ((c.tc : Thread Cert.Group.nD Cert.Group.τ).loc Cert.Group.main_arg6)) (m ((c.tc : Thread Cert.Group.nD Cert.Group.τ).loc Cert.Group.main_arg7)) (m ((c.tc : Thread Cert.Group.nD Cert.Group.τ).loc Cert.Group.main_arg8)) (m ((c.tc : Thread Cert.Group.nD Cert.Group.τ).loc Cert.Group.main_arg9)) (m ((c.tc : Thread Cert.Group.nD Cert.Group.τ).loc Cert.Group.main_arg10)) (m ((c.tc : Thread Cert.Group.nD Cert.Group.τ).loc Cert.Group.main_arg11)) (m ((c.tc : Thread Cert.Group.nD Cert.Group.τ).loc Cert.Group.main_arg12)) (m ((c.tc : Thread Cert.Group.nD Cert.Group.τ).loc Cert.Group.main_arg13)) (m ((c.tc : Thread Cert.Group.nD Cert.Group.τ).loc Cert.Group.main_arg14))) = (fun _ => 1#1)

def Pre_GroupIdeal [hPre_finite_group : Cert.Pre_finite_group.Facts] (m : (ℓ : Loc Cert.GroupIdeal.nD Cert.GroupIdeal.τ Cert.GroupIdeal.sig) → Buf (Elt Ideal) ℓ) : Prop :=
  ∀ c : Dev Cert.GroupIdeal.nD,
    (Cert.Pre_finite_group.fn (F := Ideal) (m ((c.tc : Thread Cert.GroupIdeal.nD Cert.GroupIdeal.τ).loc Cert.GroupIdeal.main_arg0)) (m ((c.tc : Thread Cert.GroupIdeal.nD Cert.GroupIdeal.τ).loc Cert.GroupIdeal.main_arg1)) (m ((c.tc : Thread Cert.GroupIdeal.nD Cert.GroupIdeal.τ).loc Cert.GroupIdeal.main_arg2)) (m ((c.tc : Thread Cert.GroupIdeal.nD Cert.GroupIdeal.τ).loc Cert.GroupIdeal.main_arg3)) (m ((c.tc : Thread Cert.GroupIdeal.nD Cert.GroupIdeal.τ).loc Cert.GroupIdeal.main_arg4)) (m ((c.tc : Thread Cert.GroupIdeal.nD Cert.GroupIdeal.τ).loc Cert.GroupIdeal.main_arg5)) (m ((c.tc : Thread Cert.GroupIdeal.nD Cert.GroupIdeal.τ).loc Cert.GroupIdeal.main_arg6)) (m ((c.tc : Thread Cert.GroupIdeal.nD Cert.GroupIdeal.τ).loc Cert.GroupIdeal.main_arg7)) (m ((c.tc : Thread Cert.GroupIdeal.nD Cert.GroupIdeal.τ).loc Cert.GroupIdeal.main_arg8)) (m ((c.tc : Thread Cert.GroupIdeal.nD Cert.GroupIdeal.τ).loc Cert.GroupIdeal.main_arg9)) (m ((c.tc : Thread Cert.GroupIdeal.nD Cert.GroupIdeal.τ).loc Cert.GroupIdeal.main_arg10)) (m ((c.tc : Thread Cert.GroupIdeal.nD Cert.GroupIdeal.τ).loc Cert.GroupIdeal.main_arg11)) (m ((c.tc : Thread Cert.GroupIdeal.nD Cert.GroupIdeal.τ).loc Cert.GroupIdeal.main_arg12)) (m ((c.tc : Thread Cert.GroupIdeal.nD Cert.GroupIdeal.τ).loc Cert.GroupIdeal.main_arg13)) (m ((c.tc : Thread Cert.GroupIdeal.nD Cert.GroupIdeal.τ).loc Cert.GroupIdeal.main_arg14))) = (fun _ => 1#1)

def Pre_GroupRefIdeal [hPre_finite_group : Cert.Pre_finite_group.Facts] (m : (ℓ : Loc Cert.GroupRefIdeal.nD Cert.GroupRefIdeal.τ Cert.GroupRefIdeal.sig) → Buf (Elt Ideal) ℓ) : Prop :=
  ∀ c : Dev Cert.GroupRefIdeal.nD,
    (Cert.Pre_finite_group.fn (F := Ideal) (m ((c.tc : Thread Cert.GroupRefIdeal.nD Cert.GroupRefIdeal.τ).loc Cert.GroupRefIdeal.main_arg0)) (m ((c.tc : Thread Cert.GroupRefIdeal.nD Cert.GroupRefIdeal.τ).loc Cert.GroupRefIdeal.main_arg1)) (m ((c.tc : Thread Cert.GroupRefIdeal.nD Cert.GroupRefIdeal.τ).loc Cert.GroupRefIdeal.main_arg2)) (m ((c.tc : Thread Cert.GroupRefIdeal.nD Cert.GroupRefIdeal.τ).loc Cert.GroupRefIdeal.main_arg3)) (m ((c.tc : Thread Cert.GroupRefIdeal.nD Cert.GroupRefIdeal.τ).loc Cert.GroupRefIdeal.main_arg4)) (m ((c.tc : Thread Cert.GroupRefIdeal.nD Cert.GroupRefIdeal.τ).loc Cert.GroupRefIdeal.main_arg5)) (m ((c.tc : Thread Cert.GroupRefIdeal.nD Cert.GroupRefIdeal.τ).loc Cert.GroupRefIdeal.main_arg6)) (m ((c.tc : Thread Cert.GroupRefIdeal.nD Cert.GroupRefIdeal.τ).loc Cert.GroupRefIdeal.main_arg7)) (m ((c.tc : Thread Cert.GroupRefIdeal.nD Cert.GroupRefIdeal.τ).loc Cert.GroupRefIdeal.main_arg8)) (m ((c.tc : Thread Cert.GroupRefIdeal.nD Cert.GroupRefIdeal.τ).loc Cert.GroupRefIdeal.main_arg9)) (m ((c.tc : Thread Cert.GroupRefIdeal.nD Cert.GroupRefIdeal.τ).loc Cert.GroupRefIdeal.main_arg10)) (m ((c.tc : Thread Cert.GroupRefIdeal.nD Cert.GroupRefIdeal.τ).loc Cert.GroupRefIdeal.main_arg11)) (m ((c.tc : Thread Cert.GroupRefIdeal.nD Cert.GroupRefIdeal.τ).loc Cert.GroupRefIdeal.main_arg12)) (m ((c.tc : Thread Cert.GroupRefIdeal.nD Cert.GroupRefIdeal.τ).loc Cert.GroupRefIdeal.main_arg13)) (m ((c.tc : Thread Cert.GroupRefIdeal.nD Cert.GroupRefIdeal.τ).loc Cert.GroupRefIdeal.main_arg14))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0))
      ∧ r.2.sem = fun _ => 0)

def quiescent_Search [hSearch : Cert.Search.Facts] [hPre_finite_points : Cert.Pre_finite_points.Facts] : Prop :=
  ∀ (m : (ℓ : Loc Cert.Search.nD Cert.Search.τ Cert.Search.sig) → Buf (Elt Bits) ℓ) (g : Dev Cert.Search.nD → PrngReg), Pre_Search m →
    θ_run (Cert.Search.defs (F := Bits)) (onTc (τ := Cert.Search.τ) (Cert.Search.main (F := Bits))) ⟨m, fun _ => 0, g⟩ (fun r => (∀ c : Dev Cert.Search.nD,
      r.2.mem ((c.tc : Thread Cert.Search.nD Cert.Search.τ).loc Cert.Search.main_arg0) = m ((c.tc : Thread Cert.Search.nD Cert.Search.τ).loc Cert.Search.main_arg0)
      ∧ r.2.mem ((c.tc : Thread Cert.Search.nD Cert.Search.τ).loc Cert.Search.main_arg1) = m ((c.tc : Thread Cert.Search.nD Cert.Search.τ).loc Cert.Search.main_arg1))
      ∧ r.2.sem = fun _ => 0)

def quiescent_SearchIdeal [hSearchIdeal : Cert.SearchIdeal.Facts] [hPre_finite_points : Cert.Pre_finite_points.Facts] : Prop :=
  ∀ (m : (ℓ : Loc Cert.SearchIdeal.nD Cert.SearchIdeal.τ Cert.SearchIdeal.sig) → Buf (Elt Ideal) ℓ) (g : Dev Cert.SearchIdeal.nD → PrngReg), Pre_SearchIdeal m →
    θ_run (Cert.SearchIdeal.defs (F := Ideal)) (onTc (τ := Cert.SearchIdeal.τ) (Cert.SearchIdeal.main (F := Ideal))) ⟨m, fun _ => 0, g⟩ (fun r => (∀ c : Dev Cert.SearchIdeal.nD,
      r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
      ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ r.2.sem = fun _ => 0)

def quiescent_SearchRefIdeal [hSearchRefIdeal : Cert.SearchRefIdeal.Facts] [hPre_finite_points : Cert.Pre_finite_points.Facts] : Prop :=
  ∀ (m : (ℓ : Loc Cert.SearchRefIdeal.nD Cert.SearchRefIdeal.τ Cert.SearchRefIdeal.sig) → Buf (Elt Ideal) ℓ) (g : Dev Cert.SearchRefIdeal.nD → PrngReg), Pre_SearchRefIdeal m →
    θ_run (Cert.SearchRefIdeal.defs (F := Ideal)) (onTc (τ := Cert.SearchRefIdeal.τ) (Cert.SearchRefIdeal.main (F := Ideal))) ⟨m, fun _ => 0, g⟩ (fun r => (∀ c : Dev Cert.SearchRefIdeal.nD,
      r.2.mem ((c.tc : Thread Cert.SearchRefIdeal.nD Cert.SearchRefIdeal.τ).loc Cert.SearchRefIdeal.main_arg0) = m ((c.tc : Thread Cert.SearchRefIdeal.nD Cert.SearchRefIdeal.τ).loc Cert.SearchRefIdeal.main_arg0)
      ∧ r.2.mem ((c.tc : Thread Cert.SearchRefIdeal.nD Cert.SearchRefIdeal.τ).loc Cert.SearchRefIdeal.main_arg1) = m ((c.tc : Thread Cert.SearchRefIdeal.nD Cert.SearchRefIdeal.τ).loc Cert.SearchRefIdeal.main_arg1))
      ∧ r.2.sem = fun _ => 0)

def quiescent_Layers [hLayers : Cert.Layers.Facts] [hPre_finite : Cert.Pre_finite.Facts] : Prop :=
  ∀ (m : (ℓ : Loc Cert.Layers.nD Cert.Layers.τ Cert.Layers.sig) → Buf (Elt Bits) ℓ) (g : Dev Cert.Layers.nD → PrngReg), Pre_Layers m →
    θ_run (Cert.Layers.defs (F := Bits)) (onTc (τ := Cert.Layers.τ) (Cert.Layers.main (F := Bits))) ⟨m, fun _ => 0, g⟩ (fun r => (∀ c : Dev Cert.Layers.nD,
      r.2.mem ((c.tc : Thread Cert.Layers.nD Cert.Layers.τ).loc Cert.Layers.main_arg0) = m ((c.tc : Thread Cert.Layers.nD Cert.Layers.τ).loc Cert.Layers.main_arg0)
      ∧ r.2.mem ((c.tc : Thread Cert.Layers.nD Cert.Layers.τ).loc Cert.Layers.main_arg1) = m ((c.tc : Thread Cert.Layers.nD Cert.Layers.τ).loc Cert.Layers.main_arg1)
      ∧ r.2.mem ((c.tc : Thread Cert.Layers.nD Cert.Layers.τ).loc Cert.Layers.main_arg2) = m ((c.tc : Thread Cert.Layers.nD Cert.Layers.τ).loc Cert.Layers.main_arg2)
      ∧ r.2.mem ((c.tc : Thread Cert.Layers.nD Cert.Layers.τ).loc Cert.Layers.main_arg3) = m ((c.tc : Thread Cert.Layers.nD Cert.Layers.τ).loc Cert.Layers.main_arg3)
      ∧ r.2.mem ((c.tc : Thread Cert.Layers.nD Cert.Layers.τ).loc Cert.Layers.main_arg4) = m ((c.tc : Thread Cert.Layers.nD Cert.Layers.τ).loc Cert.Layers.main_arg4)
      ∧ r.2.mem ((c.tc : Thread Cert.Layers.nD Cert.Layers.τ).loc Cert.Layers.main_arg5) = m ((c.tc : Thread Cert.Layers.nD Cert.Layers.τ).loc Cert.Layers.main_arg5)
      ∧ r.2.mem ((c.tc : Thread Cert.Layers.nD Cert.Layers.τ).loc Cert.Layers.main_arg6) = m ((c.tc : Thread Cert.Layers.nD Cert.Layers.τ).loc Cert.Layers.main_arg6)
      ∧ r.2.mem ((c.tc : Thread Cert.Layers.nD Cert.Layers.τ).loc Cert.Layers.main_arg7) = m ((c.tc : Thread Cert.Layers.nD Cert.Layers.τ).loc Cert.Layers.main_arg7)
      ∧ r.2.mem ((c.tc : Thread Cert.Layers.nD Cert.Layers.τ).loc Cert.Layers.main_arg8) = m ((c.tc : Thread Cert.Layers.nD Cert.Layers.τ).loc Cert.Layers.main_arg8)
      ∧ r.2.mem ((c.tc : Thread Cert.Layers.nD Cert.Layers.τ).loc Cert.Layers.main_arg9) = m ((c.tc : Thread Cert.Layers.nD Cert.Layers.τ).loc Cert.Layers.main_arg9)
      ∧ r.2.mem ((c.tc : Thread Cert.Layers.nD Cert.Layers.τ).loc Cert.Layers.main_arg10) = m ((c.tc : Thread Cert.Layers.nD Cert.Layers.τ).loc Cert.Layers.main_arg10)
      ∧ r.2.mem ((c.tc : Thread Cert.Layers.nD Cert.Layers.τ).loc Cert.Layers.main_arg11) = m ((c.tc : Thread Cert.Layers.nD Cert.Layers.τ).loc Cert.Layers.main_arg11)
      ∧ r.2.mem ((c.tc : Thread Cert.Layers.nD Cert.Layers.τ).loc Cert.Layers.main_arg12) = m ((c.tc : Thread Cert.Layers.nD Cert.Layers.τ).loc Cert.Layers.main_arg12)
      ∧ r.2.mem ((c.tc : Thread Cert.Layers.nD Cert.Layers.τ).loc Cert.Layers.main_arg13) = m ((c.tc : Thread Cert.Layers.nD Cert.Layers.τ).loc Cert.Layers.main_arg13))
      ∧ r.2.sem = fun _ => 0)

def quiescent_LayersIdeal [hLayersIdeal : Cert.LayersIdeal.Facts] [hPre_finite : Cert.Pre_finite.Facts] : Prop :=
  ∀ (m : (ℓ : Loc Cert.LayersIdeal.nD Cert.LayersIdeal.τ Cert.LayersIdeal.sig) → Buf (Elt Ideal) ℓ) (g : Dev Cert.LayersIdeal.nD → PrngReg), Pre_LayersIdeal m →
    θ_run (Cert.LayersIdeal.defs (F := Ideal)) (onTc (τ := Cert.LayersIdeal.τ) (Cert.LayersIdeal.main (F := Ideal))) ⟨m, fun _ => 0, g⟩ (fun r => (∀ c : Dev Cert.LayersIdeal.nD,
      r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
      ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
      ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
      ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
      ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
      ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
      ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
      ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
      ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
      ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
      ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
      ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
      ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
      ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13))
      ∧ r.2.sem = fun _ => 0)

def quiescent_LayersRefIdeal [hLayersRefIdeal : Cert.LayersRefIdeal.Facts] [hPre_finite : Cert.Pre_finite.Facts] : Prop :=
  ∀ (m : (ℓ : Loc Cert.LayersRefIdeal.nD Cert.LayersRefIdeal.τ Cert.LayersRefIdeal.sig) → Buf (Elt Ideal) ℓ) (g : Dev Cert.LayersRefIdeal.nD → PrngReg), Pre_LayersRefIdeal m →
    θ_run (Cert.LayersRefIdeal.defs (F := Ideal)) (onTc (τ := Cert.LayersRefIdeal.τ) (Cert.LayersRefIdeal.main (F := Ideal))) ⟨m, fun _ => 0, g⟩ (fun r => (∀ c : Dev Cert.LayersRefIdeal.nD,
      r.2.mem ((c.tc : Thread Cert.LayersRefIdeal.nD Cert.LayersRefIdeal.τ).loc Cert.LayersRefIdeal.main_arg0) = m ((c.tc : Thread Cert.LayersRefIdeal.nD Cert.LayersRefIdeal.τ).loc Cert.LayersRefIdeal.main_arg0)
      ∧ r.2.mem ((c.tc : Thread Cert.LayersRefIdeal.nD Cert.LayersRefIdeal.τ).loc Cert.LayersRefIdeal.main_arg1) = m ((c.tc : Thread Cert.LayersRefIdeal.nD Cert.LayersRefIdeal.τ).loc Cert.LayersRefIdeal.main_arg1)
      ∧ r.2.mem ((c.tc : Thread Cert.LayersRefIdeal.nD Cert.LayersRefIdeal.τ).loc Cert.LayersRefIdeal.main_arg2) = m ((c.tc : Thread Cert.LayersRefIdeal.nD Cert.LayersRefIdeal.τ).loc Cert.LayersRefIdeal.main_arg2)
      ∧ r.2.mem ((c.tc : Thread Cert.LayersRefIdeal.nD Cert.LayersRefIdeal.τ).loc Cert.LayersRefIdeal.main_arg3) = m ((c.tc : Thread Cert.LayersRefIdeal.nD Cert.LayersRefIdeal.τ).loc Cert.LayersRefIdeal.main_arg3)
      ∧ r.2.mem ((c.tc : Thread Cert.LayersRefIdeal.nD Cert.LayersRefIdeal.τ).loc Cert.LayersRefIdeal.main_arg4) = m ((c.tc : Thread Cert.LayersRefIdeal.nD Cert.LayersRefIdeal.τ).loc Cert.LayersRefIdeal.main_arg4)
      ∧ r.2.mem ((c.tc : Thread Cert.LayersRefIdeal.nD Cert.LayersRefIdeal.τ).loc Cert.LayersRefIdeal.main_arg5) = m ((c.tc : Thread Cert.LayersRefIdeal.nD Cert.LayersRefIdeal.τ).loc Cert.LayersRefIdeal.main_arg5)
      ∧ r.2.mem ((c.tc : Thread Cert.LayersRefIdeal.nD Cert.LayersRefIdeal.τ).loc Cert.LayersRefIdeal.main_arg6) = m ((c.tc : Thread Cert.LayersRefIdeal.nD Cert.LayersRefIdeal.τ).loc Cert.LayersRefIdeal.main_arg6)
      ∧ r.2.mem ((c.tc : Thread Cert.LayersRefIdeal.nD Cert.LayersRefIdeal.τ).loc Cert.LayersRefIdeal.main_arg7) = m ((c.tc : Thread Cert.LayersRefIdeal.nD Cert.LayersRefIdeal.τ).loc Cert.LayersRefIdeal.main_arg7)
      ∧ r.2.mem ((c.tc : Thread Cert.LayersRefIdeal.nD Cert.LayersRefIdeal.τ).loc Cert.LayersRefIdeal.main_arg8) = m ((c.tc : Thread Cert.LayersRefIdeal.nD Cert.LayersRefIdeal.τ).loc Cert.LayersRefIdeal.main_arg8)
      ∧ r.2.mem ((c.tc : Thread Cert.LayersRefIdeal.nD Cert.LayersRefIdeal.τ).loc Cert.LayersRefIdeal.main_arg9) = m ((c.tc : Thread Cert.LayersRefIdeal.nD Cert.LayersRefIdeal.τ).loc Cert.LayersRefIdeal.main_arg9)
      ∧ r.2.mem ((c.tc : Thread Cert.LayersRefIdeal.nD Cert.LayersRefIdeal.τ).loc Cert.LayersRefIdeal.main_arg10) = m ((c.tc : Thread Cert.LayersRefIdeal.nD Cert.LayersRefIdeal.τ).loc Cert.LayersRefIdeal.main_arg10)
      ∧ r.2.mem ((c.tc : Thread Cert.LayersRefIdeal.nD Cert.LayersRefIdeal.τ).loc Cert.LayersRefIdeal.main_arg11) = m ((c.tc : Thread Cert.LayersRefIdeal.nD Cert.LayersRefIdeal.τ).loc Cert.LayersRefIdeal.main_arg11)
      ∧ r.2.mem ((c.tc : Thread Cert.LayersRefIdeal.nD Cert.LayersRefIdeal.τ).loc Cert.LayersRefIdeal.main_arg12) = m ((c.tc : Thread Cert.LayersRefIdeal.nD Cert.LayersRefIdeal.τ).loc Cert.LayersRefIdeal.main_arg12)
      ∧ r.2.mem ((c.tc : Thread Cert.LayersRefIdeal.nD Cert.LayersRefIdeal.τ).loc Cert.LayersRefIdeal.main_arg13) = m ((c.tc : Thread Cert.LayersRefIdeal.nD Cert.LayersRefIdeal.τ).loc Cert.LayersRefIdeal.main_arg13))
      ∧ r.2.sem = fun _ => 0)

def quiescent_Group [hGroup : Cert.Group.Facts] [hPre_finite_group : Cert.Pre_finite_group.Facts] : Prop :=
  ∀ (m : (ℓ : Loc Cert.Group.nD Cert.Group.τ Cert.Group.sig) → Buf (Elt Bits) ℓ) (g : Dev Cert.Group.nD → PrngReg), Pre_Group m →
    θ_run (Cert.Group.defs (F := Bits)) (Cert.Group.threads (F := Bits)) ⟨m, fun _ => 0, g⟩ (fun r => (∀ c : Dev Cert.Group.nD,
      r.2.mem ((c.tc : Thread Cert.Group.nD Cert.Group.τ).loc Cert.Group.main_arg0) = m ((c.tc : Thread Cert.Group.nD Cert.Group.τ).loc Cert.Group.main_arg0)
      ∧ r.2.mem ((c.tc : Thread Cert.Group.nD Cert.Group.τ).loc Cert.Group.main_arg1) = m ((c.tc : Thread Cert.Group.nD Cert.Group.τ).loc Cert.Group.main_arg1)
      ∧ r.2.mem ((c.tc : Thread Cert.Group.nD Cert.Group.τ).loc Cert.Group.main_arg2) = m ((c.tc : Thread Cert.Group.nD Cert.Group.τ).loc Cert.Group.main_arg2)
      ∧ r.2.mem ((c.tc : Thread Cert.Group.nD Cert.Group.τ).loc Cert.Group.main_arg3) = m ((c.tc : Thread Cert.Group.nD Cert.Group.τ).loc Cert.Group.main_arg3)
      ∧ r.2.mem ((c.tc : Thread Cert.Group.nD Cert.Group.τ).loc Cert.Group.main_arg4) = m ((c.tc : Thread Cert.Group.nD Cert.Group.τ).loc Cert.Group.main_arg4)
      ∧ r.2.mem ((c.tc : Thread Cert.Group.nD Cert.Group.τ).loc Cert.Group.main_arg5) = m ((c.tc : Thread Cert.Group.nD Cert.Group.τ).loc Cert.Group.main_arg5)
      ∧ r.2.mem ((c.tc : Thread Cert.Group.nD Cert.Group.τ).loc Cert.Group.main_arg6) = m ((c.tc : Thread Cert.Group.nD Cert.Group.τ).loc Cert.Group.main_arg6)
      ∧ r.2.mem ((c.tc : Thread Cert.Group.nD Cert.Group.τ).loc Cert.Group.main_arg7) = m ((c.tc : Thread Cert.Group.nD Cert.Group.τ).loc Cert.Group.main_arg7)
      ∧ r.2.mem ((c.tc : Thread Cert.Group.nD Cert.Group.τ).loc Cert.Group.main_arg8) = m ((c.tc : Thread Cert.Group.nD Cert.Group.τ).loc Cert.Group.main_arg8)
      ∧ r.2.mem ((c.tc : Thread Cert.Group.nD Cert.Group.τ).loc Cert.Group.main_arg9) = m ((c.tc : Thread Cert.Group.nD Cert.Group.τ).loc Cert.Group.main_arg9)
      ∧ r.2.mem ((c.tc : Thread Cert.Group.nD Cert.Group.τ).loc Cert.Group.main_arg10) = m ((c.tc : Thread Cert.Group.nD Cert.Group.τ).loc Cert.Group.main_arg10)
      ∧ r.2.mem ((c.tc : Thread Cert.Group.nD Cert.Group.τ).loc Cert.Group.main_arg11) = m ((c.tc : Thread Cert.Group.nD Cert.Group.τ).loc Cert.Group.main_arg11)
      ∧ r.2.mem ((c.tc : Thread Cert.Group.nD Cert.Group.τ).loc Cert.Group.main_arg12) = m ((c.tc : Thread Cert.Group.nD Cert.Group.τ).loc Cert.Group.main_arg12)
      ∧ r.2.mem ((c.tc : Thread Cert.Group.nD Cert.Group.τ).loc Cert.Group.main_arg13) = m ((c.tc : Thread Cert.Group.nD Cert.Group.τ).loc Cert.Group.main_arg13)
      ∧ r.2.mem ((c.tc : Thread Cert.Group.nD Cert.Group.τ).loc Cert.Group.main_arg14) = m ((c.tc : Thread Cert.Group.nD Cert.Group.τ).loc Cert.Group.main_arg14))
      ∧ r.2.sem = fun _ => 0)

def quiescent_GroupIdeal [hGroupIdeal : Cert.GroupIdeal.Facts] [hPre_finite_group : Cert.Pre_finite_group.Facts] : Prop :=
  ∀ (m : (ℓ : Loc Cert.GroupIdeal.nD Cert.GroupIdeal.τ Cert.GroupIdeal.sig) → Buf (Elt Ideal) ℓ) (g : Dev Cert.GroupIdeal.nD → PrngReg), Pre_GroupIdeal m →
    θ_run (Cert.GroupIdeal.defs (F := Ideal)) (Cert.GroupIdeal.threads (F := Ideal)) ⟨m, fun _ => 0, g⟩ (fun r => (∀ c : Dev Cert.GroupIdeal.nD,
      r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
      ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
      ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
      ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3)
      ∧ r.2.mem ((c.tc : Thread Cert.GroupIdeal.nD Cert.GroupIdeal.τ).loc Cert.GroupIdeal.main_arg4) = m ((c.tc : Thread Cert.GroupIdeal.nD Cert.GroupIdeal.τ).loc Cert.GroupIdeal.main_arg4)
      ∧ r.2.mem ((c.tc : Thread Cert.GroupIdeal.nD Cert.GroupIdeal.τ).loc Cert.GroupIdeal.main_arg5) = m ((c.tc : Thread Cert.GroupIdeal.nD Cert.GroupIdeal.τ).loc Cert.GroupIdeal.main_arg5)
      ∧ r.2.mem ((c.tc : Thread Cert.GroupIdeal.nD Cert.GroupIdeal.τ).loc Cert.GroupIdeal.main_arg6) = m ((c.tc : Thread Cert.GroupIdeal.nD Cert.GroupIdeal.τ).loc Cert.GroupIdeal.main_arg6)
      ∧ r.2.mem ((c.tc : Thread Cert.GroupIdeal.nD Cert.GroupIdeal.τ).loc Cert.GroupIdeal.main_arg7) = m ((c.tc : Thread Cert.GroupIdeal.nD Cert.GroupIdeal.τ).loc Cert.GroupIdeal.main_arg7)
      ∧ r.2.mem ((c.tc : Thread Cert.GroupIdeal.nD Cert.GroupIdeal.τ).loc Cert.GroupIdeal.main_arg8) = m ((c.tc : Thread Cert.GroupIdeal.nD Cert.GroupIdeal.τ).loc Cert.GroupIdeal.main_arg8)
      ∧ r.2.mem ((c.tc : Thread Cert.GroupIdeal.nD Cert.GroupIdeal.τ).loc Cert.GroupIdeal.main_arg9) = m ((c.tc : Thread Cert.GroupIdeal.nD Cert.GroupIdeal.τ).loc Cert.GroupIdeal.main_arg9)
      ∧ r.2.mem ((c.tc : Thread Cert.GroupIdeal.nD Cert.GroupIdeal.τ).loc Cert.GroupIdeal.main_arg10) = m ((c.tc : Thread Cert.GroupIdeal.nD Cert.GroupIdeal.τ).loc Cert.GroupIdeal.main_arg10)
      ∧ r.2.mem ((c.tc : Thread Cert.GroupIdeal.nD Cert.GroupIdeal.τ).loc Cert.GroupIdeal.main_arg11) = m ((c.tc : Thread Cert.GroupIdeal.nD Cert.GroupIdeal.τ).loc Cert.GroupIdeal.main_arg11)
      ∧ r.2.mem ((c.tc : Thread Cert.GroupIdeal.nD Cert.GroupIdeal.τ).loc Cert.GroupIdeal.main_arg12) = m ((c.tc : Thread Cert.GroupIdeal.nD Cert.GroupIdeal.τ).loc Cert.GroupIdeal.main_arg12)
      ∧ r.2.mem ((c.tc : Thread Cert.GroupIdeal.nD Cert.GroupIdeal.τ).loc Cert.GroupIdeal.main_arg13) = m ((c.tc : Thread Cert.GroupIdeal.nD Cert.GroupIdeal.τ).loc Cert.GroupIdeal.main_arg13)
      ∧ r.2.mem ((c.tc : Thread Cert.GroupIdeal.nD Cert.GroupIdeal.τ).loc Cert.GroupIdeal.main_arg14) = m ((c.tc : Thread Cert.GroupIdeal.nD Cert.GroupIdeal.τ).loc Cert.GroupIdeal.main_arg14))
      ∧ r.2.sem = fun _ => 0)

def quiescent_GroupRefIdeal [hGroupRefIdeal : Cert.GroupRefIdeal.Facts] [hPre_finite_group : Cert.Pre_finite_group.Facts] : Prop :=
  ∀ (m : (ℓ : Loc Cert.GroupRefIdeal.nD Cert.GroupRefIdeal.τ Cert.GroupRefIdeal.sig) → Buf (Elt Ideal) ℓ) (g : Dev Cert.GroupRefIdeal.nD → PrngReg), Pre_GroupRefIdeal m →
    θ_run (Cert.GroupRefIdeal.defs (F := Ideal)) (onTc (τ := Cert.GroupRefIdeal.τ) (Cert.GroupRefIdeal.main (F := Ideal))) ⟨m, fun _ => 0, g⟩ (fun r => (∀ c : Dev Cert.GroupRefIdeal.nD,
      r.2.mem ((c.tc : Thread Cert.GroupRefIdeal.nD Cert.GroupRefIdeal.τ).loc Cert.GroupRefIdeal.main_arg0) = m ((c.tc : Thread Cert.GroupRefIdeal.nD Cert.GroupRefIdeal.τ).loc Cert.GroupRefIdeal.main_arg0)
      ∧ r.2.mem ((c.tc : Thread Cert.GroupRefIdeal.nD Cert.GroupRefIdeal.τ).loc Cert.GroupRefIdeal.main_arg1) = m ((c.tc : Thread Cert.GroupRefIdeal.nD Cert.GroupRefIdeal.τ).loc Cert.GroupRefIdeal.main_arg1)
      ∧ r.2.mem ((c.tc : Thread Cert.GroupRefIdeal.nD Cert.GroupRefIdeal.τ).loc Cert.GroupRefIdeal.main_arg2) = m ((c.tc : Thread Cert.GroupRefIdeal.nD Cert.GroupRefIdeal.τ).loc Cert.GroupRefIdeal.main_arg2)
      ∧ r.2.mem ((c.tc : Thread Cert.GroupRefIdeal.nD Cert.GroupRefIdeal.τ).loc Cert.GroupRefIdeal.main_arg3) = m ((c.tc : Thread Cert.GroupRefIdeal.nD Cert.GroupRefIdeal.τ).loc Cert.GroupRefIdeal.main_arg3)
      ∧ r.2.mem ((c.tc : Thread Cert.GroupRefIdeal.nD Cert.GroupRefIdeal.τ).loc Cert.GroupRefIdeal.main_arg4) = m ((c.tc : Thread Cert.GroupRefIdeal.nD Cert.GroupRefIdeal.τ).loc Cert.GroupRefIdeal.main_arg4)
      ∧ r.2.mem ((c.tc : Thread Cert.GroupRefIdeal.nD Cert.GroupRefIdeal.τ).loc Cert.GroupRefIdeal.main_arg5) = m ((c.tc : Thread Cert.GroupRefIdeal.nD Cert.GroupRefIdeal.τ).loc Cert.GroupRefIdeal.main_arg5)
      ∧ r.2.mem ((c.tc : Thread Cert.GroupRefIdeal.nD Cert.GroupRefIdeal.τ).loc Cert.GroupRefIdeal.main_arg6) = m ((c.tc : Thread Cert.GroupRefIdeal.nD Cert.GroupRefIdeal.τ).loc Cert.GroupRefIdeal.main_arg6)
      ∧ r.2.mem ((c.tc : Thread Cert.GroupRefIdeal.nD Cert.GroupRefIdeal.τ).loc Cert.GroupRefIdeal.main_arg7) = m ((c.tc : Thread Cert.GroupRefIdeal.nD Cert.GroupRefIdeal.τ).loc Cert.GroupRefIdeal.main_arg7)
      ∧ r.2.mem ((c.tc : Thread Cert.GroupRefIdeal.nD Cert.GroupRefIdeal.τ).loc Cert.GroupRefIdeal.main_arg8) = m ((c.tc : Thread Cert.GroupRefIdeal.nD Cert.GroupRefIdeal.τ).loc Cert.GroupRefIdeal.main_arg8)
      ∧ r.2.mem ((c.tc : Thread Cert.GroupRefIdeal.nD Cert.GroupRefIdeal.τ).loc Cert.GroupRefIdeal.main_arg9) = m ((c.tc : Thread Cert.GroupRefIdeal.nD Cert.GroupRefIdeal.τ).loc Cert.GroupRefIdeal.main_arg9)
      ∧ r.2.mem ((c.tc : Thread Cert.GroupRefIdeal.nD Cert.GroupRefIdeal.τ).loc Cert.GroupRefIdeal.main_arg10) = m ((c.tc : Thread Cert.GroupRefIdeal.nD Cert.GroupRefIdeal.τ).loc Cert.GroupRefIdeal.main_arg10)
      ∧ r.2.mem ((c.tc : Thread Cert.GroupRefIdeal.nD Cert.GroupRefIdeal.τ).loc Cert.GroupRefIdeal.main_arg11) = m ((c.tc : Thread Cert.GroupRefIdeal.nD Cert.GroupRefIdeal.τ).loc Cert.GroupRefIdeal.main_arg11)
      ∧ r.2.mem ((c.tc : Thread Cert.GroupRefIdeal.nD Cert.GroupRefIdeal.τ).loc Cert.GroupRefIdeal.main_arg12) = m ((c.tc : Thread Cert.GroupRefIdeal.nD Cert.GroupRefIdeal.τ).loc Cert.GroupRefIdeal.main_arg12)
      ∧ r.2.mem ((c.tc : Thread Cert.GroupRefIdeal.nD Cert.GroupRefIdeal.τ).loc Cert.GroupRefIdeal.main_arg13) = m ((c.tc : Thread Cert.GroupRefIdeal.nD Cert.GroupRefIdeal.τ).loc Cert.GroupRefIdeal.main_arg13)
      ∧ r.2.mem ((c.tc : Thread Cert.GroupRefIdeal.nD Cert.GroupRefIdeal.τ).loc Cert.GroupRefIdeal.main_arg14) = m ((c.tc : Thread Cert.GroupRefIdeal.nD Cert.GroupRefIdeal.τ).loc Cert.GroupRefIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)) →
    ∃ (v0 : (c : Dev Cert.SampleIdeal.nD) → Buf (Elt Ideal) ((c.tc : Thread Cert.SampleIdeal.nD Cert.SampleIdeal.τ).loc Cert.SampleIdeal.main_v0)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v0) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v8) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0))

def preserves_Search_SearchIdeal : Prop :=
  True

def algebraic_SearchIdeal_SearchRefIdeal [hSearchIdeal : Cert.SearchIdeal.Facts] [hSearchRefIdeal : Cert.SearchRefIdeal.Facts] [hPre_finite_points : Cert.Pre_finite_points.Facts] : Prop :=
  ∀ (m : (ℓ : Loc Cert.SearchIdeal.nD Cert.SearchIdeal.τ Cert.SearchIdeal.sig) → Buf (Elt Ideal) ℓ) (g : Dev Cert.SearchIdeal.nD → PrngReg)
    (m' : (ℓ : Loc Cert.SearchRefIdeal.nD Cert.SearchRefIdeal.τ Cert.SearchRefIdeal.sig) → Buf (Elt Ideal) ℓ) (g' : Dev Cert.SearchRefIdeal.nD → PrngReg), Pre_SearchIdeal m →
    (∀ c : Dev Cert.SearchIdeal.nD,
      m' ((c.tc : Thread Cert.SearchRefIdeal.nD Cert.SearchRefIdeal.τ).loc Cert.SearchRefIdeal.main_arg0) = m ((c.tc : Thread Cert.SearchIdeal.nD Cert.SearchIdeal.τ).loc Cert.SearchIdeal.main_arg0)
      ∧ m' ((c.tc : Thread Cert.SearchRefIdeal.nD Cert.SearchRefIdeal.τ).loc Cert.SearchRefIdeal.main_arg1) = m ((c.tc : Thread Cert.SearchIdeal.nD Cert.SearchIdeal.τ).loc Cert.SearchIdeal.main_arg1)) →
    ∃ (v0 : (c : Dev Cert.SearchIdeal.nD) → Buf (Elt Ideal) ((c.tc : Thread Cert.SearchIdeal.nD Cert.SearchIdeal.τ).loc Cert.SearchIdeal.main_v0)),
      θ_run (Cert.SearchIdeal.defs (F := Ideal)) (onTc (τ := Cert.SearchIdeal.τ) (Cert.SearchIdeal.main (F := Ideal))) ⟨m, fun _ => 0, g⟩ (fun r => ∀ c : Dev Cert.SearchIdeal.nD,
          r.2.mem ((c.tc : Thread Cert.SearchIdeal.nD Cert.SearchIdeal.τ).loc Cert.SearchIdeal.main_v0) = v0 c
          ∧ r.2.mem ((c.tc : Thread Cert.SearchIdeal.nD Cert.SearchIdeal.τ).loc Cert.SearchIdeal.main_arg0) = m ((c.tc : Thread Cert.SearchIdeal.nD Cert.SearchIdeal.τ).loc Cert.SearchIdeal.main_arg0)
          ∧ r.2.mem ((c.tc : Thread Cert.SearchIdeal.nD Cert.SearchIdeal.τ).loc Cert.SearchIdeal.main_arg1) = m ((c.tc : Thread Cert.SearchIdeal.nD Cert.SearchIdeal.τ).loc Cert.SearchIdeal.main_arg1))
      ∧ θ_run (Cert.SearchRefIdeal.defs (F := Ideal)) (onTc (τ := Cert.SearchRefIdeal.τ) (Cert.SearchRefIdeal.main (F := Ideal))) ⟨m', fun _ => 0, g'⟩ (fun r => ∀ c : Dev Cert.SearchRefIdeal.nD,
          r.2.mem ((c.tc : Thread Cert.SearchRefIdeal.nD Cert.SearchRefIdeal.τ).loc Cert.SearchRefIdeal.main_v23) = v0 c
          ∧ r.2.mem ((c.tc : Thread Cert.SearchRefIdeal.nD Cert.SearchRefIdeal.τ).loc Cert.SearchRefIdeal.main_arg0) = m' ((c.tc : Thread Cert.SearchRefIdeal.nD Cert.SearchRefIdeal.τ).loc Cert.SearchRefIdeal.main_arg0)
          ∧ r.2.mem ((c.tc : Thread Cert.SearchRefIdeal.nD Cert.SearchRefIdeal.τ).loc Cert.SearchRefIdeal.main_arg1) = m' ((c.tc : Thread Cert.SearchRefIdeal.nD Cert.SearchRefIdeal.τ).loc Cert.SearchRefIdeal.main_arg1))

def preserves_Layers_LayersIdeal : Prop :=
  True

def algebraic_LayersIdeal_LayersRefIdeal [hLayersIdeal : Cert.LayersIdeal.Facts] [hLayersRefIdeal : Cert.LayersRefIdeal.Facts] [hPre_finite : Cert.Pre_finite.Facts] : Prop :=
  ∀ (m : (ℓ : Loc Cert.LayersIdeal.nD Cert.LayersIdeal.τ Cert.LayersIdeal.sig) → Buf (Elt Ideal) ℓ) (g : Dev Cert.LayersIdeal.nD → PrngReg)
    (m' : (ℓ : Loc Cert.LayersRefIdeal.nD Cert.LayersRefIdeal.τ Cert.LayersRefIdeal.sig) → Buf (Elt Ideal) ℓ) (g' : Dev Cert.LayersRefIdeal.nD → PrngReg), Pre_LayersIdeal m →
    (∀ c : Dev Cert.LayersIdeal.nD,
      m' ((c.tc : Thread Cert.LayersRefIdeal.nD Cert.LayersRefIdeal.τ).loc Cert.LayersRefIdeal.main_arg0) = m ((c.tc : Thread Cert.LayersIdeal.nD Cert.LayersIdeal.τ).loc Cert.LayersIdeal.main_arg0)
      ∧ m' ((c.tc : Thread Cert.LayersRefIdeal.nD Cert.LayersRefIdeal.τ).loc Cert.LayersRefIdeal.main_arg1) = m ((c.tc : Thread Cert.LayersIdeal.nD Cert.LayersIdeal.τ).loc Cert.LayersIdeal.main_arg1)
      ∧ m' ((c.tc : Thread Cert.LayersRefIdeal.nD Cert.LayersRefIdeal.τ).loc Cert.LayersRefIdeal.main_arg2) = m ((c.tc : Thread Cert.LayersIdeal.nD Cert.LayersIdeal.τ).loc Cert.LayersIdeal.main_arg2)
      ∧ m' ((c.tc : Thread Cert.LayersRefIdeal.nD Cert.LayersRefIdeal.τ).loc Cert.LayersRefIdeal.main_arg3) = m ((c.tc : Thread Cert.LayersIdeal.nD Cert.LayersIdeal.τ).loc Cert.LayersIdeal.main_arg3)
      ∧ m' ((c.tc : Thread Cert.LayersRefIdeal.nD Cert.LayersRefIdeal.τ).loc Cert.LayersRefIdeal.main_arg4) = m ((c.tc : Thread Cert.LayersIdeal.nD Cert.LayersIdeal.τ).loc Cert.LayersIdeal.main_arg4)
      ∧ m' ((c.tc : Thread Cert.LayersRefIdeal.nD Cert.LayersRefIdeal.τ).loc Cert.LayersRefIdeal.main_arg5) = m ((c.tc : Thread Cert.LayersIdeal.nD Cert.LayersIdeal.τ).loc Cert.LayersIdeal.main_arg5)
      ∧ m' ((c.tc : Thread Cert.LayersRefIdeal.nD Cert.LayersRefIdeal.τ).loc Cert.LayersRefIdeal.main_arg6) = m ((c.tc : Thread Cert.LayersIdeal.nD Cert.LayersIdeal.τ).loc Cert.LayersIdeal.main_arg6)
      ∧ m' ((c.tc : Thread Cert.LayersRefIdeal.nD Cert.LayersRefIdeal.τ).loc Cert.LayersRefIdeal.main_arg7) = m ((c.tc : Thread Cert.LayersIdeal.nD Cert.LayersIdeal.τ).loc Cert.LayersIdeal.main_arg7)
      ∧ m' ((c.tc : Thread Cert.LayersRefIdeal.nD Cert.LayersRefIdeal.τ).loc Cert.LayersRefIdeal.main_arg8) = m ((c.tc : Thread Cert.LayersIdeal.nD Cert.LayersIdeal.τ).loc Cert.LayersIdeal.main_arg8)
      ∧ m' ((c.tc : Thread Cert.LayersRefIdeal.nD Cert.LayersRefIdeal.τ).loc Cert.LayersRefIdeal.main_arg9) = m ((c.tc : Thread Cert.LayersIdeal.nD Cert.LayersIdeal.τ).loc Cert.LayersIdeal.main_arg9)
      ∧ m' ((c.tc : Thread Cert.LayersRefIdeal.nD Cert.LayersRefIdeal.τ).loc Cert.LayersRefIdeal.main_arg10) = m ((c.tc : Thread Cert.LayersIdeal.nD Cert.LayersIdeal.τ).loc Cert.LayersIdeal.main_arg10)
      ∧ m' ((c.tc : Thread Cert.LayersRefIdeal.nD Cert.LayersRefIdeal.τ).loc Cert.LayersRefIdeal.main_arg11) = m ((c.tc : Thread Cert.LayersIdeal.nD Cert.LayersIdeal.τ).loc Cert.LayersIdeal.main_arg11)
      ∧ m' ((c.tc : Thread Cert.LayersRefIdeal.nD Cert.LayersRefIdeal.τ).loc Cert.LayersRefIdeal.main_arg12) = m ((c.tc : Thread Cert.LayersIdeal.nD Cert.LayersIdeal.τ).loc Cert.LayersIdeal.main_arg12)
      ∧ m' ((c.tc : Thread Cert.LayersRefIdeal.nD Cert.LayersRefIdeal.τ).loc Cert.LayersRefIdeal.main_arg13) = m ((c.tc : Thread Cert.LayersIdeal.nD Cert.LayersIdeal.τ).loc Cert.LayersIdeal.main_arg13)) →
    ∃ (v0 : (c : Dev Cert.LayersIdeal.nD) → Buf (Elt Ideal) ((c.tc : Thread Cert.LayersIdeal.nD Cert.LayersIdeal.τ).loc Cert.LayersIdeal.main_v21)),
      θ_run (Cert.LayersIdeal.defs (F := Ideal)) (onTc (τ := Cert.LayersIdeal.τ) (Cert.LayersIdeal.main (F := Ideal))) ⟨m, fun _ => 0, g⟩ (fun r => ∀ c : Dev Cert.LayersIdeal.nD,
          r.2.mem ((c.tc : Thread Cert.LayersIdeal.nD Cert.LayersIdeal.τ).loc Cert.LayersIdeal.main_v21) = v0 c
          ∧ r.2.mem ((c.tc : Thread Cert.LayersIdeal.nD Cert.LayersIdeal.τ).loc Cert.LayersIdeal.main_arg0) = m ((c.tc : Thread Cert.LayersIdeal.nD Cert.LayersIdeal.τ).loc Cert.LayersIdeal.main_arg0)
          ∧ r.2.mem ((c.tc : Thread Cert.LayersIdeal.nD Cert.LayersIdeal.τ).loc Cert.LayersIdeal.main_arg1) = m ((c.tc : Thread Cert.LayersIdeal.nD Cert.LayersIdeal.τ).loc Cert.LayersIdeal.main_arg1)
          ∧ r.2.mem ((c.tc : Thread Cert.LayersIdeal.nD Cert.LayersIdeal.τ).loc Cert.LayersIdeal.main_arg2) = m ((c.tc : Thread Cert.LayersIdeal.nD Cert.LayersIdeal.τ).loc Cert.LayersIdeal.main_arg2)
          ∧ r.2.mem ((c.tc : Thread Cert.LayersIdeal.nD Cert.LayersIdeal.τ).loc Cert.LayersIdeal.main_arg3) = m ((c.tc : Thread Cert.LayersIdeal.nD Cert.LayersIdeal.τ).loc Cert.LayersIdeal.main_arg3)
          ∧ r.2.mem ((c.tc : Thread Cert.LayersIdeal.nD Cert.LayersIdeal.τ).loc Cert.LayersIdeal.main_arg4) = m ((c.tc : Thread Cert.LayersIdeal.nD Cert.LayersIdeal.τ).loc Cert.LayersIdeal.main_arg4)
          ∧ r.2.mem ((c.tc : Thread Cert.LayersIdeal.nD Cert.LayersIdeal.τ).loc Cert.LayersIdeal.main_arg5) = m ((c.tc : Thread Cert.LayersIdeal.nD Cert.LayersIdeal.τ).loc Cert.LayersIdeal.main_arg5)
          ∧ r.2.mem ((c.tc : Thread Cert.LayersIdeal.nD Cert.LayersIdeal.τ).loc Cert.LayersIdeal.main_arg6) = m ((c.tc : Thread Cert.LayersIdeal.nD Cert.LayersIdeal.τ).loc Cert.LayersIdeal.main_arg6)
          ∧ r.2.mem ((c.tc : Thread Cert.LayersIdeal.nD Cert.LayersIdeal.τ).loc Cert.LayersIdeal.main_arg7) = m ((c.tc : Thread Cert.LayersIdeal.nD Cert.LayersIdeal.τ).loc Cert.LayersIdeal.main_arg7)
          ∧ r.2.mem ((c.tc : Thread Cert.LayersIdeal.nD Cert.LayersIdeal.τ).loc Cert.LayersIdeal.main_arg8) = m ((c.tc : Thread Cert.LayersIdeal.nD Cert.LayersIdeal.τ).loc Cert.LayersIdeal.main_arg8)
          ∧ r.2.mem ((c.tc : Thread Cert.LayersIdeal.nD Cert.LayersIdeal.τ).loc Cert.LayersIdeal.main_arg9) = m ((c.tc : Thread Cert.LayersIdeal.nD Cert.LayersIdeal.τ).loc Cert.LayersIdeal.main_arg9)
          ∧ r.2.mem ((c.tc : Thread Cert.LayersIdeal.nD Cert.LayersIdeal.τ).loc Cert.LayersIdeal.main_arg10) = m ((c.tc : Thread Cert.LayersIdeal.nD Cert.LayersIdeal.τ).loc Cert.LayersIdeal.main_arg10)
          ∧ r.2.mem ((c.tc : Thread Cert.LayersIdeal.nD Cert.LayersIdeal.τ).loc Cert.LayersIdeal.main_arg11) = m ((c.tc : Thread Cert.LayersIdeal.nD Cert.LayersIdeal.τ).loc Cert.LayersIdeal.main_arg11)
          ∧ r.2.mem ((c.tc : Thread Cert.LayersIdeal.nD Cert.LayersIdeal.τ).loc Cert.LayersIdeal.main_arg12) = m ((c.tc : Thread Cert.LayersIdeal.nD Cert.LayersIdeal.τ).loc Cert.LayersIdeal.main_arg12)
          ∧ r.2.mem ((c.tc : Thread Cert.LayersIdeal.nD Cert.LayersIdeal.τ).loc Cert.LayersIdeal.main_arg13) = m ((c.tc : Thread Cert.LayersIdeal.nD Cert.LayersIdeal.τ).loc Cert.LayersIdeal.main_arg13))
      ∧ θ_run (Cert.LayersRefIdeal.defs (F := Ideal)) (onTc (τ := Cert.LayersRefIdeal.τ) (Cert.LayersRefIdeal.main (F := Ideal))) ⟨m', fun _ => 0, g'⟩ (fun r => ∀ c : Dev Cert.LayersRefIdeal.nD,
          r.2.mem ((c.tc : Thread Cert.LayersRefIdeal.nD Cert.LayersRefIdeal.τ).loc Cert.LayersRefIdeal.main_v98) = v0 c
          ∧ r.2.mem ((c.tc : Thread Cert.LayersRefIdeal.nD Cert.LayersRefIdeal.τ).loc Cert.LayersRefIdeal.main_arg0) = m' ((c.tc : Thread Cert.LayersRefIdeal.nD Cert.LayersRefIdeal.τ).loc Cert.LayersRefIdeal.main_arg0)
          ∧ r.2.mem ((c.tc : Thread Cert.LayersRefIdeal.nD Cert.LayersRefIdeal.τ).loc Cert.LayersRefIdeal.main_arg1) = m' ((c.tc : Thread Cert.LayersRefIdeal.nD Cert.LayersRefIdeal.τ).loc Cert.LayersRefIdeal.main_arg1)
          ∧ r.2.mem ((c.tc : Thread Cert.LayersRefIdeal.nD Cert.LayersRefIdeal.τ).loc Cert.LayersRefIdeal.main_arg2) = m' ((c.tc : Thread Cert.LayersRefIdeal.nD Cert.LayersRefIdeal.τ).loc Cert.LayersRefIdeal.main_arg2)
          ∧ r.2.mem ((c.tc : Thread Cert.LayersRefIdeal.nD Cert.LayersRefIdeal.τ).loc Cert.LayersRefIdeal.main_arg3) = m' ((c.tc : Thread Cert.LayersRefIdeal.nD Cert.LayersRefIdeal.τ).loc Cert.LayersRefIdeal.main_arg3)
          ∧ r.2.mem ((c.tc : Thread Cert.LayersRefIdeal.nD Cert.LayersRefIdeal.τ).loc Cert.LayersRefIdeal.main_arg4) = m' ((c.tc : Thread Cert.LayersRefIdeal.nD Cert.LayersRefIdeal.τ).loc Cert.LayersRefIdeal.main_arg4)
          ∧ r.2.mem ((c.tc : Thread Cert.LayersRefIdeal.nD Cert.LayersRefIdeal.τ).loc Cert.LayersRefIdeal.main_arg5) = m' ((c.tc : Thread Cert.LayersRefIdeal.nD Cert.LayersRefIdeal.τ).loc Cert.LayersRefIdeal.main_arg5)
          ∧ r.2.mem ((c.tc : Thread Cert.LayersRefIdeal.nD Cert.LayersRefIdeal.τ).loc Cert.LayersRefIdeal.main_arg6) = m' ((c.tc : Thread Cert.LayersRefIdeal.nD Cert.LayersRefIdeal.τ).loc Cert.LayersRefIdeal.main_arg6)
          ∧ r.2.mem ((c.tc : Thread Cert.LayersRefIdeal.nD Cert.LayersRefIdeal.τ).loc Cert.LayersRefIdeal.main_arg7) = m' ((c.tc : Thread Cert.LayersRefIdeal.nD Cert.LayersRefIdeal.τ).loc Cert.LayersRefIdeal.main_arg7)
          ∧ r.2.mem ((c.tc : Thread Cert.LayersRefIdeal.nD Cert.LayersRefIdeal.τ).loc Cert.LayersRefIdeal.main_arg8) = m' ((c.tc : Thread Cert.LayersRefIdeal.nD Cert.LayersRefIdeal.τ).loc Cert.LayersRefIdeal.main_arg8)
          ∧ r.2.mem ((c.tc : Thread Cert.LayersRefIdeal.nD Cert.LayersRefIdeal.τ).loc Cert.LayersRefIdeal.main_arg9) = m' ((c.tc : Thread Cert.LayersRefIdeal.nD Cert.LayersRefIdeal.τ).loc Cert.LayersRefIdeal.main_arg9)
          ∧ r.2.mem ((c.tc : Thread Cert.LayersRefIdeal.nD Cert.LayersRefIdeal.τ).loc Cert.LayersRefIdeal.main_arg10) = m' ((c.tc : Thread Cert.LayersRefIdeal.nD Cert.LayersRefIdeal.τ).loc Cert.LayersRefIdeal.main_arg10)
          ∧ r.2.mem ((c.tc : Thread Cert.LayersRefIdeal.nD Cert.LayersRefIdeal.τ).loc Cert.LayersRefIdeal.main_arg11) = m' ((c.tc : Thread Cert.LayersRefIdeal.nD Cert.LayersRefIdeal.τ).loc Cert.LayersRefIdeal.main_arg11)
          ∧ r.2.mem ((c.tc : Thread Cert.LayersRefIdeal.nD Cert.LayersRefIdeal.τ).loc Cert.LayersRefIdeal.main_arg12) = m' ((c.tc : Thread Cert.LayersRefIdeal.nD Cert.LayersRefIdeal.τ).loc Cert.LayersRefIdeal.main_arg12)
          ∧ r.2.mem ((c.tc : Thread Cert.LayersRefIdeal.nD Cert.LayersRefIdeal.τ).loc Cert.LayersRefIdeal.main_arg13) = m' ((c.tc : Thread Cert.LayersRefIdeal.nD Cert.LayersRefIdeal.τ).loc Cert.LayersRefIdeal.main_arg13))

def preserves_Group_GroupIdeal : Prop :=
  True

def algebraic_GroupIdeal_GroupRefIdeal [hGroupIdeal : Cert.GroupIdeal.Facts] [hGroupRefIdeal : Cert.GroupRefIdeal.Facts] [hPre_finite_group : Cert.Pre_finite_group.Facts] : Prop :=
  ∀ (m : (ℓ : Loc Cert.GroupIdeal.nD Cert.GroupIdeal.τ Cert.GroupIdeal.sig) → Buf (Elt Ideal) ℓ) (g : Dev Cert.GroupIdeal.nD → PrngReg)
    (m' : (ℓ : Loc Cert.GroupRefIdeal.nD Cert.GroupRefIdeal.τ Cert.GroupRefIdeal.sig) → Buf (Elt Ideal) ℓ) (g' : Dev Cert.GroupRefIdeal.nD → PrngReg), Pre_GroupIdeal m →
    (∀ c : Dev Cert.GroupIdeal.nD,
      m' ((c.tc : Thread Cert.GroupRefIdeal.nD Cert.GroupRefIdeal.τ).loc Cert.GroupRefIdeal.main_arg0) = m ((c.tc : Thread Cert.GroupIdeal.nD Cert.GroupIdeal.τ).loc Cert.GroupIdeal.main_arg0)
      ∧ m' ((c.tc : Thread Cert.GroupRefIdeal.nD Cert.GroupRefIdeal.τ).loc Cert.GroupRefIdeal.main_arg1) = m ((c.tc : Thread Cert.GroupIdeal.nD Cert.GroupIdeal.τ).loc Cert.GroupIdeal.main_arg1)
      ∧ m' ((c.tc : Thread Cert.GroupRefIdeal.nD Cert.GroupRefIdeal.τ).loc Cert.GroupRefIdeal.main_arg2) = m ((c.tc : Thread Cert.GroupIdeal.nD Cert.GroupIdeal.τ).loc Cert.GroupIdeal.main_arg2)
      ∧ m' ((c.tc : Thread Cert.GroupRefIdeal.nD Cert.GroupRefIdeal.τ).loc Cert.GroupRefIdeal.main_arg3) = m ((c.tc : Thread Cert.GroupIdeal.nD Cert.GroupIdeal.τ).loc Cert.GroupIdeal.main_arg3)
      ∧ m' ((c.tc : Thread Cert.GroupRefIdeal.nD Cert.GroupRefIdeal.τ).loc Cert.GroupRefIdeal.main_arg4) = m ((c.tc : Thread Cert.GroupIdeal.nD Cert.GroupIdeal.τ).loc Cert.GroupIdeal.main_arg4)
      ∧ m' ((c.tc : Thread Cert.GroupRefIdeal.nD Cert.GroupRefIdeal.τ).loc Cert.GroupRefIdeal.main_arg5) = m ((c.tc : Thread Cert.GroupIdeal.nD Cert.GroupIdeal.τ).loc Cert.GroupIdeal.main_arg5)
      ∧ m' ((c.tc : Thread Cert.GroupRefIdeal.nD Cert.GroupRefIdeal.τ).loc Cert.GroupRefIdeal.main_arg6) = m ((c.tc : Thread Cert.GroupIdeal.nD Cert.GroupIdeal.τ).loc Cert.GroupIdeal.main_arg6)
      ∧ m' ((c.tc : Thread Cert.GroupRefIdeal.nD Cert.GroupRefIdeal.τ).loc Cert.GroupRefIdeal.main_arg7) = m ((c.tc : Thread Cert.GroupIdeal.nD Cert.GroupIdeal.τ).loc Cert.GroupIdeal.main_arg7)
      ∧ m' ((c.tc : Thread Cert.GroupRefIdeal.nD Cert.GroupRefIdeal.τ).loc Cert.GroupRefIdeal.main_arg8) = m ((c.tc : Thread Cert.GroupIdeal.nD Cert.GroupIdeal.τ).loc Cert.GroupIdeal.main_arg8)
      ∧ m' ((c.tc : Thread Cert.GroupRefIdeal.nD Cert.GroupRefIdeal.τ).loc Cert.GroupRefIdeal.main_arg9) = m ((c.tc : Thread Cert.GroupIdeal.nD Cert.GroupIdeal.τ).loc Cert.GroupIdeal.main_arg9)
      ∧ m' ((c.tc : Thread Cert.GroupRefIdeal.nD Cert.GroupRefIdeal.τ).loc Cert.GroupRefIdeal.main_arg10) = m ((c.tc : Thread Cert.GroupIdeal.nD Cert.GroupIdeal.τ).loc Cert.GroupIdeal.main_arg10)
      ∧ m' ((c.tc : Thread Cert.GroupRefIdeal.nD Cert.GroupRefIdeal.τ).loc Cert.GroupRefIdeal.main_arg11) = m ((c.tc : Thread Cert.GroupIdeal.nD Cert.GroupIdeal.τ).loc Cert.GroupIdeal.main_arg11)
      ∧ m' ((c.tc : Thread Cert.GroupRefIdeal.nD Cert.GroupRefIdeal.τ).loc Cert.GroupRefIdeal.main_arg12) = m ((c.tc : Thread Cert.GroupIdeal.nD Cert.GroupIdeal.τ).loc Cert.GroupIdeal.main_arg12)
      ∧ m' ((c.tc : Thread Cert.GroupRefIdeal.nD Cert.GroupRefIdeal.τ).loc Cert.GroupRefIdeal.main_arg13) = m ((c.tc : Thread Cert.GroupIdeal.nD Cert.GroupIdeal.τ).loc Cert.GroupIdeal.main_arg13)
      ∧ m' ((c.tc : Thread Cert.GroupRefIdeal.nD Cert.GroupRefIdeal.τ).loc Cert.GroupRefIdeal.main_arg14) = m ((c.tc : Thread Cert.GroupIdeal.nD Cert.GroupIdeal.τ).loc Cert.GroupIdeal.main_arg14)) →
    ∃ (v0 : (c : Dev Cert.GroupIdeal.nD) → Buf (Elt Ideal) ((c.tc : Thread Cert.GroupIdeal.nD Cert.GroupIdeal.τ).loc Cert.GroupIdeal.main_v33)),
      θ_run (Cert.GroupIdeal.defs (F := Ideal)) (Cert.GroupIdeal.threads (F := Ideal)) ⟨m, fun _ => 0, g⟩ (fun r => ∀ c : Dev Cert.GroupIdeal.nD,
          r.2.mem ((c.tc : Thread Cert.GroupIdeal.nD Cert.GroupIdeal.τ).loc Cert.GroupIdeal.main_v33) = v0 c
          ∧ r.2.mem ((c.tc : Thread Cert.GroupIdeal.nD Cert.GroupIdeal.τ).loc Cert.GroupIdeal.main_arg0) = m ((c.tc : Thread Cert.GroupIdeal.nD Cert.GroupIdeal.τ).loc Cert.GroupIdeal.main_arg0)
          ∧ r.2.mem ((c.tc : Thread Cert.GroupIdeal.nD Cert.GroupIdeal.τ).loc Cert.GroupIdeal.main_arg1) = m ((c.tc : Thread Cert.GroupIdeal.nD Cert.GroupIdeal.τ).loc Cert.GroupIdeal.main_arg1)
          ∧ r.2.mem ((c.tc : Thread Cert.GroupIdeal.nD Cert.GroupIdeal.τ).loc Cert.GroupIdeal.main_arg2) = m ((c.tc : Thread Cert.GroupIdeal.nD Cert.GroupIdeal.τ).loc Cert.GroupIdeal.main_arg2)
          ∧ r.2.mem ((c.tc : Thread Cert.GroupIdeal.nD Cert.GroupIdeal.τ).loc Cert.GroupIdeal.main_arg3) = m ((c.tc : Thread Cert.GroupIdeal.nD Cert.GroupIdeal.τ).loc Cert.GroupIdeal.main_arg3)
          ∧ r.2.mem ((c.tc : Thread Cert.GroupIdeal.nD Cert.GroupIdeal.τ).loc Cert.GroupIdeal.main_arg4) = m ((c.tc : Thread Cert.GroupIdeal.nD Cert.GroupIdeal.τ).loc Cert.GroupIdeal.main_arg4)
          ∧ r.2.mem ((c.tc : Thread Cert.GroupIdeal.nD Cert.GroupIdeal.τ).loc Cert.GroupIdeal.main_arg5) = m ((c.tc : Thread Cert.GroupIdeal.nD Cert.GroupIdeal.τ).loc Cert.GroupIdeal.main_arg5)
          ∧ r.2.mem ((c.tc : Thread Cert.GroupIdeal.nD Cert.GroupIdeal.τ).loc Cert.GroupIdeal.main_arg6) = m ((c.tc : Thread Cert.GroupIdeal.nD Cert.GroupIdeal.τ).loc Cert.GroupIdeal.main_arg6)
          ∧ r.2.mem ((c.tc : Thread Cert.GroupIdeal.nD Cert.GroupIdeal.τ).loc Cert.GroupIdeal.main_arg7) = m ((c.tc : Thread Cert.GroupIdeal.nD Cert.GroupIdeal.τ).loc Cert.GroupIdeal.main_arg7)
          ∧ r.2.mem ((c.tc : Thread Cert.GroupIdeal.nD Cert.GroupIdeal.τ).loc Cert.GroupIdeal.main_arg8) = m ((c.tc : Thread Cert.GroupIdeal.nD Cert.GroupIdeal.τ).loc Cert.GroupIdeal.main_arg8)
          ∧ r.2.mem ((c.tc : Thread Cert.GroupIdeal.nD Cert.GroupIdeal.τ).loc Cert.GroupIdeal.main_arg9) = m ((c.tc : Thread Cert.GroupIdeal.nD Cert.GroupIdeal.τ).loc Cert.GroupIdeal.main_arg9)
          ∧ r.2.mem ((c.tc : Thread Cert.GroupIdeal.nD Cert.GroupIdeal.τ).loc Cert.GroupIdeal.main_arg10) = m ((c.tc : Thread Cert.GroupIdeal.nD Cert.GroupIdeal.τ).loc Cert.GroupIdeal.main_arg10)
          ∧ r.2.mem ((c.tc : Thread Cert.GroupIdeal.nD Cert.GroupIdeal.τ).loc Cert.GroupIdeal.main_arg11) = m ((c.tc : Thread Cert.GroupIdeal.nD Cert.GroupIdeal.τ).loc Cert.GroupIdeal.main_arg11)
          ∧ r.2.mem ((c.tc : Thread Cert.GroupIdeal.nD Cert.GroupIdeal.τ).loc Cert.GroupIdeal.main_arg12) = m ((c.tc : Thread Cert.GroupIdeal.nD Cert.GroupIdeal.τ).loc Cert.GroupIdeal.main_arg12)
          ∧ r.2.mem ((c.tc : Thread Cert.GroupIdeal.nD Cert.GroupIdeal.τ).loc Cert.GroupIdeal.main_arg13) = m ((c.tc : Thread Cert.GroupIdeal.nD Cert.GroupIdeal.τ).loc Cert.GroupIdeal.main_arg13)
          ∧ r.2.mem ((c.tc : Thread Cert.GroupIdeal.nD Cert.GroupIdeal.τ).loc Cert.GroupIdeal.main_arg14) = m ((c.tc : Thread Cert.GroupIdeal.nD Cert.GroupIdeal.τ).loc Cert.GroupIdeal.main_arg14))
      ∧ θ_run (Cert.GroupRefIdeal.defs (F := Ideal)) (onTc (τ := Cert.GroupRefIdeal.τ) (Cert.GroupRefIdeal.main (F := Ideal))) ⟨m', fun _ => 0, g'⟩ (fun r => ∀ c : Dev Cert.GroupRefIdeal.nD,
          r.2.mem ((c.tc : Thread Cert.GroupRefIdeal.nD Cert.GroupRefIdeal.τ).loc Cert.GroupRefIdeal.main_v123) = v0 c
          ∧ r.2.mem ((c.tc : Thread Cert.GroupRefIdeal.nD Cert.GroupRefIdeal.τ).loc Cert.GroupRefIdeal.main_arg0) = m' ((c.tc : Thread Cert.GroupRefIdeal.nD Cert.GroupRefIdeal.τ).loc Cert.GroupRefIdeal.main_arg0)
          ∧ r.2.mem ((c.tc : Thread Cert.GroupRefIdeal.nD Cert.GroupRefIdeal.τ).loc Cert.GroupRefIdeal.main_arg1) = m' ((c.tc : Thread Cert.GroupRefIdeal.nD Cert.GroupRefIdeal.τ).loc Cert.GroupRefIdeal.main_arg1)
          ∧ r.2.mem ((c.tc : Thread Cert.GroupRefIdeal.nD Cert.GroupRefIdeal.τ).loc Cert.GroupRefIdeal.main_arg2) = m' ((c.tc : Thread Cert.GroupRefIdeal.nD Cert.GroupRefIdeal.τ).loc Cert.GroupRefIdeal.main_arg2)
          ∧ r.2.mem ((c.tc : Thread Cert.GroupRefIdeal.nD Cert.GroupRefIdeal.τ).loc Cert.GroupRefIdeal.main_arg3) = m' ((c.tc : Thread Cert.GroupRefIdeal.nD Cert.GroupRefIdeal.τ).loc Cert.GroupRefIdeal.main_arg3)
          ∧ r.2.mem ((c.tc : Thread Cert.GroupRefIdeal.nD Cert.GroupRefIdeal.τ).loc Cert.GroupRefIdeal.main_arg4) = m' ((c.tc : Thread Cert.GroupRefIdeal.nD Cert.GroupRefIdeal.τ).loc Cert.GroupRefIdeal.main_arg4)
          ∧ r.2.mem ((c.tc : Thread Cert.GroupRefIdeal.nD Cert.GroupRefIdeal.τ).loc Cert.GroupRefIdeal.main_arg5) = m' ((c.tc : Thread Cert.GroupRefIdeal.nD Cert.GroupRefIdeal.τ).loc Cert.GroupRefIdeal.main_arg5)
          ∧ r.2.mem ((c.tc : Thread Cert.GroupRefIdeal.nD Cert.GroupRefIdeal.τ).loc Cert.GroupRefIdeal.main_arg6) = m' ((c.tc : Thread Cert.GroupRefIdeal.nD Cert.GroupRefIdeal.τ).loc Cert.GroupRefIdeal.main_arg6)
          ∧ r.2.mem ((c.tc : Thread Cert.GroupRefIdeal.nD Cert.GroupRefIdeal.τ).loc Cert.GroupRefIdeal.main_arg7) = m' ((c.tc : Thread Cert.GroupRefIdeal.nD Cert.GroupRefIdeal.τ).loc Cert.GroupRefIdeal.main_arg7)
          ∧ r.2.mem ((c.tc : Thread Cert.GroupRefIdeal.nD Cert.GroupRefIdeal.τ).loc Cert.GroupRefIdeal.main_arg8) = m' ((c.tc : Thread Cert.GroupRefIdeal.nD Cert.GroupRefIdeal.τ).loc Cert.GroupRefIdeal.main_arg8)
          ∧ r.2.mem ((c.tc : Thread Cert.GroupRefIdeal.nD Cert.GroupRefIdeal.τ).loc Cert.GroupRefIdeal.main_arg9) = m' ((c.tc : Thread Cert.GroupRefIdeal.nD Cert.GroupRefIdeal.τ).loc Cert.GroupRefIdeal.main_arg9)
          ∧ r.2.mem ((c.tc : Thread Cert.GroupRefIdeal.nD Cert.GroupRefIdeal.τ).loc Cert.GroupRefIdeal.main_arg10) = m' ((c.tc : Thread Cert.GroupRefIdeal.nD Cert.GroupRefIdeal.τ).loc Cert.GroupRefIdeal.main_arg10)
          ∧ r.2.mem ((c.tc : Thread Cert.GroupRefIdeal.nD Cert.GroupRefIdeal.τ).loc Cert.GroupRefIdeal.main_arg11) = m' ((c.tc : Thread Cert.GroupRefIdeal.nD Cert.GroupRefIdeal.τ).loc Cert.GroupRefIdeal.main_arg11)
          ∧ r.2.mem ((c.tc : Thread Cert.GroupRefIdeal.nD Cert.GroupRefIdeal.τ).loc Cert.GroupRefIdeal.main_arg12) = m' ((c.tc : Thread Cert.GroupRefIdeal.nD Cert.GroupRefIdeal.τ).loc Cert.GroupRefIdeal.main_arg12)
          ∧ r.2.mem ((c.tc : Thread Cert.GroupRefIdeal.nD Cert.GroupRefIdeal.τ).loc Cert.GroupRefIdeal.main_arg13) = m' ((c.tc : Thread Cert.GroupRefIdeal.nD Cert.GroupRefIdeal.τ).loc Cert.GroupRefIdeal.main_arg13)
          ∧ r.2.mem ((c.tc : Thread Cert.GroupRefIdeal.nD Cert.GroupRefIdeal.τ).loc Cert.GroupRefIdeal.main_arg14) = m' ((c.tc : Thread Cert.GroupRefIdeal.nD Cert.GroupRefIdeal.τ).loc Cert.GroupRefIdeal.main_arg14))

def Claim : Prop :=
  ∃ (hKernel : Cert.Kernel.Facts) (hKernelIdeal : Cert.KernelIdeal.Facts) (hReferenceIdeal : Cert.ReferenceIdeal.Facts) (hSample : Cert.Sample.Facts) (hSampleIdeal : Cert.SampleIdeal.Facts) (hSampleRefIdeal : Cert.SampleRefIdeal.Facts) (hSearch : Cert.Search.Facts) (hSearchIdeal : Cert.SearchIdeal.Facts) (hSearchRefIdeal : Cert.SearchRefIdeal.Facts) (hLayers : Cert.Layers.Facts) (hLayersIdeal : Cert.LayersIdeal.Facts) (hLayersRefIdeal : Cert.LayersRefIdeal.Facts) (hGroup : Cert.Group.Facts) (hGroupIdeal : Cert.GroupIdeal.Facts) (hGroupRefIdeal : Cert.GroupRefIdeal.Facts) (hPre_in_range : Cert.Pre_in_range.Facts) (hPre_finite_points : Cert.Pre_finite_points.Facts) (hPre_finite : Cert.Pre_finite.Facts) (hPre_finite_group : Cert.Pre_finite_group.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Sample (hSample := hSample)
    ∧ quiescent_SampleIdeal (hSampleIdeal := hSampleIdeal)
    ∧ quiescent_SampleRefIdeal (hSampleRefIdeal := hSampleRefIdeal)
    ∧ quiescent_Search (hSearch := hSearch) (hPre_finite_points := hPre_finite_points)
    ∧ quiescent_SearchIdeal (hSearchIdeal := hSearchIdeal) (hPre_finite_points := hPre_finite_points)
    ∧ quiescent_SearchRefIdeal (hSearchRefIdeal := hSearchRefIdeal) (hPre_finite_points := hPre_finite_points)
    ∧ quiescent_Layers (hLayers := hLayers) (hPre_finite := hPre_finite)
    ∧ quiescent_LayersIdeal (hLayersIdeal := hLayersIdeal) (hPre_finite := hPre_finite)
    ∧ quiescent_LayersRefIdeal (hLayersRefIdeal := hLayersRefIdeal) (hPre_finite := hPre_finite)
    ∧ quiescent_Group (hGroup := hGroup) (hPre_finite_group := hPre_finite_group)
    ∧ quiescent_GroupIdeal (hGroupIdeal := hGroupIdeal) (hPre_finite_group := hPre_finite_group)
    ∧ quiescent_GroupRefIdeal (hGroupRefIdeal := hGroupRefIdeal) (hPre_finite_group := hPre_finite_group)
    ∧ preserves_Kernel_KernelIdeal
    ∧ algebraic_KernelIdeal_ReferenceIdeal (hKernelIdeal := hKernelIdeal) (hReferenceIdeal := hReferenceIdeal) (hPre_in_range := hPre_in_range)
    ∧ preserves_Sample_SampleIdeal
    ∧ algebraic_SampleIdeal_SampleRefIdeal (hSampleIdeal := hSampleIdeal) (hSampleRefIdeal := hSampleRefIdeal)
    ∧ preserves_Search_SearchIdeal
    ∧ algebraic_SearchIdeal_SearchRefIdeal (hSearchIdeal := hSearchIdeal) (hSearchRefIdeal := hSearchRefIdeal) (hPre_finite_points := hPre_finite_points)
    ∧ preserves_Layers_LayersIdeal
    ∧ algebraic_LayersIdeal_LayersRefIdeal (hLayersIdeal := hLayersIdeal) (hLayersRefIdeal := hLayersRefIdeal) (hPre_finite := hPre_finite)
    ∧ preserves_Group_GroupIdeal
    ∧ algebraic_GroupIdeal_GroupRefIdeal (hGroupIdeal := hGroupIdeal) (hGroupRefIdeal := hGroupRefIdeal) (hPre_finite_group := hPre_finite_group)
-- ==== Pre_finite.lean ====
abbrev S131072x128 : Shape := ⟨2, ![131072, 128]⟩
abbrev S8x3x512 : Shape := ⟨3, ![8, 3, 512]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S8x3x512 : S_.BroadcastsInDim S8x3x512 (![] : Fin 0 → Fin S8x3x512.rank)
  reducesTo_S8x3x512_S_d0_1_2 : S8x3x512.ReducesTo [0, 1, 2] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v64 : IVec S_ 1) (main_v67 : IVec S128 1) : IVec S_ 1 :=
  let main_c_26 : IVec S_ 1 := constantI S_ 1 1#1
  let main_v68 : IVec S_ 1 := (fun x v => Host.reduce IntOp.andi x v reducesTo_S128_S_d0 h_S_) main_v67 main_c_26
  let main_v69 : IVec S_ 1 := andi main_v64 main_v68
  main_v69

def fn_part3 {F : FTy → Type} [FloatOps F] (main_arg11 : FVec F S128 .f32) (main_arg12 : FVec F S128 .f32) (main_arg13 : FVec F S128 .f32) (main_v49 : IVec S_ 1) (main_v50 : FVec F S128x64 .f32) : IVec S_ 1 :=
  let main_cst_19 : FVec F S_ .f32 := constant S_ .f32 0x7F800000#32
  let main_v51 : FVec F S128x64 .f32 := broadcastInDim S128x64 ![] bcast_S_S128x64 main_cst_19
  let main_v52 : IVec S128x64 1 := cmpf .olt main_v50 main_v51
  let main_c_20 : IVec S_ 1 := constantI S_ 1 1#1
  let main_v53 : IVec S_ 1 := (fun x v => Host.reduce IntOp.andi x v reducesTo_S128x64_S_d0_1 h_S_) main_v52 main_c_20
  let main_v54 : IVec S_ 1 := andi main_v49 main_v53
  let main_v55 : FVec F S128 .f32 := Host.absf main_arg11
  let main_cst_21 : FVec F S_ .f32 := constant S_ .f32 0x7F800000#32
  let main_v56 : FVec F S128 .f32 := broadcastInDim S128 ![] bcast_S_S128 main_cst_21
  let main_v57 : IVec S128 1 := cmpf .olt main_v55 main_v56
  let main_c_22 : IVec S_ 1 := constantI S_ 1 1#1
  let main_v58 : IVec S_ 1 := (fun x v => Host.reduce IntOp.andi x v reducesTo_S128_S_d0 h_S_) main_v57 main_c_22
  let main_v59 : IVec S_ 1 := andi main_v54 main_v58
  let main_v60 : FVec F S128 .f32 := Host.absf main_arg12
  let main_cst_23 : FVec F S_ .f32 := constant S_ .f32 0x7F800000#32
  let main_v61 : FVec F S128 .f32 := broadcastInDim S128 ![] bcast_S_S128 main_cst_23
  let main_v62 : IVec S128 1 := cmpf .olt main_v60 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v59 main_v63
  let main_v65 : FVec F S128 .f32 := Host.absf main_arg13
  let main_cst_25 : FVec F S_ .f32 := constant S_ .f32 0x7F800000#32
  let main_v66 : FVec F S128 .f32 := broadcastInDim S128 ![] bcast_S_S128 main_cst_25
  let main_v67 : IVec S128 1 := cmpf .olt main_v65 main_v66
  fn_part4 (F := F) main_v64 main_v67

def fn_part2 {F : FTy → Type} [FloatOps F] (main_arg7 : FVec F S64 .f32) (main_arg8 : FVec F S64 .f32) (main_arg9 : FVec F S64 .f32) (main_arg10 : FVec F S128x64 .f32) (main_arg11 : FVec F S128 .f32) (main_arg12 : FVec F S128 .f32) (main_arg13 : FVec F S128 .f32) (main_v29 : IVec S_ 1) (main_v32 : IVec S64x64 1) (main_c_12 : IVec S_ 1) : IVec S_ 1 :=
  let main_v33 : IVec S_ 1 := (fun x v => Host.reduce IntOp.andi x v reducesTo_S64x64_S_d0_1 h_S_) main_v32 main_c_12
  let main_v34 : IVec S_ 1 := andi main_v29 main_v33
  let main_v35 : FVec F S64 .f32 := Host.absf main_arg7
  let main_cst_13 : FVec F S_ .f32 := constant S_ .f32 0x7F800000#32
  let main_v36 : FVec F S64 .f32 := broadcastInDim S64 ![] bcast_S_S64 main_cst_13
  let main_v37 : IVec S64 1 := cmpf .olt main_v35 main_v36
  let main_c_14 : IVec S_ 1 := constantI S_ 1 1#1
  let main_v38 : IVec S_ 1 := (fun x v => Host.reduce IntOp.andi x v reducesTo_S64_S_d0 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg9
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S128x64 .f32 := Host.absf main_arg10
  fn_part3 (F := F) main_arg11 main_arg12 main_arg13 main_v49 main_v50

def fn_part1 {F : FTy → Type} [FloatOps F] (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S128x64 .f32) (main_arg11 : FVec F S128 .f32) (main_arg12 : FVec F S128 .f32) (main_arg13 : FVec F S128 .f32) (main_v14 : IVec S_ 1) (main_v15 : FVec F S64 .f32) (main_cst_5 : FVec F S_ .f32) : IVec S_ 1 :=
  let main_v16 : FVec F S64 .f32 := broadcastInDim S64 ![] bcast_S_S64 main_cst_5
  let main_v17 : IVec S64 1 := cmpf .olt main_v15 main_v16
  let main_c_6 : IVec S_ 1 := constantI S_ 1 1#1
  let main_v18 : IVec S_ 1 := (fun x v => Host.reduce IntOp.andi x v reducesTo_S64_S_d0 h_S_) main_v17 main_c_6
  let main_v19 : IVec S_ 1 := andi main_v14 main_v18
  let main_v20 : FVec F S64 .f32 := Host.absf main_arg4
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S64x64 .f32 := Host.absf main_arg6
  let main_cst_11 : FVec F S_ .f32 := constant S_ .f32 0x7F800000#32
  let main_v31 : FVec F S64x64 .f32 := broadcastInDim S64x64 ![] bcast_S_S64x64 main_cst_11
  let main_v32 : IVec S64x64 1 := cmpf .olt main_v30 main_v31
  let main_c_12 : IVec S_ 1 := constantI S_ 1 1#1
  fn_part2 (F := F) main_arg7 main_arg8 main_arg9 main_arg10 main_arg11 main_arg12 main_arg13 main_v29 main_v32 main_c_12

def fn {F : FTy → Type} [FloatOps F] (main_arg0 : FVec F S131072x128 .f32) (main_arg1 : FVec F S8x3x512 .f32) (main_arg2 : FVec F S64x67 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) (main_arg10 : FVec F S128x64 .f32) (main_arg11 : FVec F S128 .f32) (main_arg12 : FVec F S128 .f32) (main_arg13 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_c_0 : IVec S_ 1 := constantI S_ 1 1#1
  let main_v4 : IVec S_ 1 := andi main_c_0 main_v3
  let main_v5 : FVec F S8x3x512 .f32 := Host.absf main_arg1
  let main_cst_1 : FVec F S_ .f32 := constant S_ .f32 0x7F800000#32
  let main_v6 : FVec F S8x3x512 .f32 := broadcastInDim S8x3x512 ![] bcast_S_S8x3x512 main_cst_1
  let main_v7 : IVec S8x3x512 1 := cmpf .olt main_v5 main_v6
  let main_c_2 : IVec S_ 1 := constantI S_ 1 1#1
  let main_v8 : IVec S_ 1 := (fun x v => Host.reduce IntOp.andi x v reducesTo_S8x3x512_S_d0_1_2 h_S_) main_v7 main_c_2
  let main_v9 : IVec S_ 1 := andi main_v4 main_v8
  let main_v10 : FVec F S64x67 .f32 := Host.absf main_arg2
  let main_cst_3 : FVec F S_ .f32 := constant S_ .f32 0x7F800000#32
  let main_v11 : FVec F S64x67 .f32 := broadcastInDim S64x67 ![] bcast_S_S64x67 main_cst_3
  let main_v12 : IVec S64x67 1 := cmpf .olt main_v10 main_v11
  let main_c_4 : IVec S_ 1 := constantI S_ 1 1#1
  let main_v13 : IVec S_ 1 := (fun x v => Host.reduce IntOp.andi x v reducesTo_S64x67_S_d0_1 h_S_) main_v12 main_c_4
  let main_v14 : IVec S_ 1 := andi main_v9 main_v13
  let main_v15 : FVec F S64 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_v14 main_v15 main_cst_5
-- ==== Pre_finite_group.lean ====
abbrev S8x3x512 : Shape := ⟨3, ![8, 3, 512]⟩
abbrev S8x3x4096 : Shape := ⟨3, ![8, 3, 4096]⟩
abbrev S8x64x4096 : Shape := ⟨3, ![8, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S_ : Shape := ⟨0, ![]⟩

class Facts : Prop where
  bcast_S_S8x3x512 : S_.BroadcastsInDim S8x3x512 (![] : Fin 0 → Fin S8x3x512.rank)
  reducesTo_S8x3x512_S_d0_1_2 : S8x3x512.ReducesTo [0, 1, 2] S_
  h_S_ : 0 < S_.numel
  bcast_S_S8x3x4096 : S_.BroadcastsInDim S8x3x4096 (![] : Fin 0 → Fin S8x3x4096.rank)
  reducesTo_S8x3x4096_S_d0_1_2 : S8x3x4096.ReducesTo [0, 1, 2] S_
  bcast_S_S8x64x4096 : S_.BroadcastsInDim S8x64x4096 (![] : Fin 0 → Fin S8x64x4096.rank)
  reducesTo_S8x64x4096_S_d0_1_2 : S8x64x4096.ReducesTo [0, 1, 2] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v64 : IVec S_ 1) (main_v67 : IVec S128 1) : IVec S_ 1 :=
  let main_c_26 : IVec S_ 1 := constantI S_ 1 1#1
  let main_v68 : IVec S_ 1 := (fun x v => Host.reduce IntOp.andi x v reducesTo_S128_S_d0 h_S_) main_v67 main_c_26
  let main_v69 : IVec S_ 1 := andi main_v64 main_v68
  let main_v70 : FVec F S128 .f32 := Host.absf main_arg14
  let main_cst_27 : FVec F S_ .f32 := constant S_ .f32 0x7F800000#32
  let main_v71 : FVec F S128 .f32 := broadcastInDim S128 ![] bcast_S_S128 main_cst_27
  let main_v72 : IVec S128 1 := cmpf .olt main_v70 main_v71
  let main_c_28 : IVec S_ 1 := constantI S_ 1 1#1
  let main_v73 : IVec S_ 1 := (fun x v => Host.reduce IntOp.andi x v reducesTo_S128_S_d0 h_S_) main_v72 main_c_28
  let main_v74 : IVec S_ 1 := andi main_v69 main_v73
  main_v74

def fn_part3 {F : FTy → Type} [FloatOps F] (main_arg11 : FVec F S128x64 .f32) (main_arg12 : FVec F S128 .f32) (main_arg13 : FVec F S128 .f32) (main_arg14 : FVec F S128 .f32) (main_v49 : IVec S_ 1) (main_v50 : FVec F S64 .f32) : IVec S_ 1 :=
  let main_cst_19 : FVec F S_ .f32 := constant S_ .f32 0x7F800000#32
  let main_v51 : FVec F S64 .f32 := broadcastInDim S64 ![] bcast_S_S64 main_cst_19
  let main_v52 : IVec S64 1 := cmpf .olt main_v50 main_v51
  let main_c_20 : IVec S_ 1 := constantI S_ 1 1#1
  let main_v53 : IVec S_ 1 := (fun x v => Host.reduce IntOp.andi x v reducesTo_S64_S_d0 h_S_) main_v52 main_c_20
  let main_v54 : IVec S_ 1 := andi main_v49 main_v53
  let main_v55 : FVec F S128x64 .f32 := Host.absf main_arg11
  let main_cst_21 : FVec F S_ .f32 := constant S_ .f32 0x7F800000#32
  let main_v56 : FVec F S128x64 .f32 := broadcastInDim S128x64 ![] bcast_S_S128x64 main_cst_21
  let main_v57 : IVec S128x64 1 := cmpf .olt main_v55 main_v56
  let main_c_22 : IVec S_ 1 := constantI S_ 1 1#1
  let main_v58 : IVec S_ 1 := (fun x v => Host.reduce IntOp.andi x v reducesTo_S128x64_S_d0_1 h_S_) main_v57 main_c_22
  let main_v59 : IVec S_ 1 := andi main_v54 main_v58
  let main_v60 : FVec F S128 .f32 := Host.absf main_arg12
  let main_cst_23 : FVec F S_ .f32 := constant S_ .f32 0x7F800000#32
  let main_v61 : FVec F S128 .f32 := broadcastInDim S128 ![] bcast_S_S128 main_cst_23
  let main_v62 : IVec S128 1 := cmpf .olt main_v60 main_v61
  let main_c_24 : IVec S_ 1 := constantI S_ 1 1#1
  let main_v63 : IVec S_ 1 := (fun x v => Host.reduce IntOp.andi x v reducesTo_S128_S_d0 h_S_) main_v62 main_c_24
  let main_v64 : IVec S_ 1 := andi main_v59 main_v63
  let main_v65 : FVec F S128 .f32 := Host.absf main_arg13
  let main_cst_25 : FVec F S_ .f32 := constant S_ .f32 0x7F800000#32
  let main_v66 : FVec F S128 .f32 := broadcastInDim S128 ![] bcast_S_S128 main_cst_25
  let main_v67 : IVec S128 1 := cmpf .olt main_v65 main_v66
  fn_part4 (F := F) main_arg14 main_v64 main_v67

def fn_part2 {F : FTy → Type} [FloatOps F] (main_arg7 : FVec F S64x64 .f32) (main_arg8 : FVec F S64 .f32) (main_arg9 : FVec F S64 .f32) (main_arg10 : FVec F S64 .f32) (main_arg11 : FVec F S128x64 .f32) (main_arg12 : FVec F S128 .f32) (main_arg13 : FVec F S128 .f32) (main_arg14 : FVec F S128 .f32) (main_v29 : IVec S_ 1) (main_v32 : IVec S64 1) (main_c_12 : IVec S_ 1) : IVec S_ 1 :=
  let main_v33 : IVec S_ 1 := (fun x v => Host.reduce IntOp.andi x v reducesTo_S64_S_d0 h_S_) main_v32 main_c_12
  let main_v34 : IVec S_ 1 := andi main_v29 main_v33
  let main_v35 : FVec F S64x64 .f32 := Host.absf main_arg7
  let main_cst_13 : FVec F S_ .f32 := constant S_ .f32 0x7F800000#32
  let main_v36 : FVec F S64x64 .f32 := broadcastInDim S64x64 ![] bcast_S_S64x64 main_cst_13
  let main_v37 : IVec S64x64 1 := cmpf .olt main_v35 main_v36
  let main_c_14 : IVec S_ 1 := constantI S_ 1 1#1
  let main_v38 : IVec S_ 1 := (fun x v => Host.reduce IntOp.andi x v reducesTo_S64x64_S_d0_1 h_S_) main_v37 main_c_14
  let main_v39 : IVec S_ 1 := andi main_v34 main_v38
  let main_v40 : FVec F S64 .f32 := Host.absf main_arg8
  let main_cst_15 : FVec F S_ .f32 := constant S_ .f32 0x7F800000#32
  let main_v41 : FVec F S64 .f32 := broadcastInDim S64 ![] bcast_S_S64 main_cst_15
  let main_v42 : IVec S64 1 := cmpf .olt main_v40 main_v41
  let main_c_16 : IVec S_ 1 := constantI S_ 1 1#1
  let main_v43 : IVec S_ 1 := (fun x v => Host.reduce IntOp.andi x v reducesTo_S64_S_d0 h_S_) main_v42 main_c_16
  let main_v44 : IVec S_ 1 := andi main_v39 main_v43
  let main_v45 : FVec F S64 .f32 := Host.absf main_arg9
  let main_cst_17 : FVec F S_ .f32 := constant S_ .f32 0x7F800000#32
  let main_v46 : FVec F S64 .f32 := broadcastInDim S64 ![] bcast_S_S64 main_cst_17
  let main_v47 : IVec S64 1 := cmpf .olt main_v45 main_v46
  let main_c_18 : IVec S_ 1 := constantI S_ 1 1#1
  let main_v48 : IVec S_ 1 := (fun x v => Host.reduce IntOp.andi x v reducesTo_S64_S_d0 h_S_) main_v47 main_c_18
  let main_v49 : IVec S_ 1 := andi main_v44 main_v48
  let main_v50 : FVec F S64 .f32 := Host.absf main_arg10
  fn_part3 (F := F) main_arg11 main_arg12 main_arg13 main_arg14 main_v49 main_v50

def fn_part1 {F : FTy → Type} [FloatOps F] (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S128x64 .f32) (main_arg12 : FVec F S128 .f32) (main_arg13 : FVec F S128 .f32) (main_arg14 : FVec F S128 .f32) (main_v14 : IVec S_ 1) (main_v15 : FVec F S64x67 .f32) (main_cst_5 : FVec F S_ .f32) : IVec S_ 1 :=
  let main_v16 : FVec F S64x67 .f32 := broadcastInDim S64x67 ![] bcast_S_S64x67 main_cst_5
  let main_v17 : IVec S64x67 1 := cmpf .olt main_v15 main_v16
  let main_c_6 : IVec S_ 1 := constantI S_ 1 1#1
  let main_v18 : IVec S_ 1 := (fun x v => Host.reduce IntOp.andi x v reducesTo_S64x67_S_d0_1 h_S_) main_v17 main_c_6
  let main_v19 : IVec S_ 1 := andi main_v14 main_v18
  let main_v20 : FVec F S64 .f32 := Host.absf main_arg4
  let main_cst_7 : FVec F S_ .f32 := constant S_ .f32 0x7F800000#32
  let main_v21 : FVec F S64 .f32 := broadcastInDim S64 ![] bcast_S_S64 main_cst_7
  let main_v22 : IVec S64 1 := cmpf .olt main_v20 main_v21
  let main_c_8 : IVec S_ 1 := constantI S_ 1 1#1
  let main_v23 : IVec S_ 1 := (fun x v => Host.reduce IntOp.andi x v reducesTo_S64_S_d0 h_S_) main_v22 main_c_8
  let main_v24 : IVec S_ 1 := andi main_v19 main_v23
  let main_v25 : FVec F S64 .f32 := Host.absf main_arg5
  let main_cst_9 : FVec F S_ .f32 := constant S_ .f32 0x7F800000#32
  let main_v26 : FVec F S64 .f32 := broadcastInDim S64 ![] bcast_S_S64 main_cst_9
  let main_v27 : IVec S64 1 := cmpf .olt main_v25 main_v26
  let main_c_10 : IVec S_ 1 := constantI S_ 1 1#1
  let main_v28 : IVec S_ 1 := (fun x v => Host.reduce IntOp.andi x v reducesTo_S64_S_d0 h_S_) main_v27 main_c_10
  let main_v29 : IVec S_ 1 := andi main_v24 main_v28
  let main_v30 : FVec F S64 .f32 := Host.absf main_arg6
  let main_cst_11 : FVec F S_ .f32 := constant S_ .f32 0x7F800000#32
  let main_v31 : FVec F S64 .f32 := broadcastInDim S64 ![] bcast_S_S64 main_cst_11
  let main_v32 : IVec S64 1 := cmpf .olt main_v30 main_v31
  let main_c_12 : IVec S_ 1 := constantI S_ 1 1#1
  fn_part2 (F := F) main_arg7 main_arg8 main_arg9 main_arg10 main_arg11 main_arg12 main_arg13 main_arg14 main_v29 main_v32 main_c_12

def fn {F : FTy → Type} [FloatOps F] (main_arg0 : FVec F S8x3x512 .f32) (main_arg1 : FVec F S8x3x4096 .f32) (main_arg2 : FVec F S8x64x4096 .f32) (main_arg3 : FVec F S64x67 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S128x64 .f32) (main_arg12 : FVec F S128 .f32) (main_arg13 : FVec F S128 .f32) (main_arg14 : FVec F S128 .f32) : IVec S_ 1 :=
  let main_v0 : FVec F S8x3x512 .f32 := Host.absf main_arg0
  let main_cst : FVec F S_ .f32 := constant S_ .f32 0x7F800000#32
  let main_v1 : FVec F S8x3x512 .f32 := broadcastInDim S8x3x512 ![] bcast_S_S8x3x512 main_cst
  let main_v2 : IVec S8x3x512 1 := cmpf .olt main_v0 main_v1
  let main_c : IVec S_ 1 := constantI S_ 1 1#1
  let main_v3 : IVec S_ 1 := (fun x v => Host.reduce IntOp.andi x v reducesTo_S8x3x512_S_d0_1_2 h_S_) main_v2 main_c
  let main_c_0 : IVec S_ 1 := constantI S_ 1 1#1
  let main_v4 : IVec S_ 1 := andi main_c_0 main_v3
  let main_v5 : FVec F S8x3x4096 .f32 := Host.absf main_arg1
  let main_cst_1 : FVec F S_ .f32 := constant S_ .f32 0x7F800000#32
  let main_v6 : FVec F S8x3x4096 .f32 := broadcastInDim S8x3x4096 ![] bcast_S_S8x3x4096 main_cst_1
  let main_v7 : IVec S8x3x4096 1 := cmpf .olt main_v5 main_v6
  let main_c_2 : IVec S_ 1 := constantI S_ 1 1#1
  let main_v8 : IVec S_ 1 := (fun x v => Host.reduce IntOp.andi x v reducesTo_S8x3x4096_S_d0_1_2 h_S_) main_v7 main_c_2
  let main_v9 : IVec S_ 1 := andi main_v4 main_v8
  let main_v10 : FVec F S8x64x4096 .f32 := Host.absf main_arg2
  let main_cst_3 : FVec F S_ .f32 := constant S_ .f32 0x7F800000#32
  let main_v11 : FVec F S8x64x4096 .f32 := broadcastInDim S8x64x4096 ![] bcast_S_S8x64x4096 main_cst_3
  let main_v12 : IVec S8x64x4096 1 := cmpf .olt main_v10 main_v11
  let main_c_4 : IVec S_ 1 := constantI S_ 1 1#1
  let main_v13 : IVec S_ 1 := (fun x v => Host.reduce IntOp.andi x v reducesTo_S8x64x4096_S_d0_1_2 h_S_) main_v12 main_c_4
  let main_v14 : IVec S_ 1 := andi main_v9 main_v13
  let main_v15 : FVec F S64x67 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_arg14 main_v14 main_v15 main_cst_5
-- ==== Pre_finite_points.lean ====
abbrev S8x3x512 : Shape := ⟨3, ![8, 3, 512]⟩
abbrev S8x3x4096 : Shape := ⟨3, ![8, 3, 4096]⟩
abbrev S_ : Shape := ⟨0, ![]⟩

class Facts : Prop where
  bcast_S_S8x3x512 : S_.BroadcastsInDim S8x3x512 (![] : Fin 0 → Fin S8x3x512.rank)
  reducesTo_S8x3x512_S_d0_1_2 : S8x3x512.ReducesTo [0, 1, 2] S_
  h_S_ : 0 < S_.numel
  bcast_S_S8x3x4096 : S_.BroadcastsInDim S8x3x4096 (![] : Fin 0 → Fin S8x3x4096.rank)
  reducesTo_S8x3x4096_S_d0_1_2 : S8x3x4096.ReducesTo [0, 1, 2] S_

variable [Facts]

def fn {F : FTy → Type} [FloatOps F] (main_arg0 : FVec F S8x3x512 .f32) (main_arg1 : FVec F S8x3x4096 .f32) : IVec S_ 1 :=
  let main_v0 : FVec F S8x3x512 .f32 := Host.absf main_arg0
  let main_cst : FVec F S_ .f32 := constant S_ .f32 0x7F800000#32
  let main_v1 : FVec F S8x3x512 .f32 := broadcastInDim S8x3x512 ![] bcast_S_S8x3x512 main_cst
  let main_v2 : IVec S8x3x512 1 := cmpf .olt main_v0 main_v1
  let main_c : IVec S_ 1 := constantI S_ 1 1#1
  let main_v3 : IVec S_ 1 := (fun x v => Host.reduce IntOp.andi x v reducesTo_S8x3x512_S_d0_1_2 h_S_) main_v2 main_c
  let main_v4 : FVec F S8x3x4096 .f32 := Host.absf main_arg1
  let main_cst_0 : FVec F S_ .f32 := constant S_ .f32 0x7F800000#32
  let main_v5 : FVec F S8x3x4096 .f32 := broadcastInDim S8x3x4096 ![] bcast_S_S8x3x4096 main_cst_0
  let main_v6 : IVec S8x3x4096 1 := cmpf .olt main_v4 main_v5
  let main_c_1 : IVec S_ 1 := constantI S_ 1 1#1
  let main_v7 : IVec S_ 1 := (fun x v => Host.reduce IntOp.andi x v reducesTo_S8x3x4096_S_d0_1_2 h_S_) main_v6 main_c_1
  let main_v8 : IVec S_ 1 := andi main_v3 main_v7
  main_v8
-- ==== Pre_in_range.lean ====
abbrev S8x3x4096 : Shape := ⟨3, ![8, 3, 4096]⟩
abbrev S8x64x4096 : Shape := ⟨3, ![8, 64, 4096]⟩
abbrev S8x512x32 : Shape := ⟨3, ![8, 512, 32]⟩
abbrev S_ : Shape := ⟨0, ![]⟩

class Facts : Prop where
  bcast_S_S8x512x32 : S_.BroadcastsInDim S8x512x32 (![] : Fin 0 → Fin S8x512x32.rank)
  reducesTo_S8x512x32_S_d0_1_2 : S8x512x32.ReducesTo [0, 1, 2] S_
  h_S_ : 0 < S_.numel

variable [Facts]

def fn {F : FTy → Type} [FloatOps F] (main_arg0 : FVec F S8x3x4096 .f32) (main_arg1 : FVec F S8x64x4096 .f32) (main_arg2 : IVec S8x512x32 32) : IVec S_ 1 :=
  let main_c : IVec S_ 32 := constantI S_ 32 0#32
  let main_v0 : IVec S8x512x32 32 := broadcastInDim S8x512x32 ![] bcast_S_S8x512x32 main_c
  let main_v1 : IVec S8x512x32 1 := cmpi .sge main_arg2 main_v0
  let main_c_0 : IVec S_ 32 := constantI S_ 32 32768#32
  let main_v2 : IVec S8x512x32 32 := broadcastInDim S8x512x32 ![] bcast_S_S8x512x32 main_c_0
  let main_v3 : IVec S8x512x32 1 := cmpi .slt main_arg2 main_v2
  let main_v4 : IVec S8x512x32 1 := andi main_v1 main_v3
  let main_c_1 : IVec S_ 1 := constantI S_ 1 1#1
  let main_v5 : IVec S_ 1 := (fun x v => Host.reduce IntOp.andi x v reducesTo_S8x512x32_S_d0_1_2 h_S_) main_v4 main_c_1
  main_v5
-- ==== Kernel.lean ====
abbrev S8x3x4096 : Shape := ⟨3, ![8, 3, 4096]⟩
abbrev S8x64x4096 : Shape := ⟨3, ![8, 64, 4096]⟩
abbrev S8x512x32 : Shape := ⟨3, ![8, 512, 32]⟩
abbrev S8x4096x3 : Shape := ⟨3, ![8, 4096, 3]⟩
abbrev S32768x3 : Shape := ⟨2, ![32768, 3]⟩
abbrev S8x4096x64 : Shape := ⟨3, ![8, 4096, 64]⟩
abbrev S32768x64 : Shape := ⟨2, ![32768, 64]⟩
abbrev S_ : Shape := ⟨0, ![]⟩
abbrev S32768x61 : Shape := ⟨2, ![32768, 61]⟩
abbrev S32768x128 : Shape := ⟨2, ![32768, 128]⟩
abbrev S1024x128 : Shape := ⟨2, ![1024, 128]⟩
abbrev S131072x128 : Shape := ⟨2, ![131072, 128]⟩
abbrev S32x128 : Shape := ⟨2, ![32, 128]⟩
abbrev S128x128 : Shape := ⟨2, ![128, 128]⟩
abbrev S1x128 : Shape := ⟨2, ![1, 128]⟩
abbrev S128 : Shape := ⟨1, ![128]⟩

abbrev nBuf : Table → Nat
  | .hbm => 12
  | .local .scVector .vmem => 2
  | _ => 0

abbrev bufTy : (tb : Table) → Fin (nBuf tb) → BufTy
  | .hbm, ⟨0, _⟩ => ⟨S8x3x4096, .f32⟩
  | .hbm, ⟨1, _⟩ => ⟨S8x64x4096, .f32⟩
  | .hbm, ⟨2, _⟩ => ⟨S8x512x32, .i32⟩
  | .hbm, ⟨3, _⟩ => ⟨S8x4096x3, .f32⟩
  | .hbm, ⟨4, _⟩ => ⟨S32768x3, .f32⟩
  | .hbm, ⟨5, _⟩ => ⟨S8x4096x64, .f32⟩
  | .hbm, ⟨6, _⟩ => ⟨S32768x64, .f32⟩
  | .hbm, ⟨7, _⟩ => ⟨S_, .f32⟩
  | .hbm, ⟨8, _⟩ => ⟨S32768x61, .f32⟩
  | .hbm, ⟨9, _⟩ => ⟨S32768x128, .f32⟩
  | .hbm, ⟨10, _⟩ => ⟨S1024x128, .i32⟩
  | .hbm, ⟨11, _⟩ => ⟨S131072x128, .f32⟩
  | .local .scVector .vmem, ⟨0, _⟩ => ⟨S32x128, .i32⟩
  | .local .scVector .vmem, ⟨1, _⟩ => ⟨S128x128, .f32⟩
  | _, _ => ⟨S8x3x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v5_scv : Ref sig .scVector := ⟨.hbm, 9, rfl⟩
abbrev main_v6_scv : Ref sig .scVector := ⟨.hbm, 10, rfl⟩
abbrev main_v7_scv : Ref sig .scVector := ⟨.hbm, 11, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  ![v2.toNat, 0]
@[reducible] def k0_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_3 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v11 : BitVec 32 := Scalar.muli v1 c4096_i32
  let c0_i32_0 : BitVec 32 := 0#32
  let c1_i32 : BitVec 32 := 1#32
  let arg8 : BitVec 32 := Scf.iv c0_i32_0 c1_i32 k0_t1
  let c128_i32 : BitVec 32 := 128#32
  let v12 : BitVec 32 := Scalar.muli arg8 c128_i32
  let v13 : BitVec 32 := Scalar.addi v11 v12
  let c0_i32_10_r1 : BitVec 32 := 0#32
  ![v13.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x3x4096 : Shape := ⟨3, ![8, 3, 4096]⟩
abbrev S8x64x4096 : Shape := ⟨3, ![8, 64, 4096]⟩
abbrev S8x512x32 : Shape := ⟨3, ![8, 512, 32]⟩
abbrev S8x4096x3 : Shape := ⟨3, ![8, 4096, 3]⟩
abbrev S8x4096x64 : Shape := ⟨3, ![8, 4096, 64]⟩
abbrev S_ : Shape := ⟨0, ![]⟩
abbrev S8x4096x61 : Shape := ⟨3, ![8, 4096, 61]⟩
abbrev S8x4096x128 : Shape := ⟨3, ![8, 4096, 128]⟩
abbrev S32768x128 : Shape := ⟨2, ![32768, 128]⟩
abbrev S131072 : Shape := ⟨1, ![131072]⟩
abbrev S131072x1 : Shape := ⟨2, ![131072, 1]⟩
abbrev S131072x128 : Shape := ⟨2, ![131072, 128]⟩

abbrev nBuf : Space → Nat
  | .hbm => 12
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x64x4096, .f32⟩
  | .hbm, ⟨2, _⟩ => ⟨S8x512x32, .i32⟩
  | .hbm, ⟨3, _⟩ => ⟨S8x4096x3, .f32⟩
  | .hbm, ⟨4, _⟩ => ⟨S8x4096x64, .f32⟩
  | .hbm, ⟨5, _⟩ => ⟨S_, .f32⟩
  | .hbm, ⟨6, _⟩ => ⟨S8x4096x61, .f32⟩
  | .hbm, ⟨7, _⟩ => ⟨S8x4096x128, .f32⟩
  | .hbm, ⟨8, _⟩ => ⟨S32768x128, .f32⟩
  | .hbm, ⟨9, _⟩ => ⟨S131072, .i32⟩
  | .hbm, ⟨10, _⟩ => ⟨S131072x1, .i32⟩
  | .hbm, ⟨11, _⟩ => ⟨S131072x128, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Sample.lean ====
abbrev S8x3x4096 : Shape := ⟨3, ![8, 3, 4096]⟩
abbrev S8x3x512 : Shape := ⟨3, ![8, 3, 512]⟩
abbrev S8x1x4096 : Shape := ⟨3, ![8, 1, 4096]⟩
abbrev S8x4096 : Shape := ⟨2, ![8, 4096]⟩
abbrev S8x512 : Shape := ⟨2, ![8, 512]⟩
abbrev S8x1 : Shape := ⟨2, ![8, 1]⟩
abbrev S8 : Shape := ⟨1, ![8]⟩
abbrev S8x1x512 : Shape := ⟨3, ![8, 1, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x3x4096, .f32⟩
  | .hbm, ⟨1, _⟩ => ⟨S8x3x512, .f32⟩
  | .local _ .vmem, ⟨0, _⟩ => ⟨S8x3x4096, .f32⟩
  | .local _ .vmem, ⟨1, _⟩ => ⟨S8x3x512, .f32⟩
  | _, _ => ⟨S8x3x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_7 : BitVec 32 := 0#32
  let c512_i32 : BitVec 32 := 512#32
  let v11 : BitVec 32 := Scalar.addi c0_i32_7 c512_i32
  let c1_i32 : BitVec 32 := 1#32
  ⟨c0_i32_7, v11, c1_i32⟩
abbrev stage0_0 : Fin 1 → Memref sig .tc .vmem S8x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SampleRefIdeal.lean ====
abbrev S8x3x4096 : Shape := ⟨3, ![8, 3, 4096]⟩
abbrev S8x4096x3 : Shape := ⟨3, ![8, 4096, 3]⟩
abbrev S_ : Shape := ⟨0, ![]⟩
abbrev S8x4096 : Shape := ⟨2, ![8, 4096]⟩
abbrev S8 : Shape := ⟨1, ![8]⟩
abbrev S512x8 : Shape := ⟨2, ![512, 8]⟩
abbrev S8x1x1 : Shape := ⟨3, ![8, 1, 1]⟩
abbrev S1 : Shape := ⟨1, ![1]⟩
abbrev S1x1x1 : Shape := ⟨3, ![1, 1, 1]⟩
abbrev S8x1 : Shape := ⟨2, ![8, 1]⟩
abbrev S8x1x3 : Shape := ⟨3, ![8, 1, 3]⟩
abbrev S1x8 : Shape := ⟨2, ![1, 8]⟩
abbrev S8x512 : Shape := ⟨2, ![8, 512]⟩
abbrev S8x512x1 : Shape := ⟨3, ![8, 512, 1]⟩
abbrev S8x512x3 : Shape := ⟨3, ![8, 512, 3]⟩
abbrev S8x3x512 : Shape := ⟨3, ![8, 3, 512]⟩

abbrev nBuf : Space → Nat
  | .hbm => 80
  | .vmem => 0
  | .smem => 0
  | _ => 0

abbrev bufTy : (tb : Table) → Fin (tcTables nBuf tb) → BufTy
  | .hbm, ⟨0, _⟩ => ⟨S8x3x4096, .f32⟩
  | .hbm, ⟨1, _⟩ => ⟨S8x4096x3, .f32⟩
  | .hbm, ⟨2, _⟩ => ⟨S_, .f32⟩
  | .hbm, ⟨3, _⟩ => ⟨S8x4096, .f32⟩
  | .hbm, ⟨4, _⟩ => ⟨S_, .i32⟩
  | .hbm, ⟨5, _⟩ => ⟨S8, .i32⟩
  | .hbm, ⟨6, _⟩ => ⟨S_, .i32⟩
  | .hbm, ⟨7, _⟩ => ⟨S512x8, .i32⟩
  | .hbm, ⟨8, _⟩ => ⟨S_, .i32⟩
  | .hbm, ⟨9, _⟩ => ⟨S8x4096x3, .f32⟩
  | .hbm, ⟨10, _⟩ => ⟨S_, .i32⟩
  | .hbm, ⟨11, _⟩ => ⟨S8x4096, .f32⟩
  | .hbm, ⟨12, _⟩ => ⟨S8, .i32⟩
  | .hbm, ⟨13, _⟩ => ⟨S512x8, .i32⟩
  | .hbm, ⟨14, _⟩ => ⟨S_, .i32⟩
  | .hbm, ⟨15, _⟩ => ⟨S_, .i1⟩
  | .hbm, ⟨16, _⟩ => ⟨S8x1x1, .i32⟩
  | .hbm, ⟨17, _⟩ => ⟨S_, .i32⟩
  | .hbm, ⟨18, _⟩ => ⟨S8x1x1, .i32⟩
  | .hbm, ⟨19, _⟩ => ⟨S8x1x1, .i1⟩
  | .hbm, ⟨20, _⟩ => ⟨S_, .i32⟩
  | .hbm, ⟨21, _⟩ => ⟨S8x1x1, .i32⟩
  | .hbm, ⟨22, _⟩ => ⟨S8x1x1, .i32⟩
  | .hbm, ⟨23, _⟩ => ⟨S8x1x1, .i32⟩
  | .hbm, ⟨24, _⟩ => ⟨S1, .i32⟩
  | .hbm, ⟨25, _⟩ => ⟨S_, .i32⟩
  | .hbm, ⟨26, _⟩ => ⟨S8x1x1, .i32⟩
  | .hbm, ⟨27, _⟩ => ⟨S8x1x1, .i1⟩
  | .hbm, ⟨28, _⟩ => ⟨S1x1x1, .i32⟩
  | .hbm, ⟨29, _⟩ => ⟨S8x1x1, .i32⟩
  | .hbm, ⟨30, _⟩ => ⟨S8x1x1, .i1⟩
  | .hbm, ⟨31, _⟩ => ⟨S8x1x1, .i1⟩
  | .hbm, ⟨32, _⟩ => ⟨S_, .i1⟩
  | .hbm, ⟨33, _⟩ => ⟨S8x1, .i1⟩
  | .hbm, ⟨34, _⟩ => ⟨S8x1x3, .f32⟩
  | .hbm, ⟨35, _⟩ => ⟨S8x1x3, .i1⟩
  | .hbm, ⟨36, _⟩ => ⟨S_, .f32⟩
  | .hbm, ⟨37, _⟩ => ⟨S8x1x3, .f32⟩
  | .hbm, ⟨38, _⟩ => ⟨S8x1x3, .f32⟩
  | .hbm, ⟨39, _⟩ => ⟨S8x4096x3, .f32⟩
  | .hbm, ⟨40, _⟩ => ⟨S8x4096x3, .f32⟩
  | .hbm, ⟨41, _⟩ => ⟨S8x4096x3, .f32⟩
  | .hbm, ⟨42, _⟩ => ⟨S_, .f32⟩
  | .hbm, ⟨43, _⟩ => ⟨S8x4096, .f32⟩
  | .hbm, ⟨44, _⟩ => ⟨S8x4096, .f32⟩
  | .hbm, ⟨45, _⟩ => ⟨S8x4096, .i32⟩
  | .hbm, ⟨46, _⟩ => ⟨S_, .f32⟩
  | .hbm, ⟨47, _⟩ => ⟨S_, .i32⟩
  | .hbm, ⟨48, _⟩ => ⟨S8, .f32⟩
  | .hbm, ⟨49, _⟩ => ⟨S8, .i32⟩
  | .hbm, ⟨50, _⟩ => ⟨S1x8, .i32⟩
  | .hbm, ⟨51, _⟩ => ⟨S_, .i32⟩
  | .hbm, ⟨52, _⟩ => ⟨S512x8, .i32⟩
  | .hbm, ⟨53, _⟩ => ⟨S_, .i32⟩
  | .hbm, ⟨54, _⟩ => ⟨S_, .i32⟩
  | .hbm, ⟨55, _⟩ => ⟨S8x512, .i32⟩
  | .hbm, ⟨56, _⟩ => ⟨S8x512x1, .i32⟩
  | .hbm, ⟨57, _⟩ => ⟨S_, .i32⟩
  | .hbm, ⟨58, _⟩ => ⟨S8x512x1, .i32⟩
  | .hbm, ⟨59, _⟩ => ⟨S8x512x1, .i1⟩
  | .hbm, ⟨60, _⟩ => ⟨S_, .i32⟩
  | .hbm, ⟨61, _⟩ => ⟨S8x512x1, .i32⟩
  | .hbm, ⟨62, _⟩ => ⟨S8x512x1, .i32⟩
  | .hbm, ⟨63, _⟩ => ⟨S8x512x1, .i32⟩
  | .hbm, ⟨64, _⟩ => ⟨S1, .i32⟩
  | .hbm, ⟨65, _⟩ => ⟨S_, .i32⟩
  | .hbm, ⟨66, _⟩ => ⟨S8x512x1, .i32⟩
  | .hbm, ⟨67, _⟩ => ⟨S8x512x1, .i1⟩
  | .hbm, ⟨68, _⟩ => ⟨S1x1x1, .i32⟩
  | .hbm, ⟨69, _⟩ => ⟨S8x512x1, .i32⟩
  | .hbm, ⟨70, _⟩ => ⟨S8x512x1, .i1⟩
  | .hbm, ⟨71, _⟩ => ⟨S8x512x1, .i1⟩
  | .hbm, ⟨72, _⟩ => ⟨S_, .i1⟩
  | .hbm, ⟨73, _⟩ => ⟨S8x512, .i1⟩
  | .hbm, ⟨74, _⟩ => ⟨S8x512x3, .f32⟩
  | .hbm, ⟨75, _⟩ => ⟨S8x512x3, .i1⟩
  | .hbm, ⟨76, _⟩ => ⟨S_, .f32⟩
  | .hbm, ⟨77, _⟩ => ⟨S8x512x3, .f32⟩
  | .hbm, ⟨78, _⟩ => ⟨S8x512x3, .f32⟩
  | .hbm, ⟨79, _⟩ => ⟨S8x3x512, .f32⟩
  | _, _ => ⟨S8x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_c_1 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_while0c_c_6 : Ref sig .tc := ⟨.hbm, 14, rfl⟩
abbrev main_while0c_v9 : Ref sig .tc := ⟨.hbm, 15, rfl⟩
abbrev main_while0b_v9 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_call0_v1 : Ref sig .tc := ⟨.hbm, 19, rfl⟩
abbrev main_while0b_call0_c_0 : Ref sig .tc := ⟨.hbm, 20, rfl⟩
abbrev main_while0b_call0_v2 : Ref sig .tc := ⟨.hbm, 21, rfl⟩
abbrev main_while0b_call0_v3 : Ref sig .tc := ⟨.hbm, 22, rfl⟩
abbrev main_while0b_call0_v4 : Ref sig .tc := ⟨.hbm, 23, rfl⟩
abbrev main_while0b_call0_c_1 : Ref sig .tc := ⟨.hbm, 24, rfl⟩
abbrev main_while0b_call0_c_2 : Ref sig .tc := ⟨.hbm, 25, rfl⟩
abbrev main_while0b_call0_v5 : Ref sig .tc := ⟨.hbm, 26, rfl⟩
abbrev main_while0b_call0_v6 : Ref sig .tc := ⟨.hbm, 27, rfl⟩
abbrev main_while0b_call0_v7 : Ref sig .tc := ⟨.hbm, 28, rfl⟩
abbrev main_while0b_call0_v8 : Ref sig .tc := ⟨.hbm, 29, rfl⟩
abbrev main_while0b_call0_v9 : Ref sig .tc := ⟨.hbm, 30, rfl⟩
abbrev main_while0b_call0_v10 : Ref sig .tc := ⟨.hbm, 31, rfl⟩
abbrev main_while0b_call0_c_3 : Ref sig .tc := ⟨.hbm, 32, rfl⟩
abbrev main_while0b_call0_v11 : Ref sig .tc := ⟨.hbm, 33, rfl⟩
abbrev main_while0b_call0_v12 : Ref sig .tc := ⟨.hbm, 34, rfl⟩
abbrev main_while0b_call0_v13 : Ref sig .tc := ⟨.hbm, 35, rfl⟩
abbrev main_while0b_call0_cst : Ref sig .tc := ⟨.hbm, 36, rfl⟩
abbrev main_while0b_call0_v14 : Ref sig .tc := ⟨.hbm, 37, rfl⟩
abbrev main_while0b_v10 : Ref sig .tc := ⟨.hbm, 38, rfl⟩
abbrev main_while0b_v11 : Ref sig .tc := ⟨.hbm, 39, rfl⟩
abbrev main_while0b_v12 : Ref sig .tc := ⟨.hbm, 40, rfl⟩
abbrev main_while0b_v13 : Ref sig .tc := ⟨.hbm, 41, rfl⟩
abbrev main_while0b_cst_6 : Ref sig .tc := ⟨.hbm, 42, rfl⟩
abbrev main_while0b_v14 : Ref sig .tc := ⟨.hbm, 43, rfl⟩
abbrev main_while0b_v15 : Ref sig .tc := ⟨.hbm, 44, rfl⟩
abbrev main_while0b_call1_v0 : Ref sig .tc := ⟨.hbm, 45, rfl⟩
abbrev main_while0b_call1_cst : Ref sig .tc := ⟨.hbm, 46, rfl⟩
abbrev main_while0b_call1_c : Ref sig .tc := ⟨.hbm, 47, rfl⟩
abbrev main_while0b_call1_v1_0 : Ref sig .tc := ⟨.hbm, 48, rfl⟩
abbrev main_while0b_v16 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_v17 : Ref sig .tc := ⟨.hbm, 52, rfl⟩
abbrev main_while0b_c_7 : Ref sig .tc := ⟨.hbm, 53, rfl⟩
abbrev main_while0b_v18 : Ref sig .tc := ⟨.hbm, 54, rfl⟩
abbrev main_v5 : Ref sig .tc := ⟨.hbm, 55, rfl⟩
abbrev main_v6 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_c_2 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_c_3 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v7 : Ref sig .tc := ⟨.hbm, 78, rfl⟩
abbrev main_v8 : Ref sig .tc := ⟨.hbm, 79, rfl⟩

abbrev nD : Nat := 1
abbrev τ : Topo := Topo.v7x

variable {F : FTy → Type} [FloatOps F]

abbrev main_while0_count : Scf.Loop 32 := ⟨0#32, 512#32, 1#32⟩
-- ==== Search.lean ====
abbrev S8x3x512 : Shape := ⟨3, ![8, 3, 512]⟩
abbrev S8x3x4096 : Shape := ⟨3, ![8, 3, 4096]⟩
abbrev S8x512x32 : Shape := ⟨3, ![8, 512, 32]⟩
abbrev S1x3x512 : Shape := ⟨3, ![1, 3, 512]⟩
abbrev S1x3x4096 : Shape := ⟨3, ![1, 3, 4096]⟩
abbrev S1x512x32 : Shape := ⟨3, ![1, 512, 32]⟩
abbrev S512x4096 : Shape := ⟨2, ![512, 4096]⟩
abbrev S3x512 : Shape := ⟨2, ![3, 512]⟩
abbrev S3x4096 : Shape := ⟨2, ![3, 4096]⟩
abbrev S512x3 : Shape := ⟨2, ![512, 3]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x32 : Shape := ⟨2, ![512, 32]⟩

abbrev nBuf : Space → Nat
  | .hbm => 3
  | .vmem => 7
  | .smem => 0
  | _ => 0

abbrev bufTy : (tb : Table) → Fin (tcTables nBuf tb) → BufTy
  | .hbm, ⟨0, _⟩ => ⟨S8x3x512, .f32⟩
  | .hbm, ⟨1, _⟩ => ⟨S8x3x4096, .f32⟩
  | .hbm, ⟨2, _⟩ => ⟨S8x512x32, .i32⟩
  | .local _ .vmem, ⟨0, _⟩ => ⟨S1x3x512, .f32⟩
  | .local _ .vmem, ⟨1, _⟩ => ⟨S1x3x512, .f32⟩
  | .local _ .vmem, ⟨2, _⟩ => ⟨S1x3x4096, .f32⟩
  | .local _ .vmem, ⟨3, _⟩ => ⟨S1x3x4096, .f32⟩
  | .local _ .vmem, ⟨4, _⟩ => ⟨S1x512x32, .i32⟩
  | .local _ .vmem, ⟨5, _⟩ => ⟨S1x512x32, .i32⟩
  | .local _ .vmem, ⟨6, _⟩ => ⟨S512x4096, .f32⟩
  | _, _ => ⟨S8x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_10 : BitVec 32 := 0#32
  let c32_i32 : BitVec 32 := 32#32
  let v24 : BitVec 32 := Scalar.addi c0_i32_10 c32_i32
  let c1_i32 : BitVec 32 := 1#32
  ⟨c0_i32_10, v24, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SearchRefIdeal.lean ====
abbrev S8x3x512 : Shape := ⟨3, ![8, 3, 512]⟩
abbrev S8x3x4096 : Shape := ⟨3, ![8, 3, 4096]⟩
abbrev S8x4096x3 : Shape := ⟨3, ![8, 4096, 3]⟩
abbrev S8x512x3 : Shape := ⟨3, ![8, 512, 3]⟩
abbrev S8x512x4096 : Shape := ⟨3, ![8, 512, 4096]⟩
abbrev S_ : Shape := ⟨0, ![]⟩
abbrev S8x512 : Shape := ⟨2, ![8, 512]⟩
abbrev S8x512x1 : Shape := ⟨3, ![8, 512, 1]⟩
abbrev S8x4096 : Shape := ⟨2, ![8, 4096]⟩
abbrev S8x1x4096 : Shape := ⟨3, ![8, 1, 4096]⟩
abbrev S8x512x32 : Shape := ⟨3, ![8, 512, 32]⟩
abbrev S8 : Shape := ⟨1, ![8]⟩
abbrev S8x1x1 : Shape := ⟨3, ![8, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S8x3x512, .f32⟩
  | .hbm, ⟨1, _⟩ => ⟨S8x3x4096, .f32⟩
  | .hbm, ⟨2, _⟩ => ⟨S8x4096x3, .f32⟩
  | .hbm, ⟨3, _⟩ => ⟨S8x512x3, .f32⟩
  | .hbm, ⟨4, _⟩ => ⟨S8x3x4096, .f32⟩
  | .hbm, ⟨5, _⟩ => ⟨S8x512x4096, .f32⟩
  | .hbm, ⟨6, _⟩ => ⟨S_, .f32⟩
  | .hbm, ⟨7, _⟩ => ⟨S8x512x4096, .f32⟩
  | .hbm, ⟨8, _⟩ => ⟨S8x512x4096, .f32⟩
  | .hbm, ⟨9, _⟩ => ⟨S8x512x3, .f32⟩
  | .hbm, ⟨10, _⟩ => ⟨S_, .f32⟩
  | .hbm, ⟨11, _⟩ => ⟨S8x512, .f32⟩
  | .hbm, ⟨12, _⟩ => ⟨S8x512x1, .f32⟩
  | .hbm, ⟨13, _⟩ => ⟨S8x512x4096, .f32⟩
  | .hbm, ⟨14, _⟩ => ⟨S8x512x4096, .f32⟩
  | .hbm, ⟨15, _⟩ => ⟨S8x4096x3, .f32⟩
  | .hbm, ⟨16, _⟩ => ⟨S_, .f32⟩
  | .hbm, ⟨17, _⟩ => ⟨S8x4096, .f32⟩
  | .hbm, ⟨18, _⟩ => ⟨S8x1x4096, .f32⟩
  | .hbm, ⟨19, _⟩ => ⟨S8x512x4096, .f32⟩
  | .hbm, ⟨20, _⟩ => ⟨S8x512x4096, .f32⟩
  | .hbm, ⟨21, _⟩ => ⟨S8x512x4096, .i32⟩
  | .hbm, ⟨22, _⟩ => ⟨S8x512x4096, .f32⟩
  | .hbm, ⟨23, _⟩ => ⟨S8x512x4096, .i32⟩
  | .hbm, ⟨24, _⟩ => ⟨S8x512x32, .i32⟩
  | .hbm, ⟨25, _⟩ => ⟨S8, .i32⟩
  | .hbm, ⟨26, _⟩ => ⟨S8x1x1, .i32⟩
  | .hbm, ⟨27, _⟩ => ⟨S_, .i32⟩
  | .hbm, ⟨28, _⟩ => ⟨S8x1x1, .i32⟩
  | .hbm, ⟨29, _⟩ => ⟨S8x1x1, .i32⟩
  | .hbm, ⟨30, _⟩ => ⟨S8x512x32, .i32⟩
  | .hbm, ⟨31, _⟩ => ⟨S8x512x32, .i32⟩
  | _, _ => ⟨S8x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_v1_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Layers.lean ====
abbrev S131072x128 : Shape := ⟨2, ![131072, 128]⟩
abbrev S8x3x512 : Shape := ⟨3, ![8, 3, 512]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S8x512x3 : Shape := ⟨3, ![8, 512, 3]⟩
abbrev S4096x3 : Shape := ⟨2, ![4096, 3]⟩
abbrev S67x64 : Shape := ⟨2, ![67, 64]⟩
abbrev S_ : Shape := ⟨0, ![]⟩
abbrev S61x64 : Shape := ⟨2, ![61, 64]⟩
abbrev S1x64 : Shape := ⟨2, ![1, 64]⟩
abbrev S131072x64 : Shape := ⟨2, ![131072, 64]⟩
abbrev S2x64 : Shape := ⟨2, ![2, 64]⟩
abbrev S4096x128 : Shape := ⟨2, ![4096, 128]⟩
abbrev S128x3 : Shape := ⟨2, ![128, 3]⟩
abbrev S4096x64 : Shape := ⟨2, ![4096, 64]⟩
abbrev S3x64 : Shape := ⟨2, ![3, 64]⟩
abbrev S128x1x64 : Shape := ⟨3, ![128, 1, 64]⟩
abbrev S128x32x64 : Shape := ⟨3, ![128, 32, 64]⟩
abbrev S64x128 : Shape := ⟨2, ![64, 128]⟩
abbrev S1x128 : Shape := ⟨2, ![1, 128]⟩
abbrev S2x128 : Shape := ⟨2, ![2, 128]⟩
abbrev S8x512x32x128 : Shape := ⟨4, ![8, 512, 32, 128]⟩
abbrev S8x128x32x512 : Shape := ⟨4, ![8, 128, 32, 512]⟩

abbrev nBuf : Space → Nat
  | .hbm => 40
  | .vmem => 36
  | .smem => 0
  | _ => 0

abbrev bufTy : (tb : Table) → Fin (tcTables nBuf tb) → BufTy
  | .hbm, ⟨0, _⟩ => ⟨S131072x128, .f32⟩
  | .hbm, ⟨1, _⟩ => ⟨S8x3x512, .f32⟩
  | .hbm, ⟨2, _⟩ => ⟨S64x67, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S128x64, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S8x512x3, .f32⟩
  | .hbm, ⟨15, _⟩ => ⟨S4096x3, .f32⟩
  | .hbm, ⟨16, _⟩ => ⟨S67x64, .f32⟩
  | .hbm, ⟨17, _⟩ => ⟨S_, .f32⟩
  | .hbm, ⟨18, _⟩ => ⟨S61x64, .f32⟩
  | .hbm, ⟨19, _⟩ => ⟨S128x64, .f32⟩
  | .hbm, ⟨20, _⟩ => ⟨S1x64, .f32⟩
  | .hbm, ⟨21, _⟩ => ⟨S131072x64, .f32⟩
  | .hbm, ⟨22, _⟩ => ⟨S2x64, .f32⟩
  | .hbm, ⟨23, _⟩ => ⟨S64x64, .f32⟩
  | .hbm, ⟨24, _⟩ => ⟨S1x64, .f32⟩
  | .hbm, ⟨25, _⟩ => ⟨S1x64, .f32⟩
  | .hbm, ⟨26, _⟩ => ⟨S1x64, .f32⟩
  | .hbm, ⟨27, _⟩ => ⟨S131072x64, .f32⟩
  | .hbm, ⟨28, _⟩ => ⟨S2x64, .f32⟩
  | .hbm, ⟨29, _⟩ => ⟨S64x128, .f32⟩
  | .hbm, ⟨30, _⟩ => ⟨S1x64, .f32⟩
  | .hbm, ⟨31, _⟩ => ⟨S1x64, .f32⟩
  | .hbm, ⟨32, _⟩ => ⟨S1x128, .f32⟩
  | .hbm, ⟨33, _⟩ => ⟨S131072x128, .f32⟩
  | .hbm, ⟨34, _⟩ => ⟨S2x128, .f32⟩
  | .hbm, ⟨35, _⟩ => ⟨S1x128, .f32⟩
  | .hbm, ⟨36, _⟩ => ⟨S1x128, .f32⟩
  | .hbm, ⟨37, _⟩ => ⟨S131072x128, .f32⟩
  | .hbm, ⟨38, _⟩ => ⟨S8x512x32x128, .f32⟩
  | .hbm, ⟨39, _⟩ => ⟨S8x128x32x512, .f32⟩
  | .local _ .vmem, ⟨0, _⟩ => ⟨S4096x128, .f32⟩
  | .local _ .vmem, ⟨1, _⟩ => ⟨S4096x128, .f32⟩
  | .local _ .vmem, ⟨2, _⟩ => ⟨S128x3, .f32⟩
  | .local _ .vmem, ⟨3, _⟩ => ⟨S128x3, .f32⟩
  | .local _ .vmem, ⟨4, _⟩ => ⟨S128x64, .f32⟩
  | .local _ .vmem, ⟨5, _⟩ => ⟨S1x64, .f32⟩
  | .local _ .vmem, ⟨6, _⟩ => ⟨S4096x64, .f32⟩
  | .local _ .vmem, ⟨7, _⟩ => ⟨S4096x64, .f32⟩
  | .local _ .vmem, ⟨8, _⟩ => ⟨S2x64, .f32⟩
  | .local _ .vmem, ⟨9, _⟩ => ⟨S4096x64, .f32⟩
  | .local _ .vmem, ⟨10, _⟩ => ⟨S4096x64, .f32⟩
  | .local _ .vmem, ⟨11, _⟩ => ⟨S2x64, .f32⟩
  | .local _ .vmem, ⟨12, _⟩ => ⟨S1x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S4096x64, .f32⟩
  | .local _ .vmem, ⟨17, _⟩ => ⟨S4096x64, .f32⟩
  | .local _ .vmem, ⟨18, _⟩ => ⟨S2x64, .f32⟩
  | .local _ .vmem, ⟨19, _⟩ => ⟨S4096x64, .f32⟩
  | .local _ .vmem, ⟨20, _⟩ => ⟨S4096x64, .f32⟩
  | .local _ .vmem, ⟨21, _⟩ => ⟨S2x64, .f32⟩
  | .local _ .vmem, ⟨22, _⟩ => ⟨S1x64, .f32⟩
  | .local _ .vmem, ⟨23, _⟩ => ⟨S1x64, .f32⟩
  | .local _ .vmem, ⟨24, _⟩ => ⟨S64x128, .f32⟩
  | .local _ .vmem, ⟨25, _⟩ => ⟨S1x128, .f32⟩
  | .local _ .vmem, ⟨26, _⟩ => ⟨S4096x128, .f32⟩
  | .local _ .vmem, ⟨27, _⟩ => ⟨S4096x128, .f32⟩
  | .local _ .vmem, ⟨28, _⟩ => ⟨S2x128, .f32⟩
  | .local _ .vmem, ⟨29, _⟩ => ⟨S4096x128, .f32⟩
  | .local _ .vmem, ⟨30, _⟩ => ⟨S4096x128, .f32⟩
  | .local _ .vmem, ⟨31, _⟩ => ⟨S2x128, .f32⟩
  | .local _ .vmem, ⟨32, _⟩ => ⟨S1x128, .f32⟩
  | .local _ .vmem, ⟨33, _⟩ => ⟨S1x128, .f32⟩
  | .local _ .vmem, ⟨34, _⟩ => ⟨S4096x128, .f32⟩
  | .local _ .vmem, ⟨35, _⟩ => ⟨S4096x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11_0 : Ref sig .tc := ⟨.hbm, 27, rfl⟩
abbrev main_v11_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S2x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4096x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== LayersRefIdeal.lean ====
abbrev S131072x128 : Shape := ⟨2, ![131072, 128]⟩
abbrev S8x3x512 : Shape := ⟨3, ![8, 3, 512]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S8x512x3 : Shape := ⟨3, ![8, 512, 3]⟩
abbrev S8x512x32x128 : Shape := ⟨4, ![8, 512, 32, 128]⟩
abbrev S8x512x32x3 : Shape := ⟨4, ![8, 512, 32, 3]⟩
abbrev S8x512x32x64 : Shape := ⟨4, ![8, 512, 32, 64]⟩
abbrev S8x512x1x3 : Shape := ⟨4, ![8, 512, 1, 3]⟩
abbrev S8x512x32x67 : Shape := ⟨4, ![8, 512, 32, 67]⟩
abbrev S8x67x32x512 : Shape := ⟨4, ![8, 67, 32, 512]⟩
abbrev S64x8x32x512 : Shape := ⟨4, ![64, 8, 32, 512]⟩
abbrev S8x64x32x512 : Shape := ⟨4, ![8, 64, 32, 512]⟩
abbrev S1x64x1x1 : Shape := ⟨4, ![1, 64, 1, 1]⟩
abbrev S_ : Shape := ⟨0, ![]⟩
abbrev S128x8x32x512 : Shape := ⟨4, ![128, 8, 32, 512]⟩
abbrev S8x128x32x512 : Shape := ⟨4, ![8, 128, 32, 512]⟩
abbrev S1x128x1x1 : Shape := ⟨4, ![1, 128, 1, 1]⟩

abbrev nBuf : Space → Nat
  | .hbm => 134
  | .vmem => 0
  | .smem => 0
  | _ => 0

abbrev hbmTy0_0 (i : Nat) : BufTy := match i % 128 with
  | 0 => ⟨S131072x128, .f32⟩
  | 1 => ⟨S8x3x512, .f32⟩
  | 2 => ⟨S64x67, .f32⟩
  | 3 => ⟨S64, .f32⟩
  | 4 => ⟨S64, .f32⟩
  | 5 => ⟨S64, .f32⟩
  | 6 => ⟨S64x64, .f32⟩
  | 7 => ⟨S64, .f32⟩
  | 8 => ⟨S64, .f32⟩
  | 9 => ⟨S64, .f32⟩
  | 10 => ⟨S128x64, .f32⟩
  | 11 => ⟨S128, .f32⟩
  | 12 => ⟨S128, .f32⟩
  | 13 => ⟨S128, .f32⟩
  | 14 => ⟨S8x512x3, .f32⟩
  | 15 => ⟨S8x512x32x128, .f32⟩
  | 16 => ⟨S8x512x32x3, .f32⟩
  | 17 => ⟨S8x512x32x64, .f32⟩
  | 18 => ⟨S8x512x1x3, .f32⟩
  | 19 => ⟨S8x512x32x3, .f32⟩
  | 20 => ⟨S8x512x32x3, .f32⟩
  | 21 => ⟨S8x512x32x67, .f32⟩
  | 22 => ⟨S8x67x32x512, .f32⟩
  | 23 => ⟨S64x8x32x512, .f32⟩
  | 24 => ⟨S8x64x32x512, .f32⟩
  | 25 => ⟨S1x64x1x1, .f32⟩
  | 26 => ⟨S8x64x32x512, .f32⟩
  | 27 => ⟨S8x64x32x512, .f32⟩
  | 28 => ⟨S_, .f32⟩
  | 29 => ⟨S64, .f32⟩
  | 30 => ⟨S1x64x1x1, .f32⟩
  | 31 => ⟨S_, .f32⟩
  | 32 => ⟨S1x64x1x1, .f32⟩
  | 33 => ⟨S1x64x1x1, .f32⟩
  | 34 => ⟨S8x64x32x512, .f32⟩
  | 35 => ⟨S8x64x32x512, .f32⟩
  | 36 => ⟨S8x64x32x512, .f32⟩
  | 37 => ⟨S_, .f32⟩
  | 38 => ⟨S64, .f32⟩
  | 39 => ⟨S1x64x1x1, .f32⟩
  | 40 => ⟨S_, .f32⟩
  | 41 => ⟨S1x64x1x1, .f32⟩
  | 42 => ⟨S1x64x1x1, .f32⟩
  | 43 => ⟨S8x64x32x512, .f32⟩
  | 44 => ⟨S8x64x32x512, .f32⟩
  | 45 => ⟨S_, .f32⟩
  | 46 => ⟨S1x64x1x1, .f32⟩
  | 47 => ⟨S1x64x1x1, .f32⟩
  | 48 => ⟨S1x64x1x1, .f32⟩
  | 49 => ⟨S8x64x32x512, .f32⟩
  | 50 => ⟨S8x64x32x512, .f32⟩
  | 51 => ⟨S1x64x1x1, .f32⟩
  | 52 => ⟨S8x64x32x512, .f32⟩
  | 53 => ⟨S8x64x32x512, .f32⟩
  | 54 => ⟨S1x64x1x1, .f32⟩
  | 55 => ⟨S8x64x32x512, .f32⟩
  | 56 => ⟨S8x64x32x512, .f32⟩
  | 57 => ⟨S_, .f32⟩
  | 58 => ⟨S8x64x32x512, .f32⟩
  | 59 => ⟨S8x64x32x512, .f32⟩
  | 60 => ⟨S64x8x32x512, .f32⟩
  | 61 => ⟨S8x64x32x512, .f32⟩
  | 62 => ⟨S1x64x1x1, .f32⟩
  | 63 => ⟨S8x64x32x512, .f32⟩
  | 64 => ⟨S8x64x32x512, .f32⟩
  | 65 => ⟨S_, .f32⟩
  | 66 => ⟨S64, .f32⟩
  | 67 => ⟨S1x64x1x1, .f32⟩
  | 68 => ⟨S_, .f32⟩
  | 69 => ⟨S1x64x1x1, .f32⟩
  | 70 => ⟨S1x64x1x1, .f32⟩
  | 71 => ⟨S8x64x32x512, .f32⟩
  | 72 => ⟨S8x64x32x512, .f32⟩
  | 73 => ⟨S8x64x32x512, .f32⟩
  | 74 => ⟨S_, .f32⟩
  | 75 => ⟨S64, .f32⟩
  | 76 => ⟨S1x64x1x1, .f32⟩
  | 77 => ⟨S_, .f32⟩
  | 78 => ⟨S1x64x1x1, .f32⟩
  | 79 => ⟨S1x64x1x1, .f32⟩
  | 80 => ⟨S8x64x32x512, .f32⟩
  | 81 => ⟨S8x64x32x512, .f32⟩
  | 82 => ⟨S_, .f32⟩
  | 83 => ⟨S1x64x1x1, .f32⟩
  | 84 => ⟨S1x64x1x1, .f32⟩
  | 85 => ⟨S1x64x1x1, .f32⟩
  | 86 => ⟨S8x64x32x512, .f32⟩
  | 87 => ⟨S8x64x32x512, .f32⟩
  | 88 => ⟨S1x64x1x1, .f32⟩
  | 89 => ⟨S8x64x32x512, .f32⟩
  | 90 => ⟨S8x64x32x512, .f32⟩
  | 91 => ⟨S1x64x1x1, .f32⟩
  | 92 => ⟨S8x64x32x512, .f32⟩
  | 93 => ⟨S8x64x32x512, .f32⟩
  | 94 => ⟨S_, .f32⟩
  | 95 => ⟨S8x64x32x512, .f32⟩
  | 96 => ⟨S8x64x32x512, .f32⟩
  | 97 => ⟨S128x8x32x512, .f32⟩
  | 98 => ⟨S8x128x32x512, .f32⟩
  | 99 => ⟨S1x128x1x1, .f32⟩
  | 100 => ⟨S8x128x32x512, .f32⟩
  | 101 => ⟨S8x128x32x512, .f32⟩
  | 102 => ⟨S_, .f32⟩
  | 103 => ⟨S128, .f32⟩
  | 104 => ⟨S1x128x1x1, .f32⟩
  | 105 => ⟨S_, .f32⟩
  | 106 => ⟨S1x128x1x1, .f32⟩
  | 107 => ⟨S1x128x1x1, .f32⟩
  | 108 => ⟨S8x128x32x512, .f32⟩
  | 109 => ⟨S8x128x32x512, .f32⟩
  | 110 => ⟨S8x128x32x512, .f32⟩
  | 111 => ⟨S_, .f32⟩
  | 112 => ⟨S128, .f32⟩
  | 113 => ⟨S1x128x1x1, .f32⟩
  | 114 => ⟨S_, .f32⟩
  | 115 => ⟨S1x128x1x1, .f32⟩
  | 116 => ⟨S1x128x1x1, .f32⟩
  | 117 => ⟨S8x128x32x512, .f32⟩
  | 118 => ⟨S8x128x32x512, .f32⟩
  | 119 => ⟨S_, .f32⟩
  | 120 => ⟨S1x128x1x1, .f32⟩
  | 121 => ⟨S1x128x1x1, .f32⟩
  | 122 => ⟨S1x128x1x1, .f32⟩
  | 123 => ⟨S8x128x32x512, .f32⟩
  | 124 => ⟨S8x128x32x512, .f32⟩
  | 125 => ⟨S1x128x1x1, .f32⟩
  | 126 => ⟨S8x128x32x512, .f32⟩
  | 127 => ⟨S8x128x32x512, .f32⟩
  | _ => ⟨S131072x128, .f32⟩

abbrev hbmTy0_1 (i : Nat) : BufTy := match i % 128 with
  | 0 => ⟨S1x128x1x1, .f32⟩
  | 1 => ⟨S8x128x32x512, .f32⟩
  | 2 => ⟨S8x128x32x512, .f32⟩
  | 3 => ⟨S_, .f32⟩
  | 4 => ⟨S8x128x32x512, .f32⟩
  | 5 => ⟨S8x128x32x512, .f32⟩
  | _ => ⟨S131072x128, .f32⟩

abbrev hbmTy (i : Nat) : BufTy := match i / 128 with
  | 0 => hbmTy0_0 i
  | 1 => hbmTy0_1 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call0_cst : Ref sig .tc := ⟨.hbm, 57, rfl⟩
abbrev main_call0_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_4 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_cst_7 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_8 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call1_cst : Ref sig .tc := ⟨.hbm, 94, rfl⟩
abbrev main_call1_v0 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_cst_10 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_v82 : Ref sig .tc := ⟨.hbm, 113, rfl⟩
abbrev main_cst_12 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_13 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call2_cst : Ref sig .tc := ⟨.hbm, 131, rfl⟩
abbrev main_call2_v0 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== Group.lean ====
abbrev S8x3x512 : Shape := ⟨3, ![8, 3, 512]⟩
abbrev S8x3x4096 : Shape := ⟨3, ![8, 3, 4096]⟩
abbrev S8x64x4096 : Shape := ⟨3, ![8, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S8x512x32 : Shape := ⟨3, ![8, 512, 32]⟩
abbrev S1x3x512 : Shape := ⟨3, ![1, 3, 512]⟩
abbrev S1x3x4096 : Shape := ⟨3, ![1, 3, 4096]⟩
abbrev S1x512x32 : Shape := ⟨3, ![1, 512, 32]⟩
abbrev S512x4096 : Shape := ⟨2, ![512, 4096]⟩
abbrev S3x512 : Shape := ⟨2, ![3, 512]⟩
abbrev S3x4096 : Shape := ⟨2, ![3, 4096]⟩
abbrev S512x3 : Shape := ⟨2, ![512, 3]⟩
abbrev S512 : Shape := ⟨1, ![512]⟩
abbrev S512x1 : Shape := ⟨2, ![512, 1]⟩
abbrev S4096 : Shape := ⟨1, ![4096]⟩
abbrev S1x4096 : Shape := ⟨2, ![1, 4096]⟩
abbrev S512x32 : Shape := ⟨2, ![512, 32]⟩
abbrev S_ : Shape := ⟨0, ![]⟩
abbrev S8x4096x3 : Shape := ⟨3, ![8, 4096, 3]⟩
abbrev S32768x3 : Shape := ⟨2, ![32768, 3]⟩
abbrev S8x4096x64 : Shape := ⟨3, ![8, 4096, 64]⟩
abbrev S32768x64 : Shape := ⟨2, ![32768, 64]⟩
abbrev S32768x61 : Shape := ⟨2, ![32768, 61]⟩
abbrev S32768x128 : Shape := ⟨2, ![32768, 128]⟩
abbrev S1024x128 : Shape := ⟨2, ![1024, 128]⟩
abbrev S131072x128 : Shape := ⟨2, ![131072, 128]⟩
abbrev S32x128 : Shape := ⟨2, ![32, 128]⟩
abbrev S128x128 : Shape := ⟨2, ![128, 128]⟩
abbrev S1x128 : Shape := ⟨2, ![1, 128]⟩
abbrev S8x512x3 : Shape := ⟨3, ![8, 512, 3]⟩
abbrev S4096x3 : Shape := ⟨2, ![4096, 3]⟩
abbrev S67x64 : Shape := ⟨2, ![67, 64]⟩
abbrev S61x64 : Shape := ⟨2, ![61, 64]⟩
abbrev S1x64 : Shape := ⟨2, ![1, 64]⟩
abbrev S131072x64 : Shape := ⟨2, ![131072, 64]⟩
abbrev S2x64 : Shape := ⟨2, ![2, 64]⟩
abbrev S4096x128 : Shape := ⟨2, ![4096, 128]⟩
abbrev S128x3 : Shape := ⟨2, ![128, 3]⟩
abbrev S4096x64 : Shape := ⟨2, ![4096, 64]⟩
abbrev S3x64 : Shape := ⟨2, ![3, 64]⟩
abbrev S128x1x64 : Shape := ⟨3, ![128, 1, 64]⟩
abbrev S128x32x64 : Shape := ⟨3, ![128, 32, 64]⟩
abbrev S64x128 : Shape := ⟨2, ![64, 128]⟩
abbrev S2x128 : Shape := ⟨2, ![2, 128]⟩
abbrev S8x512x32x128 : Shape := ⟨4, ![8, 512, 32, 128]⟩
abbrev S8x128x32x512 : Shape := ⟨4, ![8, 128, 32, 512]⟩

abbrev nBuf : Table → Nat
  | .hbm => 56
  | .local .tc .vmem => 43
  | .local .scVector .vmem => 2
  | _ => 0

abbrev bufTy : (tb : Table) → Fin (nBuf tb) → BufTy
  | .hbm, ⟨0, _⟩ => ⟨S8x3x512, .f32⟩
  | .hbm, ⟨1, _⟩ => ⟨S8x3x4096, .f32⟩
  | .hbm, ⟨2, _⟩ => ⟨S8x64x4096, .f32⟩
  | .hbm, ⟨3, _⟩ => ⟨S64x67, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S128x64, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S8x512x32, .i32⟩
  | .hbm, ⟨16, _⟩ => ⟨S_, .i32⟩
  | .hbm, ⟨17, _⟩ => ⟨S_, .i32⟩
  | .hbm, ⟨18, _⟩ => ⟨S8x512x32, .i32⟩
  | .hbm, ⟨19, _⟩ => ⟨S8x512x32, .i32⟩
  | .hbm, ⟨20, _⟩ => ⟨S8x512x32, .i32⟩
  | .hbm, ⟨21, _⟩ => ⟨S8x4096x3, .f32⟩
  | .hbm, ⟨22, _⟩ => ⟨S32768x3, .f32⟩
  | .hbm, ⟨23, _⟩ => ⟨S8x4096x64, .f32⟩
  | .hbm, ⟨24, _⟩ => ⟨S32768x64, .f32⟩
  | .hbm, ⟨25, _⟩ => ⟨S_, .f32⟩
  | .hbm, ⟨26, _⟩ => ⟨S32768x61, .f32⟩
  | .hbm, ⟨27, _⟩ => ⟨S32768x128, .f32⟩
  | .hbm, ⟨28, _⟩ => ⟨S1024x128, .i32⟩
  | .hbm, ⟨29, _⟩ => ⟨S131072x128, .f32⟩
  | .hbm, ⟨30, _⟩ => ⟨S8x512x3, .f32⟩
  | .hbm, ⟨31, _⟩ => ⟨S4096x3, .f32⟩
  | .hbm, ⟨32, _⟩ => ⟨S67x64, .f32⟩
  | .hbm, ⟨33, _⟩ => ⟨S_, .f32⟩
  | .hbm, ⟨34, _⟩ => ⟨S61x64, .f32⟩
  | .hbm, ⟨35, _⟩ => ⟨S128x64, .f32⟩
  | .hbm, ⟨36, _⟩ => ⟨S1x64, .f32⟩
  | .hbm, ⟨37, _⟩ => ⟨S131072x64, .f32⟩
  | .hbm, ⟨38, _⟩ => ⟨S2x64, .f32⟩
  | .hbm, ⟨39, _⟩ => ⟨S64x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S131072x64, .f32⟩
  | .hbm, ⟨44, _⟩ => ⟨S2x64, .f32⟩
  | .hbm, ⟨45, _⟩ => ⟨S64x128, .f32⟩
  | .hbm, ⟨46, _⟩ => ⟨S1x64, .f32⟩
  | .hbm, ⟨47, _⟩ => ⟨S1x64, .f32⟩
  | .hbm, ⟨48, _⟩ => ⟨S1x128, .f32⟩
  | .hbm, ⟨49, _⟩ => ⟨S131072x128, .f32⟩
  | .hbm, ⟨50, _⟩ => ⟨S2x128, .f32⟩
  | .hbm, ⟨51, _⟩ => ⟨S1x128, .f32⟩
  | .hbm, ⟨52, _⟩ => ⟨S1x128, .f32⟩
  | .hbm, ⟨53, _⟩ => ⟨S131072x128, .f32⟩
  | .hbm, ⟨54, _⟩ => ⟨S8x512x32x128, .f32⟩
  | .hbm, ⟨55, _⟩ => ⟨S8x128x32x512, .f32⟩
  | .local .tc .vmem, ⟨0, _⟩ => ⟨S1x3x512, .f32⟩
  | .local .tc .vmem, ⟨1, _⟩ => ⟨S1x3x512, .f32⟩
  | .local .tc .vmem, ⟨2, _⟩ => ⟨S1x3x4096, .f32⟩
  | .local .tc .vmem, ⟨3, _⟩ => ⟨S1x3x4096, .f32⟩
  | .local .tc .vmem, ⟨4, _⟩ => ⟨S1x512x32, .i32⟩
  | .local .tc .vmem, ⟨5, _⟩ => ⟨S1x512x32, .i32⟩
  | .local .tc .vmem, ⟨6, _⟩ => ⟨S512x4096, .f32⟩
  | .local .tc .vmem, ⟨7, _⟩ => ⟨S4096x128, .f32⟩
  | .local .tc .vmem, ⟨8, _⟩ => ⟨S4096x128, .f32⟩
  | .local .tc .vmem, ⟨9, _⟩ => ⟨S128x3, .f32⟩
  | .local .tc .vmem, ⟨10, _⟩ => ⟨S128x3, .f32⟩
  | .local .tc .vmem, ⟨11, _⟩ => ⟨S128x64, .f32⟩
  | .local .tc .vmem, ⟨12, _⟩ => ⟨S1x64, .f32⟩
  | .local .tc .vmem, ⟨13, _⟩ => ⟨S4096x64, .f32⟩
  | .local .tc .vmem, ⟨14, _⟩ => ⟨S4096x64, .f32⟩
  | .local .tc .vmem, ⟨15, _⟩ => ⟨S2x64, .f32⟩
  | .local .tc .vmem, ⟨16, _⟩ => ⟨S4096x64, .f32⟩
  | .local .tc .vmem, ⟨17, _⟩ => ⟨S4096x64, .f32⟩
  | .local .tc .vmem, ⟨18, _⟩ => ⟨S2x64, .f32⟩
  | .local .tc .vmem, ⟨19, _⟩ => ⟨S1x64, .f32⟩
  | .local .tc .vmem, ⟨20, _⟩ => ⟨S1x64, .f32⟩
  | .local .tc .vmem, ⟨21, _⟩ => ⟨S64x64, .f32⟩
  | .local .tc .vmem, ⟨22, _⟩ => ⟨S1x64, .f32⟩
  | .local .tc .vmem, ⟨23, _⟩ => ⟨S4096x64, .f32⟩
  | .local .tc .vmem, ⟨24, _⟩ => ⟨S4096x64, .f32⟩
  | .local .tc .vmem, ⟨25, _⟩ => ⟨S2x64, .f32⟩
  | .local .tc .vmem, ⟨26, _⟩ => ⟨S4096x64, .f32⟩
  | .local .tc .vmem, ⟨27, _⟩ => ⟨S4096x64, .f32⟩
  | .local .tc .vmem, ⟨28, _⟩ => ⟨S2x64, .f32⟩
  | .local .tc .vmem, ⟨29, _⟩ => ⟨S1x64, .f32⟩
  | .local .tc .vmem, ⟨30, _⟩ => ⟨S1x64, .f32⟩
  | .local .tc .vmem, ⟨31, _⟩ => ⟨S64x128, .f32⟩
  | .local .tc .vmem, ⟨32, _⟩ => ⟨S1x128, .f32⟩
  | .local .tc .vmem, ⟨33, _⟩ => ⟨S4096x128, .f32⟩
  | .local .tc .vmem, ⟨34, _⟩ => ⟨S4096x128, .f32⟩
  | .local .tc .vmem, ⟨35, _⟩ => ⟨S2x128, .f32⟩
  | .local .tc .vmem, ⟨36, _⟩ => ⟨S4096x128, .f32⟩
  | .local .tc .vmem, ⟨37, _⟩ => ⟨S4096x128, .f32⟩
  | .local .tc .vmem, ⟨38, _⟩ => ⟨S2x128, .f32⟩
  | .local .tc .vmem, ⟨39, _⟩ => ⟨S1x128, .f32⟩
  | .local .tc .vmem, ⟨40, _⟩ => ⟨S1x128, .f32⟩
  | .local .tc .vmem, ⟨41, _⟩ => ⟨S4096x128, .f32⟩
  | .local .tc .vmem, ⟨42, _⟩ => ⟨S4096x128, .f32⟩
  | .local .scVector .vmem, ⟨0, _⟩ => ⟨S32x128, .i32⟩
  | .local .scVector .vmem, ⟨1, _⟩ => ⟨S128x128, .f32⟩
  | _, _ => ⟨S8x3x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_c_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18_0 : Ref sig .tc := ⟨.hbm, 37, rfl⟩
abbrev main_v18_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28_0 : Ref sig .tc := ⟨.hbm, 49, rfl⟩
abbrev main_v28_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v9_scv : Ref sig .scVector := ⟨.hbm, 27, rfl⟩
abbrev main_v10_scv : Ref sig .scVector := ⟨.hbm, 28, rfl⟩
abbrev main_v11_scv : Ref sig .scVector := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg6_1 : Ref sig .tc := ⟨.vmem, 24, rfl⟩
abbrev cc3_stg7_0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg6_0 : Ref sig .tc := ⟨.vmem, 33, rfl⟩
abbrev cc4_stg6_1 : Ref sig .tc := ⟨.vmem, 34, rfl⟩
abbrev cc4_stg7_0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg4_0 : Ref sig .tc := ⟨.vmem, 41, rfl⟩
abbrev cc5_stg4_1 : Ref sig .tc := ⟨.vmem, 42, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem6_0 : DmaSem sig := 25
abbrev cc3_sem6_1 : DmaSem sig := 26
abbrev cc3_sem7_0 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem6_0 : DmaSem sig := 35
abbrev cc4_sem6_1 : DmaSem sig := 36
abbrev cc4_sem7_0 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem4_0 : DmaSem sig := 43
abbrev cc5_sem4_1 : DmaSem sig := 44
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32_10 : BitVec 32 := 0#32
  let c32_i32 : BitVec 32 := 32#32
  let v24 : BitVec 32 := Scalar.addi c0_i32_10 c32_i32
  let c1_i32 : BitVec 32 := 1#32
  ⟨c0_i32_10, v24, c1_i32⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_3_r0 : BitVec 32 := 0#32
  ![v2.toNat, 0]
@[reducible] def k1_t1_loop : Scf.Loop 32 :=
  let c0_i32_0 : BitVec 32 := 0#32
  let c32_i32_1 : BitVec 32 := 32#32
  let v3 : BitVec 32 := Scalar.addi c0_i32_0 c32_i32_1
  let c1_i32 : BitVec 32 := 1#32
  ⟨c0_i32_0, v3, c1_i32⟩
def k1_off2 (k1_t1 : Fin k1_t1_loop.trips) : Fin 2 → Nat :=
  let c0_i32_0 : BitVec 32 := 0#32
  let c1_i32 : BitVec 32 := 1#32
  let arg8 : BitVec 32 := Scf.iv c0_i32_0 c1_i32 k1_t1
  let c0_i32_3 : BitVec 32 := 0#32
  ![arg8.toNat, 0]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v11 : BitVec 32 := Scalar.muli v1 c4096_i32
  let c0_i32_0 : BitVec 32 := 0#32
  let c1_i32 : BitVec 32 := 1#32
  let arg8 : BitVec 32 := Scf.iv c0_i32_0 c1_i32 k1_t1
  let c128_i32 : BitVec 32 := 128#32
  let v12 : BitVec 32 := Scalar.muli arg8 c128_i32
  let v13 : BitVec 32 := Scalar.addi v11 v12
  let c0_i32_10_r1 : BitVec 32 := 0#32
  ![v13.toNat, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4096x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S2x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S4096x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S2x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4096x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S2x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4096x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GroupRefIdeal.lean ====
abbrev S8x3x512 : Shape := ⟨3, ![8, 3, 512]⟩
abbrev S8x3x4096 : Shape := ⟨3, ![8, 3, 4096]⟩
abbrev S8x64x4096 : Shape := ⟨3, ![8, 64, 4096]⟩
abbrev S64x67 : Shape := ⟨2, ![64, 67]⟩
abbrev S64 : Shape := ⟨1, ![64]⟩
abbrev S64x64 : Shape := ⟨2, ![64, 64]⟩
abbrev S128x64 : Shape := ⟨2, ![128, 64]⟩
abbrev S128 : Shape := ⟨1, ![128]⟩
abbrev S8x512x3 : Shape := ⟨3, ![8, 512, 3]⟩
abbrev S8x4096x3 : Shape := ⟨3, ![8, 4096, 3]⟩
abbrev S8x4096x64 : Shape := ⟨3, ![8, 4096, 64]⟩
abbrev S8x512x4096 : Shape := ⟨3, ![8, 512, 4096]⟩
abbrev S_ : Shape := ⟨0, ![]⟩
abbrev S8x512 : Shape := ⟨2, ![8, 512]⟩
abbrev S8x512x1 : Shape := ⟨3, ![8, 512, 1]⟩
abbrev S8x4096 : Shape := ⟨2, ![8, 4096]⟩
abbrev S8x1x4096 : Shape := ⟨3, ![8, 1, 4096]⟩
abbrev S8x512x32 : Shape := ⟨3, ![8, 512, 32]⟩
abbrev S8x512x32x1 : Shape := ⟨4, ![8, 512, 32, 1]⟩
abbrev S8x512x32x3 : Shape := ⟨4, ![8, 512, 32, 3]⟩
abbrev S8x1x4096x3 : Shape := ⟨4, ![8, 1, 4096, 3]⟩
abbrev S8x512x4096x3 : Shape := ⟨4, ![8, 512, 4096, 3]⟩
abbrev S8x512x32x3x1 : Shape := ⟨5, ![8, 512, 32, 3, 1]⟩
abbrev S1 : Shape := ⟨1, ![1]⟩
abbrev S1x1x1x1x1 : Shape := ⟨5, ![1, 1, 1, 1, 1]⟩
abbrev S8x512x1x3 : Shape := ⟨4, ![8, 512, 1, 3]⟩
abbrev S8x512x32x64 : Shape := ⟨4, ![8, 512, 32, 64]⟩
abbrev S8x1x4096x64 : Shape := ⟨4, ![8, 1, 4096, 64]⟩
abbrev S8x512x4096x64 : Shape := ⟨4, ![8, 512, 4096, 64]⟩
abbrev S8x512x32x64x1 : Shape := ⟨5, ![8, 512, 32, 64, 1]⟩
abbrev S8x512x32x67 : Shape := ⟨4, ![8, 512, 32, 67]⟩
abbrev S8x67x32x512 : Shape := ⟨4, ![8, 67, 32, 512]⟩
abbrev S64x8x32x512 : Shape := ⟨4, ![64, 8, 32, 512]⟩
abbrev S8x64x32x512 : Shape := ⟨4, ![8, 64, 32, 512]⟩
abbrev S1x64x1x1 : Shape := ⟨4, ![1, 64, 1, 1]⟩
abbrev S128x8x32x512 : Shape := ⟨4, ![128, 8, 32, 512]⟩
abbrev S8x128x32x512 : Shape := ⟨4, ![8, 128, 32, 512]⟩
abbrev S1x128x1x1 : Shape := ⟨4, ![1, 128, 1, 1]⟩

abbrev nBuf : Space → Nat
  | .hbm => 207
  | .vmem => 0
  | .smem => 0
  | _ => 0

abbrev hbmTy0_0 (i : Nat) : BufTy := match i % 128 with
  | 0 => ⟨S8x3x512, .f32⟩
  | 1 => ⟨S8x3x4096, .f32⟩
  | 2 => ⟨S8x64x4096, .f32⟩
  | 3 => ⟨S64x67, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S128x64, .f32⟩
  | 12 => ⟨S128, .f32⟩
  | 13 => ⟨S128, .f32⟩
  | 14 => ⟨S128, .f32⟩
  | 15 => ⟨S8x512x3, .f32⟩
  | 16 => ⟨S8x4096x3, .f32⟩
  | 17 => ⟨S8x4096x64, .f32⟩
  | 18 => ⟨S8x3x4096, .f32⟩
  | 19 => ⟨S8x512x4096, .f32⟩
  | 20 => ⟨S_, .f32⟩
  | 21 => ⟨S8x512x4096, .f32⟩
  | 22 => ⟨S8x512x4096, .f32⟩
  | 23 => ⟨S8x512x3, .f32⟩
  | 24 => ⟨S_, .f32⟩
  | 25 => ⟨S8x512, .f32⟩
  | 26 => ⟨S8x512x1, .f32⟩
  | 27 => ⟨S8x512x4096, .f32⟩
  | 28 => ⟨S8x512x4096, .f32⟩
  | 29 => ⟨S8x4096x3, .f32⟩
  | 30 => ⟨S_, .f32⟩
  | 31 => ⟨S8x4096, .f32⟩
  | 32 => ⟨S8x1x4096, .f32⟩
  | 33 => ⟨S8x512x4096, .f32⟩
  | 34 => ⟨S8x512x4096, .f32⟩
  | 35 => ⟨S8x512x4096, .i32⟩
  | 36 => ⟨S8x512x4096, .f32⟩
  | 37 => ⟨S8x512x4096, .i32⟩
  | 38 => ⟨S8x512x32, .i32⟩
  | 39 => ⟨S8x512x32x1, .i32⟩
  | 40 => ⟨S8x512x32x3, .i32⟩
  | 41 => ⟨S8x1x4096x3, .f32⟩
  | 42 => ⟨S8x512x4096x3, .f32⟩
  | 43 => ⟨S_, .i32⟩
  | 44 => ⟨S8x512x32x3, .i32⟩
  | 45 => ⟨S8x512x32x3, .i1⟩
  | 46 => ⟨S_, .i32⟩
  | 47 => ⟨S8x512x32x3, .i32⟩
  | 48 => ⟨S8x512x32x3, .i32⟩
  | 49 => ⟨S8x512x32x3, .i32⟩
  | 50 => ⟨S8x512x32x3x1, .i32⟩
  | 51 => ⟨S1, .i32⟩
  | 52 => ⟨S_, .i32⟩
  | 53 => ⟨S8x512x32x3x1, .i32⟩
  | 54 => ⟨S8x512x32x3x1, .i1⟩
  | 55 => ⟨S1x1x1x1x1, .i32⟩
  | 56 => ⟨S8x512x32x3x1, .i32⟩
  | 57 => ⟨S8x512x32x3x1, .i1⟩
  | 58 => ⟨S8x512x32x3x1, .i1⟩
  | 59 => ⟨S_, .i1⟩
  | 60 => ⟨S8x512x32x3, .i1⟩
  | 61 => ⟨S8x512x32x3, .f32⟩
  | 62 => ⟨S_, .f32⟩
  | 63 => ⟨S8x512x32x3, .f32⟩
  | 64 => ⟨S8x512x32x3, .f32⟩
  | 65 => ⟨S8x512x1x3, .f32⟩
  | 66 => ⟨S8x512x32x3, .f32⟩
  | 67 => ⟨S8x512x32x3, .f32⟩
  | 68 => ⟨S8x512x32x1, .i32⟩
  | 69 => ⟨S8x512x32x64, .i32⟩
  | 70 => ⟨S8x1x4096x64, .f32⟩
  | 71 => ⟨S8x512x4096x64, .f32⟩
  | 72 => ⟨S_, .i32⟩
  | 73 => ⟨S8x512x32x64, .i32⟩
  | 74 => ⟨S8x512x32x64, .i1⟩
  | 75 => ⟨S_, .i32⟩
  | 76 => ⟨S8x512x32x64, .i32⟩
  | 77 => ⟨S8x512x32x64, .i32⟩
  | 78 => ⟨S8x512x32x64, .i32⟩
  | 79 => ⟨S8x512x32x64x1, .i32⟩
  | 80 => ⟨S1, .i32⟩
  | 81 => ⟨S_, .i32⟩
  | 82 => ⟨S8x512x32x64x1, .i32⟩
  | 83 => ⟨S8x512x32x64x1, .i1⟩
  | 84 => ⟨S1x1x1x1x1, .i32⟩
  | 85 => ⟨S8x512x32x64x1, .i32⟩
  | 86 => ⟨S8x512x32x64x1, .i1⟩
  | 87 => ⟨S8x512x32x64x1, .i1⟩
  | 88 => ⟨S_, .i1⟩
  | 89 => ⟨S8x512x32x64, .i1⟩
  | 90 => ⟨S8x512x32x64, .f32⟩
  | 91 => ⟨S_, .f32⟩
  | 92 => ⟨S8x512x32x64, .f32⟩
  | 93 => ⟨S8x512x32x64, .f32⟩
  | 94 => ⟨S8x512x32x67, .f32⟩
  | 95 => ⟨S8x67x32x512, .f32⟩
  | 96 => ⟨S64x8x32x512, .f32⟩
  | 97 => ⟨S8x64x32x512, .f32⟩
  | 98 => ⟨S1x64x1x1, .f32⟩
  | 99 => ⟨S8x64x32x512, .f32⟩
  | 100 => ⟨S8x64x32x512, .f32⟩
  | 101 => ⟨S_, .f32⟩
  | 102 => ⟨S64, .f32⟩
  | 103 => ⟨S1x64x1x1, .f32⟩
  | 104 => ⟨S_, .f32⟩
  | 105 => ⟨S1x64x1x1, .f32⟩
  | 106 => ⟨S1x64x1x1, .f32⟩
  | 107 => ⟨S8x64x32x512, .f32⟩
  | 108 => ⟨S8x64x32x512, .f32⟩
  | 109 => ⟨S8x64x32x512, .f32⟩
  | 110 => ⟨S_, .f32⟩
  | 111 => ⟨S64, .f32⟩
  | 112 => ⟨S1x64x1x1, .f32⟩
  | 113 => ⟨S_, .f32⟩
  | 114 => ⟨S1x64x1x1, .f32⟩
  | 115 => ⟨S1x64x1x1, .f32⟩
  | 116 => ⟨S8x64x32x512, .f32⟩
  | 117 => ⟨S8x64x32x512, .f32⟩
  | 118 => ⟨S_, .f32⟩
  | 119 => ⟨S1x64x1x1, .f32⟩
  | 120 => ⟨S1x64x1x1, .f32⟩
  | 121 => ⟨S1x64x1x1, .f32⟩
  | 122 => ⟨S8x64x32x512, .f32⟩
  | 123 => ⟨S8x64x32x512, .f32⟩
  | 124 => ⟨S1x64x1x1, .f32⟩
  | 125 => ⟨S8x64x32x512, .f32⟩
  | 126 => ⟨S8x64x32x512, .f32⟩
  | 127 => ⟨S1x64x1x1, .f32⟩
  | _ => ⟨S8x3x512, .f32⟩

abbrev hbmTy0_1 (i : Nat) : BufTy := match i % 128 with
  | 0 => ⟨S8x64x32x512, .f32⟩
  | 1 => ⟨S8x64x32x512, .f32⟩
  | 2 => ⟨S_, .f32⟩
  | 3 => ⟨S8x64x32x512, .f32⟩
  | 4 => ⟨S8x64x32x512, .f32⟩
  | 5 => ⟨S64x8x32x512, .f32⟩
  | 6 => ⟨S8x64x32x512, .f32⟩
  | 7 => ⟨S1x64x1x1, .f32⟩
  | 8 => ⟨S8x64x32x512, .f32⟩
  | 9 => ⟨S8x64x32x512, .f32⟩
  | 10 => ⟨S_, .f32⟩
  | 11 => ⟨S64, .f32⟩
  | 12 => ⟨S1x64x1x1, .f32⟩
  | 13 => ⟨S_, .f32⟩
  | 14 => ⟨S1x64x1x1, .f32⟩
  | 15 => ⟨S1x64x1x1, .f32⟩
  | 16 => ⟨S8x64x32x512, .f32⟩
  | 17 => ⟨S8x64x32x512, .f32⟩
  | 18 => ⟨S8x64x32x512, .f32⟩
  | 19 => ⟨S_, .f32⟩
  | 20 => ⟨S64, .f32⟩
  | 21 => ⟨S1x64x1x1, .f32⟩
  | 22 => ⟨S_, .f32⟩
  | 23 => ⟨S1x64x1x1, .f32⟩
  | 24 => ⟨S1x64x1x1, .f32⟩
  | 25 => ⟨S8x64x32x512, .f32⟩
  | 26 => ⟨S8x64x32x512, .f32⟩
  | 27 => ⟨S_, .f32⟩
  | 28 => ⟨S1x64x1x1, .f32⟩
  | 29 => ⟨S1x64x1x1, .f32⟩
  | 30 => ⟨S1x64x1x1, .f32⟩
  | 31 => ⟨S8x64x32x512, .f32⟩
  | 32 => ⟨S8x64x32x512, .f32⟩
  | 33 => ⟨S1x64x1x1, .f32⟩
  | 34 => ⟨S8x64x32x512, .f32⟩
  | 35 => ⟨S8x64x32x512, .f32⟩
  | 36 => ⟨S1x64x1x1, .f32⟩
  | 37 => ⟨S8x64x32x512, .f32⟩
  | 38 => ⟨S8x64x32x512, .f32⟩
  | 39 => ⟨S_, .f32⟩
  | 40 => ⟨S8x64x32x512, .f32⟩
  | 41 => ⟨S8x64x32x512, .f32⟩
  | 42 => ⟨S128x8x32x512, .f32⟩
  | 43 => ⟨S8x128x32x512, .f32⟩
  | 44 => ⟨S1x128x1x1, .f32⟩
  | 45 => ⟨S8x128x32x512, .f32⟩
  | 46 => ⟨S8x128x32x512, .f32⟩
  | 47 => ⟨S_, .f32⟩
  | 48 => ⟨S128, .f32⟩
  | 49 => ⟨S1x128x1x1, .f32⟩
  | 50 => ⟨S_, .f32⟩
  | 51 => ⟨S1x128x1x1, .f32⟩
  | 52 => ⟨S1x128x1x1, .f32⟩
  | 53 => ⟨S8x128x32x512, .f32⟩
  | 54 => ⟨S8x128x32x512, .f32⟩
  | 55 => ⟨S8x128x32x512, .f32⟩
  | 56 => ⟨S_, .f32⟩
  | 57 => ⟨S128, .f32⟩
  | 58 => ⟨S1x128x1x1, .f32⟩
  | 59 => ⟨S_, .f32⟩
  | 60 => ⟨S1x128x1x1, .f32⟩
  | 61 => ⟨S1x128x1x1, .f32⟩
  | 62 => ⟨S8x128x32x512, .f32⟩
  | 63 => ⟨S8x128x32x512, .f32⟩
  | 64 => ⟨S_, .f32⟩
  | 65 => ⟨S1x128x1x1, .f32⟩
  | 66 => ⟨S1x128x1x1, .f32⟩
  | 67 => ⟨S1x128x1x1, .f32⟩
  | 68 => ⟨S8x128x32x512, .f32⟩
  | 69 => ⟨S8x128x32x512, .f32⟩
  | 70 => ⟨S1x128x1x1, .f32⟩
  | 71 => ⟨S8x128x32x512, .f32⟩
  | 72 => ⟨S8x128x32x512, .f32⟩
  | 73 => ⟨S1x128x1x1, .f32⟩
  | 74 => ⟨S8x128x32x512, .f32⟩
  | 75 => ⟨S8x128x32x512, .f32⟩
  | 76 => ⟨S_, .f32⟩
  | 77 => ⟨S8x128x32x512, .f32⟩
  | 78 => ⟨S8x128x32x512, .f32⟩
  | _ => ⟨S8x3x512, .f32⟩

abbrev hbmTy (i : Nat) : BufTy := match i / 128 with
  | 0 => hbmTy0_0 i
  | 1 => hbmTy0_1 i
  | _ => ⟨S8x3x512, .f32⟩

abbrev bufTy : (tb : Table) → Fin (tcTables nBuf tb) → BufTy
  | .hbm, ⟨i, _⟩ => hbmTy i
  | _, _ => ⟨S8x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call0_v0 : Ref sig .tc := ⟨.hbm, 35, rfl⟩
abbrev main_call0_v1_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_cst : Ref sig .tc := ⟨.hbm, 91, rfl⟩
abbrev main_call2_v14 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_2 : Ref sig .tc := ⟨.hbm, 101, rfl⟩
abbrev main_v39 : Ref sig .tc := ⟨.hbm, 102, rfl⟩
abbrev main_v40 : Ref sig .tc := ⟨.hbm, 103, rfl⟩
abbrev main_cst_3 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_4 : Ref sig .tc := ⟨.hbm, 110, rfl⟩
abbrev main_v46 : Ref sig .tc := ⟨.hbm, 111, rfl⟩
abbrev main_v47 : Ref sig .tc := ⟨.hbm, 112, rfl⟩
abbrev main_cst_5 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_cst_6 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_call3_cst : Ref sig .tc := ⟨.hbm, 130, rfl⟩
abbrev main_call3_v0 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_7 : Ref sig .tc := ⟨.hbm, 138, rfl⟩
abbrev main_v69 : Ref sig .tc := ⟨.hbm, 139, rfl⟩
abbrev main_v70 : Ref sig .tc := ⟨.hbm, 140, rfl⟩
abbrev main_cst_8 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_9 : Ref sig .tc := ⟨.hbm, 147, rfl⟩
abbrev main_v76 : Ref sig .tc := ⟨.hbm, 148, rfl⟩
abbrev main_v77 : Ref sig .tc := ⟨.hbm, 149, rfl⟩
abbrev main_cst_10 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_cst_11 : Ref sig .tc := ⟨.hbm, 155, rfl⟩
abbrev main_v82 : Ref sig .tc := ⟨.hbm, 156, rfl⟩
abbrev main_v83 : Ref sig .tc := ⟨.hbm, 157, rfl⟩
abbrev main_v84 : Ref sig .tc := ⟨.hbm, 158, rfl⟩
abbrev main_v85 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_call4_cst : Ref sig .tc := ⟨.hbm, 167, rfl⟩
abbrev main_call4_v0 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_cst_12 : Ref sig .tc := ⟨.hbm, 175, rfl⟩
abbrev main_v99 : Ref sig .tc := ⟨.hbm, 176, rfl⟩
abbrev main_v100 : Ref sig .tc := ⟨.hbm, 177, rfl⟩
abbrev main_cst_13 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_cst_14 : Ref sig .tc := ⟨.hbm, 184, rfl⟩
abbrev main_v106 : Ref sig .tc := ⟨.hbm, 185, rfl⟩
abbrev main_v107 : Ref sig .tc := ⟨.hbm, 186, rfl⟩
abbrev main_cst_15 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_16 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_call5_cst : Ref sig .tc := ⟨.hbm, 204, rfl⟩
abbrev main_call5_v0 : Ref sig .tc := ⟨.hbm, 205, rfl⟩
abbrev main_v123 : Ref sig .tc := ⟨.hbm, 206, rfl⟩

abbrev nD : Nat := 1
abbrev τ : Topo := Topo.v7x

variable {F : FTy → Type} [FloatOps F]
-- ==== Proof.Tile.lean ====
/-
  The row gather on the SparseCores, one task at a time. Task `w = 2 · tile + core` fetches its 32 rows of 128 row
  numbers, and for each of them gathers the 128 table rows those numbers name and writes them to its own 128 rows of
  the output. The table, the row numbers and what the output held before are parameters: the facts here are about the
  task alone, whatever computed its inputs.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev tLoc (d : Dev nD) : Loc nD τ sig := (SparseCore.T d).loc main_v5
abbrev iLoc (d : Dev nD) : Loc nD τ sig := (SparseCore.T d).loc main_v6
abbrev oLoc (d : Dev nD) : Loc nD τ sig := (SparseCore.T d).loc main_v7

/-- The contents of the table, of the row numbers, of the output. -/
abbrev Tbl (F : FTy → Type) : Type := S32768x128.Idx → Elt F .f32
abbrev Ixs (F : FTy → Type) : Type := S1024x128.Idx → Elt F .i32
abbrev Out (F : FTy → Type) : Type := S131072x128.Idx → Elt F .f32

abbrev tB (d : Dev nD) (f : Tbl F) : Buf (Elt F) (tLoc d) := f
abbrev iB (d : Dev nD) (f : Ixs F) : Buf (Elt F) (iLoc d) := f
abbrev oB (d : Dev nD) (f : Out F) : Buf (Elt F) (oLoc d) := f

local notation "tV" => (Memref.whole Cert.KernelIdeal.main_v5_scv : Memref Cert.KernelIdeal.sig Kind.scVector Space.hbm Cert.KernelIdeal.S32768x128 EltTy.f32)
local notation "iV" => (Memref.whole Cert.KernelIdeal.main_v6_scv : Memref Cert.KernelIdeal.sig Kind.scVector Space.hbm Cert.KernelIdeal.S1024x128 EltTy.i32)
local notation "oV" => (Memref.whole Cert.KernelIdeal.main_v7_scv : Memref Cert.KernelIdeal.sig Kind.scVector Space.hbm Cert.KernelIdeal.S131072x128 EltTy.f32)
local notation "sV" => (Memref.whole Cert.KernelIdeal.cc0_scratch0 : Memref Cert.KernelIdeal.sig Kind.scVector Space.vmem Cert.KernelIdeal.S32x128 EltTy.i32)
local notation "rV" => (Memref.whole Cert.KernelIdeal.cc0_scratch1 : Memref Cert.KernelIdeal.sig Kind.scVector Space.vmem Cert.KernelIdeal.S128x128 EltTy.f32)

/-- Task `w`'s 32 rows of row numbers. -/
def iSet (w : ℕ) : Finset S1024x128.Idx := Finset.univ.filter fun x => (x 0).val / 32 = w
/-- Task `w`'s 4096 rows of the output. -/
def oSet (w : ℕ) : Finset S131072x128.Idx := Finset.univ.filter fun x => (x 0).val / 4096 = w

theorem mem_iSet {w : ℕ} {x : S1024x128.Idx} : x ∈ iSet w ↔ (x 0).val / 32 = w := by simp [iSet]
theorem mem_oSet {w : ℕ} {x : S131072x128.Idx} : x ∈ oSet w ↔ (x 0).val / 4096 = w := by simp [oSet]

/-- The table's row a word names (the last row for a word past the table). -/
def rowOf (v : BitVec 32) : Fin 32768 := ⟨min v.toNat 32767, by omega⟩

/-- The gathered rows: row `n` of the output is the table's row that word `n` of the row numbers names. -/
def gathered (tb : Tbl F) (ix : Ixs F) : Out F := fun j =>
  tb (ix2 (rowOf (ix (ix2 (⟨(j 0).val / 128, by have := (j 0).isLt; change _ < 131072 at this; omega⟩ : Fin 1024)
    (⟨(j 0).val % 128, Nat.mod_lt _ (by omega)⟩ : Fin 128)))) (j 1))

/-- Every row number names a row of the table. -/
def InRows (ix : Ixs F) : Prop := ∀ x, (ix x : BitVec 32).toNat < 32768

/-- The output once `k` of task `w`'s 128-row pieces have been written. -/
def mix (tb : Tbl F) (ix : Ixs F) (f : Out F) (w k : ℕ) : Out F := fun j =>
  if (j 0).val < 4096 * w + 128 * k then gathered tb ix j else f j

/-- Task `w`'s share of the table. -/
abbrev tq (w : Fin 32) : PosShare TreeShare := pieceOf fullShare 32 (by decide) w

/-- The task of tile `i` of SparseCore `c`. -/
def wid (c : Fin 2) (i : Fin 16) : Fin 32 := ⟨2 * i.val + c.val, by omega⟩

section Pts
abbrev tPts (d : Dev nD) (tb : Tbl F) (w : Fin 32) : sProp 𝕄 := tLoc d ↦{tq w} tB d tb
abbrev iPts (d : Dev nD) (ix : Ixs F) (w : ℕ) : sProp 𝕄 := iLoc d ↦[iSet w]{fullShare} iB d ix
abbrev oPts (d : Dev nD) (f : Out F) (w : ℕ) : sProp 𝕄 := oLoc d ↦[oSet w]{fullShare} oB d f
end Pts

variable [FloatOps F]

/-! ## The task -/

section Task

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev wL (L : grid0.Coords) : Fin 32 := wid (Fin.cast bound_zero (L 0)) (Fin.cast bound_one (L 1))
omit [FloatOps F] in
theorem wL_val : (wL L).val = 2 * (L 1).val + (L 0).val := rfl

abbrev irowK (L : grid0.Coords) : Rect S1024x128 := Rect.unit (s := S1024x128) (k0_off1 L) S32x128.size (k0_off1_inb L)
abbrev orowK (L : grid0.Coords) (t : Fin k0_t1_loop.trips) : Rect S131072x128 := Rect.unit (s := S131072x128) (k0_off3 L t) S128x128.size (k0_off3_inb L t)
abbrev lrowK (t : Fin k0_t1_loop.trips) : Rect S32x128 := Rect.unit (s := S32x128) (k0_off2 t) S1x128.size (k0_off2_inb t)
/-- The task's rows of row numbers, the piece of the output written by trip `t`, trip `t`'s list, and all of the table. -/
abbrev iRowK (L : grid0.Coords) : Memref sig .scVector .hbm S32x128 .i32 := (iV).slice (irowK L) (fun _ => rfl)
abbrev oRowK (L : grid0.Coords) (t : Fin k0_t1_loop.trips) : Memref sig .scVector .hbm S128x128 .f32 := (oV).slice (orowK L t) (fun _ => rfl)
abbrev lRowK (t : Fin k0_t1_loop.trips) : Memref sig .scVector .vmem S128 .i32 := ((sV).slice (lrowK t) (fun _ => rfl)).squeeze S128 squeezes_S1x128_S128
abbrev tAllK : Memref sig .scVector .hbm S32768x128 .f32 := (tV).slice (Rect.unit (s := S32768x128) ![0, 0] S32768x128.size inb_S32768x128_S32768x128_0_0) (fun _ => rfl)

omit [FloatOps F] in
theorem trips_eq : k0_t1_loop.trips = 32 := by decide

omit [FloatOps F] in
theorem set_iRowK : (iRowK L).view.set = iSet (wL L) := by
  show ((View.whole (main_v6_scv : Ref sig .scVector)).slice (irowK L)).set = _
  rw [View.set_slice]
  refine (Finset.map_refl).trans ?_
  ext x
  rw [Rect.mem_set_unit, mem_iSet, k0_off1_eq, wL_val]
  have h0 : (x 0).val < 1024 := (x 0).isLt
  have h1 : (x 1).val < 128 := (x 1).isLt
  constructor
  · intro h
    have := h 0
    simp at this
    omega
  · intro h a
    match a with
    | 0 => simp; omega
    | 1 => simp; omega

/-- Trip `t`'s piece of the output. -/
def oPiece (w t : ℕ) : Finset S131072x128.Idx := Finset.univ.filter fun x => (x 0).val / 128 = 32 * w + t
omit [FloatOps F] in
theorem mem_oPiece {w t : ℕ} {x : S131072x128.Idx} : x ∈ oPiece w t ↔ (x 0).val / 128 = 32 * w + t := by simp [oPiece]

omit [FloatOps F] in
theorem set_oRowK (t : Fin k0_t1_loop.trips) : (oRowK L t).view.set = oPiece (wL L) t := by
  show ((View.whole (main_v7_scv : Ref sig .scVector)).slice (orowK L t)).set = _
  rw [View.set_slice]
  refine (Finset.map_refl).trans ?_
  ext x
  rw [Rect.mem_set_unit, mem_oPiece, k0_off3_eq, wL_val]
  have h0 : (x 0).val < 131072 := (x 0).isLt
  have h1 : (x 1).val < 128 := (x 1).isLt
  constructor
  · intro h
    have := h 0
    simp at this
    omega
  · intro h a
    match a with
    | 0 => simp; omega
    | 1 => simp; omega

omit [FloatOps F] in
theorem oPiece_subset (w : ℕ) (t : Fin k0_t1_loop.trips) : oPiece w t ⊆ oSet w := by
  intro x hx
  have ht : t.val < 32 := lt_of_lt_of_eq t.isLt trips_eq
  rw [mem_oPiece] at hx; rw [mem_oSet]; omega

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are the subcore's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ### The values a trip moves -/

/-- The list of row numbers as the task holds it: its own 32 rows. -/
def lst (ix : Ixs F) (w : Fin 32) : S32x128.Idx → Elt F .i32 := fun x =>
  ix (ix2 (⟨32 * w.val + (x 0).val, by have := (x 0).isLt; change _ < 32 at this; omega⟩ : Fin 1024) (x 1))

/-- What trip `t` gathers. -/
def rws (tb : Tbl F) (ix : Ixs F) (w : Fin 32) (t : ℕ) : S128x128.Idx → Elt F .f32 := fun x =>
  tb (ix2 (rowOf (ix (ix2 (⟨min (32 * w.val + t) 1023, by omega⟩ : Fin 1024) (x 0)))) (x 1))

/-- The fetch leaves the task's own rows. -/
theorem fetch_eq (ix : Ixs F) (fs : Buf (Elt F) ((V d (cV L) (jV L)).loc cc0_scratch0)) :
    View.write (Elt F) (sV).view fs ((iRowK L).view.read (Elt F) (iB d ix)) Finset.univ = lst ix (wL L) := by
  rw [View.write_whole_univ]
  funext x
  refine (View.read_apply _ _).trans ((cast_eq _ _).trans ?_)
  show ix ((iRowK L).view.emb x) = ix _
  congr 1
  funext a
  apply Fin.ext
  have := k0_off1_eq L
  match a with
  | 0 =>
    show (k0_off1 L) 0 + 1 * (x 0).val = 32 * (wL L).val + (x 0).val
    rw [this, wL_val]; simp; omega
  | 1 =>
    show (k0_off1 L) 1 + 1 * (x 1).val = (x 1).val
    rw [this]; simp

omit [FloatOps F] in
theorem symm_S128 (k : Fin S128.numel) : ((S128.rowMajor.symm k) 0).val = k.val := by
  rw [← Shape.rowMajor_val_one (d := ![128]) (S128.rowMajor.symm k)]
  exact congrArg Fin.val (Equiv.apply_symm_apply _ k)

/-- Trip `t` reads its list's words: row `32 · w + t` of the row numbers. -/
theorem list_read (ix : Ixs F) (w : Fin 32) (t : Fin k0_t1_loop.trips) (x : S128.Idx) :
    (lRowK t).view.read (Elt F) (lst ix w) x = ix (ix2 (⟨min (32 * w.val + t.val) 1023, by omega⟩ : Fin 1024) (x 0)) := by
  have ht : t.val < 32 := lt_of_lt_of_eq t.isLt trips_eq
  refine (View.read_apply _ _).trans ((cast_eq _ _).trans ?_)
  show lst ix w ((lrowK t).emb (Shape.reshapeEquiv squeezes_S1x128_S128.numel_eq x)) = _
  rw [show Shape.reshapeEquiv squeezes_S1x128_S128.numel_eq x = (Fin.cons ⟨0, Nat.one_pos⟩ x : S1x128.Idx) from
    Shape.reshapeEquiv_cons_one (d := ![128]) squeezes_S1x128_S128.numel_eq x]
  unfold lst
  congr 1
  funext a
  apply Fin.ext
  have := k0_off2_eq t
  match a with
  | 0 =>
    show 32 * w.val + ((k0_off2 t) 0 + 1 * 0) = min (32 * w.val + t.val) 1023
    rw [this]; simp; omega
  | 1 =>
    show (k0_off2 t) 1 + 1 * (x 0).val = (x 0).val
    rw [this]; simp

/-- The words are rows of the table. -/
theorem list_in {ix : Ixs F} (h : InRows ix) (w : Fin 32) (t : Fin k0_t1_loop.trips) :
    ∀ x, ((lRowK t).view.read (Elt F) (lst ix w) x).toNat < S32768x128.size gathers_S32768x128_S128x128.axis := by
  intro x; rw [list_read]; exact h _

/-- The gather leaves the named rows in the row buffer. -/
theorem gather_eq (tb : Tbl F) {ix : Ixs F} (h : InRows ix) (w : Fin 32) (t : Fin k0_t1_loop.trips)
    (fr : Buf (Elt F) ((V d (cV L) (jV L)).loc cc0_scratch1)) (hn : S128.numel = S128x128.size gathers_S32768x128_S128x128.axis') (hin) :
    View.write (Elt F) (rV).view fr (SparseCore.gatherPayload gathers_S32768x128_S128x128 ((tAllK).view.read (Elt F) (tB d tb))
      (SparseCore.rows ((lRowK t).view.read (Elt F) (lst ix w)) hn hin)) Finset.univ = rws tb ix w t := by
  rw [View.write_whole_univ]
  funext x
  unfold SparseCore.gatherPayload rws
  refine (View.read_apply _ _).trans ((cast_eq _ _).trans ?_)
  show tb ((tAllK).view.emb _) = tb _
  congr 1
  funext a
  apply Fin.ext
  match a with
  | 0 =>
    refine (congrArg (fun z : Fin _ => 0 + 1 * z.val) (Shape.Gathers.idx_axis gathers_S32768x128_S128x128
      (SparseCore.rows ((lRowK t).view.read (Elt F) (lst ix w)) hn hin) x)).trans ?_
    show 0 + 1 * ((lRowK t).view.read (Elt F) (lst ix w) (S128.rowMajor.symm _)).toNat = (rowOf _).val
    rw [list_read]
    have e : ((S128.rowMajor.symm (Fin.cast hn.symm (x gathers_S32768x128_S128x128.axis'))) 0 : Fin 128) = x 0 :=
      Fin.ext (symm_S128 _)
    rw [e]
    have := h (ix2 (⟨min (32 * w.val + t.val) 1023, by omega⟩ : Fin 1024) (x 0))
    unfold rowOf
    simp only [Nat.zero_add, Nat.one_mul]
    omega
  | 1 =>
    show 0 + 1 * ((Shape.Gathers.idx gathers_S32768x128_S128x128 (SparseCore.rows ((lRowK t).view.read (Elt F) (lst ix w)) hn hin) x) 1).val = (x 1).val
    rw [Shape.Gathers.idx_of_ne _ _ _ _ (by decide), Nat.zero_add, Nat.one_mul]
    rfl

/-- Trip `t`'s piece of the output, once written, is as after `t + 1` trips. -/
theorem piece_eq (tb : Tbl F) (ix : Ixs F) (f0 : Out F) (t : Fin k0_t1_loop.trips) :
    ∀ x ∈ oPiece (wL L) t, View.write (Elt F) (oRowK L t).view (oB d (mix tb ix f0 (wL L) t)) (rws tb ix (wL L) t) Finset.univ x
      = oB d (mix tb ix f0 (wL L) (t.val + 1)) x := by
  intro x hx
  have ht : t.val < 32 := lt_of_lt_of_eq t.isLt trips_eq
  rw [← set_oRowK] at hx
  obtain ⟨y, -, rfl⟩ := Finset.mem_map.mp hx
  rw [View.write_emb, if_pos (Finset.mem_univ _)]
  refine (cast_eq _ _).trans ?_
  have hy : (y 0).val < 128 := (y 0).isLt
  have hw : (wL L).val < 32 := (wL L).isLt
  have e0 : ((oRowK L t).view.emb y 0).val = 4096 * (wL L).val + 128 * t.val + (y 0).val := by
    show (k0_off3 L t) 0 + 1 * (y 0).val = _
    rw [k0_off3_eq, wL_val]; simp; omega
  have e1 : ((oRowK L t).view.emb y 1) = y 1 := Fin.ext (by
    show (k0_off3 L t) 1 + 1 * (y 1).val = _
    rw [k0_off3_eq]; simp)
  show rws tb ix (wL L) t y = mix tb ix f0 (wL L) (t.val + 1) ((oRowK L t).view.emb y)
  unfold mix
  rw [if_pos (by omega)]
  unfold rws gathered
  have a0 : (⟨min (32 * (wL L).val + t.val) 1023, by omega⟩ : Fin 1024)
      = ⟨((oRowK L t).view.emb y 0).val / 128, by omega⟩ := Fin.ext (by show min _ _ = _ / 128; omega)
  have a1 : (y 0 : Fin 128) = ⟨((oRowK L t).view.emb y 0).val % 128, Nat.mod_lt _ (by omega)⟩ :=
    Fin.ext (by show (y 0).val = _ % 128; omega)
  rw [a0, a1, e1]
  rfl

theorem piece_writes (tb : Tbl F) (ix : Ixs F) (f0 : Out F) (t : Fin k0_t1_loop.trips) (pay : S128x128.Idx → Elt F .f32)
    (hp : pay = rws tb ix (wL L) t) :
    ∀ x ∈ oPiece (wL L) t, (oRowK L t).view.writes (Elt F) (mix tb ix f0 (wL L) t) [⟨Rect.whole S128x128, pay⟩] x
      = oB d (mix tb ix f0 (wL L) (t.val + 1)) x := by
  intro x hx
  rw [← piece_eq d L tb ix f0 t x hx, hp]
  rw [← set_oRowK] at hx
  obtain ⟨y, -, rfl⟩ := Finset.mem_map.mp hx
  rw [View.writes_singleton]
  have e : ((oRowK L t).view.slice (Rect.whole S128x128)).emb y = (oRowK L t).view.emb y := by
    show (oRowK L t).view.emb ((Rect.whole S128x128).emb y) = _
    exact congrArg _ (Rect.emb_whole_apply S128x128 y)
  rw [View.write_emb, ← e, View.write_emb]

theorem rest_eq (tb : Tbl F) (ix : Ixs F) (f0 : Out F) (w t : ℕ) :
    ∀ x ∈ oSet w \ oPiece w t, oB d (mix tb ix f0 w t) x = oB d (mix tb ix f0 w (t + 1)) x := by
  intro x hx
  obtain ⟨h1, h2⟩ := Finset.mem_sdiff.mp hx
  rw [mem_oSet] at h1; rw [mem_oPiece] at h2
  show mix tb ix f0 w t x = mix tb ix f0 w (t + 1) x
  unfold mix
  by_cases h : (x 0).val < 4096 * w + 128 * t
  · rw [if_pos h, if_pos (by omega)]
  · rw [if_neg h, if_neg (by omega)]

theorem mix_zero (tb : Tbl F) (ix : Ixs F) (f0 : Out F) (w : ℕ) : ∀ x ∈ oSet w, oB d f0 x = oB d (mix tb ix f0 w 0) x := by
  intro x hx
  rw [mem_oSet] at hx
  show f0 x = mix tb ix f0 w 0 x
  unfold mix
  rw [if_neg (by omega)]

theorem mix_all (tb : Tbl F) (ix : Ixs F) (f0 : Out F) (w : ℕ) : ∀ x ∈ oSet w, oB d (mix tb ix f0 w 32) x = oB d (gathered tb ix) x := by
  intro x hx
  rw [mem_oSet] at hx
  show mix tb ix f0 w 32 x = gathered tb ix x
  unfold mix
  rw [if_pos (by omega)]

/-- Between trips: the table's share, the fetched list, the row buffer at some contents, the output's rows written so
    far, the counters at zero. -/
def inv (tb : Tbl F) (ix : Ixs F) (f0 : Out F) (O : CellTallies nD τ sig (HIx 1)) (W : Waits sig (HIx 1)) (k : Nat) (_ : BitVec 32) : sProp 𝕄 :=
  iprop(Transfers.MayWaits (V d (cV L) (jV L)) (none : HIx 1) O
    ∗ ((tAllK).view.loc (V d (cV L) (jV L)) ↦{tq (wL L)} tB d tb)
    ∗ ((sV).view.loc (V d (cV L) (jV L)) ↦{fullShare} lst ix (wL L))
    ∗ (∃ fr, (rV).view.loc (V d (cV L) (jV L)) ↦{fullShare} fr)
    ∗ (oLoc d ↦[oSet (wL L)]{fullShare} oB d (mix tb ix f0 (wL L) k))
    ∗ semVal (V d (cV L) (jV L), SemLoc.dma cc0_scratch2.sem) 0
    ∗ semVal (V d (cV L) (jV L), SemLoc.dma cc0_scoped1.sem) 0
    ∗ ∃ W', ⌜∀ p ∈ W', p ∈ W ∨ p.2 = none⌝ ∗ owes (V d (cV L) (jV L)) O W')

set_option maxHeartbeats 4000000 in
/-- The task on vector subcore `(L 0, L 1)` of device `d`. -/
theorem tile_body (hF : (K (F := F)).Facts) (tb : Tbl F) {ix : Ixs F} (hix : InRows ix) (f0 : Out F)
    (O : CellTallies nD τ sig (HIx 1)) (W : Waits sig (HIx 1)) (hO : ∀ g, O g none = 0) :
    iprop(levAts (K (F := F)).L (K (F := F)).lev ∗ emp
        ∗ (tPts d tb (wL L) ∗ iPts d ix (wL L) ∗ oPts d f0 (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__gather_sc L tV (Memref.isWhole_whole _) iV (Memref.isWhole_whole _) oV (Memref.isWhole_whole _)
            sV (Memref.isWhole_whole _) rV (Memref.isWhole_whole _) cc0_scratch2 cc0_scoped0 cc0_scoped1)
          fun _ => iprop((tPts d tb (wL L) ∗ iPts d ix (wL L) ∗ oPts d (gathered tb ix) (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__gather_sc_eq_skeleton]; unfold cc0__gather_sc_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hi' := (Entails.of_eq (show iPts d ix (wL L) = ((iRowK L).view.loc (V d (cV L) (jV L)) ↦[(iRowK L).view.set]{fullShare} iB d ix : sProp 𝕄) by
    rw [set_iRowK])) $$ Hi
  ihave Ht' := (Entails.of_eq (show tPts d tb (wL L) = ((tAllK).view.loc (V d (cV L) (jV L)) ↦{tq (wL L)} tB d tb : sProp 𝕄) from rfl)) $$ Ht
  ihave Hs' := (Entails.of_eq (show ((V d (cV L) (jV L)).loc cc0_scratch0 ↦{fullShare} fs : sProp 𝕄) = ((sV).view.loc (V d (cV L) (jV L)) ↦{fullShare} fs) from rfl)) $$ Hs
  ihave Hr' := (Entails.of_eq (show ((V d (cV L) (jV L)).loc cc0_scratch1 ↦{fullShare} fr : sProp 𝕄) = ((rV).view.loc (V d (cV L) (jV L)) ↦{fullShare} fr) from rfl)) $$ Hr
  ihave Ho' := (Entails.of_eq (pointsTo_congr (q := fullShare) (mix_zero (F := F) d tb ix f0 (wL L)))) $$ Ho
  sl_exec
  ihave Hs2 := (Entails.of_eq (show ((sV).view.loc (V d (cV L) (jV L)) ↦{fullShare} View.write (Elt F) (sV).view fs (tile_body.sl.dma0 L (ix := ix)) Finset.univ : sProp 𝕄)
      = ((sV).view.loc (V d (cV L) (jV L)) ↦{fullShare} lst ix (wL L)) from congrArg _ (fetch_eq d L ix fs))) $$ Hs'
  sl_for (inv d L tb ix f0 O W) $$ [Hmw Ht' Hs2 Hr' Ho' HsemA HsemC HO]
  case region =>
    intro k _
    unfold inv
    iintro ⟨#Hmw, Ht, Hs, ⟨%fr, Hr⟩, Ho, HsemA, HsemC, %W', %hW', HO⟩
    unfold tile_body.sl.prog.body_1 k0_t1_body
    have hN : ∀ h : S32768x128.Gathers 0 S128x128, ∑ j, ((rV).slice (S128x128.rowRect h.axis' j) (S128x128.stride_rowRect h.axis' j)).view.dmaCredit
      = (rV).view.dmaCredit := by decide
    iapply (SparseCore.wp_gatherFromWhole countersEmb 𝒱₀ (V d (cV L) (jV L)) none (hg := gathers_S32768x128_S128x128) (default : HIx 1)
      (rV).view.dmaCredit (hN _) (by decide) (list_in hix (wL L) k)) $$ [Ht Hr Hs HsemA]
    · isplitl [Ht]; · iexact Ht
      isplitl [Hr]; · iexact Hr
      isplitl [Hs]; · iexact Hs
      iexact HsemA
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc0_scratch2.sem)) $$ Hmw
    iintro ⟨⟨Hr, Ht, Hs⟩, HsemA, HO⟩
    ihave Hr := (Entails.of_eq (congrArg (fun f => ((rV).view.loc (V d (cV L) (jV L)) ↦{fullShare} f : sProp 𝕄))
      (gather_eq d L tb hix (wL L) k fr rfl (list_in hix (wL L) k)))) $$ Hr
    ihave Hop := (pointsTo_split_subset (q := fullShare) (f := oB d (mix tb ix f0 (wL L) k)) (oPiece_subset (wL L) k)).1 $$ Ho
    icases Hop with ⟨Hop, Hor⟩
    ihave Hop' := (Entails.of_eq (show (oLoc d ↦[oPiece (wL L) k]{fullShare} oB d (mix tb ix f0 (wL L) k) : sProp 𝕄)
      = ((oRowK L k).view.loc (V d (cV L) (jV L)) ↦[(oRowK L k).view.set]{fullShare} oB d (mix tb ix f0 (wL L) k)) by rw [set_oRowK])) $$ Hop
    sl_exec
    sl_step
    ihave Hop := (Entails.of_eq (show ((oRowK L k).view.loc (V d (cV L) (jV L)) ↦[(oRowK L k).view.set]{fullShare}
        (oRowK L k).view.writes (Elt F) (mix tb ix f0 (wL L) k) [⟨Rect.whole S128x128, tile_body.sl.dma0_1 L tb k⟩] : sProp 𝕄)
      = (oLoc d ↦[oPiece (wL L) k]{fullShare} oB d (mix tb ix f0 (wL L) (k.val + 1))) by
        rw [set_oRowK]; exact pointsTo_congr (piece_writes d L tb ix f0 k _ rfl))) $$ Hop'
    ihave Hor := (Entails.of_eq (pointsTo_congr (q := fullShare) (rest_eq (F := F) d tb ix f0 (wL L) k))) $$ Hor
    ihave Ho := (pointsTo_split_subset (q := fullShare) (f := oB d (mix tb ix f0 (wL L) (k.val + 1))) (oPiece_subset (wL L) k)).2 $$ [Hop Hor]; · isplitl [Hop] <;> iassumption
    isplitr; · iexact Hmw
    isplitl [Ht]; · iexact Ht
    isplitl [Hs]; · iexact Hs
    isplitl [Hr]; · iexists _; iexact Hr
    isplitl [Ho]; · iexact Ho
    isplitl [HsemA]; · iexact HsemA
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht']; · iexact Ht'
    isplitl [Hs2]; · iexact Hs2
    isplitl [Hr']; · iexists _; iexact Hr'
    isplitl [Ho']; · iexact Ho'
    isplitl [HsemA]; · iexact HsemA
    isplitl [HsemC]; · iexact HsemC
    iexists _; isplitr
    swap; · iexact HO
    ipureintro; intro p hp
    rcases Finset.mem_insert.mp hp with hp | hp
    · exact .inr (hp ▸ rfl)
    · exact .inl hp
  iintro %_ HI
  unfold inv
  icases HI with ⟨-, Ht, Hs, ⟨%fr', Hr⟩, Ho, HsemA, HsemC, %W', %hW', HO⟩
  sl_exec
  sl_step
  ihave Ho := (Entails.of_eq (pointsTo_congr (q := fullShare) (mix_all (F := F) d tb ix f0 (wL L)))) $$ Ho
  isplitl [Ht Hi' Ho]
  · isplitl [Ht]; · iexact Ht
    isplitl [Hi']
    · iapply (Entails.of_eq (show ((iRowK L).view.loc (V d (cV L) (jV L)) ↦[(iRowK L).view.set]{fullShare} iB d ix : sProp 𝕄) = iPts d ix (wL L) by
        rw [set_iRowK]))
      iexact Hi'
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  swap; · iexact HO
  ipureintro; exact hW'

end Task

end Cert.Proof.Tile

end
-- ==== Proof.Launch.lean ====
/-
  The launch of the gather: what the call hands each task and gets back, the host operations that build the table and
  the rows of row numbers before it, and the run of the whole program with the output at the gathered rows.
-/
module

public import proofs.«01_k».proof.Proof.Tile
public import Idealize.ShloMosaic.Lib.Pipeline.Frame

@[expose] public section

noncomputable section

namespace Cert.Proof.Launch

open Cert.KernelIdeal Cert.KernelIdeal.Gen Cert.Proof.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the handshakes carry -/

section Payload

variable (tb : Dev nD → Tbl F) (ix : Dev nD → Ixs F) (f0 : Dev nD → Out F)

/-- What task `w` takes, and what it brings back. -/
abbrev taskIn (d : Dev nD) (w : Fin 32) : sProp 𝕄 := iprop(tPts d (tb d) w ∗ iPts d (ix d) w ∗ oPts d (f0 d) w)
abbrev taskOut (d : Dev nD) (w : Fin 32) : sProp 𝕄 := iprop(tPts d (tb d) w ∗ iPts d (ix d) w ∗ oPts d (gathered (tb d) (ix d)) w)

abbrev widOf (c : Fin ((K (F := F)).nCore 0)) (i : Fin ((K (F := F)).nSub 0)) : Fin 32 := wid (Fin.cast nCore_zero c) (Fin.cast nSub_zero i)

def P : (K (F := F)).Pay (nD := nD) (Val := Elt F) (Name := ℕ) (U := UU) where
  st := fun q d c => match q with | 0 => bigSep Finset.univ fun i => taskIn tb ix f0 d (widOf (F := F) c i)
  dn := fun q d c => match q with | 0 => bigSep Finset.univ fun i => taskOut tb ix d (widOf (F := F) c i)
  go := fun q d c i => match q with | 0 => taskIn tb ix f0 d (widOf (F := F) c i)
  td := fun q d c i => match q with | 0 => taskOut tb ix d (widOf (F := F) c i)
  x := fun _ _ => iprop(emp)

instance P_storable : (P (F := F) tb ix f0).IsStorable where
  st q d c := match q with
    | 0 => (inferInstance : BI.Storable (upEmb : UEmb _ 𝕄) (bigSep Finset.univ fun i => taskIn tb ix f0 d (widOf (F := F) c i)))
  dn q d c := match q with
    | 0 => (inferInstance : BI.Storable (upEmb : UEmb _ 𝕄) (bigSep Finset.univ fun i => taskOut tb ix d (widOf (F := F) c i)))
  go q d c i := match q with
    | 0 => (inferInstance : BI.Storable (upEmb : UEmb _ 𝕄) (taskIn tb ix f0 d (widOf (F := F) c i)))
  td q d c i := match q with
    | 0 => (inferInstance : BI.Storable (upEmb : UEmb _ 𝕄) (taskOut tb ix d (widOf (F := F) c i)))

/-! ## The obligation of a task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_sc (coordsV c s)
          (Memref.whole main_v5_scv) (Memref.isWhole_whole _) (Memref.whole main_v6_scv) (Memref.isWhole_whole _) (Memref.whole main_v7_scv) (Memref.isWhole_whole _)
          (Memref.whole cc0_scratch0) (Memref.isWhole_whole _) (Memref.whole cc0_scratch1) (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d, InRows (ix d)) : (K (F := F)).TileObl (D (F := F)) 𝒱 (P tb ix f0) v₀ 0 := by
  intro d c i O W hO _ _
  simp only [show (P tb ix f0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tb d) (hix d) (f0 d) O W hO).trans (wp_mono frame _ _ fun _ => obl_post)

/-- A SparseCore's part of the call is its tasks' parts. -/
theorem vecSplit : (K (F := F)).VecSplit' (P tb ix f0) 0 := by
  intro d c
  show (bigSep Finset.univ fun i => taskIn tb ix f0 d (widOf (F := F) c i)) ⊢ |={Set.univ}=> iprop(
      (bigSep Finset.univ fun i => taskIn tb ix f0 d (widOf (F := F) c i))
      ∗ ((bigSep Finset.univ fun i => taskOut tb ix d (widOf (F := F) c i)) -∗ (bigSep Finset.univ fun i => taskOut tb ix d (widOf (F := F) c i))))
  iintro H; imodintro
  isplitl [H]; · iexact H
  iintro H; iexact H

/-! ## The whole arrays are the tasks' parts -/

def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
theorem bigSep_wid (Φ : Fin 32 → sProp 𝕄) :
    (bigSep Finset.univ fun c : Fin ((K (F := F)).nCore 0) => bigSep Finset.univ fun i : Fin ((K (F := F)).nSub 0) => Φ (widOf (F := F) c i))
      = bigSep Finset.univ Φ := by
  rw [bigSep_univ_equiv widEquiv, bigSep_univ_prod]
  rfl

omit [FloatOps F] in
theorem iSet_disjoint : ∀ i ∈ (Finset.univ : Finset (Fin 32)), ∀ j ∈ (Finset.univ : Finset (Fin 32)), i ≠ j → Disjoint (iSet i) (iSet j) :=
  fun i _ j _ h => Finset.disjoint_left.mpr fun x hx hy => h (Fin.ext ((mem_iSet.mp hx).symm.trans (mem_iSet.mp hy)))
omit [FloatOps F] in
theorem oSet_disjoint : ∀ i ∈ (Finset.univ : Finset (Fin 32)), ∀ j ∈ (Finset.univ : Finset (Fin 32)), i ≠ j → Disjoint (oSet i) (oSet j) :=
  fun i _ j _ h => Finset.disjoint_left.mpr fun x hx hy => h (Fin.ext ((mem_oSet.mp hx).symm.trans (mem_oSet.mp hy)))
omit [FloatOps F] in
theorem iSet_cover : ((Finset.univ : Finset (Fin 32)).biUnion fun w => iSet w) = Finset.univ := by
  ext x
  have h : (x 0).val < 1024 := (x 0).isLt
  simp only [Finset.mem_biUnion, Finset.mem_univ, true_and, iff_true]
  exact ⟨⟨(x 0).val / 32, by omega⟩, mem_iSet.mpr rfl⟩
omit [FloatOps F] in
theorem oSet_cover : ((Finset.univ : Finset (Fin 32)).biUnion fun w => oSet w) = Finset.univ := by
  ext x
  have h : (x 0).val < 131072 := (x 0).isLt
  simp only [Finset.mem_biUnion, Finset.mem_univ, true_and, iff_true]
  exact ⟨⟨(x 0).val / 4096, by omega⟩, mem_oSet.mpr rfl⟩

omit [FloatOps F] in
theorem whole_eq (d : Dev nD) (t : Tbl F) (i : Ixs F) (f : Out F) :
    (iprop((tLoc d ↦{fullShare} tB d t) ∗ (iLoc d ↦{fullShare} iB d i) ∗ (oLoc d ↦{fullShare} oB d f)) : sProp 𝕄)
      = bigSep Finset.univ fun w : Fin 32 => iprop(tPts d t w ∗ iPts d i w ∗ oPts d f w) := by
  rw [bigSep_sep', bigSep_sep']
  rw [← pointsTo_biUnion Finset.univ (ℓ := iLoc d) (fun w : Fin 32 => iSet w) iSet_disjoint, iSet_cover,
    ← pointsTo_biUnion Finset.univ (ℓ := oLoc d) (fun w : Fin 32 => oSet w) oSet_disjoint, oSet_cover,
    pointsTo_piecesOf (ℓ := tLoc d) Finset.univ (tB d t) (o := 32) (by decide) fullShare]

theorem st0_eq (d : Dev nD) : (bigSep Finset.univ fun c : Fin ((K (F := F)).nCore 0) => (P tb ix f0).st 0 d c)
    = iprop((tLoc d ↦{fullShare} tB d (tb d)) ∗ (iLoc d ↦{fullShare} iB d (ix d)) ∗ (oLoc d ↦{fullShare} oB d (f0 d))) :=
  (bigSep_wid (F := F) (fun w => taskIn tb ix f0 d w)).trans (whole_eq d _ _ _).symm
theorem dn0_eq (d : Dev nD) : (bigSep Finset.univ fun c : Fin ((K (F := F)).nCore 0) => (P tb ix f0).dn 0 d c)
    = iprop((tLoc d ↦{fullShare} tB d (tb d)) ∗ (iLoc d ↦{fullShare} iB d (ix d)) ∗ (oLoc d ↦{fullShare} oB d (gathered (tb d) (ix d)))) :=
  (bigSep_wid (F := F) (fun w => taskOut tb ix d w)).trans (whole_eq d _ _ _).symm

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P tb ix f0).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) tb ix f0).x q thr) = bigSep Finset.univ fun _ => iprop(emp) from
    bigSep_congr fun _ _ => bigSep_univ_of_subsingleton (0 : Fin 1), bigSep_emp']
  iempintro

end Payload

/-! ## The host operations before the call -/

/-- The operations, in order. -/
def ops : List (HloOp τ sig (Elt F)) := [
    (StableHlo.unary main_arg0 main_v0 ((transpose S8x4096x3 [0, 2, 1] · transposes_S8x3x4096_S8x4096x3_0_2_1) : (⟨S8x3x4096, .f32⟩ : BufTy).Contents (Elt F) → (⟨S8x4096x3, .f32⟩ : BufTy).Contents (Elt F))),
    (StableHlo.reshape main_v0 main_v1 (rfl : (.f32 : EltTy) = .f32) shapeCasts_S8x4096x3_S32768x3),
    (StableHlo.unary main_arg1 main_v2 ((transpose S8x4096x64 [0, 2, 1] · transposes_S8x64x4096_S8x4096x64_0_2_1) : (⟨S8x64x4096, .f32⟩ : BufTy).Contents (Elt F) → (⟨S8x4096x64, .f32⟩ : BufTy).Contents (Elt F))),
    (StableHlo.reshape main_v2 main_v3 (rfl : (.f32 : EltTy) = .f32) shapeCasts_S8x4096x64_S32768x64),
    (StableHlo.nullary main_cst (constant S_ .f32 0x00000000#32)),
    (StableHlo.unary main_cst main_v4 (broadcastInDim S32768x61 ![] bcast_S_S32768x61 : (⟨S_, .f32⟩ : BufTy).Contents (Elt F) → (⟨S32768x61, .f32⟩ : BufTy).Contents (Elt F))),
    (StableHlo.nary ![main_v1, main_v3, main_v4] main_v5 (fun u => (concatenate S32768x128 1 [⟨S32768x3, (u 0 : (⟨S32768x3, .f32⟩ : BufTy).Contents (Elt F))⟩, ⟨S32768x64, (u 1 : (⟨S32768x64, .f32⟩ : BufTy).Contents (Elt F))⟩, ⟨S32768x61, (u 2 : (⟨S32768x61, .f32⟩ : BufTy).Contents (Elt F))⟩] concatenates_S32768x3_S32768x64_S32768x61_S32768x128_d1 : (⟨S32768x128, .f32⟩ : BufTy).Contents (Elt F)))),
    (StableHlo.reshape main_arg2 main_v6 (rfl : (.i32 : EltTy) = .i32) shapeCasts_S8x512x32_S1024x128)]

set_option maxRecDepth 16384 in
theorem main_eq (d : Dev nD) : main (F := F) d = (StableHlo.seq ops >>= fun _ => (sc (F := F)).run d 0 >>= fun _ => pure ⟨⟩) := by
  simp only [main, ops, StableHlo.seq, Prog.bind_assoc, Prog.bind_op, Prog.bind_ret]
  rfl

/-! ## @main on the TensorCore -/

variable (m : (ℓ : Loc nD τ sig) → Buf (Elt F) ℓ) (ρ : Dev nD → PrngReg)

/-- The launch's contents of device `d`, and those after the host operations. -/
abbrev V₀ (d : Dev nD) : Valuation τ sig (Elt F) := fun b => m (d, b)
abbrev V₁ (d : Dev nD) : Valuation τ sig (Elt F) := StableHlo.after ops (V₀ m d)

/-- The table, the rows of row numbers, and what the output's buffer holds before the call. -/
abbrev tbl (d : Dev nD) : Tbl F := V₁ m d (Proc.devRef (τ := τ) .tc main_v5)
abbrev ixs (d : Dev nD) : Ixs F := V₁ m d (Proc.devRef (τ := τ) .tc main_v6)
abbrev out₀ (d : Dev nD) : Out F := V₁ m d (Proc.devRef (τ := τ) .tc main_v7)

abbrev aLoc0 (d : Dev nD) : Loc nD τ sig := (SparseCore.T d).loc main_arg0
abbrev aLoc1 (d : Dev nD) : Loc nD τ sig := (SparseCore.T d).loc main_arg1
abbrev aLoc2 (d : Dev nD) : Loc nD τ sig := (SparseCore.T d).loc main_arg2

omit [FloatOps F] in
theorem unscopedBufs_eq (d : Dev nD) (W : (b : Ref sig .tc) → Buf (Elt F) ((d.tc : Thread nD τ).loc b)) :
    (unscopedBufs d W : sProp 𝕄) = iprop((aLoc0 d ↦{fullShare} W main_arg0) ∗ (aLoc1 d ↦{fullShare} W main_arg1) ∗ (aLoc2 d ↦{fullShare} W main_arg2)
      ∗ (tLoc d ↦{fullShare} W main_v5) ∗ (iLoc d ↦{fullShare} W main_v6) ∗ (oLoc d ↦{fullShare} W main_v7)
      ∗ bigSep {main_v0, main_v1, main_v2, main_v3, main_cst, main_v4} fun b => (d.tc : Thread nD τ).loc b ↦{fullShare} W b) := by
  unfold unscopedBufs
  rw [show (Finset.univ.filter fun b : Ref sig .tc => ¬ b.isScoped)
      = insert main_arg0 (insert main_arg1 (insert main_arg2 (insert main_v5 (insert main_v6 (insert main_v7 {main_v0, main_v1, main_v2, main_v3, main_cst, main_v4}))))) by decide,
    SparseCore.bigSep_insert' (by decide), SparseCore.bigSep_insert' (by decide), SparseCore.bigSep_insert' (by decide),
    SparseCore.bigSep_insert' (by decide), SparseCore.bigSep_insert' (by decide), SparseCore.bigSep_insert' (by decide)]

theorem ops_bufs : ∀ op ∈ ops (F := F), op.bufs ⊆ Pipeline.ucRefs τ sig := by
  intro op h
  simp only [ops, List.mem_cons, List.not_mem_nil, _root_.or_false] at h
  rcases h with rfl | rfl | rfl | rfl | rfl | rfl | rfl | rfl <;> exact Pipeline.sub_ucRefs _ (by simp)

theorem ops_fresh : ∀ op ∈ ops (F := F), op.fresh = ∅ := by
  intro op h
  simp only [ops, List.mem_cons, List.not_mem_nil, _root_.or_false] at h
  rcases h with rfl | rfl | rfl | rfl | rfl | rfl | rfl | rfl <;> rfl

theorem kept0 (d : Dev nD) : V₁ m d (Proc.devRef (τ := τ) .tc main_arg0) = m (aLoc0 d) := by
  unfold V₁ ops; after_results
theorem kept1 (d : Dev nD) : V₁ m d (Proc.devRef (τ := τ) .tc main_arg1) = m (aLoc1 d) := by
  unfold V₁ ops; after_results
theorem kept2 (d : Dev nD) : V₁ m d (Proc.devRef (τ := τ) .tc main_arg2) = m (aLoc2 d) := by
  unfold V₁ ops; after_results

/-- What is left at the end: the arguments as they were, the output at the gathered rows. -/
abbrev FIN (d : Dev nD) : sProp 𝕄 := iprop((aLoc0 d ↦{fullShare} m (aLoc0 d)) ∗ (aLoc1 d ↦{fullShare} m (aLoc1 d)) ∗ (aLoc2 d ↦{fullShare} m (aLoc2 d))
  ∗ (oLoc d ↦{fullShare} oB d (gathered (tbl m d) (ixs m d))))

theorem hmain (κ : GSem nD τ sig → ℕ) (d : Dev nD) :
    iprop((K (F := F)).ctx EH (P (tbl m) (ixs m) (out₀ m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (Pipeline.ucRefs τ sig) (V₀ m d) from
    Pipeline.unscopedBufs_held d (V₀ m d), main_eq]
  iintro ⟨#Hctx, Hst, ⟨Hb, Hu, Hts, -⟩, -⟩
  iapply (StableHlo.wp_seq 𝒱 none Set.univ d (Pipeline.ucRefs τ sig) _ ops ops_bufs ops_fresh (V₀ m d)) $$ [Hb Hu]
  · isplitl [Hb] <;> iassumption
  iintro ⟨Hb, Hu⟩
  ihave Hu := (Entails.of_eq (show (StableHlo.held (d.tc : Thread nD τ) (Pipeline.ucRefs τ sig) (V₁ m d) : sProp 𝕄) = _ from
    (Pipeline.unscopedBufs_held d (V₁ m d)).symm.trans (unscopedBufs_eq d _))) $$ Hu
  icases Hu with ⟨Ha0, Ha1, Ha2, Ht, Hi, Ho, -⟩
  simp only [wp_bind, wp_pure]
  iapply ((K (F := F)).wp_run (D (F := F)) 𝒱 (EH := EH) (P := P (tbl m) (ixs m) (out₀ m)) κ d 0) $$ [Hst Ht Hi Ho Hb Hts Ha0 Ha1 Ha2]
  isplitr; · iexact Hctx
  isplitl [Hst]; · iexact Hst
  isplitl [Ht Hi Ho]
  · rw [st0_eq]
    isplitl [Ht]; · iexact Ht
    isplitl [Hi]; · iexact Hi
    iexact Ho
  iintro ⟨Hst, Hdn⟩
  ihave Hdn' := (Entails.of_eq (dn0_eq (tbl m) (ixs m) (out₀ m) d)) $$ Hdn
  icases Hdn' with ⟨-, -, Ho⟩
  ihave Ha0 := (Entails.of_eq (congrArg (fun f => (aLoc0 d ↦{fullShare} f : sProp 𝕄)) (kept0 m d))) $$ Ha0
  ihave Ha1 := (Entails.of_eq (congrArg (fun f => (aLoc1 d ↦{fullShare} f : sProp 𝕄)) (kept1 m d))) $$ Ha1
  ihave Ha2 := (Entails.of_eq (congrArg (fun f => (aLoc2 d ↦{fullShare} f : sProp 𝕄)) (kept2 m d))) $$ Ha2
  imodintro
  isplitl [Hst]; · iexact Hst
  isplitr [Hb Hts]
  · isplitl [Ha0]; · iexact Ha0
    isplitl [Ha1]; · iexact Ha1
    isplitl [Ha2]; · iexact Ha2
    iexact Ho
  isplitl [Hb] <;> iassumption

def fq (d : Dev nD) (s' : Phys nD τ sig (Elt F)) : Prop :=
  s'.mem.mem (oLoc d) = oB d (gathered (tbl m d) (ixs m d))
    ∧ s'.mem.mem (aLoc0 d) = m (aLoc0 d) ∧ s'.mem.mem (aLoc1 d) = m (aLoc1 d) ∧ s'.mem.mem (aLoc2 d) = m (aLoc2 d)

omit [FloatOps F] in
theorem whole_agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, Ho⟩, HSI⟩
  ihave H := (whole_agree s' (aLoc0 d) _) $$ [HSI H0]
  · isplitl [HSI] <;> iassumption
  icases H with ⟨%h0, HSI⟩
  ihave H := (whole_agree s' (aLoc1 d) _) $$ [HSI H1]
  · isplitl [HSI] <;> iassumption
  icases H with ⟨%h1, HSI⟩
  ihave H := (whole_agree s' (aLoc2 d) _) $$ [HSI H2]
  · isplitl [HSI] <;> iassumption
  icases H with ⟨%h2, HSI⟩
  ihave H := (whole_agree s' (oLoc d) _) $$ [HSI Ho]
  · isplitl [HSI] <;> iassumption
  icases H with ⟨%ho, -⟩
  ipureintro; exact ⟨ho, h0, h1, h2⟩

/-! ## The program's run -/

def QC : PUnit × MemSt nD τ sig (Elt F) → Prop := fun r =>
  (∀ c : Dev nD, r.2.mem (oLoc c) = oB c (gathered (tbl m c) (ixs m c))
    ∧ r.2.mem (aLoc0 c) = m (aLoc0 c) ∧ r.2.mem (aLoc1 c) = m (aLoc1 c) ∧ r.2.mem (aLoc2 c) = m (aLoc2 c)) ∧ r.2.sem = fun _ => 0

theorem run_main [∀ e, Nonempty (Elt F e)] (hix : ∀ d, InRows (ixs m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tbl m) (ixs m) (out₀ m)) (A := ∅) facts v₀
    (fun q hq => match q with | 0 => nomatch hq)
    (fun q _ => match q with | 0 => tileObl _ _ _ facts hix)
    (fun q _ => match q with | 0 => SparseCore.Cfg.VecSplit.of_plain (vecSplit _ _ _))
    m ρ main (fun _ => iprop(emp)) (FIN m) (u₀ (F := F)) (sep_elim_left.trans (hu₀ _ _ _)) (hmain m ρ) (fq m) (hfin m) (QC m) (fun _ h hz => ⟨h, hz⟩)

end Cert.Proof.Launch

end
-- ==== Proof.Value.lean ====
/-
  The value of the gather: what the host operations before the call leave in the table and in the rows of row numbers, what
  the range precondition says of those numbers, and the reference's result as the same gathered rows.
-/
module

public import proofs.«01_k».proof.Defs
public import proofs.«01_k».proof.Proof.Launch
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.Routing.Ops

@[expose] public section

noncomputable section

namespace Cert.Proof.Value

open Cert.KernelIdeal Cert.KernelIdeal.Gen Cert.Proof.Tile Cert.Proof.Launch

open Idealize.ShloMosaic Idealize.SL.Sem
open Idealize.ShloMosaic.ValueIdx (idx2_lt0 idx2_lt1)

variable {F : FTy → Type} [FloatOps F]

/-! ## The table and the row numbers as plain functions of the arguments -/

abbrev Xyz (F : FTy → Type) : Type := S8x3x4096.Idx → Elt F .f32
abbrev Pts (F : FTy → Type) : Type := S8x64x4096.Idx → Elt F .f32
abbrev Nbr (F : FTy → Type) : Type := S8x512x32.Idx → Elt F .i32

/-- The table of points: row `n` holds the three coordinates of point `n % 4096` of cloud `n / 4096`, then its 64
    features, then zeros. -/
def table (a : Xyz F) (p : Pts F) : Tbl F := fun j =>
  if h3 : (j 1).val < 3 then
    a (ix3 (⟨(j 0).val / 4096, by have := idx2_lt0 j; omega⟩ : Fin 8) (⟨(j 1).val, h3⟩ : Fin 3)
      (⟨(j 0).val % 4096, Nat.mod_lt _ (by omega)⟩ : Fin 4096))
  else if h67 : (j 1).val < 67 then
    p (ix3 (⟨(j 0).val / 4096, by have := idx2_lt0 j; omega⟩ : Fin 8) (⟨(j 1).val - 3, by omega⟩ : Fin 64)
      (⟨(j 0).val % 4096, Nat.mod_lt _ (by omega)⟩ : Fin 4096))
  else constant S_ .f32 0x00000000#32 ix0

/-- Word `q` of row `p` is the neighbour number at place `128 p + q` of the neighbour numbers, in their order. -/
def numbers (x : Nbr F) : Ixs F := fun j =>
  x (ix3 (⟨((j 0).val * 128 + (j 1).val) / 16384, by have := idx2_lt0 j; have := idx2_lt1 j; omega⟩ : Fin 8)
    (⟨((j 0).val * 128 + (j 1).val) / 32 % 512, Nat.mod_lt _ (by omega)⟩ : Fin 512)
    (⟨((j 0).val * 128 + (j 1).val) % 32, Nat.mod_lt _ (by omega)⟩ : Fin 32))

theorem table_xyz (a : Xyz F) (p : Pts F) (r : Fin 32768) (c : Fin 128) (h3 : c.val < 3) :
    table a p (ix2 r c) = a (ix3 (⟨r.val / 4096, by omega⟩ : Fin 8) (⟨c.val, h3⟩ : Fin 3) (⟨r.val % 4096, Nat.mod_lt _ (by omega)⟩ : Fin 4096)) := by
  unfold table
  rw [dif_pos (show ((ix2 r c : S32768x128.Idx) 1).val < 3 from h3)]
  rfl

theorem table_pts (a : Xyz F) (p : Pts F) (r : Fin 32768) (c : Fin 128) (h3 : ¬ c.val < 3) (h67 : c.val < 67) :
    table a p (ix2 r c) = p (ix3 (⟨r.val / 4096, by omega⟩ : Fin 8) (⟨c.val - 3, by omega⟩ : Fin 64) (⟨r.val % 4096, Nat.mod_lt _ (by omega)⟩ : Fin 4096)) := by
  unfold table
  rw [dif_neg (show ¬ ((ix2 r c : S32768x128.Idx) 1).val < 3 from h3), dif_pos (show ((ix2 r c : S32768x128.Idx) 1).val < 67 from h67)]
  rfl

theorem table_zero (a : Xyz F) (p : Pts F) (r : Fin 32768) (c : Fin 128) (h67 : ¬ c.val < 67) :
    table a p (ix2 r c) = constant S_ .f32 0x00000000#32 ix0 := by
  unfold table
  rw [dif_neg (show ¬ ((ix2 r c : S32768x128.Idx) 1).val < 3 by show ¬ c.val < 3; omega),
    dif_neg (show ¬ ((ix2 r c : S32768x128.Idx) 1).val < 67 from h67)]

/-- Two arrays of two axes that agree at every pair of coordinates are equal. -/
theorem ext2 {α : Type} {n0 n1 : ℕ} {f g : (⟨2, ![n0, n1]⟩ : Shape).Idx → α} (h : ∀ (r : Fin n0) (c : Fin n1), f (ix2 r c) = g (ix2 r c)) : f = g :=
  funext fun j => by rw [eq_ix2 j]; exact h _ _

/-- The pieces' transposes, flattened to rows, read at a row and a column. -/
theorem rows_xyz (a : Xyz F) (r : Fin 32768) (c : Fin 3) :
    shapeCast S32768x3 (transpose S8x4096x3 [0, 2, 1] a transposes_S8x3x4096_S8x4096x3_0_2_1) shapeCasts_S8x4096x3_S32768x3 (ix2 r c)
      = a (ix3 (⟨r.val / 4096, by omega⟩ : Fin 8) c (⟨r.val % 4096, Nat.mod_lt _ (by omega)⟩ : Fin 4096)) := by
  refine (shapeCast_apply _ _ (ix2 r c) (ix3 (⟨r.val / 4096, by omega⟩ : Fin 8) (⟨r.val % 4096, Nat.mod_lt _ (by omega)⟩ : Fin 4096) c) ?_).trans ?_
  · rw [Shape.rowMajor_val_three, Shape.rowMajor_val_two]
    show (r.val / 4096 * 4096 + r.val % 4096) * 3 + c.val = r.val * 3 + c.val
    omega
  · refine transpose_apply _ a _ _ _ fun b => ?_
    match b with
    | ⟨0, _⟩ => rfl
    | ⟨1, _⟩ => rfl
    | ⟨2, _⟩ => rfl

theorem rows_pts (p : Pts F) (r : Fin 32768) (c : Fin 64) :
    shapeCast S32768x64 (transpose S8x4096x64 [0, 2, 1] p transposes_S8x64x4096_S8x4096x64_0_2_1) shapeCasts_S8x4096x64_S32768x64 (ix2 r c)
      = p (ix3 (⟨r.val / 4096, by omega⟩ : Fin 8) c (⟨r.val % 4096, Nat.mod_lt _ (by omega)⟩ : Fin 4096)) := by
  refine (shapeCast_apply _ _ (ix2 r c) (ix3 (⟨r.val / 4096, by omega⟩ : Fin 8) (⟨r.val % 4096, Nat.mod_lt _ (by omega)⟩ : Fin 4096) c) ?_).trans ?_
  · rw [Shape.rowMajor_val_three, Shape.rowMajor_val_two]
    show (r.val / 4096 * 4096 + r.val % 4096) * 64 + c.val = r.val * 64 + c.val
    omega
  · refine transpose_apply _ p _ _ _ fun b => ?_
    match b with
    | ⟨0, _⟩ => rfl
    | ⟨1, _⟩ => rfl
    | ⟨2, _⟩ => rfl

/-- The table as the kernel's host operations build it: rows of the three pieces side by side. -/
theorem kernel_table (a : Xyz F) (p : Pts F) :
    concatenate S32768x128 1 [
        ⟨S32768x3, shapeCast S32768x3 (transpose S8x4096x3 [0, 2, 1] a transposes_S8x3x4096_S8x4096x3_0_2_1) shapeCasts_S8x4096x3_S32768x3⟩,
        ⟨S32768x64, shapeCast S32768x64 (transpose S8x4096x64 [0, 2, 1] p transposes_S8x64x4096_S8x4096x64_0_2_1) shapeCasts_S8x4096x64_S32768x64⟩,
        ⟨S32768x61, broadcastInDim S32768x61 ![] bcast_S_S32768x61 (constant S_ .f32 0x00000000#32)⟩]
      concatenates_S32768x3_S32768x64_S32768x61_S32768x128_d1 = table a p := by
  refine ext2 fun r c => ?_
  by_cases h3 : c.val < 3
  · refine (concatenate_apply_piece 1 _ _ (ix2 r c) 0 (by show 0 < 3; omega) S32768x3 _ rfl rfl 0 rfl (ix2 r (⟨c.val, h3⟩ : Fin 3)) (fun b hb => ?_) ?_).trans ?_
    · match b with
      | ⟨0, _⟩ => rfl
      | ⟨1, _⟩ => exact absurd rfl hb
    · exact Nat.zero_add _
    · exact (rows_xyz a r _).trans (table_xyz a p r c h3).symm
  by_cases h67 : c.val < 67
  · refine (concatenate_apply_piece 1 _ _ (ix2 r c) 1 (by show 1 < 3; omega) S32768x64 _ rfl rfl 3 rfl (ix2 r (⟨c.val - 3, by omega⟩ : Fin 64)) (fun b hb => ?_) ?_).trans ?_
    · match b with
      | ⟨0, _⟩ => rfl
      | ⟨1, _⟩ => exact absurd rfl hb
    · show 3 + (c.val - 3) = c.val
      omega
    · exact (rows_pts p r _).trans (table_pts a p r c h3 h67).symm
  · refine (concatenate_apply_piece 1 _ _ (ix2 r c) 2 (by show 2 < 3; omega) S32768x61 _ rfl rfl 67 rfl (ix2 r (⟨c.val - 67, by omega⟩ : Fin 61)) (fun b hb => ?_) ?_).trans ?_
    · match b with
      | ⟨0, _⟩ => rfl
      | ⟨1, _⟩ => exact absurd rfl hb
    · show 67 + (c.val - 67) = c.val
      omega
    · refine (broadcastInDim_apply _ _ _ _ ix0 (fun a => a.elim0)).trans ?_
      exact (table_zero a p r c h67).symm

theorem kernel_numbers (x : Nbr F) : shapeCast S1024x128 x shapeCasts_S8x512x32_S1024x128 = numbers x := by
  funext j
  refine shapeCast_apply _ _ j _ ?_
  rw [Shape.rowMajor_val_three, Shape.rowMajor_val_two]
  have h0 := idx2_lt0 j; have h1 := idx2_lt1 j
  show (((j 0).val * 128 + (j 1).val) / 16384 * 512 + ((j 0).val * 128 + (j 1).val) / 32 % 512) * 32 + ((j 0).val * 128 + (j 1).val) % 32
    = (j 0).val * 128 + (j 1).val
  omega

variable (m : (ℓ : Loc nD τ sig) → Buf (Elt F) ℓ)

theorem tbl_eq (d : Dev nD) : tbl m d = table (m (aLoc0 d)) (m (aLoc1 d)) := by
  refine Eq.trans ?_ (kernel_table (m (aLoc0 d)) (m (aLoc1 d)))
  unfold tbl V₁ ops; after_results <;> rfl

theorem ixs_eq (d : Dev nD) : ixs m d = numbers (m (aLoc2 d)) := by
  refine Eq.trans ?_ (kernel_numbers (F := F) (m (aLoc2 d)))
  unfold ixs V₁ ops; after_results <;> rfl

/-! ## The range -/

instance : Subsingleton Cert.Pre_in_range.S_.Idx := ⟨fun a b => funext fun i => i.elim0⟩

/-- The precondition, read at one neighbour number. -/
theorem range_of_pre (a : Xyz F) (p : Pts F) (x : Nbr F) (h : Cert.Pre_in_range.fn (F := F) a p x = fun _ => 1#1) (i : S8x512x32.Idx) :
    (x i : BitVec 32).toNat < 32768 := by
  have e := Host.reduce_andi_all _ _ _ _ ix0 (congrFun h ix0) i
  obtain ⟨h1, h2⟩ := IntOp.andi_eq_one.1 e
  have h1' := IntOp.cmpi_sge.1 h1
  have h2' := IntOp.cmpi_slt.1 h2
  simp only [broadcastInDim, constantI, BitVec.toInt_eq_toNat_cond, BitVec.toNat_ofNat, Nat.reducePow, Nat.reduceMod] at h1' h2'
  split_ifs at h1' h2' <;> omega

theorem inRows_of_range (x : Nbr F) (h : ∀ i : S8x512x32.Idx, (x i : BitVec 32).toNat < 32768) : InRows (numbers x) := fun _ => h _

/-! ## The reference -/

section Reference
open Cert.ReferenceIdeal (S8x4096x128 S8x4096x61 S131072 S131072x1)

/-- The table as the reference builds it: the three pieces side by side in every cloud, flattened to rows. -/
theorem reference_table (a : Xyz F) (p : Pts F) :
    shapeCast S32768x128 (concatenate S8x4096x128 2 [
        ⟨S8x4096x3, transpose S8x4096x3 [0, 2, 1] a Cert.ReferenceIdeal.Gen.transposes_S8x3x4096_S8x4096x3_0_2_1⟩,
        ⟨S8x4096x64, transpose S8x4096x64 [0, 2, 1] p Cert.ReferenceIdeal.Gen.transposes_S8x64x4096_S8x4096x64_0_2_1⟩,
        ⟨S8x4096x61, broadcastInDim S8x4096x61 ![] Cert.ReferenceIdeal.Gen.bcast_S_S8x4096x61 (constant S_ .f32 0x00000000#32)⟩]
      Cert.ReferenceIdeal.Gen.concatenates_S8x4096x3_S8x4096x64_S8x4096x61_S8x4096x128_d2)
      Cert.ReferenceIdeal.Gen.shapeCasts_S8x4096x128_S32768x128 = table a p := by
  refine ext2 fun r c => ?_
  generalize hb : (⟨r.val / 4096, by omega⟩ : Fin 8) = b
  generalize hn : (⟨r.val % 4096, Nat.mod_lt _ (by omega)⟩ : Fin 4096) = n
  have hbv : b.val = r.val / 4096 := by rw [← hb]
  have hnv : n.val = r.val % 4096 := by rw [← hn]
  refine (shapeCast_apply _ _ (ix2 r c) (ix3 b n c : S8x4096x128.Idx) ?_).trans ?_
  · rw [Shape.rowMajor_val_three, Shape.rowMajor_val_two]
    show (b.val * 4096 + n.val) * 128 + c.val = r.val * 128 + c.val
    omega
  by_cases h3 : c.val < 3
  · refine (concatenate_apply_piece 2 _ _ (ix3 b n c : S8x4096x128.Idx) 0 (by show 0 < 3; omega) S8x4096x3 _ rfl rfl 0 rfl (ix3 b n (⟨c.val, h3⟩ : Fin 3)) (fun b hb => ?_) ?_).trans ?_
    · match b with
      | ⟨0, _⟩ => rfl
      | ⟨1, _⟩ => rfl
      | ⟨2, _⟩ => exact absurd rfl hb
    · exact Nat.zero_add _
    · refine Eq.trans ?_ (table_xyz a p r c h3).symm
      subst hb hn
      refine transpose_apply _ a _ _ _ fun b => ?_
      match b with
      | ⟨0, _⟩ => rfl
      | ⟨1, _⟩ => rfl
      | ⟨2, _⟩ => rfl
  by_cases h67 : c.val < 67
  · refine (concatenate_apply_piece 2 _ _ (ix3 b n c : S8x4096x128.Idx) 1 (by show 1 < 3; omega) S8x4096x64 _ rfl rfl 3 rfl (ix3 b n (⟨c.val - 3, by omega⟩ : Fin 64)) (fun b hb => ?_) ?_).trans ?_
    · match b with
      | ⟨0, _⟩ => rfl
      | ⟨1, _⟩ => rfl
      | ⟨2, _⟩ => exact absurd rfl hb
    · show 3 + (c.val - 3) = c.val
      omega
    · refine Eq.trans ?_ (table_pts a p r c h3 h67).symm
      subst hb hn
      refine transpose_apply _ p _ _ _ fun b => ?_
      match b with
      | ⟨0, _⟩ => rfl
      | ⟨1, _⟩ => rfl
      | ⟨2, _⟩ => rfl
  · refine (concatenate_apply_piece 2 _ _ (ix3 b n c : S8x4096x128.Idx) 2 (by show 2 < 3; omega) S8x4096x61 _ rfl rfl 67 rfl (ix3 b n (⟨c.val - 67, by omega⟩ : Fin 61)) (fun b hb => ?_) ?_).trans ?_
    · match b with
      | ⟨0, _⟩ => rfl
      | ⟨1, _⟩ => rfl
      | ⟨2, _⟩ => exact absurd rfl hb
    · show 67 + (c.val - 67) = c.val
      omega
    · refine (broadcastInDim_apply _ _ _ _ ix0 (fun a => a.elim0)).trans ?_
      exact (table_zero a p r c h67).symm

/-- Taking rows at in-range numbers, in their order, gives the gathered rows. -/
theorem reference_rows (tb : Tbl F) (x : Nbr F) (hx : ∀ i : S8x512x32.Idx, (x i : BitVec 32).toNat < 32768) :
    Host.gather Cert.ReferenceIdeal.gather_S32768x128_S131072x1_S131072x128_1_0_n_n_0_1_1128 tb
      (broadcastInDim S131072x1 ![0] Cert.ReferenceIdeal.Gen.bcast_S131072_S131072x1_0
        (shapeCast S131072 x Cert.ReferenceIdeal.Gen.shapeCasts_S8x512x32_S131072))
      = gathered tb (numbers x) := by
  refine ext2 fun n c => ?_
  generalize hi : (ix3 (⟨n.val / 16384, by omega⟩ : Fin 8) (⟨n.val / 32 % 512, Nat.mod_lt _ (by omega)⟩ : Fin 512)
    (⟨n.val % 32, Nat.mod_lt _ (by omega)⟩ : Fin 32) : S8x512x32.Idx) = i
  have e1 : broadcastInDim S131072x1 ![0] Cert.ReferenceIdeal.Gen.bcast_S131072_S131072x1_0
        (shapeCast S131072 x Cert.ReferenceIdeal.Gen.shapeCasts_S8x512x32_S131072) (ix2 n (0 : Fin 1)) = x i := by
    refine (broadcastInDim_apply _ _ _ _ (ix1 n) (fun a => ?_)).trans (shapeCast_apply x _ (ix1 n) i ?_)
    · match a with
      | ⟨0, _⟩ => rfl
    · subst hi
      rw [Shape.rowMajor_val_three, Shape.rowMajor_val_one]
      show (n.val / 16384 * 512 + n.val / 32 % 512) * 32 + n.val % 32 = n.val
      omega
  have e2 : numbers x (ix2 (⟨n.val / 128, by omega⟩ : Fin 1024) (⟨n.val % 128, Nat.mod_lt _ (by omega)⟩ : Fin 128)) = x i := by
    subst hi
    have hn : n.val / 128 * 128 + n.val % 128 = n.val := by omega
    refine congrArg x (funext fun a => Fin.ext ?_)
    match a with
    | ⟨0, _⟩ => exact congrArg (· / 16384) hn
    | ⟨1, _⟩ => exact congrArg (· / 32 % 512) hn
    | ⟨2, _⟩ => exact congrArg (· % 32) hn
  have hr : (rowOf (x i)).val = (x i : BitVec 32).toNat := by
    have := hx i
    show min _ 32767 = _
    omega
  refine (Routing.gather_row _ rfl rfl rfl rfl rfl tb _ n c (rowOf (x i)) ?_ (by norm_num)).trans ?_
  · refine Eq.trans (b := (x i : BitVec 32)) e1 ?_
    rw [hr]
    exact (BitVec.eq_of_toNat_eq (by rw [BitVec.toNat_ofNat]; exact Nat.mod_eq_of_lt (BitVec.isLt _))).symm
  · exact congrArg (fun v : BitVec 32 => tb (ix2 (rowOf v) c)) e2.symm

end Reference

end Cert.Proof.Value

end
-- ==== Proof.SampleMath.lean ====
/-
  Farthest point sampling, stated plainly: eight clouds of 4096 points, each point a triple of extended reals. A round
  takes the distance of every point to the point chosen last, keeps the smaller of it and what was kept before, and
  chooses the first point whose kept distance is the largest. The two ways of finding that point which a program can use
  (the largest value and then the smallest index holding it; one pass over pairs of a value and an index) both give it.
-/
module

public import Mathlib.Data.EReal.Operations
public import Mathlib.Algebra.BigOperators.Fin

@[expose] public section

noncomputable section

namespace Cert.Proof.SampleMath

/-- `i` is the first index at which `g` takes its largest value. -/
def IsFirst (g : Fin 4096 → EReal) (i : Fin 4096) : Prop := (∀ j, g j ≤ g i) ∧ ∀ j, g j = g i → i ≤ j

theorem exists_first (g : Fin 4096 → EReal) : ∃ i, IsFirst g i := by
  obtain ⟨m, -, hm⟩ := Finset.exists_max_image Finset.univ g ⟨0, Finset.mem_univ _⟩
  obtain ⟨i, hi, hmin⟩ := Finset.exists_min_image (Finset.univ.filter fun j => g j = g m) id ⟨m, by simp⟩
  have hgi : g i = g m := by simpa using hi
  refine ⟨i, fun j => hgi ▸ hm j (Finset.mem_univ _), fun j hj => hmin j ?_⟩
  simp [hj, hgi]

/-- The first index of the largest value. -/
def first (g : Fin 4096 → EReal) : Fin 4096 := (exists_first g).choose

theorem isFirst_first (g : Fin 4096 → EReal) : IsFirst g (first g) := (exists_first g).choose_spec

theorem IsFirst.eq {g : Fin 4096 → EReal} {i : Fin 4096} (h : IsFirst g i) : i = first g := by
  have h' := isFirst_first g
  have e : g (first g) = g i := le_antisymm (h.1 _) (h'.1 _)
  exact le_antisymm (h.2 _ e) (h'.2 _ e.symm)

/-- The clouds: a value for every cloud, coordinate and point. -/
abbrev Clouds : Type := Fin 8 → Fin 3 → Fin 4096 → EReal

/-- The squared distance of a point of a cloud to the point `f b` of that cloud. -/
def sqd (x : Clouds) (f : Fin 8 → Fin 4096) (b : Fin 8) (n : Fin 4096) : EReal :=
  ∑ c : Fin 3, (x b c n - x b c (f b)) * (x b c n - x b c (f b))

/-- The distances kept and the point chosen last. -/
abbrev St : Type := (Fin 8 → Fin 4096 → EReal) × (Fin 8 → Fin 4096)

def keep (x : Clouds) (s : St) : Fin 8 → Fin 4096 → EReal := fun b n => min (s.1 b n) (sqd x s.2 b n)

/-- One round. -/
def round (x : Clouds) (s : St) : St := (keep x s, fun b => first (keep x s b))

theorem round_far (x : Clouds) (s : St) (b : Fin 8) : (round x s).2 b = first (keep x (s.1, s.2) b) := rfl

/-- The state before round `k`, the distances starting at `big`. -/
def state (x : Clouds) (big : EReal) (k : ℕ) : St := (round x)^[k] (fun _ _ => big, fun _ => 0)

theorem state_zero (x : Clouds) (big : EReal) : state x big 0 = (fun _ _ => big, fun _ => 0) := rfl

theorem state_succ (x : Clouds) (big : EReal) (k : ℕ) : state x big (k + 1) = round x (state x big k) :=
  Function.iterate_succ_apply' _ _ _

/-- The point chosen for round `k`. -/
def pick (x : Clouds) (big : EReal) (k : ℕ) (b : Fin 8) : Fin 4096 := (state x big k).2 b

/-! ## The smallest index holding the largest value -/

theorem toInt_ofNat_of_lt {n : ℕ} (h : n < 4097) : (BitVec.ofNat 32 n).toInt = n := by
  rw [BitVec.toInt_eq_toNat_cond, BitVec.toNat_ofNat, Nat.mod_eq_of_lt (by omega)]
  split_ifs <;> omega

/-- A fold of an operation that returns one of its two words, the smaller as a signed number, returns one of the words
    folded (or the start), and none of them is smaller. -/
theorem fold_least {ι : Type} (op : BitVec 32 → BitVec 32 → BitVec 32) [Std.Commutative op] [Std.Associative op]
    (hop : ∀ a b, (op a b = a ∧ a.toInt ≤ b.toInt) ∨ (op a b = b ∧ b.toInt ≤ a.toInt)) (init : BitVec 32) (f : ι → BitVec 32) (s : Finset ι) :
    (s.fold op init f = init ∨ ∃ i ∈ s, s.fold op init f = f i) ∧ ∀ i ∈ s, (s.fold op init f).toInt ≤ (f i).toInt := by
  classical
  induction s using Finset.induction_on with
  | empty => exact ⟨Or.inl rfl, fun i hi => absurd hi (Finset.notMem_empty i)⟩
  | insert a s ha ih =>
    rw [Finset.fold_insert ha]
    rcases hop (f a) (s.fold op init f) with ⟨e, hle⟩ | ⟨e, hle⟩
    · rw [e]
      refine ⟨Or.inr ⟨a, Finset.mem_insert_self _ _, rfl⟩, fun i hi => ?_⟩
      rcases Finset.mem_insert.1 hi with rfl | hi
      · exact le_rfl
      · exact hle.trans (ih.2 i hi)
    · rw [e]
      refine ⟨ih.1.imp_right fun ⟨i, hi, e⟩ => ⟨i, Finset.mem_insert_of_mem hi, e⟩, fun i hi => ?_⟩
      rcases Finset.mem_insert.1 hi with rfl | hi
      · exact hle
      · exact ih.2 i hi

/-- The largest value, as a fold from the smallest extended real. -/
theorem fold_max (g : Fin 4096 → EReal) : (Finset.univ : Finset (Fin 4096)).fold max ⊥ g = g (first g) := by
  refine le_antisymm ?_ ?_
  · exact (Finset.fold_max_le _).2 ⟨bot_le, fun j _ => (isFirst_first g).1 j⟩
  · exact (Finset.le_fold_max _).2 (Or.inr ⟨first g, Finset.mem_univ _, le_rfl⟩)

/-- The smallest index among those holding the largest value, found as a signed minimum over words. -/
theorem fold_min_index (op : BitVec 32 → BitVec 32 → BitVec 32) [Std.Commutative op] [Std.Associative op]
    (hop : ∀ a b, (op a b = a ∧ a.toInt ≤ b.toInt) ∨ (op a b = b ∧ b.toInt ≤ a.toInt)) (g : Fin 4096 → EReal) (f : Fin 4096 → BitVec 32)
    (hf : ∀ n, f n = if g n = g (first g) then BitVec.ofNat 32 n.val else 4096#32) :
    (Finset.univ : Finset (Fin 4096)).fold op 2147483647#32 f = BitVec.ofNat 32 (first g).val := by
  obtain ⟨h1, h2⟩ := fold_least op hop 2147483647#32 f Finset.univ
  have hb := h2 (first g) (Finset.mem_univ _)
  rw [hf, if_pos rfl, toInt_ofNat_of_lt (by omega)] at hb
  rcases h1 with h1 | ⟨i, -, h1⟩
  · rw [h1] at hb
    have : (2147483647#32).toInt = 2147483647 := by decide
    omega
  · rw [h1] at hb ⊢
    rw [hf] at hb ⊢
    by_cases hi : g i = g (first g)
    · rw [if_pos hi, toInt_ofNat_of_lt (by omega)] at hb
      rw [if_pos hi]
      have := (isFirst_first g).2 i hi
      have : i = first g := Fin.ext (by have : (first g).val ≤ i.val := this; omega)
      rw [this]
    · rw [if_neg hi] at hb
      have : (4096#32).toInt = 4096 := by decide
      omega

/-! ## One pass over pairs -/

/-- A pair is at least as good as another: its value is larger, or it is the same and its index is not larger. -/
def Better (r q : EReal × BitVec 32) : Prop := q.1 < r.1 ∨ (q.1 = r.1 ∧ r.2.toInt ≤ q.2.toInt)

theorem Better.refl (r : EReal × BitVec 32) : Better r r := Or.inr ⟨rfl, le_rfl⟩

theorem Better.trans {a b c : EReal × BitVec 32} (h : Better a b) (h' : Better b c) : Better a c := by
  rcases h with h | ⟨e, h⟩ <;> rcases h' with h' | ⟨e', h'⟩
  · exact Or.inl (h'.trans h)
  · exact Or.inl (e' ▸ h)
  · exact Or.inl (e ▸ h')
  · exact Or.inr ⟨e'.trans e, h.trans h'⟩

/-- A pass that keeps the better of two pairs ends with one of the pairs it saw, and with none better. -/
theorem foldl_best (f : EReal × BitVec 32 → EReal × BitVec 32 → EReal × BitVec 32)
    (hf : ∀ a b, (f a b = a ∨ f a b = b) ∧ Better (f a b) a ∧ Better (f a b) b) (l : List (EReal × BitVec 32)) :
    ∀ a, (l.foldl f a = a ∨ l.foldl f a ∈ l) ∧ Better (l.foldl f a) a ∧ ∀ q ∈ l, Better (l.foldl f a) q := by
  induction l with
  | nil => exact fun a => ⟨Or.inl rfl, Better.refl a, fun q hq => absurd hq List.not_mem_nil⟩
  | cons b l ih =>
    intro a
    obtain ⟨h1, h2, h3⟩ := ih (f a b)
    obtain ⟨e, ha, hb⟩ := hf a b
    rw [List.foldl_cons]
    refine ⟨?_, h2.trans ha, fun q hq => ?_⟩
    · rcases h1 with h1 | h1
      · rw [h1]
        rcases e with e | e
        · exact Or.inl e
        · rw [e]; exact Or.inr List.mem_cons_self
      · exact Or.inr (List.mem_cons_of_mem _ h1)
    · rcases List.mem_cons.1 hq with rfl | hq
      · exact h2.trans hb
      · exact h3 q hq

/-- Such a pass over every value with its index, from the smallest value with index zero, ends at the first index of the
    largest value. -/
theorem foldl_first (f : EReal × BitVec 32 → EReal × BitVec 32 → EReal × BitVec 32)
    (hf : ∀ a b, (f a b = a ∨ f a b = b) ∧ Better (f a b) a ∧ Better (f a b) b) (l : List (EReal × BitVec 32)) (g : Fin 4096 → EReal)
    (hl : ∀ q, q ∈ l ↔ ∃ n, q = (g n, BitVec.ofNat 32 n.val)) :
    (l.foldl f (⊥, 0#32)).2 = BitVec.ofNat 32 (first g).val := by
  obtain ⟨h1, -, h3⟩ := foldl_best f hf l (⊥, 0#32)
  generalize l.foldl f (⊥, 0#32) = r at h1 h3
  have hb := h3 (g (first g), BitVec.ofNat 32 (first g).val) ((hl _).2 ⟨_, rfl⟩)
  have h1' : ∃ n, r = (g n, BitVec.ofNat 32 n.val) := by
    rcases h1 with rfl | h1
    · refine ⟨0, Prod.ext ?_ rfl⟩
      rcases h3 (g 0, 0#32) ((hl _).2 ⟨0, rfl⟩) with h | ⟨h, -⟩
      · exact absurd h (not_lt.2 bot_le)
      · exact h.symm
    · exact (hl r).1 h1
  obtain ⟨n, rfl⟩ := h1'
  show BitVec.ofNat 32 n.val = _
  rcases hb with h | ⟨h, hle⟩
  · exact absurd h (not_lt.2 ((isFirst_first g).1 n))
  · have h' := (isFirst_first g).2 n h.symm
    have hle' : (BitVec.ofNat 32 n.val).toInt ≤ (BitVec.ofNat 32 (first g).val).toInt := hle
    rw [toInt_ofNat_of_lt (by omega), toInt_ofNat_of_lt (by omega)] at hle'
    have : n = first g := Fin.ext (by have : (first g).val ≤ n.val := h'; omega)
    rw [this]

end Cert.Proof.SampleMath

end
-- ==== Proof.SampleKernel.lean ====
/-
  The sampling kernel's body: its loop carries the distances kept, the point chosen last, and the coordinates of the
  points chosen so far. One trip is one round of farthest point sampling, and writes the chosen point's three
  coordinates in the trip's column.
-/
module

public import proofs.«01_k».proof.Proof.Gen.SampleIdeal.Value
public import proofs.«01_k».proof.Proof.SampleMath
public import Idealize.ShloMosaic.Lib.Pointwise

@[expose] public section

noncomputable section

namespace Cert.Proof.SampleKernel

open Cert.SampleIdeal Cert.SampleIdeal.Gen Idealize.ShloMosaic Idealize.ShloMosaic.TcCoe Idealize.SL.Sem Cert.Proof.SampleMath

/-- Words below 4096 are equal exactly when their numbers are. -/
theorem ofNat_eq_iff {a b : ℕ} (ha : a < 4096) (hb : b < 4096) : BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

/-- The word comparison for equality, at words below 4096. -/
theorem cmpi_eq_ofNat {a b : ℕ} (ha : a < 4096) (hb : b < 4096) :
    IntOp.cmpi .eq (BitVec.ofNat 32 a) (BitVec.ofNat 32 b) = if a = b then 1#1 else 0#1 := by
  by_cases h : a = b
  · subst h; rw [if_pos rfl]; exact IntOp.cmpi_eq.2 rfl
  · rw [if_neg h]
    have h' : ¬ IntOp.cmpi .eq (BitVec.ofNat 32 a) (BitVec.ofNat 32 b) = 1#1 := fun e => h ((ofNat_eq_iff ha hb).1 (IntOp.cmpi_eq.1 e))
    generalize IntOp.cmpi .eq (BitVec.ofNat 32 a) (BitVec.ofNat 32 b) = v at h'
    revert h'; revert v; decide

/-- A sum of the values whose index is `i` is the value at `i`. -/
theorem sum_hot (g : Fin 4096 → EReal) (i : Fin 4096) (c : Fin 4096 → BitVec 1) (hc : ∀ n, c n = if n = i then 1#1 else 0#1) :
    ∑ n, Scalar.select (c n) (g n) 0 = g i := by
  have e : ∀ n, Scalar.select (c n) (g n) (0 : EReal) = if n = i then g n else 0 := fun n => by
    rw [hc]; by_cases h : n = i
    · rw [if_pos h, if_pos h]; rfl
    · rw [if_neg h, if_neg h]; rfl
  simp only [e, Finset.sum_ite_eq', Finset.mem_univ, if_true]

/-- The smaller of two words as signed numbers is one of them. -/
theorem minsi_least (a b : BitVec 32) : (IntOp.minsi a b = a ∧ a.toInt ≤ b.toInt) ∨ (IntOp.minsi a b = b ∧ b.toInt ≤ a.toInt) := by
  unfold IntOp.minsi
  by_cases h : a.slt b = true
  · rw [if_pos h]; exact Or.inl ⟨rfl, le_of_lt (BitVec.slt_iff_toInt_lt.1 h)⟩
  · rw [if_neg h]; exact Or.inr ⟨rfl, not_lt.1 fun h' => h (BitVec.slt_iff_toInt_lt.2 h')⟩

theorem ofBits_neg_inf : Ideal.ofBits .f32 0xFF800000#32 = ⊥ := by
  simp [Ideal.ofBits, Ideal.ieee]

section Trip

variable (v0 v2 v4 : Vec Ideal S8x1x4096 .f32) (far : IVec S8x1 32) (f : Fin 8 → Fin 4096)
  (hf : ∀ b, far (ix2 b 0) = BitVec.ofNat 32 (f b).val)
include hf

theorem pay7_apply (b : Fin 8) (n : Fin 4096) : k0_pay7 far (ix2 b n) = if n = f b then 1#1 else 0#1 := by
  pointwise [k0_pay7]
  rw [hf, cmpi_eq_ofNat n.isLt (f b).isLt]
  simp only [Fin.ext_iff]

theorem pay8_apply (b : Fin 8) : k0_pay8 v0 far (ix2 b 0) = v0 (ix3 b 0 (f b)) := by
  pointwise [k0_pay8, k0_pay1]
  exact sum_hot (fun n => v0 (ix3 b 0 n)) (f b) _ fun n => pay7_apply far f hf b n

theorem pay9_apply (b : Fin 8) : k0_pay9 v2 far (ix2 b 0) = v2 (ix3 b 0 (f b)) := by
  pointwise [k0_pay9, k0_pay2]
  exact sum_hot (fun n => v2 (ix3 b 0 n)) (f b) _ fun n => pay7_apply far f hf b n

theorem pay10_apply (b : Fin 8) : k0_pay10 v4 far (ix2 b 0) = v4 (ix3 b 0 (f b)) := by
  pointwise [k0_pay10, k0_pay3]
  exact sum_hot (fun n => v4 (ix3 b 0 n)) (f b) _ fun n => pay7_apply far f hf b n

variable (x : Clouds) (h0 : ∀ b n, v0 (ix3 b 0 n) = x b 0 n) (h2 : ∀ b n, v2 (ix3 b 0 n) = x b 1 n) (h4 : ∀ b n, v4 (ix3 b 0 n) = x b 2 n)
include h0 h2 h4

theorem pay15_apply (d : FVec Ideal S8x4096 .f32) (D : Fin 8 → Fin 4096 → EReal) (hd : ∀ b n, d (ix2 b n) = D b n) (b : Fin 8) (n : Fin 4096) :
    k0_pay15 v0 v2 v4 d far (ix2 b n) = keep x (D, f) b n := by
  pointwise [k0_pay15, k0_pay1, k0_pay2, k0_pay3]
  rw [pay8_apply v0 far f hf, pay9_apply v2 far f hf, pay10_apply v4 far f hf]
  simp only [h0, h2, h4, hd, keep, sqd, Fin.sum_univ_three]
  rw [add_right_comm]

theorem pay16_apply (d : FVec Ideal S8x4096 .f32) (D : Fin 8 → Fin 4096 → EReal) (hd : ∀ b n, d (ix2 b n) = D b n) (b : Fin 8) :
    k0_pay16 v0 v2 v4 d far (ix2 b 0) = BitVec.ofNat 32 (first (keep x (D, f) b)).val := by
  pointwise [k0_pay16]
  refine fold_min_index IntOp.minsi minsi_least (keep x (D, f) b) _ fun n => ?_
  have e : ∀ n, k0_pay15 v0 v2 v4 d far (ix2 b n) = keep x (D, f) b n := pay15_apply v0 v2 v4 far f hf x h0 h2 h4 d D hd b
  simp only [e, ofBits_neg_inf]
  rw [show (Finset.univ : Finset (Fin 4096)).fold max ⊥ (fun n => keep x (D, f) b n) = _ from fold_max (keep x (D, f) b)]

end Trip

theorem iv_eq (t : ℕ) : Scf.iv 0#32 1#32 t = BitVec.ofNat 32 t := by
  simp [Scf.iv]

/-- The column a trip writes holds the chosen point's coordinate; the others stay. -/
theorem column (p : Fin 512 → EReal) (w : EReal) (t : ℕ) (ht : t < 512) (k : Fin 512) :
    Scalar.select (IntOp.cmpi .eq (BitVec.ofNat 32 k.val) (Scf.iv 0#32 1#32 t)) w (p k) = if k.val = t then w else p k := by
  rw [iv_eq, cmpi_eq_ofNat (by omega) (by omega)]
  by_cases h : k.val = t
  · rw [if_pos h, if_pos h]; rfl
  · rw [if_neg h, if_neg h]; rfl

/-- What the loop carries. -/
abbrev Carry : Type := FVec Ideal S8x4096 .f32 × IVec S8x1 32 × FVec Ideal S8x512 .f32 × FVec Ideal S8x512 .f32 × FVec Ideal S8x512 .f32

/-- The carried values before round `k`. -/
structure Inv (x : Clouds) (big : EReal) (k : ℕ) (s : Carry) : Prop where
  dist : ∀ b n, s.1 (ix2 b n) = (state x big k).1 b n
  far : ∀ b, s.2.1 (ix2 b 0) = BitVec.ofNat 32 (pick x big k b).val
  ax : ∀ b (j : Fin 512), j.val < k → s.2.2.1 (ix2 b j) = x b 0 (pick x big j.val b)
  ay : ∀ b (j : Fin 512), j.val < k → s.2.2.2.1 (ix2 b j) = x b 1 (pick x big j.val b)
  az : ∀ b (j : Fin 512), j.val < k → s.2.2.2.2 (ix2 b j) = x b 2 (pick x big j.val b)

/-- One trip of the loop. -/
def trip (v0 v2 v4 : Vec Ideal S8x1x4096 .f32) (k : Fin k0_t1_loop.trips) (s : Carry) : Carry :=
  (k0_pay15 v0 v2 v4 s.1 s.2.1, k0_pay16 v0 v2 v4 s.1 s.2.1, k0_pay12 v0 k s.2.1 s.2.2.1, k0_pay13 v2 k s.2.1 s.2.2.2.1, k0_pay14 v4 k s.2.1 s.2.2.2.2)

theorem trips_eq : k0_t1_loop.trips = 512 := by decide

theorem Inv.step {v0 v2 v4 : Vec Ideal S8x1x4096 .f32} {x : Clouds} {big : EReal} (h0 : ∀ b n, v0 (ix3 b 0 n) = x b 0 n)
    (h2 : ∀ b n, v2 (ix3 b 0 n) = x b 1 n) (h4 : ∀ b n, v4 (ix3 b 0 n) = x b 2 n) (k : Fin k0_t1_loop.trips) (s : Carry)
    (h : Inv x big k.val s) : Inv x big (k.val + 1) (trip v0 v2 v4 k s) := by
  have hk : k.val < 512 := lt_of_lt_of_eq k.isLt trips_eq
  have col : ∀ (b : Fin 8) (c : Fin 3) (a : FVec Ideal S8x512 .f32) (w : EReal) (hw : w = x b c (pick x big k.val b))
      (ha : ∀ j : Fin 512, j.val < k.val → a (ix2 b j) = x b c (pick x big j.val b)) (j : Fin 512), j.val < k.val + 1 →
      (if j.val = k.val then w else a (ix2 b j)) = x b c (pick x big j.val b) := by
    intro b c a w hw ha j hj
    by_cases e : j.val = k.val
    · rw [if_pos e, hw, e]
    · rw [if_neg e]; exact ha j (by omega)
  refine ⟨fun b n => ?_, fun b => ?_, fun b j hj => ?_, fun b j hj => ?_, fun b j hj => ?_⟩
  · rw [state_succ]
    exact pay15_apply v0 v2 v4 s.2.1 (pick x big k.val) h.far x h0 h2 h4 s.1 _ h.dist b n
  · have e := pay16_apply v0 v2 v4 s.2.1 (state x big k.val).2 h.far x h0 h2 h4 s.1 (state x big k.val).1 h.dist b
    rw [← round_far x (state x big k.val) b, ← state_succ] at e
    unfold pick
    dsimp only [trip]
    exact e
  · refine Eq.trans ?_ (col b 0 s.2.2.1 _ ((pay8_apply v0 s.2.1 _ h.far b).trans (h0 b _)) (h.ax b) j hj)
    show k0_pay12 v0 k s.2.1 s.2.2.1 (ix2 b j) = _
    pointwise [k0_pay12, k0_pay11]
    exact column (fun j => s.2.2.1 (ix2 b j)) _ k.val hk j
  · refine Eq.trans ?_ (col b 1 s.2.2.2.1 _ ((pay9_apply v2 s.2.1 _ h.far b).trans (h2 b _)) (h.ay b) j hj)
    show k0_pay13 v2 k s.2.1 s.2.2.2.1 (ix2 b j) = _
    pointwise [k0_pay13, k0_pay11]
    exact column (fun j => s.2.2.2.1 (ix2 b j)) _ k.val hk j
  · refine Eq.trans ?_ (col b 2 s.2.2.2.2 _ ((pay10_apply v4 s.2.1 _ h.far b).trans (h4 b _)) (h.az b) j hj)
    show k0_pay14 v4 k s.2.1 s.2.2.2.2 (ix2 b j) = _
    pointwise [k0_pay14, k0_pay11]
    exact column (fun j => s.2.2.2.2 (ix2 b j)) _ k.val hk j

/-- A property that holds at the start and is kept by every trip holds at the end of the fold. -/
theorem foldl_trips {σ : Type} {n : ℕ} (g : Fin n → σ → σ) (P : ℕ → σ → Prop) (init : σ) (h0 : P 0 init)
    (hs : ∀ (k : Fin n) s, P k.val s → P (k.val + 1) (g k s)) : P n ((List.finRange n).foldl (fun s k => g k s) init) := by
  induction n with
  | zero => exact h0
  | succ n ih =>
    rw [List.finRange_succ_last, List.foldl_append, List.foldl_map]
    exact hs (Fin.last n) _ (ih (fun k => g k.castSucc) fun k s h => hs k.castSucc s h)

/-- The distances' starting value. -/
def big : EReal := Ideal.ofBits .f32 0x501502F9#32

/-- The start of the loop. -/
def init : Carry := (k0_pay5 (F := Ideal), k0_pay6, k0_pay4 (F := Ideal), k0_pay4 (F := Ideal), k0_pay4 (F := Ideal))

/-- The end of the loop. -/
def after (v0 v2 v4 : Vec Ideal S8x1x4096 .f32) : Carry := Scf.fold (trip v0 v2 v4) init

theorem after_inv {v0 v2 v4 : Vec Ideal S8x1x4096 .f32} {x : Clouds} (h0 : ∀ b n, v0 (ix3 b 0 n) = x b 0 n)
    (h2 : ∀ b n, v2 (ix3 b 0 n) = x b 1 n) (h4 : ∀ b n, v4 (ix3 b 0 n) = x b 2 n) : Inv x big 512 (after v0 v2 v4) := by
  unfold after
  rw [Scf.fold_eq]
  have e := foldl_trips (trip v0 v2 v4) (Inv x big) init ⟨fun b n => rfl, fun b => rfl, fun b j hj => absurd hj (Nat.not_lt_zero _),
    fun b j hj => absurd hj (Nat.not_lt_zero _), fun b j hj => absurd hj (Nat.not_lt_zero _)⟩ fun k s h => h.step h0 h2 h4 k s
  generalize List.foldl (fun s k => trip v0 v2 v4 k s) init (List.finRange k0_t1_loop.trips) = s at e ⊢
  rwa [trips_eq] at e

/-- The chosen points' coordinates. -/
def sampled (x : Clouds) : S8x3x512.Idx → EReal := fun j => x (j 0) (j 1) (pick x big (j 2).val (j 0))

/-- The clouds in an array. -/
def clouds (a : S8x3x4096.Idx → EReal) : Clouds := fun b c n => a (ix3 b c n)

/-- The load of one coordinate of the clouds. -/
abbrev row (arg0 : Memref sig .tc .vmem S8x3x4096 .f32) (h0 : arg0.IsWhole) (x0 : Vec Ideal S8x3x4096 .f32) (c : ℕ)
    (hc : ∀ a : Fin 3, (![0, c, 0] : Fin 3 → ℕ) a + S8x1x4096.size a ≤ S8x3x4096.size a) : Vec Ideal S8x1x4096 .f32 :=
  View.readAt (Elt Ideal) arg0.view (Rect.unit (s := S8x3x4096) ![0, c, 0] S8x1x4096.size hc).toLoadRect (h0.unread x0)

theorem row_apply (arg0 : Memref sig .tc .vmem S8x3x4096 .f32) (h0 : arg0.IsWhole) (x0 : Vec Ideal S8x3x4096 .f32) (c : Fin 3)
    (hc : ∀ a : Fin 3, (![0, c.val, 0] : Fin 3 → ℕ) a + S8x1x4096.size a ≤ S8x3x4096.size a) (b : Fin 8) (n : Fin 4096) :
    row arg0 h0 x0 c.val hc (ix3 b 0 n) = clouds x0 b c n := by
  show View.readAt (Elt Ideal) arg0.view _ _ _ = x0 (ix3 b c n)
  rw [View.readAt_apply, h0.read_unread]
  refine congrArg x0 (funext fun a => Fin.ext ?_)
  match a with
  | ⟨0, _⟩ => show 0 + 1 * b.val = b.val; omega
  | ⟨1, _⟩ => show c.val + 1 * 0 = c.val; omega
  | ⟨2, _⟩ => show 0 + 1 * n.val = n.val; omega

/-- A stored row of the result: the carried array under its rectangle. -/
theorem piece_apply (p : FVec Ideal S8x1x512 .f32) (a : FVec Ideal S8x512 .f32) (hp : ∀ b k, p (ix3 b 0 k) = a (ix2 b k)) (x : Clouds) (c : Fin 3)
    (ha : ∀ b (k : Fin 512), a (ix2 b k) = x b c (pick x big k.val b)) (hc : ∀ i : Fin 3, (![0, c.val, 0] : Fin 3 → ℕ) i + S8x1x512.size i ≤ S8x3x512.size i)
    (j : S8x1x512.Idx) : p j = sampled x ((Rect.unit (s := S8x3x512) ![0, c.val, 0] S8x1x512.size hc).emb j) := by
  have e : (Rect.unit (s := S8x3x512) ![0, c.val, 0] S8x1x512.size hc).emb j = ix3 (j 0 : Fin 8) c (j 2 : Fin 512) := by
    refine funext fun i => Fin.ext ?_
    have h1 : (j 1).val < 1 := (j 1).isLt
    match i with
    | ⟨0, _⟩ => show 0 + 1 * (j 0).val = (j 0).val; omega
    | ⟨1, _⟩ => show c.val + 1 * (j 1).val = c.val; omega
    | ⟨2, _⟩ => show 0 + 1 * (j 2).val = (j 2).val; omega
  have e' : j = ix3 (j 0 : Fin 8) 0 (j 2 : Fin 512) := by
    refine funext fun i => Fin.ext ?_
    have h1 : (j 1).val < 1 := (j 1).isLt
    match i with
    | ⟨0, _⟩ => rfl
    | ⟨1, _⟩ => show (j 1).val = 0; omega
    | ⟨2, _⟩ => rfl
  rw [e]
  exact (congrArg p e').trans ((hp (j 0) (j 2)).trans (ha (j 0) (j 2)))

/-- What the body leaves in the result's buffer. -/
theorem out_eq (c : Dev nD) (arg0 : Memref sig .tc .vmem S8x3x4096 .f32) (h0 : arg0.IsWhole) (arg1 : Memref sig .tc .vmem S8x3x512 .f32)
    (h1 : arg1.IsWhole) (x0 : Vec Ideal S8x3x4096 .f32) : out0_A_1 c arg0 h0 arg1 h1 x0 = sampled (clouds x0) := by
  funext y
  unfold out0_A_1
  rw [View.read_writes_junk_eq_canon]
  refine View.canon_apply_of_pieces _ _ ?_ y (cover0_A_1 (F := Ideal) c arg0 h0 arg1 h1 x0 y)
  have inv := after_inv (x := clouds x0)
    (row_apply arg0 h0 x0 0 inb_S8x3x4096_S8x1x4096_0_0_0) (row_apply arg0 h0 x0 1 inb_S8x3x4096_S8x1x4096_0_1_0)
    (row_apply arg0 h0 x0 2 inb_S8x3x4096_S8x1x4096_0_2_0)
  generalize hs : after _ _ _ = s at inv
  unfold kernelRun0_A
  dsimp only
  sl_unfold_words
  intro p hp
  have hp' : p = ⟨Rect.unit (s := S8x3x512) ![0, 2, 0] S8x1x512.size inb_S8x3x512_S8x1x512_0_2_0, k0_pay19 s.2.2.2.2⟩
      ∨ p = ⟨Rect.unit (s := S8x3x512) ![0, 1, 0] S8x1x512.size inb_S8x3x512_S8x1x512_0_1_0, k0_pay18 s.2.2.2.1⟩
      ∨ p = ⟨Rect.unit (s := S8x3x512) ![0, 0, 0] S8x1x512.size inb_S8x3x512_S8x1x512_0_0_0, k0_pay17 s.2.2.1⟩ := by
    subst hs
    rcases List.mem_cons.1 hp with h | hp
    · exact Or.inl h
    rcases List.mem_cons.1 hp with h | hp
    · exact Or.inr (Or.inl h)
    exact Or.inr (Or.inr (List.mem_singleton.1 hp))
  rcases hp' with rfl | rfl | rfl
  · refine piece_apply _ s.2.2.2.2 (fun b k => ?_) (clouds x0) 2 (fun b k => inv.az b k k.isLt) inb_S8x3x512_S8x1x512_0_2_0
    pointwise [k0_pay19]
  · refine piece_apply _ s.2.2.2.1 (fun b k => ?_) (clouds x0) 1 (fun b k => inv.ay b k k.isLt) inb_S8x3x512_S8x1x512_0_1_0
    pointwise [k0_pay18]
  · refine piece_apply _ s.2.2.1 (fun b k => ?_) (clouds x0) 0 (fun b k => inv.ax b k k.isLt) inb_S8x3x512_S8x1x512_0_0_0
    pointwise [k0_pay17]

/-! ## The result array -/

variable (m : (ℓ : Loc nD τ sig) → Buf (Elt Ideal) ℓ) (ρ : Dev nD → PrngReg)

/-- The one point of the grid. -/
abbrev t0 : Fin cfg0.N := ⟨0, by decide⟩

theorem idx_facts : (∀ a : Fin 3, win0_0.index t0 a = 0) ∧ ∀ a : Fin 3, win0_1.index t0 a = 0 := by decide +kernel

theorem emb0 (j : S8x3x4096.Idx) : ((cfg0.win 0).blk t0).view.emb j = j := by
  funext a; apply Fin.ext
  have e := idx_facts.1
  match a with
  | ⟨0, _⟩ => have := e 0; show win0_0.index t0 (0 : Fin 3) * 8 + 1 * (j 0).val = (j 0).val; omega
  | ⟨1, _⟩ => have := e 1; show win0_0.index t0 (1 : Fin 3) * 3 + 1 * (j 1).val = (j 1).val; omega
  | ⟨2, _⟩ => have := e 2; show win0_0.index t0 (2 : Fin 3) * 4096 + 1 * (j 2).val = (j 2).val; omega

theorem emb1 (j : S8x3x512.Idx) : ((cfg0.win 1).blk t0).view.emb j = j := by
  funext a; apply Fin.ext
  have e := idx_facts.2
  match a with
  | ⟨0, _⟩ => have := e 0; show win0_1.index t0 (0 : Fin 3) * 8 + 1 * (j 0).val = (j 0).val; omega
  | ⟨1, _⟩ => have := e 1; show win0_1.index t0 (1 : Fin 3) * 3 + 1 * (j 1).val = (j 1).val; omega
  | ⟨2, _⟩ => have := e 2; show win0_1.index t0 (2 : Fin 3) * 512 + 1 * (j 2).val = (j 2).val; omega

theorem iblk_eq (c : Dev nD) : iblk m c 0 t0 = m ((c.tc : Thread nD τ).loc main_arg0) := by
  funext j
  show V m c main_arg0 (((cfg0.win 0).blk t0).view.emb j) = _
  rw [emb0]

theorem final_eq (c : Dev nD) : (dats m 0 c).arrAt 1 cfg0.N = sampled (clouds (m ((c.tc : Thread nD τ).loc main_arg0))) := by
  funext y
  have b := congrFun (Cert.SampleIdeal.Value.blocks1 m c t0 rfl) y
  rw [Cert.SampleIdeal.Value.flushed1_A, out_eq, iblk_eq] at b
  have b' : (dats m 0 c).arrAt 1 cfg0.N (((cfg0.win 1).blk t0).view.emb y) = _ := b
  rw [emb1] at b'
  exact b'

end Cert.Proof.SampleKernel

end
-- ==== Proof.SampleRun.lean ====
/-
  The run of the plain statement of farthest point sampling: operations before the loop, a counted loop of 512 trips, and
  operations after it. Every run ends with every buffer at the contents that the trips and the later operations leave
  (`run_fold`); what one trip makes of the carried buffers is written out (`STEP`), and the buffers before trip `k` agree
  with `k` steps from the start (`atK_agree`).
-/
module

public import proofs.«01_k».proof.Proof.Gen.SampleRefIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.Proof.SampleRun

open Cert.SampleRefIdeal Cert.SampleRefIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

abbrev hostOps0 : List (HloOp τ sig (Elt F)) :=
  [ StableHlo.unary main_arg0 main_v0 ((transpose S8x4096x3 [0, 2, 1] · transposes_S8x3x4096_S8x4096x3_0_2_1) : (⟨S8x3x4096, .f32⟩ : BufTy).Contents (Elt F) → (⟨S8x4096x3, .f32⟩ : BufTy).Contents (Elt F)),
    StableHlo.nullary main_cst (constant S_ .f32 0x501502F9#32),
    StableHlo.unary main_cst main_v1 (broadcastInDim S8x4096 ![] bcast_S_S8x4096 : (⟨S_, .f32⟩ : BufTy).Contents (Elt F) → (⟨S8x4096, .f32⟩ : BufTy).Contents (Elt F)),
    StableHlo.nullary main_c (constantI S_ 32 0#32),
    StableHlo.unary main_c main_v2 (broadcastInDim S8 ![] bcast_S_S8 : (⟨S_, .i32⟩ : BufTy).Contents (Elt F) → (⟨S8, .i32⟩ : BufTy).Contents (Elt F)),
    StableHlo.nullary main_c_0 (constantI S_ 32 0#32),
    StableHlo.unary main_c_0 main_v3 (broadcastInDim S512x8 ![] bcast_S_S512x8 : (⟨S_, .i32⟩ : BufTy).Contents (Elt F) → (⟨S512x8, .i32⟩ : BufTy).Contents (Elt F)),
    StableHlo.nullary main_c_1 (constantI S_ 32 0#32),
    StableHlo.unary main_v0 main_v4_0 id,
    StableHlo.unary main_c_1 main_v4_1 id,
    StableHlo.unary main_v1 main_v4_2 id,
    StableHlo.unary main_v2 main_v4_3 id,
    StableHlo.unary main_v3 main_v4_4 id ]
theorem hostOps0_sub : (hostOps0 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
abbrev hostOps0_1 : List (HloOp τ sig (Elt F)) :=
  [ StableHlo.unary main_v4_4 main_v5 ((transpose S8x512 [1, 0] · transposes_S512x8_S8x512_1_0) : (⟨S512x8, .i32⟩ : BufTy).Contents (Elt F) → (⟨S8x512, .i32⟩ : BufTy).Contents (Elt F)),
    StableHlo.unary main_v5 main_v6 (broadcastInDim S8x512x1 ![0, 1] bcast_S8x512_S8x512x1_0_1 : (⟨S8x512, .i32⟩ : BufTy).Contents (Elt F) → (⟨S8x512x1, .i32⟩ : BufTy).Contents (Elt F)) ]
theorem hostOps0_1_sub : (hostOps0_1 : List (HloOp τ sig (Elt F))).Forall fun op => op.bufs ⊆ StableHlo.tcRefs τ sig :=
  ⟨StableHlo.unary_bufs_sub .., StableHlo.unary_bufs_sub ..⟩
abbrev hostOps0_2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8x512x1, .i32⟩) (broadcastInDim S8x512x1 ![] bcast_S_S8x512x1),
    StableHlo.TRef.binary (.of main_v6 : StableHlo.TRef sig ⟨S8x512x1, .i32⟩) (.of main_call3_v0 : StableHlo.TRef sig ⟨S8x512x1, .i32⟩) (.of main_call3_v1 : StableHlo.TRef sig ⟨S8x512x1, .i1⟩) (cmpi .slt),
    StableHlo.TRef.nullary (.of main_call3_c_0 : StableHlo.TRef sig ⟨S_, .i32⟩) (constantI S_ 32 4096#32),
    StableHlo.TRef.unary (.of main_call3_c_0 : StableHlo.TRef sig ⟨S_, .i32⟩) (.of main_call3_v2 : StableHlo.TRef sig ⟨S8x512x1, .i32⟩) (broadcastInDim S8x512x1 ![] bcast_S_S8x512x1),
    StableHlo.TRef.binary (.of main_v6 : StableHlo.TRef sig ⟨S8x512x1, .i32⟩) (.of main_call3_v2 : StableHlo.TRef sig ⟨S8x512x1, .i32⟩) (.of main_call3_v3 : StableHlo.TRef sig ⟨S8x512x1, .i32⟩) addi,
    StableHlo.TRef.ternary (.of main_call3_v1 : StableHlo.TRef sig ⟨S8x512x1, .i1⟩) (.of main_call3_v3 : StableHlo.TRef sig ⟨S8x512x1, .i32⟩) (.of main_v6 : StableHlo.TRef sig ⟨S8x512x1, .i32⟩) (.of main_call3_v4 : StableHlo.TRef sig ⟨S8x512x1, .i32⟩) select,
    StableHlo.TRef.nullary (.of main_call3_c_1 : StableHlo.TRef sig ⟨S1, .i32⟩) (constantI S1 32 4095#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S8x512x1, .i32⟩) (broadcastInDim S8x512x1 ![] bcast_S_S8x512x1),
    StableHlo.TRef.binary (.of main_call3_v4 : StableHlo.TRef sig ⟨S8x512x1, .i32⟩) (.of main_call3_v5 : StableHlo.TRef sig ⟨S8x512x1, .i32⟩) (.of main_call3_v6 : StableHlo.TRef sig ⟨S8x512x1, .i1⟩) (cmpi .sge),
    StableHlo.TRef.unary (.of main_call3_c_1 : StableHlo.TRef sig ⟨S1, .i32⟩) (.of main_call3_v7 : StableHlo.TRef sig ⟨S1x1x1, .i32⟩) (broadcastInDim S1x1x1 ![2] bcast_S1_S1x1x1_2),
    StableHlo.TRef.unary (.of main_call3_v7 : StableHlo.TRef sig ⟨S1x1x1, .i32⟩) (.of main_call3_v8 : StableHlo.TRef sig ⟨S8x512x1, .i32⟩) (broadcastInDim S8x512x1 ![0, 1, 2] bcast_S1x1x1_S8x512x1_0_1_2),
    StableHlo.TRef.binary (.of main_call3_v4 : StableHlo.TRef sig ⟨S8x512x1, .i32⟩) (.of main_call3_v8 : StableHlo.TRef sig ⟨S8x512x1, .i32⟩) (.of main_call3_v9 : StableHlo.TRef sig ⟨S8x512x1, .i1⟩) (cmpi .sle),
    StableHlo.TRef.binary (.of main_call3_v6 : StableHlo.TRef sig ⟨S8x512x1, .i1⟩) (.of main_call3_v9 : StableHlo.TRef sig ⟨S8x512x1, .i1⟩) (.of main_call3_v10 : StableHlo.TRef sig ⟨S8x512x1, .i1⟩) andi,
    StableHlo.TRef.nullary (.of main_call3_c_3 : StableHlo.TRef sig ⟨S_, .i1⟩) (constantI S_ 1 1#1),
    StableHlo.TRef.binary (.of main_call3_v10 : StableHlo.TRef sig ⟨S8x512x1, .i1⟩) (.of main_call3_c_3 : StableHlo.TRef sig ⟨S_, .i1⟩) (.of main_call3_v11 : StableHlo.TRef sig ⟨S8x512, .i1⟩) (fun x v => Host.reduce IntOp.andi x v reducesTo_S8x512x1_S8x512_d2 h_S_),
    StableHlo.TRef.binary (.of main_v0 : StableHlo.TRef sig ⟨S8x4096x3, .f32⟩) (.of main_call3_v4 : StableHlo.TRef sig ⟨S8x512x1, .i32⟩) (.of main_call3_v12 : StableHlo.TRef sig ⟨S8x512x3, .f32⟩) (fun x i => Host.gather gather_S8x4096x3_S8x512x1_S8x512x3_2_1_0_0_1_2_113 x i),
    StableHlo.TRef.unary (.of main_call3_v11 : StableHlo.TRef sig ⟨S8x512, .i1⟩) (.of main_call3_v13 : StableHlo.TRef sig ⟨S8x512x3, .i1⟩) (broadcastInDim S8x512x3 ![0, 1] bcast_S8x512_S8x512x3_0_1),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S8x512x3, .f32⟩) (broadcastInDim S8x512x3 ![] bcast_S_S8x512x3),
    StableHlo.TRef.ternary (.of main_call3_v13 : StableHlo.TRef sig ⟨S8x512x3, .i1⟩) (.of main_call3_v12 : StableHlo.TRef sig ⟨S8x512x3, .f32⟩) (.of main_call3_v14 : StableHlo.TRef sig ⟨S8x512x3, .f32⟩) (.of main_v7 : StableHlo.TRef sig ⟨S8x512x3, .f32⟩) select ]
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev hostOps0_3 : List (HloOp τ sig (Elt F)) :=
  [ StableHlo.unary main_v7 main_v8 ((transpose S8x3x512 [0, 2, 1] · transposes_S8x512x3_S8x3x512_0_2_1) : (⟨S8x512x3, .f32⟩ : BufTy).Contents (Elt F) → (⟨S8x3x512, .f32⟩ : BufTy).Contents (Elt F)) ]
theorem hostOps0_3_sub : (hostOps0_3 : List (HloOp τ sig (Elt F))).Forall fun op => op.bufs ⊆ StableHlo.tcRefs τ sig :=
  StableHlo.unary_bufs_sub ..
theorem main_chain (c : Dev nD) : main (F := F) c = (Pipeline.chain
  [ StableHlo.seq hostOps0,
    HostLoop.enter 0,
    StableHlo.seq hostOps0_1,
    StableHlo.seq hostOps0_2,
    StableHlo.seq hostOps0_3 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons]
  chain_rfl

abbrev while0Ops0 : List (HloOp τ sig (Elt F)) :=
  [ StableHlo.unary main_v4_3 main_while0b_v9 (broadcastInDim S8x1x1 ![0] bcast_S8_S8x1x1_0 : (⟨S8, .i32⟩ : BufTy).Contents (Elt F) → (⟨S8x1x1, .i32⟩ : BufTy).Contents (Elt F)) ]
theorem while0Ops0_sub : (while0Ops0 : List (HloOp τ sig (Elt F))).Forall fun op => op.bufs ⊆ StableHlo.tcRefs τ sig :=
  StableHlo.unary_bufs_sub ..
abbrev while0Ops0_1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x1, .i32⟩) (broadcastInDim S8x1x1 ![] bcast_S_S8x1x1),
    StableHlo.TRef.binary (.of main_while0b_v9 : StableHlo.TRef sig ⟨S8x1x1, .i32⟩) (.of main_while0b_call0_v0 : StableHlo.TRef sig ⟨S8x1x1, .i32⟩) (.of main_while0b_call0_v1 : StableHlo.TRef sig ⟨S8x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S8x1x1, .i32⟩) (broadcastInDim S8x1x1 ![] bcast_S_S8x1x1),
    StableHlo.TRef.binary (.of main_while0b_v9 : StableHlo.TRef sig ⟨S8x1x1, .i32⟩) (.of main_while0b_call0_v2 : StableHlo.TRef sig ⟨S8x1x1, .i32⟩) (.of main_while0b_call0_v3 : StableHlo.TRef sig ⟨S8x1x1, .i32⟩) addi,
    StableHlo.TRef.ternary (.of main_while0b_call0_v1 : StableHlo.TRef sig ⟨S8x1x1, .i1⟩) (.of main_while0b_call0_v3 : StableHlo.TRef sig ⟨S8x1x1, .i32⟩) (.of main_while0b_v9 : StableHlo.TRef sig ⟨S8x1x1, .i32⟩) (.of main_while0b_call0_v4 : StableHlo.TRef sig ⟨S8x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S8x1x1, .i32⟩) (broadcastInDim S8x1x1 ![] bcast_S_S8x1x1),
    StableHlo.TRef.binary (.of main_while0b_call0_v4 : StableHlo.TRef sig ⟨S8x1x1, .i32⟩) (.of main_while0b_call0_v5 : StableHlo.TRef sig ⟨S8x1x1, .i32⟩) (.of main_while0b_call0_v6 : StableHlo.TRef sig ⟨S8x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S8x1x1, .i32⟩) (broadcastInDim S8x1x1 ![0, 1, 2] bcast_S1x1x1_S8x1x1_0_1_2),
    StableHlo.TRef.binary (.of main_while0b_call0_v4 : StableHlo.TRef sig ⟨S8x1x1, .i32⟩) (.of main_while0b_call0_v8 : StableHlo.TRef sig ⟨S8x1x1, .i32⟩) (.of main_while0b_call0_v9 : StableHlo.TRef sig ⟨S8x1x1, .i1⟩) (cmpi .sle),
    StableHlo.TRef.binary (.of main_while0b_call0_v6 : StableHlo.TRef sig ⟨S8x1x1, .i1⟩) (.of main_while0b_call0_v9 : StableHlo.TRef sig ⟨S8x1x1, .i1⟩) (.of main_while0b_call0_v10 : StableHlo.TRef sig ⟨S8x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S8x1x1, .i1⟩) (.of main_while0b_call0_c_3 : StableHlo.TRef sig ⟨S_, .i1⟩) (.of main_while0b_call0_v11 : StableHlo.TRef sig ⟨S8x1, .i1⟩) (fun x v => Host.reduce IntOp.andi x v reducesTo_S8x1x1_S8x1_d2 h_S_),
    StableHlo.TRef.binary (.of main_v4_0 : StableHlo.TRef sig ⟨S8x4096x3, .f32⟩) (.of main_while0b_call0_v4 : StableHlo.TRef sig ⟨S8x1x1, .i32⟩) (.of main_while0b_call0_v12 : StableHlo.TRef sig ⟨S8x1x3, .f32⟩) (fun x i => Host.gather gather_S8x4096x3_S8x1x1_S8x1x3_2_1_0_0_1_2_113 x i),
    StableHlo.TRef.unary (.of main_while0b_call0_v11 : StableHlo.TRef sig ⟨S8x1, .i1⟩) (.of main_while0b_call0_v13 : StableHlo.TRef sig ⟨S8x1x3, .i1⟩) (broadcastInDim S8x1x3 ![0, 1] bcast_S8x1_S8x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v13 : StableHlo.TRef sig ⟨S8x1x3, .i1⟩) (.of main_while0b_call0_v12 : StableHlo.TRef sig ⟨S8x1x3, .f32⟩) (.of main_while0b_call0_v14 : StableHlo.TRef sig ⟨S8x1x3, .f32⟩) (.of main_while0b_v10 : StableHlo.TRef sig ⟨S8x1x3, .f32⟩) select ]
theorem while0Ops0_1_sub : (while0Ops0_1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
abbrev while0Ops0_2 : List (HloOp τ sig (Elt F)) :=
  [ StableHlo.unary main_while0b_v10 main_while0b_v11 (broadcastInDim S8x4096x3 ![0, 1, 2] bcast_S8x1x3_S8x4096x3_0_1_2 : (⟨S8x1x3, .f32⟩ : BufTy).Contents (Elt F) → (⟨S8x4096x3, .f32⟩ : BufTy).Contents (Elt F)),
    StableHlo.binary main_v4_0 main_while0b_v11 main_while0b_v12 (subf : (⟨S8x4096x3, .f32⟩ : BufTy).Contents (Elt F) → (⟨S8x4096x3, .f32⟩ : BufTy).Contents (Elt F) → (⟨S8x4096x3, .f32⟩ : BufTy).Contents (Elt F)),
    StableHlo.binary main_while0b_v12 main_while0b_v12 main_while0b_v13 (mulf : (⟨S8x4096x3, .f32⟩ : BufTy).Contents (Elt F) → (⟨S8x4096x3, .f32⟩ : BufTy).Contents (Elt F) → (⟨S8x4096x3, .f32⟩ : BufTy).Contents (Elt F)),
    StableHlo.nullary main_while0b_cst_6 (constant S_ .f32 0x00000000#32),
    StableHlo.binary main_while0b_v13 main_while0b_cst_6 main_while0b_v14 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_v4_2 main_while0b_v14 main_while0b_v15 (minimumf : (⟨S8x4096, .f32⟩ : BufTy).Contents (Elt F) → (⟨S8x4096, .f32⟩ : BufTy).Contents (Elt F) → (⟨S8x4096, .f32⟩ : BufTy).Contents (Elt F)) ]
theorem while0Ops0_2_sub : (while0Ops0_2 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub ..⟩
abbrev while0Ops0_3 : List (HloOp τ sig (Elt F)) :=
  [ StableHlo.TRef.nullary (.of main_while0b_call1_v0 : StableHlo.TRef sig ⟨S8x4096, .i32⟩) (iotaInDim S8x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v15 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x4096_S8_d1 h_S_ j).1),
    StableHlo.TRef.quaternary (.of main_while0b_v15 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_v16 : StableHlo.TRef sig ⟨S8, .i32⟩) (fun x y u v j => (Host.argReduce reducer_argmax_f32_i32 x y u v reducesTo_S8x4096_S8_d1 h_S_ j).2) ]
theorem while0Ops0_3_sub : (while0Ops0_3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
abbrev while0Ops0_4 : List (HloOp τ sig (Elt F)) :=
  [ StableHlo.TRef.unary (.of main_v4_3 : StableHlo.TRef sig ⟨S8, .i32⟩) (.of main_while0b_call2_v0 : StableHlo.TRef sig ⟨S1x8, .i32⟩) (broadcastInDim S1x8 ![1] bcast_S8_S1x8_1),
    StableHlo.TRef.nullary (.of main_while0b_call2_c : StableHlo.TRef sig ⟨S_, .i32⟩) (constantI S_ 32 0#32),
    StableHlo.TRef.binaryIndexed (.of main_v4_4 : StableHlo.TRef sig ⟨S512x8, .i32⟩) (.of main_while0b_call2_v0 : StableHlo.TRef sig ⟨S1x8, .i32⟩) ![(.of main_v4_1 : StableHlo.TRef sig ⟨S_, .i32⟩), (.of main_while0b_call2_c : StableHlo.TRef sig ⟨S_, .i32⟩)] (.of main_while0b_v17 : StableHlo.TRef sig ⟨S512x8, .i32⟩) (fun x u i => Host.dynamicUpdateSlice x u (fun k => (i k (Shape.Idx.first h_S_)).toInt) updateFits_S512x8_S1x8) ]
theorem while0Ops0_4_sub : (while0Ops0_4 : List (HloOp τ sig (Elt F))).Forall fun op => op.bufs ⊆ StableHlo.tcRefs τ sig :=
  ⟨StableHlo.unary_bufs_sub .., StableHlo.nullary_bufs_sub .., StableHlo.binaryIndexed_bufs_sub ..⟩
abbrev while0Ops0_5 : List (HloOp τ sig (Elt F)) :=
  [ StableHlo.nullary main_while0b_c_7 (constantI S_ 32 1#32),
    StableHlo.binary main_v4_1 main_while0b_c_7 main_while0b_v18 (addi : (⟨S_, .i32⟩ : BufTy).Contents (Elt F) → (⟨S_, .i32⟩ : BufTy).Contents (Elt F) → (⟨S_, .i32⟩ : BufTy).Contents (Elt F)),
    StableHlo.unary main_while0b_v18 main_v4_1 id,
    StableHlo.unary main_while0b_v15 main_v4_2 id,
    StableHlo.unary main_while0b_v16 main_v4_3 id,
    StableHlo.unary main_while0b_v17 main_v4_4 id ]
theorem while0Ops0_5_sub : (while0Ops0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, Pipeline.chain_cons, StableHlo.chain_seq_cons]
  chain_rfl

end Cert.Proof.SampleRun

namespace Cert.Proof.SampleRun

open Cert.SampleRefIdeal Cert.SampleRefIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

theorem hostOps0_fresh : (hostOps0 : List (HloOp τ sig (Elt F))).Forall fun op => op.fresh = ∅ :=
  StableHlo.forall_fresh_of_map rfl
abbrev hostOps0_W : List (Ref sig .tc) := [main_v0, main_cst, main_v1, main_c, main_v2, main_c_0, main_v3, main_c_1, main_v4_0, main_v4_1, main_v4_2, main_v4_3, main_v4_4]
theorem hostOps0_writes : (hostOps0 : List (HloOp τ sig (Elt F))).Forall fun op => op.writes ⊆ (hostOps0_W.map (Proc.devRef (τ := τ) .tc)).toFinset :=
  StableHlo.forall_writes_sub_of_map rfl
theorem while0Ops0_fresh : (while0Ops0 : List (HloOp τ sig (Elt F))).Forall fun op => op.fresh = ∅ :=
  StableHlo.forall_fresh_of_map rfl
abbrev while0Ops0_W : List (Ref sig .tc) := [main_while0b_v9]
theorem while0Ops0_writes : (while0Ops0 : List (HloOp τ sig (Elt F))).Forall fun op => op.writes ⊆ (while0Ops0_W.map (Proc.devRef (τ := τ) .tc)).toFinset :=
  StableHlo.forall_writes_sub_of_map rfl
theorem while0Ops0_1_fresh : (while0Ops0_1 : List (HloOp τ sig (Elt F))).Forall fun op => op.fresh = ∅ :=
  StableHlo.forall_fresh_of_map rfl
abbrev while0Ops0_1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v10]
theorem while0Ops0_1_writes : (while0Ops0_1 : List (HloOp τ sig (Elt F))).Forall fun op => op.writes ⊆ (while0Ops0_1_W.map (Proc.devRef (τ := τ) .tc)).toFinset :=
  StableHlo.forall_writes_sub_of_map rfl
theorem while0Ops0_2_fresh : (while0Ops0_2 : List (HloOp τ sig (Elt F))).Forall fun op => op.fresh = ∅ :=
  StableHlo.forall_fresh_of_map rfl
abbrev while0Ops0_2_W : List (Ref sig .tc) := [main_while0b_v11, main_while0b_v12, main_while0b_v13, main_while0b_cst_6, main_while0b_v14, main_while0b_v15]
theorem while0Ops0_2_writes : (while0Ops0_2 : List (HloOp τ sig (Elt F))).Forall fun op => op.writes ⊆ (while0Ops0_2_W.map (Proc.devRef (τ := τ) .tc)).toFinset :=
  StableHlo.forall_writes_sub_of_map rfl
theorem while0Ops0_3_fresh : (while0Ops0_3 : List (HloOp τ sig (Elt F))).Forall fun op => op.fresh = ∅ :=
  StableHlo.forall_fresh_of_map rfl
abbrev while0Ops0_3_W : List (Ref sig .tc) := [main_while0b_call1_v0, main_while0b_call1_cst, main_while0b_call1_c, main_while0b_call1_v1_0, main_while0b_v16]
theorem while0Ops0_3_writes : (while0Ops0_3 : List (HloOp τ sig (Elt F))).Forall fun op => op.writes ⊆ (while0Ops0_3_W.map (Proc.devRef (τ := τ) .tc)).toFinset :=
  StableHlo.forall_writes_sub_of_map rfl
theorem while0Ops0_4_fresh : (while0Ops0_4 : List (HloOp τ sig (Elt F))).Forall fun op => op.fresh = ∅ :=
  StableHlo.forall_fresh_of_map rfl
abbrev while0Ops0_4_W : List (Ref sig .tc) := [main_while0b_call2_v0, main_while0b_call2_c, main_while0b_v17]
theorem while0Ops0_4_writes : (while0Ops0_4 : List (HloOp τ sig (Elt F))).Forall fun op => op.writes ⊆ (while0Ops0_4_W.map (Proc.devRef (τ := τ) .tc)).toFinset :=
  StableHlo.forall_writes_sub_of_map rfl
theorem while0Ops0_5_fresh : (while0Ops0_5 : List (HloOp τ sig (Elt F))).Forall fun op => op.fresh = ∅ :=
  StableHlo.forall_fresh_of_map rfl
abbrev while0Ops0_5_W : List (Ref sig .tc) := [main_while0b_c_7, main_while0b_v18, main_v4_1, main_v4_2, main_v4_3, main_v4_4]
theorem while0Ops0_5_writes : (while0Ops0_5 : List (HloOp τ sig (Elt F))).Forall fun op => op.writes ⊆ (while0Ops0_5_W.map (Proc.devRef (τ := τ) .tc)).toFinset :=
  StableHlo.forall_writes_sub_of_map rfl
theorem hostOps0_1_fresh : (hostOps0_1 : List (HloOp τ sig (Elt F))).Forall fun op => op.fresh = ∅ :=
  StableHlo.forall_fresh_of_map rfl
theorem hostOps0_2_fresh : (hostOps0_2 : List (HloOp τ sig (Elt F))).Forall fun op => op.fresh = ∅ :=
  StableHlo.forall_fresh_of_map rfl
theorem hostOps0_3_fresh : (hostOps0_3 : List (HloOp τ sig (Elt F))).Forall fun op => op.fresh = ∅ :=
  StableHlo.forall_fresh_of_map rfl

abbrev condOps : List (HloOp τ sig (Elt F)) :=
  [ StableHlo.nullary main_while0c_c_6 (constantI S_ 32 512#32),
    StableHlo.binary main_v4_1 main_while0c_c_6 main_while0c_v9 (cmpi .slt) ]

abbrev preI : List (List (HloOp τ sig (Elt F))) := [hostOps0]
abbrev bodyI : List (List (HloOp τ sig (Elt F))) := [while0Ops0, while0Ops0_1, while0Ops0_2, while0Ops0_3, while0Ops0_4, while0Ops0_5]
abbrev postI : List (List (HloOp τ sig (Elt F))) := [hostOps0_1, hostOps0_2, hostOps0_3]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.nil))))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.nil)))

abbrev condOps_W : List (Ref sig .tc) := [main_while0c_c_6, main_while0c_v9]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

abbrev atK (k : ℕ) (c : Dev nD) : Valuation τ sig (Elt F) := atTrip condOps bodyI (entryContents preI m) k c

theorem ctr_cond (V : Valuation τ sig (Elt F)) : after condOps V (Proc.devRef .tc main_v4_1) = V (Proc.devRef .tc main_v4_1) :=
  after_of_writes_sub condOps V condOps_writes (by decide +kernel)
theorem ctr_while0Ops0 (V : Valuation τ sig (Elt F)) : after while0Ops0 V (Proc.devRef .tc main_v4_1) = V (Proc.devRef .tc main_v4_1) :=
  after_of_writes_sub while0Ops0 V while0Ops0_writes (by decide +kernel)
theorem ctr_while0Ops0_1 (V : Valuation τ sig (Elt F)) : after while0Ops0_1 V (Proc.devRef .tc main_v4_1) = V (Proc.devRef .tc main_v4_1) :=
  after_of_writes_sub while0Ops0_1 V while0Ops0_1_writes (by decide +kernel)
theorem ctr_while0Ops0_2 (V : Valuation τ sig (Elt F)) : after while0Ops0_2 V (Proc.devRef .tc main_v4_1) = V (Proc.devRef .tc main_v4_1) :=
  after_of_writes_sub while0Ops0_2 V while0Ops0_2_writes (by decide +kernel)
theorem ctr_while0Ops0_3 (V : Valuation τ sig (Elt F)) : after while0Ops0_3 V (Proc.devRef .tc main_v4_1) = V (Proc.devRef .tc main_v4_1) :=
  after_of_writes_sub while0Ops0_3 V while0Ops0_3_writes (by decide +kernel)
theorem ctr_while0Ops0_4 (V : Valuation τ sig (Elt F)) : after while0Ops0_4 V (Proc.devRef .tc main_v4_1) = V (Proc.devRef .tc main_v4_1) :=
  after_of_writes_sub while0Ops0_4 V while0Ops0_4_writes (by decide +kernel)

set_option maxRecDepth 100000 in
theorem ctr_step (X : Valuation τ sig (Elt F)) :
    after while0Ops0_5 X (Proc.devRef .tc main_v4_1) = addi (X (Proc.devRef .tc main_v4_1)) (constantI S_ 32 1#32) := by
  after_results
  rfl

theorem ctr_entry (c : Dev nD) : entryContents preI m c (Proc.devRef .tc main_v4_1) = fun _ => (0#32 : BitVec 32) := by
  simp only [entryContents, afterL_cons, afterL_nil]
  after_reads_simp
  rfl

theorem atK_ctr (c : Dev nD) : ∀ k, atK m k c (Proc.devRef .tc main_v4_1) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_4, ctr_while0Ops0_3, ctr_while0Ops0_2, ctr_while0Ops0_1, ctr_while0Ops0, ctr_cond, atK_ctr c k, Scf.iv_succ]
    rfl

set_option backward.isDefEq.respectTransparency.types false in
theorem cond_spec : CondSpec (pcfgs (F := F)) defs₀ loops (main_while0_cond (F := F)) condOps bodyI (entryContents preI m) 512 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_1 HostLoop.idx0)
        (HloOp.result _ (atK m k c) main_while0c_c_6 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  rw [after_cons, after_cons, after_nil]; iexact Hh

set_option maxRecDepth 100000 in
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 512 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 512 m ρ (cond_spec m)

abbrev trip_w0 : List (HloOp τ sig (Elt F)) :=
  [ StableHlo.unary main_v4_3 main_while0b_v9 (broadcastInDim S8x1x1 ![0] bcast_S8_S8x1x1_0 : (⟨S8, .i32⟩ : BufTy).Contents (Elt F) → (⟨S8x1x1, .i32⟩ : BufTy).Contents (Elt F)) ]

abbrev trip_w1 : List (HloOp τ sig (Elt F)) :=
  [ StableHlo.TRef.nullary (.of main_while0b_call0_c : StableHlo.TRef sig ⟨S_, .i32⟩) (constantI S_ 32 0#32),
    StableHlo.TRef.unary (.of main_while0b_call0_c : StableHlo.TRef sig ⟨S_, .i32⟩) (.of main_while0b_call0_v0 : StableHlo.TRef sig ⟨S8x1x1, .i32⟩) (broadcastInDim S8x1x1 ![] bcast_S_S8x1x1),
    StableHlo.TRef.binary (.of main_while0b_v9 : StableHlo.TRef sig ⟨S8x1x1, .i32⟩) (.of main_while0b_call0_v0 : StableHlo.TRef sig ⟨S8x1x1, .i32⟩) (.of main_while0b_call0_v1 : StableHlo.TRef sig ⟨S8x1x1, .i1⟩) (cmpi .slt),
    StableHlo.TRef.nullary (.of main_while0b_call0_c_0 : StableHlo.TRef sig ⟨S_, .i32⟩) (constantI S_ 32 4096#32),
    StableHlo.TRef.unary (.of main_while0b_call0_c_0 : StableHlo.TRef sig ⟨S_, .i32⟩) (.of main_while0b_call0_v2 : StableHlo.TRef sig ⟨S8x1x1, .i32⟩) (broadcastInDim S8x1x1 ![] bcast_S_S8x1x1),
    StableHlo.TRef.binary (.of main_while0b_v9 : StableHlo.TRef sig ⟨S8x1x1, .i32⟩) (.of main_while0b_call0_v2 : StableHlo.TRef sig ⟨S8x1x1, .i32⟩) (.of main_while0b_call0_v3 : StableHlo.TRef sig ⟨S8x1x1, .i32⟩) addi,
    StableHlo.TRef.ternary (.of main_while0b_call0_v1 : StableHlo.TRef sig ⟨S8x1x1, .i1⟩) (.of main_while0b_call0_v3 : StableHlo.TRef sig ⟨S8x1x1, .i32⟩) (.of main_while0b_v9 : StableHlo.TRef sig ⟨S8x1x1, .i32⟩) (.of main_while0b_call0_v4 : StableHlo.TRef sig ⟨S8x1x1, .i32⟩) select,
    StableHlo.TRef.nullary (.of main_while0b_call0_c_1 : StableHlo.TRef sig ⟨S1, .i32⟩) (constantI S1 32 4095#32),
    StableHlo.TRef.nullary (.of main_while0b_call0_c_2 : StableHlo.TRef sig ⟨S_, .i32⟩) (constantI S_ 32 0#32),
    StableHlo.TRef.unary (.of main_while0b_call0_c_2 : StableHlo.TRef sig ⟨S_, .i32⟩) (.of main_while0b_call0_v5 : StableHlo.TRef sig ⟨S8x1x1, .i32⟩) (broadcastInDim S8x1x1 ![] bcast_S_S8x1x1),
    StableHlo.TRef.binary (.of main_while0b_call0_v4 : StableHlo.TRef sig ⟨S8x1x1, .i32⟩) (.of main_while0b_call0_v5 : StableHlo.TRef sig ⟨S8x1x1, .i32⟩) (.of main_while0b_call0_v6 : StableHlo.TRef sig ⟨S8x1x1, .i1⟩) (cmpi .sge),
    StableHlo.TRef.unary (.of main_while0b_call0_c_1 : StableHlo.TRef sig ⟨S1, .i32⟩) (.of main_while0b_call0_v7 : StableHlo.TRef sig ⟨S1x1x1, .i32⟩) (broadcastInDim S1x1x1 ![2] bcast_S1_S1x1x1_2),
    StableHlo.TRef.unary (.of main_while0b_call0_v7 : StableHlo.TRef sig ⟨S1x1x1, .i32⟩) (.of main_while0b_call0_v8 : StableHlo.TRef sig ⟨S8x1x1, .i32⟩) (broadcastInDim S8x1x1 ![0, 1, 2] bcast_S1x1x1_S8x1x1_0_1_2),
    StableHlo.TRef.binary (.of main_while0b_call0_v4 : StableHlo.TRef sig ⟨S8x1x1, .i32⟩) (.of main_while0b_call0_v8 : StableHlo.TRef sig ⟨S8x1x1, .i32⟩) (.of main_while0b_call0_v9 : StableHlo.TRef sig ⟨S8x1x1, .i1⟩) (cmpi .sle),
    StableHlo.TRef.binary (.of main_while0b_call0_v6 : StableHlo.TRef sig ⟨S8x1x1, .i1⟩) (.of main_while0b_call0_v9 : StableHlo.TRef sig ⟨S8x1x1, .i1⟩) (.of main_while0b_call0_v10 : StableHlo.TRef sig ⟨S8x1x1, .i1⟩) andi,
    StableHlo.TRef.nullary (.of main_while0b_call0_c_3 : StableHlo.TRef sig ⟨S_, .i1⟩) (constantI S_ 1 1#1),
    StableHlo.TRef.binary (.of main_while0b_call0_v10 : StableHlo.TRef sig ⟨S8x1x1, .i1⟩) (.of main_while0b_call0_c_3 : StableHlo.TRef sig ⟨S_, .i1⟩) (.of main_while0b_call0_v11 : StableHlo.TRef sig ⟨S8x1, .i1⟩) (fun x v => Host.reduce IntOp.andi x v reducesTo_S8x1x1_S8x1_d2 h_S_),
    StableHlo.TRef.binary (.of main_v4_0 : StableHlo.TRef sig ⟨S8x4096x3, .f32⟩) (.of main_while0b_call0_v4 : StableHlo.TRef sig ⟨S8x1x1, .i32⟩) (.of main_while0b_call0_v12 : StableHlo.TRef sig ⟨S8x1x3, .f32⟩) (fun x i => Host.gather gather_S8x4096x3_S8x1x1_S8x1x3_2_1_0_0_1_2_113 x i),
    StableHlo.TRef.unary (.of main_while0b_call0_v11 : StableHlo.TRef sig ⟨S8x1, .i1⟩) (.of main_while0b_call0_v13 : StableHlo.TRef sig ⟨S8x1x3, .i1⟩) (broadcastInDim S8x1x3 ![0, 1] bcast_S8x1_S8x1x3_0_1),
    StableHlo.TRef.nullary (.of main_while0b_call0_cst : StableHlo.TRef sig ⟨S_, .f32⟩) (constant S_ .f32 0x7FC00000#32),
    StableHlo.TRef.unary (.of main_while0b_call0_cst : StableHlo.TRef sig ⟨S_, .f32⟩) (.of main_while0b_call0_v14 : StableHlo.TRef sig ⟨S8x1x3, .f32⟩) (broadcastInDim S8x1x3 ![] bcast_S_S8x1x3),
    StableHlo.TRef.ternary (.of main_while0b_call0_v13 : StableHlo.TRef sig ⟨S8x1x3, .i1⟩) (.of main_while0b_call0_v12 : StableHlo.TRef sig ⟨S8x1x3, .f32⟩) (.of main_while0b_call0_v14 : StableHlo.TRef sig ⟨S8x1x3, .f32⟩) (.of main_while0b_v10 : StableHlo.TRef sig ⟨S8x1x3, .f32⟩) select ]

abbrev trip_w2 : List (HloOp τ sig (Elt F)) :=
  [ StableHlo.unary main_while0b_v10 main_while0b_v11 (broadcastInDim S8x4096x3 ![0, 1, 2] bcast_S8x1x3_S8x4096x3_0_1_2 : (⟨S8x1x3, .f32⟩ : BufTy).Contents (Elt F) → (⟨S8x4096x3, .f32⟩ : BufTy).Contents (Elt F)),
    StableHlo.binary main_v4_0 main_while0b_v11 main_while0b_v12 (subf : (⟨S8x4096x3, .f32⟩ : BufTy).Contents (Elt F) → (⟨S8x4096x3, .f32⟩ : BufTy).Contents (Elt F) → (⟨S8x4096x3, .f32⟩ : BufTy).Contents (Elt F)),
    StableHlo.binary main_while0b_v12 main_while0b_v12 main_while0b_v13 (mulf : (⟨S8x4096x3, .f32⟩ : BufTy).Contents (Elt F) → (⟨S8x4096x3, .f32⟩ : BufTy).Contents (Elt F) → (⟨S8x4096x3, .f32⟩ : BufTy).Contents (Elt F)),
    StableHlo.nullary main_while0b_cst_6 (constant S_ .f32 0x00000000#32),
    StableHlo.binary main_while0b_v13 main_while0b_cst_6 main_while0b_v14 ((fun x v => Host.reduceAdd x v reducesTo_S8x4096x3_S8x4096_d2 h_S_) : (⟨S8x4096x3, .f32⟩ : BufTy).Contents (Elt F) → (⟨S_, .f32⟩ : BufTy).Contents (Elt F) → (⟨S8x4096, .f32⟩ : BufTy).Contents (Elt F)),
    StableHlo.binary main_v4_2 main_while0b_v14 main_while0b_v15 (minimumf : (⟨S8x4096, .f32⟩ : BufTy).Contents (Elt F) → (⟨S8x4096, .f32⟩ : BufTy).Contents (Elt F) → (⟨S8x4096, .f32⟩ : BufTy).Contents (Elt F)) ]

abbrev trip_w3 : List (HloOp τ sig (Elt F)) :=
  [ StableHlo.TRef.nullary (.of main_while0b_call1_v0 : StableHlo.TRef sig ⟨S8x4096, .i32⟩) (iotaInDim S8x4096 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_while0b_v15 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x4096_S8_d1 h_S_ j).1),
    StableHlo.TRef.quaternary (.of main_while0b_v15 : StableHlo.TRef sig ⟨S8x4096, .f32⟩) (.of main_while0b_call1_v0 : StableHlo.TRef sig ⟨S8x4096, .i32⟩) (.of main_while0b_call1_cst : StableHlo.TRef sig ⟨S_, .f32⟩) (.of main_while0b_call1_c : StableHlo.TRef sig ⟨S_, .i32⟩) (.of main_while0b_v16 : StableHlo.TRef sig ⟨S8, .i32⟩) (fun x y u v j => (Host.argReduce reducer_argmax_f32_i32 x y u v reducesTo_S8x4096_S8_d1 h_S_ j).2) ]

abbrev trip_w4 : List (HloOp τ sig (Elt F)) :=
  [ StableHlo.TRef.unary (.of main_v4_3 : StableHlo.TRef sig ⟨S8, .i32⟩) (.of main_while0b_call2_v0 : StableHlo.TRef sig ⟨S1x8, .i32⟩) (broadcastInDim S1x8 ![1] bcast_S8_S1x8_1),
    StableHlo.TRef.nullary (.of main_while0b_call2_c : StableHlo.TRef sig ⟨S_, .i32⟩) (constantI S_ 32 0#32),
    StableHlo.TRef.binaryIndexed (.of main_v4_4 : StableHlo.TRef sig ⟨S512x8, .i32⟩) (.of main_while0b_call2_v0 : StableHlo.TRef sig ⟨S1x8, .i32⟩) ![(.of main_v4_1 : StableHlo.TRef sig ⟨S_, .i32⟩), (.of main_while0b_call2_c : StableHlo.TRef sig ⟨S_, .i32⟩)] (.of main_while0b_v17 : StableHlo.TRef sig ⟨S512x8, .i32⟩) (fun x u i => Host.dynamicUpdateSlice x u (fun k => (i k (Shape.Idx.first h_S_)).toInt) updateFits_S512x8_S1x8) ]

set_option maxRecDepth 5000 in
theorem while0Ops0_cut : (while0Ops0 : List (HloOp τ sig (Elt F))) = trip_w0 := rfl
set_option maxRecDepth 5000 in
theorem while0Ops0_1_cut : (while0Ops0_1 : List (HloOp τ sig (Elt F))) = trip_w1 := rfl
set_option maxRecDepth 5000 in
theorem while0Ops0_2_cut : (while0Ops0_2 : List (HloOp τ sig (Elt F))) = trip_w2 := rfl
set_option maxRecDepth 5000 in
theorem while0Ops0_3_cut : (while0Ops0_3 : List (HloOp τ sig (Elt F))) = trip_w3 := rfl
set_option maxRecDepth 5000 in
theorem while0Ops0_4_cut : (while0Ops0_4 : List (HloOp τ sig (Elt F))) = trip_w4 := rfl

set_option maxRecDepth 8192 in
def res_main_while0b_v9 (V0 : Valuation τ sig (Elt F)) : (Proc.devRef .tc main_while0b_v9 : DevRef τ sig).ty.Contents (Elt F) :=
  broadcastInDim S8x1x1 ![0] bcast_S8_S8x1x1_0 (V0 (Proc.devRef .tc main_v4_3))

set_option maxRecDepth 8192 in
def res_main_while0b_call0_v4 (V0 : Valuation τ sig (Elt F)) : (Proc.devRef .tc main_while0b_call0_v4 : DevRef τ sig).ty.Contents (Elt F) :=
  select (cmpi .slt (res_main_while0b_v9 V0) (broadcastInDim S8x1x1 ![] bcast_S_S8x1x1 (constantI S_ 32 0#32))) (addi (res_main_while0b_v9 V0) (broadcastInDim S8x1x1 ![] bcast_S_S8x1x1 (constantI S_ 32 4096#32))) (res_main_while0b_v9 V0)

set_option maxRecDepth 8192 in
def res_main_while0b_v12 (V0 : Valuation τ sig (Elt F)) : (Proc.devRef .tc main_while0b_v12 : DevRef τ sig).ty.Contents (Elt F) :=
  subf (V0 (Proc.devRef .tc main_v4_0)) (broadcastInDim S8x4096x3 ![0, 1, 2] bcast_S8x1x3_S8x4096x3_0_1_2 (select (broadcastInDim S8x1x3 ![0, 1] bcast_S8x1_S8x1x3_0_1 (Host.reduce IntOp.andi (andi (cmpi .sge (res_main_while0b_call0_v4 V0) (broadcastInDim S8x1x1 ![] bcast_S_S8x1x1 (constantI S_ 32 0#32))) (cmpi .sle (res_main_while0b_call0_v4 V0) (broadcastInDim S8x1x1 ![0, 1, 2] bcast_S1x1x1_S8x1x1_0_1_2 (broadcastInDim S1x1x1 ![2] bcast_S1_S1x1x1_2 (constantI S1 32 4095#32))))) (constantI S_ 1 1#1) reducesTo_S8x1x1_S8x1_d2 h_S_)) (Host.gather gather_S8x4096x3_S8x1x1_S8x1x3_2_1_0_0_1_2_113 (V0 (Proc.devRef .tc main_v4_0)) (res_main_while0b_call0_v4 V0)) (broadcastInDim S8x1x3 ![] bcast_S_S8x1x3 (constant S_ .f32 0x7FC00000#32))))

set_option maxRecDepth 8192 in
def res_main_while0b_v15 (V0 : Valuation τ sig (Elt F)) : (Proc.devRef .tc main_while0b_v15 : DevRef τ sig).ty.Contents (Elt F) :=
  minimumf (V0 (Proc.devRef .tc main_v4_2)) (Host.reduceAdd (mulf (res_main_while0b_v12 V0) (res_main_while0b_v12 V0)) (constant S_ .f32 0x00000000#32) reducesTo_S8x4096x3_S8x4096_d2 h_S_)

set_option maxRecDepth 8192 in
def res_main_while0b_call1_v0 (V0 : Valuation τ sig (Elt F)) : (Proc.devRef .tc main_while0b_call1_v0 : DevRef τ sig).ty.Contents (Elt F) :=
  iotaInDim S8x4096 32 1

set_option maxRecDepth 8192 in
def res_main_while0b_call1_cst (V0 : Valuation τ sig (Elt F)) : (Proc.devRef .tc main_while0b_call1_cst : DevRef τ sig).ty.Contents (Elt F) :=
  constant S_ .f32 0xFF800000#32

set_option maxRecDepth 8192 in
def res_main_while0b_call1_c (V0 : Valuation τ sig (Elt F)) : (Proc.devRef .tc main_while0b_call1_c : DevRef τ sig).ty.Contents (Elt F) :=
  constantI S_ 32 0#32

def val0 (V0 : Valuation τ sig (Elt F)) : Valuation τ sig (Elt F) := V0
theorem val0_main_v4_3 (V0 : Valuation τ sig (Elt F)) : val0 V0 (no_index (Proc.devRef .tc main_v4_3)) = V0 (Proc.devRef .tc main_v4_3) := rfl
theorem val0_main_v4_0 (V0 : Valuation τ sig (Elt F)) : val0 V0 (no_index (Proc.devRef .tc main_v4_0)) = V0 (Proc.devRef .tc main_v4_0) := rfl
theorem val0_main_v4_2 (V0 : Valuation τ sig (Elt F)) : val0 V0 (no_index (Proc.devRef .tc main_v4_2)) = V0 (Proc.devRef .tc main_v4_2) := rfl
theorem val0_main_v4_4 (V0 : Valuation τ sig (Elt F)) : val0 V0 (no_index (Proc.devRef .tc main_v4_4)) = V0 (Proc.devRef .tc main_v4_4) := rfl
theorem val0_main_v4_1 (V0 : Valuation τ sig (Elt F)) : val0 V0 (no_index (Proc.devRef .tc main_v4_1)) = V0 (Proc.devRef .tc main_v4_1) := rfl

def val1 (V0 : Valuation τ sig (Elt F)) : Valuation τ sig (Elt F) := after trip_w0 (val0 V0)
abbrev trip_w0_W : List (Ref sig .tc) := [main_while0b_v9]
set_option maxRecDepth 8192 in
theorem trip_w0_writes : (trip_w0 : List (HloOp τ sig (Elt F))).Forall fun op => op.writes ⊆ (trip_w0_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
set_option maxRecDepth 8192 in
theorem val1_main_while0b_v9 (V0 : Valuation τ sig (Elt F)) : val1 V0 (no_index (Proc.devRef .tc main_while0b_v9)) = res_main_while0b_v9 V0 := by
  unfold val1
  simp only [trip_w0]
  after_results_entrywise [val0_main_v4_3, res_main_while0b_v9, cast_eq]

def val2 (V0 : Valuation τ sig (Elt F)) : Valuation τ sig (Elt F) := after trip_w1 (val1 V0)
abbrev trip_w1_W : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v10]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
set_option maxRecDepth 8192 in
set_option maxHeartbeats 2000000 in
theorem val2_main_while0b_v10 (V0 : Valuation τ sig (Elt F)) : val2 V0 (no_index (Proc.devRef .tc main_while0b_v10)) = select (broadcastInDim S8x1x3 ![0, 1] bcast_S8x1_S8x1x3_0_1 (Host.reduce IntOp.andi (andi (cmpi .sge (res_main_while0b_call0_v4 V0) (broadcastInDim S8x1x1 ![] bcast_S_S8x1x1 (constantI S_ 32 0#32))) (cmpi .sle (res_main_while0b_call0_v4 V0) (broadcastInDim S8x1x1 ![0, 1, 2] bcast_S1x1x1_S8x1x1_0_1_2 (broadcastInDim S1x1x1 ![2] bcast_S1_S1x1x1_2 (constantI S1 32 4095#32))))) (constantI S_ 1 1#1) reducesTo_S8x1x1_S8x1_d2 h_S_)) (Host.gather gather_S8x4096x3_S8x1x1_S8x1x3_2_1_0_0_1_2_113 (V0 (Proc.devRef .tc main_v4_0)) (res_main_while0b_call0_v4 V0)) (broadcastInDim S8x1x3 ![] bcast_S_S8x1x3 (constant S_ .f32 0x7FC00000#32)) := by
  unfold val2
  simp only [trip_w1]
  after_results_entrywise [val1_main_while0b_v9, val1_main_v4_0, res_main_while0b_call0_v4, cast_eq]

def val3 (V0 : Valuation τ sig (Elt F)) : Valuation τ sig (Elt F) := after trip_w2 (val2 V0)
abbrev trip_w2_W : List (Ref sig .tc) := [main_while0b_v11, main_while0b_v12, main_while0b_v13, main_while0b_cst_6, main_while0b_v14, main_while0b_v15]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
set_option maxRecDepth 8192 in
theorem val3_main_while0b_v15 (V0 : Valuation τ sig (Elt F)) : val3 V0 (no_index (Proc.devRef .tc main_while0b_v15)) = res_main_while0b_v15 V0 := by
  unfold val3
  simp only [trip_w2]
  after_results_entrywise [val2_main_while0b_v10, val2_main_v4_0, val2_main_v4_2, res_main_while0b_v12, res_main_while0b_v15, cast_eq]

def val4 (V0 : Valuation τ sig (Elt F)) : Valuation τ sig (Elt F) := after trip_w3 (val3 V0)
abbrev trip_w3_W : List (Ref sig .tc) := [main_while0b_call1_v0, main_while0b_call1_cst, main_while0b_call1_c, main_while0b_call1_v1_0, main_while0b_v16]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
theorem val4_main_while0b_v15 (V0 : Valuation τ sig (Elt F)) : val4 V0 (no_index (Proc.devRef .tc main_while0b_v15)) = res_main_while0b_v15 V0 :=
  (val4_keep V0 main_while0b_v15 (by decide)).trans (val3_main_while0b_v15 V0)
set_option maxRecDepth 8192 in
theorem val4_main_while0b_v16 (V0 : Valuation τ sig (Elt F)) : val4 V0 (no_index (Proc.devRef .tc main_while0b_v16)) = (fun j => (Host.argReduce reducer_argmax_f32_i32 (res_main_while0b_v15 V0) (res_main_while0b_call1_v0 V0) (res_main_while0b_call1_cst V0) (res_main_while0b_call1_c V0) reducesTo_S8x4096_S8_d1 h_S_ j).2) := by
  unfold val4
  simp only [trip_w3]
  after_results_entrywise [val3_main_while0b_v15, res_main_while0b_call1_v0, res_main_while0b_call1_cst, res_main_while0b_call1_c, cast_eq]

def val5 (V0 : Valuation τ sig (Elt F)) : Valuation τ sig (Elt F) := after trip_w4 (val4 V0)
abbrev trip_w4_W : List (Ref sig .tc) := [main_while0b_call2_v0, main_while0b_call2_c, main_while0b_v17]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v4_3 (V0 : Valuation τ sig (Elt F)) : val5 V0 (no_index (Proc.devRef .tc main_v4_3)) = V0 (Proc.devRef .tc main_v4_3) :=
  (val5_keep V0 main_v4_3 (by decide)).trans (val4_main_v4_3 V0)
theorem val5_main_v4_0 (V0 : Valuation τ sig (Elt F)) : val5 V0 (no_index (Proc.devRef .tc main_v4_0)) = V0 (Proc.devRef .tc main_v4_0) :=
  (val5_keep V0 main_v4_0 (by decide)).trans (val4_main_v4_0 V0)
theorem val5_main_v4_2 (V0 : Valuation τ sig (Elt F)) : val5 V0 (no_index (Proc.devRef .tc main_v4_2)) = V0 (Proc.devRef .tc main_v4_2) :=
  (val5_keep V0 main_v4_2 (by decide)).trans (val4_main_v4_2 V0)
theorem val5_main_v4_4 (V0 : Valuation τ sig (Elt F)) : val5 V0 (no_index (Proc.devRef .tc main_v4_4)) = V0 (Proc.devRef .tc main_v4_4) :=
  (val5_keep V0 main_v4_4 (by decide)).trans (val4_main_v4_4 V0)
theorem val5_main_v4_1 (V0 : Valuation τ sig (Elt F)) : val5 V0 (no_index (Proc.devRef .tc main_v4_1)) = V0 (Proc.devRef .tc main_v4_1) :=
  (val5_keep V0 main_v4_1 (by decide)).trans (val4_main_v4_1 V0)
theorem val5_main_while0b_v15 (V0 : Valuation τ sig (Elt F)) : val5 V0 (no_index (Proc.devRef .tc main_while0b_v15)) = res_main_while0b_v15 V0 :=
  (val5_keep V0 main_while0b_v15 (by decide)).trans (val4_main_while0b_v15 V0)
theorem val5_main_while0b_v16 (V0 : Valuation τ sig (Elt F)) : val5 V0 (no_index (Proc.devRef .tc main_while0b_v16)) = (fun j => (Host.argReduce reducer_argmax_f32_i32 (res_main_while0b_v15 V0) (res_main_while0b_call1_v0 V0) (res_main_while0b_call1_cst V0) (res_main_while0b_call1_c V0) reducesTo_S8x4096_S8_d1 h_S_ j).2) :=
  (val5_keep V0 main_while0b_v16 (by decide)).trans (val4_main_while0b_v16 V0)
set_option maxRecDepth 8192 in
theorem val5_main_while0b_v17 (V0 : Valuation τ sig (Elt F)) : val5 V0 (no_index (Proc.devRef .tc main_while0b_v17)) = Host.dynamicUpdateSlice (V0 (Proc.devRef .tc main_v4_4)) (broadcastInDim S1x8 ![1] bcast_S8_S1x8_1 (V0 (Proc.devRef .tc main_v4_3))) (fun k => (((![V0 (Proc.devRef .tc main_v4_1), constantI S_ 32 0#32] : Fin 2 → (⟨S_, .i32⟩ : BufTy).Contents (Elt F))) k (Shape.Idx.first h_S_)).toInt) updateFits_S512x8_S1x8 := by
  unfold val5
  simp only [trip_w4]
  after_results_entrywise [val4_main_v4_1, val4_main_v4_3, val4_main_v4_4, cast_eq]

set_option maxRecDepth 8192 in
theorem trip_windows (V0 : Valuation τ sig (Elt F)) : after while0Ops0_4 (after while0Ops0_3 (after while0Ops0_2 (after while0Ops0_1 (after while0Ops0 (V0))))) = val5 V0 := by
  simp only [while0Ops0_cut, while0Ops0_1_cut, while0Ops0_2_cut, while0Ops0_3_cut, while0Ops0_4_cut, after_append]
  rfl

set_option maxRecDepth 8192 in
set_option maxHeartbeats 2000000 in
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val5_main_while0b_v15, val5_main_while0b_v16, val5_main_while0b_v17, val5_main_v4_0, val5_main_v4_1, val5_main_v4_2, val5_main_v4_3, val5_main_v4_4]) <;> rfl
set_option maxRecDepth 8192 in
set_option maxHeartbeats 2000000 in
theorem trip_main_v4_1 (V0 : Valuation τ sig (Elt F)) : afterL bodyI V0 (no_index (Proc.devRef .tc main_v4_1)) = id (addi (V0 (Proc.devRef .tc main_v4_1)) (constantI S_ 32 1#32)) := by
  simp only [bodyI, afterL_cons, afterL_nil, trip_windows]
  after_results
  all_goals (try simp only [val5_main_while0b_v15, val5_main_while0b_v16, val5_main_while0b_v17, val5_main_v4_0, val5_main_v4_1, val5_main_v4_2, val5_main_v4_3, val5_main_v4_4]) <;> rfl
set_option maxRecDepth 8192 in
set_option maxHeartbeats 2000000 in
theorem trip_main_v4_2 (V0 : Valuation τ sig (Elt F)) : afterL bodyI V0 (no_index (Proc.devRef .tc main_v4_2)) = id (res_main_while0b_v15 V0) := by
  simp only [bodyI, afterL_cons, afterL_nil, trip_windows]
  after_results
  all_goals (try simp only [val5_main_while0b_v15, val5_main_while0b_v16, val5_main_while0b_v17, val5_main_v4_0, val5_main_v4_1, val5_main_v4_2, val5_main_v4_3, val5_main_v4_4]) <;> rfl
set_option maxRecDepth 8192 in
set_option maxHeartbeats 2000000 in
theorem trip_main_v4_3 (V0 : Valuation τ sig (Elt F)) : afterL bodyI V0 (no_index (Proc.devRef .tc main_v4_3)) = id ((fun j => (Host.argReduce reducer_argmax_f32_i32 (res_main_while0b_v15 V0) (res_main_while0b_call1_v0 V0) (res_main_while0b_call1_cst V0) (res_main_while0b_call1_c V0) reducesTo_S8x4096_S8_d1 h_S_ j).2)) := by
  simp only [bodyI, afterL_cons, afterL_nil, trip_windows]
  after_results
  all_goals (try simp only [val5_main_while0b_v15, val5_main_while0b_v16, val5_main_while0b_v17, val5_main_v4_0, val5_main_v4_1, val5_main_v4_2, val5_main_v4_3, val5_main_v4_4]) <;> rfl
set_option maxRecDepth 8192 in
set_option maxHeartbeats 2000000 in
theorem trip_main_v4_4 (V0 : Valuation τ sig (Elt F)) : afterL bodyI V0 (no_index (Proc.devRef .tc main_v4_4)) = id (Host.dynamicUpdateSlice (V0 (Proc.devRef .tc main_v4_4)) (broadcastInDim S1x8 ![1] bcast_S8_S1x8_1 (V0 (Proc.devRef .tc main_v4_3))) (fun k => (((![V0 (Proc.devRef .tc main_v4_1), constantI S_ 32 0#32] : Fin 2 → (⟨S_, .i32⟩ : BufTy).Contents (Elt F))) k (Shape.Idx.first h_S_)).toInt) updateFits_S512x8_S1x8) := by
  simp only [bodyI, afterL_cons, afterL_nil, trip_windows]
  after_results
  all_goals (try simp only [val5_main_while0b_v15, val5_main_while0b_v16, val5_main_while0b_v17, val5_main_v4_0, val5_main_v4_1, val5_main_v4_2, val5_main_v4_3, val5_main_v4_4]) <;> rfl

abbrev carriedRefs : List (Ref sig .tc) := [main_v4_0, main_v4_1, main_v4_2, main_v4_3, main_v4_4]
def Agree (V V' : Valuation τ sig (Elt F)) : Prop := ∀ j ∈ carriedRefs, V (Proc.devRef .tc j) = V' (Proc.devRef .tc j)

set_option maxRecDepth 8192 in
theorem res_main_while0b_v9_congr {V0 V0' : Valuation τ sig (Elt F)} (h : Agree V0 V0') : res_main_while0b_v9 V0 = res_main_while0b_v9 V0' := by
  unfold res_main_while0b_v9
  rw [h main_v4_3 (by decide)]
set_option maxRecDepth 8192 in
theorem res_main_while0b_call0_v4_congr {V0 V0' : Valuation τ sig (Elt F)} (h : Agree V0 V0') : res_main_while0b_call0_v4 V0 = res_main_while0b_call0_v4 V0' := by
  unfold res_main_while0b_call0_v4
  rw [res_main_while0b_v9_congr h]
set_option maxRecDepth 8192 in
theorem res_main_while0b_v12_congr {V0 V0' : Valuation τ sig (Elt F)} (h : Agree V0 V0') : res_main_while0b_v12 V0 = res_main_while0b_v12 V0' := by
  unfold res_main_while0b_v12
  rw [res_main_while0b_call0_v4_congr h, h main_v4_0 (by decide)]
set_option maxRecDepth 8192 in
theorem res_main_while0b_v15_congr {V0 V0' : Valuation τ sig (Elt F)} (h : Agree V0 V0') : res_main_while0b_v15 V0 = res_main_while0b_v15 V0' := by
  unfold res_main_while0b_v15
  rw [res_main_while0b_v12_congr h, h main_v4_2 (by decide)]
set_option maxRecDepth 8192 in
theorem res_main_while0b_call1_v0_congr {V0 V0' : Valuation τ sig (Elt F)} (h : Agree V0 V0') : res_main_while0b_call1_v0 V0 = res_main_while0b_call1_v0 V0' := by
  unfold res_main_while0b_call1_v0
  rfl
set_option maxRecDepth 8192 in
theorem res_main_while0b_call1_cst_congr {V0 V0' : Valuation τ sig (Elt F)} (h : Agree V0 V0') : res_main_while0b_call1_cst V0 = res_main_while0b_call1_cst V0' := by
  unfold res_main_while0b_call1_cst
  rfl
set_option maxRecDepth 8192 in
theorem res_main_while0b_call1_c_congr {V0 V0' : Valuation τ sig (Elt F)} (h : Agree V0 V0') : res_main_while0b_call1_c V0 = res_main_while0b_call1_c V0' := by
  unfold res_main_while0b_call1_c
  rfl

set_option maxRecDepth 8192 in
def step_main_v4_1 (V0 : Valuation τ sig (Elt F)) : (Proc.devRef .tc main_v4_1 : DevRef τ sig).ty.Contents (Elt F) :=
  id (addi (V0 (Proc.devRef .tc main_v4_1)) (constantI S_ 32 1#32))
set_option maxRecDepth 8192 in
theorem step_main_v4_1_congr {V0 V0' : Valuation τ sig (Elt F)} (h : Agree V0 V0') : step_main_v4_1 V0 = step_main_v4_1 V0' := by
  unfold step_main_v4_1
  rw [h main_v4_1 (by decide)]
set_option maxRecDepth 8192 in
def step_main_v4_2 (V0 : Valuation τ sig (Elt F)) : (Proc.devRef .tc main_v4_2 : DevRef τ sig).ty.Contents (Elt F) :=
  id (res_main_while0b_v15 V0)
set_option maxRecDepth 8192 in
theorem step_main_v4_2_congr {V0 V0' : Valuation τ sig (Elt F)} (h : Agree V0 V0') : step_main_v4_2 V0 = step_main_v4_2 V0' := by
  unfold step_main_v4_2
  rw [res_main_while0b_v15_congr h]
set_option maxRecDepth 8192 in
def step_main_v4_3 (V0 : Valuation τ sig (Elt F)) : (Proc.devRef .tc main_v4_3 : DevRef τ sig).ty.Contents (Elt F) :=
  id ((fun j => (Host.argReduce reducer_argmax_f32_i32 (res_main_while0b_v15 V0) (res_main_while0b_call1_v0 V0) (res_main_while0b_call1_cst V0) (res_main_while0b_call1_c V0) reducesTo_S8x4096_S8_d1 h_S_ j).2))
set_option maxRecDepth 8192 in
theorem step_main_v4_3_congr {V0 V0' : Valuation τ sig (Elt F)} (h : Agree V0 V0') : step_main_v4_3 V0 = step_main_v4_3 V0' := by
  unfold step_main_v4_3
  rw [res_main_while0b_v15_congr h, res_main_while0b_call1_v0_congr h, res_main_while0b_call1_cst_congr h, res_main_while0b_call1_c_congr h]
set_option maxRecDepth 8192 in
def step_main_v4_4 (V0 : Valuation τ sig (Elt F)) : (Proc.devRef .tc main_v4_4 : DevRef τ sig).ty.Contents (Elt F) :=
  id (Host.dynamicUpdateSlice (V0 (Proc.devRef .tc main_v4_4)) (broadcastInDim S1x8 ![1] bcast_S8_S1x8_1 (V0 (Proc.devRef .tc main_v4_3))) (fun k => (((![V0 (Proc.devRef .tc main_v4_1), constantI S_ 32 0#32] : Fin 2 → (⟨S_, .i32⟩ : BufTy).Contents (Elt F))) k (Shape.Idx.first h_S_)).toInt) updateFits_S512x8_S1x8)
set_option maxRecDepth 8192 in
theorem step_main_v4_4_congr {V0 V0' : Valuation τ sig (Elt F)} (h : Agree V0 V0') : step_main_v4_4 V0 = step_main_v4_4 V0' := by
  unfold step_main_v4_4
  rw [h main_v4_4 (by decide), h main_v4_3 (by decide), h main_v4_1 (by decide)]

def STEP (V0 : Valuation τ sig (Elt F)) : Valuation τ sig (Elt F) :=
  Function.update (Function.update (Function.update (Function.update (V0) (Proc.devRef .tc main_v4_1) (step_main_v4_1 V0)) (Proc.devRef .tc main_v4_2) (step_main_v4_2 V0)) (Proc.devRef .tc main_v4_3) (step_main_v4_3 V0)) (Proc.devRef .tc main_v4_4) (step_main_v4_4 V0)

theorem STEP_main_v4_0 (V0 : Valuation τ sig (Elt F)) : STEP V0 (Proc.devRef .tc main_v4_0) = V0 (Proc.devRef .tc main_v4_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_1 (V0 : Valuation τ sig (Elt F)) : STEP V0 (Proc.devRef .tc main_v4_1) = step_main_v4_1 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v4_2 (V0 : Valuation τ sig (Elt F)) : STEP V0 (Proc.devRef .tc main_v4_2) = step_main_v4_2 V0 := by
  unfold STEP; rw [Function.update_of_ne (devRef_ne_of_ne (by decide))]; rw [Function.update_of_ne (devRef_ne_of_ne (by decide))]; rw [Function.update_self]
theorem STEP_main_v4_3 (V0 : Valuation τ sig (Elt F)) : STEP V0 (Proc.devRef .tc main_v4_3) = step_main_v4_3 V0 := by
  unfold STEP; rw [Function.update_of_ne (devRef_ne_of_ne (by decide))]; rw [Function.update_self]
theorem STEP_main_v4_4 (V0 : Valuation τ sig (Elt F)) : STEP V0 (Proc.devRef .tc main_v4_4) = step_main_v4_4 V0 := by
  unfold STEP; rw [Function.update_self]

theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
theorem trip_agree (X : Valuation τ sig (Elt F)) : Agree (afterL bodyI (after condOps X)) (STEP X) := by
  have hc := cond_keeps X
  intro j hj
  fin_cases hj
  · exact (trip_main_v4_0 (after condOps X)).trans ((hc main_v4_0 (by decide)).trans (STEP_main_v4_0 X).symm)
  · exact (trip_main_v4_1 (after condOps X)).trans ((step_main_v4_1_congr hc).trans (STEP_main_v4_1 X).symm)
  · exact (trip_main_v4_2 (after condOps X)).trans ((step_main_v4_2_congr hc).trans (STEP_main_v4_2 X).symm)
  · exact (trip_main_v4_3 (after condOps X)).trans ((step_main_v4_3_congr hc).trans (STEP_main_v4_3 X).symm)
  · exact (trip_main_v4_4 (after condOps X)).trans ((step_main_v4_4_congr hc).trans (STEP_main_v4_4 X).symm)

set_option maxRecDepth 8192 in
theorem STEP_congr {V V' : Valuation τ sig (Elt F)} (h : Agree V V') : Agree (STEP V) (STEP V') := by
  intro j hj
  fin_cases hj
  · rw [STEP_main_v4_0, STEP_main_v4_0]; exact h main_v4_0 (by decide)
  · rw [STEP_main_v4_1, STEP_main_v4_1]; exact step_main_v4_1_congr h
  · rw [STEP_main_v4_2, STEP_main_v4_2]; exact step_main_v4_2_congr h
  · rw [STEP_main_v4_3, STEP_main_v4_3]; exact step_main_v4_3_congr h
  · rw [STEP_main_v4_4, STEP_main_v4_4]; exact step_main_v4_4_congr h

theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

end Cert.Proof.SampleRun

end
-- ==== Proof.SampleRef.lean ====
/-
  The plain statement of farthest point sampling computes the rounds of `SampleMath`: a trip takes the coordinates of the
  point chosen last, keeps the smaller distances, and chooses the first point of the largest distance kept.
-/
module

public import proofs.«01_k».proof.Proof.SampleRun
public import proofs.«01_k».proof.Proof.SampleMath
public import Idealize.ShloMosaic.Lib.Pointwise
public import Idealize.ShloMosaic.Lib.ReduceAll

@[expose] public section

noncomputable section

namespace Cert.Proof.SampleRef

open Cert.SampleRefIdeal Cert.SampleRefIdeal.Gen Idealize.ShloMosaic Idealize.ShloMosaic.TcCoe Idealize.SL.Sem Cert.Proof.SampleMath Cert.Proof.SampleRun
open Idealize.ShloMosaic.StableHlo

/-! ## Words that number a point -/

theorem slt_zero (p : Fin 4096) : IntOp.cmpi .slt (BitVec.ofNat 32 p.val) 0#32 = 0#1 := by
  have h : ¬ IntOp.cmpi .slt (BitVec.ofNat 32 p.val) 0#32 = 1#1 := fun e => by
    have := IntOp.cmpi_slt.1 e
    rw [toInt_ofNat_of_lt (n := p.val) (by omega)] at this
    have e0 : (0#32).toInt = 0 := by decide
    omega
  generalize IntOp.cmpi .slt (BitVec.ofNat 32 p.val) 0#32 = v at h
  revert h; revert v; decide

theorem sge_zero (p : Fin 4096) : IntOp.cmpi .sge (BitVec.ofNat 32 p.val) 0#32 = 1#1 := by
  refine IntOp.cmpi_sge.2 ?_
  rw [toInt_ofNat_of_lt (n := p.val) (by omega)]
  have e0 : (0#32).toInt = 0 := by decide
  omega

theorem sle_last (p : Fin 4096) : IntOp.cmpi .sle (BitVec.ofNat 32 p.val) 4095#32 = 1#1 := by
  refine IntOp.cmpi_sle.2 ?_
  rw [toInt_ofNat_of_lt (n := p.val) (by omega)]
  have e0 : (4095#32).toInt = 4095 := by decide
  omega

/-- A word that numbers a point, after the step that would turn a negative number into one from the end. -/
theorem wrap (p : Fin 4096) : Scalar.select (IntOp.cmpi .slt (BitVec.ofNat 32 p.val) 0#32) (IntOp.addi (BitVec.ofNat 32 p.val) 4096#32) (BitVec.ofNat 32 p.val)
    = BitVec.ofNat 32 p.val := by
  rw [slt_zero]; rfl

/-! ## Taking points by their numbers -/

theorem clamp_start (p : Fin 4096) : min (BitVec.ofNat 32 p.val).toInt.toNat (4096 - 1) = p.val := by
  rw [toInt_ofNat_of_lt (n := p.val) (by omega)]; omega

/-- The dimension numbers of taking `n` points of every cloud: the cloud is a batching axis, the point is looked up, all
    three coordinates are taken. -/
abbrev takeDims (n : ℕ) (wf : GatherDims.WF S8x4096x3 ⟨3, ![8, n, 1]⟩ ⟨3, ![8, n, 3]⟩ [2] [1] [0] [1] [0] 2 ![1, 1, 3]) :
    GatherDims S8x4096x3 ⟨3, ![8, n, 1]⟩ ⟨3, ![8, n, 3]⟩ where
  offsetDims := [2]
  collapsedSliceDims := [1]
  operandBatchingDims := [0]
  startIndicesBatchingDims := [0]
  startIndexMap := [1]
  indexVectorDim := 2
  sliceSizes := ![1, 1, 3]
  wf := wf

theorem gather_points {n : ℕ} (wf : GatherDims.WF S8x4096x3 ⟨3, ![8, n, 1]⟩ ⟨3, ![8, n, 3]⟩ [2] [1] [0] [1] [0] 2 ![1, 1, 3])
    (x : S8x4096x3.Idx → EReal) (i : IVec ⟨3, ![8, n, 1]⟩ 32) (b : Fin 8) (k : Fin n) (c : Fin 3) (p : Fin 4096)
    (hi : i (ix3 b k 0) = BitVec.ofNat 32 p.val) : Host.gather (takeDims n wf) x i (ix3 b k c) = x (ix3 b p c) := by
  unfold Host.gather
  refine congrArg x (funext fun a => Fin.ext ?_)
  show (takeDims n wf).start (ix3 b k c) i a + (takeDims n wf).batchCoord (ix3 b k c) a + (takeDims n wf).offCoord (ix3 b k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  have n1 : ¬ (2 : Fin 3) ∈ ([1] : List (Fin 3)) := by decide
  have n0 : ¬ (2 : Fin 3) ∈ ([0] : List (Fin 3)) := by decide
  have n10 : ¬ (1 : Fin 3) ∈ ([0] : List (Fin 3)) := by decide
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    simp only [Nat.zero_add, Nat.add_zero]
    rfl
  · rw [GatherDims.batchCoord_eq_zero _ _ _ n10,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (takeDims n wf).startIndexMap from List.mem_singleton.mpr rfl)]
    refine Eq.trans ?_ (clamp_start p)
    rw [← hi]
    refine congrArg (fun q => min (i q).toInt.toNat (4096 - 1)) (funext fun a => Fin.ext ?_)
    match a with
    | ⟨0, _⟩ => rfl
    | ⟨1, _⟩ => rfl
    | ⟨2, _⟩ => rfl
  · have hm : (2 : Fin 3) ∈ (takeDims n wf).sKept := (GatherDims.mem_sKept _ _).mpr ⟨n1, n0⟩
    have hs : (takeDims n wf).start (ix3 b k c) i 2 = 0 := by
      unfold GatherDims.start
      rw [dif_neg (show ¬ (2 : Fin 3) ∈ (takeDims n wf).startIndexMap from n1)]
    rw [hs, GatherDims.batchCoord_eq_zero _ _ _ n0]
    unfold GatherDims.offCoord
    rw [dif_pos hm]
    simp only [Nat.zero_add]
    rfl

/-- One point of every cloud. -/
theorem gather_one (x : S8x4096x3.Idx → EReal) (i : IVec S8x1x1 32) (b : Fin 8) (c : Fin 3) (p : Fin 4096)
    (hi : i (ix3 b 0 0) = BitVec.ofNat 32 p.val) :
    Host.gather gather_S8x4096x3_S8x1x1_S8x1x3_2_1_0_0_1_2_113 x i (ix3 b 0 c) = x (ix3 b p c) :=
  gather_points (n := 1) _ x i b 0 c p hi

/-- 512 points of every cloud. -/
theorem gather_many (x : S8x4096x3.Idx → EReal) (i : IVec S8x512x1 32) (b : Fin 8) (k : Fin 512) (c : Fin 3) (p : Fin 4096)
    (hi : i (ix3 b k 0) = BitVec.ofNat 32 p.val) :
    Host.gather gather_S8x4096x3_S8x512x1_S8x512x3_2_1_0_0_1_2_113 x i (ix3 b k c) = x (ix3 b p c) :=
  gather_points (n := 512) _ x i b k c p hi

/-! ## The choice of the farthest point -/

theorem ofBits_neg_inf : Ideal.ofBits .f32 0xFF800000#32 = ⊥ := by
  simp [Ideal.ofBits, Ideal.ieee]

theorem pick_of {a b : BitVec 1} (h : a = 1#1 ↔ b = 1#1) : a = b := by
  revert h; revert a b; decide

theorem reducer_best (a b : EReal × BitVec 32) :
    (reducer_argmax_f32_i32 (F := Ideal) a b = a ∨ reducer_argmax_f32_i32 (F := Ideal) a b = b)
      ∧ Better (reducer_argmax_f32_i32 (F := Ideal) a b) a ∧ Better (reducer_argmax_f32_i32 (F := Ideal) a b) b := by
  obtain ⟨a1, a2⟩ := a
  obtain ⟨b1, b2⟩ := b
  have e : reducer_argmax_f32_i32 (F := Ideal) (a1, a2) (b1, b2)
      = if b1 < a1 then (a1, a2) else if a1 = b1 ∧ a2.toInt < b2.toInt then (a1, a2) else (b1, b2) := by
    unfold reducer_argmax_f32_i32
    dsimp only
    have hgt : FloatOps.cmpf (F := Ideal) (φ := .f32) .ogt a1 b1 = if b1 < a1 then 1#1 else 0#1 := by
      show BitVec.ofBool (decide (b1 < a1)) = _
      by_cases h : b1 < a1 <;> simp [h]
    have hne : FloatOps.cmpf (F := Ideal) (φ := .f32) .une a1 a1 = 0#1 := by
      show BitVec.ofBool (decide (a1 ≠ a1)) = _
      simp
    have heq : FloatOps.cmpf (F := Ideal) (φ := .f32) .oeq a1 b1 = if a1 = b1 then 1#1 else 0#1 := by
      show BitVec.ofBool (decide (a1 = b1)) = _
      by_cases h : a1 = b1 <;> simp [h]
    have hlt : IntOp.cmpi .slt a2 b2 = if a2.toInt < b2.toInt then 1#1 else 0#1 := by
      refine pick_of (IntOp.cmpi_slt.trans ?_)
      by_cases h : a2.toInt < b2.toInt <;> simp [h]
    rw [hgt, hne, heq, hlt]
    by_cases h1 : b1 < a1
    · by_cases h2 : a1 = b1 <;> by_cases h3 : a2.toInt < b2.toInt <;> simp [h1, h2, h3, Scalar.select, IntOp.ori, IntOp.andi]
    · by_cases h2 : a1 = b1
      · subst h2
        by_cases h3 : a2.toInt < b2.toInt
        · simp [h3, Scalar.select, IntOp.ori, IntOp.andi]
        · simp [h3, Scalar.select, IntOp.ori, IntOp.andi]
      · simp [h1, h2, Scalar.select, IntOp.ori, IntOp.andi]
  rw [e]
  by_cases h1 : b1 < a1
  · rw [if_pos h1]; exact ⟨Or.inl rfl, Better.refl _, Or.inl h1⟩
  · rw [if_neg h1]
    by_cases h2 : a1 = b1 ∧ a2.toInt < b2.toInt
    · rw [if_pos h2]; exact ⟨Or.inl rfl, Better.refl _, Or.inr ⟨h2.1.symm, h2.2.le⟩⟩
    · rw [if_neg h2]
      refine ⟨Or.inr rfl, ?_, Better.refl _⟩
      rcases lt_or_eq_of_le (not_lt.1 h1) with h | h
      · exact Or.inl h
      · exact Or.inr ⟨h, not_lt.1 fun h' => h2 ⟨h, h'⟩⟩

theorem argmax_apply (d : FVec Ideal S8x4096 .f32) (b : Fin 8) (g : Fin 4096 → EReal) (hd : ∀ n, d (ix2 b n) = g n) :
    (Host.argReduce reducer_argmax_f32_i32 d (iotaInDim S8x4096 32 1) (constant S_ .f32 0xFF800000#32) (constantI S_ 32 0#32)
      reducesTo_S8x4096_S8_d1 h_S_ (ix1 b)).2 = BitVec.ofNat 32 (first g).val := by
  rw [Ideal.argReduce_eq_reduce2, Host.reduce2_eq_foldl_fiber]
  have e0 : (constant (F := Ideal) S_ .f32 0xFF800000#32 (Shape.Idx.first h_S_), constantI S_ 32 0#32 (Shape.Idx.first h_S_)) = ((⊥ : EReal), 0#32) :=
    Prod.ext ofBits_neg_inf rfl
  rw [e0]
  refine foldl_first _ reducer_best _ g fun q => ?_
  unfold Host.argReduceFiber
  rw [List.mem_map]
  constructor
  · rintro ⟨n, hn, rfl⟩
    have hn' := of_decide_eq_true (List.mem_filter.1 hn).2
    obtain ⟨k, hk⟩ := (Shape.ReducesTo.fiber_r2_a1 _ _ _).1 hn'
    refine ⟨k, ?_⟩
    rw [← hk]
    exact Prod.ext (hd k) rfl
  · rintro ⟨k, rfl⟩
    refine ⟨S8x4096.rowMajor (ix2 b k), List.mem_filter.2 ⟨List.mem_finRange _, ?_⟩, ?_⟩
    · refine decide_eq_true ?_
      rw [Equiv.symm_apply_apply]
      exact (Shape.ReducesTo.fiber_r2_a1 _ _ _).2 ⟨k, rfl⟩
    · rw [Equiv.symm_apply_apply]
      exact Prod.ext (hd k) rfl

/-- A conjunction of bits that are all set is set. -/
theorem fold_and {ι : Type} (g : ι → BitVec 1) (hg : ∀ i, g i = 1#1) (s : Finset ι) : s.fold IntOp.andi 1#1 g = 1#1 := by
  classical
  induction s using Finset.induction_on with
  | empty => rfl
  | insert a s ha ih => rw [Finset.fold_insert ha, ih, hg]; rfl

/-- A word that numbers a point passes the bounds test. -/
theorem in_bounds (p : Fin 4096) : IntOp.andi (IntOp.cmpi .sge (BitVec.ofNat 32 p.val) 0#32) (IntOp.cmpi .sle (BitVec.ofNat 32 p.val) 4095#32) = 1#1 := by
  rw [sge_zero, sle_last]; rfl

/-! ## One trip -/

section Trip
variable (V : Valuation τ sig (Elt Ideal)) (x : Clouds) (f : Fin 8 → Fin 4096) (D : Fin 8 → Fin 4096 → EReal)
  (hx : ∀ b n c, V (Proc.devRef .tc main_v4_0) (ix3 b n c) = x b c n) (hf : ∀ b, V (Proc.devRef .tc main_v4_3) (ix1 b) = BitVec.ofNat 32 (f b).val)
  (hd : ∀ b n, V (Proc.devRef .tc main_v4_2) (ix2 b n) = D b n)
include hf

theorem far_apply (b : Fin 8) : res_main_while0b_call0_v4 V (ix3 b 0 0) = BitVec.ofNat 32 (f b).val := by
  pointwise [res_main_while0b_call0_v4, res_main_while0b_v9]
  rw [hf]
  exact wrap (f b)

include hx

theorem diff_apply (b : Fin 8) (n : Fin 4096) (c : Fin 3) : res_main_while0b_v12 V (ix3 b n c) = x b c n - x b c (f b) := by
  pointwise [res_main_while0b_v12]
  rw [gather_one _ _ b c (f b) (far_apply V f hf b), fold_and _ (fun i => ?_), hx, hx]
  · rfl
  · have e : i = ix3 (i 0 : Fin 8) 0 0 := by
      refine funext fun a => Fin.ext ?_
      have h1 : (i 1).val < 1 := (i 1).isLt
      have h2 : (i 2).val < 1 := (i 2).isLt
      match a with
      | ⟨0, _⟩ => rfl
      | ⟨1, _⟩ => show (i 1).val = 0; omega
      | ⟨2, _⟩ => show (i 2).val = 0; omega
    have e' := (congrArg (res_main_while0b_call0_v4 V) e).trans (far_apply V f hf (i 0))
    rw [e']
    exact in_bounds (f (i 0))

include hd

theorem keep_apply (b : Fin 8) (n : Fin 4096) : res_main_while0b_v15 V (ix2 b n) = keep x (D, f) b n := by
  pointwise [res_main_while0b_v15]
  simp only [diff_apply V x f hx hf, hd, keep, sqd]

theorem next_apply (b : Fin 8) : step_main_v4_3 V (ix1 b) = BitVec.ofNat 32 (first (keep x (D, f) b)).val :=
  argmax_apply (res_main_while0b_v15 V) b (keep x (D, f) b) (keep_apply V x f D hx hf hd b)

end Trip

/-! ## All trips -/

variable (m : (ℓ : Loc nD τ sig) → Buf (Elt Ideal) ℓ)

/-- The distances' starting value. -/
def big : EReal := Ideal.ofBits .f32 0x501502F9#32

/-- What the trips carry before round `k`. -/
structure Inv (x : Clouds) (k : ℕ) (V : Valuation τ sig (Elt Ideal)) : Prop where
  pts : ∀ b n c, V (Proc.devRef .tc main_v4_0) (ix3 b n c) = x b c n
  dist : ∀ b n, V (Proc.devRef .tc main_v4_2) (ix2 b n) = (state x big k).1 b n
  far : ∀ b, V (Proc.devRef .tc main_v4_3) (ix1 b) = BitVec.ofNat 32 (pick x big k b).val
  cent : ∀ (j : Fin 512) b, j.val < k → V (Proc.devRef .tc main_v4_4) (ix2 j b) = BitVec.ofNat 32 (pick x big j.val b).val

/-- The row a trip writes holds the points chosen last; the others stay. -/
theorem row_apply (V : Valuation τ sig (Elt Ideal)) (k : ℕ) (hk : k < 512) (hc : V (Proc.devRef .tc main_v4_1) = fun _ => Scf.iv 0#32 1#32 k)
    (j : Fin 512) (b : Fin 8) :
    step_main_v4_4 V (ix2 j b) = if j.val = k then V (Proc.devRef .tc main_v4_3) (ix1 b) else V (Proc.devRef .tc main_v4_4) (ix2 j b) := by
  unfold step_main_v4_4
  have hs : S512x8.Slices ![k, 0] S1x8 := ⟨rfl, fun a => by
    match a with
    | ⟨0, _⟩ => show k + 1 ≤ 512; omega
    | ⟨1, _⟩ => show 0 + 8 ≤ 8; omega⟩
  rw [hc]
  dsimp only [id]
  rw [Host.dynamicUpdateSlice_eq_updateSlice _ _ _ _ ![k, 0] (fun a => by
    match a with
    | ⟨0, _⟩ =>
      show (min (max (Scf.iv 0#32 1#32 k).toInt 0) ((512 - 1 : ℕ) : Int)).toNat = k
      have e : Scf.iv 0#32 1#32 k = BitVec.ofNat 32 k := by simp [Scf.iv]
      rw [e, toInt_ofNat_of_lt (n := k) (by omega)]
      omega
    | ⟨1, _⟩ => rfl) hs, updateSlice_apply]
  by_cases h : j.val = k
  · rw [if_pos h, dif_pos (fun a => by
      match a with
      | ⟨0, _⟩ => show k ≤ j.val ∧ j.val < k + 1; omega
      | ⟨1, _⟩ => show 0 ≤ b.val ∧ b.val < 0 + 8; omega)]
    pointwise []
  · rw [if_neg h, dif_neg (fun hh => by
      have h0 : k ≤ j.val ∧ j.val < k + 1 := hh 0
      omega)]

theorem Inv.step {x : Clouds} {k : ℕ} (hk : k < 512) (c : Dev nD) (h : Inv x k (atK m k c)) : Inv x (k + 1) (atK m (k + 1) c) := by
  have ag : Agree (atK m (k + 1) c) (STEP (atK m k c)) := trip_agree (atK m k c)
  have hc := atK_ctr m c k
  generalize atK m (k + 1) c = W at ag ⊢
  generalize atK m k c = V at ag h hc
  refine ⟨fun b n c => ?_, fun b n => ?_, fun b => ?_, fun j b hj => ?_⟩
  · rw [ag main_v4_0 (by decide), STEP_main_v4_0]; exact h.pts b n c
  · rw [ag main_v4_2 (by decide), STEP_main_v4_2, state_succ]
    exact keep_apply V x (pick x big k) _ h.pts h.far h.dist b n
  · rw [ag main_v4_3 (by decide), STEP_main_v4_3]
    have e := next_apply V x (state x big k).2 (state x big k).1 h.pts h.far h.dist b
    rw [← round_far x (state x big k) b, ← state_succ] at e
    exact e
  · rw [ag main_v4_4 (by decide), STEP_main_v4_4, row_apply V k hk hc]
    by_cases e : j.val = k
    · rw [if_pos e, e]; exact h.far b
    · rw [if_neg e]; exact h.cent j b (by omega)

/-- The clouds in an array. -/
def clouds (a : S8x3x4096.Idx → EReal) : Clouds := fun b c n => a (ix3 b c n)

theorem entry_inv (c : Dev nD) : Inv (clouds (m ((c.tc : Thread nD τ).loc main_arg0))) 0 (atK m 0 c) := by
  have e : atK m 0 c = after hostOps0 (launchContents m c) := rfl
  rw [e]
  refine ⟨fun b n i => ?_, fun b n => ?_, fun b => ?_, fun j b hj => absurd hj (Nat.not_lt_zero _)⟩
  · after_reads_simp
    dsimp only [id]
    pointwise []
    rfl
  · after_reads_simp
    rfl
  · after_reads_simp
    rfl

theorem trips_inv (c : Dev nD) (k : ℕ) (hk : k ≤ 512) : Inv (clouds (m ((c.tc : Thread nD τ).loc main_arg0))) k (atK m k c) := by
  induction k with
  | zero => exact entry_inv m c
  | succ k ih => exact (ih (by omega)).step m (by omega) c

/-! ## After the trips -/

/-- What the trips leave alone. -/
theorem atK_keep (c : Dev nD) (r : Ref sig .tc) (h : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (k : ℕ) :
    atK m k c (Proc.devRef .tc r) = after hostOps0 (launchContents m c) (Proc.devRef .tc r) := by
  induction k with
  | zero => rfl
  | succ k ih =>
    rw [show atK m (k + 1) c = afterL bodyI (after condOps (atK m k c)) from rfl]
    simp only [afterL_cons, afterL_nil]
    rw [after_of_writes_sub _ _ while0Ops0_5_writes h5, after_of_writes_sub _ _ while0Ops0_4_writes h4, after_of_writes_sub _ _ while0Ops0_3_writes h3,
      after_of_writes_sub _ _ while0Ops0_2_writes h2, after_of_writes_sub _ _ while0Ops0_1_writes h1, after_of_writes_sub _ _ while0Ops0_writes h0,
      after_of_writes_sub _ _ condOps_writes h, ih]

/-- The chosen points' coordinates. -/
def sampled (x : Clouds) : S8x3x512.Idx → EReal := fun j => x (j 0) (j 1) (pick x big (j 2).val (j 0))

/-- The numbers of the points to take. -/
def nums (X : Valuation τ sig (Elt Ideal)) : IVec S8x512x1 32 :=
  broadcastInDim S8x512x1 ![0, 1] bcast_S8x512_S8x512x1_0_1
    (transpose S8x512 [1, 0] (X (Proc.devRef .tc main_v4_4) : S512x8.Idx → BitVec 32) transposes_S512x8_S8x512_1_0)

/-- The same, a negative one counted from the end. -/
def wrapped (X : Valuation τ sig (Elt Ideal)) : IVec S8x512x1 32 :=
  select (cmpi .slt (nums X) (broadcastInDim S8x512x1 ![] bcast_S_S8x512x1 (constantI S_ 32 0#32)))
    (addi (nums X) (broadcastInDim S8x512x1 ![] bcast_S_S8x512x1 (constantI S_ 32 4096#32))) (nums X)

/-- The points taken. -/
def taken (X : Valuation τ sig (Elt Ideal)) : FVec Ideal S8x512x3 .f32 :=
  select (broadcastInDim S8x512x3 ![0, 1] bcast_S8x512_S8x512x3_0_1 (Host.reduce IntOp.andi (andi
      (cmpi .sge (wrapped X) (broadcastInDim S8x512x1 ![] bcast_S_S8x512x1 (constantI S_ 32 0#32)))
      (cmpi .sle (wrapped X) (broadcastInDim S8x512x1 ![0, 1, 2] bcast_S1x1x1_S8x512x1_0_1_2
        (broadcastInDim S1x1x1 ![2] bcast_S1_S1x1x1_2 (constantI S1 32 4095#32))))) (constantI S_ 1 1#1) reducesTo_S8x512x1_S8x512_d2 h_S_))
    (Host.gather gather_S8x4096x3_S8x512x1_S8x512x3_2_1_0_0_1_2_113 (X (Proc.devRef .tc main_v0) : S8x4096x3.Idx → EReal) (wrapped X))
    (broadcastInDim S8x512x3 ![] bcast_S_S8x512x3 (constant S_ .f32 0x7FC00000#32))

set_option maxRecDepth 8192 in
set_option maxHeartbeats 2000000 in
theorem post_eq (X : Valuation τ sig (Elt Ideal)) :
    afterL postI X (Proc.devRef .tc main_v8) = transpose S8x3x512 [0, 2, 1] (taken X) transposes_S8x512x3_S8x3x512_0_2_1 := by
  simp only [afterL_cons, afterL_nil]
  after_results_entrywise [taken, wrapped, nums, cast_eq]

theorem post_apply (X : Valuation τ sig (Elt Ideal)) (x : Clouds) (hx : ∀ b n c, X (Proc.devRef .tc main_v0) (ix3 b n c) = x b c n)
    (hc : ∀ (j : Fin 512) b, X (Proc.devRef .tc main_v4_4) (ix2 j b) = BitVec.ofNat 32 (pick x big j.val b).val) (b : Fin 8) (c : Fin 3) (k : Fin 512) :
    afterL postI X (Proc.devRef .tc main_v8) (ix3 b c k) = x b c (pick x big k.val b) := by
  have hw : ∀ (b : Fin 8) (k : Fin 512), wrapped X (ix3 b k 0) = BitVec.ofNat 32 (pick x big k.val b).val := fun b k => by
    pointwise [wrapped, nums]
    rw [hc]
    exact wrap _
  rw [post_eq]
  pointwise [taken]
  have hb : ∀ i : S8x512x1.Idx, IntOp.andi (IntOp.cmpi .sge (wrapped X i) 0#32) (IntOp.cmpi .sle (wrapped X i) 4095#32) = 1#1 := fun i => by
    have e : i = ix3 (i 0 : Fin 8) (i 1 : Fin 512) 0 := by
      refine funext fun a => Fin.ext ?_
      have h2 : (i 2).val < 1 := (i 2).isLt
      match a with
      | ⟨0, _⟩ => rfl
      | ⟨1, _⟩ => rfl
      | ⟨2, _⟩ => show (i 2).val = 0; omega
    have e' := (congrArg (wrapped X) e).trans (hw (i 0) (i 1))
    rw [e']
    exact in_bounds _
  rw [gather_many _ _ b k c (pick x big k.val b) (hw b k), fold_and _ (fun i => hb _), hx]
  rfl

theorem final_eq (c : Dev nD) :
    finalContents condOps preI bodyI postI 512 m c (Proc.devRef .tc main_v8) = sampled (clouds (m ((c.tc : Thread nD τ).loc main_arg0))) := by
  have h := trips_inv m c 512 le_rfl
  have h0 : ∀ b n i, atK m 512 c (Proc.devRef .tc main_v0) (ix3 b n i) = clouds (m ((c.tc : Thread nD τ).loc main_arg0)) b i n := fun b n i => by
    rw [atK_keep m c main_v0 (by decide) (by decide) (by decide) (by decide) (by decide) (by decide) (by decide) 512]
    after_reads_simp
    pointwise []
    rfl
  funext j
  show afterL postI (after condOps (atK m 512 c)) (Proc.devRef .tc main_v8) j = _
  have e : j = ix3 (j 0 : Fin 8) (j 1 : Fin 3) (j 2 : Fin 512) := by
    refine funext fun a => ?_
    match a with
    | ⟨0, _⟩ => rfl
    | ⟨1, _⟩ => rfl
    | ⟨2, _⟩ => rfl
  generalize atK m 512 c = V at h h0 ⊢
  refine (congrArg (afterL postI (after condOps V) (Proc.devRef .tc main_v8)) e).trans ?_
  refine post_apply (after condOps V) _ (fun b n i => ?_) (fun j b => ?_) (j 0) (j 1) (j 2)
  · rw [after_of_writes_sub _ _ condOps_writes (by decide)]; exact h0 b n i
  · rw [after_of_writes_sub _ _ condOps_writes (by decide)]; exact h.cent j b j.isLt

theorem arg_eq (c : Dev nD) : finalContents condOps preI bodyI postI 512 m c (Proc.devRef .tc main_arg0) = m ((c.tc : Thread nD τ).loc main_arg0) := by
  show afterL postI (after condOps (atK m 512 c)) (Proc.devRef .tc main_arg0) = _
  simp only [afterL_cons, afterL_nil]
  after_reads_simp
  rw [atK_keep m c main_arg0 (by decide) (by decide) (by decide) (by decide) (by decide) (by decide) (by decide) 512]
  after_reads_simp

/-- Every run of the statement ends with the chosen points' coordinates in the result and the clouds as they were. -/
theorem run (ρ : Dev nD → PrngReg) : θ_run (defs (F := Ideal)) (onTc (τ := τ) (main (F := Ideal))) ⟨m, fun _ => 0, ρ⟩
    (fun r => ∀ c : Dev nD, r.2.mem ((c.tc : Thread nD τ).loc main_v8) = sampled (clouds (m ((c.tc : Thread nD τ).loc main_arg0)))
      ∧ r.2.mem ((c.tc : Thread nD τ).loc main_arg0) = m ((c.tc : Thread nD τ).loc main_arg0)) :=
  (θ_run (defs (F := Ideal)) _ _).mono (fun r h c => ⟨(h c main_v8 rfl).trans (final_eq m c), (h c main_arg0 rfl).trans (arg_eq m c)⟩) (run_fold m ρ)

end Cert.Proof.SampleRef

end
-- ==== Proof.SearchMath.lean ====
/-
  The nearest 32 of 4096 points, stated plainly. Points are chosen one after the other: each time the first point at the
  smallest distance among those left, a chosen point counting as infinitely far from then on. When all distances are below
  infinity, the points so chosen are the first 32 of the stable ascending sort (`sortedFrom_chosen`).
-/
module

public import proofs.«01_k».proof.Proof.SampleMath
public import Idealize.ShloMosaic.Lib.SortPrefix

@[expose] public section

noncomputable section

namespace Cert.Proof.SearchMath

open Idealize.ShloMosaic Cert.Proof.SampleMath

/-- The first index of the smallest value. -/
def least (d : Fin 4096 → EReal) : Fin 4096 := first fun n => -d n

theorem least_le (d : Fin 4096 → EReal) (n : Fin 4096) : d (least d) ≤ d n :=
  EReal.neg_le_neg_iff.1 ((isFirst_first fun n => -d n).1 n)

theorem least_first (d : Fin 4096 → EReal) (n : Fin 4096) (h : d n = d (least d)) : least d ≤ n :=
  (isFirst_first fun n => -d n).2 n (congrArg Neg.neg h)

/-- The smallest value, as a fold from infinity. -/
theorem fold_min (d : Fin 4096 → EReal) : (Finset.univ : Finset (Fin 4096)).fold min ⊤ d = d (least d) := by
  refine le_antisymm ?_ ?_
  · exact (Finset.fold_min_le _).2 (Or.inr ⟨least d, Finset.mem_univ _, le_rfl⟩)
  · exact (Finset.le_fold_min _).2 ⟨le_top, fun j _ => least_le d j⟩

/-- The distances left before round `k`. -/
def left (key : Fin 4096 → EReal) : ℕ → Fin 4096 → EReal
  | 0 => key
  | k + 1 => fun n => if n = least (left key k) then ⊤ else left key k n

/-- The point chosen in round `k`. -/
def chosen (key : Fin 4096 → EReal) (k : ℕ) : Fin 4096 := least (left key k)

theorem left_eq (key : Fin 4096 → EReal) (k : ℕ) (n : Fin 4096) :
    ((∃ j < k, chosen key j = n) → left key k n = ⊤) ∧ ((∀ j < k, chosen key j ≠ n) → left key k n = key n) := by
  induction k with
  | zero => exact ⟨fun ⟨j, hj, _⟩ => absurd hj (Nat.not_lt_zero j), fun _ => rfl⟩
  | succ k ih =>
    have e : left key (k + 1) n = if n = chosen key k then ⊤ else left key k n := rfl
    rw [e]
    by_cases h : n = chosen key k
    · rw [if_pos h]
      exact ⟨fun _ => rfl, fun h' => absurd h.symm (h' k (Nat.lt_succ_self k))⟩
    · rw [if_neg h]
      refine ⟨fun ⟨j, hj, hn⟩ => ih.1 ⟨j, ?_, hn⟩, fun h' => ih.2 fun j hj => h' j (Nat.lt_succ_of_lt hj)⟩
      rcases Nat.lt_succ_iff_lt_or_eq.1 hj with hj | rfl
      · exact hj
      · exact absurd hn.symm h

/-- Before round `k` some point is not chosen. -/
theorem exists_left (key : Fin 4096 → EReal) (k : ℕ) (hk : k < 4096) : ∃ n, ∀ j < k, chosen key j ≠ n := by
  have hc : ((Finset.range k).image (chosen key)).card < (Finset.univ : Finset (Fin 4096)).card :=
    lt_of_le_of_lt Finset.card_image_le (by rw [Finset.card_range, Finset.card_univ, Fintype.card_fin]; exact hk)
  obtain ⟨n, -, hn⟩ := Finset.exists_mem_notMem_of_card_lt_card hc
  exact ⟨n, fun j hj e => hn (Finset.mem_image.2 ⟨j, Finset.mem_range.2 hj, e⟩)⟩

section Order

variable (key : Fin 4096 → EReal) (hkey : ∀ n, key n < ⊤) (k : ℕ) (hk : k < 4096)
include hkey hk

/-- A chosen point is chosen once. -/
theorem chosen_new (j : ℕ) (hj : j < k) : chosen key j ≠ chosen key k := by
  intro e
  obtain ⟨n, hn⟩ := exists_left key k hk
  have h := least_le (left key k) n
  rw [show left key k (least (left key k)) = ⊤ from (left_eq key k _).1 ⟨j, hj, e⟩, (left_eq key k n).2 hn] at h
  exact absurd (hkey n) (not_lt.2 h)

/-- The point chosen in round `k` comes before every other point left. -/
theorem chosen_before (n : Fin 4096) (hn : ∀ j < k, chosen key j ≠ n) :
    key (chosen key k) < key n ∨ key (chosen key k) = key n ∧ chosen key k ≤ n := by
  have e : left key k (chosen key k) = key (chosen key k) := (left_eq key k _).2 (chosen_new key hkey k hk)
  have e' : left key k n = key n := (left_eq key k n).2 hn
  have h : left key k (chosen key k) ≤ left key k n := least_le (left key k) n
  rcases lt_or_eq_of_le h with h | h
  · exact Or.inl (by rwa [e, e'] at h)
  · exact Or.inr ⟨by rwa [e, e'] at h, least_first (left key k) n h.symm⟩

end Order

/-- The order of the sort: by distance, then by position. -/
def before (key : Fin 4096 → EReal) (a b : Fin 4096) : Bool :=
  decide (key a < key b) || (decide (key a = key b) && decide (a < b))

theorem before_total (key : Fin 4096 → EReal) : StrictTotalBefore (before key) :=
  StrictTotalBefore.of_key_then_position (fun a b : EReal => decide (a < b)) key (by simp)
    (fun a b c h h' => by simp only [decide_eq_true_eq] at h h' ⊢; exact h.trans h')
    (fun a b => by simp only [decide_eq_true_eq]; exact lt_trichotomy a b)

theorem before_false {key : Fin 4096 → EReal} {a b : Fin 4096} (h : key b < key a ∨ key b = key a ∧ b ≤ a) : before key a b = false := by
  unfold before
  rcases h with h | ⟨h, h'⟩
  · simp [not_lt.2 h.le, h.ne']
  · simp [h, not_lt.2 h']

/-- On positions in ascending order, a stable sort by distance is a sort by distance and then by position. -/
theorem stable_congr (key : Fin 4096 → EReal) (l : List (Fin 4096)) (hl : l.Pairwise (· < ·)) :
    stableSort (fun a b => decide (key a < key b)) l = stableSort (before key) l := by
  induction l with
  | nil => rfl
  | cons a l ih =>
    rw [List.pairwise_cons] at hl
    unfold stableSort
    rw [ih hl.2]
    refine insertBefore_congr _ _ a _ fun b hb => ?_
    have h : a < b := hl.1 b ((perm_stableSort _ l).mem_iff.1 hb)
    show decide (key b < key a) = before key b a
    unfold before
    simp [not_lt.2 h.le]

theorem sortedFrom_of_positions {n : ℕ} (R R' : Fin n → Fin n → Bool) (e : sortPositions n R = sortPositions n R') (k : Fin n) :
    sortedFrom R k = sortedFrom R' k := by
  unfold sortedFrom
  rw [List.get_of_eq e]
  rfl

theorem sortedFrom_eq (key : Fin 4096 → EReal) (k : Fin 4096) :
    sortedFrom (fun a b => decide (key a < key b)) k = sortedFrom (before key) k :=
  sortedFrom_of_positions _ _ (stable_congr key _ (List.pairwise_lt_finRange 4096)) k

/-- The points chosen are the first of the stable sort by distance. -/
theorem sortedFrom_chosen (key : Fin 4096 → EReal) (hkey : ∀ n, key n < ⊤) (k : Fin 32) :
    sortedFrom (fun a b => decide (key a < key b)) ⟨k.val, by omega⟩ = chosen key k.val := by
  rw [sortedFrom_eq]
  refine (before_total key).sortedFrom_eq_of_prefix (k := 32) (by omega) (fun j => chosen key j.val) ?_ ?_ ?_ k
  · intro i j e
    rcases lt_trichotomy i.val j.val with h | h | h
    · exact absurd e (chosen_new key hkey j.val (by omega) i.val h)
    · exact Fin.ext h
    · exact absurd e.symm (chosen_new key hkey i.val (by omega) j.val h)
  · intro i j hij
    refine before_false (chosen_before key hkey i.val (by omega) _ fun l hl => ?_)
    exact chosen_new key hkey j.val (by omega) l (lt_trans hl hij)
  · intro i p hp
    exact before_false (chosen_before key hkey i.val (by omega) p fun l hl => hp ⟨l, by omega⟩)

end Cert.Proof.SearchMath

end
-- ==== Proof.SearchKernel.lean ====
/-
  The neighbour search's body: it computes the distances of a block of sampled points to all points of their cloud, and
  its loop takes the nearest point left, writes its index in the trip's column and puts infinity in its place.
-/
module

public import proofs.«01_k».proof.Proof.Gen.SearchIdeal.Value
public import proofs.«01_k».proof.Proof.SearchMath
public import proofs.«01_k».proof.Proof.SampleKernel
public import Idealize.ShloMosaic.Lib.Pointwise
public import Idealize.ShloMosaic.Lib.VecWindow

@[expose] public section

noncomputable section

namespace Cert.Proof.SearchKernel

open Cert.SearchIdeal Cert.SearchIdeal.Gen Idealize.ShloMosaic Idealize.ShloMosaic.TcCoe Idealize.SL.Sem Cert.Proof.SampleMath Cert.Proof.SearchMath
open Cert.Proof.SampleKernel (cmpi_eq_ofNat minsi_least iv_eq)

theorem word_inf : Ideal.ofBits FTy.f32 0x7F800000#32 = (⊤ : EReal) := by
  simp [Ideal.ofBits, Ideal.ieee]

/-- The body's squared distance of two points. -/
def dist (a p : Fin 3 → EReal) : EReal :=
  (Ideal.ofBits .f32 0xC0000000#32 * ∑ c : Fin 3, a c * p c + ∑ c : Fin 3, a c * a c) + ∑ c : Fin 3, p c * p c

theorem pay1_apply (v0 : Vec Ideal S1x3x512 .f32) (v2 : Vec Ideal S1x3x4096 .f32) (s : Fin 512) (n : Fin 4096) :
    k0_pay1 v0 v2 (ix2 s n) = dist (fun c => v0 (ix3 0 c s)) (fun c => v2 (ix3 0 c n)) := by
  pointwise [k0_pay1]
  rfl

theorem pay3_apply (d : Vec Ideal S512x4096 .f32) (s : Fin 512) :
    k0_pay3 d (ix2 s 0) = BitVec.ofNat 32 (least fun n => d (ix2 s n)).val := by
  pointwise [k0_pay3]
  refine fold_min_index IntOp.minsi minsi_least (fun n => -d (ix2 s n)) _ fun n => ?_
  simp only [word_inf]
  rw [show (Finset.univ : Finset (Fin 4096)).fold min ⊤ (fun n => d (ix2 s n)) = _ from fold_min fun n => d (ix2 s n)]
  exact if_congr neg_inj.symm rfl rfl

theorem pay4_apply (k : Fin k0_t1_loop.trips) (hk : k.val < 32) (acc : IVec S512x32 32) (d : Vec Ideal S512x4096 .f32) (s : Fin 512) (j : Fin 32) :
    k0_pay4 k acc d (ix2 s j) = if j.val = k.val then BitVec.ofNat 32 (least fun n => d (ix2 s n)).val else acc (ix2 s j) := by
  pointwise [k0_pay4]
  rw [pay3_apply, iv_eq, cmpi_eq_ofNat (by omega) (by omega)]
  by_cases h : j.val = k.val
  · rw [if_pos h, if_pos h]; rfl
  · rw [if_neg h, if_neg h]; rfl

theorem pay5_apply (d : Vec Ideal S512x4096 .f32) (s : Fin 512) (n : Fin 4096) :
    k0_pay5 d (ix2 s n) = if n = least (fun n => d (ix2 s n)) then ⊤ else d (ix2 s n) := by
  pointwise [k0_pay5]
  rw [pay3_apply, cmpi_eq_ofNat n.isLt (least _).isLt, word_inf]
  simp only [Fin.ext_iff]
  by_cases h : n.val = (least fun n => d (ix2 s n)).val
  · rw [if_pos h, if_pos h]; rfl
  · rw [if_neg h, if_neg h]; rfl

theorem pay6_apply (i : grid0.Coords) (acc : IVec S512x32 32) (s : Fin 512) (j : Fin 32) :
    k0_pay6 i acc (ix3 0 s j) = IntOp.addi (acc (ix2 s j)) (IntOp.muli (BitVec.ofNat 32 (i 0).val) 4096#32) := by
  pointwise [k0_pay6]
  rfl

section Loop

variable (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)

/-- The whole scratch array. -/
abbrev whole : Rect S512x4096 := Rect.unit (s := S512x4096) ![0, 0] S512x4096.size inb_S512x4096_S512x4096_0_0

theorem tripR_eq (k : Fin k0_t1_loop.trips) (acc : IVec S512x32 32) (f : BufTy.Contents (Elt Ideal) arg5.view.ty) :
    tripR_k0_t1 (F := Ideal) Variants.none c none i arg2 harg2 arg3 harg3 arg4 harg4 arg5 harg5 k acc f
      = k0_pay4 k acc (arg5.view.read (Elt Ideal) f) := by
  unfold tripR_k0_t1 trip_k0_t1
  dsimp only
  rw [View.readAt_full]

theorem tripL_eq (k : Fin k0_t1_loop.trips) (acc : IVec S512x32 32) (f : BufTy.Contents (Elt Ideal) arg5.view.ty) :
    tripL_k0_t1 (F := Ideal) Variants.none c none i arg2 harg2 arg3 harg3 arg4 harg4 arg5 harg5 k acc f
      = [⟨whole, k0_pay5 (arg5.view.read (Elt Ideal) f)⟩] := by
  unfold tripL_k0_t1 trip_k0_t1
  dsimp only
  rw [View.readAt_full]

/-- The loop's state before round `k`. -/
structure Inv (key : Fin 512 → Fin 4096 → EReal) (G : BufTy.Contents (Elt Ideal) arg5.view.ty) (k : ℕ)
    (st : IVec S512x32 32 × List (View.Piece (Elt Ideal) S512x4096 .f32)) : Prop where
  scratch : ∀ s n, (arg5.view.read (Elt Ideal) (arg5.view.writes (Elt Ideal) G st.2) : Vec Ideal S512x4096 .f32) (ix2 s n) = left (key s) k n
  acc : ∀ s (j : Fin 32), j.val < k → st.1 (ix2 s j) = BitVec.ofNat 32 (chosen (key s) j.val).val

theorem trips_eq : k0_t1_loop.trips = 32 := by decide

theorem inv (key : Fin 512 → Fin 4096 → EReal) (G : BufTy.Contents (Elt Ideal) arg5.view.ty) (init : IVec S512x32 32)
    (hG : ∀ s n, (arg5.view.read (Elt Ideal) G : Vec Ideal S512x4096 .f32) (ix2 s n) = key s n) (k : ℕ) (hk : k ≤ 32) :
    Inv arg5 key G k (st_k0_t1 (F := Ideal) Variants.none c none i arg2 harg2 arg3 harg3 arg4 harg4 arg5 harg5 G init k) := by
  induction k with
  | zero => exact ⟨hG, fun s j hj => absurd hj (Nat.not_lt_zero _)⟩
  | succ k ih =>
    have ih := ih (by omega)
    have e := st_k0_t1_succ (F := Ideal) Variants.none c none i arg2 harg2 arg3 harg3 arg4 harg4 arg5 harg5 G init ⟨k, by rw [trips_eq]; omega⟩
    dsimp only at e
    generalize st_k0_t1 (F := Ideal) Variants.none c none i arg2 harg2 arg3 harg3 arg4 harg4 arg5 harg5 G init k = st at ih e
    rw [e, tripR_eq, tripL_eq]
    have hd : ∀ s, (fun n => (arg5.view.read (Elt Ideal) (arg5.view.writes (Elt Ideal) G st.2) : Vec Ideal S512x4096 .f32) (ix2 s n)) = left (key s) k :=
      fun s => funext fun n => ih.scratch s n
    refine ⟨fun s n => ?_, fun s j hj => ?_⟩
    · dsimp only
      rw [List.singleton_append, View.read_writes_full, pay5_apply, hd, ih.scratch]
      rfl
    · dsimp only
      rw [pay4_apply _ (by show k < 32; omega), hd]
      by_cases h : j.val = k
      · rw [if_pos h, h]; rfl
      · rw [if_neg h]; exact ih.acc s j (by omega)

end Loop

/-- The distances of a block's sampled points to the points of their cloud. -/
def blockKey (x0 : Vec Ideal S1x3x512 .f32) (x1 : Vec Ideal S1x3x4096 .f32) (s : Fin 512) (n : Fin 4096) : EReal :=
  dist (fun c => x0 (ix3 0 c s)) fun c => x1 (ix3 0 c n)

/-- The number the search leaves: the chosen point's index, moved to its cloud's place among all points. -/
def number (key : Fin 4096 → EReal) (b j : ℕ) : BitVec 32 :=
  IntOp.addi (BitVec.ofNat 32 (chosen key j).val) (IntOp.muli (BitVec.ofNat 32 b) 4096#32)

/-- What the body leaves in the result's buffer. -/
theorem out_eq (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)
    (x0 : Vec Ideal S1x3x512 .f32) (x1 : Vec Ideal S1x3x4096 .f32) (s : Fin 512) (j : Fin 32) :
    out0_A_2 c i arg2 harg2 arg3 harg3 arg4 harg4 arg5 harg5 x0 x1 (ix3 0 s j) = number (blockKey x0 x1 s) (i 0).val j.val := by
  unfold out0_A_2
  rw [View.read_writes_junk_eq_canon]
  unfold kernelRun0_A
  dsimp only
  sl_unfold_words
  refine (congrFun (Idealize.ShloMosaic.View.canon_unit_zero (S := S1x512x32) (by decide) _ _) (ix3 0 s j)).trans ?_
  rw [View.readAt_full, View.readAt_full, harg2.read_unread, harg3.read_unread]
  have I := inv c i arg2 harg2 arg3 harg3 arg4 harg4 arg5 harg5 (blockKey x0 x1) (arg5.view.writes (Elt Ideal) arg5.view.junk [⟨whole, k0_pay1 x0 x1⟩]) k0_pay2
    (fun s n => by rw [View.read_writes_full, pay1_apply]; rfl) 32 (le_refl 32)
  have e : Scf.trips 0#32 (Scalar.addi 0#32 32#32) 1#32 = 32 := by decide
  rw [e, pay6_apply, I.acc s j j.isLt]
  rfl

/-! ## The result array -/

variable (m : (ℓ : Loc nD τ sig) → Buf (Elt Ideal) ℓ) (ρ : Dev nD → PrngReg)

/-- The grid's point for a cloud. -/
abbrev pt (b : Fin 8) : Fin cfg0.N := ⟨b.val, by have e : cfg0.N = 8 := by decide
                                                 omega⟩

theorem idx_facts : ∀ b : Fin 8, (win0_0.index (pt b) (0 : Fin 3) = b.val ∧ win0_0.index (pt b) (1 : Fin 3) = 0 ∧ win0_0.index (pt b) (2 : Fin 3) = 0)
    ∧ (win0_1.index (pt b) (0 : Fin 3) = b.val ∧ win0_1.index (pt b) (1 : Fin 3) = 0 ∧ win0_1.index (pt b) (2 : Fin 3) = 0)
    ∧ (win0_2.index (pt b) (0 : Fin 3) = b.val ∧ win0_2.index (pt b) (1 : Fin 3) = 0 ∧ win0_2.index (pt b) (2 : Fin 3) = 0)
    ∧ (cfg0.win 2).flush (pt b) = true ∧ (grid0.coords (pt b) 0).val = b.val := by decide +kernel

theorem emb0 (b : Fin 8) (c : Fin 3) (s : Fin 512) : ((cfg0.win 0).blk (pt b)).view.emb (ix3 0 c s) = (ix3 b c s : S8x3x512.Idx) := by
  obtain ⟨e0, e1, e2⟩ := (idx_facts b).1
  funext a; apply Fin.ext
  match a with
  | ⟨0, _⟩ => show win0_0.index (pt b) (0 : Fin 3) * 1 + 1 * 0 = b.val; omega
  | ⟨1, _⟩ => show win0_0.index (pt b) (1 : Fin 3) * 3 + 1 * c.val = c.val; omega
  | ⟨2, _⟩ => show win0_0.index (pt b) (2 : Fin 3) * 512 + 1 * s.val = s.val; omega

theorem emb1 (b : Fin 8) (c : Fin 3) (n : Fin 4096) : ((cfg0.win 1).blk (pt b)).view.emb (ix3 0 c n) = (ix3 b c n : S8x3x4096.Idx) := by
  obtain ⟨e0, e1, e2⟩ := (idx_facts b).2.1
  funext a; apply Fin.ext
  match a with
  | ⟨0, _⟩ => show win0_1.index (pt b) (0 : Fin 3) * 1 + 1 * 0 = b.val; omega
  | ⟨1, _⟩ => show win0_1.index (pt b) (1 : Fin 3) * 3 + 1 * c.val = c.val; omega
  | ⟨2, _⟩ => show win0_1.index (pt b) (2 : Fin 3) * 4096 + 1 * n.val = n.val; omega

theorem emb2 (b : Fin 8) (s : Fin 512) (j : Fin 32) : ((cfg0.win 2).blk (pt b)).view.emb (ix3 0 s j) = (ix3 b s j : S8x512x32.Idx) := by
  obtain ⟨e0, e1, e2⟩ := (idx_facts b).2.2.1
  funext a; apply Fin.ext
  match a with
  | ⟨0, _⟩ => show win0_2.index (pt b) (0 : Fin 3) * 1 + 1 * 0 = b.val; omega
  | ⟨1, _⟩ => show win0_2.index (pt b) (1 : Fin 3) * 512 + 1 * s.val = s.val; omega
  | ⟨2, _⟩ => show win0_2.index (pt b) (2 : Fin 3) * 32 + 1 * j.val = j.val; omega

/-- The distances of a sampled point to the points of its cloud. -/
def keys (a : S8x3x512.Idx → EReal) (x : S8x3x4096.Idx → EReal) (b : Fin 8) (s : Fin 512) (n : Fin 4096) : EReal :=
  dist (fun c => a (ix3 b c s)) fun c => x (ix3 b c n)

theorem blockKey_eq (c : Dev nD) (b : Fin 8) (s : Fin 512) :
    blockKey (iblk m c 0 (pt b)) (iblk m c 1 (pt b)) s
      = keys (m ((c.tc : Thread nD τ).loc main_arg0)) (m ((c.tc : Thread nD τ).loc main_arg1)) b s := by
  funext n
  have h0 : ∀ k : Fin 3, iblk m c 0 (pt b) (ix3 0 k s) = m ((c.tc : Thread nD τ).loc main_arg0) (ix3 b k s) := fun k => by
    show V m c main_arg0 (((cfg0.win 0).blk (pt b)).view.emb (ix3 0 k s)) = _
    rw [emb0]
  have h1 : ∀ k : Fin 3, iblk m c 1 (pt b) (ix3 0 k n) = m ((c.tc : Thread nD τ).loc main_arg1) (ix3 b k n) := fun k => by
    show V m c main_arg1 (((cfg0.win 1).blk (pt b)).view.emb (ix3 0 k n)) = _
    rw [emb1]
  unfold blockKey keys
  congr 1
  · exact funext h0
  · exact funext h1

theorem final_eq (c : Dev nD) (b : Fin 8) (s : Fin 512) (j : Fin 32) : (dats m 0 c).arrAt 2 cfg0.N (ix3 b s j)
    = number (keys (m ((c.tc : Thread nD τ).loc main_arg0)) (m ((c.tc : Thread nD τ).loc main_arg1)) b s) b.val j.val := by
  have e := congrFun (Cert.SearchIdeal.Value.blocks2 m c (pt b) (idx_facts b).2.2.2.1) (ix3 0 s j)
  rw [Cert.SearchIdeal.Value.flushed2_A] at e
  have e' : (dats m 0 c).arrAt 2 cfg0.N (((cfg0.win 2).blk (pt b)).view.emb (ix3 0 s j)) = _ := e
  rw [emb2] at e'
  refine e'.trans ((out_eq c _ _ _ _ _ _ _ _ _ _ _ s j).trans ?_)
  rw [blockKey_eq, (idx_facts b).2.2.2.2]

end Cert.Proof.SearchKernel

end
-- ==== Proof.LayersMath.lean ====
/-
  The three layers over the real numbers, stated plainly: a convolution is a weighted sum per row, and a normalisation
  takes a column's mean and variance over all 131072 rows. A column's normalised value can be written with the variance as
  the mean of the squared deviations, or as the mean of the squares less the square of the mean; on real values the two
  are one number, and it is real. The first convolution can be done on offsets, or by taking the offset's part off
  afterwards.
-/
module

public import Idealize.ShloMosaic.PureOps.Ideal
public import Idealize.ShloMosaic.Lib.Pointwise

@[expose] public section

noncomputable section

namespace Cert.Proof.LayersMath

open Idealize.ShloMosaic

/-- The row of cloud `b`, neighbour `k` and group `s`. -/
def row (b : Fin 8) (k : Fin 32) (s : Fin 512) : Fin 131072 := ⟨(b.val * 512 + s.val) * 32 + k.val, by omega⟩

/-- The group a row belongs to, counted over all clouds. -/
def group (r : Fin 131072) : Fin 4096 := ⟨r.val / 32, by omega⟩

theorem sum_row {M : Type} [AddCommMonoid M] (f : Fin 131072 → M) : ∑ b, ∑ k, ∑ s, f (row b k s) = ∑ r, f r := by
  have h : Function.Bijective fun p : Fin 8 × Fin 32 × Fin 512 => row p.1 p.2.1 p.2.2 := by
    refine (Fintype.bijective_iff_injective_and_card _).2 ⟨?_, by simp⟩
    rintro ⟨b, k, s⟩ ⟨b', k', s'⟩ e
    have e' : (b.val * 512 + s.val) * 32 + k.val = (b'.val * 512 + s'.val) * 32 + k'.val := congrArg Fin.val e
    simp only [Prod.mk.injEq]
    refine ⟨?_, ?_, ?_⟩ <;> apply Fin.ext <;> omega
  rw [← h.sum_comp f, Fintype.sum_prod_type]
  refine Finset.sum_congr rfl fun b _ => ?_
  rw [Fintype.sum_prod_type]

/-- The row `i` of the tile `t`. -/
def tile {N : ℕ} (hN : N = 32) (t : Fin N) (i : Fin 4096) : Fin 131072 := ⟨t.val * 4096 + i.val, by omega⟩

theorem sum_tile {M : Type} [AddCommMonoid M] {N : ℕ} (hN : N = 32) (f : Fin 131072 → M) : ∑ t : Fin N, ∑ i, f (tile hN t i) = ∑ r, f r := by
  subst hN
  have h : Function.Bijective fun p : Fin 32 × Fin 4096 => tile rfl p.1 p.2 := by
    refine (Fintype.bijective_iff_injective_and_card _).2 ⟨?_, by simp⟩
    rintro ⟨b, k⟩ ⟨b', k'⟩ e
    have e' : b.val * 4096 + k.val = b'.val * 4096 + k'.val := congrArg Fin.val e
    simp only [Prod.mk.injEq]
    refine ⟨?_, ?_⟩ <;> apply Fin.ext <;> omega
  rw [← h.sum_comp f, Fintype.sum_prod_type]

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem word_inv : Ideal.ofBits .f32 0x37000000#32 = (((131072 : ℝ)⁻¹ : ℝ) : EReal) := by
  simp [Ideal.ofBits, Ideal.ieee, -EReal.coe_mul]; norm_num

theorem word_count : Ideal.ofBits .f32 0x48000000#32 = ((131072 : ℝ) : EReal) := by
  simp [Ideal.ofBits, Ideal.ieee, -EReal.coe_mul]; norm_num

/-- The constant both programs add to a variance. -/
def eps : ℝ := 10995116 * 2 ^ (-40 : ℤ)

theorem word_eps : Ideal.ofBits .f32 0x3727C5AC#32 = ((eps : ℝ) : EReal) := by
  simp [Ideal.ofBits, Ideal.ieee, -EReal.coe_mul, eps]

theorem eps_pos : 0 < eps := by unfold eps; positivity

theorem div_real (x y : ℝ) (h : 0 < y) : Ideal.div (x : EReal) (y : EReal) = ((x / y : ℝ) : EReal) := by
  have hy : ((y : ℝ) : EReal) ≠ 0 := by exact_mod_cast h.ne'
  rw [Ideal.div, if_neg hy, ← EReal.coe_inv, ← EReal.coe_mul, div_eq_mul_inv]

theorem sqrt_real (x : ℝ) (h : 0 < x) : Ideal.sqrt (x : EReal) = ((Real.sqrt x : ℝ) : EReal) := by
  rw [Ideal.sqrt_coe, if_neg (not_lt.2 h.le)]

theorem max_real (x : ℝ) : max (x : EReal) 0 = ((max x 0 : ℝ) : EReal) := by
  rw [← EReal.coe_zero]
  exact (EReal.coe_strictMono.monotone.map_max).symm

/-- A column's mean. -/
def mean (y : Fin 131072 → ℝ) : ℝ := (∑ r, y r) / 131072

/-- A column's variance. -/
def var (y : Fin 131072 → ℝ) : ℝ := (∑ r, (y r - mean y) * (y r - mean y)) / 131072

theorem var_nonneg (y : Fin 131072 → ℝ) : 0 ≤ var y :=
  div_nonneg (Finset.sum_nonneg fun r _ => mul_self_nonneg _) (by norm_num)

theorem var_eq (y : Fin 131072 → ℝ) :
    (∑ r, y r * y r) * (131072 : ℝ)⁻¹ - (∑ r, y r) * (131072 : ℝ)⁻¹ * ((∑ r, y r) * (131072 : ℝ)⁻¹) = var y := by
  have hm : ∑ r, y r = 131072 * mean y := by rw [mean]; ring
  have h : ∑ r, (y r - mean y) * (y r - mean y) = ∑ r, y r * y r - 131072 * (mean y * mean y) := by
    have e : ∀ r, (y r - mean y) * (y r - mean y) = y r * y r - 2 * mean y * y r + mean y * mean y := fun r => by ring
    rw [Finset.sum_congr rfl fun r _ => e r, Finset.sum_add_distrib, Finset.sum_sub_distrib, ← Finset.mul_sum, hm,
      Finset.sum_const, Finset.card_univ, Fintype.card_fin, nsmul_eq_mul]
    push_cast
    ring
  rw [var, h, hm]
  ring

/-- The normalised, scaled and shifted value of a row, cut off below zero. -/
def norm (y : Fin 131072 → ℝ) (g be : ℝ) (r : Fin 131072) : ℝ :=
  max ((y r - mean y) / Real.sqrt (var y + eps) * g + be) 0

/-- Normalising with the mean of the squares less the square of the mean. -/
theorem norm_squares (y : Fin 131072 → ℝ) (g be : ℝ) (r : Fin 131072) (s q : EReal) (hs : s = ∑ r, ((y r : ℝ) : EReal))
    (hq : q = ∑ r, ((y r : ℝ) : EReal) * ((y r : ℝ) : EReal)) :
    max (Ideal.div ((y r : EReal) - s * Ideal.ofBits .f32 0x37000000#32)
      (Ideal.sqrt (q * Ideal.ofBits .f32 0x37000000#32
        - s * Ideal.ofBits .f32 0x37000000#32 * (s * Ideal.ofBits .f32 0x37000000#32) + Ideal.ofBits .f32 0x3727C5AC#32)) * (g : EReal)
      + (be : EReal)) 0 = ((norm y g be r : ℝ) : EReal) := by
  have hp : 0 < var y + eps := add_pos_of_nonneg_of_pos (var_nonneg y) eps_pos
  rw [hs, hq]
  simp only [← EReal.coe_mul, coe_sum, word_inv, word_eps, ← EReal.coe_sub, ← EReal.coe_add, var_eq]
  rw [sqrt_real _ hp, div_real _ _ (Real.sqrt_pos.2 hp), ← EReal.coe_mul, ← EReal.coe_add, max_real, norm, mean, div_eq_mul_inv (∑ r, y r)]

/-- Normalising with the mean of the squared deviations. -/
theorem norm_deviations (y : Fin 131072 → ℝ) (g be : ℝ) (r : Fin 131072) (s q : EReal) (hs : s = ∑ r, ((y r : ℝ) : EReal))
    (hq : q = ∑ r, ((y r : EReal) - Ideal.div s (Ideal.ofBits .f32 0x48000000#32)) * ((y r : EReal) - Ideal.div s (Ideal.ofBits .f32 0x48000000#32))) :
    max (Ideal.div ((y r : EReal) - Ideal.div s (Ideal.ofBits .f32 0x48000000#32))
      (Ideal.sqrt (Ideal.div q (Ideal.ofBits .f32 0x48000000#32) + Ideal.ofBits .f32 0x3727C5AC#32)) * (g : EReal)
      + (be : EReal)) 0 = ((norm y g be r : ℝ) : EReal) := by
  have hp : 0 < var y + eps := add_pos_of_nonneg_of_pos (var_nonneg y) eps_pos
  have hN : (0 : ℝ) < 131072 := by norm_num
  have hm : Ideal.div s (Ideal.ofBits .f32 0x48000000#32) = ((mean y : ℝ) : EReal) := by
    rw [hs, coe_sum, word_count, div_real _ _ hN, mean]
  have hv : Ideal.div q (Ideal.ofBits .f32 0x48000000#32) = ((var y : ℝ) : EReal) := by
    rw [hq, hm]
    simp only [← EReal.coe_sub, ← EReal.coe_mul, coe_sum]
    rw [word_count, div_real _ _ hN, var]
  rw [hm, hv, word_eps, ← EReal.coe_sub, ← EReal.coe_add, sqrt_real _ hp, div_real _ _ (Real.sqrt_pos.2 hp), ← EReal.coe_mul,
    ← EReal.coe_add, max_real, norm]

/-- A convolution: a row's weighted sums. -/
def conv {n o : ℕ} (x : Fin 131072 → Fin n → ℝ) (W : Fin o → Fin n → ℝ) (b : Fin o → ℝ) (r : Fin 131072) (j : Fin o) : ℝ :=
  ∑ k, x r k * W j k + b j

/-- A row's 67 features: three offsets from its group's centre, then 64 values. -/
def features (x : Fin 131072 → Fin 128 → ℝ) (p : Fin 4096 → Fin 3 → ℝ) (r : Fin 131072) (k : Fin 67) : ℝ :=
  if h : k.val < 3 then x r ⟨k.val, by omega⟩ - p (group r) ⟨k.val, h⟩ else x r ⟨k.val, by omega⟩

theorem dot_real {n : ℕ} (x w : Fin n → ℝ) (b : ℝ) :
    ∑ k, ((x k : ℝ) : EReal) * ((w k : ℝ) : EReal) + (b : EReal) = ((∑ k, x k * w k + b : ℝ) : EReal) := by
  simp only [← EReal.coe_mul, coe_sum, ← EReal.coe_add]

/-- The weights with rows of zeros below. -/
def padded (W : Fin 64 → Fin 67 → ℝ) (k : Fin 128) (j : Fin 64) : ℝ := if h : k.val < 67 then W j ⟨k.val, h⟩ else 0

/-- The first convolution, the centre's part taken off afterwards. -/
theorem conv_split (x : Fin 131072 → Fin 128 → ℝ) (p : Fin 4096 → Fin 3 → ℝ) (W : Fin 64 → Fin 67 → ℝ) (b : Fin 64 → ℝ)
    (r : Fin 131072) (j : Fin 64) :
    ∑ k, ((x r k : ℝ) : EReal) * ((padded W k j : ℝ) : EReal)
        - ∑ d : Fin 3, ((p (group r) d : ℝ) : EReal) * ((W j ⟨d.val, by omega⟩ : ℝ) : EReal) + (b j : EReal)
      = ((conv (features x p) W b r j : ℝ) : EReal) := by
  simp only [← EReal.coe_mul, coe_sum, ← EReal.coe_sub, ← EReal.coe_add]
  congr 1
  rw [conv]
  congr 1
  have h1 : ∑ k, x r k * padded W k j = ∑ k : Fin 67, x r ⟨k.val, by omega⟩ * W j k := by
    rw [Fin.sum_univ_add (a := 67) (b := 61) (fun k => x r k * padded W k j)]
    have hz : ∑ i : Fin 61, x r (Fin.natAdd 67 i) * padded W (Fin.natAdd 67 i) j = 0 :=
      Finset.sum_eq_zero fun i _ => by rw [padded, dif_neg (by simp), mul_zero]
    rw [hz, add_zero]
    refine Finset.sum_congr rfl fun k _ => ?_
    rw [padded, dif_pos (by simp)]
    rfl
  have h2 : ∑ k : Fin 67, (if h : k.val < 3 then p (group r) ⟨k.val, h⟩ else 0) * W j k
      = ∑ d : Fin 3, p (group r) d * W j ⟨d.val, by omega⟩ := by
    rw [Fin.sum_univ_add (a := 3) (b := 64) (fun k : Fin 67 => (if h : k.val < 3 then p (group r) ⟨k.val, h⟩ else 0) * W j k)]
    have hz : ∑ i : Fin 64, (if h : (Fin.natAdd 3 i).val < 3 then p (group r) ⟨(Fin.natAdd 3 i).val, h⟩ else 0) * W j (Fin.natAdd 3 i) = 0 :=
      Finset.sum_eq_zero fun i _ => by rw [dif_neg (by simp), zero_mul]
    rw [hz, add_zero]
    refine Finset.sum_congr rfl fun k _ => ?_
    rw [dif_pos (by simp)]
    rfl
  rw [h1, ← h2, ← Finset.sum_sub_distrib]
  refine Finset.sum_congr rfl fun k _ => ?_
  unfold features
  split_ifs <;> ring

/-- The three layers. -/
structure Weights where
  W0 : Fin 64 → Fin 67 → ℝ
  b0 : Fin 64 → ℝ
  g0 : Fin 64 → ℝ
  be0 : Fin 64 → ℝ
  W1 : Fin 64 → Fin 64 → ℝ
  b1 : Fin 64 → ℝ
  g1 : Fin 64 → ℝ
  be1 : Fin 64 → ℝ
  W2 : Fin 128 → Fin 64 → ℝ
  b2 : Fin 128 → ℝ
  g2 : Fin 128 → ℝ
  be2 : Fin 128 → ℝ

/-- A layer's output before its normalisation. -/
def y0 (x : Fin 131072 → Fin 128 → ℝ) (p : Fin 4096 → Fin 3 → ℝ) (w : Weights) : Fin 131072 → Fin 64 → ℝ :=
  conv (features x p) w.W0 w.b0

def y1 (x : Fin 131072 → Fin 128 → ℝ) (p : Fin 4096 → Fin 3 → ℝ) (w : Weights) : Fin 131072 → Fin 64 → ℝ :=
  conv (fun r k => norm (fun r => y0 x p w r k) (w.g0 k) (w.be0 k) r) w.W1 w.b1

def y2 (x : Fin 131072 → Fin 128 → ℝ) (p : Fin 4096 → Fin 3 → ℝ) (w : Weights) : Fin 131072 → Fin 128 → ℝ :=
  conv (fun r k => norm (fun r => y1 x p w r k) (w.g1 k) (w.be1 k) r) w.W2 w.b2

/-- What the layers give a row in a channel. -/
def net (x : Fin 131072 → Fin 128 → ℝ) (p : Fin 4096 → Fin 3 → ℝ) (w : Weights) (r : Fin 131072) (j : Fin 128) : ℝ :=
  norm (fun r => y2 x p w r j) (w.g2 j) (w.be2 j) r

/-- The first convolution on offsets and values apart, the weights in front. -/
theorem conv_parts (x : Fin 131072 → Fin 128 → ℝ) (p : Fin 4096 → Fin 3 → ℝ) (W : Fin 64 → Fin 67 → ℝ) (b : Fin 64 → ℝ)
    (r : Fin 131072) (j : Fin 64) :
    ∑ d : Fin 3, ((W j ⟨d.val, by omega⟩ : ℝ) : EReal) * (((x r ⟨d.val, by omega⟩ : ℝ) : EReal) - ((p (group r) d : ℝ) : EReal))
        + ∑ k : Fin 64, ((W j ⟨3 + k.val, by omega⟩ : ℝ) : EReal) * ((x r ⟨3 + k.val, by omega⟩ : ℝ) : EReal) + (b j : EReal)
      = ((conv (features x p) W b r j : ℝ) : EReal) := by
  simp only [← EReal.coe_sub, ← EReal.coe_mul, coe_sum, ← EReal.coe_add]
  congr 1
  rw [conv, Fin.sum_univ_add (a := 3) (b := 64) (fun k : Fin 67 => features x p r k * W j k)]
  congr 2
  · refine Finset.sum_congr rfl fun d _ => ?_
    rw [features, dif_pos (by simp)]
    exact mul_comm _ _
  · refine Finset.sum_congr rfl fun k _ => ?_
    rw [features, dif_neg (by simp)]
    exact mul_comm _ _

/-- The centre of a group of a cloud. -/
def centre (b : Fin 8) (s : Fin 512) : Fin 4096 := ⟨b.val * 512 + s.val, by omega⟩

theorem group_row (b : Fin 8) (k : Fin 32) (s : Fin 512) : group (row b k s) = centre b s :=
  Fin.ext (by simp only [group, row, centre]; omega)

/-- Fourteen arrays that hold real values: the rows, the centres and the layers' weights. -/
structure Reads (a0 : (⟨2, ![131072, 128]⟩ : Shape).Idx → EReal) (a1 : (⟨3, ![8, 3, 512]⟩ : Shape).Idx → EReal)
    (a2 : (⟨2, ![64, 67]⟩ : Shape).Idx → EReal) (a3 a4 a5 : (⟨1, ![64]⟩ : Shape).Idx → EReal)
    (a6 : (⟨2, ![64, 64]⟩ : Shape).Idx → EReal) (a7 a8 a9 : (⟨1, ![64]⟩ : Shape).Idx → EReal)
    (a10 : (⟨2, ![128, 64]⟩ : Shape).Idx → EReal) (a11 a12 a13 : (⟨1, ![128]⟩ : Shape).Idx → EReal)
    (x : Fin 131072 → Fin 128 → ℝ) (p : Fin 4096 → Fin 3 → ℝ) (w : Weights) : Prop where
  h0 : ∀ r k, a0 (ix2 r k) = ((x r k : ℝ) : EReal)
  h1 : ∀ b d s, a1 (ix3 b d s) = ((p (centre b s) d : ℝ) : EReal)
  h2 : ∀ j k, a2 (ix2 j k) = ((w.W0 j k : ℝ) : EReal)
  h3 : ∀ j, a3 (ix1 j) = ((w.b0 j : ℝ) : EReal)
  h4 : ∀ j, a4 (ix1 j) = ((w.g0 j : ℝ) : EReal)
  h5 : ∀ j, a5 (ix1 j) = ((w.be0 j : ℝ) : EReal)
  h6 : ∀ j k, a6 (ix2 j k) = ((w.W1 j k : ℝ) : EReal)
  h7 : ∀ j, a7 (ix1 j) = ((w.b1 j : ℝ) : EReal)
  h8 : ∀ j, a8 (ix1 j) = ((w.g1 j : ℝ) : EReal)
  h9 : ∀ j, a9 (ix1 j) = ((w.be1 j : ℝ) : EReal)
  h10 : ∀ j k, a10 (ix2 j k) = ((w.W2 j k : ℝ) : EReal)
  h11 : ∀ j, a11 (ix1 j) = ((w.b2 j : ℝ) : EReal)
  h12 : ∀ j, a12 (ix1 j) = ((w.g2 j : ℝ) : EReal)
  h13 : ∀ j, a13 (ix1 j) = ((w.be2 j : ℝ) : EReal)

end Cert.Proof.LayersMath
-- ==== Proof.LayersPre.lean ====
/-
  The precondition of the layers, read: when every entry of the fourteen arrays has a finite absolute value, each of them
  holds real values (`reads_of_pre`).
-/
module

public import proofs.«01_k».proof.Proof.Gen.Pre_finite
public import proofs.«01_k».proof.Proof.LayersMath
public import Idealize.ShloMosaic.Lib.Pointwise
public import Idealize.ShloMosaic.Lib.ReduceAll

@[expose] public section

noncomputable section

namespace Cert.Proof.LayersPre

open Cert.Pre_finite Cert.Pre_finite.Gen Idealize.ShloMosaic Cert.Proof.LayersMath

instance : Subsingleton Cert.Pre_finite.S_.Idx := ⟨fun a b => funext fun i => i.elim0⟩

theorem word_inf : Ideal.ofBits FTy.f32 0x7F800000#32 = (⊤ : EReal) := by
  simp [Ideal.ofBits, Ideal.ieee]

theorem real_of_lt {x : EReal} (h : Ideal.cmp .olt (max x (-x)) (Ideal.ofBits FTy.f32 0x7F800000#32) = 1) : x = ((x.toReal : ℝ) : EReal) := by
  rw [Ideal.cmp_olt_eq_one, word_inf, max_lt_iff] at h
  refine (EReal.coe_toReal (ne_of_lt h.1) fun e => ?_).symm
  rw [e] at h
  exact absurd h.2 (by simp)

theorem real_of_all {S : Shape} {dims : List (Fin S.rank)} (a : FVec Ideal S .f32) (hb : S_.BroadcastsInDim S (![] : Fin 0 → Fin S.rank)) (hr : S.ReducesTo dims S_)
    (e : Host.reduce IntOp.andi (cmpf .olt (Host.absf a) (broadcastInDim S ![] hb (constant S_ .f32 0x7F800000#32))) (constantI S_ 1 1#1) hr h_S_ ix0 = 1#1)
    (i : S.Idx) : (a i : EReal) = (((a i : EReal).toReal : ℝ) : EReal) :=
  real_of_lt (Host.reduce_andi_all _ _ _ _ ix0 e i)

/-- Every entry of an array is a real number. -/
abbrev Finite {S : Shape} (a : FVec Ideal S .f32) : Prop := ∀ i : S.Idx, (a i : EReal) = (((a i : EReal).toReal : ℝ) : EReal)

theorem all_of_pre (a0 : FVec Ideal S131072x128 .f32) (a1 : FVec Ideal S8x3x512 .f32) (a2 : FVec Ideal S64x67 .f32)
    (a3 a4 a5 : FVec Ideal S64 .f32) (a6 : FVec Ideal S64x64 .f32) (a7 a8 a9 : FVec Ideal S64 .f32) (a10 : FVec Ideal S128x64 .f32)
    (a11 a12 a13 : FVec Ideal S128 .f32)
    (h : Cert.Pre_finite.fn (F := Ideal) a0 a1 a2 a3 a4 a5 a6 a7 a8 a9 a10 a11 a12 a13 = fun _ => 1#1) :
    Finite a0 ∧ Finite a1 ∧ Finite a2 ∧ Finite a3 ∧ Finite a4 ∧ Finite a5 ∧ Finite a6 ∧ Finite a7 ∧ Finite a8 ∧ Finite a9 ∧ Finite a10 ∧ Finite a11
      ∧ Finite a12 ∧ Finite a13 := by
  have e := congrFun h ix0
  unfold Cert.Pre_finite.fn Cert.Pre_finite.fn_part1 Cert.Pre_finite.fn_part2 Cert.Pre_finite.fn_part3 Cert.Pre_finite.fn_part4 at e
  replace ⟨e, h13⟩ := IntOp.andi_eq_one.1 e
  replace ⟨e, h12⟩ := IntOp.andi_eq_one.1 e
  replace ⟨e, h11⟩ := IntOp.andi_eq_one.1 e
  replace ⟨e, h10⟩ := IntOp.andi_eq_one.1 e
  replace ⟨e, h9⟩ := IntOp.andi_eq_one.1 e
  replace ⟨e, h8⟩ := IntOp.andi_eq_one.1 e
  replace ⟨e, h7⟩ := IntOp.andi_eq_one.1 e
  replace ⟨e, h6⟩ := IntOp.andi_eq_one.1 e
  replace ⟨e, h5⟩ := IntOp.andi_eq_one.1 e
  replace ⟨e, h4⟩ := IntOp.andi_eq_one.1 e
  replace ⟨e, h3⟩ := IntOp.andi_eq_one.1 e
  replace ⟨e, h2⟩ := IntOp.andi_eq_one.1 e
  replace ⟨e, h1⟩ := IntOp.andi_eq_one.1 e
  replace ⟨_, h0⟩ := IntOp.andi_eq_one.1 e
  exact ⟨real_of_all _ _ _ h0, real_of_all _ _ _ h1, real_of_all _ _ _ h2, real_of_all _ _ _ h3, real_of_all _ _ _ h4, real_of_all _ _ _ h5, real_of_all _ _ _ h6, real_of_all _ _ _ h7, real_of_all _ _ _ h8, real_of_all _ _ _ h9, real_of_all _ _ _ h10, real_of_all _ _ _ h11, real_of_all _ _ _ h12, real_of_all _ _ _ h13⟩

/-- The centres' coordinates as real numbers. -/
def centres (a1 : FVec Ideal S8x3x512 .f32) (g : Fin 4096) (d : Fin 3) : ℝ :=
  (a1 (ix3 (⟨g.val / 512, by omega⟩ : Fin 8) d (⟨g.val % 512, by omega⟩ : Fin 512)) : EReal).toReal

/-- The layers' weights as real numbers. -/
def weights (a2 : FVec Ideal S64x67 .f32) (a3 a4 a5 : FVec Ideal S64 .f32) (a6 : FVec Ideal S64x64 .f32) (a7 a8 a9 : FVec Ideal S64 .f32)
    (a10 : FVec Ideal S128x64 .f32) (a11 a12 a13 : FVec Ideal S128 .f32) : Weights where
  W0 j k := (a2 (ix2 j k) : EReal).toReal
  b0 j := (a3 (ix1 j) : EReal).toReal
  g0 j := (a4 (ix1 j) : EReal).toReal
  be0 j := (a5 (ix1 j) : EReal).toReal
  W1 j k := (a6 (ix2 j k) : EReal).toReal
  b1 j := (a7 (ix1 j) : EReal).toReal
  g1 j := (a8 (ix1 j) : EReal).toReal
  be1 j := (a9 (ix1 j) : EReal).toReal
  W2 j k := (a10 (ix2 j k) : EReal).toReal
  b2 j := (a11 (ix1 j) : EReal).toReal
  g2 j := (a12 (ix1 j) : EReal).toReal
  be2 j := (a13 (ix1 j) : EReal).toReal

theorem reads_of_real {x : Fin 131072 → Fin 128 → ℝ} {a0 : FVec Ideal S131072x128 .f32} {a1 : FVec Ideal S8x3x512 .f32} {a2 : FVec Ideal S64x67 .f32}
    {a3 a4 a5 : FVec Ideal S64 .f32} {a6 : FVec Ideal S64x64 .f32} {a7 a8 a9 : FVec Ideal S64 .f32} {a10 : FVec Ideal S128x64 .f32}
    {a11 a12 a13 : FVec Ideal S128 .f32} (h0 : ∀ r k, a0 (ix2 r k) = ((x r k : ℝ) : EReal)) (h1 : Finite a1) (h2 : Finite a2) (h3 : Finite a3)
    (h4 : Finite a4) (h5 : Finite a5) (h6 : Finite a6) (h7 : Finite a7) (h8 : Finite a8) (h9 : Finite a9) (h10 : Finite a10) (h11 : Finite a11)
    (h12 : Finite a12) (h13 : Finite a13) :
    Reads a0 a1 a2 a3 a4 a5 a6 a7 a8 a9 a10 a11 a12 a13 x (centres a1) (weights a2 a3 a4 a5 a6 a7 a8 a9 a10 a11 a12 a13) := by
  refine ⟨h0, fun b d s => ?_, fun j k => h2 _, fun j => h3 _, fun j => h4 _, fun j => h5 _, fun j k => h6 _, fun j => h7 _,
    fun j => h8 _, fun j => h9 _, fun j k => h10 _, fun j => h11 _, fun j => h12 _, fun j => h13 _⟩
  have eb : (⟨(centre b s).val / 512, by omega⟩ : Fin 8) = b := Fin.ext (by simp only [centre]; omega)
  have es : (⟨(centre b s).val % 512, by omega⟩ : Fin 512) = s := Fin.ext (by simp only [centre]; omega)
  rw [centres, eb, es]
  exact h1 _

theorem reads_of_pre (a0 : FVec Ideal S131072x128 .f32) (a1 : FVec Ideal S8x3x512 .f32) (a2 : FVec Ideal S64x67 .f32)
    (a3 a4 a5 : FVec Ideal S64 .f32) (a6 : FVec Ideal S64x64 .f32) (a7 a8 a9 : FVec Ideal S64 .f32) (a10 : FVec Ideal S128x64 .f32)
    (a11 a12 a13 : FVec Ideal S128 .f32)
    (h : Cert.Pre_finite.fn (F := Ideal) a0 a1 a2 a3 a4 a5 a6 a7 a8 a9 a10 a11 a12 a13 = fun _ => 1#1) :
    ∃ x p w, Reads a0 a1 a2 a3 a4 a5 a6 a7 a8 a9 a10 a11 a12 a13 x p w := by
  obtain ⟨h0, h1, h2, h3, h4, h5, h6, h7, h8, h9, h10, h11, h12, h13⟩ := all_of_pre _ _ _ _ _ _ _ _ _ _ _ _ _ _ h
  exact ⟨fun r k => (a0 (ix2 r k) : EReal).toReal, _, _, reads_of_real (fun r k => h0 _) h1 h2 h3 h4 h5 h6 h7 h8 h9 h10 h11 h12 h13⟩

end Cert.Proof.LayersPre
-- ==== Proof.SearchRef.lean ====
/-
  The plain statement of the neighbour search: the squared distances, sorted stably in ascending order with the points'
  indices, and the first 32 indices of each row, moved to the cloud's place among all points.
-/
module

public import proofs.«01_k».proof.Proof.Gen.SearchRefIdeal.Run
public import proofs.«01_k».proof.Proof.Gen.Pre_finite_points
public import proofs.«01_k».proof.Proof.SearchKernel
public import proofs.«01_k».proof.Proof.LayersPre
public import Idealize.ShloMosaic.Lib.Pointwise
public import Idealize.ShloMosaic.Lib.ReduceAll

@[expose] public section

noncomputable section

namespace Cert.Proof.SearchRef

open Cert.SearchRefIdeal Cert.SearchRefIdeal.Gen Idealize.ShloMosaic Idealize.ShloMosaic.TcCoe Idealize.SL.Sem Cert.Proof.SampleMath Cert.Proof.SearchMath
open Cert.Proof.SearchKernel (keys number)

/-! ## The order of the sort -/

/-- A zero of either sign is put as zero, and nothing else changes. -/
theorem tidy (x : EReal) : Scalar.select (Ideal.cmp .une x x) (Ideal.ofBits FTy.f32 0x7FC00000#32)
    (Scalar.select (Ideal.cmp .oeq x (Ideal.ofBits FTy.f32 0x00000000#32)) (Ideal.ofBits FTy.f32 0x00000000#32) x) = x := by
  have h : Ideal.cmp .une x x = 0#1 := by
    show BitVec.ofBool (decide (x ≠ x)) = _
    simp
  rw [h]
  show Scalar.select (BitVec.ofBool (decide (x = _))) _ x = x
  by_cases e : x = Ideal.ofBits FTy.f32 0x00000000#32
  · rw [decide_eq_true e]; exact e.symm
  · rw [decide_eq_false e]; rfl

theorem comparator_lt (l r : EReal × BitVec 32) :
    (comparator_f32_i32_d2 (F := Ideal) l r == 1#1) = decide (l.1 < r.1) := by
  have e : comparator_f32_i32_d2 (F := Ideal) l r = Ideal.cmp .olt l.1 r.1 := by
    exact congrArg₂ (Ideal.cmp .olt) (tidy l.1) (tidy r.1)
  rw [e]
  show (BitVec.ofBool (decide (l.1 < r.1)) == 1#1) = _
  cases decide (l.1 < r.1) <;> rfl

theorem along_eq (b : Fin 8) (s : Fin 512) (j k : Fin 4096) : Shape.Idx.along (s := S8x512x4096) (ix3 b s j) 2 k = ix3 b s k := by
  unfold Shape.Idx.along
  funext a
  match a with
  | ⟨0, _⟩ => rfl
  | ⟨1, _⟩ => rfl
  | ⟨2, _⟩ => rfl

theorem sort_apply (d : FVec Ideal S8x512x4096 .f32) (b : Fin 8) (s : Fin 512) (j : Fin 4096) :
    (Host.sort2 S8x512x4096 2 comparator_f32_i32_d2 d (iotaInDim S8x512x4096 32 2)).2 (ix3 b s j)
      = BitVec.ofNat 32 (sortedFrom (fun p q => decide (d (ix3 b s p) < d (ix3 b s q))) j).val := by
  have e : (fun p q : Fin 4096 => comparator_f32_i32_d2 (F := Ideal)
        (d (Shape.Idx.along (s := S8x512x4096) (ix3 b s j) 2 p), iotaInDim S8x512x4096 32 2 (Shape.Idx.along (s := S8x512x4096) (ix3 b s j) 2 p))
        (d (Shape.Idx.along (s := S8x512x4096) (ix3 b s j) 2 q), iotaInDim S8x512x4096 32 2 (Shape.Idx.along (s := S8x512x4096) (ix3 b s j) 2 q)) == 1#1)
      = fun p q => decide (d (ix3 b s p) < d (ix3 b s q)) := by
    funext p q
    rw [comparator_lt, along_eq, along_eq]
  rw [← e]
  unfold Host.sort2
  rw [dif_pos (show 2 < S8x512x4096.rank by decide)]
  show iotaInDim S8x512x4096 32 2 (Shape.Idx.along (s := S8x512x4096) (ix3 b s j) 2 (sortedFrom (n := 4096) _ j)) = _
  rw [along_eq]
  rfl

/-- The square distances, as the statement computes them. -/
def sqs (a : FVec Ideal S8x3x512 .f32) (x : FVec Ideal S8x3x4096 .f32) : FVec Ideal S8x512x4096 .f32 :=
  addf (addf (mulf (broadcastInDim S8x512x4096 ![] bcast_S_S8x512x4096 (constant S_ .f32 0xC0000000#32)) (Host.dotGeneral dot_S8x512x3_S8x3x4096_S8x512x4096_2_1_1_2_0_0 none (transpose S8x512x3 [0, 2, 1] a transposes_S8x3x512_S8x512x3_0_2_1) (transpose S8x3x4096 [0, 2, 1] (transpose S8x4096x3 [0, 2, 1] x transposes_S8x3x4096_S8x4096x3_0_2_1) transposes_S8x4096x3_S8x3x4096_0_2_1))) (broadcastInDim S8x512x4096 ![0, 1, 2] bcast_S8x512x1_S8x512x4096_0_1_2 (broadcastInDim S8x512x1 ![0, 1] bcast_S8x512_S8x512x1_0_1 (Host.reduceAdd (mulf (transpose S8x512x3 [0, 2, 1] a transposes_S8x3x512_S8x512x3_0_2_1) (transpose S8x512x3 [0, 2, 1] a transposes_S8x3x512_S8x512x3_0_2_1)) (constant S_ .f32 0x00000000#32) reducesTo_S8x512x3_S8x512_d2 h_S_)))) (broadcastInDim S8x512x4096 ![0, 1, 2] bcast_S8x1x4096_S8x512x4096_0_1_2 (broadcastInDim S8x1x4096 ![0, 2] bcast_S8x4096_S8x1x4096_0_2 (Host.reduceAdd (mulf (transpose S8x4096x3 [0, 2, 1] x transposes_S8x3x4096_S8x4096x3_0_2_1) (transpose S8x4096x3 [0, 2, 1] x transposes_S8x3x4096_S8x4096x3_0_2_1)) (constant S_ .f32 0x00000000#32) reducesTo_S8x4096x3_S8x4096_d2 h_S_)))

theorem sqs_apply (a : FVec Ideal S8x3x512 .f32) (x : FVec Ideal S8x3x4096 .f32) (b : Fin 8) (s : Fin 512) (n : Fin 4096) :
    sqs a x (ix3 b s n) = keys a x b s n := by
  pointwise [sqs]
  rfl

/-! ## Distances of real points -/

theorem sum_real (f g : Fin 3 → ℝ) : (∑ c : Fin 3, (f c : EReal) * (g c : EReal)) = ((∑ c : Fin 3, f c * g c : ℝ) : EReal) := by
  simp only [Fin.sum_univ_three, EReal.coe_add, EReal.coe_mul]

theorem word_two : ∃ r : ℝ, Ideal.ofBits FTy.f32 0xC0000000#32 = (r : EReal) := ⟨-2, by
  simp [Ideal.ofBits, Ideal.ieee]
  rw [← EReal.coe_mul]
  norm_num⟩

theorem dist_lt (f g : Fin 3 → ℝ) : SearchKernel.dist (fun c => (f c : EReal)) (fun c => (g c : EReal)) < ⊤ := by
  obtain ⟨r, hr⟩ := word_two
  unfold SearchKernel.dist
  rw [sum_real, sum_real, sum_real, hr, ← EReal.coe_mul, ← EReal.coe_add, ← EReal.coe_add]
  exact EReal.coe_lt_top _

open Cert.Proof.LayersPre (Finite) in
theorem finite_of_pre (a : FVec Ideal S8x3x512 .f32) (x : FVec Ideal S8x3x4096 .f32)
    (h : Cert.Pre_finite_points.fn (F := Ideal) a x = fun _ => 1#1) : Finite a ∧ Finite x := by
  have e := congrFun h ix0
  unfold Cert.Pre_finite_points.fn at e
  obtain ⟨e0, e1⟩ := IntOp.andi_eq_one.1 e
  exact ⟨fun i => LayersPre.real_of_lt (Host.reduce_andi_all _ _ _ _ ix0 e0 i), fun i => LayersPre.real_of_lt (Host.reduce_andi_all _ _ _ _ ix0 e1 i)⟩

open Cert.Proof.LayersPre (Finite) in
theorem keys_lt_of_finite (a : FVec Ideal S8x3x512 .f32) (x : FVec Ideal S8x3x4096 .f32) (ha : Finite a) (hx : Finite x)
    (b : Fin 8) (s : Fin 512) (n : Fin 4096) : keys a x b s n < ⊤ := by
  unfold keys
  rw [show (fun c => a (ix3 b c s)) = _ from funext fun c => ha (ix3 b c s), show (fun c => x (ix3 b c n)) = _ from funext fun c => hx (ix3 b c n)]
  exact dist_lt _ _

theorem keys_lt (a : FVec Ideal S8x3x512 .f32) (x : FVec Ideal S8x3x4096 .f32)
    (h : Cert.Pre_finite_points.fn (F := Ideal) a x = fun _ => 1#1) (b : Fin 8) (s : Fin 512) (n : Fin 4096) : keys a x b s n < ⊤ :=
  keys_lt_of_finite a x (finite_of_pre a x h).1 (finite_of_pre a x h).2 b s n

/-! ## The statement's result -/

/-- The numbers the statement gives. -/
def result (a : FVec Ideal S8x3x512 .f32) (x : FVec Ideal S8x3x4096 .f32) : IVec S8x512x32 32 :=
  addi (extractStridedSlice S8x512x32 ![0, 0, 0] ((Host.sort2 S8x512x4096 2 comparator_f32_i32_d2 (sqs a x) (iotaInDim S8x512x4096 32 2)).2) slices_S8x512x4096_S8x512x32_0_0_0) (broadcastInDim S8x512x32 ![0, 1, 2] bcast_S8x1x1_S8x512x32_0_1_2 (muli (broadcastInDim S8x1x1 ![] bcast_S_S8x1x1 (constantI S_ 32 4096#32)) (broadcastInDim S8x1x1 ![0] bcast_S8_S8x1x1_0 (iotaInDim S8 32 0))))

theorem slice_apply (v : IVec S8x512x4096 32) (b : Fin 8) (s : Fin 512) (j : Fin 32) :
    extractStridedSlice S8x512x32 ![0, 0, 0] v slices_S8x512x4096_S8x512x32_0_0_0 (ix3 b s j) = v (ix3 b s ⟨j.val, by omega⟩) := by
  refine congrArg v (funext fun a => Fin.ext ?_)
  match a with
  | ⟨0, _⟩ => show 0 + b.val = b.val; omega
  | ⟨1, _⟩ => show 0 + s.val = s.val; omega
  | ⟨2, _⟩ => show 0 + j.val = j.val; omega

theorem result_apply (a : FVec Ideal S8x3x512 .f32) (x : FVec Ideal S8x3x4096 .f32) (h : ∀ b s n, keys a x b s n < ⊤)
    (b : Fin 8) (s : Fin 512) (j : Fin 32) : result a x (ix3 b s j) = number (keys a x b s) b.val j.val := by
  unfold result number
  refine congrArg₂ IntOp.addi ?_ ?_
  · rw [slice_apply, sort_apply]
    simp only [sqs_apply]
    rw [sortedFrom_chosen (keys a x b s) (h b s) j]
  · exact BitVec.mul_comm _ _

end Cert.Proof.SearchRef

end
-- ==== Proof.LayersKernel.lean ====
/-
  What the four passes over the rows leave in their arrays, from any contents they start from: a pass writes its values
  tile by tile, and adds the tile's column sums and column sums of squares to an array of two rows.
-/
module

public import proofs.«01_k».proof.Proof.Gen.LayersIdeal.Frame
public import proofs.«01_k».proof.Proof.LayersMath
public import Idealize.ShloMosaic.Lib.Pipeline.ValueKit
public import Idealize.ShloMosaic.Lib.Pipeline.ReadBack
public import Idealize.ShloMosaic.Lib.Pointwise

@[expose] public section

noncomputable section

namespace Cert.Proof.LayersKernel

open Cert.LayersIdeal Cert.LayersIdeal.Gen Idealize.ShloMosaic Idealize.ShloMosaic.TcCoe Idealize.SL.Sem Cert.Proof.LayersMath

/-! ## An array of two rows, stored row by row -/

section Rows

variable {n : ℕ} (h1 : ∀ a, (![1, 0] : Fin 2 → ℕ) a + (![1, n] : Fin 2 → ℕ) a ≤ (⟨2, ![2, n]⟩ : Shape).size a)
  (h0 : ∀ a, (![0, 0] : Fin 2 → ℕ) a + (![1, n] : Fin 2 → ℕ) a ≤ (⟨2, ![2, n]⟩ : Shape).size a)
  (w1 w0 : (⟨2, ![1, n]⟩ : Shape).Idx → Elt Ideal .f32) (L : List (View.Piece (Elt Ideal) ⟨2, ![2, n]⟩ .f32))

theorem canon_second (o : Fin n) :
    View.canon (⟨Rect.unit (s := ⟨2, ![2, n]⟩) ![1, 0] ![1, n] h1, w1⟩ :: L) (ix2 1 o) = w1 (ix2 0 o) := by
  have e : (Rect.unit (s := ⟨2, ![2, n]⟩) ![1, 0] ![1, n] h1).emb (ix2 (0 : Fin 1) o) = ix2 (1 : Fin 2) o := by
    refine funext fun a => Fin.ext ?_
    match a with
    | ⟨0, _⟩ => rfl
    | ⟨1, _⟩ => show 0 + 1 * o.val = o.val; omega
  exact (congrArg _ e.symm).trans (View.canon_cons_emb (Rect.unit (s := ⟨2, ![2, n]⟩) ![1, 0] ![1, n] h1) w1 L (ix2 (0 : Fin 1) o))

theorem canon_first (o : Fin n) :
    View.canon (⟨Rect.unit (s := ⟨2, ![2, n]⟩) ![1, 0] ![1, n] h1, w1⟩ :: ⟨Rect.unit (s := ⟨2, ![2, n]⟩) ![0, 0] ![1, n] h0, w0⟩ :: L) (ix2 0 o)
      = w0 (ix2 0 o) := by
  have e : (Rect.unit (s := ⟨2, ![2, n]⟩) ![0, 0] ![1, n] h0).emb (ix2 (0 : Fin 1) o) = ix2 (0 : Fin 2) o := by
    refine funext fun a => Fin.ext ?_
    match a with
    | ⟨0, _⟩ => rfl
    | ⟨1, _⟩ => show 0 + 1 * o.val = o.val; omega
  refine (View.canon_cons_of_not_mem _ _ ?_).trans ?_
  · rw [Rect.mem_set_unit]
    intro h
    have := (h 0).1
    simp at this
  · exact (congrArg _ e.symm).trans (View.canon_cons_emb (Rect.unit (s := ⟨2, ![2, n]⟩) ![0, 0] ![1, n] h0) w0 L (ix2 (0 : Fin 1) o))

theorem ld_second (X : (⟨2, ![2, n]⟩ : Shape).Idx → Elt Ideal .f32) (o : Fin n) :
    View.ld X (Rect.unit (s := ⟨2, ![2, n]⟩) ![1, 0] ![1, n] h1) (ix2 0 o) = X (ix2 1 o) := by
  refine congrArg X (funext fun a => Fin.ext ?_)
  match a with
  | ⟨0, _⟩ => rfl
  | ⟨1, _⟩ => show 0 + 1 * o.val = o.val; omega

theorem ld_first (X : (⟨2, ![2, n]⟩ : Shape).Idx → Elt Ideal .f32) (o : Fin n) :
    View.ld X (Rect.unit (s := ⟨2, ![2, n]⟩) ![0, 0] ![1, n] h0) (ix2 0 o) = X (ix2 0 o) := by
  refine congrArg X (funext fun a => Fin.ext ?_)
  match a with
  | ⟨0, _⟩ => rfl
  | ⟨1, _⟩ => show 0 + 1 * o.val = o.val; omega

end Rows

variable (V : (c : Dev nD) → (b : Ref sig .tc) → Buf (Elt Ideal) ((c : Thread nD τ).loc b)) (c : Dev nD)

/-! ## The first pass -/

section Pass0

/-- The tile of values the first pass writes at a point. -/
def tile0 (t : Fin cfg0.N) : FVec Ideal S4096x64 .f32 :=
  k0_pay2 (iblk0 V c 0 t) (iblk0 V c 1 t) (View.ld (iblk0 V c 2 t) (Rect.unit ![0, 0] ![3, 64] inb_S128x64_S3x64_0_0)) (iblk0 V c 2 t) (iblk0 V c 3 t)

theorem out0_y (t : Fin cfg0.N) : (outsAt0 V c t.val t.isLt).1 = tile0 V c t := by
  by_cases h : t.val % 32 = 0
  · rw [outsAt0_A V c t h]; frame_out; rfl
  · rw [outsAt0_B V c t h]; frame_out; rfl

theorem pay0_first (x0 x1 x2 x3 x4) (v : Vec Ideal S1x64 .f32) (o : Fin 64) :
    k0_pay4 x0 x1 x2 x3 x4 v (ix2 0 o) = v (ix2 0 o) + ∑ i : Fin 4096, k0_pay2 x0 x1 x2 x3 x4 (ix2 i o) := by
  pointwise [k0_pay4]

theorem pay0_second (x0 x1 x2 x3 x4) (v : Vec Ideal S1x64 .f32) (o : Fin 64) :
    k0_pay1 (k0_pay5 v) (k0_pay6 x0 x1 x2 x3 x4) (ix2 0 o)
      = v (ix2 0 o) + ∑ i : Fin 4096, k0_pay2 x0 x1 x2 x3 x4 (ix2 i o) * k0_pay2 x0 x1 x2 x3 x4 (ix2 i o) := by
  pointwise [k0_pay1, k0_pay5, k0_pay6]

theorem pay0_zero (j : S2x64.Idx) : k0_pay3 (F := Ideal) j = 0 := by
  pointwise [k0_pay3]

theorem stats0_reset (t : Fin cfg0.N) (h : t.val % 32 = 0) (o : Fin 64) :
    (outsAt0 V c t.val t.isLt).2 (ix2 0 o) = 0 + ∑ i, tile0 V c t (ix2 i o)
      ∧ (outsAt0 V c t.val t.isLt).2 (ix2 1 o) = 0 + ∑ i, tile0 V c t (ix2 i o) * tile0 V c t (ix2 i o) := by
  rw [outsAt0_A V c t h]
  frame_out
  constructor
  · refine (canon_first (n := 64) inb_S2x64_S1x64_1_0 inb_S2x64_S1x64_0_0 _ _ _ o).trans ?_
    refine (pay0_first _ _ _ _ _ _ o).trans (congrArg (· + ∑ i, tile0 V c t (ix2 i o)) ?_)
    rw [View.readCov_fill _ _ _ _ _ (by decide)]
    exact pay0_zero _
  · refine (canon_second (n := 64) inb_S2x64_S1x64_1_0 _ _ o).trans ?_
    refine (pay0_second _ _ _ _ _ _ o).trans (congrArg (· + ∑ i, tile0 V c t (ix2 i o) * tile0 V c t (ix2 i o)) ?_)
    rw [View.readCov_skip _ _ _ _ _ (by decide), View.readCov_fill _ _ _ _ _ (by decide)]
    exact pay0_zero _

theorem stats0_step (t : Fin cfg0.N) (h : ¬t.val % 32 = 0) (o : Fin 64) :
    (outsAt0 V c t.val t.isLt).2 (ix2 0 o)
        = (outsAt0 V c (t.val - 1) (Nat.lt_of_le_of_lt (Nat.sub_le _ _) t.isLt)).2 (ix2 0 o) + ∑ i, tile0 V c t (ix2 i o)
      ∧ (outsAt0 V c t.val t.isLt).2 (ix2 1 o)
        = (outsAt0 V c (t.val - 1) (Nat.lt_of_le_of_lt (Nat.sub_le _ _) t.isLt)).2 (ix2 1 o)
          + ∑ i, tile0 V c t (ix2 i o) * tile0 V c t (ix2 i o) := by
  rw [outsAt0_B V c t h]
  frame_out
  constructor
  · refine (canon_first (n := 64) inb_S2x64_S1x64_1_0 inb_S2x64_S1x64_0_0 _ _ _ o).trans ?_
    exact (pay0_first _ _ _ _ _ _ o).trans (congrArg (· + ∑ i, tile0 V c t (ix2 i o)) (ld_first (n := 64) inb_S2x64_S1x64_0_0 _ o))
  · refine (canon_second (n := 64) inb_S2x64_S1x64_1_0 _ _ o).trans ?_
    exact (pay0_second _ _ _ _ _ _ o).trans (congrArg (· + ∑ i, tile0 V c t (ix2 i o) * tile0 V c t (ix2 i o)) (ld_second (n := 64) inb_S2x64_S1x64_1_0 _ o))

theorem stats0_last (t : Fin cfg0.N) (ht : t.val + 1 = cfg0.N) (o : Fin 64) :
    (outsAt0 V c t.val t.isLt).2 (ix2 0 o) = ∑ t, ∑ i, tile0 V c t (ix2 i o)
      ∧ (outsAt0 V c t.val t.isLt).2 (ix2 1 o) = ∑ t, ∑ i, tile0 V c t (ix2 i o) * tile0 V c t (ix2 i o) := by
  constructor
  · exact (Pipeline.eq_sum_fin_of_reset_step_last (fun n h => (outsAt0 V c n h).2 (ix2 0 o)) 32 0 (fun t => ∑ i, tile0 V c t (ix2 i o))
      (fun t h => (stats0_reset V c t h o).1) (fun t h => (stats0_step V c t h o).1) (by decide) t ht).trans (zero_add _)
  · exact (Pipeline.eq_sum_fin_of_reset_step_last (fun n h => (outsAt0 V c n h).2 (ix2 1 o)) 32 0
      (fun t => ∑ i, tile0 V c t (ix2 i o) * tile0 V c t (ix2 i o))
      (fun t h => (stats0_reset V c t h o).2) (fun t h => (stats0_step V c t h o).2) (by decide) t ht).trans (zero_add _)

theorem N0 : cfg0.N = 32 := by decide

/-- The last point of the pass. -/
abbrev last0 : Fin cfg0.N := ⟨31, by decide⟩

theorem index0 : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) := by decide +kernel

theorem iblk0_0 (t : Fin cfg0.N) (i : Fin 4096) (k : Fin 128) : iblk0 V c 0 t (ix2 i k) = V c main_arg0 (ix2 (tile N0 t i) k) := by
  blk_ext [iblk0, tile, index0 t]

theorem iblk0_1 (t : Fin cfg0.N) (i : Fin 128) (k : Fin 3) :
    iblk0 V c 1 t (ix2 i k) = V c main_v1 (ix2 ⟨t.val * 128 + i.val, by have := N0; omega⟩ k) := by
  blk_ext [iblk0, index0 t]

theorem iblk0_2 (t : Fin cfg0.N) : iblk0 V c 2 t = V c main_v4 := by
  funext j
  blk_ext [iblk0, index0 t]

theorem iblk0_3 (t : Fin cfg0.N) : iblk0 V c 3 t = V c main_v5 := by
  funext j
  blk_ext [iblk0, index0 t]

theorem tile0_apply {x : Fin 131072 → Fin 128 → ℝ} {p : Fin 4096 → Fin 3 → ℝ} {W : Fin 64 → Fin 67 → ℝ} {b : Fin 64 → ℝ}
    (hx : ∀ r k, V c main_arg0 (ix2 r k) = ((x r k : ℝ) : EReal)) (hp : ∀ g d, V c main_v1 (ix2 g d) = ((p g d : ℝ) : EReal))
    (hW : ∀ k o, V c main_v4 (ix2 k o) = ((padded W k o : ℝ) : EReal)) (hb : ∀ o, V c main_v5 (ix2 0 o) = ((b o : ℝ) : EReal))
    (t : Fin cfg0.N) (i : Fin 4096) (o : Fin 64) : tile0 V c t (ix2 i o) = ((conv (features x p) W b (tile N0 t i) o : ℝ) : EReal) := by
  have ht : t.val < 32 := N0 ▸ t.isLt
  have hc : ∀ d : Fin 3, padded W ⟨d.val, by omega⟩ o = W o ⟨d.val, by omega⟩ := fun d => by
    rw [padded, dif_pos (show d.val < 67 by omega)]
  have hg : (⟨t.val * 128 + i.val / 32, by omega⟩ : Fin 4096) = group (tile N0 t i) := Fin.ext (by simp only [group, tile]; omega)
  unfold tile0
  pointwise [k0_pay2]
  rw [← conv_split]
  simp only [iblk0_0, iblk0_1, iblk0_2, iblk0_3, hx, hp, hW, hb, hg, hc]

theorem array0_y {y : Fin 131072 → Fin 64 → ℝ} (h : ∀ t i o, tile0 V c t (ix2 i o) = ((y (tile N0 t i) o : ℝ) : EReal)) :
    (dat0 V c).arrAt 4 cfg0.N = fun j : S131072x64.Idx => ((y (j 0 : Fin 131072) (j 1 : Fin 64) : ℝ) : EReal) := by
  refine (dat0 V c).arrAt_eq_of_covers 4 _ (by decide +kernel) fun t hf j => ?_
  blk_simp
  rw [after0_4, out0_y]
  have ej : ((cfg0.win 4).xinj (cfg0.grid.coords t) j) = ix2 (j 0 : Fin 4096) (j 1 : Fin 64) := by
    funext a
    match a with
    | ⟨0, _⟩ => rfl
    | ⟨1, _⟩ => rfl
  refine (congrArg (tile0 V c t) ej).trans ((h t _ _).trans ?_)
  have e0 : tile N0 t (j 0 : Fin 4096) = ((((cfg0.win 4).blk t).view.emb j) 0 : Fin 131072) := by
    refine Fin.ext ?_
    blk_simp [index0 t, tile]
  have e1 : (j 1 : Fin 64) = ((((cfg0.win 4).blk t).view.emb j) 1 : Fin 64) := by
    refine Fin.ext ?_
    blk_simp [index0 t]
  rw [e0, e1]

theorem array0_stats {y : Fin 131072 → Fin 64 → ℝ} (h : ∀ t i o, tile0 V c t (ix2 i o) = ((y (tile N0 t i) o : ℝ) : EReal)) (o : Fin 64) :
    ((dat0 V c).arrAt 5 cfg0.N : S2x64.Idx → EReal) (ix2 0 o) = ∑ r, ((y r o : ℝ) : EReal)
      ∧ ((dat0 V c).arrAt 5 cfg0.N : S2x64.Idx → EReal) (ix2 1 o) = ∑ r, ((y r o : ℝ) : EReal) * ((y r o : ℝ) : EReal) := by
  have e : (dat0 V c).arrAt 5 cfg0.N = (outsAt0 V c last0.val last0.isLt).2 := by
    refine (dat0 V c).arrAt_eq_of_after_last 5 last0 (by decide +kernel) _ fun j => ?_
    blk_simp
    rw [after0_5]
  rw [e]
  have := stats0_last V c last0 (by decide) o
  refine ⟨this.1.trans ?_, this.2.trans ?_⟩
  · simp only [h]
    exact sum_tile N0 fun r => ((y r o : ℝ) : EReal)
  · simp only [h]
    exact sum_tile N0 fun r => ((y r o : ℝ) : EReal) * ((y r o : ℝ) : EReal)

end Pass0

/-! ## The second pass -/

section Pass1

/-- The tile of values the pass writes at a point. -/
def tile1 (t : Fin cfg1.N) : FVec Ideal S4096x64 .f32 :=
  k1_pay4 (iblk1 V c 0 t) (iblk1 V c 1 t) (iblk1 V c 2 t) (iblk1 V c 3 t) (iblk1 V c 4 t) (iblk1 V c 5 t)

theorem out1_y (t : Fin cfg1.N) : (outsAt1 V c t.val t.isLt).1 = tile1 V c t := by
  by_cases h : t.val % 32 = 0
  · rw [outsAt1_A V c t h]; frame_out; rfl
  · rw [outsAt1_B V c t h]; frame_out; rfl

theorem pay1_first (x : FVec Ideal S4096x64 .f32) (v : Vec Ideal S1x64 .f32) (o : Fin 64) :
    k1_pay2 x v (ix2 0 o) = v (ix2 0 o) + ∑ i : Fin 4096, x (ix2 i o) := by
  pointwise [k1_pay2]

theorem pay1_second (x : FVec Ideal S4096x64 .f32) (v : Vec Ideal S1x64 .f32) (o : Fin 64) :
    k1_pay3 x v (ix2 0 o) = v (ix2 0 o) + ∑ i : Fin 4096, x (ix2 i o) * x (ix2 i o) := by
  pointwise [k1_pay3]

theorem pay1_zero (j : S2x64.Idx) : k1_pay1 (F := Ideal) j = 0 := by
  pointwise [k1_pay1]

theorem stats1_reset (t : Fin cfg1.N) (h : t.val % 32 = 0) (o : Fin 64) :
    (outsAt1 V c t.val t.isLt).2 (ix2 0 o) = 0 + ∑ i, tile1 V c t (ix2 i o)
      ∧ (outsAt1 V c t.val t.isLt).2 (ix2 1 o) = 0 + ∑ i, tile1 V c t (ix2 i o) * tile1 V c t (ix2 i o) := by
  rw [outsAt1_A V c t h]
  frame_out
  constructor
  · refine (canon_first (n := 64) inb_S2x64_S1x64_1_0 inb_S2x64_S1x64_0_0 _ _ _ o).trans ?_
    refine (pay1_first _ _ o).trans (congrArg (· + ∑ i, tile1 V c t (ix2 i o)) ?_)
    rw [View.readCov_fill _ _ _ _ _ (by decide)]
    exact pay1_zero _
  · refine (canon_second (n := 64) inb_S2x64_S1x64_1_0 _ _ o).trans ?_
    refine (pay1_second _ _ o).trans (congrArg (· + ∑ i, tile1 V c t (ix2 i o) * tile1 V c t (ix2 i o)) ?_)
    rw [View.readCov_skip _ _ _ _ _ (by decide), View.readCov_fill _ _ _ _ _ (by decide)]
    exact pay1_zero _

theorem stats1_step (t : Fin cfg1.N) (h : ¬t.val % 32 = 0) (o : Fin 64) :
    (outsAt1 V c t.val t.isLt).2 (ix2 0 o)
        = (outsAt1 V c (t.val - 1) (Nat.lt_of_le_of_lt (Nat.sub_le _ _) t.isLt)).2 (ix2 0 o) + ∑ i, tile1 V c t (ix2 i o)
      ∧ (outsAt1 V c t.val t.isLt).2 (ix2 1 o)
        = (outsAt1 V c (t.val - 1) (Nat.lt_of_le_of_lt (Nat.sub_le _ _) t.isLt)).2 (ix2 1 o)
          + ∑ i, tile1 V c t (ix2 i o) * tile1 V c t (ix2 i o) := by
  rw [outsAt1_B V c t h]
  frame_out
  constructor
  · refine (canon_first (n := 64) inb_S2x64_S1x64_1_0 inb_S2x64_S1x64_0_0 _ _ _ o).trans ?_
    exact (pay1_first _ _ o).trans (congrArg (· + ∑ i, tile1 V c t (ix2 i o)) (ld_first (n := 64) inb_S2x64_S1x64_0_0 _ o))
  · refine (canon_second (n := 64) inb_S2x64_S1x64_1_0 _ _ o).trans ?_
    exact (pay1_second _ _ o).trans (congrArg (· + ∑ i, tile1 V c t (ix2 i o) * tile1 V c t (ix2 i o)) (ld_second (n := 64) inb_S2x64_S1x64_1_0 _ o))

theorem stats1_last (t : Fin cfg1.N) (ht : t.val + 1 = cfg1.N) (o : Fin 64) :
    (outsAt1 V c t.val t.isLt).2 (ix2 0 o) = ∑ t, ∑ i, tile1 V c t (ix2 i o)
      ∧ (outsAt1 V c t.val t.isLt).2 (ix2 1 o) = ∑ t, ∑ i, tile1 V c t (ix2 i o) * tile1 V c t (ix2 i o) := by
  constructor
  · exact (Pipeline.eq_sum_fin_of_reset_step_last (fun n h => (outsAt1 V c n h).2 (ix2 0 o)) 32 0 (fun t => ∑ i, tile1 V c t (ix2 i o))
      (fun t h => (stats1_reset V c t h o).1) (fun t h => (stats1_step V c t h o).1) (by decide) t ht).trans (zero_add _)
  · exact (Pipeline.eq_sum_fin_of_reset_step_last (fun n h => (outsAt1 V c n h).2 (ix2 1 o)) 32 0
      (fun t => ∑ i, tile1 V c t (ix2 i o) * tile1 V c t (ix2 i o))
      (fun t h => (stats1_reset V c t h o).2) (fun t h => (stats1_step V c t h o).2) (by decide) t ht).trans (zero_add _)

theorem N1 : cfg1.N = 32 := by decide

/-- The last point of the pass. -/
abbrev last1 : Fin cfg1.N := ⟨31, by decide⟩

theorem index1 : ∀ t : Fin cfg1.N, (win1_0.index t 0 = t.val ∧ win1_0.index t 1 = 0) ∧ (win1_1.index t 0 = 0 ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ (win1_6.index t 0 = t.val ∧ win1_6.index t 1 = 0) := by decide +kernel

theorem iblk1_0 (t : Fin cfg1.N) (i : Fin 4096) (k : Fin 64) : iblk1 V c 0 t (ix2 i k) = V c main_v6_0 (ix2 (tile N1 t i) k) := by
  blk_ext [iblk1, tile, index1 t]

theorem iblk1_1 (t : Fin cfg1.N) : iblk1 V c 1 t = V c main_v6_1 := by
  funext j
  blk_ext [iblk1, index1 t]

theorem iblk1_2 (t : Fin cfg1.N) : iblk1 V c 2 t = V c main_v8 := by
  funext j
  blk_ext [iblk1, index1 t]

theorem iblk1_3 (t : Fin cfg1.N) : iblk1 V c 3 t = V c main_v9 := by
  funext j
  blk_ext [iblk1, index1 t]

theorem iblk1_4 (t : Fin cfg1.N) : iblk1 V c 4 t = V c main_v7 := by
  funext j
  blk_ext [iblk1, index1 t]

theorem iblk1_5 (t : Fin cfg1.N) : iblk1 V c 5 t = V c main_v10 := by
  funext j
  blk_ext [iblk1, index1 t]

theorem tile1_apply {y : Fin 131072 → Fin 64 → ℝ} {g be : Fin 64 → ℝ} {W : Fin 64 → Fin 64 → ℝ} {b : Fin 64 → ℝ}
    (hy : ∀ r k, V c main_v6_0 (ix2 r k) = ((y r k : ℝ) : EReal))
    (hs : ∀ k, (V c main_v6_1 : S2x64.Idx → EReal) (ix2 0 k) = ∑ r, ((y r k : ℝ) : EReal)
      ∧ (V c main_v6_1 : S2x64.Idx → EReal) (ix2 1 k) = ∑ r, ((y r k : ℝ) : EReal) * ((y r k : ℝ) : EReal))
    (hg : ∀ k, V c main_v8 (ix2 0 k) = ((g k : ℝ) : EReal)) (hbe : ∀ k, V c main_v9 (ix2 0 k) = ((be k : ℝ) : EReal))
    (hW : ∀ k o, V c main_v7 (ix2 k o) = ((W o k : ℝ) : EReal)) (hb : ∀ o, V c main_v10 (ix2 0 o) = ((b o : ℝ) : EReal))
    (t : Fin cfg1.N) (i : Fin 4096) (o : Fin 64) :
    tile1 V c t (ix2 i o) = ((conv (fun r k => norm (fun r => y r k) (g k) (be k) r) W b (tile N1 t i) o : ℝ) : EReal) := by
  unfold tile1
  pointwise [k1_pay4]
  rw [conv, ← dot_real]
  congr 1
  · refine Finset.sum_congr rfl fun k _ => ?_
    rw [iblk1_0, iblk1_1, iblk1_2, iblk1_3, iblk1_4, hy, hg, hbe, hW]
    exact congrArg (· * ((W o k : ℝ) : EReal)) (norm_squares (fun r => y r k) (g k) (be k) (tile N1 t i) _ _ (hs k).1 (hs k).2)
  · rw [iblk1_5, hb]

theorem array1_y {y : Fin 131072 → Fin 64 → ℝ} (h : ∀ t i o, tile1 V c t (ix2 i o) = ((y (tile N1 t i) o : ℝ) : EReal)) :
    (dat1 V c).arrAt 6 cfg1.N = fun j : S131072x64.Idx => ((y (j 0 : Fin 131072) (j 1 : Fin 64) : ℝ) : EReal) := by
  refine (dat1 V c).arrAt_eq_of_covers 6 _ (by decide +kernel) fun t hf j => ?_
  blk_simp
  rw [after1_6, out1_y]
  have ej : ((cfg1.win 6).xinj (cfg1.grid.coords t) j) = ix2 (j 0 : Fin 4096) (j 1 : Fin 64) := by
    funext a
    match a with
    | ⟨0, _⟩ => rfl
    | ⟨1, _⟩ => rfl
  refine (congrArg (tile1 V c t) ej).trans ((h t _ _).trans ?_)
  have e0 : tile N1 t (j 0 : Fin 4096) = ((((cfg1.win 6).blk t).view.emb j) 0 : Fin 131072) := by
    refine Fin.ext ?_
    blk_simp [index1 t, tile]
  have e1 : (j 1 : Fin 64) = ((((cfg1.win 6).blk t).view.emb j) 1 : Fin 64) := by
    refine Fin.ext ?_
    blk_simp [index1 t]
  rw [e0, e1]

theorem array1_stats {y : Fin 131072 → Fin 64 → ℝ} (h : ∀ t i o, tile1 V c t (ix2 i o) = ((y (tile N1 t i) o : ℝ) : EReal)) (o : Fin 64) :
    ((dat1 V c).arrAt 7 cfg1.N : S2x64.Idx → EReal) (ix2 0 o) = ∑ r, ((y r o : ℝ) : EReal)
      ∧ ((dat1 V c).arrAt 7 cfg1.N : S2x64.Idx → EReal) (ix2 1 o) = ∑ r, ((y r o : ℝ) : EReal) * ((y r o : ℝ) : EReal) := by
  have e : (dat1 V c).arrAt 7 cfg1.N = (outsAt1 V c last1.val last1.isLt).2 := by
    refine (dat1 V c).arrAt_eq_of_after_last 7 last1 (by decide +kernel) _ fun j => ?_
    blk_simp
    rw [after1_7]
  rw [e]
  have := stats1_last V c last1 (by decide) o
  refine ⟨this.1.trans ?_, this.2.trans ?_⟩
  · simp only [h]
    exact sum_tile N1 fun r => ((y r o : ℝ) : EReal)
  · simp only [h]
    exact sum_tile N1 fun r => ((y r o : ℝ) : EReal) * ((y r o : ℝ) : EReal)

end Pass1

/-! ## The third pass -/

section Pass2

/-- The tile of values the pass writes at a point. -/
def tile2 (t : Fin cfg2.N) : FVec Ideal S4096x128 .f32 :=
  k2_pay4 (iblk2 V c 0 t) (iblk2 V c 1 t) (iblk2 V c 2 t) (iblk2 V c 3 t) (iblk2 V c 4 t) (iblk2 V c 5 t)

theorem out2_y (t : Fin cfg2.N) : (outsAt2 V c t.val t.isLt).1 = tile2 V c t := by
  by_cases h : t.val % 32 = 0
  · rw [outsAt2_A V c t h]; frame_out; rfl
  · rw [outsAt2_B V c t h]; frame_out; rfl

theorem pay2_first (x : FVec Ideal S4096x128 .f32) (v : Vec Ideal S1x128 .f32) (o : Fin 128) :
    k2_pay2 x v (ix2 0 o) = v (ix2 0 o) + ∑ i : Fin 4096, x (ix2 i o) := by
  pointwise [k2_pay2]

theorem pay2_second (x : FVec Ideal S4096x128 .f32) (v : Vec Ideal S1x128 .f32) (o : Fin 128) :
    k2_pay3 x v (ix2 0 o) = v (ix2 0 o) + ∑ i : Fin 4096, x (ix2 i o) * x (ix2 i o) := by
  pointwise [k2_pay3]

theorem pay2_zero (j : S2x128.Idx) : k2_pay1 (F := Ideal) j = 0 := by
  pointwise [k2_pay1]

theorem stats2_reset (t : Fin cfg2.N) (h : t.val % 32 = 0) (o : Fin 128) :
    (outsAt2 V c t.val t.isLt).2 (ix2 0 o) = 0 + ∑ i, tile2 V c t (ix2 i o)
      ∧ (outsAt2 V c t.val t.isLt).2 (ix2 1 o) = 0 + ∑ i, tile2 V c t (ix2 i o) * tile2 V c t (ix2 i o) := by
  rw [outsAt2_A V c t h]
  frame_out
  constructor
  · refine (canon_first (n := 128) inb_S2x128_S1x128_1_0 inb_S2x128_S1x128_0_0 _ _ _ o).trans ?_
    refine (pay2_first _ _ o).trans (congrArg (· + ∑ i, tile2 V c t (ix2 i o)) ?_)
    rw [View.readCov_fill _ _ _ _ _ (by decide)]
    exact pay2_zero _
  · refine (canon_second (n := 128) inb_S2x128_S1x128_1_0 _ _ o).trans ?_
    refine (pay2_second _ _ o).trans (congrArg (· + ∑ i, tile2 V c t (ix2 i o) * tile2 V c t (ix2 i o)) ?_)
    rw [View.readCov_skip _ _ _ _ _ (by decide), View.readCov_fill _ _ _ _ _ (by decide)]
    exact pay2_zero _

theorem stats2_step (t : Fin cfg2.N) (h : ¬t.val % 32 = 0) (o : Fin 128) :
    (outsAt2 V c t.val t.isLt).2 (ix2 0 o)
        = (outsAt2 V c (t.val - 1) (Nat.lt_of_le_of_lt (Nat.sub_le _ _) t.isLt)).2 (ix2 0 o) + ∑ i, tile2 V c t (ix2 i o)
      ∧ (outsAt2 V c t.val t.isLt).2 (ix2 1 o)
        = (outsAt2 V c (t.val - 1) (Nat.lt_of_le_of_lt (Nat.sub_le _ _) t.isLt)).2 (ix2 1 o)
          + ∑ i, tile2 V c t (ix2 i o) * tile2 V c t (ix2 i o) := by
  rw [outsAt2_B V c t h]
  frame_out
  constructor
  · refine (canon_first (n := 128) inb_S2x128_S1x128_1_0 inb_S2x128_S1x128_0_0 _ _ _ o).trans ?_
    exact (pay2_first _ _ o).trans (congrArg (· + ∑ i, tile2 V c t (ix2 i o)) (ld_first (n := 128) inb_S2x128_S1x128_0_0 _ o))
  · refine (canon_second (n := 128) inb_S2x128_S1x128_1_0 _ _ o).trans ?_
    exact (pay2_second _ _ o).trans (congrArg (· + ∑ i, tile2 V c t (ix2 i o) * tile2 V c t (ix2 i o)) (ld_second (n := 128) inb_S2x128_S1x128_1_0 _ o))

theorem stats2_last (t : Fin cfg2.N) (ht : t.val + 1 = cfg2.N) (o : Fin 128) :
    (outsAt2 V c t.val t.isLt).2 (ix2 0 o) = ∑ t, ∑ i, tile2 V c t (ix2 i o)
      ∧ (outsAt2 V c t.val t.isLt).2 (ix2 1 o) = ∑ t, ∑ i, tile2 V c t (ix2 i o) * tile2 V c t (ix2 i o) := by
  constructor
  · exact (Pipeline.eq_sum_fin_of_reset_step_last (fun n h => (outsAt2 V c n h).2 (ix2 0 o)) 32 0 (fun t => ∑ i, tile2 V c t (ix2 i o))
      (fun t h => (stats2_reset V c t h o).1) (fun t h => (stats2_step V c t h o).1) (by decide) t ht).trans (zero_add _)
  · exact (Pipeline.eq_sum_fin_of_reset_step_last (fun n h => (outsAt2 V c n h).2 (ix2 1 o)) 32 0
      (fun t => ∑ i, tile2 V c t (ix2 i o) * tile2 V c t (ix2 i o))
      (fun t h => (stats2_reset V c t h o).2) (fun t h => (stats2_step V c t h o).2) (by decide) t ht).trans (zero_add _)

theorem N2 : cfg2.N = 32 := by decide

/-- The last point of the pass. -/
abbrev last2 : Fin cfg2.N := ⟨31, by decide⟩

theorem index2 : ∀ t : Fin cfg2.N, (win2_0.index t 0 = t.val ∧ win2_0.index t 1 = 0) ∧ (win2_1.index t 0 = 0 ∧ win2_1.index t 1 = 0)
    ∧ (win2_2.index t 0 = 0 ∧ win2_2.index t 1 = 0) ∧ (win2_3.index t 0 = 0 ∧ win2_3.index t 1 = 0)
    ∧ (win2_4.index t 0 = 0 ∧ win2_4.index t 1 = 0) ∧ (win2_5.index t 0 = 0 ∧ win2_5.index t 1 = 0)
    ∧ (win2_6.index t 0 = t.val ∧ win2_6.index t 1 = 0) := by decide +kernel

theorem iblk2_0 (t : Fin cfg2.N) (i : Fin 4096) (k : Fin 64) : iblk2 V c 0 t (ix2 i k) = V c main_v11_0 (ix2 (tile N2 t i) k) := by
  blk_ext [iblk2, tile, index2 t]

theorem iblk2_1 (t : Fin cfg2.N) : iblk2 V c 1 t = V c main_v11_1 := by
  funext j
  blk_ext [iblk2, index2 t]

theorem iblk2_2 (t : Fin cfg2.N) : iblk2 V c 2 t = V c main_v13 := by
  funext j
  blk_ext [iblk2, index2 t]

theorem iblk2_3 (t : Fin cfg2.N) : iblk2 V c 3 t = V c main_v14 := by
  funext j
  blk_ext [iblk2, index2 t]

theorem iblk2_4 (t : Fin cfg2.N) : iblk2 V c 4 t = V c main_v12 := by
  funext j
  blk_ext [iblk2, index2 t]

theorem iblk2_5 (t : Fin cfg2.N) : iblk2 V c 5 t = V c main_v15 := by
  funext j
  blk_ext [iblk2, index2 t]

theorem tile2_apply {y : Fin 131072 → Fin 64 → ℝ} {g be : Fin 64 → ℝ} {W : Fin 128 → Fin 64 → ℝ} {b : Fin 128 → ℝ}
    (hy : ∀ r k, V c main_v11_0 (ix2 r k) = ((y r k : ℝ) : EReal))
    (hs : ∀ k, (V c main_v11_1 : S2x64.Idx → EReal) (ix2 0 k) = ∑ r, ((y r k : ℝ) : EReal)
      ∧ (V c main_v11_1 : S2x64.Idx → EReal) (ix2 1 k) = ∑ r, ((y r k : ℝ) : EReal) * ((y r k : ℝ) : EReal))
    (hg : ∀ k, V c main_v13 (ix2 0 k) = ((g k : ℝ) : EReal)) (hbe : ∀ k, V c main_v14 (ix2 0 k) = ((be k : ℝ) : EReal))
    (hW : ∀ k o, V c main_v12 (ix2 k o) = ((W o k : ℝ) : EReal)) (hb : ∀ o, V c main_v15 (ix2 0 o) = ((b o : ℝ) : EReal))
    (t : Fin cfg2.N) (i : Fin 4096) (o : Fin 128) :
    tile2 V c t (ix2 i o) = ((conv (fun r k => norm (fun r => y r k) (g k) (be k) r) W b (tile N2 t i) o : ℝ) : EReal) := by
  unfold tile2
  pointwise [k2_pay4]
  rw [conv, ← dot_real]
  congr 1
  · refine Finset.sum_congr rfl fun k _ => ?_
    rw [iblk2_0, iblk2_1, iblk2_2, iblk2_3, iblk2_4, hy, hg, hbe, hW]
    exact congrArg (· * ((W o k : ℝ) : EReal)) (norm_squares (fun r => y r k) (g k) (be k) (tile N2 t i) _ _ (hs k).1 (hs k).2)
  · rw [iblk2_5, hb]

theorem array2_y {y : Fin 131072 → Fin 128 → ℝ} (h : ∀ t i o, tile2 V c t (ix2 i o) = ((y (tile N2 t i) o : ℝ) : EReal)) :
    (dat2 V c).arrAt 6 cfg2.N = fun j : S131072x128.Idx => ((y (j 0 : Fin 131072) (j 1 : Fin 128) : ℝ) : EReal) := by
  refine (dat2 V c).arrAt_eq_of_covers 6 _ (by decide +kernel) fun t hf j => ?_
  blk_simp
  rw [after2_6, out2_y]
  have ej : ((cfg2.win 6).xinj (cfg2.grid.coords t) j) = ix2 (j 0 : Fin 4096) (j 1 : Fin 128) := by
    funext a
    match a with
    | ⟨0, _⟩ => rfl
    | ⟨1, _⟩ => rfl
  refine (congrArg (tile2 V c t) ej).trans ((h t _ _).trans ?_)
  have e0 : tile N2 t (j 0 : Fin 4096) = ((((cfg2.win 6).blk t).view.emb j) 0 : Fin 131072) := by
    refine Fin.ext ?_
    blk_simp [index2 t, tile]
  have e1 : (j 1 : Fin 128) = ((((cfg2.win 6).blk t).view.emb j) 1 : Fin 128) := by
    refine Fin.ext ?_
    blk_simp [index2 t]
  rw [e0, e1]

theorem array2_stats {y : Fin 131072 → Fin 128 → ℝ} (h : ∀ t i o, tile2 V c t (ix2 i o) = ((y (tile N2 t i) o : ℝ) : EReal)) (o : Fin 128) :
    ((dat2 V c).arrAt 7 cfg2.N : S2x128.Idx → EReal) (ix2 0 o) = ∑ r, ((y r o : ℝ) : EReal)
      ∧ ((dat2 V c).arrAt 7 cfg2.N : S2x128.Idx → EReal) (ix2 1 o) = ∑ r, ((y r o : ℝ) : EReal) * ((y r o : ℝ) : EReal) := by
  have e : (dat2 V c).arrAt 7 cfg2.N = (outsAt2 V c last2.val last2.isLt).2 := by
    refine (dat2 V c).arrAt_eq_of_after_last 7 last2 (by decide +kernel) _ fun j => ?_
    blk_simp
    rw [after2_7]
  rw [e]
  have := stats2_last V c last2 (by decide) o
  refine ⟨this.1.trans ?_, this.2.trans ?_⟩
  · simp only [h]
    exact sum_tile N2 fun r => ((y r o : ℝ) : EReal)
  · simp only [h]
    exact sum_tile N2 fun r => ((y r o : ℝ) : EReal) * ((y r o : ℝ) : EReal)

end Pass2

/-! ## The last pass -/

section Pass3

theorem N3 : cfg3.N = 32 := by decide

theorem index3 : ∀ t : Fin cfg3.N, (win3_0.index t 0 = t.val ∧ win3_0.index t 1 = 0) ∧ (win3_1.index t 0 = 0 ∧ win3_1.index t 1 = 0)
    ∧ (win3_2.index t 0 = 0 ∧ win3_2.index t 1 = 0) ∧ (win3_3.index t 0 = 0 ∧ win3_3.index t 1 = 0)
    ∧ (win3_4.index t 0 = t.val ∧ win3_4.index t 1 = 0) := by decide +kernel

theorem iblk3_0 (t : Fin cfg3.N) (i : Fin 4096) (k : Fin 128) : iblk3 V c 0 t (ix2 i k) = V c main_v16_0 (ix2 (tile N3 t i) k) := by
  blk_ext [iblk3, tile, index3 t]

theorem iblk3_1 (t : Fin cfg3.N) : iblk3 V c 1 t = V c main_v16_1 := by
  funext j
  blk_ext [iblk3, index3 t]

theorem iblk3_2 (t : Fin cfg3.N) : iblk3 V c 2 t = V c main_v17 := by
  funext j
  blk_ext [iblk3, index3 t]

theorem iblk3_3 (t : Fin cfg3.N) : iblk3 V c 3 t = V c main_v18 := by
  funext j
  blk_ext [iblk3, index3 t]

theorem tile3_apply {y : Fin 131072 → Fin 128 → ℝ} {g be : Fin 128 → ℝ}
    (hy : ∀ r k, V c main_v16_0 (ix2 r k) = ((y r k : ℝ) : EReal))
    (hs : ∀ k, (V c main_v16_1 : S2x128.Idx → EReal) (ix2 0 k) = ∑ r, ((y r k : ℝ) : EReal)
      ∧ (V c main_v16_1 : S2x128.Idx → EReal) (ix2 1 k) = ∑ r, ((y r k : ℝ) : EReal) * ((y r k : ℝ) : EReal))
    (hg : ∀ k, V c main_v17 (ix2 0 k) = ((g k : ℝ) : EReal)) (hbe : ∀ k, V c main_v18 (ix2 0 k) = ((be k : ℝ) : EReal))
    (t : Fin cfg3.N) (i : Fin 4096) (k : Fin 128) :
    k3_pay1 (iblk3 V c 0 t) (iblk3 V c 1 t) (iblk3 V c 2 t) (iblk3 V c 3 t) (ix2 i k)
      = ((norm (fun r => y r k) (g k) (be k) (tile N3 t i) : ℝ) : EReal) := by
  pointwise [k3_pay1]
  rw [iblk3_0, iblk3_1, iblk3_2, iblk3_3, hy, hg, hbe]
  exact norm_squares (fun r => y r k) (g k) (be k) (tile N3 t i) _ _ (hs k).1 (hs k).2

theorem array3 {y : Fin 131072 → Fin 128 → ℝ} {g be : Fin 128 → ℝ}
    (hy : ∀ r k, V c main_v16_0 (ix2 r k) = ((y r k : ℝ) : EReal))
    (hs : ∀ k, (V c main_v16_1 : S2x128.Idx → EReal) (ix2 0 k) = ∑ r, ((y r k : ℝ) : EReal)
      ∧ (V c main_v16_1 : S2x128.Idx → EReal) (ix2 1 k) = ∑ r, ((y r k : ℝ) : EReal) * ((y r k : ℝ) : EReal))
    (hg : ∀ k, V c main_v17 (ix2 0 k) = ((g k : ℝ) : EReal)) (hbe : ∀ k, V c main_v18 (ix2 0 k) = ((be k : ℝ) : EReal)) :
    (dat3 V c).arrAt 4 cfg3.N
      = fun j : S131072x128.Idx => ((norm (fun r => y r (j 1 : Fin 128)) (g (j 1 : Fin 128)) (be (j 1 : Fin 128)) (j 0 : Fin 131072) : ℝ) : EReal) := by
  refine (dat3 V c).arrAt_eq_of_covers 4 _ (by decide +kernel) fun t hf j => ?_
  blk_simp
  rw [after3_4]
  frame_out
  have ej : ((cfg3.win 4).xinj (cfg3.grid.coords t) j) = ix2 (j 0 : Fin 4096) (j 1 : Fin 128) := by
    funext a
    match a with
    | ⟨0, _⟩ => rfl
    | ⟨1, _⟩ => rfl
  refine (congrArg (k3_pay1 (iblk3 V c 0 t) (iblk3 V c 1 t) (iblk3 V c 2 t) (iblk3 V c 3 t)) ej).trans ((tile3_apply V c hy hs hg hbe t _ _).trans ?_)
  have e0 : tile N3 t (j 0 : Fin 4096) = ((((cfg3.win 4).blk t).view.emb j) 0 : Fin 131072) := by
    refine Fin.ext ?_
    blk_simp [index3 t, tile]
  have e1 : (j 1 : Fin 128) = ((((cfg3.win 4).blk t).view.emb j) 1 : Fin 128) := by
    refine Fin.ext ?_
    blk_simp [index3 t]
  rw [e0, e1]

end Pass3

end Cert.Proof.LayersKernel
-- ==== Proof.LayersRun.lean ====
/-
  The layers as launched: what each stretch of host operations and each pass leaves, followed from the arguments to the
  result (`result_apply`), and the run that ends there (`run`).
-/
module

public import proofs.«01_k».proof.Proof.Gen.LayersIdeal.Frame
public import proofs.«01_k».proof.Proof.LayersKernel
public import Idealize.ShloMosaic.Lib.Pointwise

@[expose] public section

noncomputable section

namespace Cert.Proof.LayersRun

section Contents

open Cert.LayersIdeal Cert.LayersIdeal.Gen Idealize.ShloMosaic Idealize.ShloMosaic.TcCoe Idealize.SL.Sem Cert.Proof.LayersMath
open Cert.Proof.LayersKernel

/-! ## The host operations, at an index -/

section Host

variable (X : Valuation τ sig (Elt Ideal))

theorem v1_apply (b : Fin 8) (s : Fin 512) (d : Fin 3) :
    StableHlo.after hostOps0 X (Proc.devRef .tc main_v1) (ix2 (centre b s) d) = X (Proc.devRef .tc main_arg1) (ix3 b d s) := by
  have e : StableHlo.after hostOps0 X (Proc.devRef .tc main_v1)
      = shapeCast S4096x3 (transpose S8x512x3 [0, 2, 1] (X (Proc.devRef .tc main_arg1)) transposes_S8x3x512_S8x512x3_0_2_1) shapeCasts_S8x512x3_S4096x3 := by
    unfold hostOps0; after_results <;> rfl
  rw [e]
  pointwise [centre]

theorem v4_apply (k : Fin 128) (o : Fin 64) {W : Fin 64 → Fin 67 → ℝ}
    (hW : ∀ j k, X (Proc.devRef .tc main_arg2) (ix2 j k) = ((W j k : ℝ) : EReal)) :
    StableHlo.after hostOps0 X (Proc.devRef .tc main_v4) (ix2 k o) = ((padded W k o : ℝ) : EReal) := by
  have e : StableHlo.after hostOps0 X (Proc.devRef .tc main_v4)
      = concatenate S128x64 0 [⟨S67x64, transpose S67x64 [1, 0] (X (Proc.devRef .tc main_arg2)) transposes_S64x67_S67x64_1_0⟩,
          ⟨S61x64, broadcastInDim S61x64 ![] bcast_S_S61x64 (constant (F := Ideal) S_ .f32 0x00000000#32)⟩] concatenates_S67x64_S61x64_S128x64_d0 := by
    unfold hostOps0; after_results
  rw [e]
  by_cases h : k.val < 67
  · pointwise
    rw [dif_pos h]
    exact (hW o ⟨k.val, h⟩).trans (congrArg Real.toEReal (by rw [padded, dif_pos h]))
  · pointwise
    rw [dif_neg h]
    exact EReal.coe_zero.symm.trans (congrArg Real.toEReal (by rw [padded, dif_neg h]))

theorem v5_apply (o : Fin 64) : StableHlo.after hostOps0 X (Proc.devRef .tc main_v5) (ix2 0 o) = X (Proc.devRef .tc main_arg3) (ix1 o) := by
  have e : StableHlo.after hostOps0 X (Proc.devRef .tc main_v5)
      = broadcastInDim S1x64 ![1] bcast_S64_S1x64_1 (X (Proc.devRef .tc main_arg3)) := by
    unfold hostOps0; after_results
  rw [e]
  pointwise

theorem v7_apply (k : Fin 64) (o : Fin 64) :
    StableHlo.after hostOps1 X (Proc.devRef .tc main_v7) (ix2 k o) = X (Proc.devRef .tc main_arg6) (ix2 o k) := by
  have e : StableHlo.after hostOps1 X (Proc.devRef .tc main_v7)
      = transpose S64x64 [1, 0] (X (Proc.devRef .tc main_arg6)) transposes_S64x64_S64x64_1_0 := by
    unfold hostOps1; after_results
  rw [e]
  pointwise

theorem v8_apply (o : Fin 64) : StableHlo.after hostOps1 X (Proc.devRef .tc main_v8) (ix2 0 o) = X (Proc.devRef .tc main_arg4) (ix1 o) := by
  have e : StableHlo.after hostOps1 X (Proc.devRef .tc main_v8)
      = broadcastInDim S1x64 ![1] bcast_S64_S1x64_1 (X (Proc.devRef .tc main_arg4)) := by
    unfold hostOps1; after_results
  rw [e]
  pointwise

theorem v9_apply (o : Fin 64) : StableHlo.after hostOps1 X (Proc.devRef .tc main_v9) (ix2 0 o) = X (Proc.devRef .tc main_arg5) (ix1 o) := by
  have e : StableHlo.after hostOps1 X (Proc.devRef .tc main_v9)
      = broadcastInDim S1x64 ![1] bcast_S64_S1x64_1 (X (Proc.devRef .tc main_arg5)) := by
    unfold hostOps1; after_results
  rw [e]
  pointwise

theorem v10_apply (o : Fin 64) : StableHlo.after hostOps1 X (Proc.devRef .tc main_v10) (ix2 0 o) = X (Proc.devRef .tc main_arg7) (ix1 o) := by
  have e : StableHlo.after hostOps1 X (Proc.devRef .tc main_v10)
      = broadcastInDim S1x64 ![1] bcast_S64_S1x64_1 (X (Proc.devRef .tc main_arg7)) := by
    unfold hostOps1; after_results
  rw [e]
  pointwise

theorem v12_apply (k : Fin 64) (o : Fin 128) :
    StableHlo.after hostOps2 X (Proc.devRef .tc main_v12) (ix2 k o) = X (Proc.devRef .tc main_arg10) (ix2 o k) := by
  have e : StableHlo.after hostOps2 X (Proc.devRef .tc main_v12)
      = transpose S64x128 [1, 0] (X (Proc.devRef .tc main_arg10)) transposes_S128x64_S64x128_1_0 := by
    unfold hostOps2; after_results
  rw [e]
  pointwise

theorem v13_apply (o : Fin 64) : StableHlo.after hostOps2 X (Proc.devRef .tc main_v13) (ix2 0 o) = X (Proc.devRef .tc main_arg8) (ix1 o) := by
  have e : StableHlo.after hostOps2 X (Proc.devRef .tc main_v13)
      = broadcastInDim S1x64 ![1] bcast_S64_S1x64_1 (X (Proc.devRef .tc main_arg8)) := by
    unfold hostOps2; after_results
  rw [e]
  pointwise

theorem v14_apply (o : Fin 64) : StableHlo.after hostOps2 X (Proc.devRef .tc main_v14) (ix2 0 o) = X (Proc.devRef .tc main_arg9) (ix1 o) := by
  have e : StableHlo.after hostOps2 X (Proc.devRef .tc main_v14)
      = broadcastInDim S1x64 ![1] bcast_S64_S1x64_1 (X (Proc.devRef .tc main_arg9)) := by
    unfold hostOps2; after_results
  rw [e]
  pointwise

theorem v15_apply (o : Fin 128) : StableHlo.after hostOps2 X (Proc.devRef .tc main_v15) (ix2 0 o) = X (Proc.devRef .tc main_arg11) (ix1 o) := by
  have e : StableHlo.after hostOps2 X (Proc.devRef .tc main_v15)
      = broadcastInDim S1x128 ![1] bcast_S128_S1x128_1 (X (Proc.devRef .tc main_arg11)) := by
    unfold hostOps2; after_results
  rw [e]
  pointwise

theorem v17_apply (o : Fin 128) : StableHlo.after hostOps3 X (Proc.devRef .tc main_v17) (ix2 0 o) = X (Proc.devRef .tc main_arg12) (ix1 o) := by
  have e : StableHlo.after hostOps3 X (Proc.devRef .tc main_v17)
      = broadcastInDim S1x128 ![1] bcast_S128_S1x128_1 (X (Proc.devRef .tc main_arg12)) := by
    unfold hostOps3; after_results
  rw [e]
  pointwise

theorem v18_apply (o : Fin 128) : StableHlo.after hostOps3 X (Proc.devRef .tc main_v18) (ix2 0 o) = X (Proc.devRef .tc main_arg13) (ix1 o) := by
  have e : StableHlo.after hostOps3 X (Proc.devRef .tc main_v18)
      = broadcastInDim S1x128 ![1] bcast_S128_S1x128_1 (X (Proc.devRef .tc main_arg13)) := by
    unfold hostOps3; after_results
  rw [e]
  pointwise

theorem v21_apply (b : Fin 8) (o : Fin 128) (k : Fin 32) (s : Fin 512) :
    StableHlo.after hostOps4 X (Proc.devRef .tc main_v21) (ix4 b o k s) = X (Proc.devRef .tc main_v19) (ix2 (row b k s) o) := by
  have e : StableHlo.after hostOps4 X (Proc.devRef .tc main_v21)
      = transpose S8x128x32x512 [0, 3, 2, 1] (shapeCast S8x512x32x128 (X (Proc.devRef .tc main_v19)) shapeCasts_S131072x128_S8x512x32x128)
          transposes_S8x512x32x128_S8x128x32x512_0_3_2_1 := by
    unfold hostOps4; after_results <;> rfl
  rw [e]
  pointwise [row]
  refine congrArg (fun r : Fin 131072 => X (Proc.devRef .tc main_v19) (ix2 r o)) (Fin.ext ?_)
  show b.val * 16384 + s.val * 32 + k.val = (b.val * 512 + s.val) * 32 + k.val
  omega

end Host

/-! ## From the arguments to the result -/

section Chain

variable (m : (ℓ : Loc nD τ sig) → Buf (Elt Ideal) ℓ) (ρ : Dev nD → PrngReg) (c : Dev nD)
variable {x : Fin 131072 → Fin 128 → ℝ} {p : Fin 4096 → Fin 3 → ℝ} {w : Weights}

/-- The arguments of a device as real values. -/
abbrev Args (x : Fin 131072 → Fin 128 → ℝ) (p : Fin 4096 → Fin 3 → ℝ) (w : Weights) : Prop :=
  Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) x p w

theorem tile0_net (h : Args m c x p w) (t : Fin cfg0.N) (i : Fin 4096) (o : Fin 64) :
    tile0 (V1 m ρ) c t (ix2 i o) = ((y0 x p w (tile N0 t i) o : ℝ) : EReal) := by
  refine tile0_apply (V1 m ρ) c (fun r k => ?_) (fun g d => ?_) (fun k o => ?_) (fun o => ?_) t i o
  · exact (congrFun (W1_args m ρ c main_arg0 (by decide)) _).trans (h.h0 r k)
  · have e : g = centre ⟨g.val / 512, by omega⟩ ⟨g.val % 512, by omega⟩ := Fin.ext (by simp only [centre]; omega)
    rw [e]
    exact (v1_apply _ _ _ _).trans (h.h1 _ _ _)
  · exact v4_apply _ k o h.h2
  · exact (v5_apply _ o).trans (h.h3 o)

theorem after0 (h : Args m c x p w) :
    (∀ r k, V3 m ρ c main_v6_0 (ix2 r k) = ((y0 x p w r k : ℝ) : EReal))
      ∧ ∀ k, (V3 m ρ c main_v6_1 : S2x64.Idx → EReal) (ix2 0 k) = ∑ r, ((y0 x p w r k : ℝ) : EReal)
        ∧ (V3 m ρ c main_v6_1 : S2x64.Idx → EReal) (ix2 1 k) = ∑ r, ((y0 x p w r k : ℝ) : EReal) * ((y0 x p w r k : ℝ) : EReal) := by
  have e0 : V3 m ρ c main_v6_0 = (dat0 (V1 m ρ) c).arrAt 4 cfg0.N := (W3_of m ρ c main_v6_0 (by decide)).trans (W2_arr m ρ c 4)
  have e1 : V3 m ρ c main_v6_1 = (dat0 (V1 m ρ) c).arrAt 5 cfg0.N := (W3_of m ρ c main_v6_1 (by decide)).trans (W2_arr m ρ c 5)
  rw [e0, e1]
  exact ⟨fun r k => congrFun (array0_y (V1 m ρ) c (tile0_net m ρ c h)) (ix2 r k), array0_stats (V1 m ρ) c (tile0_net m ρ c h)⟩

theorem tile1_net (h : Args m c x p w) (t : Fin cfg1.N) (i : Fin 4096) (o : Fin 64) :
    tile1 (V3 m ρ) c t (ix2 i o) = ((y1 x p w (tile N1 t i) o : ℝ) : EReal) := by
  refine tile1_apply (V3 m ρ) c (after0 m ρ c h).1 (after0 m ρ c h).2 (fun k => ?_) (fun k => ?_) (fun k o => ?_) (fun o => ?_) t i o
  · exact (v8_apply _ k).trans ((congrFun (W2_args m ρ c main_arg4 (by decide)) _).trans (h.h4 k))
  · exact (v9_apply _ k).trans ((congrFun (W2_args m ρ c main_arg5 (by decide)) _).trans (h.h5 k))
  · exact (v7_apply _ k o).trans ((congrFun (W2_args m ρ c main_arg6 (by decide)) _).trans (h.h6 o k))
  · exact (v10_apply _ o).trans ((congrFun (W2_args m ρ c main_arg7 (by decide)) _).trans (h.h7 o))

theorem after1 (h : Args m c x p w) :
    (∀ r k, V5 m ρ c main_v11_0 (ix2 r k) = ((y1 x p w r k : ℝ) : EReal))
      ∧ ∀ k, (V5 m ρ c main_v11_1 : S2x64.Idx → EReal) (ix2 0 k) = ∑ r, ((y1 x p w r k : ℝ) : EReal)
        ∧ (V5 m ρ c main_v11_1 : S2x64.Idx → EReal) (ix2 1 k) = ∑ r, ((y1 x p w r k : ℝ) : EReal) * ((y1 x p w r k : ℝ) : EReal) := by
  have e0 : V5 m ρ c main_v11_0 = (dat1 (V3 m ρ) c).arrAt 6 cfg1.N := (W5_of m ρ c main_v11_0 (by decide)).trans (W4_arr m ρ c 6)
  have e1 : V5 m ρ c main_v11_1 = (dat1 (V3 m ρ) c).arrAt 7 cfg1.N := (W5_of m ρ c main_v11_1 (by decide)).trans (W4_arr m ρ c 7)
  rw [e0, e1]
  exact ⟨fun r k => congrFun (array1_y (V3 m ρ) c (tile1_net m ρ c h)) (ix2 r k), array1_stats (V3 m ρ) c (tile1_net m ρ c h)⟩

theorem tile2_net (h : Args m c x p w) (t : Fin cfg2.N) (i : Fin 4096) (o : Fin 128) :
    tile2 (V5 m ρ) c t (ix2 i o) = ((y2 x p w (tile N2 t i) o : ℝ) : EReal) := by
  refine tile2_apply (V5 m ρ) c (after1 m ρ c h).1 (after1 m ρ c h).2 (fun k => ?_) (fun k => ?_) (fun k o => ?_) (fun o => ?_) t i o
  · exact (v13_apply _ k).trans ((congrFun (W4_args m ρ c main_arg8 (by decide)) _).trans (h.h8 k))
  · exact (v14_apply _ k).trans ((congrFun (W4_args m ρ c main_arg9 (by decide)) _).trans (h.h9 k))
  · exact (v12_apply _ k o).trans ((congrFun (W4_args m ρ c main_arg10 (by decide)) _).trans (h.h10 o k))
  · exact (v15_apply _ o).trans ((congrFun (W4_args m ρ c main_arg11 (by decide)) _).trans (h.h11 o))

theorem after2 (h : Args m c x p w) :
    (∀ r k, V7 m ρ c main_v16_0 (ix2 r k) = ((y2 x p w r k : ℝ) : EReal))
      ∧ ∀ k, (V7 m ρ c main_v16_1 : S2x128.Idx → EReal) (ix2 0 k) = ∑ r, ((y2 x p w r k : ℝ) : EReal)
        ∧ (V7 m ρ c main_v16_1 : S2x128.Idx → EReal) (ix2 1 k) = ∑ r, ((y2 x p w r k : ℝ) : EReal) * ((y2 x p w r k : ℝ) : EReal) := by
  have e0 : V7 m ρ c main_v16_0 = (dat2 (V5 m ρ) c).arrAt 6 cfg2.N := (W7_of m ρ c main_v16_0 (by decide)).trans (W6_arr m ρ c 6)
  have e1 : V7 m ρ c main_v16_1 = (dat2 (V5 m ρ) c).arrAt 7 cfg2.N := (W7_of m ρ c main_v16_1 (by decide)).trans (W6_arr m ρ c 7)
  rw [e0, e1]
  exact ⟨fun r k => congrFun (array2_y (V5 m ρ) c (tile2_net m ρ c h)) (ix2 r k), array2_stats (V5 m ρ) c (tile2_net m ρ c h)⟩

theorem after3 (h : Args m c x p w) (r : Fin 131072) (k : Fin 128) :
    W8 m ρ c (Proc.devRef .tc main_v19) (ix2 r k) = ((net x p w r k : ℝ) : EReal) := by
  refine (congrFun (W8_arr m ρ c 4) (ix2 r k)).trans ?_
  refine (congrFun (array3 (V7 m ρ) c (g := w.g2) (be := w.be2) (after2 m ρ c h).1 (after2 m ρ c h).2 (fun k => ?_) fun k => ?_) (ix2 r k)).trans rfl
  · exact (v17_apply _ k).trans ((congrFun (W6_args m ρ c main_arg12 (by decide)) _).trans (h.h12 k))
  · exact (v18_apply _ k).trans ((congrFun (W6_args m ρ c main_arg13 (by decide)) _).trans (h.h13 k))

theorem result_apply (h : Args m c x p w) (b : Fin 8) (o : Fin 128) (k : Fin 32) (s : Fin 512) :
    W9 m ρ c (Proc.devRef .tc main_v21) (ix4 b o k s) = ((net x p w (row b k s) o : ℝ) : EReal) :=
  (v21_apply _ b o k s).trans (after3 m ρ c h (row b k s) o)

end Chain

end Contents

/-! ## The run -/

section Run

open Cert.LayersIdeal Cert.LayersIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the layers ends with the result at what the last stretch leaves. -/
theorem run : θ_run defs (onTc (τ := τ) (main (F := F))) ⟨m, fun _ => 0, ρ⟩ (fun r => ∀ c : Dev nD,
      r.2.mem ((c.tc : Thread nD τ).loc main_v21) = W9 m ρ c (Proc.devRef .tc main_v21)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => fun c => h c _ (mem_uc main_v21 (by decide)))

end Run

end Cert.Proof.LayersRun
-- ==== Proof.LayersRef.lean ====
/-
  What the reference of the layers computes from fourteen real arrays: the plain layers over the reals, channel by channel.
-/
module

public import proofs.«01_k».proof.Proof.Gen.LayersRefIdeal.Run
public import proofs.«01_k».proof.Proof.LayersMath
public import Idealize.ShloMosaic.Lib.Pointwise

@[expose] public section

noncomputable section

namespace Cert.Proof.LayersRef

open Cert.LayersRefIdeal Cert.LayersRefIdeal.Gen Cert.LayersRefIdeal.Value Idealize.ShloMosaic Idealize.ShloMosaic.TcCoe Idealize.SL.Sem Cert.Proof.LayersMath

/-- A sum over all axes but the channels'. -/
theorem reduce_columns {n : ℕ} (h : (⟨4, ![8, n, 32, 512]⟩ : Shape).ReducesTo [0, 2, 3] ⟨1, ![n]⟩)
    (v : (⟨4, ![8, n, 32, 512]⟩ : Shape).Idx → EReal) (init : EReal) (o : Fin n) :
    Ideal.hostReduceAdd h v init (ix1 o) = init + ∑ b, ∑ k, ∑ s, v (ix4 b o k s) := by
  unfold Ideal.hostReduceAdd
  congr 1
  refine (Finset.sum_filter_eq_sum_of_fiber _ (fun p : Fin 8 × Fin 32 × Fin 512 => ix4 p.1 o p.2.1 p.2.2)
    (fun _ _ e => Prod.ext (congrFun e 0) (Prod.ext (congrFun e 2) (congrFun e 3))) (fun i => ?_) v).trans ?_
  · constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨k, rfl⟩
      funext b
      apply Fin.ext
      match b with
      | ⟨0, _⟩ => rfl
  · rw [Fintype.sum_prod_type]
    exact Finset.sum_congr rfl fun b _ => Fintype.sum_prod_type _

variable {V : Valuation τ sig (Elt Ideal)} {x : Fin 131072 → Fin 128 → ℝ} {p : Fin 4096 → Fin 3 → ℝ} {w : Weights}

/-- The reference's fourteen arguments hold real values. -/
abbrev Args (V : Valuation τ sig (Elt Ideal)) (x : Fin 131072 → Fin 128 → ℝ) (p : Fin 4096 → Fin 3 → ℝ) (w : Weights) : Prop :=
  Reads (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) x p w

theorem v1_apply (b : Fin 8) (s : Fin 512) (k : Fin 32) (j : Fin 128) :
    res_main_v1 V (ix4 b s k j) = V (Proc.devRef .tc main_arg0) (ix2 (row b k s) j) := by
  pointwise [res_main_v1]
  exact congrArg (fun r => V (Proc.devRef .tc main_arg0) (ix2 r j)) (Fin.ext (by simp only [row]; omega))

theorem v13_apply (h : Args V x p w) (b : Fin 8) (o : Fin 64) (k : Fin 32) (s : Fin 512) :
    res_main_v13 V (ix4 b o k s) = ((y0 x p w (row b k s) o : ℝ) : EReal) := by
  pointwise [res_main_v13]
  rw [y0, ← conv_parts]
  simp only [v1_apply, h.h0, h.h1, h.h2, h.h3, group_row]

theorem v17_apply (h : Args V x p w) (o : Fin 64) :
    res_main_v17 V (ix4 0 o 0 0) = Ideal.div (∑ r, ((y0 x p w r o : ℝ) : EReal)) (Ideal.ofBits .f32 0x48000000#32) := by
  pointwise [res_main_v17]
  rw [reduce_columns, zero_add]
  simp only [v13_apply h]
  rw [sum_row fun r => ((y0 x p w r o : ℝ) : EReal)]

theorem v19_apply (h : Args V x p w) (b : Fin 8) (o : Fin 64) (k : Fin 32) (s : Fin 512) :
    res_main_v19 V (ix4 b o k s) = ((y0 x p w (row b k s) o : ℝ) : EReal)
      - Ideal.div (∑ r, ((y0 x p w r o : ℝ) : EReal)) (Ideal.ofBits .f32 0x48000000#32) := by
  pointwise [res_main_v19]
  rw [v13_apply h, v17_apply h]

theorem v43_apply (h : Args V x p w) (b : Fin 8) (o : Fin 64) (k : Fin 32) (s : Fin 512) :
    res_main_v43 V (ix4 b o k s) = ((y1 x p w (row b k s) o : ℝ) : EReal) := by
  pointwise [res_main_v43]
  rw [y1, conv, ← dot_real]
  congr 1
  · refine Finset.sum_congr rfl fun c _ => ?_
    rw [mul_comm]
    congr 1
    · rw [v13_apply h, v17_apply h, h.h4, h.h5]
      refine norm_deviations (fun r => y0 x p w r c) _ _ (row b k s) _ _ rfl ?_
      rw [reduce_columns, zero_add, ← sum_row]
      refine Finset.sum_congr rfl fun b _ => Finset.sum_congr rfl fun k _ => Finset.sum_congr rfl fun s _ => ?_
      pointwise
      rw [v19_apply h]
    · exact h.h6 o c
  · exact h.h7 o

theorem v47_apply (h : Args V x p w) (o : Fin 64) :
    res_main_v47 V (ix4 0 o 0 0) = Ideal.div (∑ r, ((y1 x p w r o : ℝ) : EReal)) (Ideal.ofBits .f32 0x48000000#32) := by
  pointwise [res_main_v47]
  rw [reduce_columns, zero_add]
  simp only [v43_apply h]
  rw [sum_row fun r => ((y1 x p w r o : ℝ) : EReal)]

theorem v49_apply (h : Args V x p w) (b : Fin 8) (o : Fin 64) (k : Fin 32) (s : Fin 512) :
    res_main_v49 V (ix4 b o k s) = ((y1 x p w (row b k s) o : ℝ) : EReal)
      - Ideal.div (∑ r, ((y1 x p w r o : ℝ) : EReal)) (Ideal.ofBits .f32 0x48000000#32) := by
  pointwise [res_main_v49]
  rw [v43_apply h, v47_apply h]

theorem v73_apply (h : Args V x p w) (b : Fin 8) (o : Fin 128) (k : Fin 32) (s : Fin 512) :
    res_main_v73 V (ix4 b o k s) = ((y2 x p w (row b k s) o : ℝ) : EReal) := by
  pointwise [res_main_v73]
  rw [y2, conv, ← dot_real]
  congr 1
  · refine Finset.sum_congr rfl fun c _ => ?_
    rw [mul_comm]
    congr 1
    · rw [v43_apply h, v47_apply h, h.h8, h.h9]
      refine norm_deviations (fun r => y1 x p w r c) _ _ (row b k s) _ _ rfl ?_
      rw [reduce_columns, zero_add, ← sum_row]
      refine Finset.sum_congr rfl fun b _ => Finset.sum_congr rfl fun k _ => Finset.sum_congr rfl fun s _ => ?_
      pointwise
      rw [v49_apply h]
    · exact h.h10 o c
  · exact h.h11 o

theorem v77_apply (h : Args V x p w) (o : Fin 128) :
    res_main_v77 V (ix4 0 o 0 0) = Ideal.div (∑ r, ((y2 x p w r o : ℝ) : EReal)) (Ideal.ofBits .f32 0x48000000#32) := by
  pointwise [res_main_v77]
  rw [reduce_columns, zero_add]
  simp only [v73_apply h]
  rw [sum_row fun r => ((y2 x p w r o : ℝ) : EReal)]

theorem v79_apply (h : Args V x p w) (b : Fin 8) (o : Fin 128) (k : Fin 32) (s : Fin 512) :
    res_main_v79 V (ix4 b o k s) = ((y2 x p w (row b k s) o : ℝ) : EReal)
      - Ideal.div (∑ r, ((y2 x p w r o : ℝ) : EReal)) (Ideal.ofBits .f32 0x48000000#32) := by
  pointwise [res_main_v79]
  rw [v73_apply h, v77_apply h]

/-- The result as the launch states it, over any contents of the buffers. -/
def result (V : Valuation τ sig (Elt Ideal)) : (Proc.devRef .tc main_v98 : DevRef τ sig).ty.Contents (Elt Ideal) :=
  maximumf (addf (mulf (Host.divf (subf (res_main_v73 V) (broadcastInDim S8x128x32x512 ![0, 1, 2, 3] bcast_S1x128x1x1_S8x128x32x512_0_1_2_3 (res_main_v77 V))) (broadcastInDim S8x128x32x512 ![0, 1, 2, 3] bcast_S1x128x1x1_S8x128x32x512_0_1_2_3 (Host.sqrt (addf (Host.divf (broadcastInDim S1x128x1x1 ![1] bcast_S128_S1x128x1x1_1 (Host.reduceAdd (mulf (res_main_v79 V) (res_main_v79 V)) (constant S_ .f32 0x00000000#32) reducesTo_S8x128x32x512_S128_d0_2_3 h_S_)) (broadcastInDim S1x128x1x1 ![] bcast_S_S1x128x1x1 (constant S_ .f32 0x48000000#32))) (broadcastInDim S1x128x1x1 ![] bcast_S_S1x128x1x1 (constant S_ .f32 0x3727C5AC#32)))))) (broadcastInDim S8x128x32x512 ![0, 1, 2, 3] bcast_S1x128x1x1_S8x128x32x512_0_1_2_3 (broadcastInDim S1x128x1x1 ![1] bcast_S128_S1x128x1x1_1 (V (Proc.devRef .tc main_arg12))))) (broadcastInDim S8x128x32x512 ![0, 1, 2, 3] bcast_S1x128x1x1_S8x128x32x512_0_1_2_3 (broadcastInDim S1x128x1x1 ![1] bcast_S128_S1x128x1x1_1 (V (Proc.devRef .tc main_arg13))))) (broadcastInDim S8x128x32x512 ![] bcast_S_S8x128x32x512 (constant S_ .f32 0x00000000#32))

theorem result_apply (h : Args V x p w) (b : Fin 8) (o : Fin 128) (k : Fin 32) (s : Fin 512) :
    result V (ix4 b o k s) = ((net x p w (row b k s) o : ℝ) : EReal) := by
  pointwise [result]
  rw [v73_apply h, v77_apply h, h.h12, h.h13]
  refine norm_deviations (fun r => y2 x p w r o) _ _ (row b k s) _ _ rfl ?_
  rw [reduce_columns, zero_add, ← sum_row]
  refine Finset.sum_congr rfl fun b _ => Finset.sum_congr rfl fun k _ => Finset.sum_congr rfl fun s _ => ?_
  pointwise
  rw [v79_apply h]

/-- The launch of the reference, its result named and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v98) = result (StableHlo.launchContents m c) :=
  (θ_run defs _ _).mono (fun _ h c => (h c).1) (Cert.LayersRefIdeal.Value.run (F := Ideal) m ρ)

end Cert.Proof.LayersRef
-- ==== Proof.GroupBase.lean ====
/-
  The grouped program (the neighbour search, the row gather, the three layers) as its launch sees it, and the ghost
  state its proof keeps: the handshakes of the row gather, the staging cells of the five other calls, the counters.
-/
module

public import proofs.«01_k».proof.Defs
public import Idealize.ShloMosaic.Lib.SparseCore.Quiescent
public import Idealize.ShloMosaic.Lib.Pipeline.Kit
public import Idealize.ShloMosaic.Lib.Pipeline.Regions
public import Idealize.ShloMosaic.Lib.Tactic
public import proofs.«01_k».proof.Proof.Gen.GroupIdeal

@[expose] public section

noncomputable section

namespace Cert.Proof.Group

open Cert.GroupIdeal Cert.GroupIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 5) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' half, and the staging cells' half. -/
abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-- The waits the TensorCore of `c` may have recorded before the row gather (`n = 0`) and after it (`n = 1`). -/
def below (c : Dev nD) (n : ℕ) : Set (SemLoc sig × HIx 1) :=
  {p | (K (F := F)).lev (SparseCore.T c, p.1) p.2 ≤ 8 * n}

/-- What rides through every point of a call: the call's scoped buffers but its staging ones, and the generator register. -/
def ΦG {gr W : ℕ} (win : Fin W → Pipeline.WinSpec sig gr) (c : Dev nD) : sProp 𝕄 :=
  iprop(Pipeline.scopedRest (Ix := HIx 1) (Name := ℕ) (U := UU) (Lvl := ℕ) (Val := Elt F) win c ∗ ∃ r, prngReg c r)

theorem assocEq (A B C : sProp 𝕄) : iprop((A ∗ B) ∗ C) = iprop(A ∗ (B ∗ C)) :=
  Entails.antisymm Idealize.SL.BI.sep_assoc Idealize.SL.BI.sep_assoc'

theorem Otc_none (c : Dev nD) (n : ℕ) (g : GSem nD τ sig) : (K (F := F)).Otc c n g (none : HIx 1) = 0 := by
  by_contra h
  have h1 := SparseCore.Cfg.lev_of_Otc_pos (K := K (F := F)) (Nat.pos_of_ne_zero h)
  rw [SparseCore.Cfg.lev_none] at h1
  exact absurd h1 (Nat.not_succ_le_zero _)

end Cert.Proof.Group

end
-- ==== Proof.GroupSearch.lean ====
/-
  The neighbour search as the first call of the grouped program: what its body leaves in each block of neighbours.
-/
module

public import proofs.«01_k».proof.Proof.GroupBase
public import proofs.«01_k».proof.Proof.Gen.GroupIdeal.Launch
public import proofs.«01_k».proof.Proof.Gen.GroupIdeal.Skeleton
public import proofs.«01_k».proof.Proof.Gen.GroupIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

set_option maxHeartbeats 4000000

abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (init : IVec S512x32 32) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok init (k0_t1_body (F := F) i arg2 harg2 arg3 harg3 arg4 harg4 arg5 harg5)

abbrev Trip_k0_t1 (c : Dev nD) (arg5 : Memref sig .tc .vmem S512x4096 .f32) (f_arg5 : BufTy.Contents (Elt F) arg5.view.ty) : sProp 𝕄 :=
  iprop((arg5.view.loc (c : Thread nD τ) ↦[arg5.view.set]{fullShare} f_arg5))

@[irreducible] def trip_k0_t1 (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (k : Fin k0_t1_loop.trips) :
    Σ' (R_k0_t1 : ((IVec S512x32 32) → BufTy.Contents (Elt F) arg5.view.ty → IVec S512x32 32)) , { L_arg5 : ((IVec S512x32 32) → BufTy.Contents (Elt F) arg5.view.ty → List (View.Piece (Elt F) S512x4096 .f32)) // ∀ (E : Set ℕ) (acc : IVec S512x32 32) (f_arg5 : BufTy.Contents (Elt F) arg5.view.ty),
      Trip_k0_t1 (F := F) c arg5 f_arg5
      ⊢ wp frame (wpE (defs₀ (F := F)) 𝒱 (c : Thread nD τ) bd) E (k0_t1_body (F := F) i arg2 harg2 arg3 harg3 arg4 harg4 arg5 harg5 k acc)
          (fun yld => iprop(⌜yld = R_k0_t1 acc f_arg5⌝ ∗ Trip_k0_t1 (F := F) c arg5 (arg5.view.writes (Elt F) f_arg5 (L_arg5 acc f_arg5)))) } := by
  have hk : k.val < 32 := Nat.lt_of_lt_of_le k.isLt k0_t1_abs.2.1
  refine ⟨?_, ?_, fun E acc f_arg5 => ?run⟩
  case run =>
    unfold k0_t1_body
    iintro HW_arg5
    sl_exec
    sl_step
    sl_close

abbrev tripR_k0_t1 (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (k : Fin k0_t1_loop.trips) (acc : IVec S512x32 32) (f_arg5 : BufTy.Contents (Elt F) arg5.view.ty) : IVec S512x32 32 :=
  (trip_k0_t1 (F := F) 𝒱 c bd i arg2 harg2 arg3 harg3 arg4 harg4 arg5 harg5 k).1 acc f_arg5

abbrev tripL_k0_t1 (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (k : Fin k0_t1_loop.trips) (acc : IVec S512x32 32) (f_arg5 : BufTy.Contents (Elt F) arg5.view.ty) : List (View.Piece (Elt F) S512x4096 .f32) :=
  (trip_k0_t1 (F := F) 𝒱 c bd i arg2 harg2 arg3 harg3 arg4 harg4 arg5 harg5 k).2.1 acc f_arg5

@[irreducible] def st_k0_t1Step (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) (k : ℕ) (prev : (IVec S512x32 32) × List (View.Piece (Elt F) S512x4096 .f32)) : (IVec S512x32 32) × List (View.Piece (Elt F) S512x4096 .f32) :=
  if h : k < k0_t1_loop.trips then
    (tripR_k0_t1 (F := F) 𝒱 c bd i arg2 harg2 arg3 harg3 arg4 harg4 arg5 harg5 ⟨k, h⟩ prev.1 (arg5.view.writes (Elt F) G_arg5 prev.2), (tripL_k0_t1 (F := F) 𝒱 c bd i arg2 harg2 arg3 harg3 arg4 harg4 arg5 harg5 ⟨k, h⟩ prev.1 (arg5.view.writes (Elt F) G_arg5 prev.2)) ++ prev.2)
  else prev

def st_k0_t1 (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) : ℕ → (IVec S512x32 32) × List (View.Piece (Elt F) S512x4096 .f32)
  | 0 => (init, [])
  | k + 1 => st_k0_t1Step 𝒱 c bd i arg2 harg2 arg3 harg3 arg4 harg4 arg5 harg5 G_arg5 init k (st_k0_t1 𝒱 c bd i arg2 harg2 arg3 harg3 arg4 harg4 arg5 harg5 G_arg5 init k)

theorem st_k0_t1_succ (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) (k : Fin k0_t1_loop.trips) :
    st_k0_t1 (F := F) 𝒱 c bd i arg2 harg2 arg3 harg3 arg4 harg4 arg5 harg5 G_arg5 init (k.val + 1)
      = ((tripR_k0_t1 (F := F) 𝒱 c bd i arg2 harg2 arg3 harg3 arg4 harg4 arg5 harg5 k (st_k0_t1 (F := F) 𝒱 c bd i arg2 harg2 arg3 harg3 arg4 harg4 arg5 harg5 G_arg5 init k.val).1 (arg5.view.writes (Elt F) G_arg5 (st_k0_t1 (F := F) 𝒱 c bd i arg2 harg2 arg3 harg3 arg4 harg4 arg5 harg5 G_arg5 init k.val).2)), (tripL_k0_t1 (F := F) 𝒱 c bd i arg2 harg2 arg3 harg3 arg4 harg4 arg5 harg5 k (st_k0_t1 (F := F) 𝒱 c bd i arg2 harg2 arg3 harg3 arg4 harg4 arg5 harg5 G_arg5 init k.val).1 (arg5.view.writes (Elt F) G_arg5 (st_k0_t1 (F := F) 𝒱 c bd i arg2 harg2 arg3 harg3 arg4 harg4 arg5 harg5 G_arg5 init k.val).2)) ++ (st_k0_t1 (F := F) 𝒱 c bd i arg2 harg2 arg3 harg3 arg4 harg4 arg5 harg5 G_arg5 init k.val).2) := by
  rw [st_k0_t1.eq_2]; unfold st_k0_t1Step; exact dif_pos k.isLt

theorem st_k0_t1_zero (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) :
    (st_k0_t1 (F := F) 𝒱 c bd i arg2 harg2 arg3 harg3 arg4 harg4 arg5 harg5 G_arg5 init 0).1 = init := rfl

abbrev inv_k0_t1 (𝒱 : Variants) (c : Dev nD) (bd : Option 𝒱.V) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) (k : ℕ) (acc : IVec S512x32 32) : sProp 𝕄 :=
  iprop((∃ f, (arg5.view.loc (c : Thread nD τ) ↦[arg5.view.set]{fullShare} f) ∗ ⌜f = arg5.view.writes (Elt F) G_arg5 (st_k0_t1 (F := F) 𝒱 c bd i arg2 harg2 arg3 harg3 arg4 harg4 arg5 harg5 G_arg5 init k).2⌝) ∗ ⌜acc = (st_k0_t1 (F := F) 𝒱 c bd i arg2 harg2 arg3 harg3 arg4 harg4 arg5 harg5 G_arg5 init k).1⌝)

set_option warn.classDefReducibility false in
@[sl_loop] def loopInv_k0_t1 (𝒱 : Variants) (c : Dev nD) (bd : Option 𝒱.V) (E : Set ℕ) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole) (G_arg5 : BufTy.Contents (Elt F) arg5.view.ty) (init : IVec S512x32 32) :
    LoopInvTy_k0_t1 (F := F) (HIx 1) ℕ UU ℕ 𝒱 c bd E i arg2 harg2 arg3 harg3 arg4 harg4 arg5 harg5 init where
  inv := inv_k0_t1 (F := F) 𝒱 c bd i arg2 harg2 arg3 harg3 arg4 harg4 arg5 harg5 G_arg5 init
  step k acc := by
    iintro ⟨⟨%f_arg5, HW_arg5, %h_arg5⟩, %h_acc⟩
    subst h_acc
    iapply (wp_wand_r Idealize.ShloMosaic.frame (wpE (defs₀ (F := F)) 𝒱 (c : Thread nD τ) bd) E)
    isplitl [HW_arg5]
    · iapply ((trip_k0_t1 (F := F) 𝒱 c bd i arg2 harg2 arg3 harg3 arg4 harg4 arg5 harg5 k).2.2 E (st_k0_t1 (F := F) 𝒱 c bd i arg2 harg2 arg3 harg3 arg4 harg4 arg5 harg5 G_arg5 init k).1 f_arg5)
      iexact HW_arg5
    · iintro %yld ⟨%h_res, HW_arg5⟩
      unfold inv_k0_t1
      simp only [st_k0_t1_succ]
      isplitl [HW_arg5]
      · iexists _; isplitl [HW_arg5]; · iexact HW_arg5
        ipureintro; rw [h_arg5, ← View.writes_append]
      ipureintro; rw [h_res, h_arg5]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) (HIx 1) ℕ UU ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev VO0_2 : View sig .tc .vmem S1x512x32 .i32 := (Memref.whole cc0_stg2_0 : Memref sig .tc .vmem S1x512x32 .i32).view
abbrev ms0_0 (t : Fin cfg0.N) : Memref sig .tc .vmem S1x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x32 .i32 := win0_2.stage (cfg0.slots t 2)
abbrev hs0_2 (t : Fin cfg0.N) : (ms0_2 t).IsWhole := hstage0_2 ((cfg0.slots t 2).cast nbuf0_2)
abbrev scM0_0 : Memref sig .tc .vmem S512x4096 .f32 := Memref.whole cc0_scratch0

theorem PhiA0_eq (c : Dev nD) :
    (ΦG spec0 c : sProp 𝕄)
      = iprop(iprop((∃ d, owns (c : Thread nD τ) scM0_0 fullShare d))
          ∗ iprop(Pipeline.scopedRestBut (Ix := HIx 1) (Name := ℕ) (U := UU) (Lvl := ℕ) (Val := Elt F) spec0 c [cc0_scratch0]
            ∗ (∃ r, prngReg c r))) := by
  unfold ΦG; rw [scopedRest0_split]; simp only [scM0_0, owns_whole]; exact assocEq _ _ _

set_option maxHeartbeats 1000000 in
noncomputable def kernelRun0_A (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)
    (x0 : Vec F S1x3x512 .f32) (x1 : Vec F S1x3x4096 .f32) :
    { L2 : List (View.Piece (Elt F) S1x512x32 .i32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ d, owns (c : Thread nD τ) arg5 fullShare d)) -∗ K ⟨⟩))
          ⊢ wp frame (wpE (defs₀ (F := F)) Variants.none c none) E (cc0__knn_body i arg2 harg2 arg3 harg3 arg4 harg4 arg5 harg5) K } := by
  refine ⟨?_, fun E K => ?run⟩
  case run =>
    simp only [cc0__knn_body_eq_skeleton]; unfold cc0__knn_body_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _, _; isplitr; swap; · iexact HS0
    ipureintro; rfl

theorem cover0_A_2 (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)
    (x0 : Vec F S1x3x512 .f32) (x1 : Vec F S1x3x4096 .f32) (y : S1x512x32.Idx) :
    ∃ pc ∈ (kernelRun0_A c i arg2 harg2 arg3 harg3 arg4 harg4 arg5 harg5 x0 x1).1, y ∈ pc.1.set :=
  View.cover_of_tiledL (kernelRun0_A c i arg2 harg2 arg3 harg3 arg4 harg4 arg5 harg5 x0 x1).1 S1x512x32.size (by sl_kernel_rfl) y

def out0_A_2 (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)
    (x0 : Vec F S1x3x512 .f32) (x1 : Vec F S1x3x4096 .f32) : Vec F S1x512x32 .i32 :=
  VO0_2.read (Elt F) (VO0_2.writes (Elt F) VO0_2.junk (kernelRun0_A c i arg2 harg2 arg3 harg3 arg4 harg4 arg5 harg5 x0 x1).1)

def outsAt0 (c : Dev nD) (t : Fin cfg0.N) : Vec F S1x512x32 .i32 :=
  out0_A_2 c (grid0.coords t) (ms0_0 t) (hs0_0 t) (ms0_1 t) (hs0_1 t) (ms0_2 t) (hs0_2 t) scM0_0 (Memref.isWhole_whole _) (iblk0 V c 0 t) (iblk0 V c 1 t)

def dat0 (c : Dev nD) : Dat τ (Elt F) (HIx 1) ℕ UU ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := ΦG spec0 c
  q _ := fullShare
  owed _ := (K (F := F)).Otc c 0
  recorded _ := below (F := F) c 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt none t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt none t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt none t.succ = (dat0 V c).owesAt none t.castSucc from rfl,
    after0_0, after0_1, after0_2]
  rw [show (dat0 V c).Φ t.castSucc = ΦG spec0 c from rfl, PhiA0_eq]
  unfold outsAt0
  unfold out0_A_2
  iintro ⟨⟨HS0, Hg⟩, Ho, ⟨%d0, H0⟩, ⟨%d1, H1⟩, ⟨%d2, H2⟩⟩
  iapply ((kernelRun0_A c (grid0.coords t) _ _ _ _ _ _ _ _ (iblk0 V c 0 t) (iblk0 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hg]
  · isplitl [HS0]
    · iexact HS0
    iexact Hg
  isplitl [Ho]; · iexact Ho
  isplitl [H0]; · iexact H0
  isplitl [H1]; · iexact H1
  unfold owns; iexists _; isplitr
  swap; · iexact H2
  ipureintro; exact View.read_writes_of_cover _ _ _ _ _ (cover0_A_2 c _ _ _ _ _ _ _ _ _ _ _)

theorem defs₀_row0 (t : Fin cfg0.N) :
    defs₀ (F := F) .tc cfg0.body (cfg0.bodyArgs t (cfg0.slots t)) = bodyAt0 t := by
  rfl

theorem body_obligation0 (c : Dev nD) : BodyObligation (dat0 V c) (defs₀ (F := F)) Variants.none none Set.univ := fun t => by
  rw [bigSep_W0, bigSep_W0, defs₀_row0]
  exact triple_restated (sound_body0 V c t) rfl .rfl fun _ => .rfl

end Cert.Proof.Group

end
-- ==== Proof.GroupConv.lean ====
/-
  The first layer as a call of the grouped program: what its body leaves in each block of its outputs.
-/
module

public import proofs.«01_k».proof.Proof.GroupSearch

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 32 = 0 :=
  (fun t => by
    have ht : t.val < 32 := Nat.lt_of_lt_of_eq t.isLt N_2
    have e0 : (grid2.coords t 0).val = t.val / 1 % 32 := Pipeline.Grid.coords_val t 0 (by decide) rfl
    simp only [cond2_0, e0]
    word_cmp
   : ∀ t : Fin grid2.N, cond2_0 (grid2.coords t) ↔ t.val % 32 = 0)

abbrev VO2_4 : View sig .tc .vmem S4096x64 .f32 := (Memref.whole cc2_stg4_0 : Memref sig .tc .vmem S4096x64 .f32).view
abbrev VO2_5 : View sig .tc .vmem S2x64 .f32 := (Memref.whole cc2_stg5_0 : Memref sig .tc .vmem S2x64 .f32).view
abbrev ms2_0 (t : Fin cfg2.N) : Memref sig .tc .vmem S4096x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x3 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2x64 .f32 := win2_5.stage (cfg2.slots t 5)
abbrev hs2_5 (t : Fin cfg2.N) : (ms2_5 t).IsWhole := hstage2_5 ((cfg2.slots t 5).cast nbuf2_5)

set_option maxHeartbeats 1000000 in
noncomputable def kernelRun2_A (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : cond2_0 i)
    (x0 : Vec F S4096x128 .f32) (x1 : Vec F S128x3 .f32) (x2 : Vec F S128x64 .f32) (x3 : Vec F S1x64 .f32) :
    Σ' (L4 : List (View.Piece (Elt F) S4096x64 .f32)), { L5 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2__conv1_body i arg1 harg1 arg2 harg2 arg3 harg3 arg4 harg4 arg5 harg5 arg6 harg6) K } := by
  refine ⟨?_, ?_, fun E K => ?run⟩
  case run =>
    simp only [cc2__conv1_body_eq_skeleton]; unfold cc2__conv1_body_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover2_A_4 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : cond2_0 i)
    (x0 : Vec F S4096x128 .f32) (x1 : Vec F S128x3 .f32) (x2 : Vec F S128x64 .f32) (x3 : Vec F S1x64 .f32) (y : S4096x64.Idx) :
    ∃ pc ∈ (kernelRun2_A c i arg1 harg1 arg2 harg2 arg3 harg3 arg4 harg4 arg5 harg5 arg6 harg6 hc0 x0 x1 x2 x3).1, y ∈ pc.1.set :=
  View.cover_of_tiledL (kernelRun2_A c i arg1 harg1 arg2 harg2 arg3 harg3 arg4 harg4 arg5 harg5 arg6 harg6 hc0 x0 x1 x2 x3).1 S4096x64.size (by sl_kernel_rfl) y

def out2_A_4 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : cond2_0 i)
    (x0 : Vec F S4096x128 .f32) (x1 : Vec F S128x3 .f32) (x2 : Vec F S128x64 .f32) (x3 : Vec F S1x64 .f32) : Vec F S4096x64 .f32 :=
  VO2_4.read (Elt F) (VO2_4.writes (Elt F) VO2_4.junk (kernelRun2_A c i arg1 harg1 arg2 harg2 arg3 harg3 arg4 harg4 arg5 harg5 arg6 harg6 hc0 x0 x1 x2 x3).1)

theorem cover2_A_5 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : cond2_0 i)
    (x0 : Vec F S4096x128 .f32) (x1 : Vec F S128x3 .f32) (x2 : Vec F S128x64 .f32) (x3 : Vec F S1x64 .f32) (y : S2x64.Idx) :
    ∃ pc ∈ (kernelRun2_A c i arg1 harg1 arg2 harg2 arg3 harg3 arg4 harg4 arg5 harg5 arg6 harg6 hc0 x0 x1 x2 x3).2.1, y ∈ pc.1.set :=
  View.cover_of_tiledBy (kernelRun2_A c i arg1 harg1 arg2 harg2 arg3 harg3 arg4 harg4 arg5 harg5 arg6 harg6 hc0 x0 x1 x2 x3).2.1 ![1, 64] (by sl_kernel_rfl) y

def out2_A_5 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : cond2_0 i)
    (x0 : Vec F S4096x128 .f32) (x1 : Vec F S128x3 .f32) (x2 : Vec F S128x64 .f32) (x3 : Vec F S1x64 .f32) : Vec F S2x64 .f32 :=
  VO2_5.read (Elt F) (VO2_5.writes (Elt F) VO2_5.junk (kernelRun2_A c i arg1 harg1 arg2 harg2 arg3 harg3 arg4 harg4 arg5 harg5 arg6 harg6 hc0 x0 x1 x2 x3).2.1)

set_option maxHeartbeats 1000000 in
noncomputable def kernelRun2_B (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : ¬cond2_0 i)
    (x0 : Vec F S4096x128 .f32) (x1 : Vec F S128x3 .f32) (x2 : Vec F S128x64 .f32) (x3 : Vec F S1x64 .f32) (xo5 : Vec F S2x64 .f32) :
    Σ' (L4 : List (View.Piece (Elt F) S4096x64 .f32)), { L5 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)) -∗ K ⟨⟩))
          ⊢ wp frame (wpE (defs₀ (F := F)) Variants.none c none) E (cc2__conv1_body i arg1 harg1 arg2 harg2 arg3 harg3 arg4 harg4 arg5 harg5 arg6 harg6) K } := by
  refine ⟨?_, ?_, fun E K => ?run⟩
  case run =>
    simp only [cc2__conv1_body_eq_skeleton]; unfold cc2__conv1_body_skel
    simp only [k2_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem cover2_B_4 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : ¬cond2_0 i)
    (x0 : Vec F S4096x128 .f32) (x1 : Vec F S128x3 .f32) (x2 : Vec F S128x64 .f32) (x3 : Vec F S1x64 .f32) (xo5 : Vec F S2x64 .f32) (y : S4096x64.Idx) :
    ∃ pc ∈ (kernelRun2_B c i arg1 harg1 arg2 harg2 arg3 harg3 arg4 harg4 arg5 harg5 arg6 harg6 hc0 x0 x1 x2 x3 xo5).1, y ∈ pc.1.set :=
  View.cover_of_tiledL (kernelRun2_B c i arg1 harg1 arg2 harg2 arg3 harg3 arg4 harg4 arg5 harg5 arg6 harg6 hc0 x0 x1 x2 x3 xo5).1 S4096x64.size (by sl_kernel_rfl) y

def out2_B_4 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : ¬cond2_0 i)
    (x0 : Vec F S4096x128 .f32) (x1 : Vec F S128x3 .f32) (x2 : Vec F S128x64 .f32) (x3 : Vec F S1x64 .f32) (xo5 : Vec F S2x64 .f32) : Vec F S4096x64 .f32 :=
  VO2_4.read (Elt F) (VO2_4.writes (Elt F) VO2_4.junk (kernelRun2_B c i arg1 harg1 arg2 harg2 arg3 harg3 arg4 harg4 arg5 harg5 arg6 harg6 hc0 x0 x1 x2 x3 xo5).1)

theorem cover2_B_5 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : ¬cond2_0 i)
    (x0 : Vec F S4096x128 .f32) (x1 : Vec F S128x3 .f32) (x2 : Vec F S128x64 .f32) (x3 : Vec F S1x64 .f32) (xo5 : Vec F S2x64 .f32) (y : S2x64.Idx) :
    ∃ pc ∈ (kernelRun2_B c i arg1 harg1 arg2 harg2 arg3 harg3 arg4 harg4 arg5 harg5 arg6 harg6 hc0 x0 x1 x2 x3 xo5).2.1, y ∈ pc.1.set :=
  View.cover_of_tiledL (kernelRun2_B c i arg1 harg1 arg2 harg2 arg3 harg3 arg4 harg4 arg5 harg5 arg6 harg6 hc0 x0 x1 x2 x3 xo5).2.1 S1x64.size (by sl_kernel_rfl) y

def out2_B_5 (c : Dev nD) (i : grid2.Coords) (arg1 : Memref sig .tc .vmem S4096x128 .f32) (harg1 : arg1.IsWhole) (arg2 : Memref sig .tc .vmem S128x3 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S4096x64 .f32) (harg5 : arg5.IsWhole) (arg6 : Memref sig .tc .vmem S2x64 .f32) (harg6 : arg6.IsWhole) (hc0 : ¬cond2_0 i)
    (x0 : Vec F S4096x128 .f32) (x1 : Vec F S128x3 .f32) (x2 : Vec F S128x64 .f32) (x3 : Vec F S1x64 .f32) (xo5 : Vec F S2x64 .f32) : Vec F S2x64 .f32 :=
  VO2_5.read (Elt F) (VO2_5.writes (Elt F) VO2_5.junk (kernelRun2_B c i arg1 harg1 arg2 harg2 arg3 harg3 arg4 harg4 arg5 harg5 arg6 harg6 hc0 x0 x1 x2 x3 xo5).2.1)

def outsAt2 (c : Dev nD) : (n : ℕ) → n < cfg2.N → Vec F S4096x64 .f32 × Vec F S2x64 .f32
  | 0, hn => (out2_A_4 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩), out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩))
  | n + 1, hn =>
    if h0 : (n + 1) % 32 = 0 then
      (out2_A_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩), out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩))
    else
      (out2_B_4 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2, out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 32 = 0) :
    outsAt2 V c t.val t.isLt = (out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t), out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (iblk2 V c 0 t) (iblk2 V c 1 t) (iblk2 V c 2 t) (iblk2 V c 3 t)) := by
  obtain ⟨n, hn⟩ := t
  cases n with
  | zero => exact rfl
  | succ n => exact (dif_pos h0).trans rfl

theorem outsAt2_B (c : Dev nD) (t : Fin cfg2.N) (h0 : ¬t.val % 32 = 0) :
    outsAt2 V c t.val t.isLt = (out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2, out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2
  Φ _ := ΦG spec2 c
  q _ := fullShare
  owed _ := (K (F := F)).Otc c 1
  recorded _ := below (F := F) c 1

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_5_B (c : Dev nD) (t : Fin cfg2.N) (h0 : ¬t.val % 32 = 0) (d) :
    (dat2 V c).before 5 t d = (outsAt2 V c (t.val - 1) (Nat.lt_of_le_of_lt (Nat.sub_le _ _) t.isLt)).2 := by
  have hN : t.val < 32 := lt_of_lt_of_eq t.isLt (show cfg2.N = 32 from N_2)
  rw [Dat.before_out_kept _ 5 rfl t (by omega) (Bool.eq_false_iff.mpr fun h => by have := (flush2_5 _).mp h; dsimp only at this; omega)
    (fun _ => rfl) (fun _ _ => rfl)]
  dsimp only [dat2]

def bodyPre2 (c : Dev nD) (t : Fin cfg2.N) : sProp 𝕄 :=
  iprop((dat2 V c).Φ t.castSucc ∗ (dat2 V c).owesAt none t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt none t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt none t.succ = (dat2 V c).owesAt none t.castSucc from rfl,
    after2_0, after2_1, after2_2, after2_3, after2_4, after2_5]
  have hN : t.val < 32 := lt_of_lt_of_eq t.isLt (show cfg2.N = 32 from N_2)
  by_cases h0 : t.val % 32 = 0
  · rw [outsAt2_A V c t h0]
    unfold out2_A_4 out2_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (iblk2 V c 0 t) (iblk2 V c 1 t) (iblk2 V c 2 t) (iblk2 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_A_4 c _ _ _ _ _ _ _ _ _ _ _ _ _ _ _ _ _ _)
    unfold owns; iexists _; isplitr
    swap; · iexact H5
    ipureintro; exact View.read_writes_of_cover _ _ _ _ _ (cover2_A_5 c _ _ _ _ _ _ _ _ _ _ _ _ _ _ _ _ _ _)
  · rw [outsAt2_B V c t h0]
    simp only [before2_5_B V c t h0]
    unfold out2_B_4 out2_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun2_B c (grid2.coords t) _ _ _ _ _ _ _ _ _ _ _ _ (fun h => h0 ((hcond2_0 t).mp h)) (iblk2 V c 0 t) (iblk2 V c 1 t) (iblk2 V c 2 t) (iblk2 V c 3 t) _).2.2 Set.univ _)
    isplitl [H0]; · iexact H0
    isplitl [H1]; · iexact H1
    isplitl [H2]; · iexact H2
    isplitl [H3]; · iexact H3
    isplitl [H4]; · iexists _; iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover2_B_4 c _ _ _ _ _ _ _ _ _ _ _ _ _ _ _ _ _ _ _)
    unfold owns; iexists _; isplitr
    swap; · iexact H5
    ipureintro; exact View.read_writes_of_cover _ _ _ _ _ (cover2_B_5 c _ _ _ _ _ _ _ _ _ _ _ _ _ _ _ _ _ _ _)

theorem defs₀_row2 (t : Fin cfg2.N) :
    defs₀ (F := F) .tc cfg2.body (cfg2.bodyArgs t (cfg2.slots t)) = bodyAt2 t := by
  rfl

theorem body_obligation2 (c : Dev nD) : BodyObligation (dat2 (F := F) V c) (defs₀ (F := F)) Variants.none none Set.univ := fun t => by
  rw [bigSep_W2, bigSep_W2, defs₀_row2]
  exact triple_restated (sound_body2 V c t) rfl .rfl fun _ => .rfl

end Cert.Proof.Group

end
-- ==== Proof.GroupMid.lean ====
/-
  The second layer as a call of the grouped program: what its body leaves in each block of its outputs.
-/
module

public import proofs.«01_k».proof.Proof.GroupConv

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) (HIx 1) ℕ UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) (HIx 1) ℕ UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) (HIx 1) ℕ UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) (HIx 1) ℕ UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) (HIx 1) ℕ UU ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) (HIx 1) ℕ UU ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 32 = 0 :=
  (fun t => by
    have ht : t.val < 32 := Nat.lt_of_lt_of_eq t.isLt N_3
    have e0 : (grid3.coords t 0).val = t.val / 1 % 32 := Pipeline.Grid.coords_val t 0 (by decide) rfl
    simp only [cond3_0, e0]
    word_cmp
   : ∀ t : Fin grid3.N, cond3_0 (grid3.coords t) ↔ t.val % 32 = 0)

abbrev VO3_6 : View sig .tc .vmem S4096x64 .f32 := (Memref.whole cc3_stg6_0 : Memref sig .tc .vmem S4096x64 .f32).view
abbrev VO3_7 : View sig .tc .vmem S2x64 .f32 := (Memref.whole cc3_stg7_0 : Memref sig .tc .vmem S2x64 .f32).view
abbrev ms3_0 (t : Fin cfg3.N) : Memref sig .tc .vmem S4096x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S64x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S4096x64 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S2x64 .f32 := win3_7.stage (cfg3.slots t 7)
abbrev hs3_7 (t : Fin cfg3.N) : (ms3_7 t).IsWhole := hstage3_7 ((cfg3.slots t 7).cast nbuf3_7)

set_option maxHeartbeats 1000000 in
noncomputable def kernelRun3_A (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : cond3_0 i)
    (x0 : Vec F S4096x64 .f32) (x1 : Vec F S2x64 .f32) (x2 : Vec F S1x64 .f32) (x3 : Vec F S1x64 .f32) (x4 : Vec F S64x64 .f32) (x5 : Vec F S1x64 .f32) :
    Σ' (L6 : List (View.Piece (Elt F) S4096x64 .f32)), { L7 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_body i arg1 harg1 arg2 harg2 arg3 harg3 arg4 harg4 arg5 harg5 arg6 harg6 arg7 harg7 arg8 harg8) K } := by
  refine ⟨?_, ?_, fun E K => ?run⟩
  case run =>
    simp only [cc3_body_eq_skeleton]; unfold cc3_body_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover3_A_6 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : cond3_0 i)
    (x0 : Vec F S4096x64 .f32) (x1 : Vec F S2x64 .f32) (x2 : Vec F S1x64 .f32) (x3 : Vec F S1x64 .f32) (x4 : Vec F S64x64 .f32) (x5 : Vec F S1x64 .f32) (y : S4096x64.Idx) :
    ∃ pc ∈ (kernelRun3_A c i arg1 harg1 arg2 harg2 arg3 harg3 arg4 harg4 arg5 harg5 arg6 harg6 arg7 harg7 arg8 harg8 hc0 x0 x1 x2 x3 x4 x5).1, y ∈ pc.1.set :=
  View.cover_of_tiledL (kernelRun3_A c i arg1 harg1 arg2 harg2 arg3 harg3 arg4 harg4 arg5 harg5 arg6 harg6 arg7 harg7 arg8 harg8 hc0 x0 x1 x2 x3 x4 x5).1 S4096x64.size (by sl_kernel_rfl) y

def out3_A_6 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : cond3_0 i)
    (x0 : Vec F S4096x64 .f32) (x1 : Vec F S2x64 .f32) (x2 : Vec F S1x64 .f32) (x3 : Vec F S1x64 .f32) (x4 : Vec F S64x64 .f32) (x5 : Vec F S1x64 .f32) : Vec F S4096x64 .f32 :=
  VO3_6.read (Elt F) (VO3_6.writes (Elt F) VO3_6.junk (kernelRun3_A c i arg1 harg1 arg2 harg2 arg3 harg3 arg4 harg4 arg5 harg5 arg6 harg6 arg7 harg7 arg8 harg8 hc0 x0 x1 x2 x3 x4 x5).1)

theorem cover3_A_7 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : cond3_0 i)
    (x0 : Vec F S4096x64 .f32) (x1 : Vec F S2x64 .f32) (x2 : Vec F S1x64 .f32) (x3 : Vec F S1x64 .f32) (x4 : Vec F S64x64 .f32) (x5 : Vec F S1x64 .f32) (y : S2x64.Idx) :
    ∃ pc ∈ (kernelRun3_A c i arg1 harg1 arg2 harg2 arg3 harg3 arg4 harg4 arg5 harg5 arg6 harg6 arg7 harg7 arg8 harg8 hc0 x0 x1 x2 x3 x4 x5).2.1, y ∈ pc.1.set :=
  View.cover_of_tiledBy (kernelRun3_A c i arg1 harg1 arg2 harg2 arg3 harg3 arg4 harg4 arg5 harg5 arg6 harg6 arg7 harg7 arg8 harg8 hc0 x0 x1 x2 x3 x4 x5).2.1 ![1, 64] (by sl_kernel_rfl) y

def out3_A_7 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : cond3_0 i)
    (x0 : Vec F S4096x64 .f32) (x1 : Vec F S2x64 .f32) (x2 : Vec F S1x64 .f32) (x3 : Vec F S1x64 .f32) (x4 : Vec F S64x64 .f32) (x5 : Vec F S1x64 .f32) : Vec F S2x64 .f32 :=
  VO3_7.read (Elt F) (VO3_7.writes (Elt F) VO3_7.junk (kernelRun3_A c i arg1 harg1 arg2 harg2 arg3 harg3 arg4 harg4 arg5 harg5 arg6 harg6 arg7 harg7 arg8 harg8 hc0 x0 x1 x2 x3 x4 x5).2.1)

set_option maxHeartbeats 1000000 in
noncomputable def kernelRun3_B (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : ¬cond3_0 i)
    (x0 : Vec F S4096x64 .f32) (x1 : Vec F S2x64 .f32) (x2 : Vec F S1x64 .f32) (x3 : Vec F S1x64 .f32) (x4 : Vec F S64x64 .f32) (x5 : Vec F S1x64 .f32) (xo7 : Vec F S2x64 .f32) :
    Σ' (L6 : List (View.Piece (Elt F) S4096x64 .f32)), { L7 : List (View.Piece (Elt F) S2x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc3_body i arg1 harg1 arg2 harg2 arg3 harg3 arg4 harg4 arg5 harg5 arg6 harg6 arg7 harg7 arg8 harg8) K } := by
  refine ⟨?_, ?_, fun E K => ?run⟩
  case run =>
    simp only [cc3_body_eq_skeleton]; unfold cc3_body_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover3_B_6 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : ¬cond3_0 i)
    (x0 : Vec F S4096x64 .f32) (x1 : Vec F S2x64 .f32) (x2 : Vec F S1x64 .f32) (x3 : Vec F S1x64 .f32) (x4 : Vec F S64x64 .f32) (x5 : Vec F S1x64 .f32) (xo7 : Vec F S2x64 .f32) (y : S4096x64.Idx) :
    ∃ pc ∈ (kernelRun3_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).1 S4096x64.size (by sl_kernel_rfl) y

def out3_B_6 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : ¬cond3_0 i)
    (x0 : Vec F S4096x64 .f32) (x1 : Vec F S2x64 .f32) (x2 : Vec F S1x64 .f32) (x3 : Vec F S1x64 .f32) (x4 : Vec F S64x64 .f32) (x5 : Vec F S1x64 .f32) (xo7 : Vec F S2x64 .f32) : Vec F S4096x64 .f32 :=
  VO3_6.read (Elt F) (VO3_6.writes (Elt F) VO3_6.junk (kernelRun3_B c i arg1 harg1 arg2 harg2 arg3 harg3 arg4 harg4 arg5 harg5 arg6 harg6 arg7 harg7 arg8 harg8 hc0 x0 x1 x2 x3 x4 x5 xo7).1)

theorem cover3_B_7 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : ¬cond3_0 i)
    (x0 : Vec F S4096x64 .f32) (x1 : Vec F S2x64 .f32) (x2 : Vec F S1x64 .f32) (x3 : Vec F S1x64 .f32) (x4 : Vec F S64x64 .f32) (x5 : Vec F S1x64 .f32) (xo7 : Vec F S2x64 .f32) (y : S2x64.Idx) :
    ∃ pc ∈ (kernelRun3_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun3_B c i arg1 harg1 arg2 harg2 arg3 harg3 arg4 harg4 arg5 harg5 arg6 harg6 arg7 harg7 arg8 harg8 hc0 x0 x1 x2 x3 x4 x5 xo7).2.1 S1x64.size (by sl_kernel_rfl) y

def out3_B_7 (c : Dev nD) (i : grid3.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S4096x64 .f32) (harg7 : arg7.IsWhole) (arg8 : Memref sig .tc .vmem S2x64 .f32) (harg8 : arg8.IsWhole) (hc0 : ¬cond3_0 i)
    (x0 : Vec F S4096x64 .f32) (x1 : Vec F S2x64 .f32) (x2 : Vec F S1x64 .f32) (x3 : Vec F S1x64 .f32) (x4 : Vec F S64x64 .f32) (x5 : Vec F S1x64 .f32) (xo7 : Vec F S2x64 .f32) : Vec F S2x64 .f32 :=
  VO3_7.read (Elt F) (VO3_7.writes (Elt F) VO3_7.junk (kernelRun3_B c i arg1 harg1 arg2 harg2 arg3 harg3 arg4 harg4 arg5 harg5 arg6 harg6 arg7 harg7 arg8 harg8 hc0 x0 x1 x2 x3 x4 x5 xo7).2.1)

def outsAt3 (c : Dev nD) : (n : ℕ) → n < cfg3.N → Vec F S4096x64 .f32 × Vec F S2x64 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) ((hcond3_0 ⟨0, hn⟩).mpr (Nat.zero_mod _)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 32 = 0 then
      (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) ((hcond3_0 ⟨n + 1, hn⟩).mpr h0) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2)

theorem outsAt3_A (c : Dev nD) (t : Fin cfg3.N) (h0 : t.val % 32 = 0) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans rfl

theorem outsAt3_B (c : Dev nD) (t : Fin cfg3.N) (h0 : ¬t.val % 32 = 0) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat3 (c : Dev nD) : Dat τ (Elt F) (HIx 1) ℕ UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2
  Φ _ := ΦG spec3 c
  q _ := fullShare
  owed _ := (K (F := F)).Otc c 1
  recorded _ := below (F := F) c 1

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_7_B (c : Dev nD) (t : Fin cfg3.N) (h0 : ¬t.val % 32 = 0) (d) :
    (dat3 V c).before 7 t d = (outsAt3 V c (t.val - 1) (Nat.lt_of_le_of_lt (Nat.sub_le _ _) t.isLt)).2 := by
  have hN : t.val < 32 := lt_of_lt_of_eq t.isLt (show cfg3.N = 32 from N_3)
  rw [Dat.before_out_kept _ 7 rfl t (by omega) (Bool.eq_false_iff.mpr fun h => by have := (flush3_7 _).mp h; dsimp only at this; omega)
    (fun _ => rfl) (fun _ _ => rfl)]
  dsimp only [dat3]

def bodyPre3 (c : Dev nD) (t : Fin cfg3.N) : sProp 𝕄 :=
  iprop((dat3 V c).Φ t.castSucc ∗ (dat3 V c).owesAt none t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

def bodyPost3 (c : Dev nD) (t : Fin cfg3.N) : sProp 𝕄 :=
  iprop((dat3 V c).Φ t.succ ∗ (dat3 V c).owesAt none t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t)
    ∗ owns (c : Thread nD τ) (ms3_6 t) fullShare ((dat3 V c).after 6 t)
    ∗ owns (c : Thread nD τ) (ms3_7 t) fullShare ((dat3 V c).after 7 t))

set_option maxHeartbeats 1600000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt none t.succ = (dat3 V c).owesAt none t.castSucc from rfl,
    after3_0, after3_1, after3_2, after3_3, after3_4, after3_5, after3_6, after3_7]
  have hN : t.val < 32 := lt_of_lt_of_eq t.isLt (show cfg3.N = 32 from N_3)
  by_cases h0 : t.val % 32 = 0
  · rw [outsAt3_A V c t h0]
    unfold out3_A_6 out3_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ ((hcond3_0 t).mpr h0) (iblk3 V c 0 t) (iblk3 V c 1 t) (iblk3 V c 2 t) (iblk3 V c 3 t) (iblk3 V c 4 t) (iblk3 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_A_6 c _ _ _ _ _ _ _ _ _ _ _ _ _ _ _ _ _ _ _ _ _ _ _ _)
    unfold owns; iexists _; isplitr
    swap; · iexact H7
    ipureintro; exact View.read_writes_of_cover _ _ _ _ _ (cover3_A_7 c _ _ _ _ _ _ _ _ _ _ _ _ _ _ _ _ _ _ _ _ _ _ _ _)
  · rw [outsAt3_B V c t h0]
    simp only [before3_7_B V c t h0]
    unfold out3_B_6 out3_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_B c (grid3.coords t) _ _ _ _ _ _ _ _ _ _ _ _ _ _ _ _ (fun h => h0 ((hcond3_0 t).mp h)) (iblk3 V c 0 t) (iblk3 V c 1 t) (iblk3 V c 2 t) (iblk3 V c 3 t) (iblk3 V c 4 t) (iblk3 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover3_B_6 c _ _ _ _ _ _ _ _ _ _ _ _ _ _ _ _ _ _ _ _ _ _ _ _ _)
    unfold owns; iexists _; isplitr
    swap; · iexact H7
    ipureintro; exact View.read_writes_of_cover _ _ _ _ _ (cover3_B_7 c _ _ _ _ _ _ _ _ _ _ _ _ _ _ _ _ _ _ _ _ _ _ _ _ _)

theorem defs₀_row3 (t : Fin cfg3.N) :
    defs₀ (F := F) .tc cfg3.body (cfg3.bodyArgs t (cfg3.slots t)) = bodyAt3 t := by
  rfl

theorem body_obligation3 (c : Dev nD) : BodyObligation (dat3 (F := F) V c) (defs₀ (F := F)) Variants.none none Set.univ := fun t => by
  rw [bigSep_W3, bigSep_W3, defs₀_row3]
  exact triple_restated (sound_body3 V c t) rfl .rfl fun _ => .rfl

end Cert.Proof.Group

end
-- ==== Proof.GroupLast.lean ====
/-
  The third layer as a call of the grouped program: what its body leaves in each block of its outputs.
-/
module

public import proofs.«01_k».proof.Proof.GroupMid

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) (HIx 1) ℕ UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) (HIx 1) ℕ UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) (HIx 1) ℕ UU ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) (HIx 1) ℕ UU ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) (HIx 1) ℕ UU ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) (HIx 1) ℕ UU ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 32 = 0 :=
  (fun t => by
    have ht : t.val < 32 := Nat.lt_of_lt_of_eq t.isLt N_4
    have e0 : (grid4.coords t 0).val = t.val / 1 % 32 := Pipeline.Grid.coords_val t 0 (by decide) rfl
    simp only [cond4_0, e0]
    word_cmp
   : ∀ t : Fin grid4.N, cond4_0 (grid4.coords t) ↔ t.val % 32 = 0)

abbrev VO4_6 : View sig .tc .vmem S4096x128 .f32 := (Memref.whole cc4_stg6_0 : Memref sig .tc .vmem S4096x128 .f32).view
abbrev VO4_7 : View sig .tc .vmem S2x128 .f32 := (Memref.whole cc4_stg7_0 : Memref sig .tc .vmem S2x128 .f32).view
abbrev ms4_0 (t : Fin cfg4.N) : Memref sig .tc .vmem S4096x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S64x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S4096x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S2x128 .f32 := win4_7.stage (cfg4.slots t 7)
abbrev hs4_7 (t : Fin cfg4.N) : (ms4_7 t).IsWhole := hstage4_7 ((cfg4.slots t 7).cast nbuf4_7)

set_option maxHeartbeats 1000000 in
noncomputable def kernelRun4_A (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : cond4_0 i)
    (x0 : Vec F S4096x64 .f32) (x1 : Vec F S2x64 .f32) (x2 : Vec F S1x64 .f32) (x3 : Vec F S1x64 .f32) (x4 : Vec F S64x128 .f32) (x5 : Vec F S1x128 .f32) :
    Σ' (L6 : List (View.Piece (Elt F) S4096x128 .f32)), { L7 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_body i arg1 harg1 arg2 harg2 arg3 harg3 arg4 harg4 arg5 harg5 arg6 harg6 arg7 harg7 arg8 harg8) K } := by
  refine ⟨?_, ?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover4_A_6 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : cond4_0 i)
    (x0 : Vec F S4096x64 .f32) (x1 : Vec F S2x64 .f32) (x2 : Vec F S1x64 .f32) (x3 : Vec F S1x64 .f32) (x4 : Vec F S64x128 .f32) (x5 : Vec F S1x128 .f32) (y : S4096x128.Idx) :
    ∃ pc ∈ (kernelRun4_A c i arg1 harg1 arg2 harg2 arg3 harg3 arg4 harg4 arg5 harg5 arg6 harg6 arg7 harg7 arg8 harg8 hc0 x0 x1 x2 x3 x4 x5).1, y ∈ pc.1.set :=
  View.cover_of_tiledL (kernelRun4_A c i arg1 harg1 arg2 harg2 arg3 harg3 arg4 harg4 arg5 harg5 arg6 harg6 arg7 harg7 arg8 harg8 hc0 x0 x1 x2 x3 x4 x5).1 S4096x128.size (by sl_kernel_rfl) y

def out4_A_6 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : cond4_0 i)
    (x0 : Vec F S4096x64 .f32) (x1 : Vec F S2x64 .f32) (x2 : Vec F S1x64 .f32) (x3 : Vec F S1x64 .f32) (x4 : Vec F S64x128 .f32) (x5 : Vec F S1x128 .f32) : Vec F S4096x128 .f32 :=
  VO4_6.read (Elt F) (VO4_6.writes (Elt F) VO4_6.junk (kernelRun4_A c i arg1 harg1 arg2 harg2 arg3 harg3 arg4 harg4 arg5 harg5 arg6 harg6 arg7 harg7 arg8 harg8 hc0 x0 x1 x2 x3 x4 x5).1)

theorem cover4_A_7 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : cond4_0 i)
    (x0 : Vec F S4096x64 .f32) (x1 : Vec F S2x64 .f32) (x2 : Vec F S1x64 .f32) (x3 : Vec F S1x64 .f32) (x4 : Vec F S64x128 .f32) (x5 : Vec F S1x128 .f32) (y : S2x128.Idx) :
    ∃ pc ∈ (kernelRun4_A c i arg1 harg1 arg2 harg2 arg3 harg3 arg4 harg4 arg5 harg5 arg6 harg6 arg7 harg7 arg8 harg8 hc0 x0 x1 x2 x3 x4 x5).2.1, y ∈ pc.1.set :=
  View.cover_of_tiledBy (kernelRun4_A c i arg1 harg1 arg2 harg2 arg3 harg3 arg4 harg4 arg5 harg5 arg6 harg6 arg7 harg7 arg8 harg8 hc0 x0 x1 x2 x3 x4 x5).2.1 ![1, 128] (by sl_kernel_rfl) y

def out4_A_7 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : cond4_0 i)
    (x0 : Vec F S4096x64 .f32) (x1 : Vec F S2x64 .f32) (x2 : Vec F S1x64 .f32) (x3 : Vec F S1x64 .f32) (x4 : Vec F S64x128 .f32) (x5 : Vec F S1x128 .f32) : Vec F S2x128 .f32 :=
  VO4_7.read (Elt F) (VO4_7.writes (Elt F) VO4_7.junk (kernelRun4_A c i arg1 harg1 arg2 harg2 arg3 harg3 arg4 harg4 arg5 harg5 arg6 harg6 arg7 harg7 arg8 harg8 hc0 x0 x1 x2 x3 x4 x5).2.1)

set_option maxHeartbeats 1000000 in
noncomputable def kernelRun4_B (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : ¬cond4_0 i)
    (x0 : Vec F S4096x64 .f32) (x1 : Vec F S2x64 .f32) (x2 : Vec F S1x64 .f32) (x3 : Vec F S1x64 .f32) (x4 : Vec F S64x128 .f32) (x5 : Vec F S1x128 .f32) (xo7 : Vec F S2x128 .f32) :
    Σ' (L6 : List (View.Piece (Elt F) S4096x128 .f32)), { L7 : List (View.Piece (Elt F) S2x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xo7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc4_body i arg1 harg1 arg2 harg2 arg3 harg3 arg4 harg4 arg5 harg5 arg6 harg6 arg7 harg7 arg8 harg8) K } := by
  refine ⟨?_, ?_, fun E K => ?run⟩
  case run =>
    simp only [cc4_body_eq_skeleton]; unfold cc4_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact H7

theorem cover4_B_6 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : ¬cond4_0 i)
    (x0 : Vec F S4096x64 .f32) (x1 : Vec F S2x64 .f32) (x2 : Vec F S1x64 .f32) (x3 : Vec F S1x64 .f32) (x4 : Vec F S64x128 .f32) (x5 : Vec F S1x128 .f32) (xo7 : Vec F S2x128 .f32) (y : S4096x128.Idx) :
    ∃ pc ∈ (kernelRun4_B c i arg1 harg1 arg2 harg2 arg3 harg3 arg4 harg4 arg5 harg5 arg6 harg6 arg7 harg7 arg8 harg8 hc0 x0 x1 x2 x3 x4 x5 xo7).1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).1 S4096x128.size (by sl_kernel_rfl) y

def out4_B_6 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : ¬cond4_0 i)
    (x0 : Vec F S4096x64 .f32) (x1 : Vec F S2x64 .f32) (x2 : Vec F S1x64 .f32) (x3 : Vec F S1x64 .f32) (x4 : Vec F S64x128 .f32) (x5 : Vec F S1x128 .f32) (xo7 : Vec F S2x128 .f32) : Vec F S4096x128 .f32 :=
  VO4_6.read (Elt F) (VO4_6.writes (Elt F) VO4_6.junk (kernelRun4_B c i arg1 harg1 arg2 harg2 arg3 harg3 arg4 harg4 arg5 harg5 arg6 harg6 arg7 harg7 arg8 harg8 hc0 x0 x1 x2 x3 x4 x5 xo7).1)

theorem cover4_B_7 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : ¬cond4_0 i)
    (x0 : Vec F S4096x64 .f32) (x1 : Vec F S2x64 .f32) (x2 : Vec F S1x64 .f32) (x3 : Vec F S1x64 .f32) (x4 : Vec F S64x128 .f32) (x5 : Vec F S1x128 .f32) (xo7 : Vec F S2x128 .f32) (y : S2x128.Idx) :
    ∃ pc ∈ (kernelRun4_B c i arg1 harg1 arg2 harg2 arg3 harg3 arg4 harg4 arg5 harg5 arg6 harg6 arg7 harg7 arg8 harg8 hc0 x0 x1 x2 x3 x4 x5 xo7).2.1, y ∈ pc.1.set :=
  View.cover_of_tiledL (kernelRun4_B c i arg1 harg1 arg2 harg2 arg3 harg3 arg4 harg4 arg5 harg5 arg6 harg6 arg7 harg7 arg8 harg8 hc0 x0 x1 x2 x3 x4 x5 xo7).2.1 S1x128.size (by sl_kernel_rfl) y

def out4_B_7 (c : Dev nD) (i : grid4.Coords) (arg1 : Memref sig .tc .vmem S4096x64 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S1x128 .f32) (harg6 : arg6.IsWhole) (arg7 : Memref sig .tc .vmem S4096x128 .f32) (harg7 : arg7.IsWhole) (arg8 : Memref sig .tc .vmem S2x128 .f32) (harg8 : arg8.IsWhole) (hc0 : ¬cond4_0 i)
    (x0 : Vec F S4096x64 .f32) (x1 : Vec F S2x64 .f32) (x2 : Vec F S1x64 .f32) (x3 : Vec F S1x64 .f32) (x4 : Vec F S64x128 .f32) (x5 : Vec F S1x128 .f32) (xo7 : Vec F S2x128 .f32) : Vec F S2x128 .f32 :=
  VO4_7.read (Elt F) (VO4_7.writes (Elt F) VO4_7.junk (kernelRun4_B c i arg1 harg1 arg2 harg2 arg3 harg3 arg4 harg4 arg5 harg5 arg6 harg6 arg7 harg7 arg8 harg8 hc0 x0 x1 x2 x3 x4 x5 xo7).2.1)

def outsAt4 (c : Dev nD) : (n : ℕ) → n < cfg4.N → Vec F S4096x128 .f32 × Vec F S2x128 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 32 = 0 then
      (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) ((hcond4_0 ⟨n + 1, hn⟩).mpr h0) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (fun h => h0 ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2)

theorem outsAt4_A (c : Dev nD) (t : Fin cfg4.N) (h0 : t.val % 32 = 0) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans rfl

theorem outsAt4_B (c : Dev nD) (t : Fin cfg4.N) (h0 : ¬t.val % 32 = 0) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

def dat4 (c : Dev nD) : Dat τ (Elt F) (HIx 1) ℕ UU ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2
  Φ _ := ΦG spec4 c
  q _ := fullShare
  owed _ := (K (F := F)).Otc c 1
  recorded _ := below (F := F) c 1

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_7_B (c : Dev nD) (t : Fin cfg4.N) (h0 : ¬t.val % 32 = 0) (d) :
    (dat4 V c).before 7 t d = (outsAt4 V c (t.val - 1) (Nat.lt_of_le_of_lt (Nat.sub_le _ _) t.isLt)).2 := by
  have hN : t.val < 32 := lt_of_lt_of_eq t.isLt (show cfg4.N = 32 from N_4)
  rw [Dat.before_out_kept _ 7 rfl t (by omega) (Bool.eq_false_iff.mpr fun h => by have := (flush4_7 _).mp h; dsimp only at this; omega)
    (fun _ => rfl) (fun _ _ => rfl)]
  dsimp only [dat4]

def bodyPre4 (c : Dev nD) (t : Fin cfg4.N) : sProp 𝕄 :=
  iprop((dat4 V c).Φ t.castSucc ∗ (dat4 V c).owesAt none t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

def bodyPost4 (c : Dev nD) (t : Fin cfg4.N) : sProp 𝕄 :=
  iprop((dat4 V c).Φ t.succ ∗ (dat4 V c).owesAt none t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t)
    ∗ owns (c : Thread nD τ) (ms4_6 t) fullShare ((dat4 V c).after 6 t)
    ∗ owns (c : Thread nD τ) (ms4_7 t) fullShare ((dat4 V c).after 7 t))

set_option maxHeartbeats 1600000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt none t.succ = (dat4 V c).owesAt none t.castSucc from rfl,
    after4_0, after4_1, after4_2, after4_3, after4_4, after4_5, after4_6, after4_7]
  have hN : t.val < 32 := lt_of_lt_of_eq t.isLt (show cfg4.N = 32 from N_4)
  by_cases h0 : t.val % 32 = 0
  · rw [outsAt4_A V c t h0]
    unfold out4_A_6 out4_A_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ ((hcond4_0 t).mpr h0) (iblk4 V c 0 t) (iblk4 V c 1 t) (iblk4 V c 2 t) (iblk4 V c 3 t) (iblk4 V c 4 t) (iblk4 V c 5 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_A_6 c _ _ _ _ _ _ _ _ _ _ _ _ _ _ _ _ _ _ _ _ _ _ _ _)
    unfold owns; iexists _; isplitr
    swap; · iexact H7
    ipureintro; exact View.read_writes_of_cover _ _ _ _ _ (cover4_A_7 c _ _ _ _ _ _ _ _ _ _ _ _ _ _ _ _ _ _ _ _ _ _ _ _)
  · rw [outsAt4_B V c t h0]
    simp only [before4_7_B V c t h0]
    unfold out4_B_6 out4_B_7; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_B c (grid4.coords t) _ _ _ _ _ _ _ _ _ _ _ _ _ _ _ _ (fun h => h0 ((hcond4_0 t).mp h)) (iblk4 V c 0 t) (iblk4 V c 1 t) (iblk4 V c 2 t) (iblk4 V c 3 t) (iblk4 V c 4 t) (iblk4 V c 5 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover4_B_6 c _ _ _ _ _ _ _ _ _ _ _ _ _ _ _ _ _ _ _ _ _ _ _ _ _)
    unfold owns; iexists _; isplitr
    swap; · iexact H7
    ipureintro; exact View.read_writes_of_cover _ _ _ _ _ (cover4_B_7 c _ _ _ _ _ _ _ _ _ _ _ _ _ _ _ _ _ _ _ _ _ _ _ _ _)

theorem defs₀_row4 (t : Fin cfg4.N) :
    defs₀ (F := F) .tc cfg4.body (cfg4.bodyArgs t (cfg4.slots t)) = bodyAt4 t := by
  rfl

theorem body_obligation4 (c : Dev nD) : BodyObligation (dat4 (F := F) V c) (defs₀ (F := F)) Variants.none none Set.univ := fun t => by
  rw [bigSep_W4, bigSep_W4, defs₀_row4]
  exact triple_restated (sound_body4 V c t) rfl .rfl fun _ => .rfl

end Cert.Proof.Group

end
-- ==== Proof.GroupNorm.lean ====
/-
  The last normalisation as a call of the grouped program: what its body leaves in each block of its output.
-/
module

public import proofs.«01_k».proof.Proof.GroupLast

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) (HIx 1) ℕ UU ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) (HIx 1) ℕ UU ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) (HIx 1) ℕ UU ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) (HIx 1) ℕ UU ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev r5_0 : Rect S4096x128 := Rect.unit (s := S4096x128) ![0, 0] S4096x128.size inb_S4096x128_S4096x128_0_0
abbrev r5_1 : Rect S2x128 := Rect.unit (s := S2x128) ![0, 0] S2x128.size inb_S2x128_S2x128_0_0
abbrev r5_2 : Rect S1x128 := Rect.unit (s := S1x128) ![0, 0] S1x128.size inb_S1x128_S1x128_0_0

def out5_4 (x0 : Vec F S4096x128 .f32) (x1 : Vec F S2x128 .f32) (x2 : Vec F S1x128 .f32) (x3 : Vec F S1x128 .f32) : Vec F S4096x128 .f32 :=
  View.canon [⟨r5_0, k5_pay1 (View.ld x0 r5_0) (View.ld x1 r5_1) (View.ld x2 r5_2) (View.ld x3 r5_2)⟩]

theorem cover5_4 (p0 : Vec F S4096x128 .f32) (y : S4096x128.Idx) :
    ∃ pc ∈ ([⟨r5_0, p0⟩] : List (View.Piece (Elt F) S4096x128 .f32)), y ∈ pc.1.set :=
  View.cover_of_tiled [⟨r5_0, p0⟩] S4096x128.size (by rfl) y

set_option maxHeartbeats 1000000 in
theorem sound_kernel5 (c : Dev nD) (E : Set ℕ) (i : grid5.Coords) (arg1 : Memref sig .tc .vmem S4096x128 .f32) (harg1 : arg1.IsWhole) (arg2 : Memref sig .tc .vmem S2x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S4096x128 .f32) (harg5 : arg5.IsWhole)
    (x0 : Vec F S4096x128 .f32) (x1 : Vec F S2x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5_body i arg1 harg1 arg2 harg2 arg3 harg3 arg4 harg4 arg5 harg5) K := by
  simp only [cc5_body_eq_skeleton]; unfold cc5_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

def dat5 (c : Dev nD) : Dat τ (Elt F) (HIx 1) ℕ UU ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := ΦG spec5 c
  q _ := fullShare
  owed _ := (K (F := F)).Otc c 1
  recorded _ := below (F := F) c 1

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt none t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt none t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt none t.succ = (dat5 V c).owesAt none t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row5 (t : Fin cfg5.N) :
    defs₀ (F := F) .tc cfg5.body (cfg5.bodyArgs t (cfg5.slots t)) = bodyAt5 t := by
  rfl

theorem body_obligation5 (c : Dev nD) : BodyObligation (dat5 (F := F) V c) (defs₀ (F := F)) Variants.none none Set.univ := fun t => by
  rw [bigSep_W5, bigSep_W5, defs₀_row5]
  exact triple_restated (sound_body5 V c t) rfl .rfl fun _ => .rfl

end Cert.Proof.Group

end
-- ==== Proof.GroupTile.lean ====
/-
  The row gather as a call of the grouped program, one task at a time. The table, the row numbers and what the output
  held before are parameters, as for the gather alone.
-/
module

public import proofs.«01_k».proof.Proof.GroupBase
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.GroupIdeal
public import proofs.«01_k».proof.Proof.Gen.GroupIdeal.Skeleton

@[expose] public section

noncomputable section

namespace Cert.Proof.Group

open Cert.GroupIdeal Cert.GroupIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The buffers -/

abbrev tLoc (d : Dev nD) : Loc nD τ sig := (SparseCore.T d).loc main_v9
abbrev iLoc (d : Dev nD) : Loc nD τ sig := (SparseCore.T d).loc main_v10
abbrev oLoc (d : Dev nD) : Loc nD τ sig := (SparseCore.T d).loc main_v11

/-- The contents of the table, of the row numbers, of the output. -/
abbrev Tbl (F : FTy → Type) : Type := S32768x128.Idx → Elt F .f32
abbrev Ixs (F : FTy → Type) : Type := S1024x128.Idx → Elt F .i32
abbrev Out (F : FTy → Type) : Type := S131072x128.Idx → Elt F .f32

abbrev tB (d : Dev nD) (f : Tbl F) : Buf (Elt F) (tLoc d) := f
abbrev iB (d : Dev nD) (f : Ixs F) : Buf (Elt F) (iLoc d) := f
abbrev oB (d : Dev nD) (f : Out F) : Buf (Elt F) (oLoc d) := f

local notation "tV" => (Memref.whole Cert.GroupIdeal.main_v9_scv : Memref Cert.GroupIdeal.sig Kind.scVector Space.hbm Cert.GroupIdeal.S32768x128 EltTy.f32)
local notation "iV" => (Memref.whole Cert.GroupIdeal.main_v10_scv : Memref Cert.GroupIdeal.sig Kind.scVector Space.hbm Cert.GroupIdeal.S1024x128 EltTy.i32)
local notation "oV" => (Memref.whole Cert.GroupIdeal.main_v11_scv : Memref Cert.GroupIdeal.sig Kind.scVector Space.hbm Cert.GroupIdeal.S131072x128 EltTy.f32)
local notation "sV" => (Memref.whole Cert.GroupIdeal.cc1_scratch0 : Memref Cert.GroupIdeal.sig Kind.scVector Space.vmem Cert.GroupIdeal.S32x128 EltTy.i32)
local notation "rV" => (Memref.whole Cert.GroupIdeal.cc1_scratch1 : Memref Cert.GroupIdeal.sig Kind.scVector Space.vmem Cert.GroupIdeal.S128x128 EltTy.f32)

/-- Task `w`'s 32 rows of row numbers. -/
def iSet (w : ℕ) : Finset S1024x128.Idx := Finset.univ.filter fun x => (x 0).val / 32 = w
/-- Task `w`'s 4096 rows of the output. -/
def oSet (w : ℕ) : Finset S131072x128.Idx := Finset.univ.filter fun x => (x 0).val / 4096 = w

theorem mem_iSet {w : ℕ} {x : S1024x128.Idx} : x ∈ iSet w ↔ (x 0).val / 32 = w := by simp [iSet]
theorem mem_oSet {w : ℕ} {x : S131072x128.Idx} : x ∈ oSet w ↔ (x 0).val / 4096 = w := by simp [oSet]

/-- The table's row a word names (the last row for a word past the table). -/
def rowOf (v : BitVec 32) : Fin 32768 := ⟨min v.toNat 32767, by omega⟩

/-- The gathered rows: row `n` of the output is the table's row that word `n` of the row numbers names. -/
def gathered (tb : Tbl F) (ix : Ixs F) : Out F := fun j =>
  tb (ix2 (rowOf (ix (ix2 (⟨(j 0).val / 128, by have := (j 0).isLt; change _ < 131072 at this; omega⟩ : Fin 1024)
    (⟨(j 0).val % 128, Nat.mod_lt _ (by omega)⟩ : Fin 128)))) (j 1))

/-- Every row number names a row of the table. -/
def InRows (ix : Ixs F) : Prop := ∀ x, (ix x : BitVec 32).toNat < 32768

/-- The output once `k` of task `w`'s 128-row pieces have been written. -/
def mix (tb : Tbl F) (ix : Ixs F) (f : Out F) (w k : ℕ) : Out F := fun j =>
  if (j 0).val < 4096 * w + 128 * k then gathered tb ix j else f j

/-- Task `w`'s share of the table. -/
abbrev tq (w : Fin 32) : PosShare TreeShare := pieceOf fullShare 32 (by decide) w

/-- The task of tile `i` of SparseCore `c`. -/
def wid (c : Fin 2) (i : Fin 16) : Fin 32 := ⟨2 * i.val + c.val, by omega⟩

section Pts
abbrev tPts (d : Dev nD) (tb : Tbl F) (w : Fin 32) : sProp 𝕄 := tLoc d ↦{tq w} tB d tb
abbrev iPts (d : Dev nD) (ix : Ixs F) (w : ℕ) : sProp 𝕄 := iLoc d ↦[iSet w]{fullShare} iB d ix
abbrev oPts (d : Dev nD) (f : Out F) (w : ℕ) : sProp 𝕄 := oLoc d ↦[oSet w]{fullShare} oB d f
end Pts

variable [FloatOps F]

/-! ## The task -/

section Task

variable (d : Dev nD) (L : grid1.Coords)

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev wL (L : grid1.Coords) : Fin 32 := wid (Fin.cast bound_zero (L 0)) (Fin.cast bound_one (L 1))
omit [FloatOps F] in
theorem wL_val : (wL L).val = 2 * (L 1).val + (L 0).val := rfl

abbrev irowK (L : grid1.Coords) : Rect S1024x128 := Rect.unit (s := S1024x128) (k1_off1 L) S32x128.size (k1_off1_inb L)
abbrev orowK (L : grid1.Coords) (t : Fin k1_t1_loop.trips) : Rect S131072x128 := Rect.unit (s := S131072x128) (k1_off3 L t) S128x128.size (k1_off3_inb L t)
abbrev lrowK (t : Fin k1_t1_loop.trips) : Rect S32x128 := Rect.unit (s := S32x128) (k1_off2 t) S1x128.size (k1_off2_inb t)
/-- The task's rows of row numbers, the piece of the output written by trip `t`, trip `t`'s list, and all of the table. -/
abbrev iRowK (L : grid1.Coords) : Memref sig .scVector .hbm S32x128 .i32 := (iV).slice (irowK L) (fun _ => rfl)
abbrev oRowK (L : grid1.Coords) (t : Fin k1_t1_loop.trips) : Memref sig .scVector .hbm S128x128 .f32 := (oV).slice (orowK L t) (fun _ => rfl)
abbrev lRowK (t : Fin k1_t1_loop.trips) : Memref sig .scVector .vmem S128 .i32 := ((sV).slice (lrowK t) (fun _ => rfl)).squeeze S128 squeezes_S1x128_S128
abbrev tAllK : Memref sig .scVector .hbm S32768x128 .f32 := (tV).slice (Rect.unit (s := S32768x128) ![0, 0] S32768x128.size inb_S32768x128_S32768x128_0_0) (fun _ => rfl)

omit [FloatOps F] in
theorem trips_eq : k1_t1_loop.trips = 32 := by decide

omit [FloatOps F] in
theorem set_iRowK : (iRowK L).view.set = iSet (wL L) := by
  show ((View.whole (main_v10_scv : Ref sig .scVector)).slice (irowK L)).set = _
  rw [View.set_slice]
  refine (Finset.map_refl).trans ?_
  ext x
  rw [Rect.mem_set_unit, mem_iSet, k1_off1_eq, wL_val]
  have h0 : (x 0).val < 1024 := (x 0).isLt
  have h1 : (x 1).val < 128 := (x 1).isLt
  constructor
  · intro h
    have := h 0
    simp at this
    omega
  · intro h a
    match a with
    | 0 => simp; omega
    | 1 => simp; omega

/-- Trip `t`'s piece of the output. -/
def oPiece (w t : ℕ) : Finset S131072x128.Idx := Finset.univ.filter fun x => (x 0).val / 128 = 32 * w + t
omit [FloatOps F] in
theorem mem_oPiece {w t : ℕ} {x : S131072x128.Idx} : x ∈ oPiece w t ↔ (x 0).val / 128 = 32 * w + t := by simp [oPiece]

omit [FloatOps F] in
theorem set_oRowK (t : Fin k1_t1_loop.trips) : (oRowK L t).view.set = oPiece (wL L) t := by
  show ((View.whole (main_v11_scv : Ref sig .scVector)).slice (orowK L t)).set = _
  rw [View.set_slice]
  refine (Finset.map_refl).trans ?_
  ext x
  rw [Rect.mem_set_unit, mem_oPiece, k1_off3_eq, wL_val]
  have h0 : (x 0).val < 131072 := (x 0).isLt
  have h1 : (x 1).val < 128 := (x 1).isLt
  constructor
  · intro h
    have := h 0
    simp at this
    omega
  · intro h a
    match a with
    | 0 => simp; omega
    | 1 => simp; omega

omit [FloatOps F] in
theorem oPiece_subset (w : ℕ) (t : Fin k1_t1_loop.trips) : oPiece w t ⊆ oSet w := by
  intro x hx
  have ht : t.val < 32 := lt_of_lt_of_eq t.isLt trips_eq
  rw [mem_oPiece] at hx; rw [mem_oSet]; omega

abbrev cAcell (d : Dev nD) (c : Fin τ.nSC) (i : Fin τ.nSub) : GSem nD τ sig := (V d c i, .dma cc1_scratch2.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

omit [FloatOps F] in
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] in
/-- The two scratch buffers are the subcore's own. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ### The values a trip moves -/

/-- The list of row numbers as the task holds it: its own 32 rows. -/
def lst (ix : Ixs F) (w : Fin 32) : S32x128.Idx → Elt F .i32 := fun x =>
  ix (ix2 (⟨32 * w.val + (x 0).val, by have := (x 0).isLt; change _ < 32 at this; omega⟩ : Fin 1024) (x 1))

/-- What trip `t` gathers. -/
def rws (tb : Tbl F) (ix : Ixs F) (w : Fin 32) (t : ℕ) : S128x128.Idx → Elt F .f32 := fun x =>
  tb (ix2 (rowOf (ix (ix2 (⟨min (32 * w.val + t) 1023, by omega⟩ : Fin 1024) (x 0)))) (x 1))

/-- The fetch leaves the task's own rows. -/
theorem fetch_eq (ix : Ixs F) (fs : Buf (Elt F) ((V d (cV L) (jV L)).loc cc1_scratch0)) :
    View.write (Elt F) (sV).view fs ((iRowK L).view.read (Elt F) (iB d ix)) Finset.univ = lst ix (wL L) := by
  rw [View.write_whole_univ]
  funext x
  refine (View.read_apply _ _).trans ((cast_eq _ _).trans ?_)
  show ix ((iRowK L).view.emb x) = ix _
  congr 1
  funext a
  apply Fin.ext
  have := k1_off1_eq L
  match a with
  | 0 =>
    show (k1_off1 L) 0 + 1 * (x 0).val = 32 * (wL L).val + (x 0).val
    rw [this, wL_val]; simp; omega
  | 1 =>
    show (k1_off1 L) 1 + 1 * (x 1).val = (x 1).val
    rw [this]; simp

omit [FloatOps F] in
theorem symm_S128 (k : Fin S128.numel) : ((S128.rowMajor.symm k) 0).val = k.val := by
  rw [← Shape.rowMajor_val_one (d := ![128]) (S128.rowMajor.symm k)]
  exact congrArg Fin.val (Equiv.apply_symm_apply _ k)

/-- Trip `t` reads its list's words: row `32 · w + t` of the row numbers. -/
theorem list_read (ix : Ixs F) (w : Fin 32) (t : Fin k1_t1_loop.trips) (x : S128.Idx) :
    (lRowK t).view.read (Elt F) (lst ix w) x = ix (ix2 (⟨min (32 * w.val + t.val) 1023, by omega⟩ : Fin 1024) (x 0)) := by
  have ht : t.val < 32 := lt_of_lt_of_eq t.isLt trips_eq
  refine (View.read_apply _ _).trans ((cast_eq _ _).trans ?_)
  show lst ix w ((lrowK t).emb (Shape.reshapeEquiv squeezes_S1x128_S128.numel_eq x)) = _
  rw [show Shape.reshapeEquiv squeezes_S1x128_S128.numel_eq x = (Fin.cons ⟨0, Nat.one_pos⟩ x : S1x128.Idx) from
    Shape.reshapeEquiv_cons_one (d := ![128]) squeezes_S1x128_S128.numel_eq x]
  unfold lst
  congr 1
  funext a
  apply Fin.ext
  have := k1_off2_eq t
  match a with
  | 0 =>
    show 32 * w.val + ((k1_off2 t) 0 + 1 * 0) = min (32 * w.val + t.val) 1023
    rw [this]; simp; omega
  | 1 =>
    show (k1_off2 t) 1 + 1 * (x 0).val = (x 0).val
    rw [this]; simp

/-- The words are rows of the table. -/
theorem list_in {ix : Ixs F} (h : InRows ix) (w : Fin 32) (t : Fin k1_t1_loop.trips) :
    ∀ x, ((lRowK t).view.read (Elt F) (lst ix w) x).toNat < S32768x128.size gathers_S32768x128_S128x128.axis := by
  intro x; rw [list_read]; exact h _

/-- The gather leaves the named rows in the row buffer. -/
theorem gather_eq (tb : Tbl F) {ix : Ixs F} (h : InRows ix) (w : Fin 32) (t : Fin k1_t1_loop.trips)
    (fr : Buf (Elt F) ((V d (cV L) (jV L)).loc cc1_scratch1)) (hn : S128.numel = S128x128.size gathers_S32768x128_S128x128.axis') (hin) :
    View.write (Elt F) (rV).view fr (SparseCore.gatherPayload gathers_S32768x128_S128x128 ((tAllK).view.read (Elt F) (tB d tb))
      (SparseCore.rows ((lRowK t).view.read (Elt F) (lst ix w)) hn hin)) Finset.univ = rws tb ix w t := by
  rw [View.write_whole_univ]
  funext x
  unfold SparseCore.gatherPayload rws
  refine (View.read_apply _ _).trans ((cast_eq _ _).trans ?_)
  show tb ((tAllK).view.emb _) = tb _
  congr 1
  funext a
  apply Fin.ext
  match a with
  | 0 =>
    refine (congrArg (fun z : Fin _ => 0 + 1 * z.val) (Shape.Gathers.idx_axis gathers_S32768x128_S128x128
      (SparseCore.rows ((lRowK t).view.read (Elt F) (lst ix w)) hn hin) x)).trans ?_
    show 0 + 1 * ((lRowK t).view.read (Elt F) (lst ix w) (S128.rowMajor.symm _)).toNat = (rowOf _).val
    rw [list_read]
    have e : ((S128.rowMajor.symm (Fin.cast hn.symm (x gathers_S32768x128_S128x128.axis'))) 0 : Fin 128) = x 0 :=
      Fin.ext (symm_S128 _)
    rw [e]
    have := h (ix2 (⟨min (32 * w.val + t.val) 1023, by omega⟩ : Fin 1024) (x 0))
    unfold rowOf
    simp only [Nat.zero_add, Nat.one_mul]
    omega
  | 1 =>
    show 0 + 1 * ((Shape.Gathers.idx gathers_S32768x128_S128x128 (SparseCore.rows ((lRowK t).view.read (Elt F) (lst ix w)) hn hin) x) 1).val = (x 1).val
    rw [Shape.Gathers.idx_of_ne _ _ _ _ (by decide), Nat.zero_add, Nat.one_mul]
    rfl

/-- Trip `t`'s piece of the output, once written, is as after `t + 1` trips. -/
theorem piece_eq (tb : Tbl F) (ix : Ixs F) (f0 : Out F) (t : Fin k1_t1_loop.trips) :
    ∀ x ∈ oPiece (wL L) t, View.write (Elt F) (oRowK L t).view (oB d (mix tb ix f0 (wL L) t)) (rws tb ix (wL L) t) Finset.univ x
      = oB d (mix tb ix f0 (wL L) (t.val + 1)) x := by
  intro x hx
  have ht : t.val < 32 := lt_of_lt_of_eq t.isLt trips_eq
  rw [← set_oRowK] at hx
  obtain ⟨y, -, rfl⟩ := Finset.mem_map.mp hx
  rw [View.write_emb, if_pos (Finset.mem_univ _)]
  refine (cast_eq _ _).trans ?_
  have hy : (y 0).val < 128 := (y 0).isLt
  have hw : (wL L).val < 32 := (wL L).isLt
  have e0 : ((oRowK L t).view.emb y 0).val = 4096 * (wL L).val + 128 * t.val + (y 0).val := by
    show (k1_off3 L t) 0 + 1 * (y 0).val = _
    rw [k1_off3_eq, wL_val]; simp; omega
  have e1 : ((oRowK L t).view.emb y 1) = y 1 := Fin.ext (by
    show (k1_off3 L t) 1 + 1 * (y 1).val = _
    rw [k1_off3_eq]; simp)
  show rws tb ix (wL L) t y = mix tb ix f0 (wL L) (t.val + 1) ((oRowK L t).view.emb y)
  unfold mix
  rw [if_pos (by omega)]
  unfold rws gathered
  have a0 : (⟨min (32 * (wL L).val + t.val) 1023, by omega⟩ : Fin 1024)
      = ⟨((oRowK L t).view.emb y 0).val / 128, by omega⟩ := Fin.ext (by show min _ _ = _ / 128; omega)
  have a1 : (y 0 : Fin 128) = ⟨((oRowK L t).view.emb y 0).val % 128, Nat.mod_lt _ (by omega)⟩ :=
    Fin.ext (by show (y 0).val = _ % 128; omega)
  rw [a0, a1, e1]
  rfl

theorem piece_writes (tb : Tbl F) (ix : Ixs F) (f0 : Out F) (t : Fin k1_t1_loop.trips) (pay : S128x128.Idx → Elt F .f32)
    (hp : pay = rws tb ix (wL L) t) :
    ∀ x ∈ oPiece (wL L) t, (oRowK L t).view.writes (Elt F) (mix tb ix f0 (wL L) t) [⟨Rect.whole S128x128, pay⟩] x
      = oB d (mix tb ix f0 (wL L) (t.val + 1)) x := by
  intro x hx
  rw [← piece_eq d L tb ix f0 t x hx, hp]
  rw [← set_oRowK] at hx
  obtain ⟨y, -, rfl⟩ := Finset.mem_map.mp hx
  rw [View.writes_singleton]
  have e : ((oRowK L t).view.slice (Rect.whole S128x128)).emb y = (oRowK L t).view.emb y := by
    show (oRowK L t).view.emb ((Rect.whole S128x128).emb y) = _
    exact congrArg _ (Rect.emb_whole_apply S128x128 y)
  rw [View.write_emb, ← e, View.write_emb]

theorem rest_eq (tb : Tbl F) (ix : Ixs F) (f0 : Out F) (w t : ℕ) :
    ∀ x ∈ oSet w \ oPiece w t, oB d (mix tb ix f0 w t) x = oB d (mix tb ix f0 w (t + 1)) x := by
  intro x hx
  obtain ⟨h1, h2⟩ := Finset.mem_sdiff.mp hx
  rw [mem_oSet] at h1; rw [mem_oPiece] at h2
  show mix tb ix f0 w t x = mix tb ix f0 w (t + 1) x
  unfold mix
  by_cases h : (x 0).val < 4096 * w + 128 * t
  · rw [if_pos h, if_pos (by omega)]
  · rw [if_neg h, if_neg (by omega)]

theorem mix_zero (tb : Tbl F) (ix : Ixs F) (f0 : Out F) (w : ℕ) : ∀ x ∈ oSet w, oB d f0 x = oB d (mix tb ix f0 w 0) x := by
  intro x hx
  rw [mem_oSet] at hx
  show f0 x = mix tb ix f0 w 0 x
  unfold mix
  rw [if_neg (by omega)]

theorem mix_all (tb : Tbl F) (ix : Ixs F) (f0 : Out F) (w : ℕ) : ∀ x ∈ oSet w, oB d (mix tb ix f0 w 32) x = oB d (gathered tb ix) x := by
  intro x hx
  rw [mem_oSet] at hx
  show mix tb ix f0 w 32 x = gathered tb ix x
  unfold mix
  rw [if_pos (by omega)]

/-- Between trips: the table's share, the fetched list, the row buffer at some contents, the output's rows written so
    far, the counters at zero. -/
def inv (tb : Tbl F) (ix : Ixs F) (f0 : Out F) (O : CellTallies nD τ sig (HIx 1)) (W : Waits sig (HIx 1)) (k : Nat) (_ : BitVec 32) : sProp 𝕄 :=
  iprop(Transfers.MayWaits (V d (cV L) (jV L)) (none : HIx 1) O
    ∗ ((tAllK).view.loc (V d (cV L) (jV L)) ↦{tq (wL L)} tB d tb)
    ∗ ((sV).view.loc (V d (cV L) (jV L)) ↦{fullShare} lst ix (wL L))
    ∗ (∃ fr, (rV).view.loc (V d (cV L) (jV L)) ↦{fullShare} fr)
    ∗ (oLoc d ↦[oSet (wL L)]{fullShare} oB d (mix tb ix f0 (wL L) k))
    ∗ semVal (V d (cV L) (jV L), SemLoc.dma cc1_scratch2.sem) 0
    ∗ semVal (V d (cV L) (jV L), SemLoc.dma cc1_scoped1.sem) 0
    ∗ ∃ W', ⌜∀ p ∈ W', p ∈ W ∨ p.2 = none⌝ ∗ owes (V d (cV L) (jV L)) O W')

set_option maxHeartbeats 4000000 in
/-- The task on vector subcore `(L 0, L 1)` of device `d`. -/
theorem tile_body (hF : (K (F := F)).Facts) (tb : Tbl F) {ix : Ixs F} (hix : InRows ix) (f0 : Out F)
    (O : CellTallies nD τ sig (HIx 1)) (W : Waits sig (HIx 1)) (hO : ∀ g, O g none = 0) :
    iprop(levAts (K (F := F)).L (K (F := F)).lev ∗ emp
        ∗ (tPts d tb (wL L) ∗ iPts d ix (wL L) ∗ oPts d f0 (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_sc L tV (Memref.isWhole_whole _) iV (Memref.isWhole_whole _) oV (Memref.isWhole_whole _)
            sV (Memref.isWhole_whole _) rV (Memref.isWhole_whole _) cc1_scratch2 cc1_scoped0 cc1_scoped1)
          fun _ => iprop((tPts d tb (wL L) ∗ iPts d ix (wL L) ∗ oPts d (gathered tb ix) (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_sc_eq_skeleton]; unfold cc1__gather_sc_skel
  rw [(K (F := F)).scopedBufs_V hF d (cV L) (jV L), SparseCore.Cfg.scopedSems0_V (Val := Elt F) d (cV L) (jV L), ownSems0_V, ownBufs_V]
  iintro ⟨#Hlv, -, ⟨Ht, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hi' := (Entails.of_eq (show iPts d ix (wL L) = ((iRowK L).view.loc (V d (cV L) (jV L)) ↦[(iRowK L).view.set]{fullShare} iB d ix : sProp 𝕄) by
    rw [set_iRowK])) $$ Hi
  ihave Ht' := (Entails.of_eq (show tPts d tb (wL L) = ((tAllK).view.loc (V d (cV L) (jV L)) ↦{tq (wL L)} tB d tb : sProp 𝕄) from rfl)) $$ Ht
  ihave Hs' := (Entails.of_eq (show ((V d (cV L) (jV L)).loc cc1_scratch0 ↦{fullShare} fs : sProp 𝕄) = ((sV).view.loc (V d (cV L) (jV L)) ↦{fullShare} fs) from rfl)) $$ Hs
  ihave Hr' := (Entails.of_eq (show ((V d (cV L) (jV L)).loc cc1_scratch1 ↦{fullShare} fr : sProp 𝕄) = ((rV).view.loc (V d (cV L) (jV L)) ↦{fullShare} fr) from rfl)) $$ Hr
  ihave Ho' := (Entails.of_eq (pointsTo_congr (q := fullShare) (mix_zero (F := F) d tb ix f0 (wL L)))) $$ Ho
  sl_exec
  ihave Hs2 := (Entails.of_eq (show ((sV).view.loc (V d (cV L) (jV L)) ↦{fullShare} View.write (Elt F) (sV).view fs (tile_body.sl.dma0 L (ix := ix)) Finset.univ : sProp 𝕄)
      = ((sV).view.loc (V d (cV L) (jV L)) ↦{fullShare} lst ix (wL L)) from congrArg _ (fetch_eq d L ix fs))) $$ Hs'
  sl_for (inv d L tb ix f0 O W) $$ [Hmw Ht' Hs2 Hr' Ho' HsemA HsemC HO]
  case region =>
    intro k _
    unfold inv
    iintro ⟨#Hmw, Ht, Hs, ⟨%fr, Hr⟩, Ho, HsemA, HsemC, %W', %hW', HO⟩
    unfold tile_body.sl.prog.body_1 k1_t1_body
    have hN : ∀ h : S32768x128.Gathers 0 S128x128, ∑ j, ((rV).slice (S128x128.rowRect h.axis' j) (S128x128.stride_rowRect h.axis' j)).view.dmaCredit
      = (rV).view.dmaCredit := by decide
    iapply (SparseCore.wp_gatherFromWhole countersEmb 𝒱₀ (V d (cV L) (jV L)) none (hg := gathers_S32768x128_S128x128) (default : HIx 1)
      (rV).view.dmaCredit (hN _) (by decide) (list_in hix (wL L) k)) $$ [Ht Hr Hs HsemA]
    · isplitl [Ht]; · iexact Ht
      isplitl [Hr]; · iexact Hr
      isplitl [Hs]; · iexact Hs
      iexact HsemA
    iintro Hfl
    sl_exec
    iapply (Transfers.wp_waitLocalO countersEmb 𝒱₀ (V d (cV L) (jV L)) none (default : HIx 1) (rfl : (rV).view.dmaCredit = _)) $$ [Hfl HO]
    · isplitl [Hfl]; · iexact Hfl
      isplitl [HO]; · iexact HO
      iapply (Transfers.MayWaits.elim (SemLoc.dma cc1_scratch2.sem)) $$ Hmw
    iintro ⟨⟨Hr, Ht, Hs⟩, HsemA, HO⟩
    ihave Hr := (Entails.of_eq (congrArg (fun f => ((rV).view.loc (V d (cV L) (jV L)) ↦{fullShare} f : sProp 𝕄))
      (gather_eq d L tb hix (wL L) k fr rfl (list_in hix (wL L) k)))) $$ Hr
    ihave Hop := (pointsTo_split_subset (q := fullShare) (f := oB d (mix tb ix f0 (wL L) k)) (oPiece_subset (wL L) k)).1 $$ Ho
    icases Hop with ⟨Hop, Hor⟩
    ihave Hop' := (Entails.of_eq (show (oLoc d ↦[oPiece (wL L) k]{fullShare} oB d (mix tb ix f0 (wL L) k) : sProp 𝕄)
      = ((oRowK L k).view.loc (V d (cV L) (jV L)) ↦[(oRowK L k).view.set]{fullShare} oB d (mix tb ix f0 (wL L) k)) by rw [set_oRowK])) $$ Hop
    sl_exec
    sl_step
    ihave Hop := (Entails.of_eq (show ((oRowK L k).view.loc (V d (cV L) (jV L)) ↦[(oRowK L k).view.set]{fullShare}
        (oRowK L k).view.writes (Elt F) (mix tb ix f0 (wL L) k) [⟨Rect.whole S128x128, tile_body.sl.dma0_1 L tb k⟩] : sProp 𝕄)
      = (oLoc d ↦[oPiece (wL L) k]{fullShare} oB d (mix tb ix f0 (wL L) (k.val + 1))) by
        rw [set_oRowK]; exact pointsTo_congr (piece_writes d L tb ix f0 k _ rfl))) $$ Hop'
    ihave Hor := (Entails.of_eq (pointsTo_congr (q := fullShare) (rest_eq (F := F) d tb ix f0 (wL L) k))) $$ Hor
    ihave Ho := (pointsTo_split_subset (q := fullShare) (f := oB d (mix tb ix f0 (wL L) (k.val + 1))) (oPiece_subset (wL L) k)).2 $$ [Hop Hor]; · isplitl [Hop] <;> iassumption
    isplitr; · iexact Hmw
    isplitl [Ht]; · iexact Ht
    isplitl [Hs]; · iexact Hs
    isplitl [Hr]; · iexists _; iexact Hr
    isplitl [Ho]; · iexact Ho
    isplitl [HsemA]; · iexact HsemA
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold inv
    isplitl [Hmw]; · iexact Hmw
    isplitl [Ht']; · iexact Ht'
    isplitl [Hs2]; · iexact Hs2
    isplitl [Hr']; · iexists _; iexact Hr'
    isplitl [Ho']; · iexact Ho'
    isplitl [HsemA]; · iexact HsemA
    isplitl [HsemC]; · iexact HsemC
    iexists _; isplitr
    swap; · iexact HO
    ipureintro; intro p hp
    rcases Finset.mem_insert.mp hp with hp | hp
    · exact .inr (hp ▸ rfl)
    · exact .inl hp
  iintro %_ HI
  unfold inv
  icases HI with ⟨-, Ht, Hs, ⟨%fr', Hr⟩, Ho, HsemA, HsemC, %W', %hW', HO⟩
  sl_exec
  sl_step
  ihave Ho := (Entails.of_eq (pointsTo_congr (q := fullShare) (mix_all (F := F) d tb ix f0 (wL L)))) $$ Ho
  isplitl [Ht Hi' Ho]
  · isplitl [Ht]; · iexact Ht
    isplitl [Hi']
    · iapply (Entails.of_eq (show ((iRowK L).view.loc (V d (cV L) (jV L)) ↦[(iRowK L).view.set]{fullShare} iB d ix : sProp 𝕄) = iPts d ix (wL L) by
        rw [set_iRowK]))
      iexact Hi'
    iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  swap; · iexact HO
  ipureintro; exact hW'

end Task

end Cert.Proof.Group

end
-- ==== Proof.GroupPay.lean ====
/-
  The row gather as a call of the grouped program: what the call hands each task and gets back, and the obligation of
  a task.
-/
module

public import proofs.«01_k».proof.Proof.GroupTile
public import Idealize.ShloMosaic.Lib.Pipeline.Frame
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.GroupIdeal
public import proofs.«01_k».proof.Proof.Gen.GroupIdeal.Skeleton

@[expose] public section

noncomputable section

namespace Cert.Proof.Group

open Cert.GroupIdeal Cert.GroupIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the handshakes carry -/

section Payload

variable (tb : Dev nD → Tbl F) (ix : Dev nD → Ixs F) (f0 : Dev nD → Out F)

/-- What task `w` takes, and what it brings back. -/
abbrev taskIn (d : Dev nD) (w : Fin 32) : sProp 𝕄 := iprop(tPts d (tb d) w ∗ iPts d (ix d) w ∗ oPts d (f0 d) w)
abbrev taskOut (d : Dev nD) (w : Fin 32) : sProp 𝕄 := iprop(tPts d (tb d) w ∗ iPts d (ix d) w ∗ oPts d (gathered (tb d) (ix d)) w)

abbrev widOf (c : Fin ((K (F := F)).nCore 0)) (i : Fin ((K (F := F)).nSub 0)) : Fin 32 := wid (Fin.cast nCore_zero c) (Fin.cast nSub_zero i)

def P : (K (F := F)).Pay (nD := nD) (Val := Elt F) (Name := ℕ) (U := UU) where
  st := fun q d c => match q with | 0 => bigSep Finset.univ fun i => taskIn tb ix f0 d (widOf (F := F) c i)
  dn := fun q d c => match q with | 0 => bigSep Finset.univ fun i => taskOut tb ix d (widOf (F := F) c i)
  go := fun q d c i => match q with | 0 => taskIn tb ix f0 d (widOf (F := F) c i)
  td := fun q d c i => match q with | 0 => taskOut tb ix d (widOf (F := F) c i)
  x := fun _ _ => iprop(emp)

instance P_storable : (P (F := F) tb ix f0).IsStorable where
  st q d c := match q with
    | 0 => (inferInstance : BI.Storable (upEmb : UEmb _ 𝕄) (bigSep Finset.univ fun i => taskIn tb ix f0 d (widOf (F := F) c i)))
  dn q d c := match q with
    | 0 => (inferInstance : BI.Storable (upEmb : UEmb _ 𝕄) (bigSep Finset.univ fun i => taskOut tb ix d (widOf (F := F) c i)))
  go q d c i := match q with
    | 0 => (inferInstance : BI.Storable (upEmb : UEmb _ 𝕄) (taskIn tb ix f0 d (widOf (F := F) c i)))
  td q d c i := match q with
    | 0 => (inferInstance : BI.Storable (upEmb : UEmb _ 𝕄) (taskOut tb ix d (widOf (F := F) c i)))

/-! ## The obligation of a task -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_sc (coordsV c s)
          (Memref.whole main_v9_scv) (Memref.isWhole_whole _) (Memref.whole main_v10_scv) (Memref.isWhole_whole _) (Memref.whole main_v11_scv) (Memref.isWhole_whole _)
          (Memref.whole cc1_scratch0) (Memref.isWhole_whole _) (Memref.whole cc1_scratch1) (Memref.isWhole_whole _) cc1_scratch2 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d, InRows (ix d)) : (K (F := F)).TileObl (D (F := F)) 𝒱 (P tb ix f0) v₀ 0 := by
  intro d c i O W hO _ _
  simp only [show (P tb ix f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tb d) (hix d) (f0 d) O W hO).trans (wp_mono frame _ _ fun _ => obl_post)

/-- A SparseCore's part of the call is its tasks' parts. -/
theorem vecSplit : (K (F := F)).VecSplit' (P tb ix f0) 0 := by
  intro d c
  show (bigSep Finset.univ fun i => taskIn tb ix f0 d (widOf (F := F) c i)) ⊢ |={Set.univ}=> iprop(
      (bigSep Finset.univ fun i => taskIn tb ix f0 d (widOf (F := F) c i))
      ∗ ((bigSep Finset.univ fun i => taskOut tb ix d (widOf (F := F) c i)) -∗ (bigSep Finset.univ fun i => taskOut tb ix d (widOf (F := F) c i))))
  iintro H; imodintro
  isplitl [H]; · iexact H
  iintro H; iexact H

/-! ## The whole arrays are the tasks' parts -/

def widEquiv : Fin 2 × Fin 16 ≃ Fin 32 where
  toFun p := wid p.1 p.2
  invFun w := (⟨w.val % 2, Nat.mod_lt _ (by omega)⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
theorem bigSep_wid (Φ : Fin 32 → sProp 𝕄) :
    (bigSep Finset.univ fun c : Fin ((K (F := F)).nCore 0) => bigSep Finset.univ fun i : Fin ((K (F := F)).nSub 0) => Φ (widOf (F := F) c i))
      = bigSep Finset.univ Φ := by
  rw [bigSep_univ_equiv widEquiv, bigSep_univ_prod]
  rfl

omit [FloatOps F] in
theorem iSet_disjoint : ∀ i ∈ (Finset.univ : Finset (Fin 32)), ∀ j ∈ (Finset.univ : Finset (Fin 32)), i ≠ j → Disjoint (iSet i) (iSet j) :=
  fun i _ j _ h => Finset.disjoint_left.mpr fun x hx hy => h (Fin.ext ((mem_iSet.mp hx).symm.trans (mem_iSet.mp hy)))
omit [FloatOps F] in
theorem oSet_disjoint : ∀ i ∈ (Finset.univ : Finset (Fin 32)), ∀ j ∈ (Finset.univ : Finset (Fin 32)), i ≠ j → Disjoint (oSet i) (oSet j) :=
  fun i _ j _ h => Finset.disjoint_left.mpr fun x hx hy => h (Fin.ext ((mem_oSet.mp hx).symm.trans (mem_oSet.mp hy)))
omit [FloatOps F] in
theorem iSet_cover : ((Finset.univ : Finset (Fin 32)).biUnion fun w => iSet w) = Finset.univ := by
  ext x
  have h : (x 0).val < 1024 := (x 0).isLt
  simp only [Finset.mem_biUnion, Finset.mem_univ, true_and, iff_true]
  exact ⟨⟨(x 0).val / 32, by omega⟩, mem_iSet.mpr rfl⟩
omit [FloatOps F] in
theorem oSet_cover : ((Finset.univ : Finset (Fin 32)).biUnion fun w => oSet w) = Finset.univ := by
  ext x
  have h : (x 0).val < 131072 := (x 0).isLt
  simp only [Finset.mem_biUnion, Finset.mem_univ, true_and, iff_true]
  exact ⟨⟨(x 0).val / 4096, by omega⟩, mem_oSet.mpr rfl⟩

omit [FloatOps F] in
theorem whole_eq (d : Dev nD) (t : Tbl F) (i : Ixs F) (f : Out F) :
    (iprop((tLoc d ↦{fullShare} tB d t) ∗ (iLoc d ↦{fullShare} iB d i) ∗ (oLoc d ↦{fullShare} oB d f)) : sProp 𝕄)
      = bigSep Finset.univ fun w : Fin 32 => iprop(tPts d t w ∗ iPts d i w ∗ oPts d f w) := by
  rw [bigSep_sep', bigSep_sep']
  rw [← pointsTo_biUnion Finset.univ (ℓ := iLoc d) (fun w : Fin 32 => iSet w) iSet_disjoint, iSet_cover,
    ← pointsTo_biUnion Finset.univ (ℓ := oLoc d) (fun w : Fin 32 => oSet w) oSet_disjoint, oSet_cover,
    pointsTo_piecesOf (ℓ := tLoc d) Finset.univ (tB d t) (o := 32) (by decide) fullShare]

theorem st0_eq (d : Dev nD) : (bigSep Finset.univ fun c : Fin ((K (F := F)).nCore 0) => (P tb ix f0).st 0 d c)
    = iprop((tLoc d ↦{fullShare} tB d (tb d)) ∗ (iLoc d ↦{fullShare} iB d (ix d)) ∗ (oLoc d ↦{fullShare} oB d (f0 d))) :=
  (bigSep_wid (F := F) (fun w => taskIn tb ix f0 d w)).trans (whole_eq d _ _ _).symm
theorem dn0_eq (d : Dev nD) : (bigSep Finset.univ fun c : Fin ((K (F := F)).nCore 0) => (P tb ix f0).dn 0 d c)
    = iprop((tLoc d ↦{fullShare} tB d (tb d)) ∗ (iLoc d ↦{fullShare} iB d (ix d)) ∗ (oLoc d ↦{fullShare} oB d (gathered (tb d) (ix d)))) :=
  (bigSep_wid (F := F) (fun w => taskOut tb ix d w)).trans (whole_eq d _ _ _).symm

end Payload

end Cert.Proof.Group

end
-- ==== Proof.GroupFold.lean ====
/-
  The grouped program between its calls: the operations of each stretch, and what every buffer holds at each boundary.
-/
module

public import proofs.«01_k».proof.Proof.GroupNorm
public import proofs.«01_k».proof.Proof.GroupPay

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The operations between the calls -/

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14]

abbrev hostOps0 : List (HloOp τ sig (Elt F)) :=
  [ StableHlo.nullary main_c (constantI S_ 32 0#32),
    StableHlo.nullary main_c_0 (constantI S_ 32 32767#32),
    StableHlo.unary main_c main_v1 (broadcastInDim S8x512x32 ![] bcast_S_S8x512x32 : (⟨S_, .i32⟩ : BufTy).Contents (Elt F) → (⟨S8x512x32, .i32⟩ : BufTy).Contents (Elt F)),
    StableHlo.unary main_c_0 main_v2 (broadcastInDim S8x512x32 ![] bcast_S_S8x512x32 : (⟨S_, .i32⟩ : BufTy).Contents (Elt F) → (⟨S8x512x32, .i32⟩ : BufTy).Contents (Elt F)),
    StableHlo.ternary main_v1 main_v0 main_v2 main_v3 ((fun lo x hi => minsi (maxsi x lo) hi) : (⟨S8x512x32, .i32⟩ : BufTy).Contents (Elt F) → (⟨S8x512x32, .i32⟩ : BufTy).Contents (Elt F) → (⟨S8x512x32, .i32⟩ : BufTy).Contents (Elt F) → (⟨S8x512x32, .i32⟩ : BufTy).Contents (Elt F)),
    StableHlo.unary main_arg1 main_v4 ((transpose S8x4096x3 [0, 2, 1] · transposes_S8x3x4096_S8x4096x3_0_2_1) : (⟨S8x3x4096, .f32⟩ : BufTy).Contents (Elt F) → (⟨S8x4096x3, .f32⟩ : BufTy).Contents (Elt F)),
    StableHlo.reshape main_v4 main_v5 (rfl : (.f32 : EltTy) = .f32) shapeCasts_S8x4096x3_S32768x3,
    StableHlo.unary main_arg2 main_v6 ((transpose S8x4096x64 [0, 2, 1] · transposes_S8x64x4096_S8x4096x64_0_2_1) : (⟨S8x64x4096, .f32⟩ : BufTy).Contents (Elt F) → (⟨S8x4096x64, .f32⟩ : BufTy).Contents (Elt F)),
    StableHlo.reshape main_v6 main_v7 (rfl : (.f32 : EltTy) = .f32) shapeCasts_S8x4096x64_S32768x64,
    StableHlo.nullary main_cst (constant S_ .f32 0x00000000#32),
    StableHlo.unary main_cst main_v8 (broadcastInDim S32768x61 ![] bcast_S_S32768x61 : (⟨S_, .f32⟩ : BufTy).Contents (Elt F) → (⟨S32768x61, .f32⟩ : BufTy).Contents (Elt F)),
    StableHlo.nary ![main_v5, main_v7, main_v8] main_v9 (fun u => (concatenate S32768x128 1 [⟨S32768x3, (u 0 : (⟨S32768x3, .f32⟩ : BufTy).Contents (Elt F))⟩, ⟨S32768x64, (u 1 : (⟨S32768x64, .f32⟩ : BufTy).Contents (Elt F))⟩, ⟨S32768x61, (u 2 : (⟨S32768x61, .f32⟩ : BufTy).Contents (Elt F))⟩] concatenates_S32768x3_S32768x64_S32768x61_S32768x128_d1 : (⟨S32768x128, .f32⟩ : BufTy).Contents (Elt F))),
    StableHlo.reshape main_v3 main_v10 (rfl : (.i32 : EltTy) = .i32) shapeCasts_S8x512x32_S1024x128 ]
theorem hostOps0_sub : (hostOps0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.ternary_bufs_sub .., StableHlo.unary_bufs_sub .., StableHlo.reshape_bufs_sub .., StableHlo.unary_bufs_sub .., StableHlo.reshape_bufs_sub .., StableHlo.nullary_bufs_sub .., StableHlo.unary_bufs_sub .., StableHlo.nary_bufs_sub .., StableHlo.reshape_bufs_sub ..⟩
theorem hostOps0_fresh : (hostOps0 : List (HloOp τ sig (Elt F))).Forall fun op => op.fresh = ∅ := by
  simp only [List.Forall]; repeat' constructor
abbrev hostOps0_W : List (Ref sig .tc) := [main_c, main_c_0, main_v1, main_v2, main_v3, main_v4, main_v5, main_v6, main_v7, main_cst, main_v8, main_v9, main_v10]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev hostOps1 : List (HloOp τ sig (Elt F)) :=
  [ StableHlo.unary main_arg0 main_v12 ((transpose S8x512x3 [0, 2, 1] · transposes_S8x3x512_S8x512x3_0_2_1) : (⟨S8x3x512, .f32⟩ : BufTy).Contents (Elt F) → (⟨S8x512x3, .f32⟩ : BufTy).Contents (Elt F)),
    StableHlo.reshape main_v12 main_v13 (rfl : (.f32 : EltTy) = .f32) shapeCasts_S8x512x3_S4096x3,
    StableHlo.unary main_arg3 main_v14 ((transpose S67x64 [1, 0] · transposes_S64x67_S67x64_1_0) : (⟨S64x67, .f32⟩ : BufTy).Contents (Elt F) → (⟨S67x64, .f32⟩ : BufTy).Contents (Elt F)),
    StableHlo.nullary main_cst_1 (constant S_ .f32 0x00000000#32),
    StableHlo.unary main_cst_1 main_v15 (broadcastInDim S61x64 ![] bcast_S_S61x64 : (⟨S_, .f32⟩ : BufTy).Contents (Elt F) → (⟨S61x64, .f32⟩ : BufTy).Contents (Elt F)),
    StableHlo.binary main_v14 main_v15 main_v16 ((fun a b => concatenate S128x64 0 [⟨S67x64, a⟩, ⟨S61x64, b⟩] concatenates_S67x64_S61x64_S128x64_d0) : (⟨S67x64, .f32⟩ : BufTy).Contents (Elt F) → (⟨S61x64, .f32⟩ : BufTy).Contents (Elt F) → (⟨S128x64, .f32⟩ : BufTy).Contents (Elt F)),
    StableHlo.unary main_arg4 main_v17 (broadcastInDim S1x64 ![1] bcast_S64_S1x64_1 : (⟨S64, .f32⟩ : BufTy).Contents (Elt F) → (⟨S1x64, .f32⟩ : BufTy).Contents (Elt F)) ]
theorem hostOps1_sub : (hostOps1 : List (HloOp τ sig (Elt F))).Forall fun op => op.bufs ⊆ StableHlo.tcRefs τ sig :=
  ⟨StableHlo.unary_bufs_sub .., StableHlo.reshape_bufs_sub .., StableHlo.unary_bufs_sub .., StableHlo.nullary_bufs_sub .., StableHlo.unary_bufs_sub .., StableHlo.binary_bufs_sub .., StableHlo.unary_bufs_sub ..⟩
theorem hostOps1_fresh : (hostOps1 : List (HloOp τ sig (Elt F))).Forall fun op => op.fresh = ∅ := by
  simp only [List.Forall]; repeat' constructor
abbrev hostOps1_W : List (Ref sig .tc) := [main_v12, main_v13, main_v14, main_cst_1, main_v15, main_v16, main_v17]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev hostOps2 : List (HloOp τ sig (Elt F)) :=
  [ StableHlo.unary main_arg7 main_v19 ((transpose S64x64 [1, 0] · transposes_S64x64_S64x64_1_0) : (⟨S64x64, .f32⟩ : BufTy).Contents (Elt F) → (⟨S64x64, .f32⟩ : BufTy).Contents (Elt F)),
    StableHlo.unary main_arg5 main_v20 (broadcastInDim S1x64 ![1] bcast_S64_S1x64_1 : (⟨S64, .f32⟩ : BufTy).Contents (Elt F) → (⟨S1x64, .f32⟩ : BufTy).Contents (Elt F)),
    StableHlo.unary main_arg6 main_v21 (broadcastInDim S1x64 ![1] bcast_S64_S1x64_1 : (⟨S64, .f32⟩ : BufTy).Contents (Elt F) → (⟨S1x64, .f32⟩ : BufTy).Contents (Elt F)),
    StableHlo.unary main_arg8 main_v22 (broadcastInDim S1x64 ![1] bcast_S64_S1x64_1 : (⟨S64, .f32⟩ : BufTy).Contents (Elt F) → (⟨S1x64, .f32⟩ : BufTy).Contents (Elt F)) ]
theorem hostOps2_sub : (hostOps2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem hostOps2_fresh : (hostOps2 : List (HloOp τ sig (Elt F))).Forall fun op => op.fresh = ∅ := by
  simp only [List.Forall]; repeat' constructor
abbrev hostOps2_W : List (Ref sig .tc) := [main_v19, main_v20, main_v21, main_v22]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

abbrev hostOps3 : List (HloOp τ sig (Elt F)) :=
  [ StableHlo.unary main_arg11 main_v24 ((transpose S64x128 [1, 0] · transposes_S128x64_S64x128_1_0) : (⟨S128x64, .f32⟩ : BufTy).Contents (Elt F) → (⟨S64x128, .f32⟩ : BufTy).Contents (Elt F)),
    StableHlo.unary main_arg9 main_v25 (broadcastInDim S1x64 ![1] bcast_S64_S1x64_1 : (⟨S64, .f32⟩ : BufTy).Contents (Elt F) → (⟨S1x64, .f32⟩ : BufTy).Contents (Elt F)),
    StableHlo.unary main_arg10 main_v26 (broadcastInDim S1x64 ![1] bcast_S64_S1x64_1 : (⟨S64, .f32⟩ : BufTy).Contents (Elt F) → (⟨S1x64, .f32⟩ : BufTy).Contents (Elt F)),
    StableHlo.unary main_arg12 main_v27 (broadcastInDim S1x128 ![1] bcast_S128_S1x128_1 : (⟨S128, .f32⟩ : BufTy).Contents (Elt F) → (⟨S1x128, .f32⟩ : BufTy).Contents (Elt F)) ]
theorem hostOps3_sub : (hostOps3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem hostOps3_fresh : (hostOps3 : List (HloOp τ sig (Elt F))).Forall fun op => op.fresh = ∅ := by
  simp only [List.Forall]; repeat' constructor
abbrev hostOps3_W : List (Ref sig .tc) := [main_v24, main_v25, main_v26, main_v27]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

abbrev hostOps4 : List (HloOp τ sig (Elt F)) :=
  [ StableHlo.unary main_arg13 main_v29 (broadcastInDim S1x128 ![1] bcast_S128_S1x128_1 : (⟨S128, .f32⟩ : BufTy).Contents (Elt F) → (⟨S1x128, .f32⟩ : BufTy).Contents (Elt F)),
    StableHlo.unary main_arg14 main_v30 (broadcastInDim S1x128 ![1] bcast_S128_S1x128_1 : (⟨S128, .f32⟩ : BufTy).Contents (Elt F) → (⟨S1x128, .f32⟩ : BufTy).Contents (Elt F)) ]
theorem hostOps4_sub : (hostOps4 : List (HloOp τ sig (Elt F))).Forall fun op => op.bufs ⊆ StableHlo.tcRefs τ sig :=
  ⟨StableHlo.unary_bufs_sub .., StableHlo.unary_bufs_sub ..⟩
theorem hostOps4_fresh : (hostOps4 : List (HloOp τ sig (Elt F))).Forall fun op => op.fresh = ∅ := by
  simp only [List.Forall]; repeat' constructor
abbrev hostOps4_W : List (Ref sig .tc) := [main_v29, main_v30]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

abbrev hostOps5 : List (HloOp τ sig (Elt F)) :=
  [ StableHlo.reshape main_v31 main_v32 (rfl : (.f32 : EltTy) = .f32) shapeCasts_S131072x128_S8x512x32x128,
    StableHlo.unary main_v32 main_v33 ((transpose S8x128x32x512 [0, 3, 2, 1] · transposes_S8x512x32x128_S8x128x32x512_0_3_2_1) : (⟨S8x512x32x128, .f32⟩ : BufTy).Contents (Elt F) → (⟨S8x128x32x512, .f32⟩ : BufTy).Contents (Elt F)) ]
theorem hostOps5_sub : (hostOps5 : List (HloOp τ sig (Elt F))).Forall fun op => op.bufs ⊆ StableHlo.tcRefs τ sig :=
  ⟨StableHlo.reshape_bufs_sub .., StableHlo.unary_bufs_sub ..⟩
theorem hostOps5_fresh : (hostOps5 : List (HloOp τ sig (Elt F))).Forall fun op => op.fresh = ∅ := by
  simp only [List.Forall]; repeat' constructor
abbrev hostOps5_W : List (Ref sig .tc) := [main_v32, main_v33]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

/-! ## The contents of the buffers between the calls -/

variable (m : (ℓ : Loc nD τ sig) → Buf (Elt F) ℓ)

/-- What device `c` holds at launch. -/
abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
abbrev V0 : (c : Dev nD) → (b : Ref sig .tc) → Buf (Elt F) ((c : Thread nD τ).loc b) := fun c b => W0 m c b

/-- After call 0: its arrays at what its write-backs leave, every other buffer as it was. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After stretch 0. -/
abbrev W2 : Dev nD → Valuation τ sig (Elt F) := fun c => StableHlo.after hostOps0 (W1 m c)
theorem W2_of (c : Dev nD) (r : Ref sig .tc) (h : r ∉ hostOps0_W) : W2 m c (Proc.devRef .tc r) = W1 m c (Proc.devRef .tc r) :=
  StableHlo.after_of_writes_sub hostOps0 _ hostOps0_writes h
theorem W2_args (c : Dev nD) : ∀ a ∈ argRefs, W2 m c (Proc.devRef .tc a) = m ((c : Thread nD τ).loc a) :=
  fun a ha => (W2_of m c a (hostOps0_args a ha)).trans (W1_args m c a ha)
abbrev V2 : (c : Dev nD) → (b : Ref sig .tc) → Buf (Elt F) ((c : Thread nD τ).loc b) := fun c b => W2 m c b

/-- The table, the row numbers, and what the buffer of the gathered rows holds before the row gather. -/
abbrev tbl (d : Dev nD) : Tbl F := W2 m d (Proc.devRef (τ := τ) .tc main_v9)
abbrev ixs (d : Dev nD) : Ixs F := W2 m d (Proc.devRef (τ := τ) .tc main_v10)
abbrev out₀ (d : Dev nD) : Out F := W2 m d (Proc.devRef (τ := τ) .tc main_v11)

/-- After the row gather. -/
def W3 (c : Dev nD) : Valuation τ sig (Elt F) :=
  Function.update (W2 m c) (Proc.devRef (τ := τ) .tc main_v11) (oB c (gathered (tbl m c) (ixs m c)))
theorem W3_v11 (c : Dev nD) : W3 m c (Proc.devRef .tc main_v11) = oB c (gathered (tbl m c) (ixs m c)) := by
  unfold W3; exact Function.update_self ..
theorem W3_of (c : Dev nD) (r : Ref sig .tc) (h : r ≠ main_v11) : W3 m c (Proc.devRef .tc r) = W2 m c (Proc.devRef .tc r) := by
  unfold W3; exact Function.update_of_ne (fun e => h (Proc.devRef_injective .tc e)) _ _
theorem argsNe : ∀ a ∈ argRefs, a ≠ main_v11 := ListAll.forall_mem_of_all_decide (by decide +kernel)
theorem W3_args (c : Dev nD) : ∀ a ∈ argRefs, W3 m c (Proc.devRef .tc a) = m ((c : Thread nD τ).loc a) :=
  fun a ha => (W3_of m c a (argsNe a ha)).trans (W2_args m c a ha)
abbrev V3 : (c : Dev nD) → (b : Ref sig .tc) → Buf (Elt F) ((c : Thread nD τ).loc b) := fun c b => W3 m c b

/-- After stretch 1. -/
abbrev W4 : Dev nD → Valuation τ sig (Elt F) := fun c => StableHlo.after hostOps1 (W3 m c)
theorem W4_of (c : Dev nD) (r : Ref sig .tc) (h : r ∉ hostOps1_W) : W4 m c (Proc.devRef .tc r) = W3 m c (Proc.devRef .tc r) :=
  StableHlo.after_of_writes_sub hostOps1 _ hostOps1_writes h
theorem W4_args (c : Dev nD) : ∀ a ∈ argRefs, W4 m c (Proc.devRef .tc a) = m ((c : Thread nD τ).loc a) :=
  fun a ha => (W4_of m c a (hostOps1_args a ha)).trans (W3_args m c a ha)
abbrev V4 : (c : Dev nD) → (b : Ref sig .tc) → Buf (Elt F) ((c : Thread nD τ).loc b) := fun c b => W4 m c b

/-- After call 1: its arrays at what its write-backs leave, every other buffer as it was. -/
def W5 (c : Dev nD) : Valuation τ sig (Elt F) :=
  Pipeline.withArrays spec2 c (W4 m c) fun w => (dat2 (V4 m) c).arrAt w cfg2.N
theorem W5_arr (c : Dev nD) (w : Fin cfg2.W) :
    W5 m c (Proc.devRef .tc (Pipeline.arrRef spec2 w)) = (dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m c (Proc.devRef .tc r) = W4 m c (Proc.devRef .tc r) := by
  by_cases hw : ∃ w : Fin cfg2.W, Pipeline.arrRef spec2 w = r
  · obtain ⟨w, rfl⟩ := hw
    exact (W5_arr m c w).trans (((dat2 (V4 m) c).arrAt_in w (h w rfl) _).trans (A_eq2 (V4 m) c w))
  · exact W5_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m c (Proc.devRef .tc a) = m ((c : Thread nD τ).loc a) :=
  fun a ha => (W5_of m c a (argsIn2 a ha)).trans (W4_args m c a ha)
abbrev V5 : (c : Dev nD) → (b : Ref sig .tc) → Buf (Elt F) ((c : Thread nD τ).loc b) := fun c b => W5 m c b
theorem hF2 (c : Dev nD) (w : Fin cfg2.W) : (dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After stretch 2. -/
abbrev W6 : Dev nD → Valuation τ sig (Elt F) := fun c => StableHlo.after hostOps2 (W5 m c)
theorem W6_of (c : Dev nD) (r : Ref sig .tc) (h : r ∉ hostOps2_W) : W6 m c (Proc.devRef .tc r) = W5 m c (Proc.devRef .tc r) :=
  StableHlo.after_of_writes_sub hostOps2 _ hostOps2_writes h
theorem W6_args (c : Dev nD) : ∀ a ∈ argRefs, W6 m c (Proc.devRef .tc a) = m ((c : Thread nD τ).loc a) :=
  fun a ha => (W6_of m c a (hostOps2_args a ha)).trans (W5_args m c a ha)
abbrev V6 : (c : Dev nD) → (b : Ref sig .tc) → Buf (Elt F) ((c : Thread nD τ).loc b) := fun c b => W6 m c b

/-- After call 2: its arrays at what its write-backs leave, every other buffer as it was. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
theorem W7_of (c : Dev nD) (r : Ref sig .tc) (h : ∀ w : Fin cfg3.W, Pipeline.arrRef spec3 w = r → (cfg3.win w).isOut = false) :
    W7 m c (Proc.devRef .tc r) = W6 m c (Proc.devRef .tc r) := by
  by_cases hw : ∃ w : Fin cfg3.W, Pipeline.arrRef spec3 w = r
  · obtain ⟨w, rfl⟩ := hw
    exact (W7_arr m c w).trans (((dat3 (V6 m) c).arrAt_in w (h w rfl) _).trans (A_eq3 (V6 m) c w))
  · exact W7_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m c (Proc.devRef .tc a) = m ((c : Thread nD τ).loc a) :=
  fun a ha => (W7_of m c a (argsIn3 a ha)).trans (W6_args m c a ha)
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After stretch 3. -/
abbrev W8 : Dev nD → Valuation τ sig (Elt F) := fun c => StableHlo.after hostOps3 (W7 m c)
theorem W8_of (c : Dev nD) (r : Ref sig .tc) (h : r ∉ hostOps3_W) : W8 m c (Proc.devRef .tc r) = W7 m c (Proc.devRef .tc r) :=
  StableHlo.after_of_writes_sub hostOps3 _ hostOps3_writes h
theorem W8_args (c : Dev nD) : ∀ a ∈ argRefs, W8 m c (Proc.devRef .tc a) = m ((c : Thread nD τ).loc a) :=
  fun a ha => (W8_of m c a (hostOps3_args a ha)).trans (W7_args m c a ha)
abbrev V8 : (c : Dev nD) → (b : Ref sig .tc) → Buf (Elt F) ((c : Thread nD τ).loc b) := fun c b => W8 m c b

/-- After call 3: its arrays at what its write-backs leave, every other buffer as it was. -/
def W9 (c : Dev nD) : Valuation τ sig (Elt F) :=
  Pipeline.withArrays spec4 c (W8 m c) fun w => (dat4 (V8 m) c).arrAt w cfg4.N
theorem W9_arr (c : Dev nD) (w : Fin cfg4.W) :
    W9 m c (Proc.devRef .tc (Pipeline.arrRef spec4 w)) = (dat4 (V8 m) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m c (Proc.devRef .tc b) = W8 m c (Proc.devRef .tc b) := by
  unfold W9; exact Pipeline.withArrays_of_ne spec4 c _ _ b hb
theorem W9_of (c : Dev nD) (r : Ref sig .tc) (h : ∀ w : Fin cfg4.W, Pipeline.arrRef spec4 w = r → (cfg4.win w).isOut = false) :
    W9 m c (Proc.devRef .tc r) = W8 m c (Proc.devRef .tc r) := by
  by_cases hw : ∃ w : Fin cfg4.W, Pipeline.arrRef spec4 w = r
  · obtain ⟨w, rfl⟩ := hw
    exact (W9_arr m c w).trans (((dat4 (V8 m) c).arrAt_in w (h w rfl) _).trans (A_eq4 (V8 m) c w))
  · exact W9_of_ne m c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W9_args (c : Dev nD) : ∀ a ∈ argRefs, W9 m c (Proc.devRef .tc a) = m ((c : Thread nD τ).loc a) :=
  fun a ha => (W9_of m c a (argsIn4 a ha)).trans (W8_args m c a ha)
abbrev V9 : (c : Dev nD) → (b : Ref sig .tc) → Buf (Elt F) ((c : Thread nD τ).loc b) := fun c b => W9 m c b
theorem hF4 (c : Dev nD) (w : Fin cfg4.W) : (dat4 (V8 m) c).arrAt w cfg4.N = V9 m c (Pipeline.arrRef spec4 w) :=
  (W9_arr m c w).symm
theorem hrest4 (c : Dev nD) : ∀ b, b ∉ Finset.univ.image (Pipeline.arrRef spec4) → V9 m c b = V8 m c b :=
  fun b hb => W9_of_ne m c b fun w e => hb (Finset.mem_image.mpr ⟨w, Finset.mem_univ _, e⟩)

/-- After stretch 4. -/
abbrev W10 : Dev nD → Valuation τ sig (Elt F) := fun c => StableHlo.after hostOps4 (W9 m c)
theorem W10_of (c : Dev nD) (r : Ref sig .tc) (h : r ∉ hostOps4_W) : W10 m c (Proc.devRef .tc r) = W9 m c (Proc.devRef .tc r) :=
  StableHlo.after_of_writes_sub hostOps4 _ hostOps4_writes h
theorem W10_args (c : Dev nD) : ∀ a ∈ argRefs, W10 m c (Proc.devRef .tc a) = m ((c : Thread nD τ).loc a) :=
  fun a ha => (W10_of m c a (hostOps4_args a ha)).trans (W9_args m c a ha)
abbrev V10 : (c : Dev nD) → (b : Ref sig .tc) → Buf (Elt F) ((c : Thread nD τ).loc b) := fun c b => W10 m c b

/-- After call 4: its arrays at what its write-backs leave, every other buffer as it was. -/
def W11 (c : Dev nD) : Valuation τ sig (Elt F) :=
  Pipeline.withArrays spec5 c (W10 m c) fun w => (dat5 (V10 m) c).arrAt w cfg5.N
theorem W11_arr (c : Dev nD) (w : Fin cfg5.W) :
    W11 m c (Proc.devRef .tc (Pipeline.arrRef spec5 w)) = (dat5 (V10 m) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m c (Proc.devRef .tc b) = W10 m c (Proc.devRef .tc b) := by
  unfold W11; exact Pipeline.withArrays_of_ne spec5 c _ _ b hb
theorem W11_of (c : Dev nD) (r : Ref sig .tc) (h : ∀ w : Fin cfg5.W, Pipeline.arrRef spec5 w = r → (cfg5.win w).isOut = false) :
    W11 m c (Proc.devRef .tc r) = W10 m c (Proc.devRef .tc r) := by
  by_cases hw : ∃ w : Fin cfg5.W, Pipeline.arrRef spec5 w = r
  · obtain ⟨w, rfl⟩ := hw
    exact (W11_arr m c w).trans (((dat5 (V10 m) c).arrAt_in w (h w rfl) _).trans (A_eq5 (V10 m) c w))
  · exact W11_of_ne m c r fun w e => hw ⟨w, e⟩
theorem argsIn5 : ∀ a ∈ argRefs, ∀ w : Fin cfg5.W, Pipeline.arrRef spec5 w = a → (cfg5.win w).isOut = false :=
  ListAll.forall_mem_of_all_decide (by decide +kernel)
theorem W11_args (c : Dev nD) : ∀ a ∈ argRefs, W11 m c (Proc.devRef .tc a) = m ((c : Thread nD τ).loc a) :=
  fun a ha => (W11_of m c a (argsIn5 a ha)).trans (W10_args m c a ha)
abbrev V11 : (c : Dev nD) → (b : Ref sig .tc) → Buf (Elt F) ((c : Thread nD τ).loc b) := fun c b => W11 m c b
theorem hF5 (c : Dev nD) (w : Fin cfg5.W) : (dat5 (V10 m) c).arrAt w cfg5.N = V11 m c (Pipeline.arrRef spec5 w) :=
  (W11_arr m c w).symm
theorem hrest5 (c : Dev nD) : ∀ b, b ∉ Finset.univ.image (Pipeline.arrRef spec5) → V11 m c b = V10 m c b :=
  fun b hb => W11_of_ne m c b fun w e => hb (Finset.mem_image.mpr ⟨w, Finset.mem_univ _, e⟩)

/-- After stretch 5. -/
abbrev W12 : Dev nD → Valuation τ sig (Elt F) := fun c => StableHlo.after hostOps5 (W11 m c)
theorem W12_of (c : Dev nD) (r : Ref sig .tc) (h : r ∉ hostOps5_W) : W12 m c (Proc.devRef .tc r) = W11 m c (Proc.devRef .tc r) :=
  StableHlo.after_of_writes_sub hostOps5 _ hostOps5_writes h
theorem W12_args (c : Dev nD) : ∀ a ∈ argRefs, W12 m c (Proc.devRef .tc a) = m ((c : Thread nD τ).loc a) :=
  fun a ha => (W12_of m c a (hostOps5_args a ha)).trans (W11_args m c a ha)
abbrev V12 : (c : Dev nD) → (b : Ref sig .tc) → Buf (Elt F) ((c : Thread nD τ).loc b) := fun c b => W12 m c b

end Cert.Proof.Group

end
-- ==== Proof.GroupSegs.lean ====
/-
  The calls of the grouped program as segments of its run.
-/
module

public import proofs.«01_k».proof.Proof.GroupFold

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The calls as segments -/

variable (m : (ℓ : Loc nD τ sig) → Buf (Elt F) ℓ)

abbrev adm : (p : Fin 5) → (pcfgs (F := F) p).Adm := fun p => (cfgs p).toPCfg_adm
def pdats : (p : Fin 5) → (c : Dev nD) → Dat τ (Elt F) (HIx 1) ℕ UU ℕ (Pipeline.pin (pcfgs (F := F)) adm p) c
  | ⟨0, _⟩ => fun c => dat0 (V0 m) c
  | ⟨1, _⟩ => fun c => dat2 (V4 m) c
  | ⟨2, _⟩ => fun c => dat3 (V6 m) c
  | ⟨3, _⟩ => fun c => dat4 (V8 m) c
  | ⟨4, _⟩ => fun c => dat5 (V10 m) c

/-- What the TensorCore owes the row gather before it (`n = 0`) and after it (`n = 1`). -/
abbrev RO (c : Dev nD) (n : ℕ) : sProp 𝕄 :=
  iprop(∃ W, ⌜(K (F := F)).WBelow (SparseCore.T c) W (8 * n)⌝ ∗ owes (SparseCore.T c) ((K (F := F)).Otc c n) W)
abbrev RR (n : ℕ) (c : Dev nD) : sProp 𝕄 := iprop((∃ r, prngReg c r) ∗ RO c n)

abbrev hseg (n : ℕ) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU) (pcfgs (F := F)) defs₀ 𝒱₀ (K (F := F)).L (K (F := F)).lev :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (RR n)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (V0 m) c).loose
  hwaits c := Pipeline.cellsWaits_intro _ _ _ _ c fun w s t => (K (F := F)).mayWait_none _ (Otc_none c 0)
  pre c := iprop(StableHlo.held (c : Thread nD τ) (Pipeline.ucRefs τ sig) (W0 m c) ∗ RR 0 c)
  post c := iprop(StableHlo.held (c : Thread nD τ) (Pipeline.ucRefs τ sig) (W1 m c) ∗ RR 0 c)
  X c := iprop(∃ r, prngReg c r)
  Y c := iprop(∃ r, prngReg c r)
  Z c := Pipeline.unscopedRest (Ix := HIx 1) (Name := ℕ) (U := UU) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 0 c).Φ 0 = ΦG spec0 c from rfl]; unfold ΦG
    iintro ⟨Hp, -, Hr⟩
    isplitl [Hr]; · iexact Hr
    iexact Hp
  hout c := by
    rw [Pipeline.ownSems0_none, show (pdats m 0 c).Φ (Fin.last _) = ΦG spec0 c from rfl]; unfold ΦG
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro q hq
      rcases hW hq with h | h
      · exact h
      · obtain ⟨w, s, rfl⟩ := h
        exact (le_of_eq (SparseCore.Cfg.lev_none ..)).trans (Nat.zero_le _)
    iexact HO

set_option backward.isDefEq.respectTransparency.types false in
def reg1 : Pipeline.RegionSeg (pcfgs (F := F)) adm (pdats m) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (V4 m) c).loose
  hwaits c := Pipeline.cellsWaits_intro _ _ _ _ c fun w s t => (K (F := F)).mayWait_none _ (Otc_none c 1)
  pre c := iprop(StableHlo.held (c : Thread nD τ) (Pipeline.ucRefs τ sig) (W4 m c) ∗ RR 1 c)
  post c := iprop(StableHlo.held (c : Thread nD τ) (Pipeline.ucRefs τ sig) (W5 m c) ∗ RR 1 c)
  X c := iprop(∃ r, prngReg c r)
  Y c := iprop(∃ r, prngReg c r)
  Z c := Pipeline.unscopedRest (Ix := HIx 1) (Name := ℕ) (U := UU) (Lvl := ℕ) spec2 c (V4 m c)
  hentry c := by
    rw [Pipeline.ownSems0_none]
    have hsplit := Pipeline.arrays_of_unscopedBufs (p := 1) (pcfgs (F := F)) adm (pdats m) launch2.win launch2.arr_whole c
      ((pdats m 1 c).share_full fun _ => rfl) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 1 c).Φ 0 = ΦG spec2 c from rfl]; unfold ΦG
    iintro ⟨Hp, -, Hr⟩
    isplitl [Hr]; · iexact Hr
    iexact Hp
  hout c := by
    rw [Pipeline.ownSems0_none, show (pdats m 1 c).Φ (Fin.last _) = ΦG spec2 c from rfl]; unfold ΦG
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats m) ((pdats m 1 c).share_full fun _ => rfl)
      (V4 m c) (V5 m c) ((pdats m 1 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro q hq
      rcases hW hq with h | h
      · exact h
      · obtain ⟨w, s, rfl⟩ := h
        exact (le_of_eq (SparseCore.Cfg.lev_none ..)).trans (Nat.zero_le _)
    iexact HO

set_option backward.isDefEq.respectTransparency.types false in
def reg2 : Pipeline.RegionSeg (pcfgs (F := F)) adm (pdats m) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (V6 m) c).loose
  hwaits c := Pipeline.cellsWaits_intro _ _ _ _ c fun w s t => (K (F := F)).mayWait_none _ (Otc_none c 1)
  pre c := iprop(StableHlo.held (c : Thread nD τ) (Pipeline.ucRefs τ sig) (W6 m c) ∗ RR 1 c)
  post c := iprop(StableHlo.held (c : Thread nD τ) (Pipeline.ucRefs τ sig) (W7 m c) ∗ RR 1 c)
  X c := iprop(∃ r, prngReg c r)
  Y c := iprop(∃ r, prngReg c r)
  Z c := Pipeline.unscopedRest (Ix := HIx 1) (Name := ℕ) (U := UU) (Lvl := ℕ) spec3 c (V6 m c)
  hentry c := by
    rw [Pipeline.ownSems0_none]
    have hsplit := Pipeline.arrays_of_unscopedBufs (p := 2) (pcfgs (F := F)) adm (pdats m) launch3.win launch3.arr_whole c
      ((pdats m 2 c).share_full fun _ => rfl) (V6 m c) (A_eq3 (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 2 c).Φ 0 = ΦG spec3 c from rfl]; unfold ΦG
    iintro ⟨Hp, -, Hr⟩
    isplitl [Hr]; · iexact Hr
    iexact Hp
  hout c := by
    rw [Pipeline.ownSems0_none, show (pdats m 2 c).Φ (Fin.last _) = ΦG spec3 c from rfl]; unfold ΦG
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats m) ((pdats m 2 c).share_full fun _ => rfl)
      (V6 m c) (V7 m c) ((pdats m 2 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro q hq
      rcases hW hq with h | h
      · exact h
      · obtain ⟨w, s, rfl⟩ := h
        exact (le_of_eq (SparseCore.Cfg.lev_none ..)).trans (Nat.zero_le _)
    iexact HO

set_option backward.isDefEq.respectTransparency.types false in
def reg3 : Pipeline.RegionSeg (pcfgs (F := F)) adm (pdats m) (none : HIx 1) defs₀ 𝒱₀ (K (F := F)).L (K (F := F)).lev 3 where
  win := launch4.win.to₀
  block_pos := launch4.block_pos
  stage_whole := launch4.stage_whole
  K := PEmpty
  osem k := k.elim
  ho := Pipeline.OwnSemFacts.none _
  hbody c := (body_obligation4 (V8 m) c).loose
  hwaits c := Pipeline.cellsWaits_intro _ _ _ _ c fun w s t => (K (F := F)).mayWait_none _ (Otc_none c 1)
  pre c := iprop(StableHlo.held (c : Thread nD τ) (Pipeline.ucRefs τ sig) (W8 m c) ∗ RR 1 c)
  post c := iprop(StableHlo.held (c : Thread nD τ) (Pipeline.ucRefs τ sig) (W9 m c) ∗ RR 1 c)
  X c := iprop(∃ r, prngReg c r)
  Y c := iprop(∃ r, prngReg c r)
  Z c := Pipeline.unscopedRest (Ix := HIx 1) (Name := ℕ) (U := UU) (Lvl := ℕ) spec4 c (V8 m c)
  hentry c := by
    rw [Pipeline.ownSems0_none]
    have hsplit := Pipeline.arrays_of_unscopedBufs (p := 3) (pcfgs (F := F)) adm (pdats m) launch4.win launch4.arr_whole c
      ((pdats m 3 c).share_full fun _ => rfl) (V8 m c) (A_eq4 (V8 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 3 c).Φ 0 = ΦG spec4 c from rfl]; unfold ΦG
    iintro ⟨Hp, -, Hr⟩
    isplitl [Hr]; · iexact Hr
    iexact Hp
  hout c := by
    rw [Pipeline.ownSems0_none, show (pdats m 3 c).Φ (Fin.last _) = ΦG spec4 c from rfl]; unfold ΦG
    iintro ⟨Hr, Hp⟩
    isplitl [Hp]; · iexact Hp
    isplitr; · iempintro
    iexact Hr
  hexit c := by
    have hjoin := Pipeline.unscopedBufs_of_arrays (p := 3) (pcfgs (F := F)) adm (Ix := HIx 1) (Name := ℕ) (U := UU) (Lvl := ℕ)
      launch4.win launch4.arr_whole c (pdats m) ((pdats m 3 c).share_full fun _ => rfl)
      (V8 m c) (V9 m c) ((pdats m 3 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro q hq
      rcases hW hq with h | h
      · exact h
      · obtain ⟨w, s, rfl⟩ := h
        exact (le_of_eq (SparseCore.Cfg.lev_none ..)).trans (Nat.zero_le _)
    iexact HO

set_option backward.isDefEq.respectTransparency.types false in
def reg4 : Pipeline.RegionSeg (pcfgs (F := F)) adm (pdats m) (none : HIx 1) defs₀ 𝒱₀ (K (F := F)).L (K (F := F)).lev 4 where
  win := launch5.win.to₀
  block_pos := launch5.block_pos
  stage_whole := launch5.stage_whole
  K := PEmpty
  osem k := k.elim
  ho := Pipeline.OwnSemFacts.none _
  hbody c := (body_obligation5 (V10 m) c).loose
  hwaits c := Pipeline.cellsWaits_intro _ _ _ _ c fun w s t => (K (F := F)).mayWait_none _ (Otc_none c 1)
  pre c := iprop(StableHlo.held (c : Thread nD τ) (Pipeline.ucRefs τ sig) (W10 m c) ∗ RR 1 c)
  post c := iprop(StableHlo.held (c : Thread nD τ) (Pipeline.ucRefs τ sig) (W11 m c) ∗ RR 1 c)
  X c := iprop(∃ r, prngReg c r)
  Y c := iprop(∃ r, prngReg c r)
  Z c := Pipeline.unscopedRest (Ix := HIx 1) (Name := ℕ) (U := UU) (Lvl := ℕ) spec5 c (V10 m c)
  hentry c := by
    rw [Pipeline.ownSems0_none]
    have hsplit := Pipeline.arrays_of_unscopedBufs (p := 4) (pcfgs (F := F)) adm (pdats m) launch5.win launch5.arr_whole c
      ((pdats m 4 c).share_full fun _ => rfl) (V10 m c) (A_eq5 (V10 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitl [Hp]; · iexact Hp
    iexact Hrest
  hin c := by
    rw [show (pdats m 4 c).Φ 0 = ΦG spec5 c from rfl]; unfold ΦG
    iintro ⟨Hp, -, Hr⟩
    isplitl [Hr]; · iexact Hr
    iexact Hp
  hout c := by
    rw [Pipeline.ownSems0_none, show (pdats m 4 c).Φ (Fin.last _) = ΦG spec5 c from rfl]; unfold ΦG
    iintro ⟨Hr, Hp⟩
    isplitl [Hp]; · iexact Hp
    isplitr; · iempintro
    iexact Hr
  hexit c := by
    have hjoin := Pipeline.unscopedBufs_of_arrays (p := 4) (pcfgs (F := F)) adm (Ix := HIx 1) (Name := ℕ) (U := UU) (Lvl := ℕ)
      launch5.win launch5.arr_whole c (pdats m) ((pdats m 4 c).share_full fun _ => rfl)
      (V10 m c) (V11 m c) ((pdats m 4 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W
    isplitr
    · ipureintro
      intro q hq
      rcases hW hq with h | h
      · exact h
      · obtain ⟨w, s, rfl⟩ := h
        exact (le_of_eq (SparseCore.Cfg.lev_none ..)).trans (Nat.zero_le _)
    iexact HO

abbrev Segs := List (Pipeline.Seg (pcfgs (F := F)) adm (pdats m) (none : HIx 1) defs₀ 𝒱₀ (K (F := F)).L (K (F := F)).lev)
/-- Before the row gather, and after it. -/
abbrev segsA : Segs m :=
  [ .region (reg0 m), .host (hseg 0 hostOps0 hostOps0_sub hostOps0_fresh (W1 m)) ]
abbrev segsB : Segs m :=
  [ .host (hseg 1 hostOps1 hostOps1_sub hostOps1_fresh (W3 m)),
    .region (reg1 m),
    .host (hseg 1 hostOps2 hostOps2_sub hostOps2_fresh (W5 m)),
    .region (reg2 m),
    .host (hseg 1 hostOps3 hostOps3_sub hostOps3_fresh (W7 m)),
    .region (reg3 m),
    .host (hseg 1 hostOps4 hostOps4_sub hostOps4_fresh (W9 m)),
    .region (reg4 m),
    .host (hseg 1 hostOps5 hostOps5_sub hostOps5_fresh (W11 m)) ]

theorem main_eq (d : Dev nD) : main (F := F) d
    = (SparseCore.liftProg (Pipeline.Seg.run (segsA m)) >>= fun _ => (sc (F := F)).run d 0 >>= fun _ =>
        SparseCore.liftProg (Pipeline.Seg.run (segsB m))) := by
  chain_rfl

end Cert.Proof.Group

end
-- ==== Proof.GroupRun.lean ====
/-
  The run of the grouped program: every execution ends, with every buffer at the last boundary.
-/
module

public import proofs.«01_k».proof.Proof.GroupSegs

@[expose] public section

set_option maxRecDepth 16384

noncomputable section

namespace Cert.Proof.Group

open Cert.GroupIdeal Cert.GroupIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.SparseCore (T)

variable (m : (ℓ : Loc nD τ sig) → Buf (Elt F) ℓ) (ρ : Dev nD → PrngReg)

/-! ## The ghost state at launch -/

/-- The ghost state of the calls of `S` on device `d`. -/
abbrev ghost (S : Finset (Fin 5)) (d : Dev nD) : sProp 𝕄 := Pipeline.ghostOn (pcfgs (F := F)) adm EP S d

def u₀ : UU := (initOf (K (F := F)).hsCells (K (F := F)).hsToks,
  (initOf (Pipeline.cells (cfgs) cellOf_inj) (Pipeline.launchToks (cfgs) cellOf_inj), 1))

theorem emps {I : Type} (s : Finset I) : (bigSep s fun _ => iprop(emp)) = (iprop(emp) : sProp 𝕄) := bigSep_emp_const s

theorem ghosts_eq : iprop((bigSep Finset.univ fun c : Dev nD => bigSep Finset.univ fun p => Pipeline.cellsGhost (Pipeline.pin (pcfgs (F := F)) adm) EP p c)
      ∗ (bigSep Finset.univ fun c : Dev nD => bigSep Finset.univ fun p => (Pipeline.toksInit (Pipeline.pin (pcfgs (F := F)) adm) EP p c : sProp 𝕄)))
    = bigSep Finset.univ fun d : Dev nD => ghost (F := F) Finset.univ d := by
  rw [← bigSep_sep']
  refine bigSep_congr fun c _ => ?_
  rw [← bigSep_sep']
  rfl

theorem ghosts : (BI.own (EP (initOf (Pipeline.cells (cfgs) cellOf_inj) (Pipeline.launchToks (cfgs) cellOf_inj))) : sProp 𝕄)
    ⊢ iprop(|==> bigSep Finset.univ fun d : Dev nD => ghost (F := F) Finset.univ d) := by
  iintro Hu
  imod (Pipeline.fund_ghost (Pipeline.pin (pcfgs (F := F)) adm) EP cellOf_inj) $$ Hu with H
  imodintro
  iapply (Entails.of_eq ghosts_eq)
  iexact H

theorem hu₀ (tb : Dev nD → Tbl F) (ix : Dev nD → Ixs F) (f0 : Dev nD → Out F) : (ownU (u₀ (F := F)) : sProp 𝕄)
    ⊢ |={Set.univ}=> iprop(BI.own (EH (initOf (K (F := F)).hsCells (K (F := F)).hsToks))
        ∗ (bigSep Finset.univ fun d : Dev nD => ghost (F := F) Finset.univ d)
        ∗ bigSep Finset.univ fun thr : Thread nD τ => bigSep Finset.univ fun q : Fin 1 => (P tb ix f0).x q thr) := by
  unfold u₀
  iintro Hu
  ihave H := (ownU_pair (initOf (K (F := F)).hsCells (K (F := F)).hsToks)
    ((initOf (Pipeline.cells (cfgs) cellOf_inj) (Pipeline.launchToks (cfgs) cellOf_inj), 1) : UP × Counters)) $$ Hu
  icases H with ⟨HH, HR⟩
  ihave H2 := (own_pair_emb (embR : Emb (UP × Counters) 𝕄) (initOf (Pipeline.cells (cfgs) cellOf_inj) (Pipeline.launchToks (cfgs) cellOf_inj))
    (1 : Counters)) $$ HR
  icases H2 with ⟨HP, -⟩
  ihave HP := (show BI.own (((Emb.inl : Emb UP (UP × Counters)).trans (embR : Emb (UP × Counters) 𝕄))
      (initOf (Pipeline.cells cfgs cellOf_inj) (Pipeline.launchToks cfgs cellOf_inj)))
    ⊢ BI.own (EP (initOf (Pipeline.cells cfgs cellOf_inj) (Pipeline.launchToks cfgs cellOf_inj))) from .rfl) $$ HP
  imod ghosts $$ HP with HG
  imodintro
  isplitl [HH]; · iexact HH
  isplitl [HG]; · iexact HG
  rw [show (bigSep Finset.univ fun thr : Thread nD τ => bigSep Finset.univ fun q : Fin 1 => (P (F := F) tb ix f0).x q thr) = bigSep Finset.univ fun _ => iprop(emp) from
    bigSep_congr fun _ _ => bigSep_univ_of_subsingleton (0 : Fin 1), emps]
  iempintro

/-! ## @main on the TensorCore -/

/-- The TensorCore's part of the handshakes, what it owes apart. -/
def tcSide (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_split (d : Dev nD) (n : ℕ) : ((K (F := F)).tcSt EH d n : sProp 𝕄) = iprop(RO d n ∗ tcSide (F := F) d n) := rfl

/-- The three buffers of the row gather among those the TensorCore holds. -/
theorem held_gather (d : Dev nD) (V : Valuation τ sig (Elt F)) :
    (StableHlo.held (d : Thread nD τ) (Pipeline.ucRefs τ sig) V : sProp 𝕄)
      = iprop((tLoc d ↦{fullShare} V (Proc.devRef (τ := τ) .tc main_v9)) ∗ (iLoc d ↦{fullShare} V (Proc.devRef (τ := τ) .tc main_v10))
        ∗ (oLoc d ↦{fullShare} V (Proc.devRef (τ := τ) .tc main_v11))
        ∗ bigSep ((((Pipeline.ucRefs τ sig).erase (Proc.devRef .tc main_v9)).erase (Proc.devRef .tc main_v10)).erase (Proc.devRef .tc main_v11))
            fun b => ((d, b) : Loc nD τ sig) ↦{fullShare} V b) := by
  unfold StableHlo.held
  rw [SparseCore.bigSep_erase' (mem_uc main_v9 (by decide)),
    SparseCore.bigSep_erase' (Finset.mem_erase.mpr ⟨by decide, mem_uc main_v10 (by decide)⟩),
    SparseCore.bigSep_erase' (Finset.mem_erase.mpr ⟨by decide, Finset.mem_erase.mpr ⟨by decide, mem_uc main_v11 (by decide)⟩⟩)]

/-- What the row gather leaves beside its output is what it found. -/
theorem held_rest (d : Dev nD) :
    (bigSep ((((Pipeline.ucRefs τ sig).erase (Proc.devRef .tc main_v9)).erase (Proc.devRef .tc main_v10)).erase (Proc.devRef .tc main_v11))
        fun b => ((d, b) : Loc nD τ sig) ↦{fullShare} W2 m d b : sProp 𝕄)
      = bigSep ((((Pipeline.ucRefs τ sig).erase (Proc.devRef .tc main_v9)).erase (Proc.devRef .tc main_v10)).erase (Proc.devRef .tc main_v11))
        fun b => ((d, b) : Loc nD τ sig) ↦{fullShare} W3 m d b :=
  bigSep_congr fun b hb => by
    unfold W3
    rw [Function.update_of_ne (Finset.ne_of_mem_erase hb)]

/-- The ghost state of the first call, and of the others. -/
theorem ghost_split (d : Dev nD) : ghost (F := F) Finset.univ d = iprop(ghost (F := F) {0} d ∗ ghost (F := F) (Finset.univ.erase 0) d) := by
  unfold ghost Pipeline.ghostOn Pipeline.PerCore.ghostOn
  rw [SparseCore.bigSep_erase' (Finset.mem_univ (0 : Fin 5)), bigSep_singleton]

abbrev FIN (d : Dev nD) : sProp 𝕄 := StableHlo.held (d : Thread nD τ) (Pipeline.ucRefs τ sig) (W12 m d)

theorem chainA : Pipeline.Seg.Chains (fun c => iprop(StableHlo.held (c : Thread nD τ) (Pipeline.ucRefs τ sig) (W0 m c) ∗ RR 0 c)) (segsA m)
    (fun c => iprop(StableHlo.held (c : Thread nD τ) (Pipeline.ucRefs τ sig) (W2 m c) ∗ RR 0 c)) :=
  ⟨fun _ => .rfl, fun _ => .rfl, fun _ => .rfl⟩
theorem chainB : Pipeline.Seg.Chains (fun c => iprop(StableHlo.held (c : Thread nD τ) (Pipeline.ucRefs τ sig) (W3 m c) ∗ RR 1 c)) (segsB m)
    (fun c => iprop(StableHlo.held (c : Thread nD τ) (Pipeline.ucRefs τ sig) (W12 m c) ∗ RR 1 c)) :=
  ⟨fun _ => .rfl, fun _ => .rfl, fun _ => .rfl, fun _ => .rfl, fun _ => .rfl, fun _ => .rfl, fun _ => .rfl, fun _ => .rfl, fun _ => .rfl, fun _ => .rfl⟩

theorem wpA [∀ e, Nonempty (Elt F e)] (d : Dev nD) (Q : PUnit → sProp 𝕄) :
    iprop((iprop(boundary (d : Thread nD τ) ∗ StableHlo.held (d : Thread nD τ) (Pipeline.ucRefs τ sig) (W2 m d) ∗ RR 0 d) -∗ Q ⟨⟩)
      ∗ boundary (d : Thread nD τ) ∗ iprop(StableHlo.held (d : Thread nD τ) (Pipeline.ucRefs τ sig) (W0 m d) ∗ RR 0 d)
      ∗ levAts (K (F := F)).L (K (F := F)).lev ∗ ghost {0} d)
      ⊢ wp frame (wpE ((K (F := F)).defs (D (F := F))) 𝒱 (T d) none) Set.univ (SparseCore.liftProg (Pipeline.Seg.run (segsA m))) Q :=
  (Pipeline.wp_segs (pcfgs (F := F)) adm (pdats m) (none : HIx 1) cellOf_inj EP defs₀ 𝒱₀ (K (F := F)).L (K (F := F)).lev d (segsA m) {0} _ _
    (by simp only [segsA, Pipeline.Seg.pipes_host, Pipeline.Seg.pipes_region, Pipeline.Seg.pipes_nil]; decide)
    (by simp only [segsA, Pipeline.Seg.pipes_host, Pipeline.Seg.pipes_region, Pipeline.Seg.pipes_nil]; decide) (chainA m)).trans
    ((K (F := F)).wp_liftProg (D (F := F)) 𝒱 (T d) Set.univ none _ Q)

theorem wpB [∀ e, Nonempty (Elt F e)] (d : Dev nD) (Q : PUnit → sProp 𝕄) :
    iprop((iprop(boundary (d : Thread nD τ) ∗ StableHlo.held (d : Thread nD τ) (Pipeline.ucRefs τ sig) (W12 m d) ∗ RR 1 d) -∗ Q ⟨⟩)
      ∗ boundary (d : Thread nD τ) ∗ iprop(StableHlo.held (d : Thread nD τ) (Pipeline.ucRefs τ sig) (W3 m d) ∗ RR 1 d)
      ∗ levAts (K (F := F)).L (K (F := F)).lev ∗ ghost (Finset.univ.erase 0) d)
      ⊢ wp frame (wpE ((K (F := F)).defs (D (F := F))) 𝒱 (T d) none) Set.univ (SparseCore.liftProg (Pipeline.Seg.run (segsB m))) Q :=
  (Pipeline.wp_segs (pcfgs (F := F)) adm (pdats m) (none : HIx 1) cellOf_inj EP defs₀ 𝒱₀ (K (F := F)).L (K (F := F)).lev d (segsB m) (Finset.univ.erase 0) _ _
    (by simp only [segsB, Pipeline.Seg.pipes_host, Pipeline.Seg.pipes_region, Pipeline.Seg.pipes_nil]; decide)
    (by simp only [segsB, Pipeline.Seg.pipes_host, Pipeline.Seg.pipes_region, Pipeline.Seg.pipes_nil]; decide) (chainB m)).trans
    ((K (F := F)).wp_liftProg (D (F := F)) 𝒱 (T d) Set.univ none _ Q)

theorem launch_held (d : Dev nD) : (unscopedBufs d (fun b => m ((SparseCore.T d).loc b)) : sProp 𝕄)
    = StableHlo.held (d : Thread nD τ) (Pipeline.ucRefs τ sig) (W0 m d) :=
  Pipeline.unscopedBufs_held d (W0 m d)

theorem hmain [∀ e, Nonempty (Elt F e)] (κ : GSem nD τ sig → ℕ) (d : Dev nD) :
    iprop((K (F := F)).ctx EH (P (tbl m) (ixs m) (out₀ m)) κ ∗ (K (F := F)).tcSt EH d 0 ∗ (K (F := F)).tcRes m ρ d ∗ ghost Finset.univ d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [launch_held m d, main_eq m, ghost_split, tcSt_split]
  iintro ⟨#Hctx, ⟨HO, Hside⟩, ⟨Hb, Hu, Hts, Hp⟩, HgA, HgB⟩
  ihave #Hlev := (SparseCore.Cfg.ctx_levAts κ) $$ Hctx
  simp only [wp_bind]
  iapply (wpA m d _)
  isplitr [Hb Hu Hp HO HgA]
  · iintro ⟨Hb, Hu, Hp, HO⟩
    ihave Hu' := (Entails.of_eq (held_gather d (W2 m d))) $$ Hu
    icases Hu' with ⟨Ht, Hi, Ho, Hr⟩
    iapply ((K (F := F)).wp_run (D (F := F)) 𝒱 (EH := EH) (P := P (tbl m) (ixs m) (out₀ m)) κ d 0)
    isplitr; · iexact Hctx
    isplitl [HO Hside]
    · iapply (Entails.of_eq (tcSt_split (F := F) d 0).symm)
      isplitl [HO] <;> iassumption
    isplitl [Ht Hi Ho]
    · rw [st0_eq]
      isplitl [Ht]; · iexact Ht
      isplitl [Hi]; · iexact Hi
      iexact Ho
    iintro ⟨Hst, Hdn⟩
    ihave Hdn' := (Entails.of_eq (dn0_eq (tbl m) (ixs m) (out₀ m) d)) $$ Hdn
    icases Hdn' with ⟨Ht, Hi, Ho⟩
    ihave Hst' := (Entails.of_eq (show (K (F := F)).tcSt EH d ((0 : Fin 1).val + 1) = iprop(RO d 1 ∗ tcSide (F := F) d 1) from tcSt_split d 1)) $$ Hst
    icases Hst' with ⟨HO, Hside⟩
    ihave Hr' := (Entails.of_eq (held_rest m d)) $$ Hr
    iapply (wpB m d _)
    isplitr [Hb Ht Hi Ho Hr' Hp HO HgB]
    · iintro ⟨Hb, Hu, -, HO⟩
      isplitl [HO Hside]
      · iapply (Entails.of_eq (tcSt_split (F := F) d 1).symm)
        isplitl [HO] <;> iassumption
      isplitl [Hu]; · iexact Hu
      isplitl [Hb] <;> iassumption
    isplitl [Hb]; · iexact Hb
    isplitl [Ht Hi Ho Hr' Hp HO]
    · isplitl [Ht Hi Ho Hr']
      · rw [held_gather, W3_v11, W3_of m d main_v9 (by decide), W3_of m d main_v10 (by decide)]
        isplitl [Ht]; · iexact Ht
        isplitl [Hi]; · iexact Hi
        isplitl [Ho]; · iexact Ho
        iexact Hr'
      isplitl [Hp]; · iexact Hp
      iexact HO
    isplitr; · iexact Hlev
    iexact HgB
  isplitl [Hb]; · iexact Hb
  isplitl [Hu Hp HO]
  · isplitl [Hu]; · iexact Hu
    isplitl [Hp]; · iexists _; iexact Hp
    iexact HO
  isplitr; · iexact Hlev
  iexact HgA

/-! ## The run -/

def fq (d : Dev nD) (s' : Phys nD τ sig (Elt F)) : Prop := ∀ b ∈ Pipeline.ucRefs τ sig, s'.mem.mem (d, b) = W12 m d b

theorem hfin (d : Dev nD) (s' : Phys nD τ sig (Elt F)) : iprop(FIN m d ∗ SI s') ⊢ (⌜fq m d s'⌝ : sProp 𝕄) := by
  unfold FIN StableHlo.held fq
  exact (pointsTo_read_all (Pipeline.ucRefs τ sig) (fun b => ((d, b) : Loc nD τ sig)) (W12 m d) s').trans sep_elim_left

def QC : PUnit × MemSt nD τ sig (Elt F) → Prop := fun r =>
  (∀ d : Dev nD, ∀ b ∈ Pipeline.ucRefs τ sig, r.2.mem (d, b) = W12 m d b) ∧ r.2.sem = fun _ => 0

theorem run_main [∀ e, Nonempty (Elt F e)] (hix : ∀ d, InRows (ixs m d)) :
    θ_run (Cert.GroupIdeal.defs (F := F)) (Cert.GroupIdeal.threads (F := F)) ⟨m, fun _ => 0, ρ⟩ (QC m) :=
  SparseCore.Cfg.θ_run_sc_quiescent (K := K (F := F)) (D := D (F := F)) (𝒱 := 𝒱) (EH := EH) (P := P (tbl m) (ixs m) (out₀ m)) (A := ∅) facts v₀
    (fun q hq => match q with | 0 => nomatch hq)
    (fun q _ => match q with | 0 => tileObl _ _ _ facts hix)
    (fun q _ => match q with | 0 => SparseCore.Cfg.VecSplit.of_plain (vecSplit _ _ _))
    m ρ main (fun d => ghost Finset.univ d) (FIN m) (u₀ (F := F)) (sep_elim_left.trans (hu₀ _ _ _)) (hmain m ρ) (fq m) (hfin m) (QC m) (fun _ h hz => ⟨h, hz⟩)

/-- The argument arrays end as they began. -/
theorem args_kept {r : PUnit × MemSt nD τ sig (Elt F)} (h : QC m r) (d : Dev nD) (a : Ref sig .tc) (ha : a ∈ argRefs)
    (hs : ¬ (Proc.devRef .tc a : DevRef τ sig).isScoped) : r.2.mem ((d : Thread nD τ).loc a) = m ((d : Thread nD τ).loc a) :=
  (h.1 d _ (mem_uc a hs)).trans (W12_args m d a ha)

end Cert.Proof.Group

end
-- ==== Proof.GroupLayers.lean ====
/-
  What the four passes over the rows leave in their arrays as calls of the grouped program, from any contents they start from.
-/
module

public import proofs.«01_k».proof.Proof.GroupNorm
public import proofs.«01_k».proof.Proof.LayersKernel

@[expose] public section

noncomputable section

namespace Cert.Proof.GroupLayers

open Cert.GroupIdeal Cert.GroupIdeal.Gen Idealize.ShloMosaic Idealize.ShloMosaic.TcCoe Idealize.SL.Sem Cert.Proof.LayersMath Cert.Proof.Group
open Cert.Proof.LayersKernel (canon_first canon_second ld_first ld_second)

variable (V : (c : Dev nD) → (b : Ref sig .tc) → Buf (Elt Ideal) ((c : Thread nD τ).loc b)) (c : Dev nD)

/-! ## The first pass -/

section Pass2

/-- The tile of values the first pass writes at a point. -/
def tile2 (t : Fin cfg2.N) : FVec Ideal S4096x64 .f32 :=
  k2_pay2 (iblk2 V c 0 t) (iblk2 V c 1 t) (View.ld (iblk2 V c 2 t) (Rect.unit ![0, 0] ![3, 64] inb_S128x64_S3x64_0_0)) (iblk2 V c 2 t) (iblk2 V c 3 t)

theorem out2_y (t : Fin cfg2.N) : (outsAt2 V c t.val t.isLt).1 = tile2 V c t := by
  by_cases h : t.val % 32 = 0
  · rw [outsAt2_A V c t h]; frame_out; rfl
  · rw [outsAt2_B V c t h]; frame_out; rfl

theorem pay2_first (x0 x1 x2 x3 x4) (v : Vec Ideal S1x64 .f32) (o : Fin 64) :
    k2_pay4 x0 x1 x2 x3 x4 v (ix2 0 o) = v (ix2 0 o) + ∑ i : Fin 4096, k2_pay2 x0 x1 x2 x3 x4 (ix2 i o) := by
  pointwise [k2_pay4]

theorem pay2_second (x0 x1 x2 x3 x4) (v : Vec Ideal S1x64 .f32) (o : Fin 64) :
    k2_pay1 (k2_pay5 v) (k2_pay6 x0 x1 x2 x3 x4) (ix2 0 o)
      = v (ix2 0 o) + ∑ i : Fin 4096, k2_pay2 x0 x1 x2 x3 x4 (ix2 i o) * k2_pay2 x0 x1 x2 x3 x4 (ix2 i o) := by
  pointwise [k2_pay1, k2_pay5, k2_pay6]

theorem pay2_zero (j : S2x64.Idx) : k2_pay3 (F := Ideal) j = 0 := by
  pointwise [k2_pay3]

theorem stats2_reset (t : Fin cfg2.N) (h : t.val % 32 = 0) (o : Fin 64) :
    (outsAt2 V c t.val t.isLt).2 (ix2 0 o) = 0 + ∑ i, tile2 V c t (ix2 i o)
      ∧ (outsAt2 V c t.val t.isLt).2 (ix2 1 o) = 0 + ∑ i, tile2 V c t (ix2 i o) * tile2 V c t (ix2 i o) := by
  rw [outsAt2_A V c t h]
  frame_out
  constructor
  · refine (canon_first (n := 64) inb_S2x64_S1x64_1_0 inb_S2x64_S1x64_0_0 _ _ _ o).trans ?_
    refine (pay2_first _ _ _ _ _ _ o).trans (congrArg (· + ∑ i, tile2 V c t (ix2 i o)) ?_)
    rw [View.readCov_fill _ _ _ _ _ (by decide)]
    exact pay2_zero _
  · refine (canon_second (n := 64) inb_S2x64_S1x64_1_0 _ _ o).trans ?_
    refine (pay2_second _ _ _ _ _ _ o).trans (congrArg (· + ∑ i, tile2 V c t (ix2 i o) * tile2 V c t (ix2 i o)) ?_)
    rw [View.readCov_skip _ _ _ _ _ (by decide), View.readCov_fill _ _ _ _ _ (by decide)]
    exact pay2_zero _

theorem stats2_step (t : Fin cfg2.N) (h : ¬t.val % 32 = 0) (o : Fin 64) :
    (outsAt2 V c t.val t.isLt).2 (ix2 0 o)
        = (outsAt2 V c (t.val - 1) (Nat.lt_of_le_of_lt (Nat.sub_le _ _) t.isLt)).2 (ix2 0 o) + ∑ i, tile2 V c t (ix2 i o)
      ∧ (outsAt2 V c t.val t.isLt).2 (ix2 1 o)
        = (outsAt2 V c (t.val - 1) (Nat.lt_of_le_of_lt (Nat.sub_le _ _) t.isLt)).2 (ix2 1 o)
          + ∑ i, tile2 V c t (ix2 i o) * tile2 V c t (ix2 i o) := by
  rw [outsAt2_B V c t h]
  frame_out
  constructor
  · refine (canon_first (n := 64) inb_S2x64_S1x64_1_0 inb_S2x64_S1x64_0_0 _ _ _ o).trans ?_
    exact (pay2_first _ _ _ _ _ _ o).trans (congrArg (· + ∑ i, tile2 V c t (ix2 i o)) (ld_first (n := 64) inb_S2x64_S1x64_0_0 _ o))
  · refine (canon_second (n := 64) inb_S2x64_S1x64_1_0 _ _ o).trans ?_
    exact (pay2_second _ _ _ _ _ _ o).trans (congrArg (· + ∑ i, tile2 V c t (ix2 i o) * tile2 V c t (ix2 i o)) (ld_second (n := 64) inb_S2x64_S1x64_1_0 _ o))

theorem stats2_last (t : Fin cfg2.N) (ht : t.val + 1 = cfg2.N) (o : Fin 64) :
    (outsAt2 V c t.val t.isLt).2 (ix2 0 o) = ∑ t, ∑ i, tile2 V c t (ix2 i o)
      ∧ (outsAt2 V c t.val t.isLt).2 (ix2 1 o) = ∑ t, ∑ i, tile2 V c t (ix2 i o) * tile2 V c t (ix2 i o) := by
  constructor
  · exact (Pipeline.eq_sum_fin_of_reset_step_last (fun n h => (outsAt2 V c n h).2 (ix2 0 o)) 32 0 (fun t => ∑ i, tile2 V c t (ix2 i o))
      (fun t h => (stats2_reset V c t h o).1) (fun t h => (stats2_step V c t h o).1) (by decide) t ht).trans (zero_add _)
  · exact (Pipeline.eq_sum_fin_of_reset_step_last (fun n h => (outsAt2 V c n h).2 (ix2 1 o)) 32 0
      (fun t => ∑ i, tile2 V c t (ix2 i o) * tile2 V c t (ix2 i o))
      (fun t h => (stats2_reset V c t h o).2) (fun t h => (stats2_step V c t h o).2) (by decide) t ht).trans (zero_add _)

theorem N2 : cfg2.N = 32 := by decide

/-- The last point of the pass. -/
abbrev last2 : Fin cfg2.N := ⟨31, by decide⟩

theorem index2 : ∀ t : Fin cfg2.N, (win2_0.index t 0 = t.val ∧ win2_0.index t 1 = 0) ∧ (win2_1.index t 0 = t.val ∧ win2_1.index t 1 = 0)
    ∧ (win2_2.index t 0 = 0 ∧ win2_2.index t 1 = 0) ∧ (win2_3.index t 0 = 0 ∧ win2_3.index t 1 = 0)
    ∧ (win2_4.index t 0 = t.val ∧ win2_4.index t 1 = 0) := by decide +kernel

theorem iblk2_0 (t : Fin cfg2.N) (i : Fin 4096) (k : Fin 128) : iblk2 V c 0 t (ix2 i k) = V c main_v11 (ix2 (tile N2 t i) k) := by
  blk_ext [iblk2, tile, index2 t]

theorem iblk2_1 (t : Fin cfg2.N) (i : Fin 128) (k : Fin 3) :
    iblk2 V c 1 t (ix2 i k) = V c main_v13 (ix2 ⟨t.val * 128 + i.val, by have := N2; omega⟩ k) := by
  blk_ext [iblk2, index2 t]

theorem iblk2_2 (t : Fin cfg2.N) : iblk2 V c 2 t = V c main_v16 := by
  funext j
  blk_ext [iblk2, index2 t]

theorem iblk2_3 (t : Fin cfg2.N) : iblk2 V c 3 t = V c main_v17 := by
  funext j
  blk_ext [iblk2, index2 t]

theorem tile2_apply {x : Fin 131072 → Fin 128 → ℝ} {p : Fin 4096 → Fin 3 → ℝ} {W : Fin 64 → Fin 67 → ℝ} {b : Fin 64 → ℝ}
    (hx : ∀ r k, V c main_v11 (ix2 r k) = ((x r k : ℝ) : EReal)) (hp : ∀ g d, V c main_v13 (ix2 g d) = ((p g d : ℝ) : EReal))
    (hW : ∀ k o, V c main_v16 (ix2 k o) = ((padded W k o : ℝ) : EReal)) (hb : ∀ o, V c main_v17 (ix2 0 o) = ((b o : ℝ) : EReal))
    (t : Fin cfg2.N) (i : Fin 4096) (o : Fin 64) : tile2 V c t (ix2 i o) = ((conv (features x p) W b (tile N2 t i) o : ℝ) : EReal) := by
  have ht : t.val < 32 := N2 ▸ t.isLt
  have hc : ∀ d : Fin 3, padded W ⟨d.val, by omega⟩ o = W o ⟨d.val, by omega⟩ := fun d => by
    rw [padded, dif_pos (show d.val < 67 by omega)]
  have hg : (⟨t.val * 128 + i.val / 32, by omega⟩ : Fin 4096) = group (tile N2 t i) := Fin.ext (by simp only [group, tile]; omega)
  unfold tile2
  pointwise [k2_pay2]
  rw [← conv_split]
  simp only [iblk2_0, iblk2_1, iblk2_2, iblk2_3, hx, hp, hW, hb, hg, hc]

theorem array2_y {y : Fin 131072 → Fin 64 → ℝ} (h : ∀ t i o, tile2 V c t (ix2 i o) = ((y (tile N2 t i) o : ℝ) : EReal)) :
    (dat2 V c).arrAt 4 cfg2.N = fun j : S131072x64.Idx => ((y (j 0 : Fin 131072) (j 1 : Fin 64) : ℝ) : EReal) := by
  refine (dat2 V c).arrAt_eq_of_covers 4 _ (by decide +kernel) fun t hf j => ?_
  blk_simp
  rw [after2_4, out2_y]
  have ej : ((cfg2.win 4).xinj (cfg2.grid.coords t) j) = ix2 (j 0 : Fin 4096) (j 1 : Fin 64) := by
    funext a
    match a with
    | ⟨0, _⟩ => rfl
    | ⟨1, _⟩ => rfl
  refine (congrArg (tile2 V c t) ej).trans ((h t _ _).trans ?_)
  have e0 : tile N2 t (j 0 : Fin 4096) = ((((cfg2.win 4).blk t).view.emb j) 0 : Fin 131072) := by
    refine Fin.ext ?_
    blk_simp [index2 t, tile]
  have e1 : (j 1 : Fin 64) = ((((cfg2.win 4).blk t).view.emb j) 1 : Fin 64) := by
    refine Fin.ext ?_
    blk_simp [index2 t]
  rw [e0, e1]

theorem array2_stats {y : Fin 131072 → Fin 64 → ℝ} (h : ∀ t i o, tile2 V c t (ix2 i o) = ((y (tile N2 t i) o : ℝ) : EReal)) (o : Fin 64) :
    ((dat2 V c).arrAt 5 cfg2.N : S2x64.Idx → EReal) (ix2 0 o) = ∑ r, ((y r o : ℝ) : EReal)
      ∧ ((dat2 V c).arrAt 5 cfg2.N : S2x64.Idx → EReal) (ix2 1 o) = ∑ r, ((y r o : ℝ) : EReal) * ((y r o : ℝ) : EReal) := by
  have e : (dat2 V c).arrAt 5 cfg2.N = (outsAt2 V c last2.val last2.isLt).2 := by
    refine (dat2 V c).arrAt_eq_of_after_last 5 last2 (by decide +kernel) _ fun j => ?_
    blk_simp
    rw [after2_5]
  rw [e]
  have := stats2_last V c last2 (by decide) o
  refine ⟨this.1.trans ?_, this.2.trans ?_⟩
  · simp only [h]
    exact sum_tile N2 fun r => ((y r o : ℝ) : EReal)
  · simp only [h]
    exact sum_tile N2 fun r => ((y r o : ℝ) : EReal) * ((y r o : ℝ) : EReal)

end Pass2

/-! ## The second pass -/

section Pass3

/-- The tile of values the pass writes at a point. -/
def tile3 (t : Fin cfg3.N) : FVec Ideal S4096x64 .f32 :=
  k3_pay4 (iblk3 V c 0 t) (iblk3 V c 1 t) (iblk3 V c 2 t) (iblk3 V c 3 t) (iblk3 V c 4 t) (iblk3 V c 5 t)

theorem out3_y (t : Fin cfg3.N) : (outsAt3 V c t.val t.isLt).1 = tile3 V c t := by
  by_cases h : t.val % 32 = 0
  · rw [outsAt3_A V c t h]; frame_out; rfl
  · rw [outsAt3_B V c t h]; frame_out; rfl

theorem pay3_first (x : FVec Ideal S4096x64 .f32) (v : Vec Ideal S1x64 .f32) (o : Fin 64) :
    k3_pay2 x v (ix2 0 o) = v (ix2 0 o) + ∑ i : Fin 4096, x (ix2 i o) := by
  pointwise [k3_pay2]

theorem pay3_second (x : FVec Ideal S4096x64 .f32) (v : Vec Ideal S1x64 .f32) (o : Fin 64) :
    k3_pay3 x v (ix2 0 o) = v (ix2 0 o) + ∑ i : Fin 4096, x (ix2 i o) * x (ix2 i o) := by
  pointwise [k3_pay3]

theorem pay3_zero (j : S2x64.Idx) : k3_pay1 (F := Ideal) j = 0 := by
  pointwise [k3_pay1]

theorem stats3_reset (t : Fin cfg3.N) (h : t.val % 32 = 0) (o : Fin 64) :
    (outsAt3 V c t.val t.isLt).2 (ix2 0 o) = 0 + ∑ i, tile3 V c t (ix2 i o)
      ∧ (outsAt3 V c t.val t.isLt).2 (ix2 1 o) = 0 + ∑ i, tile3 V c t (ix2 i o) * tile3 V c t (ix2 i o) := by
  rw [outsAt3_A V c t h]
  frame_out
  constructor
  · refine (canon_first (n := 64) inb_S2x64_S1x64_1_0 inb_S2x64_S1x64_0_0 _ _ _ o).trans ?_
    refine (pay3_first _ _ o).trans (congrArg (· + ∑ i, tile3 V c t (ix2 i o)) ?_)
    rw [View.readCov_fill _ _ _ _ _ (by decide)]
    exact pay3_zero _
  · refine (canon_second (n := 64) inb_S2x64_S1x64_1_0 _ _ o).trans ?_
    refine (pay3_second _ _ o).trans (congrArg (· + ∑ i, tile3 V c t (ix2 i o) * tile3 V c t (ix2 i o)) ?_)
    rw [View.readCov_skip _ _ _ _ _ (by decide), View.readCov_fill _ _ _ _ _ (by decide)]
    exact pay3_zero _

theorem stats3_step (t : Fin cfg3.N) (h : ¬t.val % 32 = 0) (o : Fin 64) :
    (outsAt3 V c t.val t.isLt).2 (ix2 0 o)
        = (outsAt3 V c (t.val - 1) (Nat.lt_of_le_of_lt (Nat.sub_le _ _) t.isLt)).2 (ix2 0 o) + ∑ i, tile3 V c t (ix2 i o)
      ∧ (outsAt3 V c t.val t.isLt).2 (ix2 1 o)
        = (outsAt3 V c (t.val - 1) (Nat.lt_of_le_of_lt (Nat.sub_le _ _) t.isLt)).2 (ix2 1 o)
          + ∑ i, tile3 V c t (ix2 i o) * tile3 V c t (ix2 i o) := by
  rw [outsAt3_B V c t h]
  frame_out
  constructor
  · refine (canon_first (n := 64) inb_S2x64_S1x64_1_0 inb_S2x64_S1x64_0_0 _ _ _ o).trans ?_
    exact (pay3_first _ _ o).trans (congrArg (· + ∑ i, tile3 V c t (ix2 i o)) (ld_first (n := 64) inb_S2x64_S1x64_0_0 _ o))
  · refine (canon_second (n := 64) inb_S2x64_S1x64_1_0 _ _ o).trans ?_
    exact (pay3_second _ _ o).trans (congrArg (· + ∑ i, tile3 V c t (ix2 i o) * tile3 V c t (ix2 i o)) (ld_second (n := 64) inb_S2x64_S1x64_1_0 _ o))

theorem stats3_last (t : Fin cfg3.N) (ht : t.val + 1 = cfg3.N) (o : Fin 64) :
    (outsAt3 V c t.val t.isLt).2 (ix2 0 o) = ∑ t, ∑ i, tile3 V c t (ix2 i o)
      ∧ (outsAt3 V c t.val t.isLt).2 (ix2 1 o) = ∑ t, ∑ i, tile3 V c t (ix2 i o) * tile3 V c t (ix2 i o) := by
  constructor
  · exact (Pipeline.eq_sum_fin_of_reset_step_last (fun n h => (outsAt3 V c n h).2 (ix2 0 o)) 32 0 (fun t => ∑ i, tile3 V c t (ix2 i o))
      (fun t h => (stats3_reset V c t h o).1) (fun t h => (stats3_step V c t h o).1) (by decide) t ht).trans (zero_add _)
  · exact (Pipeline.eq_sum_fin_of_reset_step_last (fun n h => (outsAt3 V c n h).2 (ix2 1 o)) 32 0
      (fun t => ∑ i, tile3 V c t (ix2 i o) * tile3 V c t (ix2 i o))
      (fun t h => (stats3_reset V c t h o).2) (fun t h => (stats3_step V c t h o).2) (by decide) t ht).trans (zero_add _)

theorem N3 : cfg3.N = 32 := by decide

/-- The last point of the pass. -/
abbrev last3 : Fin cfg3.N := ⟨31, by decide⟩

theorem index3 : ∀ t : Fin cfg3.N, (win3_0.index t 0 = t.val ∧ win3_0.index t 1 = 0) ∧ (win3_1.index t 0 = 0 ∧ win3_1.index t 1 = 0)
    ∧ (win3_2.index t 0 = 0 ∧ win3_2.index t 1 = 0) ∧ (win3_3.index t 0 = 0 ∧ win3_3.index t 1 = 0)
    ∧ (win3_4.index t 0 = 0 ∧ win3_4.index t 1 = 0) ∧ (win3_5.index t 0 = 0 ∧ win3_5.index t 1 = 0)
    ∧ (win3_6.index t 0 = t.val ∧ win3_6.index t 1 = 0) := by decide +kernel

theorem iblk3_0 (t : Fin cfg3.N) (i : Fin 4096) (k : Fin 64) : iblk3 V c 0 t (ix2 i k) = V c main_v18_0 (ix2 (tile N3 t i) k) := by
  blk_ext [iblk3, tile, index3 t]

theorem iblk3_1 (t : Fin cfg3.N) : iblk3 V c 1 t = V c main_v18_1 := by
  funext j
  blk_ext [iblk3, index3 t]

theorem iblk3_2 (t : Fin cfg3.N) : iblk3 V c 2 t = V c main_v20 := by
  funext j
  blk_ext [iblk3, index3 t]

theorem iblk3_3 (t : Fin cfg3.N) : iblk3 V c 3 t = V c main_v21 := by
  funext j
  blk_ext [iblk3, index3 t]

theorem iblk3_4 (t : Fin cfg3.N) : iblk3 V c 4 t = V c main_v19 := by
  funext j
  blk_ext [iblk3, index3 t]

theorem iblk3_5 (t : Fin cfg3.N) : iblk3 V c 5 t = V c main_v22 := by
  funext j
  blk_ext [iblk3, index3 t]

theorem tile3_apply {y : Fin 131072 → Fin 64 → ℝ} {g be : Fin 64 → ℝ} {W : Fin 64 → Fin 64 → ℝ} {b : Fin 64 → ℝ}
    (hy : ∀ r k, V c main_v18_0 (ix2 r k) = ((y r k : ℝ) : EReal))
    (hs : ∀ k, (V c main_v18_1 : S2x64.Idx → EReal) (ix2 0 k) = ∑ r, ((y r k : ℝ) : EReal)
      ∧ (V c main_v18_1 : S2x64.Idx → EReal) (ix2 1 k) = ∑ r, ((y r k : ℝ) : EReal) * ((y r k : ℝ) : EReal))
    (hg : ∀ k, V c main_v20 (ix2 0 k) = ((g k : ℝ) : EReal)) (hbe : ∀ k, V c main_v21 (ix2 0 k) = ((be k : ℝ) : EReal))
    (hW : ∀ k o, V c main_v19 (ix2 k o) = ((W o k : ℝ) : EReal)) (hb : ∀ o, V c main_v22 (ix2 0 o) = ((b o : ℝ) : EReal))
    (t : Fin cfg3.N) (i : Fin 4096) (o : Fin 64) :
    tile3 V c t (ix2 i o) = ((conv (fun r k => norm (fun r => y r k) (g k) (be k) r) W b (tile N3 t i) o : ℝ) : EReal) := by
  unfold tile3
  pointwise [k3_pay4]
  rw [conv, ← dot_real]
  congr 1
  · refine Finset.sum_congr rfl fun k _ => ?_
    rw [iblk3_0, iblk3_1, iblk3_2, iblk3_3, iblk3_4, hy, hg, hbe, hW]
    exact congrArg (· * ((W o k : ℝ) : EReal)) (norm_squares (fun r => y r k) (g k) (be k) (tile N3 t i) _ _ (hs k).1 (hs k).2)
  · rw [iblk3_5, hb]

theorem array3_y {y : Fin 131072 → Fin 64 → ℝ} (h : ∀ t i o, tile3 V c t (ix2 i o) = ((y (tile N3 t i) o : ℝ) : EReal)) :
    (dat3 V c).arrAt 6 cfg3.N = fun j : S131072x64.Idx => ((y (j 0 : Fin 131072) (j 1 : Fin 64) : ℝ) : EReal) := by
  refine (dat3 V c).arrAt_eq_of_covers 6 _ (by decide +kernel) fun t hf j => ?_
  blk_simp
  rw [after3_6, out3_y]
  have ej : ((cfg3.win 6).xinj (cfg3.grid.coords t) j) = ix2 (j 0 : Fin 4096) (j 1 : Fin 64) := by
    funext a
    match a with
    | ⟨0, _⟩ => rfl
    | ⟨1, _⟩ => rfl
  refine (congrArg (tile3 V c t) ej).trans ((h t _ _).trans ?_)
  have e0 : tile N3 t (j 0 : Fin 4096) = ((((cfg3.win 6).blk t).view.emb j) 0 : Fin 131072) := by
    refine Fin.ext ?_
    blk_simp [index3 t, tile]
  have e1 : (j 1 : Fin 64) = ((((cfg3.win 6).blk t).view.emb j) 1 : Fin 64) := by
    refine Fin.ext ?_
    blk_simp [index3 t]
  rw [e0, e1]

theorem array3_stats {y : Fin 131072 → Fin 64 → ℝ} (h : ∀ t i o, tile3 V c t (ix2 i o) = ((y (tile N3 t i) o : ℝ) : EReal)) (o : Fin 64) :
    ((dat3 V c).arrAt 7 cfg3.N : S2x64.Idx → EReal) (ix2 0 o) = ∑ r, ((y r o : ℝ) : EReal)
      ∧ ((dat3 V c).arrAt 7 cfg3.N : S2x64.Idx → EReal) (ix2 1 o) = ∑ r, ((y r o : ℝ) : EReal) * ((y r o : ℝ) : EReal) := by
  have e : (dat3 V c).arrAt 7 cfg3.N = (outsAt3 V c last3.val last3.isLt).2 := by
    refine (dat3 V c).arrAt_eq_of_after_last 7 last3 (by decide +kernel) _ fun j => ?_
    blk_simp
    rw [after3_7]
  rw [e]
  have := stats3_last V c last3 (by decide) o
  refine ⟨this.1.trans ?_, this.2.trans ?_⟩
  · simp only [h]
    exact sum_tile N3 fun r => ((y r o : ℝ) : EReal)
  · simp only [h]
    exact sum_tile N3 fun r => ((y r o : ℝ) : EReal) * ((y r o : ℝ) : EReal)

end Pass3

/-! ## The third pass -/

section Pass4

/-- The tile of values the pass writes at a point. -/
def tile4 (t : Fin cfg4.N) : FVec Ideal S4096x128 .f32 :=
  k4_pay4 (iblk4 V c 0 t) (iblk4 V c 1 t) (iblk4 V c 2 t) (iblk4 V c 3 t) (iblk4 V c 4 t) (iblk4 V c 5 t)

theorem out4_y (t : Fin cfg4.N) : (outsAt4 V c t.val t.isLt).1 = tile4 V c t := by
  by_cases h : t.val % 32 = 0
  · rw [outsAt4_A V c t h]; frame_out; rfl
  · rw [outsAt4_B V c t h]; frame_out; rfl

theorem pay4_first (x : FVec Ideal S4096x128 .f32) (v : Vec Ideal S1x128 .f32) (o : Fin 128) :
    k4_pay2 x v (ix2 0 o) = v (ix2 0 o) + ∑ i : Fin 4096, x (ix2 i o) := by
  pointwise [k4_pay2]

theorem pay4_second (x : FVec Ideal S4096x128 .f32) (v : Vec Ideal S1x128 .f32) (o : Fin 128) :
    k4_pay3 x v (ix2 0 o) = v (ix2 0 o) + ∑ i : Fin 4096, x (ix2 i o) * x (ix2 i o) := by
  pointwise [k4_pay3]

theorem pay4_zero (j : S2x128.Idx) : k4_pay1 (F := Ideal) j = 0 := by
  pointwise [k4_pay1]

theorem stats4_reset (t : Fin cfg4.N) (h : t.val % 32 = 0) (o : Fin 128) :
    (outsAt4 V c t.val t.isLt).2 (ix2 0 o) = 0 + ∑ i, tile4 V c t (ix2 i o)
      ∧ (outsAt4 V c t.val t.isLt).2 (ix2 1 o) = 0 + ∑ i, tile4 V c t (ix2 i o) * tile4 V c t (ix2 i o) := by
  rw [outsAt4_A V c t h]
  frame_out
  constructor
  · refine (canon_first (n := 128) inb_S2x128_S1x128_1_0 inb_S2x128_S1x128_0_0 _ _ _ o).trans ?_
    refine (pay4_first _ _ o).trans (congrArg (· + ∑ i, tile4 V c t (ix2 i o)) ?_)
    rw [View.readCov_fill _ _ _ _ _ (by decide)]
    exact pay4_zero _
  · refine (canon_second (n := 128) inb_S2x128_S1x128_1_0 _ _ o).trans ?_
    refine (pay4_second _ _ o).trans (congrArg (· + ∑ i, tile4 V c t (ix2 i o) * tile4 V c t (ix2 i o)) ?_)
    rw [View.readCov_skip _ _ _ _ _ (by decide), View.readCov_fill _ _ _ _ _ (by decide)]
    exact pay4_zero _

theorem stats4_step (t : Fin cfg4.N) (h : ¬t.val % 32 = 0) (o : Fin 128) :
    (outsAt4 V c t.val t.isLt).2 (ix2 0 o)
        = (outsAt4 V c (t.val - 1) (Nat.lt_of_le_of_lt (Nat.sub_le _ _) t.isLt)).2 (ix2 0 o) + ∑ i, tile4 V c t (ix2 i o)
      ∧ (outsAt4 V c t.val t.isLt).2 (ix2 1 o)
        = (outsAt4 V c (t.val - 1) (Nat.lt_of_le_of_lt (Nat.sub_le _ _) t.isLt)).2 (ix2 1 o)
          + ∑ i, tile4 V c t (ix2 i o) * tile4 V c t (ix2 i o) := by
  rw [outsAt4_B V c t h]
  frame_out
  constructor
  · refine (canon_first (n := 128) inb_S2x128_S1x128_1_0 inb_S2x128_S1x128_0_0 _ _ _ o).trans ?_
    exact (pay4_first _ _ o).trans (congrArg (· + ∑ i, tile4 V c t (ix2 i o)) (ld_first (n := 128) inb_S2x128_S1x128_0_0 _ o))
  · refine (canon_second (n := 128) inb_S2x128_S1x128_1_0 _ _ o).trans ?_
    exact (pay4_second _ _ o).trans (congrArg (· + ∑ i, tile4 V c t (ix2 i o) * tile4 V c t (ix2 i o)) (ld_second (n := 128) inb_S2x128_S1x128_1_0 _ o))

theorem stats4_last (t : Fin cfg4.N) (ht : t.val + 1 = cfg4.N) (o : Fin 128) :
    (outsAt4 V c t.val t.isLt).2 (ix2 0 o) = ∑ t, ∑ i, tile4 V c t (ix2 i o)
      ∧ (outsAt4 V c t.val t.isLt).2 (ix2 1 o) = ∑ t, ∑ i, tile4 V c t (ix2 i o) * tile4 V c t (ix2 i o) := by
  constructor
  · exact (Pipeline.eq_sum_fin_of_reset_step_last (fun n h => (outsAt4 V c n h).2 (ix2 0 o)) 32 0 (fun t => ∑ i, tile4 V c t (ix2 i o))
      (fun t h => (stats4_reset V c t h o).1) (fun t h => (stats4_step V c t h o).1) (by decide) t ht).trans (zero_add _)
  · exact (Pipeline.eq_sum_fin_of_reset_step_last (fun n h => (outsAt4 V c n h).2 (ix2 1 o)) 32 0
      (fun t => ∑ i, tile4 V c t (ix2 i o) * tile4 V c t (ix2 i o))
      (fun t h => (stats4_reset V c t h o).2) (fun t h => (stats4_step V c t h o).2) (by decide) t ht).trans (zero_add _)

theorem N4 : cfg4.N = 32 := by decide

/-- The last point of the pass. -/
abbrev last4 : Fin cfg4.N := ⟨31, by decide⟩

theorem index4 : ∀ t : Fin cfg4.N, (win4_0.index t 0 = t.val ∧ win4_0.index t 1 = 0) ∧ (win4_1.index t 0 = 0 ∧ win4_1.index t 1 = 0)
    ∧ (win4_2.index t 0 = 0 ∧ win4_2.index t 1 = 0) ∧ (win4_3.index t 0 = 0 ∧ win4_3.index t 1 = 0)
    ∧ (win4_4.index t 0 = 0 ∧ win4_4.index t 1 = 0) ∧ (win4_5.index t 0 = 0 ∧ win4_5.index t 1 = 0)
    ∧ (win4_6.index t 0 = t.val ∧ win4_6.index t 1 = 0) := by decide +kernel

theorem iblk4_0 (t : Fin cfg4.N) (i : Fin 4096) (k : Fin 64) : iblk4 V c 0 t (ix2 i k) = V c main_v23_0 (ix2 (tile N4 t i) k) := by
  blk_ext [iblk4, tile, index4 t]

theorem iblk4_1 (t : Fin cfg4.N) : iblk4 V c 1 t = V c main_v23_1 := by
  funext j
  blk_ext [iblk4, index4 t]

theorem iblk4_2 (t : Fin cfg4.N) : iblk4 V c 2 t = V c main_v25 := by
  funext j
  blk_ext [iblk4, index4 t]

theorem iblk4_3 (t : Fin cfg4.N) : iblk4 V c 3 t = V c main_v26 := by
  funext j
  blk_ext [iblk4, index4 t]

theorem iblk4_4 (t : Fin cfg4.N) : iblk4 V c 4 t = V c main_v24 := by
  funext j
  blk_ext [iblk4, index4 t]

theorem iblk4_5 (t : Fin cfg4.N) : iblk4 V c 5 t = V c main_v27 := by
  funext j
  blk_ext [iblk4, index4 t]

theorem tile4_apply {y : Fin 131072 → Fin 64 → ℝ} {g be : Fin 64 → ℝ} {W : Fin 128 → Fin 64 → ℝ} {b : Fin 128 → ℝ}
    (hy : ∀ r k, V c main_v23_0 (ix2 r k) = ((y r k : ℝ) : EReal))
    (hs : ∀ k, (V c main_v23_1 : S2x64.Idx → EReal) (ix2 0 k) = ∑ r, ((y r k : ℝ) : EReal)
      ∧ (V c main_v23_1 : S2x64.Idx → EReal) (ix2 1 k) = ∑ r, ((y r k : ℝ) : EReal) * ((y r k : ℝ) : EReal))
    (hg : ∀ k, V c main_v25 (ix2 0 k) = ((g k : ℝ) : EReal)) (hbe : ∀ k, V c main_v26 (ix2 0 k) = ((be k : ℝ) : EReal))
    (hW : ∀ k o, V c main_v24 (ix2 k o) = ((W o k : ℝ) : EReal)) (hb : ∀ o, V c main_v27 (ix2 0 o) = ((b o : ℝ) : EReal))
    (t : Fin cfg4.N) (i : Fin 4096) (o : Fin 128) :
    tile4 V c t (ix2 i o) = ((conv (fun r k => norm (fun r => y r k) (g k) (be k) r) W b (tile N4 t i) o : ℝ) : EReal) := by
  unfold tile4
  pointwise [k4_pay4]
  rw [conv, ← dot_real]
  congr 1
  · refine Finset.sum_congr rfl fun k _ => ?_
    rw [iblk4_0, iblk4_1, iblk4_2, iblk4_3, iblk4_4, hy, hg, hbe, hW]
    exact congrArg (· * ((W o k : ℝ) : EReal)) (norm_squares (fun r => y r k) (g k) (be k) (tile N4 t i) _ _ (hs k).1 (hs k).2)
  · rw [iblk4_5, hb]

theorem array4_y {y : Fin 131072 → Fin 128 → ℝ} (h : ∀ t i o, tile4 V c t (ix2 i o) = ((y (tile N4 t i) o : ℝ) : EReal)) :
    (dat4 V c).arrAt 6 cfg4.N = fun j : S131072x128.Idx => ((y (j 0 : Fin 131072) (j 1 : Fin 128) : ℝ) : EReal) := by
  refine (dat4 V c).arrAt_eq_of_covers 6 _ (by decide +kernel) fun t hf j => ?_
  blk_simp
  rw [after4_6, out4_y]
  have ej : ((cfg4.win 6).xinj (cfg4.grid.coords t) j) = ix2 (j 0 : Fin 4096) (j 1 : Fin 128) := by
    funext a
    match a with
    | ⟨0, _⟩ => rfl
    | ⟨1, _⟩ => rfl
  refine (congrArg (tile4 V c t) ej).trans ((h t _ _).trans ?_)
  have e0 : tile N4 t (j 0 : Fin 4096) = ((((cfg4.win 6).blk t).view.emb j) 0 : Fin 131072) := by
    refine Fin.ext ?_
    blk_simp [index4 t, tile]
  have e1 : (j 1 : Fin 128) = ((((cfg4.win 6).blk t).view.emb j) 1 : Fin 128) := by
    refine Fin.ext ?_
    blk_simp [index4 t]
  rw [e0, e1]

theorem array4_stats {y : Fin 131072 → Fin 128 → ℝ} (h : ∀ t i o, tile4 V c t (ix2 i o) = ((y (tile N4 t i) o : ℝ) : EReal)) (o : Fin 128) :
    ((dat4 V c).arrAt 7 cfg4.N : S2x128.Idx → EReal) (ix2 0 o) = ∑ r, ((y r o : ℝ) : EReal)
      ∧ ((dat4 V c).arrAt 7 cfg4.N : S2x128.Idx → EReal) (ix2 1 o) = ∑ r, ((y r o : ℝ) : EReal) * ((y r o : ℝ) : EReal) := by
  have e : (dat4 V c).arrAt 7 cfg4.N = (outsAt4 V c last4.val last4.isLt).2 := by
    refine (dat4 V c).arrAt_eq_of_after_last 7 last4 (by decide +kernel) _ fun j => ?_
    blk_simp
    rw [after4_7]
  rw [e]
  have := stats4_last V c last4 (by decide) o
  refine ⟨this.1.trans ?_, this.2.trans ?_⟩
  · simp only [h]
    exact sum_tile N4 fun r => ((y r o : ℝ) : EReal)
  · simp only [h]
    exact sum_tile N4 fun r => ((y r o : ℝ) : EReal) * ((y r o : ℝ) : EReal)

end Pass4

/-! ## The last pass -/

section Pass5

theorem N5 : cfg5.N = 32 := by decide

theorem index5 : ∀ t : Fin cfg5.N, (win5_0.index t 0 = t.val ∧ win5_0.index t 1 = 0) ∧ (win5_1.index t 0 = 0 ∧ win5_1.index t 1 = 0)
    ∧ (win5_2.index t 0 = 0 ∧ win5_2.index t 1 = 0) ∧ (win5_3.index t 0 = 0 ∧ win5_3.index t 1 = 0)
    ∧ (win5_4.index t 0 = t.val ∧ win5_4.index t 1 = 0) := by decide +kernel

theorem iblk5_0 (t : Fin cfg5.N) (i : Fin 4096) (k : Fin 128) : iblk5 V c 0 t (ix2 i k) = V c main_v28_0 (ix2 (tile N5 t i) k) := by
  blk_ext [iblk5, tile, index5 t]

theorem iblk5_1 (t : Fin cfg5.N) : iblk5 V c 1 t = V c main_v28_1 := by
  funext j
  blk_ext [iblk5, index5 t]

theorem iblk5_2 (t : Fin cfg5.N) : iblk5 V c 2 t = V c main_v29 := by
  funext j
  blk_ext [iblk5, index5 t]

theorem iblk5_3 (t : Fin cfg5.N) : iblk5 V c 3 t = V c main_v30 := by
  funext j
  blk_ext [iblk5, index5 t]

theorem tile5_apply {y : Fin 131072 → Fin 128 → ℝ} {g be : Fin 128 → ℝ}
    (hy : ∀ r k, V c main_v28_0 (ix2 r k) = ((y r k : ℝ) : EReal))
    (hs : ∀ k, (V c main_v28_1 : S2x128.Idx → EReal) (ix2 0 k) = ∑ r, ((y r k : ℝ) : EReal)
      ∧ (V c main_v28_1 : S2x128.Idx → EReal) (ix2 1 k) = ∑ r, ((y r k : ℝ) : EReal) * ((y r k : ℝ) : EReal))
    (hg : ∀ k, V c main_v29 (ix2 0 k) = ((g k : ℝ) : EReal)) (hbe : ∀ k, V c main_v30 (ix2 0 k) = ((be k : ℝ) : EReal))
    (t : Fin cfg5.N) (i : Fin 4096) (k : Fin 128) :
    k5_pay1 (iblk5 V c 0 t) (iblk5 V c 1 t) (iblk5 V c 2 t) (iblk5 V c 3 t) (ix2 i k)
      = ((norm (fun r => y r k) (g k) (be k) (tile N5 t i) : ℝ) : EReal) := by
  pointwise [k5_pay1]
  rw [iblk5_0, iblk5_1, iblk5_2, iblk5_3, hy, hg, hbe]
  exact norm_squares (fun r => y r k) (g k) (be k) (tile N5 t i) _ _ (hs k).1 (hs k).2

theorem array5 {y : Fin 131072 → Fin 128 → ℝ} {g be : Fin 128 → ℝ}
    (hy : ∀ r k, V c main_v28_0 (ix2 r k) = ((y r k : ℝ) : EReal))
    (hs : ∀ k, (V c main_v28_1 : S2x128.Idx → EReal) (ix2 0 k) = ∑ r, ((y r k : ℝ) : EReal)
      ∧ (V c main_v28_1 : S2x128.Idx → EReal) (ix2 1 k) = ∑ r, ((y r k : ℝ) : EReal) * ((y r k : ℝ) : EReal))
    (hg : ∀ k, V c main_v29 (ix2 0 k) = ((g k : ℝ) : EReal)) (hbe : ∀ k, V c main_v30 (ix2 0 k) = ((be k : ℝ) : EReal)) :
    (dat5 V c).arrAt 4 cfg5.N
      = fun j : S131072x128.Idx => ((norm (fun r => y r (j 1 : Fin 128)) (g (j 1 : Fin 128)) (be (j 1 : Fin 128)) (j 0 : Fin 131072) : ℝ) : EReal) := by
  refine (dat5 V c).arrAt_eq_of_covers 4 _ (by decide +kernel) fun t hf j => ?_
  blk_simp
  rw [after5_4]
  frame_out
  have ej : ((cfg5.win 4).xinj (cfg5.grid.coords t) j) = ix2 (j 0 : Fin 4096) (j 1 : Fin 128) := by
    funext a
    match a with
    | ⟨0, _⟩ => rfl
    | ⟨1, _⟩ => rfl
  refine (congrArg (k5_pay1 (iblk5 V c 0 t) (iblk5 V c 1 t) (iblk5 V c 2 t) (iblk5 V c 3 t)) ej).trans ((tile5_apply V c hy hs hg hbe t _ _).trans ?_)
  have e0 : tile N5 t (j 0 : Fin 4096) = ((((cfg5.win 4).blk t).view.emb j) 0 : Fin 131072) := by
    refine Fin.ext ?_
    blk_simp [index5 t, tile]
  have e1 : (j 1 : Fin 128) = ((((cfg5.win 4).blk t).view.emb j) 1 : Fin 128) := by
    refine Fin.ext ?_
    blk_simp [index5 t]
  rw [e0, e1]

end Pass5

end Cert.Proof.GroupLayers
-- ==== Proof.GroupChain.lean ====
/-
  From the gathered rows to the result of the grouped program: the layers on the rows, index by index.
-/
module

public import proofs.«01_k».proof.Proof.GroupFold
public import proofs.«01_k».proof.Proof.GroupLayers

@[expose] public section

noncomputable section

namespace Cert.Proof.GroupChain

open Cert.GroupIdeal Cert.GroupIdeal.Gen Idealize.ShloMosaic Idealize.ShloMosaic.TcCoe Idealize.SL.Sem Cert.Proof.LayersMath
open Cert.Proof.Group Cert.Proof.GroupLayers

/-! ## The host operations, at an index -/

section Host

variable (X : Valuation τ sig (Elt Ideal))

theorem v13_apply (b : Fin 8) (s : Fin 512) (d : Fin 3) :
    StableHlo.after hostOps1 X (Proc.devRef .tc main_v13) (ix2 (centre b s) d) = X (Proc.devRef .tc main_arg0) (ix3 b d s) := by
  have e : StableHlo.after hostOps1 X (Proc.devRef .tc main_v13)
      = shapeCast S4096x3 (transpose S8x512x3 [0, 2, 1] (X (Proc.devRef .tc main_arg0)) transposes_S8x3x512_S8x512x3_0_2_1) shapeCasts_S8x512x3_S4096x3 := by
    unfold hostOps1; after_results <;> rfl
  rw [e]
  pointwise [centre]

theorem v16_apply (k : Fin 128) (o : Fin 64) {W : Fin 64 → Fin 67 → ℝ}
    (hW : ∀ j k, X (Proc.devRef .tc main_arg3) (ix2 j k) = ((W j k : ℝ) : EReal)) :
    StableHlo.after hostOps1 X (Proc.devRef .tc main_v16) (ix2 k o) = ((padded W k o : ℝ) : EReal) := by
  have e : StableHlo.after hostOps1 X (Proc.devRef .tc main_v16)
      = concatenate S128x64 0 [⟨S67x64, transpose S67x64 [1, 0] (X (Proc.devRef .tc main_arg3)) transposes_S64x67_S67x64_1_0⟩,
          ⟨S61x64, broadcastInDim S61x64 ![] bcast_S_S61x64 (constant (F := Ideal) S_ .f32 0x00000000#32)⟩] concatenates_S67x64_S61x64_S128x64_d0 := by
    unfold hostOps1; after_results
  rw [e]
  by_cases h : k.val < 67
  · pointwise
    rw [dif_pos h]
    exact (hW o ⟨k.val, h⟩).trans (congrArg Real.toEReal (by rw [padded, dif_pos h]))
  · pointwise
    rw [dif_neg h]
    exact EReal.coe_zero.symm.trans (congrArg Real.toEReal (by rw [padded, dif_neg h]))

theorem v17_apply (o : Fin 64) : StableHlo.after hostOps1 X (Proc.devRef .tc main_v17) (ix2 0 o) = X (Proc.devRef .tc main_arg4) (ix1 o) := by
  have e : StableHlo.after hostOps1 X (Proc.devRef .tc main_v17)
      = broadcastInDim S1x64 ![1] bcast_S64_S1x64_1 (X (Proc.devRef .tc main_arg4)) := by
    unfold hostOps1; after_results
  rw [e]
  pointwise

theorem v19_apply (k : Fin 64) (o : Fin 64) :
    StableHlo.after hostOps2 X (Proc.devRef .tc main_v19) (ix2 k o) = X (Proc.devRef .tc main_arg7) (ix2 o k) := by
  have e : StableHlo.after hostOps2 X (Proc.devRef .tc main_v19)
      = transpose S64x64 [1, 0] (X (Proc.devRef .tc main_arg7)) transposes_S64x64_S64x64_1_0 := by
    unfold hostOps2; after_results
  rw [e]
  pointwise

theorem v20_apply (o : Fin 64) : StableHlo.after hostOps2 X (Proc.devRef .tc main_v20) (ix2 0 o) = X (Proc.devRef .tc main_arg5) (ix1 o) := by
  have e : StableHlo.after hostOps2 X (Proc.devRef .tc main_v20)
      = broadcastInDim S1x64 ![1] bcast_S64_S1x64_1 (X (Proc.devRef .tc main_arg5)) := by
    unfold hostOps2; after_results
  rw [e]
  pointwise

theorem v21_apply (o : Fin 64) : StableHlo.after hostOps2 X (Proc.devRef .tc main_v21) (ix2 0 o) = X (Proc.devRef .tc main_arg6) (ix1 o) := by
  have e : StableHlo.after hostOps2 X (Proc.devRef .tc main_v21)
      = broadcastInDim S1x64 ![1] bcast_S64_S1x64_1 (X (Proc.devRef .tc main_arg6)) := by
    unfold hostOps2; after_results
  rw [e]
  pointwise

theorem v22_apply (o : Fin 64) : StableHlo.after hostOps2 X (Proc.devRef .tc main_v22) (ix2 0 o) = X (Proc.devRef .tc main_arg8) (ix1 o) := by
  have e : StableHlo.after hostOps2 X (Proc.devRef .tc main_v22)
      = broadcastInDim S1x64 ![1] bcast_S64_S1x64_1 (X (Proc.devRef .tc main_arg8)) := by
    unfold hostOps2; after_results
  rw [e]
  pointwise

theorem v24_apply (k : Fin 64) (o : Fin 128) :
    StableHlo.after hostOps3 X (Proc.devRef .tc main_v24) (ix2 k o) = X (Proc.devRef .tc main_arg11) (ix2 o k) := by
  have e : StableHlo.after hostOps3 X (Proc.devRef .tc main_v24)
      = transpose S64x128 [1, 0] (X (Proc.devRef .tc main_arg11)) transposes_S128x64_S64x128_1_0 := by
    unfold hostOps3; after_results
  rw [e]
  pointwise

theorem v25_apply (o : Fin 64) : StableHlo.after hostOps3 X (Proc.devRef .tc main_v25) (ix2 0 o) = X (Proc.devRef .tc main_arg9) (ix1 o) := by
  have e : StableHlo.after hostOps3 X (Proc.devRef .tc main_v25)
      = broadcastInDim S1x64 ![1] bcast_S64_S1x64_1 (X (Proc.devRef .tc main_arg9)) := by
    unfold hostOps3; after_results
  rw [e]
  pointwise

theorem v26_apply (o : Fin 64) : StableHlo.after hostOps3 X (Proc.devRef .tc main_v26) (ix2 0 o) = X (Proc.devRef .tc main_arg10) (ix1 o) := by
  have e : StableHlo.after hostOps3 X (Proc.devRef .tc main_v26)
      = broadcastInDim S1x64 ![1] bcast_S64_S1x64_1 (X (Proc.devRef .tc main_arg10)) := by
    unfold hostOps3; after_results
  rw [e]
  pointwise

theorem v27_apply (o : Fin 128) : StableHlo.after hostOps3 X (Proc.devRef .tc main_v27) (ix2 0 o) = X (Proc.devRef .tc main_arg12) (ix1 o) := by
  have e : StableHlo.after hostOps3 X (Proc.devRef .tc main_v27)
      = broadcastInDim S1x128 ![1] bcast_S128_S1x128_1 (X (Proc.devRef .tc main_arg12)) := by
    unfold hostOps3; after_results
  rw [e]
  pointwise

theorem v29_apply (o : Fin 128) : StableHlo.after hostOps4 X (Proc.devRef .tc main_v29) (ix2 0 o) = X (Proc.devRef .tc main_arg13) (ix1 o) := by
  have e : StableHlo.after hostOps4 X (Proc.devRef .tc main_v29)
      = broadcastInDim S1x128 ![1] bcast_S128_S1x128_1 (X (Proc.devRef .tc main_arg13)) := by
    unfold hostOps4; after_results
  rw [e]
  pointwise

theorem v30_apply (o : Fin 128) : StableHlo.after hostOps4 X (Proc.devRef .tc main_v30) (ix2 0 o) = X (Proc.devRef .tc main_arg14) (ix1 o) := by
  have e : StableHlo.after hostOps4 X (Proc.devRef .tc main_v30)
      = broadcastInDim S1x128 ![1] bcast_S128_S1x128_1 (X (Proc.devRef .tc main_arg14)) := by
    unfold hostOps4; after_results
  rw [e]
  pointwise

theorem v33_apply (b : Fin 8) (o : Fin 128) (k : Fin 32) (s : Fin 512) :
    StableHlo.after hostOps5 X (Proc.devRef .tc main_v33) (ix4 b o k s) = X (Proc.devRef .tc main_v31) (ix2 (row b k s) o) := by
  have e : StableHlo.after hostOps5 X (Proc.devRef .tc main_v33)
      = transpose S8x128x32x512 [0, 3, 2, 1] (shapeCast S8x512x32x128 (X (Proc.devRef .tc main_v31)) shapeCasts_S131072x128_S8x512x32x128)
          transposes_S8x512x32x128_S8x128x32x512_0_3_2_1 := by
    unfold hostOps5; after_results <;> rfl
  rw [e]
  pointwise [row]
  refine congrArg (fun r : Fin 131072 => X (Proc.devRef .tc main_v31) (ix2 r o)) (Fin.ext ?_)
  show b.val * 16384 + s.val * 32 + k.val = (b.val * 512 + s.val) * 32 + k.val
  omega

end Host

/-! ## From the arguments to the result -/

section Chain

variable (m : (ℓ : Loc nD τ sig) → Buf (Elt Ideal) ℓ) (c : Dev nD)
variable {x : Fin 131072 → Fin 128 → ℝ} {p : Fin 4096 → Fin 3 → ℝ} {w : Weights}

/-- The gathered rows and the arguments of a device as real values. -/
abbrev Args (x : Fin 131072 → Fin 128 → ℝ) (p : Fin 4096 → Fin 3 → ℝ) (w : Weights) : Prop :=
  Reads (gathered (tbl m c) (ixs m c)) (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14)) x p w

theorem tile2_net (h : Args m c x p w) (t : Fin cfg2.N) (i : Fin 4096) (o : Fin 64) :
    tile2 (V4 m) c t (ix2 i o) = ((y0 x p w (tile N2 t i) o : ℝ) : EReal) := by
  refine tile2_apply (V4 m) c (fun r k => ?_) (fun g d => ?_) (fun k o => ?_) (fun o => ?_) t i o
  · exact (congrFun ((W4_of m c main_v11 (by decide)).trans (W3_v11 m c)) _).trans (h.h0 r k)
  · have e : g = centre ⟨g.val / 512, by omega⟩ ⟨g.val % 512, by omega⟩ := Fin.ext (by simp only [centre]; omega)
    rw [e]
    exact (v13_apply _ _ _ _).trans ((congrFun (W3_args m c main_arg0 (by decide)) _).trans (h.h1 _ _ _))
  · exact v16_apply _ k o fun j k => (congrFun (W3_args m c main_arg3 (by decide)) _).trans (h.h2 j k)
  · exact (v17_apply _ o).trans ((congrFun (W3_args m c main_arg4 (by decide)) _).trans (h.h3 o))

theorem after2 (h : Args m c x p w) :
    (∀ r k, V6 m c main_v18_0 (ix2 r k) = ((y0 x p w r k : ℝ) : EReal))
      ∧ ∀ k, (V6 m c main_v18_1 : S2x64.Idx → EReal) (ix2 0 k) = ∑ r, ((y0 x p w r k : ℝ) : EReal)
        ∧ (V6 m c main_v18_1 : S2x64.Idx → EReal) (ix2 1 k) = ∑ r, ((y0 x p w r k : ℝ) : EReal) * ((y0 x p w r k : ℝ) : EReal) := by
  have e0 : V6 m c main_v18_0 = (dat2 (V4 m) c).arrAt 4 cfg2.N := (W6_of m c main_v18_0 (by decide)).trans (W5_arr m c 4)
  have e1 : V6 m c main_v18_1 = (dat2 (V4 m) c).arrAt 5 cfg2.N := (W6_of m c main_v18_1 (by decide)).trans (W5_arr m c 5)
  rw [e0, e1]
  exact ⟨fun r k => congrFun (array2_y (V4 m) c (tile2_net m c h)) (ix2 r k), array2_stats (V4 m) c (tile2_net m c h)⟩

theorem tile3_net (h : Args m c x p w) (t : Fin cfg3.N) (i : Fin 4096) (o : Fin 64) :
    tile3 (V6 m) c t (ix2 i o) = ((y1 x p w (tile N3 t i) o : ℝ) : EReal) := by
  refine tile3_apply (V6 m) c (after2 m c h).1 (after2 m c h).2 (fun k => ?_) (fun k => ?_) (fun k o => ?_) (fun o => ?_) t i o
  · exact (v20_apply _ k).trans ((congrFun (W5_args m c main_arg5 (by decide)) _).trans (h.h4 k))
  · exact (v21_apply _ k).trans ((congrFun (W5_args m c main_arg6 (by decide)) _).trans (h.h5 k))
  · exact (v19_apply _ k o).trans ((congrFun (W5_args m c main_arg7 (by decide)) _).trans (h.h6 o k))
  · exact (v22_apply _ o).trans ((congrFun (W5_args m c main_arg8 (by decide)) _).trans (h.h7 o))

theorem after3 (h : Args m c x p w) :
    (∀ r k, V8 m c main_v23_0 (ix2 r k) = ((y1 x p w r k : ℝ) : EReal))
      ∧ ∀ k, (V8 m c main_v23_1 : S2x64.Idx → EReal) (ix2 0 k) = ∑ r, ((y1 x p w r k : ℝ) : EReal)
        ∧ (V8 m c main_v23_1 : S2x64.Idx → EReal) (ix2 1 k) = ∑ r, ((y1 x p w r k : ℝ) : EReal) * ((y1 x p w r k : ℝ) : EReal) := by
  have e0 : V8 m c main_v23_0 = (dat3 (V6 m) c).arrAt 6 cfg3.N := (W8_of m c main_v23_0 (by decide)).trans (W7_arr m c 6)
  have e1 : V8 m c main_v23_1 = (dat3 (V6 m) c).arrAt 7 cfg3.N := (W8_of m c main_v23_1 (by decide)).trans (W7_arr m c 7)
  rw [e0, e1]
  exact ⟨fun r k => congrFun (array3_y (V6 m) c (tile3_net m c h)) (ix2 r k), array3_stats (V6 m) c (tile3_net m c h)⟩

theorem tile4_net (h : Args m c x p w) (t : Fin cfg4.N) (i : Fin 4096) (o : Fin 128) :
    tile4 (V8 m) c t (ix2 i o) = ((y2 x p w (tile N4 t i) o : ℝ) : EReal) := by
  refine tile4_apply (V8 m) c (after3 m c h).1 (after3 m c h).2 (fun k => ?_) (fun k => ?_) (fun k o => ?_) (fun o => ?_) t i o
  · exact (v25_apply _ k).trans ((congrFun (W7_args m c main_arg9 (by decide)) _).trans (h.h8 k))
  · exact (v26_apply _ k).trans ((congrFun (W7_args m c main_arg10 (by decide)) _).trans (h.h9 k))
  · exact (v24_apply _ k o).trans ((congrFun (W7_args m c main_arg11 (by decide)) _).trans (h.h10 o k))
  · exact (v27_apply _ o).trans ((congrFun (W7_args m c main_arg12 (by decide)) _).trans (h.h11 o))

theorem after4 (h : Args m c x p w) :
    (∀ r k, V10 m c main_v28_0 (ix2 r k) = ((y2 x p w r k : ℝ) : EReal))
      ∧ ∀ k, (V10 m c main_v28_1 : S2x128.Idx → EReal) (ix2 0 k) = ∑ r, ((y2 x p w r k : ℝ) : EReal)
        ∧ (V10 m c main_v28_1 : S2x128.Idx → EReal) (ix2 1 k) = ∑ r, ((y2 x p w r k : ℝ) : EReal) * ((y2 x p w r k : ℝ) : EReal) := by
  have e0 : V10 m c main_v28_0 = (dat4 (V8 m) c).arrAt 6 cfg4.N := (W10_of m c main_v28_0 (by decide)).trans (W9_arr m c 6)
  have e1 : V10 m c main_v28_1 = (dat4 (V8 m) c).arrAt 7 cfg4.N := (W10_of m c main_v28_1 (by decide)).trans (W9_arr m c 7)
  rw [e0, e1]
  exact ⟨fun r k => congrFun (array4_y (V8 m) c (tile4_net m c h)) (ix2 r k), array4_stats (V8 m) c (tile4_net m c h)⟩

theorem after5 (h : Args m c x p w) (r : Fin 131072) (k : Fin 128) :
    W11 m c (Proc.devRef .tc main_v31) (ix2 r k) = ((net x p w r k : ℝ) : EReal) := by
  refine (congrFun (W11_arr m c 4) (ix2 r k)).trans ?_
  refine (congrFun (array5 (V10 m) c (g := w.g2) (be := w.be2) (after4 m c h).1 (after4 m c h).2 (fun k => ?_) fun k => ?_) (ix2 r k)).trans rfl
  · exact (v29_apply _ k).trans ((congrFun (W9_args m c main_arg13 (by decide)) _).trans (h.h12 k))
  · exact (v30_apply _ k).trans ((congrFun (W9_args m c main_arg14 (by decide)) _).trans (h.h13 k))

theorem result_apply (h : Args m c x p w) (b : Fin 8) (o : Fin 128) (k : Fin 32) (s : Fin 512) :
    W12 m c (Proc.devRef .tc main_v33) (ix4 b o k s) = ((net x p w (row b k s) o : ℝ) : EReal) :=
  (v33_apply _ b o k s).trans (after5 m c h (row b k s) o)

end Chain

end Cert.Proof.GroupChain
-- ==== Proof.GroupPre.lean ====
/-
  The precondition of the grouped program, read: when every entry of the fifteen arrays has a finite absolute value, each of them holds
  real values.
-/
module

public import proofs.«01_k».proof.Proof.Gen.Pre_finite_group
public import proofs.«01_k».proof.Proof.LayersPre

@[expose] public section

noncomputable section

namespace Cert.Proof.GroupPre

open Cert.Pre_finite_group Cert.Pre_finite_group.Gen Idealize.ShloMosaic Cert.Proof.LayersPre

theorem all_of_pre (a0 : FVec Ideal S8x3x512 .f32) (a1 : FVec Ideal S8x3x4096 .f32) (a2 : FVec Ideal S8x64x4096 .f32) (a3 : FVec Ideal S64x67 .f32)
    (a4 a5 a6 : FVec Ideal S64 .f32) (a7 : FVec Ideal S64x64 .f32) (a8 a9 a10 : FVec Ideal S64 .f32) (a11 : FVec Ideal S128x64 .f32)
    (a12 a13 a14 : FVec Ideal S128 .f32)
    (h : Cert.Pre_finite_group.fn (F := Ideal) a0 a1 a2 a3 a4 a5 a6 a7 a8 a9 a10 a11 a12 a13 a14 = fun _ => 1#1) :
    Finite a0 ∧ Finite a1 ∧ Finite a2 ∧ Finite a3 ∧ Finite a4 ∧ Finite a5 ∧ Finite a6 ∧ Finite a7 ∧ Finite a8 ∧ Finite a9 ∧ Finite a10 ∧ Finite a11 ∧ Finite a12 ∧ Finite a13 ∧ Finite a14 := by
  have e := congrFun h ix0
  unfold Cert.Pre_finite_group.fn Cert.Pre_finite_group.fn_part1 Cert.Pre_finite_group.fn_part2 Cert.Pre_finite_group.fn_part3 Cert.Pre_finite_group.fn_part4 at e
  replace ⟨e, h14⟩ := IntOp.andi_eq_one.1 e
  replace ⟨e, h13⟩ := IntOp.andi_eq_one.1 e
  replace ⟨e, h12⟩ := IntOp.andi_eq_one.1 e
  replace ⟨e, h11⟩ := IntOp.andi_eq_one.1 e
  replace ⟨e, h10⟩ := IntOp.andi_eq_one.1 e
  replace ⟨e, h9⟩ := IntOp.andi_eq_one.1 e
  replace ⟨e, h8⟩ := IntOp.andi_eq_one.1 e
  replace ⟨e, h7⟩ := IntOp.andi_eq_one.1 e
  replace ⟨e, h6⟩ := IntOp.andi_eq_one.1 e
  replace ⟨e, h5⟩ := IntOp.andi_eq_one.1 e
  replace ⟨e, h4⟩ := IntOp.andi_eq_one.1 e
  replace ⟨e, h3⟩ := IntOp.andi_eq_one.1 e
  replace ⟨e, h2⟩ := IntOp.andi_eq_one.1 e
  replace ⟨e, h1⟩ := IntOp.andi_eq_one.1 e
  replace ⟨_, h0⟩ := IntOp.andi_eq_one.1 e
  exact ⟨real_of_all _ _ _ h0, real_of_all _ _ _ h1, real_of_all _ _ _ h2, real_of_all _ _ _ h3, real_of_all _ _ _ h4, real_of_all _ _ _ h5, real_of_all _ _ _ h6, real_of_all _ _ _ h7, real_of_all _ _ _ h8, real_of_all _ _ _ h9, real_of_all _ _ _ h10, real_of_all _ _ _ h11, real_of_all _ _ _ h12, real_of_all _ _ _ h13, real_of_all _ _ _ h14⟩

end Cert.Proof.GroupPre
-- ==== Proof.GroupNumbers.lean ====
/-
  The neighbour search as a call of the grouped program: the numbers it leaves, from any contents it starts from.
-/
module

public import proofs.«01_k».proof.Proof.GroupFold
public import proofs.«01_k».proof.Proof.SearchKernel
public import Idealize.ShloMosaic.Lib.Pipeline.ValueKit
public import Idealize.ShloMosaic.Lib.Pipeline.ReadBack

@[expose] public section

noncomputable section

namespace Cert.Proof.GroupNumbers

open Cert.GroupIdeal Cert.GroupIdeal.Gen Idealize.ShloMosaic Idealize.ShloMosaic.TcCoe Idealize.SL.Sem Cert.Proof.SearchMath Cert.Proof.Group
open Cert.Proof.SearchKernel (blockKey keys number)

theorem pay1_apply (v0 : Vec Ideal S1x3x512 .f32) (v2 : Vec Ideal S1x3x4096 .f32) (s : Fin 512) (n : Fin 4096) :
    k0_pay1 v0 v2 (ix2 s n) = blockKey v0 v2 s n := SearchKernel.pay1_apply v0 v2 s n

theorem pay4_apply (k : Fin k0_t1_loop.trips) (hk : k.val < 32) (acc : IVec S512x32 32) (d : Vec Ideal S512x4096 .f32) (s : Fin 512) (j : Fin 32) :
    k0_pay4 k acc d (ix2 s j) = if j.val = k.val then BitVec.ofNat 32 (least fun n => d (ix2 s n)).val else acc (ix2 s j) :=
  SearchKernel.pay4_apply k hk acc d s j

theorem pay5_apply (d : Vec Ideal S512x4096 .f32) (s : Fin 512) (n : Fin 4096) :
    k0_pay5 d (ix2 s n) = if n = least (fun n => d (ix2 s n)) then ⊤ else d (ix2 s n) := SearchKernel.pay5_apply d s n

theorem pay6_apply (i : grid0.Coords) (acc : IVec S512x32 32) (s : Fin 512) (j : Fin 32) :
    k0_pay6 i acc (ix3 0 s j) = IntOp.addi (acc (ix2 s j)) (IntOp.muli (BitVec.ofNat 32 (i 0).val) 4096#32) := SearchKernel.pay6_apply i acc s j

section Loop

variable (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)

/-- The whole scratch array. -/
abbrev whole : Rect S512x4096 := Rect.unit (s := S512x4096) ![0, 0] S512x4096.size inb_S512x4096_S512x4096_0_0

theorem tripR_eq (k : Fin k0_t1_loop.trips) (acc : IVec S512x32 32) (f : BufTy.Contents (Elt Ideal) arg5.view.ty) :
    tripR_k0_t1 (F := Ideal) Variants.none c none i arg2 harg2 arg3 harg3 arg4 harg4 arg5 harg5 k acc f
      = k0_pay4 k acc (arg5.view.read (Elt Ideal) f) := by
  unfold tripR_k0_t1 trip_k0_t1
  dsimp only
  rw [View.readAt_full]

theorem tripL_eq (k : Fin k0_t1_loop.trips) (acc : IVec S512x32 32) (f : BufTy.Contents (Elt Ideal) arg5.view.ty) :
    tripL_k0_t1 (F := Ideal) Variants.none c none i arg2 harg2 arg3 harg3 arg4 harg4 arg5 harg5 k acc f
      = [⟨whole, k0_pay5 (arg5.view.read (Elt Ideal) f)⟩] := by
  unfold tripL_k0_t1 trip_k0_t1
  dsimp only
  rw [View.readAt_full]

/-- The loop's state before round `k`. -/
structure Inv (key : Fin 512 → Fin 4096 → EReal) (G : BufTy.Contents (Elt Ideal) arg5.view.ty) (k : ℕ)
    (st : IVec S512x32 32 × List (View.Piece (Elt Ideal) S512x4096 .f32)) : Prop where
  scratch : ∀ s n, (arg5.view.read (Elt Ideal) (arg5.view.writes (Elt Ideal) G st.2) : Vec Ideal S512x4096 .f32) (ix2 s n) = left (key s) k n
  acc : ∀ s (j : Fin 32), j.val < k → st.1 (ix2 s j) = BitVec.ofNat 32 (chosen (key s) j.val).val

theorem trips_eq : k0_t1_loop.trips = 32 := by decide

theorem inv (key : Fin 512 → Fin 4096 → EReal) (G : BufTy.Contents (Elt Ideal) arg5.view.ty) (init : IVec S512x32 32)
    (hG : ∀ s n, (arg5.view.read (Elt Ideal) G : Vec Ideal S512x4096 .f32) (ix2 s n) = key s n) (k : ℕ) (hk : k ≤ 32) :
    Inv arg5 key G k (st_k0_t1 (F := Ideal) Variants.none c none i arg2 harg2 arg3 harg3 arg4 harg4 arg5 harg5 G init k) := by
  induction k with
  | zero => exact ⟨hG, fun s j hj => absurd hj (Nat.not_lt_zero _)⟩
  | succ k ih =>
    have ih := ih (by omega)
    have e := st_k0_t1_succ (F := Ideal) Variants.none c none i arg2 harg2 arg3 harg3 arg4 harg4 arg5 harg5 G init ⟨k, by rw [trips_eq]; omega⟩
    dsimp only at e
    generalize st_k0_t1 (F := Ideal) Variants.none c none i arg2 harg2 arg3 harg3 arg4 harg4 arg5 harg5 G init k = st at ih e
    rw [e, tripR_eq, tripL_eq]
    have hd : ∀ s, (fun n => (arg5.view.read (Elt Ideal) (arg5.view.writes (Elt Ideal) G st.2) : Vec Ideal S512x4096 .f32) (ix2 s n)) = left (key s) k :=
      fun s => funext fun n => ih.scratch s n
    refine ⟨fun s n => ?_, fun s j hj => ?_⟩
    · dsimp only
      rw [List.singleton_append, View.read_writes_full, pay5_apply, hd, ih.scratch]
      rfl
    · dsimp only
      rw [pay4_apply _ (by show k < 32; omega), hd]
      by_cases h : j.val = k
      · rw [if_pos h, h]; rfl
      · rw [if_neg h]; exact ih.acc s j (by omega)

end Loop

/-- What the body leaves in the result's buffer. -/
theorem out_eq (c : Dev nD) (i : grid0.Coords) (arg2 : Memref sig .tc .vmem S1x3x512 .f32) (harg2 : arg2.IsWhole) (arg3 : Memref sig .tc .vmem S1x3x4096 .f32) (harg3 : arg3.IsWhole) (arg4 : Memref sig .tc .vmem S1x512x32 .i32) (harg4 : arg4.IsWhole) (arg5 : Memref sig .tc .vmem S512x4096 .f32) (harg5 : arg5.IsWhole)
    (x0 : Vec Ideal S1x3x512 .f32) (x1 : Vec Ideal S1x3x4096 .f32) (s : Fin 512) (j : Fin 32) :
    out0_A_2 c i arg2 harg2 arg3 harg3 arg4 harg4 arg5 harg5 x0 x1 (ix3 0 s j) = number (blockKey x0 x1 s) (i 0).val j.val := by
  unfold out0_A_2
  rw [View.read_writes_junk_eq_canon]
  unfold kernelRun0_A
  dsimp only
  sl_unfold_words
  refine (congrFun (Idealize.ShloMosaic.View.canon_unit_zero (S := S1x512x32) (by decide) _ _) (ix3 0 s j)).trans ?_
  rw [View.readAt_full, View.readAt_full, harg2.read_unread, harg3.read_unread]
  have I := inv c i arg2 harg2 arg3 harg3 arg4 harg4 arg5 harg5 (blockKey x0 x1) (arg5.view.writes (Elt Ideal) arg5.view.junk [⟨whole, k0_pay1 x0 x1⟩]) k0_pay2
    (fun s n => by rw [View.read_writes_full, pay1_apply]) 32 (le_refl 32)
  have e : Scf.trips 0#32 (Scalar.addi 0#32 32#32) 1#32 = 32 := by decide
  rw [e, pay6_apply, I.acc s j j.isLt]
  rfl

/-! ## The array of numbers -/

variable (V : (c : Dev nD) → (b : Ref sig .tc) → Buf (Elt Ideal) ((c : Thread nD τ).loc b)) (c : Dev nD)

theorem N0 : cfg0.N = 8 := by decide

theorem index0 : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) ∧ (grid0.coords t 0).val = t.val := by decide +kernel

theorem iblk0_0 (t : Fin cfg0.N) (k : Fin 3) (s : Fin 512) :
    iblk0 V c 0 t (ix3 0 k s) = V c main_arg0 (ix3 ⟨t.val, N0 ▸ t.isLt⟩ k s) := by
  blk_ext [iblk0, index0 t]

theorem iblk0_1 (t : Fin cfg0.N) (k : Fin 3) (n : Fin 4096) :
    iblk0 V c 1 t (ix3 0 k n) = V c main_arg1 (ix3 ⟨t.val, N0 ▸ t.isLt⟩ k n) := by
  blk_ext [iblk0, index0 t]

/-- The numbers of the points nearest to every sampled point. -/
def found (a : S8x3x512.Idx → EReal) (x : S8x3x4096.Idx → EReal) : IVec S8x512x32 32 :=
  fun j => number (keys a x (j 0 : Fin 8) (j 1 : Fin 512)) (j 0 : Fin 8).val (j 2 : Fin 32).val

theorem array0 : (dat0 V c).arrAt 2 cfg0.N = found (V c main_arg0) (V c main_arg1) := by
  refine (dat0 V c).arrAt_eq_of_covers 2 _ (by decide +kernel) fun t hf j => ?_
  blk_simp
  rw [after0_2]
  have ej : ((cfg0.win 2).xinj (cfg0.grid.coords t) j) = ix3 0 (j 1 : Fin 512) (j 2 : Fin 32) := by
    funext a
    match a with
    | ⟨0, _⟩ => exact Subsingleton.elim (α := Fin 1) _ _
    | ⟨1, _⟩ => rfl
    | ⟨2, _⟩ => rfl
  refine (congrArg (outsAt0 V c t) ej).trans ((out_eq c _ _ _ _ _ _ _ _ _ _ _ _ _).trans ?_)
  have e0 : (⟨t.val, N0 ▸ t.isLt⟩ : Fin 8) = ((((cfg0.win 2).blk t).view.emb j) 0 : Fin 8) := by
    refine Fin.ext ?_
    blk_simp [index0 t]
  have e1 : (j 1 : Fin 512) = ((((cfg0.win 2).blk t).view.emb j) 1 : Fin 512) := by
    refine Fin.ext ?_
    blk_simp [index0 t]
  have e2 : (j 2 : Fin 32) = ((((cfg0.win 2).blk t).view.emb j) 2 : Fin 32) := by
    refine Fin.ext ?_
    blk_simp [index0 t]
  have ek : blockKey (iblk0 V c 0 t) (iblk0 V c 1 t) (j 1 : Fin 512)
      = keys (V c main_arg0) (V c main_arg1) ⟨t.val, N0 ▸ t.isLt⟩ (j 1 : Fin 512) := by
    funext n
    unfold blockKey keys
    exact congrArg₂ _ (funext fun k => iblk0_0 V c t k _) (funext fun k => iblk0_1 V c t k _)
  rw [ek, (index0 t).2.2.2]
  unfold found
  rw [← e0, ← e1, ← e2]

end Cert.Proof.GroupNumbers
-- ==== Proof.GroupRows.lean ====
/-
  The rows the grouped program gathers: the clamped numbers always name rows of the table, and where the search's numbers
  are those of the nearest points, the gathered rows hold these points' coordinates and features.
-/
module

public import proofs.«01_k».proof.Proof.GroupNumbers
public import proofs.«01_k».proof.Proof.Value
public import proofs.«01_k».proof.Proof.LayersPre

@[expose] public section

noncomputable section

namespace Cert.Proof.GroupRows

open Cert.GroupIdeal Cert.GroupIdeal.Gen Idealize.ShloMosaic Idealize.ShloMosaic.TcCoe Idealize.SL.Sem Cert.Proof.SearchMath Cert.Proof.Group
open Cert.Proof.SearchKernel (keys number)
open Cert.Proof.GroupNumbers (found array0)
open Cert.Proof.Value (table numbers)
open Cert.Proof.LayersPre (Finite)

/-! ## The clamp -/

/-- The numbers brought into the table's range. -/
def clamped (x : IVec S8x512x32 32) : IVec S8x512x32 32 :=
  minsi (maxsi x (broadcastInDim S8x512x32 ![] bcast_S_S8x512x32 (constantI S_ 32 0#32))) (broadcastInDim S8x512x32 ![] bcast_S_S8x512x32 (constantI S_ 32 32767#32))

theorem clamped_apply (x : IVec S8x512x32 32) (i : S8x512x32.Idx) : clamped x i = IntOp.minsi (IntOp.maxsi (x i) 0#32) 32767#32 := rfl

theorem clamped_lt (x : IVec S8x512x32 32) (i : S8x512x32.Idx) : (clamped x i).toNat < 32768 := by
  rw [clamped_apply]
  generalize x i = v
  unfold IntOp.minsi IntOp.maxsi
  simp only [BitVec.slt_iff_toInt_lt, BitVec.toInt_eq_toNat_cond, BitVec.toNat_ofNat, Nat.reducePow, Nat.reduceMod]
  split_ifs <;> simp_all <;> omega

theorem clamped_of_lt (x : IVec S8x512x32 32) (i : S8x512x32.Idx) (h : (x i).toNat < 32768) : clamped x i = x i := by
  rw [clamped_apply]
  generalize x i = v at h
  refine BitVec.eq_of_toNat_eq ?_
  unfold IntOp.minsi IntOp.maxsi
  simp only [BitVec.slt_iff_toInt_lt, BitVec.toInt_eq_toNat_cond, BitVec.toNat_ofNat, Nat.reducePow, Nat.reduceMod]
  split_ifs <;> simp_all <;> omega

section Any

variable {F : FTy → Type} [FloatOps F] (m : (ℓ : Loc nD τ sig) → Buf (Elt F) ℓ) (d : Dev nD)

theorem tbl_eq : tbl m d = table (m ((d : Thread nD τ).loc main_arg1)) (m ((d : Thread nD τ).loc main_arg2)) := by
  refine Eq.trans ?_ (Value.kernel_table (m ((d : Thread nD τ).loc main_arg1)) (m ((d : Thread nD τ).loc main_arg2)))
  rw [← W1_args m d main_arg1 (by decide), ← W1_args m d main_arg2 (by decide)]
  unfold tbl W2 hostOps0; after_results <;> rfl

theorem ixs_eq : ixs m d = numbers (F := F) (clamped (W1 m d (Proc.devRef .tc main_v0))) := by
  refine Eq.trans ?_ (Value.kernel_numbers (F := F) (clamped (W1 m d (Proc.devRef .tc main_v0))))
  unfold ixs W2 hostOps0; after_results <;> rfl

theorem inRows : InRows (ixs m d) := by
  rw [ixs_eq]
  exact fun _ => clamped_lt _ _

end Any

/-! ## The gathered rows over the reals -/

theorem number_val (key : Fin 4096 → EReal) (b : Fin 8) (j : ℕ) : (number key b.val j).toNat = b.val * 4096 + (chosen key j).val := by
  unfold number IntOp.addi IntOp.muli
  rw [BitVec.toNat_add, BitVec.toNat_mul, BitVec.toNat_ofNat, BitVec.toNat_ofNat, BitVec.toNat_ofNat]
  have := (chosen key j).isLt
  have := b.isLt
  omega

/-- The cloud, the sampled point and the place among its neighbours a row belongs to. -/
abbrev cloud (r : Fin 131072) : Fin 8 := ⟨r.val / 16384, by omega⟩
abbrev sample (r : Fin 131072) : Fin 512 := ⟨r.val / 32 % 512, by omega⟩
abbrev place (r : Fin 131072) : Fin 32 := ⟨r.val % 32, by omega⟩

variable (a : FVec Ideal S8x3x512 .f32) (x : FVec Ideal S8x3x4096 .f32) (p : FVec Ideal S8x64x4096 .f32)

/-- The point a row is gathered from. -/
abbrev pick (r : Fin 131072) : Fin 4096 := chosen (keys a x (cloud r) (sample r)) (place r).val

/-- The gathered rows as real numbers: three coordinates, 64 features, zeros. -/
def rows (r : Fin 131072) (k : Fin 128) : ℝ :=
  if h3 : k.val < 3 then (x (ix3 (cloud r) (⟨k.val, h3⟩ : Fin 3) (pick a x r)) : EReal).toReal
  else if h67 : k.val < 67 then (p (ix3 (cloud r) (⟨k.val - 3, by omega⟩ : Fin 64) (pick a x r)) : EReal).toReal
  else 0

theorem gathered_found (r : Fin 131072) (k : Fin 128) :
    gathered (F := Ideal) (table (F := Ideal) x p) (numbers (F := Ideal) (clamped (found a x))) (ix2 r k)
      = table (F := Ideal) x p (ix2 ⟨(cloud r).val * 4096 + (pick a x r).val, by have := (pick a x r).isLt; have := (cloud r).isLt; omega⟩ k) := by
  have e : numbers (F := Ideal) (clamped (found a x)) (ix2 (⟨r.val / 128, by omega⟩ : Fin 1024) (⟨r.val % 128, by omega⟩ : Fin 128))
      = clamped (found a x) (ix3 (cloud r) (sample r) (place r)) := by
    have hn : r.val / 128 * 128 + r.val % 128 = r.val := by omega
    refine congrArg (clamped (found a x)) (funext fun a => Fin.ext ?_)
    match a with
    | ⟨0, _⟩ => exact congrArg (· / 16384) hn
    | ⟨1, _⟩ => exact congrArg (· / 32 % 512) hn
    | ⟨2, _⟩ => exact congrArg (· % 32) hn
  have ev : (found a x (ix3 (cloud r) (sample r) (place r))).toNat = (cloud r).val * 4096 + (pick a x r).val := number_val _ _ _
  have hb : (cloud r).val * 4096 + (pick a x r).val < 32768 := by
    have := (pick a x r).isLt
    have := (cloud r).isLt
    omega
  refine congrArg (fun q : Fin 32768 => table (F := Ideal) x p (ix2 q k)) (Fin.ext ?_)
  refine (congrArg (fun v : BitVec 32 => (rowOf v).val) e).trans ?_
  rw [clamped_of_lt _ _ (by rw [ev]; exact hb)]
  show min (found a x (ix3 (cloud r) (sample r) (place r))).toNat 32767 = _
  rw [ev]
  exact Nat.min_eq_left (by omega)

theorem gathered_real (hx : Finite x) (hp : Finite p) (r : Fin 131072) (k : Fin 128) :
    gathered (F := Ideal) (table (F := Ideal) x p) (numbers (F := Ideal) (clamped (found a x))) (ix2 r k) = ((rows a x p r k : ℝ) : EReal) := by
  have hq := (pick a x r).isLt
  have eb : (⟨((cloud r).val * 4096 + (pick a x r).val) / 4096, by have := (cloud r).isLt; omega⟩ : Fin 8) = cloud r :=
    Fin.ext (by show _ / 4096 = _; omega)
  have en : (⟨((cloud r).val * 4096 + (pick a x r).val) % 4096, by omega⟩ : Fin 4096) = pick a x r :=
    Fin.ext (by show _ % 4096 = _; omega)
  rw [gathered_found, rows]
  by_cases h3 : k.val < 3
  · rw [dif_pos h3, Value.table_xyz (F := Ideal) x p _ k h3]
    exact (congrArg₂ (fun b n => x (ix3 b _ n)) eb en).trans (hx _)
  by_cases h67 : k.val < 67
  · rw [dif_neg h3, dif_pos h67, Value.table_pts (F := Ideal) x p _ k h3 h67]
    exact (congrArg₂ (fun b n => p (ix3 b _ n)) eb en).trans (hp _)
  · rw [dif_neg h3, dif_neg h67, Value.table_zero (F := Ideal) x p _ k h67]
    exact Ideal.ofBits_zero_f32

/-- What the row gather leaves, over real clouds and features. -/
theorem gathered_eq (m : (ℓ : Loc nD τ sig) → Buf (Elt Ideal) ℓ) (d : Dev nD)
    (hx : Finite (S := S8x3x4096) (m ((d : Thread nD τ).loc main_arg1))) (hp : Finite (S := S8x64x4096) (m ((d : Thread nD τ).loc main_arg2)))
    (r : Fin 131072) (k : Fin 128) : gathered (tbl m d) (ixs m d) (ix2 r k)
      = ((rows (m ((d : Thread nD τ).loc main_arg0)) (m ((d : Thread nD τ).loc main_arg1)) (m ((d : Thread nD τ).loc main_arg2)) r k : ℝ) : EReal) := by
  rw [tbl_eq, ixs_eq, (W1_arr m d 2).trans (array0 (V0 m) d)]
  exact gathered_real _ _ _ hx hp r k

end Cert.Proof.GroupRows

end
-- ==== Proof.GroupRef.lean ====
/-
  What the reference of the grouping computes from real clouds, features and weights: the nearest points' coordinates and
  features, taken by the numbers the stable sort gives, and the plain layers over them.
-/
module

public import proofs.«01_k».proof.Proof.Gen.GroupRefIdeal.Run
public import proofs.«01_k».proof.Proof.SampleRef
public import proofs.«01_k».proof.Proof.SearchRef
public import proofs.«01_k».proof.Proof.LayersRef
public import proofs.«01_k».proof.Proof.GroupRows

@[expose] public section

noncomputable section

namespace Cert.Proof.GroupRef

open Cert.GroupRefIdeal Cert.GroupRefIdeal.Gen Cert.GroupRefIdeal.Value Idealize.ShloMosaic Idealize.ShloMosaic.TcCoe Idealize.SL.Sem Cert.Proof.LayersMath
open Cert.Proof.SearchKernel (keys)
open Cert.Proof.SearchMath (chosen sortedFrom_chosen)
open Cert.Proof.SampleRef (wrap clamp_start in_bounds)
open Cert.Proof.LayersPre (Finite)
open Cert.Proof.LayersRef (reduce_columns)

/-! ## Taking the nearest points by their numbers -/

/-- The dimension numbers of taking one point for every cloud, sampled point and place, coordinate by coordinate. -/
abbrev nearDims (n : ℕ) (wf : GatherDims.WF ⟨4, ![8, 512, 4096, n]⟩ ⟨5, ![8, 512, 32, n, 1]⟩ ⟨4, ![8, 512, 32, n]⟩ [] [2] [0, 1, 3] [2] [0, 1, 3] 4 ![1, 1, 1, 1]) :
    GatherDims ⟨4, ![8, 512, 4096, n]⟩ ⟨5, ![8, 512, 32, n, 1]⟩ ⟨4, ![8, 512, 32, n]⟩ where
  offsetDims := []
  collapsedSliceDims := [2]
  operandBatchingDims := [0, 1, 3]
  startIndicesBatchingDims := [0, 1, 3]
  startIndexMap := [2]
  indexVectorDim := 4
  sliceSizes := ![1, 1, 1, 1]
  wf := wf

theorem gather_near {n : ℕ} (wf : GatherDims.WF ⟨4, ![8, 512, 4096, n]⟩ ⟨5, ![8, 512, 32, n, 1]⟩ ⟨4, ![8, 512, 32, n]⟩ [] [2] [0, 1, 3] [2] [0, 1, 3] 4 ![1, 1, 1, 1])
    (x : (⟨4, ![8, 512, 4096, n]⟩ : Shape).Idx → EReal) (i : IVec ⟨5, ![8, 512, 32, n, 1]⟩ 32) (b : Fin 8) (s : Fin 512) (j : Fin 32) (c : Fin n) (p : Fin 4096)
    (hi : i (ix5 b s j c 0) = BitVec.ofNat 32 p.val) : Host.gather (nearDims n wf) x i (ix4 b s j c) = x (ix4 b s p c) := by
  unfold Host.gather
  refine congrArg x (funext fun a => Fin.ext ?_)
  show (nearDims n wf).start (ix4 b s j c) i a + (nearDims n wf).batchCoord (ix4 b s j c) a + (nearDims n wf).offCoord (ix4 b s j c) a = _
  have hk : a ∉ (nearDims n wf).sKept := fun h => by
    have h' := (GatherDims.mem_sKept (nearDims n wf) a).mp h
    match a with
    | ⟨0, _⟩ => exact h'.2 (show (0 : Fin 4) ∈ ([0, 1, 3] : List (Fin 4)) by decide)
    | ⟨1, _⟩ => exact h'.2 (show (1 : Fin 4) ∈ ([0, 1, 3] : List (Fin 4)) by decide)
    | ⟨2, _⟩ => exact h'.1 (show (2 : Fin 4) ∈ ([2] : List (Fin 4)) by decide)
    | ⟨3, _⟩ => exact h'.2 (show (3 : Fin 4) ∈ ([0, 1, 3] : List (Fin 4)) by decide)
  rw [GatherDims.offCoord_eq_zero _ _ _ hk, Nat.add_zero]
  by_cases h2 : a = 2
  · subst h2
    rw [GatherDims.batchCoord_eq_zero _ _ _ (show ¬ (2 : Fin 4) ∈ ([0, 1, 3] : List (Fin 4)) by decide), Nat.add_zero]
    unfold GatherDims.start
    rw [dif_pos (show (2 : Fin 4) ∈ (nearDims n wf).startIndexMap from List.mem_singleton.mpr rfl)]
    refine Eq.trans ?_ (clamp_start p)
    rw [← hi]
    refine congrArg (fun q => min (i q).toInt.toNat (4096 - 1)) (funext fun a => Fin.ext ?_)
    match a with
    | ⟨0, _⟩ => rfl
    | ⟨1, _⟩ => rfl
    | ⟨2, _⟩ => rfl
    | ⟨3, _⟩ => rfl
    | ⟨4, _⟩ => rfl
  · have hb : a ∈ (nearDims n wf).operandBatchingDims :=
      (show ∀ a : Fin 4, ¬ a = 2 → a ∈ ([0, 1, 3] : List (Fin 4)) by decide) a h2
    rw [GatherDims.start_batching _ _ _ _ hb, Nat.zero_add]
    unfold GatherDims.batchCoord
    rw [dif_pos hb]
    match a with
    | ⟨0, _⟩ => rfl
    | ⟨1, _⟩ => rfl
    | ⟨2, _⟩ => exact absurd rfl h2
    | ⟨3, _⟩ => rfl

/-- The taking with its bounds test, where every number names a point. -/
theorem taken_apply {n : ℕ} (wf : GatherDims.WF ⟨4, ![8, 512, 4096, n]⟩ ⟨5, ![8, 512, 32, n, 1]⟩ ⟨4, ![8, 512, 32, n]⟩ [] [2] [0, 1, 3] [2] [0, 1, 3] 4 ![1, 1, 1, 1])
    (hr : (⟨5, ![8, 512, 32, n, 1]⟩ : Shape).ReducesTo [4] ⟨4, ![8, 512, 32, n]⟩) (mask : IVec ⟨5, ![8, 512, 32, n, 1]⟩ 1)
    (x : FVec Ideal ⟨4, ![8, 512, 4096, n]⟩ .f32) (i : IVec ⟨5, ![8, 512, 32, n, 1]⟩ 32) (fill : FVec Ideal ⟨4, ![8, 512, 32, n]⟩ .f32)
    (P : Fin 8 → Fin 512 → Fin 32 → Fin 4096) (hi : ∀ b s j c, i (ix5 b s j c 0) = BitVec.ofNat 32 (P b s j).val)
    (hm : ∀ q, mask q = IntOp.andi (IntOp.cmpi .sge (i q) 0#32) (IntOp.cmpi .sle (i q) 4095#32)) (b : Fin 8) (s : Fin 512) (j : Fin 32) (c : Fin n) :
    select (Host.reduce IntOp.andi mask (constantI S_ 1 1#1) hr h_S_) (Host.gather (nearDims n wf) x i) fill (ix4 b s j c) = x (ix4 b s (P b s j) c) := by
  have hall : ∀ q, mask q = 1#1 := fun q => by
    have e : q = ix5 (q 0 : Fin 8) (q 1 : Fin 512) (q 2 : Fin 32) (q 3 : Fin n) 0 := by
      refine funext fun a => Fin.ext ?_
      have h4 : (q 4).val < 1 := (q 4).isLt
      match a with
      | ⟨0, _⟩ => rfl
      | ⟨1, _⟩ => rfl
      | ⟨2, _⟩ => rfl
      | ⟨3, _⟩ => rfl
      | ⟨4, _⟩ => show (q 4).val = 0; omega
    rw [hm, (congrArg i e).trans (hi _ _ _ _)]
    exact in_bounds _
  show Scalar.select (Host.reduce IntOp.andi mask (constantI S_ 1 1#1) hr h_S_ (ix4 b s j c)) (Host.gather (nearDims n wf) x i (ix4 b s j c)) _ = _
  rw [Host.reduce_andi_one mask _ hr h_S_ (ix4 b s j c) rfl hall, gather_near wf x i b s j c _ (hi b s j c)]
  rfl

/-! ## The arguments and the rows -/

/-- Fifteen arrays hold real values, and `x` is what stands in the rows of the nearest points. -/
structure Holds (a0 : FVec Ideal S8x3x512 .f32) (a1 : FVec Ideal S8x3x4096 .f32) (a2 : FVec Ideal S8x64x4096 .f32) (a3 : FVec Ideal S64x67 .f32)
    (a4 a5 a6 : FVec Ideal S64 .f32) (a7 : FVec Ideal S64x64 .f32) (a8 a9 a10 : FVec Ideal S64 .f32) (a11 : FVec Ideal S128x64 .f32)
    (a12 a13 a14 : FVec Ideal S128 .f32) (x : Fin 131072 → Fin 128 → ℝ) (p : Fin 4096 → Fin 3 → ℝ) (w : Weights) : Prop extends
    Reads (fun i => ((x (i 0) (i 1) : ℝ) : EReal)) a0 a3 a4 a5 a6 a7 a8 a9 a10 a11 a12 a13 a14 x p w where
  rows : x = GroupRows.rows a0 a1 a2
  sampled : Finite a0
  points : Finite a1
  values : Finite a2

/-- The reference's arguments hold real values. -/
abbrev Args (V : Valuation τ sig (Elt Ideal)) (x : Fin 131072 → Fin 128 → ℝ) (p : Fin 4096 → Fin 3 → ℝ) (w : Weights) : Prop :=
  Holds (V (Proc.devRef .tc main_arg0)) (V (Proc.devRef .tc main_arg1)) (V (Proc.devRef .tc main_arg2)) (V (Proc.devRef .tc main_arg3)) (V (Proc.devRef .tc main_arg4))
    (V (Proc.devRef .tc main_arg5)) (V (Proc.devRef .tc main_arg6)) (V (Proc.devRef .tc main_arg7)) (V (Proc.devRef .tc main_arg8)) (V (Proc.devRef .tc main_arg9))
    (V (Proc.devRef .tc main_arg10)) (V (Proc.devRef .tc main_arg11)) (V (Proc.devRef .tc main_arg12)) (V (Proc.devRef .tc main_arg13)) (V (Proc.devRef .tc main_arg14)) x p w

variable {V : Valuation τ sig (Elt Ideal)} {x : Fin 131072 → Fin 128 → ℝ} {p : Fin 4096 → Fin 3 → ℝ} {w : Weights}

/-- The nearest points of a sampled point. -/
abbrev nearest (V : Valuation τ sig (Elt Ideal)) (b : Fin 8) (s : Fin 512) (j : Fin 32) : Fin 4096 :=
  chosen (keys (V (Proc.devRef .tc main_arg0)) (V (Proc.devRef .tc main_arg1)) b s) j.val

theorem pick_row (V : Valuation τ sig (Elt Ideal)) (b : Fin 8) (k : Fin 32) (s : Fin 512) : GroupRows.cloud (row b k s) = b
    ∧ GroupRows.pick (V (Proc.devRef .tc main_arg0)) (V (Proc.devRef .tc main_arg1)) (row b k s) = nearest V b s k := by
  have e1 : GroupRows.cloud (row b k s) = b := Fin.ext (by simp only [row, GroupRows.cloud]; omega)
  have e2 : GroupRows.sample (row b k s) = s := Fin.ext (by simp only [row, GroupRows.sample]; omega)
  have e3 : GroupRows.place (row b k s) = k := Fin.ext (by simp only [row, GroupRows.place]; omega)
  exact ⟨e1, by rw [GroupRows.pick, e1, e2, e3]⟩

theorem row_xyz (h : Args V x p w) (b : Fin 8) (k : Fin 32) (s : Fin 512) (d : Fin 3) :
    V (Proc.devRef .tc main_arg1) (ix3 b d (nearest V b s k)) = ((x (row b k s) ⟨d.val, by omega⟩ : ℝ) : EReal) := by
  rw [h.rows, GroupRows.rows, dif_pos d.isLt, (pick_row V b k s).1, (pick_row V b k s).2]
  exact h.points _

theorem row_pts (h : Args V x p w) (b : Fin 8) (k : Fin 32) (s : Fin 512) (c : Fin 64) :
    V (Proc.devRef .tc main_arg2) (ix3 b c (nearest V b s k)) = ((x (row b k s) ⟨3 + c.val, by omega⟩ : ℝ) : EReal) := by
  have e : (⟨3 + c.val - 3, by omega⟩ : Fin 64) = c := Fin.ext (by show 3 + c.val - 3 = c.val; omega)
  rw [h.rows, GroupRows.rows, dif_neg (by show ¬ 3 + c.val < 3; omega), dif_pos (by show 3 + c.val < 67; omega), (pick_row V b k s).1, (pick_row V b k s).2]
  exact (h.values _).trans (congrArg (fun q => (((V (Proc.devRef .tc main_arg2) (ix3 b q (nearest V b s k)) : EReal).toReal : ℝ) : EReal)) e.symm)

/-! ## The numbers -/

theorem v18_apply (h : Args V x p w) (b : Fin 8) (s : Fin 512) (j : Fin 32) : res_main_v18 V (ix3 b s j) = BitVec.ofNat 32 (nearest V b s j).val := by
  have e : res_main_v16 V = SearchRef.sqs (V (Proc.devRef .tc main_arg0)) (V (Proc.devRef .tc main_arg1)) := rfl
  unfold res_main_v18
  rw [e]
  refine (SearchRef.slice_apply _ b s j).trans ((SearchRef.sort_apply _ b s _).trans ?_)
  simp only [SearchRef.sqs_apply]
  rw [sortedFrom_chosen _ (SearchRef.keys_lt_of_finite _ _ h.sampled h.points b s) j]

theorem near3_index (h : Args V x p w) (b : Fin 8) (s : Fin 512) (j : Fin 32) (c : Fin 3) :
    res_main_call1_v5 V (ix5 b s j c 0) = BitVec.ofNat 32 (nearest V b s j).val := by
  pointwise [res_main_call1_v5, res_main_v20]
  rw [v18_apply h]
  exact wrap _

theorem near64_index (h : Args V x p w) (b : Fin 8) (s : Fin 512) (j : Fin 32) (c : Fin 64) :
    res_main_call2_v5 V (ix5 b s j c 0) = BitVec.ofNat 32 (nearest V b s j).val := by
  pointwise [res_main_call2_v5, res_main_v28]
  rw [v18_apply h]
  exact wrap _

/-! ## The nearest points' coordinates and features -/

/-- The coordinates taken, over any contents of the buffers. -/
def near3 (V : Valuation τ sig (Elt Ideal)) : FVec Ideal S8x512x32x3 .f32 :=
  select (Host.reduce IntOp.andi (andi (cmpi .sge (res_main_call1_v5 V) (broadcastInDim S8x512x32x3x1 ![] bcast_S_S8x512x32x3x1 (constantI S_ 32 0#32))) (cmpi .sle (res_main_call1_v5 V) (broadcastInDim S8x512x32x3x1 ![0, 1, 2, 3, 4] bcast_S1x1x1x1x1_S8x512x32x3x1_0_1_2_3_4 (broadcastInDim S1x1x1x1x1 ![4] bcast_S1_S1x1x1x1x1_4 (constantI S1 32 4095#32))))) (constantI S_ 1 1#1) reducesTo_S8x512x32x3x1_S8x512x32x3_d4 h_S_) (Host.gather gather_S8x512x4096x3_S8x512x32x3x1_S8x512x32x3_n_2_013_013_2_4_1111 (broadcastInDim S8x512x4096x3 ![0, 1, 2, 3] bcast_S8x1x4096x3_S8x512x4096x3_0_1_2_3 (broadcastInDim S8x1x4096x3 ![0, 2, 3] bcast_S8x4096x3_S8x1x4096x3_0_2_3 (res_main_v1 V))) (res_main_call1_v5 V)) (broadcastInDim S8x512x32x3 ![] bcast_S_S8x512x32x3 (constant S_ .f32 0x7FC00000#32))

/-- The features taken, over any contents of the buffers. -/
def near64 (V : Valuation τ sig (Elt Ideal)) : FVec Ideal S8x512x32x64 .f32 :=
  select (Host.reduce IntOp.andi (andi (cmpi .sge (res_main_call2_v5 V) (broadcastInDim S8x512x32x64x1 ![] bcast_S_S8x512x32x64x1 (constantI S_ 32 0#32))) (cmpi .sle (res_main_call2_v5 V) (broadcastInDim S8x512x32x64x1 ![0, 1, 2, 3, 4] bcast_S1x1x1x1x1_S8x512x32x64x1_0_1_2_3_4 (broadcastInDim S1x1x1x1x1 ![4] bcast_S1_S1x1x1x1x1_4 (constantI S1 32 4095#32))))) (constantI S_ 1 1#1) reducesTo_S8x512x32x64x1_S8x512x32x64_d4 h_S_) (Host.gather gather_S8x512x4096x64_S8x512x32x64x1_S8x512x32x64_n_2_013_013_2_4_1111 (broadcastInDim S8x512x4096x64 ![0, 1, 2, 3] bcast_S8x1x4096x64_S8x512x4096x64_0_1_2_3 (broadcastInDim S8x1x4096x64 ![0, 2, 3] bcast_S8x4096x64_S8x1x4096x64_0_2_3 (transpose S8x4096x64 [0, 2, 1] (V (Proc.devRef .tc main_arg2)) transposes_S8x64x4096_S8x4096x64_0_2_1))) (res_main_call2_v5 V)) (broadcastInDim S8x512x32x64 ![] bcast_S_S8x512x32x64 (constant S_ .f32 0x7FC00000#32))

theorem near3_apply (h : Args V x p w) (b : Fin 8) (k : Fin 32) (s : Fin 512) (c : Fin 3) :
    near3 V (ix4 b s k c) = ((x (row b k s) ⟨c.val, by omega⟩ : ℝ) : EReal) := by
  refine (taken_apply (n := 3) _ _ _ _ _ _ (nearest V) (near3_index h) (fun _ => rfl) b s k c).trans ?_
  pointwise [res_main_v1]
  exact row_xyz h b k s c

theorem near64_apply (h : Args V x p w) (b : Fin 8) (k : Fin 32) (s : Fin 512) (c : Fin 64) :
    near64 V (ix4 b s k c) = ((x (row b k s) ⟨3 + c.val, by omega⟩ : ℝ) : EReal) := by
  refine (taken_apply (n := 64) _ _ _ _ _ _ (nearest V) (near64_index h) (fun _ => rfl) b s k c).trans ?_
  pointwise
  exact row_pts h b k s c

/-! ## The layers -/

theorem v38_eq (V : Valuation τ sig (Elt Ideal)) : res_main_v38 V =
    addf (transpose S8x64x32x512 [1, 0, 2, 3] (Host.dotGeneral (φ₁ := .f32) (φ₂ := .f32) dot_S64x67_S8x67x32x512_S64x8x32x512_1_1_0_023_n_n none (V (Proc.devRef .tc main_arg3)) (transpose S8x67x32x512 [0, 3, 2, 1] (concatenate S8x512x32x67 3 [⟨S8x512x32x3, (subf (near3 V) (broadcastInDim S8x512x32x3 ![0, 1, 2, 3] bcast_S8x512x1x3_S8x512x32x3_0_1_2_3 (broadcastInDim S8x512x1x3 ![0, 1, 3] bcast_S8x512x3_S8x512x1x3_0_1_3 (res_main_v0 V))))⟩, ⟨S8x512x32x64, (near64 V)⟩] concatenates_S8x512x32x3_S8x512x32x64_S8x512x32x67_d3) transposes_S8x512x32x67_S8x67x32x512_0_3_2_1)) transposes_S64x8x32x512_S8x64x32x512_1_0_2_3) (broadcastInDim S8x64x32x512 ![0, 1, 2, 3] bcast_S1x64x1x1_S8x64x32x512_0_1_2_3 (broadcastInDim S1x64x1x1 ![1] bcast_S64_S1x64x1x1_1 (V (Proc.devRef .tc main_arg4)))) := rfl

theorem v38_apply (h : Args V x p w) (b : Fin 8) (o : Fin 64) (k : Fin 32) (s : Fin 512) :
    res_main_v38 V (ix4 b o k s) = ((y0 x p w (row b k s) o : ℝ) : EReal) := by
  rw [v38_eq]
  pointwise [res_main_v0]
  rw [y0, ← conv_parts]
  simp only [near3_apply h, near64_apply h, h.h1, h.h2, h.h3, group_row]

theorem v42_apply (h : Args V x p w) (o : Fin 64) :
    res_main_v42 V (ix4 0 o 0 0) = Ideal.div (∑ r, ((y0 x p w r o : ℝ) : EReal)) (Ideal.ofBits .f32 0x48000000#32) := by
  pointwise [res_main_v42]
  rw [reduce_columns, zero_add]
  simp only [v38_apply h]
  rw [sum_row fun r => ((y0 x p w r o : ℝ) : EReal)]

theorem v44_apply (h : Args V x p w) (b : Fin 8) (o : Fin 64) (k : Fin 32) (s : Fin 512) :
    res_main_v44 V (ix4 b o k s) = ((y0 x p w (row b k s) o : ℝ) : EReal)
      - Ideal.div (∑ r, ((y0 x p w r o : ℝ) : EReal)) (Ideal.ofBits .f32 0x48000000#32) := by
  pointwise [res_main_v44]
  rw [v38_apply h, v42_apply h]

theorem v68_apply (h : Args V x p w) (b : Fin 8) (o : Fin 64) (k : Fin 32) (s : Fin 512) :
    res_main_v68 V (ix4 b o k s) = ((y1 x p w (row b k s) o : ℝ) : EReal) := by
  pointwise [res_main_v68]
  rw [y1, conv, ← dot_real]
  congr 1
  · refine Finset.sum_congr rfl fun c _ => ?_
    rw [mul_comm]
    congr 1
    · rw [v38_apply h, v42_apply h, h.h4, h.h5]
      refine norm_deviations (fun r => y0 x p w r c) _ _ (row b k s) _ _ rfl ?_
      rw [reduce_columns, zero_add, ← sum_row]
      refine Finset.sum_congr rfl fun b _ => Finset.sum_congr rfl fun k _ => Finset.sum_congr rfl fun s _ => ?_
      pointwise
      rw [v44_apply h]
    · exact h.h6 o c
  · exact h.h7 o

theorem v72_apply (h : Args V x p w) (o : Fin 64) :
    res_main_v72 V (ix4 0 o 0 0) = Ideal.div (∑ r, ((y1 x p w r o : ℝ) : EReal)) (Ideal.ofBits .f32 0x48000000#32) := by
  pointwise [res_main_v72]
  rw [reduce_columns, zero_add]
  simp only [v68_apply h]
  rw [sum_row fun r => ((y1 x p w r o : ℝ) : EReal)]

theorem v74_apply (h : Args V x p w) (b : Fin 8) (o : Fin 64) (k : Fin 32) (s : Fin 512) :
    res_main_v74 V (ix4 b o k s) = ((y1 x p w (row b k s) o : ℝ) : EReal)
      - Ideal.div (∑ r, ((y1 x p w r o : ℝ) : EReal)) (Ideal.ofBits .f32 0x48000000#32) := by
  pointwise [res_main_v74]
  rw [v68_apply h, v72_apply h]

theorem v98_apply (h : Args V x p w) (b : Fin 8) (o : Fin 128) (k : Fin 32) (s : Fin 512) :
    res_main_v98 V (ix4 b o k s) = ((y2 x p w (row b k s) o : ℝ) : EReal) := by
  pointwise [res_main_v98]
  rw [y2, conv, ← dot_real]
  congr 1
  · refine Finset.sum_congr rfl fun c _ => ?_
    rw [mul_comm]
    congr 1
    · rw [v68_apply h, v72_apply h, h.h8, h.h9]
      refine norm_deviations (fun r => y1 x p w r c) _ _ (row b k s) _ _ rfl ?_
      rw [reduce_columns, zero_add, ← sum_row]
      refine Finset.sum_congr rfl fun b _ => Finset.sum_congr rfl fun k _ => Finset.sum_congr rfl fun s _ => ?_
      pointwise
      rw [v74_apply h]
    · exact h.h10 o c
  · exact h.h11 o

theorem v102_apply (h : Args V x p w) (o : Fin 128) :
    res_main_v102 V (ix4 0 o 0 0) = Ideal.div (∑ r, ((y2 x p w r o : ℝ) : EReal)) (Ideal.ofBits .f32 0x48000000#32) := by
  pointwise [res_main_v102]
  rw [reduce_columns, zero_add]
  simp only [v98_apply h]
  rw [sum_row fun r => ((y2 x p w r o : ℝ) : EReal)]

theorem v104_apply (h : Args V x p w) (b : Fin 8) (o : Fin 128) (k : Fin 32) (s : Fin 512) :
    res_main_v104 V (ix4 b o k s) = ((y2 x p w (row b k s) o : ℝ) : EReal)
      - Ideal.div (∑ r, ((y2 x p w r o : ℝ) : EReal)) (Ideal.ofBits .f32 0x48000000#32) := by
  pointwise [res_main_v104]
  rw [v98_apply h, v102_apply h]

/-- The result as the launch states it, over any contents of the buffers. -/
def result (V : Valuation τ sig (Elt Ideal)) : (Proc.devRef .tc main_v123 : DevRef τ sig).ty.Contents (Elt Ideal) :=
  maximumf (addf (mulf (Host.divf (subf (res_main_v98 V) (broadcastInDim S8x128x32x512 ![0, 1, 2, 3] bcast_S1x128x1x1_S8x128x32x512_0_1_2_3 (res_main_v102 V))) (broadcastInDim S8x128x32x512 ![0, 1, 2, 3] bcast_S1x128x1x1_S8x128x32x512_0_1_2_3 (Host.sqrt (addf (Host.divf (broadcastInDim S1x128x1x1 ![1] bcast_S128_S1x128x1x1_1 (Host.reduceAdd (mulf (res_main_v104 V) (res_main_v104 V)) (constant S_ .f32 0x00000000#32) reducesTo_S8x128x32x512_S128_d0_2_3 h_S_)) (broadcastInDim S1x128x1x1 ![] bcast_S_S1x128x1x1 (constant S_ .f32 0x48000000#32))) (broadcastInDim S1x128x1x1 ![] bcast_S_S1x128x1x1 (constant S_ .f32 0x3727C5AC#32)))))) (broadcastInDim S8x128x32x512 ![0, 1, 2, 3] bcast_S1x128x1x1_S8x128x32x512_0_1_2_3 (broadcastInDim S1x128x1x1 ![1] bcast_S128_S1x128x1x1_1 (V (Proc.devRef .tc main_arg13))))) (broadcastInDim S8x128x32x512 ![0, 1, 2, 3] bcast_S1x128x1x1_S8x128x32x512_0_1_2_3 (broadcastInDim S1x128x1x1 ![1] bcast_S128_S1x128x1x1_1 (V (Proc.devRef .tc main_arg14))))) (broadcastInDim S8x128x32x512 ![] bcast_S_S8x128x32x512 (constant S_ .f32 0x00000000#32))

theorem result_apply (h : Args V x p w) (b : Fin 8) (o : Fin 128) (k : Fin 32) (s : Fin 512) :
    result V (ix4 b o k s) = ((net x p w (row b k s) o : ℝ) : EReal) := by
  pointwise [result]
  rw [v98_apply h, v102_apply h, h.h12, h.h13]
  refine norm_deviations (fun r => y2 x p w r o) _ _ (row b k s) _ _ rfl ?_
  rw [reduce_columns, zero_add, ← sum_row]
  refine Finset.sum_congr rfl fun b _ => Finset.sum_congr rfl fun k _ => Finset.sum_congr rfl fun s _ => ?_
  pointwise
  rw [v104_apply h]

/-- The launch of the reference, its result named and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v123) = result (StableHlo.launchContents m c) :=
  (θ_run defs _ _).mono (fun _ h c => (h c).1) (Cert.GroupRefIdeal.Value.run (F := Ideal) m ρ)

end Cert.Proof.GroupRef

end
-- ==== Proof.GroupClaim.lean ====
/-
  The claims about the grouped program: the search, the row gather and the layers run one after the other.
-/
module

public import proofs.«01_k».proof.Defs
public import proofs.«01_k».proof.Proof.Gen.Group
public import proofs.«01_k».proof.Proof.Gen.GroupIdeal
public import proofs.«01_k».proof.Proof.Gen.GroupRefIdeal
public import proofs.«01_k».proof.Proof.Gen.GroupRefIdeal.Run
public import proofs.«01_k».proof.Proof.Gen.Pre_finite_group
public import proofs.«01_k».proof.Proof.GroupRun
public import proofs.«01_k».proof.Proof.GroupChain
public import proofs.«01_k».proof.Proof.GroupPre
public import proofs.«01_k».proof.Proof.GroupRef
public import Idealize.ShloMosaic.Init

@[expose] public section

noncomputable section

namespace Cert.Proof

open Idealize.ShloMosaic Idealize.ShloMosaic.TcCoe Idealize.SL.Sem Cert.GroupIdeal

instance hG : Cert.Group.Facts := Cert.Group.Gen.facts
instance hGI : Cert.GroupIdeal.Facts := Cert.GroupIdeal.Gen.facts
instance hGR : Cert.GroupRefIdeal.Facts := Cert.GroupRefIdeal.Gen.facts
instance hFiniteGroup : Cert.Pre_finite_group.Facts := Cert.Pre_finite_group.Gen.facts

/-! ## The text of the program is that of its idealization -/

section Same
variable {F : FTy → Type} [FloatOps F]

set_option maxHeartbeats 8000000 in
theorem group_bodies_eq : Cert.Group.defs₀ (F := F) = Cert.GroupIdeal.defs₀ (F := F) := by
  funext p l a
  rcases p with _ | _ | _ <;> match l, a with
    | 0, (_, _) => exact Eq.refl _
    | 1, _ => exact Eq.refl _
    | 2, (_, _) => exact Eq.refl _
    | 3, (_, _) => exact Eq.refl _
    | 4, (_, _) => exact Eq.refl _
    | 5, (_, _) => exact Eq.refl _

set_option maxHeartbeats 8000000 in
theorem group_defs_eq : Cert.Group.defs (F := F) = Cert.GroupIdeal.defs (F := F) :=
  congrArg (fun D => (Cert.GroupIdeal.sc (F := F)).defs (Pipeline.defs Cert.GroupIdeal.pcfgs D)) group_bodies_eq

end Same

/-! ## The claims -/

/-- A run's end with the arguments as they were and every counter at zero. -/
def Kept {F : FTy → Type} [FloatOps F] (m : (ℓ : Loc nD τ sig) → Buf (Elt F) ℓ) (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
    ∧ r.2.sem = fun _ => 0

theorem group_kept {F : FTy → Type} [FloatOps F] {m : (ℓ : Loc nD τ sig) → Buf (Elt F) ℓ} {r : PUnit × MemSt nD τ sig (Elt F)} (h : Group.QC m r) : Kept m r :=
  ⟨fun c => ⟨Group.args_kept _ h c main_arg0 (by decide) (by decide), Group.args_kept _ h c main_arg1 (by decide) (by decide), Group.args_kept _ h c main_arg2 (by decide) (by decide), Group.args_kept _ h c main_arg3 (by decide) (by decide), Group.args_kept _ h c main_arg4 (by decide) (by decide), Group.args_kept _ h c main_arg5 (by decide) (by decide), Group.args_kept _ h c main_arg6 (by decide) (by decide), Group.args_kept _ h c main_arg7 (by decide) (by decide), Group.args_kept _ h c main_arg8 (by decide) (by decide), Group.args_kept _ h c main_arg9 (by decide) (by decide), Group.args_kept _ h c main_arg10 (by decide) (by decide), Group.args_kept _ h c main_arg11 (by decide) (by decide), Group.args_kept _ h c main_arg12 (by decide) (by decide), Group.args_kept _ h c main_arg13 (by decide) (by decide), Group.args_kept _ h c main_arg14 (by decide) (by decide)⟩, h.2⟩

/-- The grouped program runs, keeps its arguments and leaves every counter at zero, over any floats. -/
theorem group_frame {F : FTy → Type} [FloatOps F] [∀ e, Nonempty (Elt F e)] (m : (ℓ : Loc nD τ sig) → Buf (Elt F) ℓ) (ρ : Dev nD → PrngReg) :
    θ_run (Cert.GroupIdeal.defs (F := F)) (Cert.GroupIdeal.threads (F := F)) ⟨m, fun _ => 0, ρ⟩ (Kept m) :=
  (θ_run (Cert.GroupIdeal.defs (F := F)) _ _).mono (fun _ hr => group_kept hr) (Group.run_main m ρ (GroupRows.inRows m))

theorem frame_groupIdeal : Cert.quiescent_GroupIdeal := fun m ρ _ => group_frame m ρ

set_option maxHeartbeats 8000000 in
/-- The grouped program's text is that of its idealization, so its run is the same run over the machine's floats. -/
theorem frame_group : Cert.quiescent_Group := fun m ρ _ => by
  have h := group_frame (F := Bits) m ρ
  rw [← group_defs_eq] at h
  exact h

/-- The plain statement of the grouped program runs host operations only and declares no semaphore. -/
theorem frame_groupRefIdeal : Cert.quiescent_GroupRefIdeal := fun m ρ _ =>
  (θ_run (Cert.GroupRefIdeal.defs (F := Ideal)) _ _).mono
    (fun r hr => ⟨fun c => (hr c).2, sem_eq_zero_of_no_sems (by decide) r.2⟩) (Cert.GroupRefIdeal.Value.run (F := Ideal) m ρ)

/-- From finite arguments both end with what the three layers give the nearest points' coordinates and features. -/
theorem algebraic_group : Cert.algebraic_GroupIdeal_GroupRefIdeal := fun m ρ m' ρ' h hm => by
  refine ⟨fun c => Group.W12 m c (Proc.devRef .tc main_v33),
    (θ_run (Cert.GroupIdeal.defs (F := Ideal)) _ _).mono (fun _ hr c => ⟨hr.1 c _ (Group.mem_uc main_v33 (by decide)), (group_kept hr).1 c⟩)
      (Group.run_main m ρ (GroupRows.inRows m)), ?_⟩
  refine (θ_run (Cert.GroupRefIdeal.defs (F := Ideal)) _ _).mono (fun _ hr c => ⟨?_, (hr c).2⟩) (Cert.GroupRefIdeal.Value.run (F := Ideal) m' ρ')
  refine (hr c).1.trans ?_
  obtain ⟨h0, h1, h2, h3, h4, h5, h6, h7, h8, h9, h10, h11, h12, h13, h14⟩ := GroupPre.all_of_pre _ _ _ _ _ _ _ _ _ _ _ _ _ _ _ (h c)
  obtain ⟨x, p, w, hk, hw⟩ : ∃ x p w, GroupChain.Args m c x p w ∧ GroupRef.Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) x p w :=
    ⟨_, _, _, LayersPre.reads_of_real (GroupRows.gathered_eq m c h1 h2) h0 h3 h4 h5 h6 h7 h8 h9 h10 h11 h12 h13 h14,
      LayersPre.reads_of_real (fun _ _ => rfl) h0 h3 h4 h5 h6 h7 h8 h9 h10 h11 h12 h13 h14, rfl, h0, h1, h2⟩
  have hw' : GroupRef.Args (StableHlo.launchContents m' c) x p w := by
    obtain ⟨e0, e1, e2, e3, e4, e5, e6, e7, e8, e9, e10, e11, e12, e13, e14⟩ := hm c
    rw [← e0, ← e1, ← e2, ← e3, ← e4, ← e5, ← e6, ← e7, ← e8, ← e9, ← e10, ← e11, ← e12, ← e13, ← e14] at hw
    exact hw
  funext j
  obtain ⟨b, o, k, s, rfl⟩ : ∃ (b : Fin 8) (o : Fin 128) (k : Fin 32) (s : Fin 512), j = ix4 b o k s :=
    ⟨j 0, j 1, j 2, j 3, by funext a; match a with | ⟨0, _⟩ => rfl | ⟨1, _⟩ => rfl | ⟨2, _⟩ => rfl | ⟨3, _⟩ => rfl⟩
  exact (GroupRef.result_apply hw' b o k s).trans (GroupChain.result_apply m c hk b o k s).symm

end Cert.Proof

end
-- ==== Proof.lean ====
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Kernel
public import proofs.«01_k».proof.Proof.Gen.Kernel.Skeleton
public import proofs.«01_k».proof.Proof.Gen.Pre_in_range
public import proofs.«01_k».proof.Proof.Gen.Sample
public import proofs.«01_k».proof.Proof.Gen.SampleIdeal
public import proofs.«01_k».proof.Proof.Gen.SampleIdeal.Value
public import proofs.«01_k».proof.Proof.Gen.SampleRefIdeal
public import proofs.«01_k».proof.Proof.Gen.Layers
public import proofs.«01_k».proof.Proof.Gen.Layers.Frame
public import proofs.«01_k».proof.Proof.Gen.LayersIdeal
public import proofs.«01_k».proof.Proof.Gen.LayersRefIdeal
public import proofs.«01_k».proof.Proof.Gen.LayersRefIdeal.Run
public import proofs.«01_k».proof.Proof.Gen.Pre_finite
public import proofs.«01_k».proof.Proof.Gen.Search
public import proofs.«01_k».proof.Proof.Gen.Search.Frame
public import proofs.«01_k».proof.Proof.Gen.SearchIdeal
public import proofs.«01_k».proof.Proof.Gen.SearchIdeal.Frame
public import proofs.«01_k».proof.Proof.Gen.SearchIdeal.Value
public import proofs.«01_k».proof.Proof.Gen.SearchRefIdeal
public import proofs.«01_k».proof.Proof.Gen.SearchRefIdeal.Run
public import proofs.«01_k».proof.Proof.Gen.Pre_finite_points
public import proofs.«01_k».proof.Proof.Gen.LayersIdeal.Frame
public import proofs.«01_k».proof.Proof.Gen.Group
public import proofs.«01_k».proof.Proof.Gen.GroupIdeal
public import proofs.«01_k».proof.Proof.Gen.GroupIdeal.Skeleton
public import proofs.«01_k».proof.Proof.Gen.GroupIdeal.Launch
public import proofs.«01_k».proof.Proof.Gen.GroupIdeal.Points
public import proofs.«01_k».proof.Proof.Gen.GroupRefIdeal
public import proofs.«01_k».proof.Proof.Gen.GroupRefIdeal.Run
public import proofs.«01_k».proof.Proof.Gen.Pre_finite_group
public import proofs.«01_k».proof.Proof.Value
public import proofs.«01_k».proof.Proof.SampleKernel
public import proofs.«01_k».proof.Proof.SampleRef
public import proofs.«01_k».proof.Proof.SearchKernel
public import proofs.«01_k».proof.Proof.SearchRef
public import proofs.«01_k».proof.Proof.LayersRun
public import proofs.«01_k».proof.Proof.LayersRef
public import proofs.«01_k».proof.Proof.LayersPre
public import proofs.«01_k».proof.Proof.GroupClaim
public import Idealize.ShloMosaic.Adequacy
public import Idealize.ShloMosaic.Init

@[expose] public section

noncomputable section

namespace Cert.Proof

open Idealize.ShloMosaic Idealize.SL.Sem Cert.KernelIdeal

open Cert.Proof.Tile Cert.Proof.Launch Cert.Proof.Value

instance hK : Cert.Kernel.Facts := Cert.Kernel.Gen.facts
instance hKI : Cert.KernelIdeal.Facts := Cert.KernelIdeal.Gen.facts
instance hRI : Cert.ReferenceIdeal.Facts := Cert.ReferenceIdeal.Gen.facts
instance hPre : Cert.Pre_in_range.Facts := Cert.Pre_in_range.Gen.facts

/-- The row numbers of a launch memory whose neighbour numbers are in range name rows of the table. -/
theorem inRows {F : FTy → Type} [FloatOps F] (m : (ℓ : Loc nD τ sig) → Buf (Elt F) ℓ)
    (h : ∀ d, Cert.Pre_in_range.fn (F := F) (m (aLoc0 d)) (m (aLoc1 d)) (m (aLoc2 d)) = fun _ => 1#1) (d : Dev nD) : InRows (ixs m d) := by
  rw [ixs_eq]
  exact inRows_of_range _ (range_of_pre _ _ _ (h d))

/-- The ideal program runs, keeps its arguments and leaves every counter at zero. -/
theorem frame_kernelIdeal : Cert.quiescent_KernelIdeal := fun m ρ h =>
  (θ_run (Cert.KernelIdeal.defs (F := Ideal)) _ _).mono (fun _ hr => ⟨fun c => (hr.1 c).2, hr.2⟩) (run_main m ρ (inRows m h))

/-- The kernel's text is that of its idealization, so its run is the same run over the machine's floats. -/
theorem frame_kernel : Cert.quiescent_Kernel := fun m ρ h =>
  (θ_run (Cert.KernelIdeal.defs (F := Bits)) _ _).mono (fun _ hr => ⟨fun c => (hr.1 c).2, hr.2⟩) (run_main (F := Bits) m ρ (inRows m h))

/-- The reference runs host operations only and declares no semaphore. -/
theorem frame_referenceIdeal : Cert.quiescent_ReferenceIdeal := fun m ρ _ =>
  (θ_run (Cert.ReferenceIdeal.defs (F := Ideal)) _ _).mono
    (fun r hr => ⟨fun c => (hr c).2, sem_eq_zero_of_no_sems (by decide) r.2⟩) (Cert.ReferenceIdeal.Value.run (F := Ideal) m ρ)

/-- Both programs end with the gathered rows of the table. -/
theorem algebraic : Cert.algebraic_KernelIdeal_ReferenceIdeal := fun m ρ m' ρ' h hm => by
  refine ⟨fun c => gathered (tbl m c) (ixs m c), (θ_run (Cert.KernelIdeal.defs (F := Ideal)) _ _).mono (fun _ hr c => hr.1 c) (run_main m ρ (inRows m h)), ?_⟩
  refine (θ_run (Cert.ReferenceIdeal.defs (F := Ideal)) _ _).mono (fun _ hr c => ?_) (Cert.ReferenceIdeal.Value.run (F := Ideal) m' ρ')
  obtain ⟨e, k⟩ := hr c
  obtain ⟨h0, h1, h2⟩ := hm c
  refine ⟨e.trans ?_, k⟩
  rw [h0, h1, h2, reference_table]
  refine (reference_rows _ _ (range_of_pre _ _ _ (h c))).trans ?_
  show _ = gathered (tbl m c) (ixs m c)
  rw [tbl_eq, ixs_eq]

/-! ## Farthest point sampling -/

instance hS : Cert.Sample.Facts := Cert.Sample.Gen.facts
instance hSI : Cert.SampleIdeal.Facts := Cert.SampleIdeal.Gen.facts
instance hSR : Cert.SampleRefIdeal.Facts := Cert.SampleRefIdeal.Gen.facts

/-- The ideal sampling program runs and keeps the clouds. -/
theorem frame_sampleIdeal : Cert.quiescent_SampleIdeal := fun m ρ _ => Cert.SampleIdeal.Gen.frame (F := Ideal) m ρ

/-- The sampling kernel's function is that of its idealization, over any floats. -/
theorem fps_body_eq {F : FTy → Type} [FloatOps F] : Cert.Sample.cc0__fps_body (F := F) = Cert.SampleIdeal.cc0__fps_body (F := F) := rfl

/-- So the body tables of the two programs are the same. -/
theorem sample_defs_eq {F : FTy → Type} [FloatOps F] : Cert.Sample.defs (F := F) = Cert.SampleIdeal.defs (F := F) := by
  refine congrArg (Pipeline.defs Cert.SampleIdeal.pcfgs) ?_
  unfold Cert.Sample.defs₀ Cert.SampleIdeal.defs₀
  refine congrArg Defs.onTc ?_
  funext l a
  match l, a with
  | 0, (t, s) => exact congrFun (congrFun (congrFun (congrFun fps_body_eq _) _) _) _

/-- The sampling program runs as its idealization does. -/
theorem frame_sample : Cert.quiescent_Sample := fun m ρ _ => by
  have h := Cert.SampleIdeal.Gen.frame (F := Bits) m ρ
  rw [← sample_defs_eq] at h
  exact h

/-- The sampling reference runs host operations and a counted loop, and declares no semaphore. -/
theorem frame_sampleRefIdeal : Cert.quiescent_SampleRefIdeal := fun m ρ _ =>
  (θ_run (Cert.SampleRefIdeal.defs (F := Ideal)) _ _).mono
    (fun r hr => ⟨fun c => (hr c).2, sem_eq_zero_of_no_sems (by decide) r.2⟩) (SampleRef.run m ρ)

/-- Both end with the coordinates of the points that farthest point sampling chooses. -/
theorem algebraic_sample : Cert.algebraic_SampleIdeal_SampleRefIdeal := fun m ρ m' ρ' _ hm => by
  refine ⟨fun c => SampleKernel.sampled (SampleKernel.clouds (m ((c.tc : Thread Cert.SampleIdeal.nD Cert.SampleIdeal.τ).loc Cert.SampleIdeal.main_arg0))),
    (θ_run (Cert.SampleIdeal.defs (F := Ideal)) _ _).mono (fun _ hr c => ⟨(hr c).1.trans (SampleKernel.final_eq m c), (hr c).2⟩)
      (Cert.SampleIdeal.Value.run_blocks (F := Ideal) m ρ), ?_⟩
  refine (θ_run (Cert.SampleRefIdeal.defs (F := Ideal)) _ _).mono (fun _ hr c => ⟨(hr c).1.trans ?_, (hr c).2⟩) (SampleRef.run m' ρ')
  rw [hm c]
  rfl

/-! ## The neighbour search -/

instance hN : Cert.Search.Facts := Cert.Search.Gen.facts
instance hNI : Cert.SearchIdeal.Facts := Cert.SearchIdeal.Gen.facts
instance hNR : Cert.SearchRefIdeal.Facts := Cert.SearchRefIdeal.Gen.facts
instance hFinitePoints : Cert.Pre_finite_points.Facts := Cert.Pre_finite_points.Gen.facts

/-- The ideal program of the search runs and keeps its arguments. -/
theorem frame_searchIdeal : Cert.quiescent_SearchIdeal := fun m ρ _ => Cert.SearchIdeal.Gen.frame (F := Ideal) m ρ

/-- The search runs over the machine's floats and keeps its arguments. -/
theorem frame_search : Cert.quiescent_Search := fun m ρ _ => Cert.Search.Gen.frame (F := Bits) m ρ

/-- The plain statement of the search runs host operations only and declares no semaphore. -/
theorem frame_searchRefIdeal : Cert.quiescent_SearchRefIdeal := fun m ρ _ =>
  (θ_run (Cert.SearchRefIdeal.defs (F := Ideal)) _ _).mono
    (fun r hr => ⟨fun c => (hr c).2, sem_eq_zero_of_no_sems (by decide) r.2⟩) (Cert.SearchRefIdeal.Value.run (F := Ideal) m ρ)

/-- From finite points both end with the numbers of the 32 nearest points, the nearest first. -/
theorem algebraic_search : Cert.algebraic_SearchIdeal_SearchRefIdeal := fun m ρ m' ρ' h hm => by
  refine ⟨fun c => SearchRef.result (m ((c.tc : Thread Cert.SearchIdeal.nD Cert.SearchIdeal.τ).loc Cert.SearchIdeal.main_arg0))
      (m ((c.tc : Thread Cert.SearchIdeal.nD Cert.SearchIdeal.τ).loc Cert.SearchIdeal.main_arg1)),
    (θ_run (Cert.SearchIdeal.defs (F := Ideal)) _ _).mono (fun _ hr c => ⟨?_, (hr c).2⟩)
      (Cert.SearchIdeal.Value.run_blocks (F := Ideal) m ρ), ?_⟩
  · refine (hr c).1.trans ?_
    funext j
    obtain ⟨b, s, k, rfl⟩ : ∃ (b : Fin 8) (s : Fin 512) (k : Fin 32), j = ix3 b s k :=
      ⟨j 0, j 1, j 2, by funext a; match a with | ⟨0, _⟩ => rfl | ⟨1, _⟩ => rfl | ⟨2, _⟩ => rfl⟩
    exact (SearchKernel.final_eq m c b s k).trans (SearchRef.result_apply _ _ (SearchRef.keys_lt _ _ (h c)) b s k).symm
  · refine (θ_run (Cert.SearchRefIdeal.defs (F := Ideal)) _ _).mono (fun _ hr c => ⟨?_, (hr c).2⟩)
      (Cert.SearchRefIdeal.Value.run (F := Ideal) m' ρ')
    refine (hr c).1.trans ?_
    obtain ⟨h0, h1⟩ := hm c
    rw [h0, h1]
    rfl

/-! ## The layers -/

instance hL : Cert.Layers.Facts := Cert.Layers.Gen.facts
instance hLI : Cert.LayersIdeal.Facts := Cert.LayersIdeal.Gen.facts
instance hLR : Cert.LayersRefIdeal.Facts := Cert.LayersRefIdeal.Gen.facts
instance hFinite : Cert.Pre_finite.Facts := Cert.Pre_finite.Gen.facts

/-- The ideal program of the layers runs and keeps its arguments. -/
theorem frame_layersIdeal : Cert.quiescent_LayersIdeal := fun m ρ _ => Cert.LayersIdeal.Gen.frame (F := Ideal) m ρ

/-- The layers run over the machine's floats and keep their arguments. -/
theorem frame_layers : Cert.quiescent_Layers := fun m ρ _ => Cert.Layers.Gen.frame (F := Bits) m ρ

/-- The plain statement of the layers runs host operations only and declares no semaphore. -/
theorem frame_layersRefIdeal : Cert.quiescent_LayersRefIdeal := fun m ρ _ =>
  (θ_run (Cert.LayersRefIdeal.defs (F := Ideal)) _ _).mono
    (fun r hr => ⟨fun c => (hr c).2, sem_eq_zero_of_no_sems (by decide) r.2⟩) (Cert.LayersRefIdeal.Value.run (F := Ideal) m ρ)

/-- From finite arguments both end with what the three layers give every row. -/
theorem algebraic_layers : Cert.algebraic_LayersIdeal_LayersRefIdeal := fun m ρ m' ρ' h hm => by
  refine ⟨fun c => Cert.LayersIdeal.Gen.W9 m ρ c (Proc.devRef .tc Cert.LayersIdeal.main_v21), ?_, ?_⟩
  · exact θ_run_mono (θ_run_and (LayersRun.run (F := Ideal) m ρ) (Cert.LayersIdeal.Gen.unchanged (F := Ideal) m ρ)) fun r hr c => ⟨hr.1 c, hr.2 c⟩
  · refine (θ_run (Cert.LayersRefIdeal.defs (F := Ideal)) _ _).mono (fun _ hr c => ⟨?_, (hr c).2⟩) (Cert.LayersRefIdeal.Value.run (F := Ideal) m' ρ')
    refine (hr c).1.trans ?_
    obtain ⟨x, p, w, hw⟩ := LayersPre.reads_of_pre _ _ _ _ _ _ _ _ _ _ _ _ _ _ (h c)
    have hw' : LayersRef.Args (StableHlo.launchContents m' c) x p w := by
      obtain ⟨e0, e1, e2, e3, e4, e5, e6, e7, e8, e9, e10, e11, e12, e13⟩ := hm c
      rw [← e0, ← e1, ← e2, ← e3, ← e4, ← e5, ← e6, ← e7, ← e8, ← e9, ← e10, ← e11, ← e12, ← e13] at hw
      exact hw
    funext j
    obtain ⟨b, o, k, s, rfl⟩ : ∃ (b : Fin 8) (o : Fin 128) (k : Fin 32) (s : Fin 512), j = ix4 b o k s :=
      ⟨j 0, j 1, j 2, j 3, by funext a; match a with | ⟨0, _⟩ => rfl | ⟨1, _⟩ => rfl | ⟨2, _⟩ => rfl | ⟨3, _⟩ => rfl⟩
    exact (LayersRef.result_apply hw' b o k s).trans (LayersRun.result_apply m ρ c hw b o k s).symm

/-- The twenty-five claims. -/
theorem claim : Cert.Claim := ⟨Cert.Kernel.Gen.facts, Cert.KernelIdeal.Gen.facts, Cert.ReferenceIdeal.Gen.facts,
  Cert.Sample.Gen.facts, Cert.SampleIdeal.Gen.facts, Cert.SampleRefIdeal.Gen.facts,
  Cert.Search.Gen.facts, Cert.SearchIdeal.Gen.facts, Cert.SearchRefIdeal.Gen.facts,
  Cert.Layers.Gen.facts, Cert.LayersIdeal.Gen.facts, Cert.LayersRefIdeal.Gen.facts,
  Cert.Group.Gen.facts, Cert.GroupIdeal.Gen.facts, Cert.GroupRefIdeal.Gen.facts,
  Cert.Pre_in_range.Gen.facts, Cert.Pre_finite_points.Gen.facts, Cert.Pre_finite.Gen.facts, Cert.Pre_finite_group.Gen.facts,
  frame_kernel, frame_kernelIdeal, frame_referenceIdeal, frame_sample, frame_sampleIdeal, frame_sampleRefIdeal,
  frame_search, frame_searchIdeal, frame_searchRefIdeal, frame_layers, frame_layersIdeal, frame_layersRefIdeal,
  frame_group, frame_groupIdeal, frame_groupRefIdeal,
  trivial, algebraic, trivial, algebraic_sample, trivial, algebraic_search, trivial, algebraic_layers, trivial, algebraic_group⟩

end Cert.Proof

end
